-- ==== Defs.lean ====
def Pre_LnBwd (m : (ℓ : Loc Cert.LnBwd.nD Cert.LnBwd.τ Cert.LnBwd.sig) → Buf (Elt Bits) ℓ) : Prop :=
  True

def Pre_LnBwdIdeal (m : (ℓ : Loc Cert.LnBwdIdeal.nD Cert.LnBwdIdeal.τ Cert.LnBwdIdeal.sig) → Buf (Elt Ideal) ℓ) : Prop :=
  True

def Pre_LnBwdIdeal_ln_finite [hPre_ln_finite : Cert.Pre_ln_finite.Facts] (m : (ℓ : Loc Cert.LnBwdIdeal.nD Cert.LnBwdIdeal.τ Cert.LnBwdIdeal.sig) → Buf (Elt Ideal) ℓ) : Prop :=
  ∀ c : Dev Cert.LnBwdIdeal.nD,
    (Cert.Pre_ln_finite.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3)) (m ((c.tc : Thread Cert.LnBwdIdeal.nD Cert.LnBwdIdeal.τ).loc Cert.LnBwdIdeal.main_arg4)) (m ((c.tc : Thread Cert.LnBwdIdeal.nD Cert.LnBwdIdeal.τ).loc Cert.LnBwdIdeal.main_arg5))) = (fun _ => 1#1)

def Pre_LnGradIdeal (m : (ℓ : Loc Cert.LnGradIdeal.nD Cert.LnGradIdeal.τ Cert.LnGradIdeal.sig) → Buf (Elt Ideal) ℓ) : Prop :=
  True

def Pre_LnGradIdeal_ln_finite [hPre_ln_finite : Cert.Pre_ln_finite.Facts] (m : (ℓ : Loc Cert.LnGradIdeal.nD Cert.LnGradIdeal.τ Cert.LnGradIdeal.sig) → Buf (Elt Ideal) ℓ) : Prop :=
  ∀ c : Dev Cert.LnGradIdeal.nD,
    (Cert.Pre_ln_finite.fn (F := Ideal) (m ((c.tc : Thread Cert.LnGradIdeal.nD Cert.LnGradIdeal.τ).loc Cert.LnGradIdeal.main_arg0)) (m ((c.tc : Thread Cert.LnGradIdeal.nD Cert.LnGradIdeal.τ).loc Cert.LnGradIdeal.main_arg1)) (m ((c.tc : Thread Cert.LnGradIdeal.nD Cert.LnGradIdeal.τ).loc Cert.LnGradIdeal.main_arg2)) (m ((c.tc : Thread Cert.LnGradIdeal.nD Cert.LnGradIdeal.τ).loc Cert.LnGradIdeal.main_arg3)) (m ((c.tc : Thread Cert.LnGradIdeal.nD Cert.LnGradIdeal.τ).loc Cert.LnGradIdeal.main_arg4)) (m ((c.tc : Thread Cert.LnGradIdeal.nD Cert.LnGradIdeal.τ).loc Cert.LnGradIdeal.main_arg5))) = (fun _ => 1#1)

def Pre_SbBwd (m : (ℓ : Loc Cert.SbBwd.nD Cert.SbBwd.τ Cert.SbBwd.sig) → Buf (Elt Bits) ℓ) : Prop :=
  True

def Pre_SbBwdIdeal (m : (ℓ : Loc Cert.SbBwdIdeal.nD Cert.SbBwdIdeal.τ Cert.SbBwdIdeal.sig) → Buf (Elt Ideal) ℓ) : Prop :=
  True

def Pre_SbBwdIdeal_sb_finite [hPre_sb_finite : Cert.Pre_sb_finite.Facts] (m : (ℓ : Loc Cert.SbBwdIdeal.nD Cert.SbBwdIdeal.τ Cert.SbBwdIdeal.sig) → Buf (Elt Ideal) ℓ) : Prop :=
  ∀ c : Dev Cert.SbBwdIdeal.nD,
    (Cert.Pre_sb_finite.fn (F := Ideal) (m ((c.tc : Thread Cert.SbBwdIdeal.nD Cert.SbBwdIdeal.τ).loc Cert.SbBwdIdeal.main_arg0)) (m ((c.tc : Thread Cert.SbBwdIdeal.nD Cert.SbBwdIdeal.τ).loc Cert.SbBwdIdeal.main_arg1))) = (fun _ => 1#1)

def Pre_SbGradIdeal (m : (ℓ : Loc Cert.SbGradIdeal.nD Cert.SbGradIdeal.τ Cert.SbGradIdeal.sig) → Buf (Elt Ideal) ℓ) : Prop :=
  True

def Pre_SbGradIdeal_sb_finite [hPre_sb_finite : Cert.Pre_sb_finite.Facts] (m : (ℓ : Loc Cert.SbGradIdeal.nD Cert.SbGradIdeal.τ Cert.SbGradIdeal.sig) → Buf (Elt Ideal) ℓ) : Prop :=
  ∀ c : Dev Cert.SbGradIdeal.nD,
    (Cert.Pre_sb_finite.fn (F := Ideal) (m ((c.tc : Thread Cert.SbGradIdeal.nD Cert.SbGradIdeal.τ).loc Cert.SbGradIdeal.main_arg0)) (m ((c.tc : Thread Cert.SbGradIdeal.nD Cert.SbGradIdeal.τ).loc Cert.SbGradIdeal.main_arg1))) = (fun _ => 1#1)

def Pre_AaBwd (m : (ℓ : Loc Cert.AaBwd.nD Cert.AaBwd.τ Cert.AaBwd.sig) → Buf (Elt Bits) ℓ) : Prop :=
  True

def Pre_AaBwdIdeal (m : (ℓ : Loc Cert.AaBwdIdeal.nD Cert.AaBwdIdeal.τ Cert.AaBwdIdeal.sig) → Buf (Elt Ideal) ℓ) : Prop :=
  True

def Pre_AaBwdIdeal_aa_finite [hPre_aa_finite : Cert.Pre_aa_finite.Facts] (m : (ℓ : Loc Cert.AaBwdIdeal.nD Cert.AaBwdIdeal.τ Cert.AaBwdIdeal.sig) → Buf (Elt Ideal) ℓ) : Prop :=
  ∀ c : Dev Cert.AaBwdIdeal.nD,
    (Cert.Pre_aa_finite.fn (F := Ideal) (m ((c.tc : Thread Cert.AaBwdIdeal.nD Cert.AaBwdIdeal.τ).loc Cert.AaBwdIdeal.main_arg0)) (m ((c.tc : Thread Cert.AaBwdIdeal.nD Cert.AaBwdIdeal.τ).loc Cert.AaBwdIdeal.main_arg1)) (m ((c.tc : Thread Cert.AaBwdIdeal.nD Cert.AaBwdIdeal.τ).loc Cert.AaBwdIdeal.main_arg2))) = (fun _ => 1#1)

def Pre_AaGradIdeal (m : (ℓ : Loc Cert.AaGradIdeal.nD Cert.AaGradIdeal.τ Cert.AaGradIdeal.sig) → Buf (Elt Ideal) ℓ) : Prop :=
  True

def Pre_AaGradIdeal_aa_finite [hPre_aa_finite : Cert.Pre_aa_finite.Facts] (m : (ℓ : Loc Cert.AaGradIdeal.nD Cert.AaGradIdeal.τ Cert.AaGradIdeal.sig) → Buf (Elt Ideal) ℓ) : Prop :=
  ∀ c : Dev Cert.AaGradIdeal.nD,
    (Cert.Pre_aa_finite.fn (F := Ideal) (m ((c.tc : Thread Cert.AaGradIdeal.nD Cert.AaGradIdeal.τ).loc Cert.AaGradIdeal.main_arg0)) (m ((c.tc : Thread Cert.AaGradIdeal.nD Cert.AaGradIdeal.τ).loc Cert.AaGradIdeal.main_arg1)) (m ((c.tc : Thread Cert.AaGradIdeal.nD Cert.AaGradIdeal.τ).loc Cert.AaGradIdeal.main_arg2))) = (fun _ => 1#1)

def Pre_FxBwd (m : (ℓ : Loc Cert.FxBwd.nD Cert.FxBwd.τ Cert.FxBwd.sig) → Buf (Elt Bits) ℓ) : Prop :=
  True

def Pre_FxBwdIdeal (m : (ℓ : Loc Cert.FxBwdIdeal.nD Cert.FxBwdIdeal.τ Cert.FxBwdIdeal.sig) → Buf (Elt Ideal) ℓ) : Prop :=
  True

def Pre_FxBwdIdeal_fx_finite [hPre_fx_finite : Cert.Pre_fx_finite.Facts] (m : (ℓ : Loc Cert.FxBwdIdeal.nD Cert.FxBwdIdeal.τ Cert.FxBwdIdeal.sig) → Buf (Elt Ideal) ℓ) : Prop :=
  ∀ c : Dev Cert.FxBwdIdeal.nD,
    (Cert.Pre_fx_finite.fn (F := Ideal) (m ((c.tc : Thread Cert.FxBwdIdeal.nD Cert.FxBwdIdeal.τ).loc Cert.FxBwdIdeal.main_arg0)) (m ((c.tc : Thread Cert.FxBwdIdeal.nD Cert.FxBwdIdeal.τ).loc Cert.FxBwdIdeal.main_arg1)) (m ((c.tc : Thread Cert.FxBwdIdeal.nD Cert.FxBwdIdeal.τ).loc Cert.FxBwdIdeal.main_arg2)) (m ((c.tc : Thread Cert.FxBwdIdeal.nD Cert.FxBwdIdeal.τ).loc Cert.FxBwdIdeal.main_arg3)) (m ((c.tc : Thread Cert.FxBwdIdeal.nD Cert.FxBwdIdeal.τ).loc Cert.FxBwdIdeal.main_arg4)) (m ((c.tc : Thread Cert.FxBwdIdeal.nD Cert.FxBwdIdeal.τ).loc Cert.FxBwdIdeal.main_arg5)) (m ((c.tc : Thread Cert.FxBwdIdeal.nD Cert.FxBwdIdeal.τ).loc Cert.FxBwdIdeal.main_arg6)) (m ((c.tc : Thread Cert.FxBwdIdeal.nD Cert.FxBwdIdeal.τ).loc Cert.FxBwdIdeal.main_arg7)) (m ((c.tc : Thread Cert.FxBwdIdeal.nD Cert.FxBwdIdeal.τ).loc Cert.FxBwdIdeal.main_arg8)) (m ((c.tc : Thread Cert.FxBwdIdeal.nD Cert.FxBwdIdeal.τ).loc Cert.FxBwdIdeal.main_arg9))) = (fun _ => 1#1)

def Pre_FxGradIdeal (m : (ℓ : Loc Cert.FxGradIdeal.nD Cert.FxGradIdeal.τ Cert.FxGradIdeal.sig) → Buf (Elt Ideal) ℓ) : Prop :=
  True

def Pre_FxGradIdeal_fx_finite [hPre_fx_finite : Cert.Pre_fx_finite.Facts] (m : (ℓ : Loc Cert.FxGradIdeal.nD Cert.FxGradIdeal.τ Cert.FxGradIdeal.sig) → Buf (Elt Ideal) ℓ) : Prop :=
  ∀ c : Dev Cert.FxGradIdeal.nD,
    (Cert.Pre_fx_finite.fn (F := Ideal) (m ((c.tc : Thread Cert.FxGradIdeal.nD Cert.FxGradIdeal.τ).loc Cert.FxGradIdeal.main_arg0)) (m ((c.tc : Thread Cert.FxGradIdeal.nD Cert.FxGradIdeal.τ).loc Cert.FxGradIdeal.main_arg1)) (m ((c.tc : Thread Cert.FxGradIdeal.nD Cert.FxGradIdeal.τ).loc Cert.FxGradIdeal.main_arg2)) (m ((c.tc : Thread Cert.FxGradIdeal.nD Cert.FxGradIdeal.τ).loc Cert.FxGradIdeal.main_arg3)) (m ((c.tc : Thread Cert.FxGradIdeal.nD Cert.FxGradIdeal.τ).loc Cert.FxGradIdeal.main_arg4)) (m ((c.tc : Thread Cert.FxGradIdeal.nD Cert.FxGradIdeal.τ).loc Cert.FxGradIdeal.main_arg5)) (m ((c.tc : Thread Cert.FxGradIdeal.nD Cert.FxGradIdeal.τ).loc Cert.FxGradIdeal.main_arg6)) (m ((c.tc : Thread Cert.FxGradIdeal.nD Cert.FxGradIdeal.τ).loc Cert.FxGradIdeal.main_arg7)) (m ((c.tc : Thread Cert.FxGradIdeal.nD Cert.FxGradIdeal.τ).loc Cert.FxGradIdeal.main_arg8)) (m ((c.tc : Thread Cert.FxGradIdeal.nD Cert.FxGradIdeal.τ).loc Cert.FxGradIdeal.main_arg9))) = (fun _ => 1#1)

def Pre_QxBwd (m : (ℓ : Loc Cert.QxBwd.nD Cert.QxBwd.τ Cert.QxBwd.sig) → Buf (Elt Bits) ℓ) : Prop :=
  True

def Pre_QxBwdIdeal (m : (ℓ : Loc Cert.QxBwdIdeal.nD Cert.QxBwdIdeal.τ Cert.QxBwdIdeal.sig) → Buf (Elt Ideal) ℓ) : Prop :=
  True

def Pre_QxBwdIdeal_qx_finite [hPre_qx_finite : Cert.Pre_qx_finite.Facts] (m : (ℓ : Loc Cert.QxBwdIdeal.nD Cert.QxBwdIdeal.τ Cert.QxBwdIdeal.sig) → Buf (Elt Ideal) ℓ) : Prop :=
  ∀ c : Dev Cert.QxBwdIdeal.nD,
    (Cert.Pre_qx_finite.fn (F := Ideal) (m ((c.tc : Thread Cert.QxBwdIdeal.nD Cert.QxBwdIdeal.τ).loc Cert.QxBwdIdeal.main_arg0)) (m ((c.tc : Thread Cert.QxBwdIdeal.nD Cert.QxBwdIdeal.τ).loc Cert.QxBwdIdeal.main_arg1)) (m ((c.tc : Thread Cert.QxBwdIdeal.nD Cert.QxBwdIdeal.τ).loc Cert.QxBwdIdeal.main_arg2)) (m ((c.tc : Thread Cert.QxBwdIdeal.nD Cert.QxBwdIdeal.τ).loc Cert.QxBwdIdeal.main_arg3)) (m ((c.tc : Thread Cert.QxBwdIdeal.nD Cert.QxBwdIdeal.τ).loc Cert.QxBwdIdeal.main_arg4)) (m ((c.tc : Thread Cert.QxBwdIdeal.nD Cert.QxBwdIdeal.τ).loc Cert.QxBwdIdeal.main_arg5)) (m ((c.tc : Thread Cert.QxBwdIdeal.nD Cert.QxBwdIdeal.τ).loc Cert.QxBwdIdeal.main_arg6)) (m ((c.tc : Thread Cert.QxBwdIdeal.nD Cert.QxBwdIdeal.τ).loc Cert.QxBwdIdeal.main_arg7))) = (fun _ => 1#1)

def Pre_QxGradIdeal (m : (ℓ : Loc Cert.QxGradIdeal.nD Cert.QxGradIdeal.τ Cert.QxGradIdeal.sig) → Buf (Elt Ideal) ℓ) : Prop :=
  True

def Pre_QxGradIdeal_qx_finite [hPre_qx_finite : Cert.Pre_qx_finite.Facts] (m : (ℓ : Loc Cert.QxGradIdeal.nD Cert.QxGradIdeal.τ Cert.QxGradIdeal.sig) → Buf (Elt Ideal) ℓ) : Prop :=
  ∀ c : Dev Cert.QxGradIdeal.nD,
    (Cert.Pre_qx_finite.fn (F := Ideal) (m ((c.tc : Thread Cert.QxGradIdeal.nD Cert.QxGradIdeal.τ).loc Cert.QxGradIdeal.main_arg0)) (m ((c.tc : Thread Cert.QxGradIdeal.nD Cert.QxGradIdeal.τ).loc Cert.QxGradIdeal.main_arg1)) (m ((c.tc : Thread Cert.QxGradIdeal.nD Cert.QxGradIdeal.τ).loc Cert.QxGradIdeal.main_arg2)) (m ((c.tc : Thread Cert.QxGradIdeal.nD Cert.QxGradIdeal.τ).loc Cert.QxGradIdeal.main_arg3)) (m ((c.tc : Thread Cert.QxGradIdeal.nD Cert.QxGradIdeal.τ).loc Cert.QxGradIdeal.main_arg4)) (m ((c.tc : Thread Cert.QxGradIdeal.nD Cert.QxGradIdeal.τ).loc Cert.QxGradIdeal.main_arg5)) (m ((c.tc : Thread Cert.QxGradIdeal.nD Cert.QxGradIdeal.τ).loc Cert.QxGradIdeal.main_arg6)) (m ((c.tc : Thread Cert.QxGradIdeal.nD Cert.QxGradIdeal.τ).loc Cert.QxGradIdeal.main_arg7))) = (fun _ => 1#1)

def Pre_FbBwd (m : (ℓ : Loc Cert.FbBwd.nD Cert.FbBwd.τ Cert.FbBwd.sig) → Buf (Elt Bits) ℓ) : Prop :=
  True

def Pre_FbBwdIdeal (m : (ℓ : Loc Cert.FbBwdIdeal.nD Cert.FbBwdIdeal.τ Cert.FbBwdIdeal.sig) → Buf (Elt Ideal) ℓ) : Prop :=
  True

def Pre_FbBwdIdeal_fb_finite [hPre_fb_finite : Cert.Pre_fb_finite.Facts] (m : (ℓ : Loc Cert.FbBwdIdeal.nD Cert.FbBwdIdeal.τ Cert.FbBwdIdeal.sig) → Buf (Elt Ideal) ℓ) : Prop :=
  ∀ c : Dev Cert.FbBwdIdeal.nD,
    (Cert.Pre_fb_finite.fn (F := Ideal) (m ((c.tc : Thread Cert.FbBwdIdeal.nD Cert.FbBwdIdeal.τ).loc Cert.FbBwdIdeal.main_arg0)) (m ((c.tc : Thread Cert.FbBwdIdeal.nD Cert.FbBwdIdeal.τ).loc Cert.FbBwdIdeal.main_arg1)) (m ((c.tc : Thread Cert.FbBwdIdeal.nD Cert.FbBwdIdeal.τ).loc Cert.FbBwdIdeal.main_arg2)) (m ((c.tc : Thread Cert.FbBwdIdeal.nD Cert.FbBwdIdeal.τ).loc Cert.FbBwdIdeal.main_arg3)) (m ((c.tc : Thread Cert.FbBwdIdeal.nD Cert.FbBwdIdeal.τ).loc Cert.FbBwdIdeal.main_arg4)) (m ((c.tc : Thread Cert.FbBwdIdeal.nD Cert.FbBwdIdeal.τ).loc Cert.FbBwdIdeal.main_arg5)) (m ((c.tc : Thread Cert.FbBwdIdeal.nD Cert.FbBwdIdeal.τ).loc Cert.FbBwdIdeal.main_arg6)) (m ((c.tc : Thread Cert.FbBwdIdeal.nD Cert.FbBwdIdeal.τ).loc Cert.FbBwdIdeal.main_arg7))) = (fun _ => 1#1)

def Pre_FbGradIdeal (m : (ℓ : Loc Cert.FbGradIdeal.nD Cert.FbGradIdeal.τ Cert.FbGradIdeal.sig) → Buf (Elt Ideal) ℓ) : Prop :=
  True

def Pre_FbGradIdeal_fb_finite [hPre_fb_finite : Cert.Pre_fb_finite.Facts] (m : (ℓ : Loc Cert.FbGradIdeal.nD Cert.FbGradIdeal.τ Cert.FbGradIdeal.sig) → Buf (Elt Ideal) ℓ) : Prop :=
  ∀ c : Dev Cert.FbGradIdeal.nD,
    (Cert.Pre_fb_finite.fn (F := Ideal) (m ((c.tc : Thread Cert.FbGradIdeal.nD Cert.FbGradIdeal.τ).loc Cert.FbGradIdeal.main_arg0)) (m ((c.tc : Thread Cert.FbGradIdeal.nD Cert.FbGradIdeal.τ).loc Cert.FbGradIdeal.main_arg1)) (m ((c.tc : Thread Cert.FbGradIdeal.nD Cert.FbGradIdeal.τ).loc Cert.FbGradIdeal.main_arg2)) (m ((c.tc : Thread Cert.FbGradIdeal.nD Cert.FbGradIdeal.τ).loc Cert.FbGradIdeal.main_arg3)) (m ((c.tc : Thread Cert.FbGradIdeal.nD Cert.FbGradIdeal.τ).loc Cert.FbGradIdeal.main_arg4)) (m ((c.tc : Thread Cert.FbGradIdeal.nD Cert.FbGradIdeal.τ).loc Cert.FbGradIdeal.main_arg5)) (m ((c.tc : Thread Cert.FbGradIdeal.nD Cert.FbGradIdeal.τ).loc Cert.FbGradIdeal.main_arg6)) (m ((c.tc : Thread Cert.FbGradIdeal.nD Cert.FbGradIdeal.τ).loc Cert.FbGradIdeal.main_arg7))) = (fun _ => 1#1)

def Pre_LhBwd (m : (ℓ : Loc Cert.LhBwd.nD Cert.LhBwd.τ Cert.LhBwd.sig) → Buf (Elt Bits) ℓ) : Prop :=
  True

def Pre_LhBwdIdeal (m : (ℓ : Loc Cert.LhBwdIdeal.nD Cert.LhBwdIdeal.τ Cert.LhBwdIdeal.sig) → Buf (Elt Ideal) ℓ) : Prop :=
  True

def Pre_LhGradIdeal (m : (ℓ : Loc Cert.LhGradIdeal.nD Cert.LhGradIdeal.τ Cert.LhGradIdeal.sig) → Buf (Elt Ideal) ℓ) : Prop :=
  True

def Pre_BvBwd (m : (ℓ : Loc Cert.BvBwd.nD Cert.BvBwd.τ Cert.BvBwd.sig) → Buf (Elt Bits) ℓ) : Prop :=
  True

def Pre_BvBwdIdeal (m : (ℓ : Loc Cert.BvBwdIdeal.nD Cert.BvBwdIdeal.τ Cert.BvBwdIdeal.sig) → Buf (Elt Ideal) ℓ) : Prop :=
  True

def Pre_BvGradIdeal (m : (ℓ : Loc Cert.BvGradIdeal.nD Cert.BvGradIdeal.τ Cert.BvGradIdeal.sig) → Buf (Elt Ideal) ℓ) : Prop :=
  True

def Pre_AfFwd (m : (ℓ : Loc Cert.AfFwd.nD Cert.AfFwd.τ Cert.AfFwd.sig) → Buf (Elt Bits) ℓ) : Prop :=
  True

def Pre_AfFwdIdeal (m : (ℓ : Loc Cert.AfFwdIdeal.nD Cert.AfFwdIdeal.τ Cert.AfFwdIdeal.sig) → Buf (Elt Ideal) ℓ) : Prop :=
  True

def Pre_AfFwdIdeal_af_finite [hPre_af_finite : Cert.Pre_af_finite.Facts] (m : (ℓ : Loc Cert.AfFwdIdeal.nD Cert.AfFwdIdeal.τ Cert.AfFwdIdeal.sig) → Buf (Elt Ideal) ℓ) : Prop :=
  ∀ c : Dev Cert.AfFwdIdeal.nD,
    (Cert.Pre_af_finite.fn (F := Ideal) (m ((c.tc : Thread Cert.AfFwdIdeal.nD Cert.AfFwdIdeal.τ).loc Cert.AfFwdIdeal.main_arg0)) (m ((c.tc : Thread Cert.AfFwdIdeal.nD Cert.AfFwdIdeal.τ).loc Cert.AfFwdIdeal.main_arg1))) = (fun _ => 1#1)

def Pre_AfFormIdeal (m : (ℓ : Loc Cert.AfFormIdeal.nD Cert.AfFormIdeal.τ Cert.AfFormIdeal.sig) → Buf (Elt Ideal) ℓ) : Prop :=
  True

def Pre_AfFormIdeal_af_finite [hPre_af_finite : Cert.Pre_af_finite.Facts] (m : (ℓ : Loc Cert.AfFormIdeal.nD Cert.AfFormIdeal.τ Cert.AfFormIdeal.sig) → Buf (Elt Ideal) ℓ) : Prop :=
  ∀ c : Dev Cert.AfFormIdeal.nD,
    (Cert.Pre_af_finite.fn (F := Ideal) (m ((c.tc : Thread Cert.AfFormIdeal.nD Cert.AfFormIdeal.τ).loc Cert.AfFormIdeal.main_arg0)) (m ((c.tc : Thread Cert.AfFormIdeal.nD Cert.AfFormIdeal.τ).loc Cert.AfFormIdeal.main_arg1))) = (fun _ => 1#1)

def Pre_SfFwd (m : (ℓ : Loc Cert.SfFwd.nD Cert.SfFwd.τ Cert.SfFwd.sig) → Buf (Elt Bits) ℓ) : Prop :=
  True

def Pre_SfFwdIdeal (m : (ℓ : Loc Cert.SfFwdIdeal.nD Cert.SfFwdIdeal.τ Cert.SfFwdIdeal.sig) → Buf (Elt Ideal) ℓ) : Prop :=
  True

def Pre_SfFwdIdeal_sf_finite [hPre_sf_finite : Cert.Pre_sf_finite.Facts] (m : (ℓ : Loc Cert.SfFwdIdeal.nD Cert.SfFwdIdeal.τ Cert.SfFwdIdeal.sig) → Buf (Elt Ideal) ℓ) : Prop :=
  ∀ c : Dev Cert.SfFwdIdeal.nD,
    (Cert.Pre_sf_finite.fn (F := Ideal) (m ((c.tc : Thread Cert.SfFwdIdeal.nD Cert.SfFwdIdeal.τ).loc Cert.SfFwdIdeal.main_arg0))) = (fun _ => 1#1)

def Pre_SfFormIdeal (m : (ℓ : Loc Cert.SfFormIdeal.nD Cert.SfFormIdeal.τ Cert.SfFormIdeal.sig) → Buf (Elt Ideal) ℓ) : Prop :=
  True

def Pre_SfFormIdeal_sf_finite [hPre_sf_finite : Cert.Pre_sf_finite.Facts] (m : (ℓ : Loc Cert.SfFormIdeal.nD Cert.SfFormIdeal.τ Cert.SfFormIdeal.sig) → Buf (Elt Ideal) ℓ) : Prop :=
  ∀ c : Dev Cert.SfFormIdeal.nD,
    (Cert.Pre_sf_finite.fn (F := Ideal) (m ((c.tc : Thread Cert.SfFormIdeal.nD Cert.SfFormIdeal.τ).loc Cert.SfFormIdeal.main_arg0))) = (fun _ => 1#1)

def Pre_MlFwd (m : (ℓ : Loc Cert.MlFwd.nD Cert.MlFwd.τ Cert.MlFwd.sig) → Buf (Elt Bits) ℓ) : Prop :=
  True

def Pre_MlFwdIdeal (m : (ℓ : Loc Cert.MlFwdIdeal.nD Cert.MlFwdIdeal.τ Cert.MlFwdIdeal.sig) → Buf (Elt Ideal) ℓ) : Prop :=
  True

def Pre_MlFormIdeal (m : (ℓ : Loc Cert.MlFormIdeal.nD Cert.MlFormIdeal.τ Cert.MlFormIdeal.sig) → Buf (Elt Ideal) ℓ) : Prop :=
  True

def Pre_FuFwd (m : (ℓ : Loc Cert.FuFwd.nD Cert.FuFwd.τ Cert.FuFwd.sig) → Buf (Elt Bits) ℓ) : Prop :=
  True

def Pre_FuFwdIdeal (m : (ℓ : Loc Cert.FuFwdIdeal.nD Cert.FuFwdIdeal.τ Cert.FuFwdIdeal.sig) → Buf (Elt Ideal) ℓ) : Prop :=
  True

def Pre_FuFormIdeal (m : (ℓ : Loc Cert.FuFormIdeal.nD Cert.FuFormIdeal.τ Cert.FuFormIdeal.sig) → Buf (Elt Ideal) ℓ) : Prop :=
  True

def Pre_BwFwd (m : (ℓ : Loc Cert.BwFwd.nD Cert.BwFwd.τ Cert.BwFwd.sig) → Buf (Elt Bits) ℓ) : Prop :=
  True

def Pre_BwFwdIdeal (m : (ℓ : Loc Cert.BwFwdIdeal.nD Cert.BwFwdIdeal.τ Cert.BwFwdIdeal.sig) → Buf (Elt Ideal) ℓ) : Prop :=
  True

def Pre_BwFormIdeal (m : (ℓ : Loc Cert.BwFormIdeal.nD Cert.BwFormIdeal.τ Cert.BwFormIdeal.sig) → Buf (Elt Ideal) ℓ) : Prop :=
  True

def Pre_PxSwap (m : (ℓ : Loc Cert.PxSwap.nD Cert.PxSwap.τ Cert.PxSwap.sig) → Buf (Elt Bits) ℓ) : Prop :=
  True

def Pre_PxSwapIdeal (m : (ℓ : Loc Cert.PxSwapIdeal.nD Cert.PxSwapIdeal.τ Cert.PxSwapIdeal.sig) → Buf (Elt Ideal) ℓ) : Prop :=
  True

def Pre_PxHalvesIdeal (m : (ℓ : Loc Cert.PxHalvesIdeal.nD Cert.PxHalvesIdeal.τ Cert.PxHalvesIdeal.sig) → Buf (Elt Ideal) ℓ) : Prop :=
  True

def quiescent_LnBwd [hLnBwd : Cert.LnBwd.Facts] : Prop :=
  ∀ (m : (ℓ : Loc Cert.LnBwd.nD Cert.LnBwd.τ Cert.LnBwd.sig) → Buf (Elt Bits) ℓ) (g : Dev Cert.LnBwd.nD → PrngReg), Pre_LnBwd m →
    θ_run (Cert.LnBwd.defs (F := Bits)) (onTc (τ := Cert.LnBwd.τ) (Cert.LnBwd.main (F := Bits))) ⟨m, fun _ => 0, g⟩ (fun r => (∀ c : Dev Cert.LnBwd.nD,
      r.2.mem ((c.tc : Thread Cert.LnBwd.nD Cert.LnBwd.τ).loc Cert.LnBwd.main_arg0) = m ((c.tc : Thread Cert.LnBwd.nD Cert.LnBwd.τ).loc Cert.LnBwd.main_arg0)
      ∧ r.2.mem ((c.tc : Thread Cert.LnBwd.nD Cert.LnBwd.τ).loc Cert.LnBwd.main_arg1) = m ((c.tc : Thread Cert.LnBwd.nD Cert.LnBwd.τ).loc Cert.LnBwd.main_arg1)
      ∧ r.2.mem ((c.tc : Thread Cert.LnBwd.nD Cert.LnBwd.τ).loc Cert.LnBwd.main_arg2) = m ((c.tc : Thread Cert.LnBwd.nD Cert.LnBwd.τ).loc Cert.LnBwd.main_arg2)
      ∧ r.2.mem ((c.tc : Thread Cert.LnBwd.nD Cert.LnBwd.τ).loc Cert.LnBwd.main_arg3) = m ((c.tc : Thread Cert.LnBwd.nD Cert.LnBwd.τ).loc Cert.LnBwd.main_arg3)
      ∧ r.2.mem ((c.tc : Thread Cert.LnBwd.nD Cert.LnBwd.τ).loc Cert.LnBwd.main_arg4) = m ((c.tc : Thread Cert.LnBwd.nD Cert.LnBwd.τ).loc Cert.LnBwd.main_arg4)
      ∧ r.2.mem ((c.tc : Thread Cert.LnBwd.nD Cert.LnBwd.τ).loc Cert.LnBwd.main_arg5) = m ((c.tc : Thread Cert.LnBwd.nD Cert.LnBwd.τ).loc Cert.LnBwd.main_arg5))
      ∧ r.2.sem = fun _ => 0)

def quiescent_LnBwdIdeal [hLnBwdIdeal : Cert.LnBwdIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3)
      ∧ r.2.mem ((c.tc : Thread Cert.LnBwdIdeal.nD Cert.LnBwdIdeal.τ).loc Cert.LnBwdIdeal.main_arg4) = m ((c.tc : Thread Cert.LnBwdIdeal.nD Cert.LnBwdIdeal.τ).loc Cert.LnBwdIdeal.main_arg4)
      ∧ r.2.mem ((c.tc : Thread Cert.LnBwdIdeal.nD Cert.LnBwdIdeal.τ).loc Cert.LnBwdIdeal.main_arg5) = m ((c.tc : Thread Cert.LnBwdIdeal.nD Cert.LnBwdIdeal.τ).loc Cert.LnBwdIdeal.main_arg5))
      ∧ r.2.sem = fun _ => 0)

def quiescent_LnBwdIdeal_pre_ln_finite [hLnBwdIdeal : Cert.LnBwdIdeal.Facts] [hPre_ln_finite : Cert.Pre_ln_finite.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal_ln_finite m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3)
      ∧ r.2.mem ((c.tc : Thread Cert.LnBwdIdeal.nD Cert.LnBwdIdeal.τ).loc Cert.LnBwdIdeal.main_arg4) = m ((c.tc : Thread Cert.LnBwdIdeal.nD Cert.LnBwdIdeal.τ).loc Cert.LnBwdIdeal.main_arg4)
      ∧ r.2.mem ((c.tc : Thread Cert.LnBwdIdeal.nD Cert.LnBwdIdeal.τ).loc Cert.LnBwdIdeal.main_arg5) = m ((c.tc : Thread Cert.LnBwdIdeal.nD Cert.LnBwdIdeal.τ).loc Cert.LnBwdIdeal.main_arg5))
      ∧ r.2.sem = fun _ => 0)

def quiescent_LnGradIdeal [hLnGradIdeal : Cert.LnGradIdeal.Facts] : Prop :=
  ∀ (m : (ℓ : Loc Cert.LnGradIdeal.nD Cert.LnGradIdeal.τ Cert.LnGradIdeal.sig) → Buf (Elt Ideal) ℓ) (g : Dev Cert.LnGradIdeal.nD → PrngReg), Pre_LnGradIdeal m →
    θ_run (Cert.LnGradIdeal.defs (F := Ideal)) (onTc (τ := Cert.LnGradIdeal.τ) (Cert.LnGradIdeal.main (F := Ideal))) ⟨m, fun _ => 0, g⟩ (fun r => (∀ c : Dev Cert.LnGradIdeal.nD,
      r.2.mem ((c.tc : Thread Cert.LnGradIdeal.nD Cert.LnGradIdeal.τ).loc Cert.LnGradIdeal.main_arg0) = m ((c.tc : Thread Cert.LnGradIdeal.nD Cert.LnGradIdeal.τ).loc Cert.LnGradIdeal.main_arg0)
      ∧ r.2.mem ((c.tc : Thread Cert.LnGradIdeal.nD Cert.LnGradIdeal.τ).loc Cert.LnGradIdeal.main_arg1) = m ((c.tc : Thread Cert.LnGradIdeal.nD Cert.LnGradIdeal.τ).loc Cert.LnGradIdeal.main_arg1)
      ∧ r.2.mem ((c.tc : Thread Cert.LnGradIdeal.nD Cert.LnGradIdeal.τ).loc Cert.LnGradIdeal.main_arg2) = m ((c.tc : Thread Cert.LnGradIdeal.nD Cert.LnGradIdeal.τ).loc Cert.LnGradIdeal.main_arg2)
      ∧ r.2.mem ((c.tc : Thread Cert.LnGradIdeal.nD Cert.LnGradIdeal.τ).loc Cert.LnGradIdeal.main_arg3) = m ((c.tc : Thread Cert.LnGradIdeal.nD Cert.LnGradIdeal.τ).loc Cert.LnGradIdeal.main_arg3)
      ∧ r.2.mem ((c.tc : Thread Cert.LnGradIdeal.nD Cert.LnGradIdeal.τ).loc Cert.LnGradIdeal.main_arg4) = m ((c.tc : Thread Cert.LnGradIdeal.nD Cert.LnGradIdeal.τ).loc Cert.LnGradIdeal.main_arg4)
      ∧ r.2.mem ((c.tc : Thread Cert.LnGradIdeal.nD Cert.LnGradIdeal.τ).loc Cert.LnGradIdeal.main_arg5) = m ((c.tc : Thread Cert.LnGradIdeal.nD Cert.LnGradIdeal.τ).loc Cert.LnGradIdeal.main_arg5))
      ∧ r.2.sem = fun _ => 0)

def quiescent_LnGradIdeal_pre_ln_finite [hLnGradIdeal : Cert.LnGradIdeal.Facts] [hPre_ln_finite : Cert.Pre_ln_finite.Facts] : Prop :=
  ∀ (m : (ℓ : Loc Cert.LnGradIdeal.nD Cert.LnGradIdeal.τ Cert.LnGradIdeal.sig) → Buf (Elt Ideal) ℓ) (g : Dev Cert.LnGradIdeal.nD → PrngReg), Pre_LnGradIdeal_ln_finite m →
    θ_run (Cert.LnGradIdeal.defs (F := Ideal)) (onTc (τ := Cert.LnGradIdeal.τ) (Cert.LnGradIdeal.main (F := Ideal))) ⟨m, fun _ => 0, g⟩ (fun r => (∀ c : Dev Cert.LnGradIdeal.nD,
      r.2.mem ((c.tc : Thread Cert.LnGradIdeal.nD Cert.LnGradIdeal.τ).loc Cert.LnGradIdeal.main_arg0) = m ((c.tc : Thread Cert.LnGradIdeal.nD Cert.LnGradIdeal.τ).loc Cert.LnGradIdeal.main_arg0)
      ∧ r.2.mem ((c.tc : Thread Cert.LnGradIdeal.nD Cert.LnGradIdeal.τ).loc Cert.LnGradIdeal.main_arg1) = m ((c.tc : Thread Cert.LnGradIdeal.nD Cert.LnGradIdeal.τ).loc Cert.LnGradIdeal.main_arg1)
      ∧ r.2.mem ((c.tc : Thread Cert.LnGradIdeal.nD Cert.LnGradIdeal.τ).loc Cert.LnGradIdeal.main_arg2) = m ((c.tc : Thread Cert.LnGradIdeal.nD Cert.LnGradIdeal.τ).loc Cert.LnGradIdeal.main_arg2)
      ∧ r.2.mem ((c.tc : Thread Cert.LnGradIdeal.nD Cert.LnGradIdeal.τ).loc Cert.LnGradIdeal.main_arg3) = m ((c.tc : Thread Cert.LnGradIdeal.nD Cert.LnGradIdeal.τ).loc Cert.LnGradIdeal.main_arg3)
      ∧ r.2.mem ((c.tc : Thread Cert.LnGradIdeal.nD Cert.LnGradIdeal.τ).loc Cert.LnGradIdeal.main_arg4) = m ((c.tc : Thread Cert.LnGradIdeal.nD Cert.LnGradIdeal.τ).loc Cert.LnGradIdeal.main_arg4)
      ∧ r.2.mem ((c.tc : Thread Cert.LnGradIdeal.nD Cert.LnGradIdeal.τ).loc Cert.LnGradIdeal.main_arg5) = m ((c.tc : Thread Cert.LnGradIdeal.nD Cert.LnGradIdeal.τ).loc Cert.LnGradIdeal.main_arg5))
      ∧ r.2.sem = fun _ => 0)

def quiescent_SbBwd [hSbBwd : Cert.SbBwd.Facts] : Prop :=
  ∀ (m : (ℓ : Loc Cert.SbBwd.nD Cert.SbBwd.τ Cert.SbBwd.sig) → Buf (Elt Bits) ℓ) (g : Dev Cert.SbBwd.nD → PrngReg), Pre_SbBwd m →
    θ_run (Cert.SbBwd.defs (F := Bits)) (onTc (τ := Cert.SbBwd.τ) (Cert.SbBwd.main (F := Bits))) ⟨m, fun _ => 0, g⟩ (fun r => (∀ c : Dev Cert.SbBwd.nD,
      r.2.mem ((c.tc : Thread Cert.SbBwd.nD Cert.SbBwd.τ).loc Cert.SbBwd.main_arg0) = m ((c.tc : Thread Cert.SbBwd.nD Cert.SbBwd.τ).loc Cert.SbBwd.main_arg0)
      ∧ r.2.mem ((c.tc : Thread Cert.SbBwd.nD Cert.SbBwd.τ).loc Cert.SbBwd.main_arg1) = m ((c.tc : Thread Cert.SbBwd.nD Cert.SbBwd.τ).loc Cert.SbBwd.main_arg1))
      ∧ r.2.sem = fun _ => 0)

def quiescent_SbBwdIdeal [hSbBwdIdeal : Cert.SbBwdIdeal.Facts] : Prop :=
  ∀ (m : (ℓ : Loc Cert.SbBwdIdeal.nD Cert.SbBwdIdeal.τ Cert.SbBwdIdeal.sig) → Buf (Elt Ideal) ℓ) (g : Dev Cert.SbBwdIdeal.nD → PrngReg), Pre_SbBwdIdeal m →
    θ_run (Cert.SbBwdIdeal.defs (F := Ideal)) (onTc (τ := Cert.SbBwdIdeal.τ) (Cert.SbBwdIdeal.main (F := Ideal))) ⟨m, fun _ => 0, g⟩ (fun r => (∀ c : Dev Cert.SbBwdIdeal.nD,
      r.2.mem ((c.tc : Thread Cert.SbBwdIdeal.nD Cert.SbBwdIdeal.τ).loc Cert.SbBwdIdeal.main_arg0) = m ((c.tc : Thread Cert.SbBwdIdeal.nD Cert.SbBwdIdeal.τ).loc Cert.SbBwdIdeal.main_arg0)
      ∧ r.2.mem ((c.tc : Thread Cert.SbBwdIdeal.nD Cert.SbBwdIdeal.τ).loc Cert.SbBwdIdeal.main_arg1) = m ((c.tc : Thread Cert.SbBwdIdeal.nD Cert.SbBwdIdeal.τ).loc Cert.SbBwdIdeal.main_arg1))
      ∧ r.2.sem = fun _ => 0)

def quiescent_SbBwdIdeal_pre_sb_finite [hSbBwdIdeal : Cert.SbBwdIdeal.Facts] [hPre_sb_finite : Cert.Pre_sb_finite.Facts] : Prop :=
  ∀ (m : (ℓ : Loc Cert.SbBwdIdeal.nD Cert.SbBwdIdeal.τ Cert.SbBwdIdeal.sig) → Buf (Elt Ideal) ℓ) (g : Dev Cert.SbBwdIdeal.nD → PrngReg), Pre_SbBwdIdeal_sb_finite m →
    θ_run (Cert.SbBwdIdeal.defs (F := Ideal)) (onTc (τ := Cert.SbBwdIdeal.τ) (Cert.SbBwdIdeal.main (F := Ideal))) ⟨m, fun _ => 0, g⟩ (fun r => (∀ c : Dev Cert.SbBwdIdeal.nD,
      r.2.mem ((c.tc : Thread Cert.SbBwdIdeal.nD Cert.SbBwdIdeal.τ).loc Cert.SbBwdIdeal.main_arg0) = m ((c.tc : Thread Cert.SbBwdIdeal.nD Cert.SbBwdIdeal.τ).loc Cert.SbBwdIdeal.main_arg0)
      ∧ r.2.mem ((c.tc : Thread Cert.SbBwdIdeal.nD Cert.SbBwdIdeal.τ).loc Cert.SbBwdIdeal.main_arg1) = m ((c.tc : Thread Cert.SbBwdIdeal.nD Cert.SbBwdIdeal.τ).loc Cert.SbBwdIdeal.main_arg1))
      ∧ r.2.sem = fun _ => 0)

def quiescent_SbGradIdeal [hSbGradIdeal : Cert.SbGradIdeal.Facts] : Prop :=
  ∀ (m : (ℓ : Loc Cert.SbGradIdeal.nD Cert.SbGradIdeal.τ Cert.SbGradIdeal.sig) → Buf (Elt Ideal) ℓ) (g : Dev Cert.SbGradIdeal.nD → PrngReg), Pre_SbGradIdeal m →
    θ_run (Cert.SbGradIdeal.defs (F := Ideal)) (onTc (τ := Cert.SbGradIdeal.τ) (Cert.SbGradIdeal.main (F := Ideal))) ⟨m, fun _ => 0, g⟩ (fun r => (∀ c : Dev Cert.SbGradIdeal.nD,
      r.2.mem ((c.tc : Thread Cert.SbGradIdeal.nD Cert.SbGradIdeal.τ).loc Cert.SbGradIdeal.main_arg0) = m ((c.tc : Thread Cert.SbGradIdeal.nD Cert.SbGradIdeal.τ).loc Cert.SbGradIdeal.main_arg0)
      ∧ r.2.mem ((c.tc : Thread Cert.SbGradIdeal.nD Cert.SbGradIdeal.τ).loc Cert.SbGradIdeal.main_arg1) = m ((c.tc : Thread Cert.SbGradIdeal.nD Cert.SbGradIdeal.τ).loc Cert.SbGradIdeal.main_arg1))
      ∧ r.2.sem = fun _ => 0)

def quiescent_SbGradIdeal_pre_sb_finite [hSbGradIdeal : Cert.SbGradIdeal.Facts] [hPre_sb_finite : Cert.Pre_sb_finite.Facts] : Prop :=
  ∀ (m : (ℓ : Loc Cert.SbGradIdeal.nD Cert.SbGradIdeal.τ Cert.SbGradIdeal.sig) → Buf (Elt Ideal) ℓ) (g : Dev Cert.SbGradIdeal.nD → PrngReg), Pre_SbGradIdeal_sb_finite m →
    θ_run (Cert.SbGradIdeal.defs (F := Ideal)) (onTc (τ := Cert.SbGradIdeal.τ) (Cert.SbGradIdeal.main (F := Ideal))) ⟨m, fun _ => 0, g⟩ (fun r => (∀ c : Dev Cert.SbGradIdeal.nD,
      r.2.mem ((c.tc : Thread Cert.SbGradIdeal.nD Cert.SbGradIdeal.τ).loc Cert.SbGradIdeal.main_arg0) = m ((c.tc : Thread Cert.SbGradIdeal.nD Cert.SbGradIdeal.τ).loc Cert.SbGradIdeal.main_arg0)
      ∧ r.2.mem ((c.tc : Thread Cert.SbGradIdeal.nD Cert.SbGradIdeal.τ).loc Cert.SbGradIdeal.main_arg1) = m ((c.tc : Thread Cert.SbGradIdeal.nD Cert.SbGradIdeal.τ).loc Cert.SbGradIdeal.main_arg1))
      ∧ r.2.sem = fun _ => 0)

def quiescent_AaBwd [hAaBwd : Cert.AaBwd.Facts] : Prop :=
  ∀ (m : (ℓ : Loc Cert.AaBwd.nD Cert.AaBwd.τ Cert.AaBwd.sig) → Buf (Elt Bits) ℓ) (g : Dev Cert.AaBwd.nD → PrngReg), Pre_AaBwd m →
    θ_run (Cert.AaBwd.defs (F := Bits)) (onTc (τ := Cert.AaBwd.τ) (Cert.AaBwd.main (F := Bits))) ⟨m, fun _ => 0, g⟩ (fun r => (∀ c : Dev Cert.AaBwd.nD,
      r.2.mem ((c.tc : Thread Cert.AaBwd.nD Cert.AaBwd.τ).loc Cert.AaBwd.main_arg0) = m ((c.tc : Thread Cert.AaBwd.nD Cert.AaBwd.τ).loc Cert.AaBwd.main_arg0)
      ∧ r.2.mem ((c.tc : Thread Cert.AaBwd.nD Cert.AaBwd.τ).loc Cert.AaBwd.main_arg1) = m ((c.tc : Thread Cert.AaBwd.nD Cert.AaBwd.τ).loc Cert.AaBwd.main_arg1)
      ∧ r.2.mem ((c.tc : Thread Cert.AaBwd.nD Cert.AaBwd.τ).loc Cert.AaBwd.main_arg2) = m ((c.tc : Thread Cert.AaBwd.nD Cert.AaBwd.τ).loc Cert.AaBwd.main_arg2))
      ∧ r.2.sem = fun _ => 0)

def quiescent_AaBwdIdeal [hAaBwdIdeal : Cert.AaBwdIdeal.Facts] : Prop :=
  ∀ (m : (ℓ : Loc Cert.AaBwdIdeal.nD Cert.AaBwdIdeal.τ Cert.AaBwdIdeal.sig) → Buf (Elt Ideal) ℓ) (g : Dev Cert.AaBwdIdeal.nD → PrngReg), Pre_AaBwdIdeal m →
    θ_run (Cert.AaBwdIdeal.defs (F := Ideal)) (onTc (τ := Cert.AaBwdIdeal.τ) (Cert.AaBwdIdeal.main (F := Ideal))) ⟨m, fun _ => 0, g⟩ (fun r => (∀ c : Dev Cert.AaBwdIdeal.nD,
      r.2.mem ((c.tc : Thread Cert.AaBwdIdeal.nD Cert.AaBwdIdeal.τ).loc Cert.AaBwdIdeal.main_arg0) = m ((c.tc : Thread Cert.AaBwdIdeal.nD Cert.AaBwdIdeal.τ).loc Cert.AaBwdIdeal.main_arg0)
      ∧ r.2.mem ((c.tc : Thread Cert.AaBwdIdeal.nD Cert.AaBwdIdeal.τ).loc Cert.AaBwdIdeal.main_arg1) = m ((c.tc : Thread Cert.AaBwdIdeal.nD Cert.AaBwdIdeal.τ).loc Cert.AaBwdIdeal.main_arg1)
      ∧ r.2.mem ((c.tc : Thread Cert.AaBwdIdeal.nD Cert.AaBwdIdeal.τ).loc Cert.AaBwdIdeal.main_arg2) = m ((c.tc : Thread Cert.AaBwdIdeal.nD Cert.AaBwdIdeal.τ).loc Cert.AaBwdIdeal.main_arg2))
      ∧ r.2.sem = fun _ => 0)

def quiescent_AaBwdIdeal_pre_aa_finite [hAaBwdIdeal : Cert.AaBwdIdeal.Facts] [hPre_aa_finite : Cert.Pre_aa_finite.Facts] : Prop :=
  ∀ (m : (ℓ : Loc Cert.AaBwdIdeal.nD Cert.AaBwdIdeal.τ Cert.AaBwdIdeal.sig) → Buf (Elt Ideal) ℓ) (g : Dev Cert.AaBwdIdeal.nD → PrngReg), Pre_AaBwdIdeal_aa_finite m →
    θ_run (Cert.AaBwdIdeal.defs (F := Ideal)) (onTc (τ := Cert.AaBwdIdeal.τ) (Cert.AaBwdIdeal.main (F := Ideal))) ⟨m, fun _ => 0, g⟩ (fun r => (∀ c : Dev Cert.AaBwdIdeal.nD,
      r.2.mem ((c.tc : Thread Cert.AaBwdIdeal.nD Cert.AaBwdIdeal.τ).loc Cert.AaBwdIdeal.main_arg0) = m ((c.tc : Thread Cert.AaBwdIdeal.nD Cert.AaBwdIdeal.τ).loc Cert.AaBwdIdeal.main_arg0)
      ∧ r.2.mem ((c.tc : Thread Cert.AaBwdIdeal.nD Cert.AaBwdIdeal.τ).loc Cert.AaBwdIdeal.main_arg1) = m ((c.tc : Thread Cert.AaBwdIdeal.nD Cert.AaBwdIdeal.τ).loc Cert.AaBwdIdeal.main_arg1)
      ∧ r.2.mem ((c.tc : Thread Cert.AaBwdIdeal.nD Cert.AaBwdIdeal.τ).loc Cert.AaBwdIdeal.main_arg2) = m ((c.tc : Thread Cert.AaBwdIdeal.nD Cert.AaBwdIdeal.τ).loc Cert.AaBwdIdeal.main_arg2))
      ∧ r.2.sem = fun _ => 0)

def quiescent_AaGradIdeal [hAaGradIdeal : Cert.AaGradIdeal.Facts] : Prop :=
  ∀ (m : (ℓ : Loc Cert.AaGradIdeal.nD Cert.AaGradIdeal.τ Cert.AaGradIdeal.sig) → Buf (Elt Ideal) ℓ) (g : Dev Cert.AaGradIdeal.nD → PrngReg), Pre_AaGradIdeal m →
    θ_run (Cert.AaGradIdeal.defs (F := Ideal)) (onTc (τ := Cert.AaGradIdeal.τ) (Cert.AaGradIdeal.main (F := Ideal))) ⟨m, fun _ => 0, g⟩ (fun r => (∀ c : Dev Cert.AaGradIdeal.nD,
      r.2.mem ((c.tc : Thread Cert.AaGradIdeal.nD Cert.AaGradIdeal.τ).loc Cert.AaGradIdeal.main_arg0) = m ((c.tc : Thread Cert.AaGradIdeal.nD Cert.AaGradIdeal.τ).loc Cert.AaGradIdeal.main_arg0)
      ∧ r.2.mem ((c.tc : Thread Cert.AaGradIdeal.nD Cert.AaGradIdeal.τ).loc Cert.AaGradIdeal.main_arg1) = m ((c.tc : Thread Cert.AaGradIdeal.nD Cert.AaGradIdeal.τ).loc Cert.AaGradIdeal.main_arg1)
      ∧ r.2.mem ((c.tc : Thread Cert.AaGradIdeal.nD Cert.AaGradIdeal.τ).loc Cert.AaGradIdeal.main_arg2) = m ((c.tc : Thread Cert.AaGradIdeal.nD Cert.AaGradIdeal.τ).loc Cert.AaGradIdeal.main_arg2))
      ∧ r.2.sem = fun _ => 0)

def quiescent_AaGradIdeal_pre_aa_finite [hAaGradIdeal : Cert.AaGradIdeal.Facts] [hPre_aa_finite : Cert.Pre_aa_finite.Facts] : Prop :=
  ∀ (m : (ℓ : Loc Cert.AaGradIdeal.nD Cert.AaGradIdeal.τ Cert.AaGradIdeal.sig) → Buf (Elt Ideal) ℓ) (g : Dev Cert.AaGradIdeal.nD → PrngReg), Pre_AaGradIdeal_aa_finite m →
    θ_run (Cert.AaGradIdeal.defs (F := Ideal)) (onTc (τ := Cert.AaGradIdeal.τ) (Cert.AaGradIdeal.main (F := Ideal))) ⟨m, fun _ => 0, g⟩ (fun r => (∀ c : Dev Cert.AaGradIdeal.nD,
      r.2.mem ((c.tc : Thread Cert.AaGradIdeal.nD Cert.AaGradIdeal.τ).loc Cert.AaGradIdeal.main_arg0) = m ((c.tc : Thread Cert.AaGradIdeal.nD Cert.AaGradIdeal.τ).loc Cert.AaGradIdeal.main_arg0)
      ∧ r.2.mem ((c.tc : Thread Cert.AaGradIdeal.nD Cert.AaGradIdeal.τ).loc Cert.AaGradIdeal.main_arg1) = m ((c.tc : Thread Cert.AaGradIdeal.nD Cert.AaGradIdeal.τ).loc Cert.AaGradIdeal.main_arg1)
      ∧ r.2.mem ((c.tc : Thread Cert.AaGradIdeal.nD Cert.AaGradIdeal.τ).loc Cert.AaGradIdeal.main_arg2) = m ((c.tc : Thread Cert.AaGradIdeal.nD Cert.AaGradIdeal.τ).loc Cert.AaGradIdeal.main_arg2))
      ∧ r.2.sem = fun _ => 0)

def quiescent_FxBwd [hFxBwd : Cert.FxBwd.Facts] : Prop :=
  ∀ (m : (ℓ : Loc Cert.FxBwd.nD Cert.FxBwd.τ Cert.FxBwd.sig) → Buf (Elt Bits) ℓ) (g : Dev Cert.FxBwd.nD → PrngReg), Pre_FxBwd m →
    θ_run (Cert.FxBwd.defs (F := Bits)) (onTc (τ := Cert.FxBwd.τ) (Cert.FxBwd.main (F := Bits))) ⟨m, fun _ => 0, g⟩ (fun r => (∀ c : Dev Cert.FxBwd.nD,
      r.2.mem ((c.tc : Thread Cert.FxBwd.nD Cert.FxBwd.τ).loc Cert.FxBwd.main_arg0) = m ((c.tc : Thread Cert.FxBwd.nD Cert.FxBwd.τ).loc Cert.FxBwd.main_arg0)
      ∧ r.2.mem ((c.tc : Thread Cert.FxBwd.nD Cert.FxBwd.τ).loc Cert.FxBwd.main_arg1) = m ((c.tc : Thread Cert.FxBwd.nD Cert.FxBwd.τ).loc Cert.FxBwd.main_arg1)
      ∧ r.2.mem ((c.tc : Thread Cert.FxBwd.nD Cert.FxBwd.τ).loc Cert.FxBwd.main_arg2) = m ((c.tc : Thread Cert.FxBwd.nD Cert.FxBwd.τ).loc Cert.FxBwd.main_arg2)
      ∧ r.2.mem ((c.tc : Thread Cert.FxBwd.nD Cert.FxBwd.τ).loc Cert.FxBwd.main_arg3) = m ((c.tc : Thread Cert.FxBwd.nD Cert.FxBwd.τ).loc Cert.FxBwd.main_arg3)
      ∧ r.2.mem ((c.tc : Thread Cert.FxBwd.nD Cert.FxBwd.τ).loc Cert.FxBwd.main_arg4) = m ((c.tc : Thread Cert.FxBwd.nD Cert.FxBwd.τ).loc Cert.FxBwd.main_arg4)
      ∧ r.2.mem ((c.tc : Thread Cert.FxBwd.nD Cert.FxBwd.τ).loc Cert.FxBwd.main_arg5) = m ((c.tc : Thread Cert.FxBwd.nD Cert.FxBwd.τ).loc Cert.FxBwd.main_arg5)
      ∧ r.2.mem ((c.tc : Thread Cert.FxBwd.nD Cert.FxBwd.τ).loc Cert.FxBwd.main_arg6) = m ((c.tc : Thread Cert.FxBwd.nD Cert.FxBwd.τ).loc Cert.FxBwd.main_arg6)
      ∧ r.2.mem ((c.tc : Thread Cert.FxBwd.nD Cert.FxBwd.τ).loc Cert.FxBwd.main_arg7) = m ((c.tc : Thread Cert.FxBwd.nD Cert.FxBwd.τ).loc Cert.FxBwd.main_arg7)
      ∧ r.2.mem ((c.tc : Thread Cert.FxBwd.nD Cert.FxBwd.τ).loc Cert.FxBwd.main_arg8) = m ((c.tc : Thread Cert.FxBwd.nD Cert.FxBwd.τ).loc Cert.FxBwd.main_arg8)
      ∧ r.2.mem ((c.tc : Thread Cert.FxBwd.nD Cert.FxBwd.τ).loc Cert.FxBwd.main_arg9) = m ((c.tc : Thread Cert.FxBwd.nD Cert.FxBwd.τ).loc Cert.FxBwd.main_arg9))
      ∧ r.2.sem = fun _ => 0)

def quiescent_FxBwdIdeal [hFxBwdIdeal : Cert.FxBwdIdeal.Facts] : Prop :=
  ∀ (m : (ℓ : Loc Cert.FxBwdIdeal.nD Cert.FxBwdIdeal.τ Cert.FxBwdIdeal.sig) → Buf (Elt Ideal) ℓ) (g : Dev Cert.FxBwdIdeal.nD → PrngReg), Pre_FxBwdIdeal m →
    θ_run (Cert.FxBwdIdeal.defs (F := Ideal)) (onTc (τ := Cert.FxBwdIdeal.τ) (Cert.FxBwdIdeal.main (F := Ideal))) ⟨m, fun _ => 0, g⟩ (fun r => (∀ c : Dev Cert.FxBwdIdeal.nD,
      r.2.mem ((c.tc : Thread Cert.FxBwdIdeal.nD Cert.FxBwdIdeal.τ).loc Cert.FxBwdIdeal.main_arg0) = m ((c.tc : Thread Cert.FxBwdIdeal.nD Cert.FxBwdIdeal.τ).loc Cert.FxBwdIdeal.main_arg0)
      ∧ r.2.mem ((c.tc : Thread Cert.FxBwdIdeal.nD Cert.FxBwdIdeal.τ).loc Cert.FxBwdIdeal.main_arg1) = m ((c.tc : Thread Cert.FxBwdIdeal.nD Cert.FxBwdIdeal.τ).loc Cert.FxBwdIdeal.main_arg1)
      ∧ r.2.mem ((c.tc : Thread Cert.FxBwdIdeal.nD Cert.FxBwdIdeal.τ).loc Cert.FxBwdIdeal.main_arg2) = m ((c.tc : Thread Cert.FxBwdIdeal.nD Cert.FxBwdIdeal.τ).loc Cert.FxBwdIdeal.main_arg2)
      ∧ r.2.mem ((c.tc : Thread Cert.FxBwdIdeal.nD Cert.FxBwdIdeal.τ).loc Cert.FxBwdIdeal.main_arg3) = m ((c.tc : Thread Cert.FxBwdIdeal.nD Cert.FxBwdIdeal.τ).loc Cert.FxBwdIdeal.main_arg3)
      ∧ r.2.mem ((c.tc : Thread Cert.FxBwdIdeal.nD Cert.FxBwdIdeal.τ).loc Cert.FxBwdIdeal.main_arg4) = m ((c.tc : Thread Cert.FxBwdIdeal.nD Cert.FxBwdIdeal.τ).loc Cert.FxBwdIdeal.main_arg4)
      ∧ r.2.mem ((c.tc : Thread Cert.FxBwdIdeal.nD Cert.FxBwdIdeal.τ).loc Cert.FxBwdIdeal.main_arg5) = m ((c.tc : Thread Cert.FxBwdIdeal.nD Cert.FxBwdIdeal.τ).loc Cert.FxBwdIdeal.main_arg5)
      ∧ r.2.mem ((c.tc : Thread Cert.FxBwdIdeal.nD Cert.FxBwdIdeal.τ).loc Cert.FxBwdIdeal.main_arg6) = m ((c.tc : Thread Cert.FxBwdIdeal.nD Cert.FxBwdIdeal.τ).loc Cert.FxBwdIdeal.main_arg6)
      ∧ r.2.mem ((c.tc : Thread Cert.FxBwdIdeal.nD Cert.FxBwdIdeal.τ).loc Cert.FxBwdIdeal.main_arg7) = m ((c.tc : Thread Cert.FxBwdIdeal.nD Cert.FxBwdIdeal.τ).loc Cert.FxBwdIdeal.main_arg7)
      ∧ r.2.mem ((c.tc : Thread Cert.FxBwdIdeal.nD Cert.FxBwdIdeal.τ).loc Cert.FxBwdIdeal.main_arg8) = m ((c.tc : Thread Cert.FxBwdIdeal.nD Cert.FxBwdIdeal.τ).loc Cert.FxBwdIdeal.main_arg8)
      ∧ r.2.mem ((c.tc : Thread Cert.FxBwdIdeal.nD Cert.FxBwdIdeal.τ).loc Cert.FxBwdIdeal.main_arg9) = m ((c.tc : Thread Cert.FxBwdIdeal.nD Cert.FxBwdIdeal.τ).loc Cert.FxBwdIdeal.main_arg9))
      ∧ r.2.sem = fun _ => 0)

def quiescent_FxBwdIdeal_pre_fx_finite [hFxBwdIdeal : Cert.FxBwdIdeal.Facts] [hPre_fx_finite : Cert.Pre_fx_finite.Facts] : Prop :=
  ∀ (m : (ℓ : Loc Cert.FxBwdIdeal.nD Cert.FxBwdIdeal.τ Cert.FxBwdIdeal.sig) → Buf (Elt Ideal) ℓ) (g : Dev Cert.FxBwdIdeal.nD → PrngReg), Pre_FxBwdIdeal_fx_finite m →
    θ_run (Cert.FxBwdIdeal.defs (F := Ideal)) (onTc (τ := Cert.FxBwdIdeal.τ) (Cert.FxBwdIdeal.main (F := Ideal))) ⟨m, fun _ => 0, g⟩ (fun r => (∀ c : Dev Cert.FxBwdIdeal.nD,
      r.2.mem ((c.tc : Thread Cert.FxBwdIdeal.nD Cert.FxBwdIdeal.τ).loc Cert.FxBwdIdeal.main_arg0) = m ((c.tc : Thread Cert.FxBwdIdeal.nD Cert.FxBwdIdeal.τ).loc Cert.FxBwdIdeal.main_arg0)
      ∧ r.2.mem ((c.tc : Thread Cert.FxBwdIdeal.nD Cert.FxBwdIdeal.τ).loc Cert.FxBwdIdeal.main_arg1) = m ((c.tc : Thread Cert.FxBwdIdeal.nD Cert.FxBwdIdeal.τ).loc Cert.FxBwdIdeal.main_arg1)
      ∧ r.2.mem ((c.tc : Thread Cert.FxBwdIdeal.nD Cert.FxBwdIdeal.τ).loc Cert.FxBwdIdeal.main_arg2) = m ((c.tc : Thread Cert.FxBwdIdeal.nD Cert.FxBwdIdeal.τ).loc Cert.FxBwdIdeal.main_arg2)
      ∧ r.2.mem ((c.tc : Thread Cert.FxBwdIdeal.nD Cert.FxBwdIdeal.τ).loc Cert.FxBwdIdeal.main_arg3) = m ((c.tc : Thread Cert.FxBwdIdeal.nD Cert.FxBwdIdeal.τ).loc Cert.FxBwdIdeal.main_arg3)
      ∧ r.2.mem ((c.tc : Thread Cert.FxBwdIdeal.nD Cert.FxBwdIdeal.τ).loc Cert.FxBwdIdeal.main_arg4) = m ((c.tc : Thread Cert.FxBwdIdeal.nD Cert.FxBwdIdeal.τ).loc Cert.FxBwdIdeal.main_arg4)
      ∧ r.2.mem ((c.tc : Thread Cert.FxBwdIdeal.nD Cert.FxBwdIdeal.τ).loc Cert.FxBwdIdeal.main_arg5) = m ((c.tc : Thread Cert.FxBwdIdeal.nD Cert.FxBwdIdeal.τ).loc Cert.FxBwdIdeal.main_arg5)
      ∧ r.2.mem ((c.tc : Thread Cert.FxBwdIdeal.nD Cert.FxBwdIdeal.τ).loc Cert.FxBwdIdeal.main_arg6) = m ((c.tc : Thread Cert.FxBwdIdeal.nD Cert.FxBwdIdeal.τ).loc Cert.FxBwdIdeal.main_arg6)
      ∧ r.2.mem ((c.tc : Thread Cert.FxBwdIdeal.nD Cert.FxBwdIdeal.τ).loc Cert.FxBwdIdeal.main_arg7) = m ((c.tc : Thread Cert.FxBwdIdeal.nD Cert.FxBwdIdeal.τ).loc Cert.FxBwdIdeal.main_arg7)
      ∧ r.2.mem ((c.tc : Thread Cert.FxBwdIdeal.nD Cert.FxBwdIdeal.τ).loc Cert.FxBwdIdeal.main_arg8) = m ((c.tc : Thread Cert.FxBwdIdeal.nD Cert.FxBwdIdeal.τ).loc Cert.FxBwdIdeal.main_arg8)
      ∧ r.2.mem ((c.tc : Thread Cert.FxBwdIdeal.nD Cert.FxBwdIdeal.τ).loc Cert.FxBwdIdeal.main_arg9) = m ((c.tc : Thread Cert.FxBwdIdeal.nD Cert.FxBwdIdeal.τ).loc Cert.FxBwdIdeal.main_arg9))
      ∧ r.2.sem = fun _ => 0)

def quiescent_FxGradIdeal [hFxGradIdeal : Cert.FxGradIdeal.Facts] : Prop :=
  ∀ (m : (ℓ : Loc Cert.FxGradIdeal.nD Cert.FxGradIdeal.τ Cert.FxGradIdeal.sig) → Buf (Elt Ideal) ℓ) (g : Dev Cert.FxGradIdeal.nD → PrngReg), Pre_FxGradIdeal m →
    θ_run (Cert.FxGradIdeal.defs (F := Ideal)) (onTc (τ := Cert.FxGradIdeal.τ) (Cert.FxGradIdeal.main (F := Ideal))) ⟨m, fun _ => 0, g⟩ (fun r => (∀ c : Dev Cert.FxGradIdeal.nD,
      r.2.mem ((c.tc : Thread Cert.FxGradIdeal.nD Cert.FxGradIdeal.τ).loc Cert.FxGradIdeal.main_arg0) = m ((c.tc : Thread Cert.FxGradIdeal.nD Cert.FxGradIdeal.τ).loc Cert.FxGradIdeal.main_arg0)
      ∧ r.2.mem ((c.tc : Thread Cert.FxGradIdeal.nD Cert.FxGradIdeal.τ).loc Cert.FxGradIdeal.main_arg1) = m ((c.tc : Thread Cert.FxGradIdeal.nD Cert.FxGradIdeal.τ).loc Cert.FxGradIdeal.main_arg1)
      ∧ r.2.mem ((c.tc : Thread Cert.FxGradIdeal.nD Cert.FxGradIdeal.τ).loc Cert.FxGradIdeal.main_arg2) = m ((c.tc : Thread Cert.FxGradIdeal.nD Cert.FxGradIdeal.τ).loc Cert.FxGradIdeal.main_arg2)
      ∧ r.2.mem ((c.tc : Thread Cert.FxGradIdeal.nD Cert.FxGradIdeal.τ).loc Cert.FxGradIdeal.main_arg3) = m ((c.tc : Thread Cert.FxGradIdeal.nD Cert.FxGradIdeal.τ).loc Cert.FxGradIdeal.main_arg3)
      ∧ r.2.mem ((c.tc : Thread Cert.FxGradIdeal.nD Cert.FxGradIdeal.τ).loc Cert.FxGradIdeal.main_arg4) = m ((c.tc : Thread Cert.FxGradIdeal.nD Cert.FxGradIdeal.τ).loc Cert.FxGradIdeal.main_arg4)
      ∧ r.2.mem ((c.tc : Thread Cert.FxGradIdeal.nD Cert.FxGradIdeal.τ).loc Cert.FxGradIdeal.main_arg5) = m ((c.tc : Thread Cert.FxGradIdeal.nD Cert.FxGradIdeal.τ).loc Cert.FxGradIdeal.main_arg5)
      ∧ r.2.mem ((c.tc : Thread Cert.FxGradIdeal.nD Cert.FxGradIdeal.τ).loc Cert.FxGradIdeal.main_arg6) = m ((c.tc : Thread Cert.FxGradIdeal.nD Cert.FxGradIdeal.τ).loc Cert.FxGradIdeal.main_arg6)
      ∧ r.2.mem ((c.tc : Thread Cert.FxGradIdeal.nD Cert.FxGradIdeal.τ).loc Cert.FxGradIdeal.main_arg7) = m ((c.tc : Thread Cert.FxGradIdeal.nD Cert.FxGradIdeal.τ).loc Cert.FxGradIdeal.main_arg7)
      ∧ r.2.mem ((c.tc : Thread Cert.FxGradIdeal.nD Cert.FxGradIdeal.τ).loc Cert.FxGradIdeal.main_arg8) = m ((c.tc : Thread Cert.FxGradIdeal.nD Cert.FxGradIdeal.τ).loc Cert.FxGradIdeal.main_arg8)
      ∧ r.2.mem ((c.tc : Thread Cert.FxGradIdeal.nD Cert.FxGradIdeal.τ).loc Cert.FxGradIdeal.main_arg9) = m ((c.tc : Thread Cert.FxGradIdeal.nD Cert.FxGradIdeal.τ).loc Cert.FxGradIdeal.main_arg9))
      ∧ r.2.sem = fun _ => 0)

def quiescent_FxGradIdeal_pre_fx_finite [hFxGradIdeal : Cert.FxGradIdeal.Facts] [hPre_fx_finite : Cert.Pre_fx_finite.Facts] : Prop :=
  ∀ (m : (ℓ : Loc Cert.FxGradIdeal.nD Cert.FxGradIdeal.τ Cert.FxGradIdeal.sig) → Buf (Elt Ideal) ℓ) (g : Dev Cert.FxGradIdeal.nD → PrngReg), Pre_FxGradIdeal_fx_finite m →
    θ_run (Cert.FxGradIdeal.defs (F := Ideal)) (onTc (τ := Cert.FxGradIdeal.τ) (Cert.FxGradIdeal.main (F := Ideal))) ⟨m, fun _ => 0, g⟩ (fun r => (∀ c : Dev Cert.FxGradIdeal.nD,
      r.2.mem ((c.tc : Thread Cert.FxGradIdeal.nD Cert.FxGradIdeal.τ).loc Cert.FxGradIdeal.main_arg0) = m ((c.tc : Thread Cert.FxGradIdeal.nD Cert.FxGradIdeal.τ).loc Cert.FxGradIdeal.main_arg0)
      ∧ r.2.mem ((c.tc : Thread Cert.FxGradIdeal.nD Cert.FxGradIdeal.τ).loc Cert.FxGradIdeal.main_arg1) = m ((c.tc : Thread Cert.FxGradIdeal.nD Cert.FxGradIdeal.τ).loc Cert.FxGradIdeal.main_arg1)
      ∧ r.2.mem ((c.tc : Thread Cert.FxGradIdeal.nD Cert.FxGradIdeal.τ).loc Cert.FxGradIdeal.main_arg2) = m ((c.tc : Thread Cert.FxGradIdeal.nD Cert.FxGradIdeal.τ).loc Cert.FxGradIdeal.main_arg2)
      ∧ r.2.mem ((c.tc : Thread Cert.FxGradIdeal.nD Cert.FxGradIdeal.τ).loc Cert.FxGradIdeal.main_arg3) = m ((c.tc : Thread Cert.FxGradIdeal.nD Cert.FxGradIdeal.τ).loc Cert.FxGradIdeal.main_arg3)
      ∧ r.2.mem ((c.tc : Thread Cert.FxGradIdeal.nD Cert.FxGradIdeal.τ).loc Cert.FxGradIdeal.main_arg4) = m ((c.tc : Thread Cert.FxGradIdeal.nD Cert.FxGradIdeal.τ).loc Cert.FxGradIdeal.main_arg4)
      ∧ r.2.mem ((c.tc : Thread Cert.FxGradIdeal.nD Cert.FxGradIdeal.τ).loc Cert.FxGradIdeal.main_arg5) = m ((c.tc : Thread Cert.FxGradIdeal.nD Cert.FxGradIdeal.τ).loc Cert.FxGradIdeal.main_arg5)
      ∧ r.2.mem ((c.tc : Thread Cert.FxGradIdeal.nD Cert.FxGradIdeal.τ).loc Cert.FxGradIdeal.main_arg6) = m ((c.tc : Thread Cert.FxGradIdeal.nD Cert.FxGradIdeal.τ).loc Cert.FxGradIdeal.main_arg6)
      ∧ r.2.mem ((c.tc : Thread Cert.FxGradIdeal.nD Cert.FxGradIdeal.τ).loc Cert.FxGradIdeal.main_arg7) = m ((c.tc : Thread Cert.FxGradIdeal.nD Cert.FxGradIdeal.τ).loc Cert.FxGradIdeal.main_arg7)
      ∧ r.2.mem ((c.tc : Thread Cert.FxGradIdeal.nD Cert.FxGradIdeal.τ).loc Cert.FxGradIdeal.main_arg8) = m ((c.tc : Thread Cert.FxGradIdeal.nD Cert.FxGradIdeal.τ).loc Cert.FxGradIdeal.main_arg8)
      ∧ r.2.mem ((c.tc : Thread Cert.FxGradIdeal.nD Cert.FxGradIdeal.τ).loc Cert.FxGradIdeal.main_arg9) = m ((c.tc : Thread Cert.FxGradIdeal.nD Cert.FxGradIdeal.τ).loc Cert.FxGradIdeal.main_arg9))
      ∧ r.2.sem = fun _ => 0)

def quiescent_QxBwd [hQxBwd : Cert.QxBwd.Facts] : Prop :=
  ∀ (m : (ℓ : Loc Cert.QxBwd.nD Cert.QxBwd.τ Cert.QxBwd.sig) → Buf (Elt Bits) ℓ) (g : Dev Cert.QxBwd.nD → PrngReg), Pre_QxBwd m →
    θ_run (Cert.QxBwd.defs (F := Bits)) (onTc (τ := Cert.QxBwd.τ) (Cert.QxBwd.main (F := Bits))) ⟨m, fun _ => 0, g⟩ (fun r => (∀ c : Dev Cert.QxBwd.nD,
      r.2.mem ((c.tc : Thread Cert.QxBwd.nD Cert.QxBwd.τ).loc Cert.QxBwd.main_arg0) = m ((c.tc : Thread Cert.QxBwd.nD Cert.QxBwd.τ).loc Cert.QxBwd.main_arg0)
      ∧ r.2.mem ((c.tc : Thread Cert.QxBwd.nD Cert.QxBwd.τ).loc Cert.QxBwd.main_arg1) = m ((c.tc : Thread Cert.QxBwd.nD Cert.QxBwd.τ).loc Cert.QxBwd.main_arg1)
      ∧ r.2.mem ((c.tc : Thread Cert.QxBwd.nD Cert.QxBwd.τ).loc Cert.QxBwd.main_arg2) = m ((c.tc : Thread Cert.QxBwd.nD Cert.QxBwd.τ).loc Cert.QxBwd.main_arg2)
      ∧ r.2.mem ((c.tc : Thread Cert.QxBwd.nD Cert.QxBwd.τ).loc Cert.QxBwd.main_arg3) = m ((c.tc : Thread Cert.QxBwd.nD Cert.QxBwd.τ).loc Cert.QxBwd.main_arg3)
      ∧ r.2.mem ((c.tc : Thread Cert.QxBwd.nD Cert.QxBwd.τ).loc Cert.QxBwd.main_arg4) = m ((c.tc : Thread Cert.QxBwd.nD Cert.QxBwd.τ).loc Cert.QxBwd.main_arg4)
      ∧ r.2.mem ((c.tc : Thread Cert.QxBwd.nD Cert.QxBwd.τ).loc Cert.QxBwd.main_arg5) = m ((c.tc : Thread Cert.QxBwd.nD Cert.QxBwd.τ).loc Cert.QxBwd.main_arg5)
      ∧ r.2.mem ((c.tc : Thread Cert.QxBwd.nD Cert.QxBwd.τ).loc Cert.QxBwd.main_arg6) = m ((c.tc : Thread Cert.QxBwd.nD Cert.QxBwd.τ).loc Cert.QxBwd.main_arg6)
      ∧ r.2.mem ((c.tc : Thread Cert.QxBwd.nD Cert.QxBwd.τ).loc Cert.QxBwd.main_arg7) = m ((c.tc : Thread Cert.QxBwd.nD Cert.QxBwd.τ).loc Cert.QxBwd.main_arg7))
      ∧ r.2.sem = fun _ => 0)

def quiescent_QxBwdIdeal [hQxBwdIdeal : Cert.QxBwdIdeal.Facts] : Prop :=
  ∀ (m : (ℓ : Loc Cert.QxBwdIdeal.nD Cert.QxBwdIdeal.τ Cert.QxBwdIdeal.sig) → Buf (Elt Ideal) ℓ) (g : Dev Cert.QxBwdIdeal.nD → PrngReg), Pre_QxBwdIdeal m →
    θ_run (Cert.QxBwdIdeal.defs (F := Ideal)) (onTc (τ := Cert.QxBwdIdeal.τ) (Cert.QxBwdIdeal.main (F := Ideal))) ⟨m, fun _ => 0, g⟩ (fun r => (∀ c : Dev Cert.QxBwdIdeal.nD,
      r.2.mem ((c.tc : Thread Cert.QxBwdIdeal.nD Cert.QxBwdIdeal.τ).loc Cert.QxBwdIdeal.main_arg0) = m ((c.tc : Thread Cert.QxBwdIdeal.nD Cert.QxBwdIdeal.τ).loc Cert.QxBwdIdeal.main_arg0)
      ∧ r.2.mem ((c.tc : Thread Cert.QxBwdIdeal.nD Cert.QxBwdIdeal.τ).loc Cert.QxBwdIdeal.main_arg1) = m ((c.tc : Thread Cert.QxBwdIdeal.nD Cert.QxBwdIdeal.τ).loc Cert.QxBwdIdeal.main_arg1)
      ∧ r.2.mem ((c.tc : Thread Cert.QxBwdIdeal.nD Cert.QxBwdIdeal.τ).loc Cert.QxBwdIdeal.main_arg2) = m ((c.tc : Thread Cert.QxBwdIdeal.nD Cert.QxBwdIdeal.τ).loc Cert.QxBwdIdeal.main_arg2)
      ∧ r.2.mem ((c.tc : Thread Cert.QxBwdIdeal.nD Cert.QxBwdIdeal.τ).loc Cert.QxBwdIdeal.main_arg3) = m ((c.tc : Thread Cert.QxBwdIdeal.nD Cert.QxBwdIdeal.τ).loc Cert.QxBwdIdeal.main_arg3)
      ∧ r.2.mem ((c.tc : Thread Cert.QxBwdIdeal.nD Cert.QxBwdIdeal.τ).loc Cert.QxBwdIdeal.main_arg4) = m ((c.tc : Thread Cert.QxBwdIdeal.nD Cert.QxBwdIdeal.τ).loc Cert.QxBwdIdeal.main_arg4)
      ∧ r.2.mem ((c.tc : Thread Cert.QxBwdIdeal.nD Cert.QxBwdIdeal.τ).loc Cert.QxBwdIdeal.main_arg5) = m ((c.tc : Thread Cert.QxBwdIdeal.nD Cert.QxBwdIdeal.τ).loc Cert.QxBwdIdeal.main_arg5)
      ∧ r.2.mem ((c.tc : Thread Cert.QxBwdIdeal.nD Cert.QxBwdIdeal.τ).loc Cert.QxBwdIdeal.main_arg6) = m ((c.tc : Thread Cert.QxBwdIdeal.nD Cert.QxBwdIdeal.τ).loc Cert.QxBwdIdeal.main_arg6)
      ∧ r.2.mem ((c.tc : Thread Cert.QxBwdIdeal.nD Cert.QxBwdIdeal.τ).loc Cert.QxBwdIdeal.main_arg7) = m ((c.tc : Thread Cert.QxBwdIdeal.nD Cert.QxBwdIdeal.τ).loc Cert.QxBwdIdeal.main_arg7))
      ∧ r.2.sem = fun _ => 0)

def quiescent_QxBwdIdeal_pre_qx_finite [hQxBwdIdeal : Cert.QxBwdIdeal.Facts] [hPre_qx_finite : Cert.Pre_qx_finite.Facts] : Prop :=
  ∀ (m : (ℓ : Loc Cert.QxBwdIdeal.nD Cert.QxBwdIdeal.τ Cert.QxBwdIdeal.sig) → Buf (Elt Ideal) ℓ) (g : Dev Cert.QxBwdIdeal.nD → PrngReg), Pre_QxBwdIdeal_qx_finite m →
    θ_run (Cert.QxBwdIdeal.defs (F := Ideal)) (onTc (τ := Cert.QxBwdIdeal.τ) (Cert.QxBwdIdeal.main (F := Ideal))) ⟨m, fun _ => 0, g⟩ (fun r => (∀ c : Dev Cert.QxBwdIdeal.nD,
      r.2.mem ((c.tc : Thread Cert.QxBwdIdeal.nD Cert.QxBwdIdeal.τ).loc Cert.QxBwdIdeal.main_arg0) = m ((c.tc : Thread Cert.QxBwdIdeal.nD Cert.QxBwdIdeal.τ).loc Cert.QxBwdIdeal.main_arg0)
      ∧ r.2.mem ((c.tc : Thread Cert.QxBwdIdeal.nD Cert.QxBwdIdeal.τ).loc Cert.QxBwdIdeal.main_arg1) = m ((c.tc : Thread Cert.QxBwdIdeal.nD Cert.QxBwdIdeal.τ).loc Cert.QxBwdIdeal.main_arg1)
      ∧ r.2.mem ((c.tc : Thread Cert.QxBwdIdeal.nD Cert.QxBwdIdeal.τ).loc Cert.QxBwdIdeal.main_arg2) = m ((c.tc : Thread Cert.QxBwdIdeal.nD Cert.QxBwdIdeal.τ).loc Cert.QxBwdIdeal.main_arg2)
      ∧ r.2.mem ((c.tc : Thread Cert.QxBwdIdeal.nD Cert.QxBwdIdeal.τ).loc Cert.QxBwdIdeal.main_arg3) = m ((c.tc : Thread Cert.QxBwdIdeal.nD Cert.QxBwdIdeal.τ).loc Cert.QxBwdIdeal.main_arg3)
      ∧ r.2.mem ((c.tc : Thread Cert.QxBwdIdeal.nD Cert.QxBwdIdeal.τ).loc Cert.QxBwdIdeal.main_arg4) = m ((c.tc : Thread Cert.QxBwdIdeal.nD Cert.QxBwdIdeal.τ).loc Cert.QxBwdIdeal.main_arg4)
      ∧ r.2.mem ((c.tc : Thread Cert.QxBwdIdeal.nD Cert.QxBwdIdeal.τ).loc Cert.QxBwdIdeal.main_arg5) = m ((c.tc : Thread Cert.QxBwdIdeal.nD Cert.QxBwdIdeal.τ).loc Cert.QxBwdIdeal.main_arg5)
      ∧ r.2.mem ((c.tc : Thread Cert.QxBwdIdeal.nD Cert.QxBwdIdeal.τ).loc Cert.QxBwdIdeal.main_arg6) = m ((c.tc : Thread Cert.QxBwdIdeal.nD Cert.QxBwdIdeal.τ).loc Cert.QxBwdIdeal.main_arg6)
      ∧ r.2.mem ((c.tc : Thread Cert.QxBwdIdeal.nD Cert.QxBwdIdeal.τ).loc Cert.QxBwdIdeal.main_arg7) = m ((c.tc : Thread Cert.QxBwdIdeal.nD Cert.QxBwdIdeal.τ).loc Cert.QxBwdIdeal.main_arg7))
      ∧ r.2.sem = fun _ => 0)

def quiescent_QxGradIdeal [hQxGradIdeal : Cert.QxGradIdeal.Facts] : Prop :=
  ∀ (m : (ℓ : Loc Cert.QxGradIdeal.nD Cert.QxGradIdeal.τ Cert.QxGradIdeal.sig) → Buf (Elt Ideal) ℓ) (g : Dev Cert.QxGradIdeal.nD → PrngReg), Pre_QxGradIdeal m →
    θ_run (Cert.QxGradIdeal.defs (F := Ideal)) (onTc (τ := Cert.QxGradIdeal.τ) (Cert.QxGradIdeal.main (F := Ideal))) ⟨m, fun _ => 0, g⟩ (fun r => (∀ c : Dev Cert.QxGradIdeal.nD,
      r.2.mem ((c.tc : Thread Cert.QxGradIdeal.nD Cert.QxGradIdeal.τ).loc Cert.QxGradIdeal.main_arg0) = m ((c.tc : Thread Cert.QxGradIdeal.nD Cert.QxGradIdeal.τ).loc Cert.QxGradIdeal.main_arg0)
      ∧ r.2.mem ((c.tc : Thread Cert.QxGradIdeal.nD Cert.QxGradIdeal.τ).loc Cert.QxGradIdeal.main_arg1) = m ((c.tc : Thread Cert.QxGradIdeal.nD Cert.QxGradIdeal.τ).loc Cert.QxGradIdeal.main_arg1)
      ∧ r.2.mem ((c.tc : Thread Cert.QxGradIdeal.nD Cert.QxGradIdeal.τ).loc Cert.QxGradIdeal.main_arg2) = m ((c.tc : Thread Cert.QxGradIdeal.nD Cert.QxGradIdeal.τ).loc Cert.QxGradIdeal.main_arg2)
      ∧ r.2.mem ((c.tc : Thread Cert.QxGradIdeal.nD Cert.QxGradIdeal.τ).loc Cert.QxGradIdeal.main_arg3) = m ((c.tc : Thread Cert.QxGradIdeal.nD Cert.QxGradIdeal.τ).loc Cert.QxGradIdeal.main_arg3)
      ∧ r.2.mem ((c.tc : Thread Cert.QxGradIdeal.nD Cert.QxGradIdeal.τ).loc Cert.QxGradIdeal.main_arg4) = m ((c.tc : Thread Cert.QxGradIdeal.nD Cert.QxGradIdeal.τ).loc Cert.QxGradIdeal.main_arg4)
      ∧ r.2.mem ((c.tc : Thread Cert.QxGradIdeal.nD Cert.QxGradIdeal.τ).loc Cert.QxGradIdeal.main_arg5) = m ((c.tc : Thread Cert.QxGradIdeal.nD Cert.QxGradIdeal.τ).loc Cert.QxGradIdeal.main_arg5)
      ∧ r.2.mem ((c.tc : Thread Cert.QxGradIdeal.nD Cert.QxGradIdeal.τ).loc Cert.QxGradIdeal.main_arg6) = m ((c.tc : Thread Cert.QxGradIdeal.nD Cert.QxGradIdeal.τ).loc Cert.QxGradIdeal.main_arg6)
      ∧ r.2.mem ((c.tc : Thread Cert.QxGradIdeal.nD Cert.QxGradIdeal.τ).loc Cert.QxGradIdeal.main_arg7) = m ((c.tc : Thread Cert.QxGradIdeal.nD Cert.QxGradIdeal.τ).loc Cert.QxGradIdeal.main_arg7))
      ∧ r.2.sem = fun _ => 0)

def quiescent_QxGradIdeal_pre_qx_finite [hQxGradIdeal : Cert.QxGradIdeal.Facts] [hPre_qx_finite : Cert.Pre_qx_finite.Facts] : Prop :=
  ∀ (m : (ℓ : Loc Cert.QxGradIdeal.nD Cert.QxGradIdeal.τ Cert.QxGradIdeal.sig) → Buf (Elt Ideal) ℓ) (g : Dev Cert.QxGradIdeal.nD → PrngReg), Pre_QxGradIdeal_qx_finite m →
    θ_run (Cert.QxGradIdeal.defs (F := Ideal)) (onTc (τ := Cert.QxGradIdeal.τ) (Cert.QxGradIdeal.main (F := Ideal))) ⟨m, fun _ => 0, g⟩ (fun r => (∀ c : Dev Cert.QxGradIdeal.nD,
      r.2.mem ((c.tc : Thread Cert.QxGradIdeal.nD Cert.QxGradIdeal.τ).loc Cert.QxGradIdeal.main_arg0) = m ((c.tc : Thread Cert.QxGradIdeal.nD Cert.QxGradIdeal.τ).loc Cert.QxGradIdeal.main_arg0)
      ∧ r.2.mem ((c.tc : Thread Cert.QxGradIdeal.nD Cert.QxGradIdeal.τ).loc Cert.QxGradIdeal.main_arg1) = m ((c.tc : Thread Cert.QxGradIdeal.nD Cert.QxGradIdeal.τ).loc Cert.QxGradIdeal.main_arg1)
      ∧ r.2.mem ((c.tc : Thread Cert.QxGradIdeal.nD Cert.QxGradIdeal.τ).loc Cert.QxGradIdeal.main_arg2) = m ((c.tc : Thread Cert.QxGradIdeal.nD Cert.QxGradIdeal.τ).loc Cert.QxGradIdeal.main_arg2)
      ∧ r.2.mem ((c.tc : Thread Cert.QxGradIdeal.nD Cert.QxGradIdeal.τ).loc Cert.QxGradIdeal.main_arg3) = m ((c.tc : Thread Cert.QxGradIdeal.nD Cert.QxGradIdeal.τ).loc Cert.QxGradIdeal.main_arg3)
      ∧ r.2.mem ((c.tc : Thread Cert.QxGradIdeal.nD Cert.QxGradIdeal.τ).loc Cert.QxGradIdeal.main_arg4) = m ((c.tc : Thread Cert.QxGradIdeal.nD Cert.QxGradIdeal.τ).loc Cert.QxGradIdeal.main_arg4)
      ∧ r.2.mem ((c.tc : Thread Cert.QxGradIdeal.nD Cert.QxGradIdeal.τ).loc Cert.QxGradIdeal.main_arg5) = m ((c.tc : Thread Cert.QxGradIdeal.nD Cert.QxGradIdeal.τ).loc Cert.QxGradIdeal.main_arg5)
      ∧ r.2.mem ((c.tc : Thread Cert.QxGradIdeal.nD Cert.QxGradIdeal.τ).loc Cert.QxGradIdeal.main_arg6) = m ((c.tc : Thread Cert.QxGradIdeal.nD Cert.QxGradIdeal.τ).loc Cert.QxGradIdeal.main_arg6)
      ∧ r.2.mem ((c.tc : Thread Cert.QxGradIdeal.nD Cert.QxGradIdeal.τ).loc Cert.QxGradIdeal.main_arg7) = m ((c.tc : Thread Cert.QxGradIdeal.nD Cert.QxGradIdeal.τ).loc Cert.QxGradIdeal.main_arg7))
      ∧ r.2.sem = fun _ => 0)

def quiescent_FbBwd [hFbBwd : Cert.FbBwd.Facts] : Prop :=
  ∀ (m : (ℓ : Loc Cert.FbBwd.nD Cert.FbBwd.τ Cert.FbBwd.sig) → Buf (Elt Bits) ℓ) (g : Dev Cert.FbBwd.nD → PrngReg), Pre_FbBwd m →
    θ_run (Cert.FbBwd.defs (F := Bits)) (onTc (τ := Cert.FbBwd.τ) (Cert.FbBwd.main (F := Bits))) ⟨m, fun _ => 0, g⟩ (fun r => (∀ c : Dev Cert.FbBwd.nD,
      r.2.mem ((c.tc : Thread Cert.FbBwd.nD Cert.FbBwd.τ).loc Cert.FbBwd.main_arg0) = m ((c.tc : Thread Cert.FbBwd.nD Cert.FbBwd.τ).loc Cert.FbBwd.main_arg0)
      ∧ r.2.mem ((c.tc : Thread Cert.FbBwd.nD Cert.FbBwd.τ).loc Cert.FbBwd.main_arg1) = m ((c.tc : Thread Cert.FbBwd.nD Cert.FbBwd.τ).loc Cert.FbBwd.main_arg1)
      ∧ r.2.mem ((c.tc : Thread Cert.FbBwd.nD Cert.FbBwd.τ).loc Cert.FbBwd.main_arg2) = m ((c.tc : Thread Cert.FbBwd.nD Cert.FbBwd.τ).loc Cert.FbBwd.main_arg2)
      ∧ r.2.mem ((c.tc : Thread Cert.FbBwd.nD Cert.FbBwd.τ).loc Cert.FbBwd.main_arg3) = m ((c.tc : Thread Cert.FbBwd.nD Cert.FbBwd.τ).loc Cert.FbBwd.main_arg3)
      ∧ r.2.mem ((c.tc : Thread Cert.FbBwd.nD Cert.FbBwd.τ).loc Cert.FbBwd.main_arg4) = m ((c.tc : Thread Cert.FbBwd.nD Cert.FbBwd.τ).loc Cert.FbBwd.main_arg4)
      ∧ r.2.mem ((c.tc : Thread Cert.FbBwd.nD Cert.FbBwd.τ).loc Cert.FbBwd.main_arg5) = m ((c.tc : Thread Cert.FbBwd.nD Cert.FbBwd.τ).loc Cert.FbBwd.main_arg5)
      ∧ r.2.mem ((c.tc : Thread Cert.FbBwd.nD Cert.FbBwd.τ).loc Cert.FbBwd.main_arg6) = m ((c.tc : Thread Cert.FbBwd.nD Cert.FbBwd.τ).loc Cert.FbBwd.main_arg6)
      ∧ r.2.mem ((c.tc : Thread Cert.FbBwd.nD Cert.FbBwd.τ).loc Cert.FbBwd.main_arg7) = m ((c.tc : Thread Cert.FbBwd.nD Cert.FbBwd.τ).loc Cert.FbBwd.main_arg7))
      ∧ r.2.sem = fun _ => 0)

def quiescent_FbBwdIdeal [hFbBwdIdeal : Cert.FbBwdIdeal.Facts] : Prop :=
  ∀ (m : (ℓ : Loc Cert.FbBwdIdeal.nD Cert.FbBwdIdeal.τ Cert.FbBwdIdeal.sig) → Buf (Elt Ideal) ℓ) (g : Dev Cert.FbBwdIdeal.nD → PrngReg), Pre_FbBwdIdeal m →
    θ_run (Cert.FbBwdIdeal.defs (F := Ideal)) (onTc (τ := Cert.FbBwdIdeal.τ) (Cert.FbBwdIdeal.main (F := Ideal))) ⟨m, fun _ => 0, g⟩ (fun r => (∀ c : Dev Cert.FbBwdIdeal.nD,
      r.2.mem ((c.tc : Thread Cert.FbBwdIdeal.nD Cert.FbBwdIdeal.τ).loc Cert.FbBwdIdeal.main_arg0) = m ((c.tc : Thread Cert.FbBwdIdeal.nD Cert.FbBwdIdeal.τ).loc Cert.FbBwdIdeal.main_arg0)
      ∧ r.2.mem ((c.tc : Thread Cert.FbBwdIdeal.nD Cert.FbBwdIdeal.τ).loc Cert.FbBwdIdeal.main_arg1) = m ((c.tc : Thread Cert.FbBwdIdeal.nD Cert.FbBwdIdeal.τ).loc Cert.FbBwdIdeal.main_arg1)
      ∧ r.2.mem ((c.tc : Thread Cert.FbBwdIdeal.nD Cert.FbBwdIdeal.τ).loc Cert.FbBwdIdeal.main_arg2) = m ((c.tc : Thread Cert.FbBwdIdeal.nD Cert.FbBwdIdeal.τ).loc Cert.FbBwdIdeal.main_arg2)
      ∧ r.2.mem ((c.tc : Thread Cert.FbBwdIdeal.nD Cert.FbBwdIdeal.τ).loc Cert.FbBwdIdeal.main_arg3) = m ((c.tc : Thread Cert.FbBwdIdeal.nD Cert.FbBwdIdeal.τ).loc Cert.FbBwdIdeal.main_arg3)
      ∧ r.2.mem ((c.tc : Thread Cert.FbBwdIdeal.nD Cert.FbBwdIdeal.τ).loc Cert.FbBwdIdeal.main_arg4) = m ((c.tc : Thread Cert.FbBwdIdeal.nD Cert.FbBwdIdeal.τ).loc Cert.FbBwdIdeal.main_arg4)
      ∧ r.2.mem ((c.tc : Thread Cert.FbBwdIdeal.nD Cert.FbBwdIdeal.τ).loc Cert.FbBwdIdeal.main_arg5) = m ((c.tc : Thread Cert.FbBwdIdeal.nD Cert.FbBwdIdeal.τ).loc Cert.FbBwdIdeal.main_arg5)
      ∧ r.2.mem ((c.tc : Thread Cert.FbBwdIdeal.nD Cert.FbBwdIdeal.τ).loc Cert.FbBwdIdeal.main_arg6) = m ((c.tc : Thread Cert.FbBwdIdeal.nD Cert.FbBwdIdeal.τ).loc Cert.FbBwdIdeal.main_arg6)
      ∧ r.2.mem ((c.tc : Thread Cert.FbBwdIdeal.nD Cert.FbBwdIdeal.τ).loc Cert.FbBwdIdeal.main_arg7) = m ((c.tc : Thread Cert.FbBwdIdeal.nD Cert.FbBwdIdeal.τ).loc Cert.FbBwdIdeal.main_arg7))
      ∧ r.2.sem = fun _ => 0)

def quiescent_FbBwdIdeal_pre_fb_finite [hFbBwdIdeal : Cert.FbBwdIdeal.Facts] [hPre_fb_finite : Cert.Pre_fb_finite.Facts] : Prop :=
  ∀ (m : (ℓ : Loc Cert.FbBwdIdeal.nD Cert.FbBwdIdeal.τ Cert.FbBwdIdeal.sig) → Buf (Elt Ideal) ℓ) (g : Dev Cert.FbBwdIdeal.nD → PrngReg), Pre_FbBwdIdeal_fb_finite m →
    θ_run (Cert.FbBwdIdeal.defs (F := Ideal)) (onTc (τ := Cert.FbBwdIdeal.τ) (Cert.FbBwdIdeal.main (F := Ideal))) ⟨m, fun _ => 0, g⟩ (fun r => (∀ c : Dev Cert.FbBwdIdeal.nD,
      r.2.mem ((c.tc : Thread Cert.FbBwdIdeal.nD Cert.FbBwdIdeal.τ).loc Cert.FbBwdIdeal.main_arg0) = m ((c.tc : Thread Cert.FbBwdIdeal.nD Cert.FbBwdIdeal.τ).loc Cert.FbBwdIdeal.main_arg0)
      ∧ r.2.mem ((c.tc : Thread Cert.FbBwdIdeal.nD Cert.FbBwdIdeal.τ).loc Cert.FbBwdIdeal.main_arg1) = m ((c.tc : Thread Cert.FbBwdIdeal.nD Cert.FbBwdIdeal.τ).loc Cert.FbBwdIdeal.main_arg1)
      ∧ r.2.mem ((c.tc : Thread Cert.FbBwdIdeal.nD Cert.FbBwdIdeal.τ).loc Cert.FbBwdIdeal.main_arg2) = m ((c.tc : Thread Cert.FbBwdIdeal.nD Cert.FbBwdIdeal.τ).loc Cert.FbBwdIdeal.main_arg2)
      ∧ r.2.mem ((c.tc : Thread Cert.FbBwdIdeal.nD Cert.FbBwdIdeal.τ).loc Cert.FbBwdIdeal.main_arg3) = m ((c.tc : Thread Cert.FbBwdIdeal.nD Cert.FbBwdIdeal.τ).loc Cert.FbBwdIdeal.main_arg3)
      ∧ r.2.mem ((c.tc : Thread Cert.FbBwdIdeal.nD Cert.FbBwdIdeal.τ).loc Cert.FbBwdIdeal.main_arg4) = m ((c.tc : Thread Cert.FbBwdIdeal.nD Cert.FbBwdIdeal.τ).loc Cert.FbBwdIdeal.main_arg4)
      ∧ r.2.mem ((c.tc : Thread Cert.FbBwdIdeal.nD Cert.FbBwdIdeal.τ).loc Cert.FbBwdIdeal.main_arg5) = m ((c.tc : Thread Cert.FbBwdIdeal.nD Cert.FbBwdIdeal.τ).loc Cert.FbBwdIdeal.main_arg5)
      ∧ r.2.mem ((c.tc : Thread Cert.FbBwdIdeal.nD Cert.FbBwdIdeal.τ).loc Cert.FbBwdIdeal.main_arg6) = m ((c.tc : Thread Cert.FbBwdIdeal.nD Cert.FbBwdIdeal.τ).loc Cert.FbBwdIdeal.main_arg6)
      ∧ r.2.mem ((c.tc : Thread Cert.FbBwdIdeal.nD Cert.FbBwdIdeal.τ).loc Cert.FbBwdIdeal.main_arg7) = m ((c.tc : Thread Cert.FbBwdIdeal.nD Cert.FbBwdIdeal.τ).loc Cert.FbBwdIdeal.main_arg7))
      ∧ r.2.sem = fun _ => 0)

def quiescent_FbGradIdeal [hFbGradIdeal : Cert.FbGradIdeal.Facts] : Prop :=
  ∀ (m : (ℓ : Loc Cert.FbGradIdeal.nD Cert.FbGradIdeal.τ Cert.FbGradIdeal.sig) → Buf (Elt Ideal) ℓ) (g : Dev Cert.FbGradIdeal.nD → PrngReg), Pre_FbGradIdeal m →
    θ_run (Cert.FbGradIdeal.defs (F := Ideal)) (onTc (τ := Cert.FbGradIdeal.τ) (Cert.FbGradIdeal.main (F := Ideal))) ⟨m, fun _ => 0, g⟩ (fun r => (∀ c : Dev Cert.FbGradIdeal.nD,
      r.2.mem ((c.tc : Thread Cert.FbGradIdeal.nD Cert.FbGradIdeal.τ).loc Cert.FbGradIdeal.main_arg0) = m ((c.tc : Thread Cert.FbGradIdeal.nD Cert.FbGradIdeal.τ).loc Cert.FbGradIdeal.main_arg0)
      ∧ r.2.mem ((c.tc : Thread Cert.FbGradIdeal.nD Cert.FbGradIdeal.τ).loc Cert.FbGradIdeal.main_arg1) = m ((c.tc : Thread Cert.FbGradIdeal.nD Cert.FbGradIdeal.τ).loc Cert.FbGradIdeal.main_arg1)
      ∧ r.2.mem ((c.tc : Thread Cert.FbGradIdeal.nD Cert.FbGradIdeal.τ).loc Cert.FbGradIdeal.main_arg2) = m ((c.tc : Thread Cert.FbGradIdeal.nD Cert.FbGradIdeal.τ).loc Cert.FbGradIdeal.main_arg2)
      ∧ r.2.mem ((c.tc : Thread Cert.FbGradIdeal.nD Cert.FbGradIdeal.τ).loc Cert.FbGradIdeal.main_arg3) = m ((c.tc : Thread Cert.FbGradIdeal.nD Cert.FbGradIdeal.τ).loc Cert.FbGradIdeal.main_arg3)
      ∧ r.2.mem ((c.tc : Thread Cert.FbGradIdeal.nD Cert.FbGradIdeal.τ).loc Cert.FbGradIdeal.main_arg4) = m ((c.tc : Thread Cert.FbGradIdeal.nD Cert.FbGradIdeal.τ).loc Cert.FbGradIdeal.main_arg4)
      ∧ r.2.mem ((c.tc : Thread Cert.FbGradIdeal.nD Cert.FbGradIdeal.τ).loc Cert.FbGradIdeal.main_arg5) = m ((c.tc : Thread Cert.FbGradIdeal.nD Cert.FbGradIdeal.τ).loc Cert.FbGradIdeal.main_arg5)
      ∧ r.2.mem ((c.tc : Thread Cert.FbGradIdeal.nD Cert.FbGradIdeal.τ).loc Cert.FbGradIdeal.main_arg6) = m ((c.tc : Thread Cert.FbGradIdeal.nD Cert.FbGradIdeal.τ).loc Cert.FbGradIdeal.main_arg6)
      ∧ r.2.mem ((c.tc : Thread Cert.FbGradIdeal.nD Cert.FbGradIdeal.τ).loc Cert.FbGradIdeal.main_arg7) = m ((c.tc : Thread Cert.FbGradIdeal.nD Cert.FbGradIdeal.τ).loc Cert.FbGradIdeal.main_arg7))
      ∧ r.2.sem = fun _ => 0)

def quiescent_FbGradIdeal_pre_fb_finite [hFbGradIdeal : Cert.FbGradIdeal.Facts] [hPre_fb_finite : Cert.Pre_fb_finite.Facts] : Prop :=
  ∀ (m : (ℓ : Loc Cert.FbGradIdeal.nD Cert.FbGradIdeal.τ Cert.FbGradIdeal.sig) → Buf (Elt Ideal) ℓ) (g : Dev Cert.FbGradIdeal.nD → PrngReg), Pre_FbGradIdeal_fb_finite m →
    θ_run (Cert.FbGradIdeal.defs (F := Ideal)) (onTc (τ := Cert.FbGradIdeal.τ) (Cert.FbGradIdeal.main (F := Ideal))) ⟨m, fun _ => 0, g⟩ (fun r => (∀ c : Dev Cert.FbGradIdeal.nD,
      r.2.mem ((c.tc : Thread Cert.FbGradIdeal.nD Cert.FbGradIdeal.τ).loc Cert.FbGradIdeal.main_arg0) = m ((c.tc : Thread Cert.FbGradIdeal.nD Cert.FbGradIdeal.τ).loc Cert.FbGradIdeal.main_arg0)
      ∧ r.2.mem ((c.tc : Thread Cert.FbGradIdeal.nD Cert.FbGradIdeal.τ).loc Cert.FbGradIdeal.main_arg1) = m ((c.tc : Thread Cert.FbGradIdeal.nD Cert.FbGradIdeal.τ).loc Cert.FbGradIdeal.main_arg1)
      ∧ r.2.mem ((c.tc : Thread Cert.FbGradIdeal.nD Cert.FbGradIdeal.τ).loc Cert.FbGradIdeal.main_arg2) = m ((c.tc : Thread Cert.FbGradIdeal.nD Cert.FbGradIdeal.τ).loc Cert.FbGradIdeal.main_arg2)
      ∧ r.2.mem ((c.tc : Thread Cert.FbGradIdeal.nD Cert.FbGradIdeal.τ).loc Cert.FbGradIdeal.main_arg3) = m ((c.tc : Thread Cert.FbGradIdeal.nD Cert.FbGradIdeal.τ).loc Cert.FbGradIdeal.main_arg3)
      ∧ r.2.mem ((c.tc : Thread Cert.FbGradIdeal.nD Cert.FbGradIdeal.τ).loc Cert.FbGradIdeal.main_arg4) = m ((c.tc : Thread Cert.FbGradIdeal.nD Cert.FbGradIdeal.τ).loc Cert.FbGradIdeal.main_arg4)
      ∧ r.2.mem ((c.tc : Thread Cert.FbGradIdeal.nD Cert.FbGradIdeal.τ).loc Cert.FbGradIdeal.main_arg5) = m ((c.tc : Thread Cert.FbGradIdeal.nD Cert.FbGradIdeal.τ).loc Cert.FbGradIdeal.main_arg5)
      ∧ r.2.mem ((c.tc : Thread Cert.FbGradIdeal.nD Cert.FbGradIdeal.τ).loc Cert.FbGradIdeal.main_arg6) = m ((c.tc : Thread Cert.FbGradIdeal.nD Cert.FbGradIdeal.τ).loc Cert.FbGradIdeal.main_arg6)
      ∧ r.2.mem ((c.tc : Thread Cert.FbGradIdeal.nD Cert.FbGradIdeal.τ).loc Cert.FbGradIdeal.main_arg7) = m ((c.tc : Thread Cert.FbGradIdeal.nD Cert.FbGradIdeal.τ).loc Cert.FbGradIdeal.main_arg7))
      ∧ r.2.sem = fun _ => 0)

def quiescent_LhBwd [hLhBwd : Cert.LhBwd.Facts] : Prop :=
  ∀ (m : (ℓ : Loc Cert.LhBwd.nD Cert.LhBwd.τ Cert.LhBwd.sig) → Buf (Elt Bits) ℓ) (g : Dev Cert.LhBwd.nD → PrngReg), Pre_LhBwd m →
    θ_run (Cert.LhBwd.defs (F := Bits)) (onTc (τ := Cert.LhBwd.τ) (Cert.LhBwd.main (F := Bits))) ⟨m, fun _ => 0, g⟩ (fun r => (∀ c : Dev Cert.LhBwd.nD,
      r.2.mem ((c.tc : Thread Cert.LhBwd.nD Cert.LhBwd.τ).loc Cert.LhBwd.main_arg0) = m ((c.tc : Thread Cert.LhBwd.nD Cert.LhBwd.τ).loc Cert.LhBwd.main_arg0)
      ∧ r.2.mem ((c.tc : Thread Cert.LhBwd.nD Cert.LhBwd.τ).loc Cert.LhBwd.main_arg1) = m ((c.tc : Thread Cert.LhBwd.nD Cert.LhBwd.τ).loc Cert.LhBwd.main_arg1))
      ∧ r.2.sem = fun _ => 0)

def quiescent_LhBwdIdeal [hLhBwdIdeal : Cert.LhBwdIdeal.Facts] : Prop :=
  ∀ (m : (ℓ : Loc Cert.LhBwdIdeal.nD Cert.LhBwdIdeal.τ Cert.LhBwdIdeal.sig) → Buf (Elt Ideal) ℓ) (g : Dev Cert.LhBwdIdeal.nD → PrngReg), Pre_LhBwdIdeal m →
    θ_run (Cert.LhBwdIdeal.defs (F := Ideal)) (onTc (τ := Cert.LhBwdIdeal.τ) (Cert.LhBwdIdeal.main (F := Ideal))) ⟨m, fun _ => 0, g⟩ (fun r => (∀ c : Dev Cert.LhBwdIdeal.nD,
      r.2.mem ((c.tc : Thread Cert.LhBwdIdeal.nD Cert.LhBwdIdeal.τ).loc Cert.LhBwdIdeal.main_arg0) = m ((c.tc : Thread Cert.LhBwdIdeal.nD Cert.LhBwdIdeal.τ).loc Cert.LhBwdIdeal.main_arg0)
      ∧ r.2.mem ((c.tc : Thread Cert.LhBwdIdeal.nD Cert.LhBwdIdeal.τ).loc Cert.LhBwdIdeal.main_arg1) = m ((c.tc : Thread Cert.LhBwdIdeal.nD Cert.LhBwdIdeal.τ).loc Cert.LhBwdIdeal.main_arg1))
      ∧ r.2.sem = fun _ => 0)

def quiescent_LhGradIdeal [hLhGradIdeal : Cert.LhGradIdeal.Facts] : Prop :=
  ∀ (m : (ℓ : Loc Cert.LhGradIdeal.nD Cert.LhGradIdeal.τ Cert.LhGradIdeal.sig) → Buf (Elt Ideal) ℓ) (g : Dev Cert.LhGradIdeal.nD → PrngReg), Pre_LhGradIdeal m →
    θ_run (Cert.LhGradIdeal.defs (F := Ideal)) (onTc (τ := Cert.LhGradIdeal.τ) (Cert.LhGradIdeal.main (F := Ideal))) ⟨m, fun _ => 0, g⟩ (fun r => (∀ c : Dev Cert.LhGradIdeal.nD,
      r.2.mem ((c.tc : Thread Cert.LhGradIdeal.nD Cert.LhGradIdeal.τ).loc Cert.LhGradIdeal.main_arg0) = m ((c.tc : Thread Cert.LhGradIdeal.nD Cert.LhGradIdeal.τ).loc Cert.LhGradIdeal.main_arg0)
      ∧ r.2.mem ((c.tc : Thread Cert.LhGradIdeal.nD Cert.LhGradIdeal.τ).loc Cert.LhGradIdeal.main_arg1) = m ((c.tc : Thread Cert.LhGradIdeal.nD Cert.LhGradIdeal.τ).loc Cert.LhGradIdeal.main_arg1))
      ∧ r.2.sem = fun _ => 0)

def quiescent_BvBwd [hBvBwd : Cert.BvBwd.Facts] : Prop :=
  ∀ (m : (ℓ : Loc Cert.BvBwd.nD Cert.BvBwd.τ Cert.BvBwd.sig) → Buf (Elt Bits) ℓ) (g : Dev Cert.BvBwd.nD → PrngReg), Pre_BvBwd m →
    θ_run (Cert.BvBwd.defs (F := Bits)) (onTc (τ := Cert.BvBwd.τ) (Cert.BvBwd.main (F := Bits))) ⟨m, fun _ => 0, g⟩ (fun r => (∀ c : Dev Cert.BvBwd.nD,
      r.2.mem ((c.tc : Thread Cert.BvBwd.nD Cert.BvBwd.τ).loc Cert.BvBwd.main_arg0) = m ((c.tc : Thread Cert.BvBwd.nD Cert.BvBwd.τ).loc Cert.BvBwd.main_arg0))
      ∧ r.2.sem = fun _ => 0)

def quiescent_BvBwdIdeal [hBvBwdIdeal : Cert.BvBwdIdeal.Facts] : Prop :=
  ∀ (m : (ℓ : Loc Cert.BvBwdIdeal.nD Cert.BvBwdIdeal.τ Cert.BvBwdIdeal.sig) → Buf (Elt Ideal) ℓ) (g : Dev Cert.BvBwdIdeal.nD → PrngReg), Pre_BvBwdIdeal m →
    θ_run (Cert.BvBwdIdeal.defs (F := Ideal)) (onTc (τ := Cert.BvBwdIdeal.τ) (Cert.BvBwdIdeal.main (F := Ideal))) ⟨m, fun _ => 0, g⟩ (fun r => (∀ c : Dev Cert.BvBwdIdeal.nD,
      r.2.mem ((c.tc : Thread Cert.BvBwdIdeal.nD Cert.BvBwdIdeal.τ).loc Cert.BvBwdIdeal.main_arg0) = m ((c.tc : Thread Cert.BvBwdIdeal.nD Cert.BvBwdIdeal.τ).loc Cert.BvBwdIdeal.main_arg0))
      ∧ r.2.sem = fun _ => 0)

def quiescent_BvGradIdeal [hBvGradIdeal : Cert.BvGradIdeal.Facts] : Prop :=
  ∀ (m : (ℓ : Loc Cert.BvGradIdeal.nD Cert.BvGradIdeal.τ Cert.BvGradIdeal.sig) → Buf (Elt Ideal) ℓ) (g : Dev Cert.BvGradIdeal.nD → PrngReg), Pre_BvGradIdeal m →
    θ_run (Cert.BvGradIdeal.defs (F := Ideal)) (onTc (τ := Cert.BvGradIdeal.τ) (Cert.BvGradIdeal.main (F := Ideal))) ⟨m, fun _ => 0, g⟩ (fun r => (∀ c : Dev Cert.BvGradIdeal.nD,
      r.2.mem ((c.tc : Thread Cert.BvGradIdeal.nD Cert.BvGradIdeal.τ).loc Cert.BvGradIdeal.main_arg0) = m ((c.tc : Thread Cert.BvGradIdeal.nD Cert.BvGradIdeal.τ).loc Cert.BvGradIdeal.main_arg0))
      ∧ r.2.sem = fun _ => 0)

def quiescent_AfFwd [hAfFwd : Cert.AfFwd.Facts] : Prop :=
  ∀ (m : (ℓ : Loc Cert.AfFwd.nD Cert.AfFwd.τ Cert.AfFwd.sig) → Buf (Elt Bits) ℓ) (g : Dev Cert.AfFwd.nD → PrngReg), Pre_AfFwd m →
    θ_run (Cert.AfFwd.defs (F := Bits)) (onTc (τ := Cert.AfFwd.τ) (Cert.AfFwd.main (F := Bits))) ⟨m, fun _ => 0, g⟩ (fun r => (∀ c : Dev Cert.AfFwd.nD,
      r.2.mem ((c.tc : Thread Cert.AfFwd.nD Cert.AfFwd.τ).loc Cert.AfFwd.main_arg0) = m ((c.tc : Thread Cert.AfFwd.nD Cert.AfFwd.τ).loc Cert.AfFwd.main_arg0)
      ∧ r.2.mem ((c.tc : Thread Cert.AfFwd.nD Cert.AfFwd.τ).loc Cert.AfFwd.main_arg1) = m ((c.tc : Thread Cert.AfFwd.nD Cert.AfFwd.τ).loc Cert.AfFwd.main_arg1))
      ∧ r.2.sem = fun _ => 0)

def quiescent_AfFwdIdeal [hAfFwdIdeal : Cert.AfFwdIdeal.Facts] : Prop :=
  ∀ (m : (ℓ : Loc Cert.AfFwdIdeal.nD Cert.AfFwdIdeal.τ Cert.AfFwdIdeal.sig) → Buf (Elt Ideal) ℓ) (g : Dev Cert.AfFwdIdeal.nD → PrngReg), Pre_AfFwdIdeal m →
    θ_run (Cert.AfFwdIdeal.defs (F := Ideal)) (onTc (τ := Cert.AfFwdIdeal.τ) (Cert.AfFwdIdeal.main (F := Ideal))) ⟨m, fun _ => 0, g⟩ (fun r => (∀ c : Dev Cert.AfFwdIdeal.nD,
      r.2.mem ((c.tc : Thread Cert.AfFwdIdeal.nD Cert.AfFwdIdeal.τ).loc Cert.AfFwdIdeal.main_arg0) = m ((c.tc : Thread Cert.AfFwdIdeal.nD Cert.AfFwdIdeal.τ).loc Cert.AfFwdIdeal.main_arg0)
      ∧ r.2.mem ((c.tc : Thread Cert.AfFwdIdeal.nD Cert.AfFwdIdeal.τ).loc Cert.AfFwdIdeal.main_arg1) = m ((c.tc : Thread Cert.AfFwdIdeal.nD Cert.AfFwdIdeal.τ).loc Cert.AfFwdIdeal.main_arg1))
      ∧ r.2.sem = fun _ => 0)

def quiescent_AfFwdIdeal_pre_af_finite [hAfFwdIdeal : Cert.AfFwdIdeal.Facts] [hPre_af_finite : Cert.Pre_af_finite.Facts] : Prop :=
  ∀ (m : (ℓ : Loc Cert.AfFwdIdeal.nD Cert.AfFwdIdeal.τ Cert.AfFwdIdeal.sig) → Buf (Elt Ideal) ℓ) (g : Dev Cert.AfFwdIdeal.nD → PrngReg), Pre_AfFwdIdeal_af_finite m →
    θ_run (Cert.AfFwdIdeal.defs (F := Ideal)) (onTc (τ := Cert.AfFwdIdeal.τ) (Cert.AfFwdIdeal.main (F := Ideal))) ⟨m, fun _ => 0, g⟩ (fun r => (∀ c : Dev Cert.AfFwdIdeal.nD,
      r.2.mem ((c.tc : Thread Cert.AfFwdIdeal.nD Cert.AfFwdIdeal.τ).loc Cert.AfFwdIdeal.main_arg0) = m ((c.tc : Thread Cert.AfFwdIdeal.nD Cert.AfFwdIdeal.τ).loc Cert.AfFwdIdeal.main_arg0)
      ∧ r.2.mem ((c.tc : Thread Cert.AfFwdIdeal.nD Cert.AfFwdIdeal.τ).loc Cert.AfFwdIdeal.main_arg1) = m ((c.tc : Thread Cert.AfFwdIdeal.nD Cert.AfFwdIdeal.τ).loc Cert.AfFwdIdeal.main_arg1))
      ∧ r.2.sem = fun _ => 0)

def quiescent_AfFormIdeal [hAfFormIdeal : Cert.AfFormIdeal.Facts] : Prop :=
  ∀ (m : (ℓ : Loc Cert.AfFormIdeal.nD Cert.AfFormIdeal.τ Cert.AfFormIdeal.sig) → Buf (Elt Ideal) ℓ) (g : Dev Cert.AfFormIdeal.nD → PrngReg), Pre_AfFormIdeal m →
    θ_run (Cert.AfFormIdeal.defs (F := Ideal)) (onTc (τ := Cert.AfFormIdeal.τ) (Cert.AfFormIdeal.main (F := Ideal))) ⟨m, fun _ => 0, g⟩ (fun r => (∀ c : Dev Cert.AfFormIdeal.nD,
      r.2.mem ((c.tc : Thread Cert.AfFormIdeal.nD Cert.AfFormIdeal.τ).loc Cert.AfFormIdeal.main_arg0) = m ((c.tc : Thread Cert.AfFormIdeal.nD Cert.AfFormIdeal.τ).loc Cert.AfFormIdeal.main_arg0)
      ∧ r.2.mem ((c.tc : Thread Cert.AfFormIdeal.nD Cert.AfFormIdeal.τ).loc Cert.AfFormIdeal.main_arg1) = m ((c.tc : Thread Cert.AfFormIdeal.nD Cert.AfFormIdeal.τ).loc Cert.AfFormIdeal.main_arg1))
      ∧ r.2.sem = fun _ => 0)

def quiescent_AfFormIdeal_pre_af_finite [hAfFormIdeal : Cert.AfFormIdeal.Facts] [hPre_af_finite : Cert.Pre_af_finite.Facts] : Prop :=
  ∀ (m : (ℓ : Loc Cert.AfFormIdeal.nD Cert.AfFormIdeal.τ Cert.AfFormIdeal.sig) → Buf (Elt Ideal) ℓ) (g : Dev Cert.AfFormIdeal.nD → PrngReg), Pre_AfFormIdeal_af_finite m →
    θ_run (Cert.AfFormIdeal.defs (F := Ideal)) (onTc (τ := Cert.AfFormIdeal.τ) (Cert.AfFormIdeal.main (F := Ideal))) ⟨m, fun _ => 0, g⟩ (fun r => (∀ c : Dev Cert.AfFormIdeal.nD,
      r.2.mem ((c.tc : Thread Cert.AfFormIdeal.nD Cert.AfFormIdeal.τ).loc Cert.AfFormIdeal.main_arg0) = m ((c.tc : Thread Cert.AfFormIdeal.nD Cert.AfFormIdeal.τ).loc Cert.AfFormIdeal.main_arg0)
      ∧ r.2.mem ((c.tc : Thread Cert.AfFormIdeal.nD Cert.AfFormIdeal.τ).loc Cert.AfFormIdeal.main_arg1) = m ((c.tc : Thread Cert.AfFormIdeal.nD Cert.AfFormIdeal.τ).loc Cert.AfFormIdeal.main_arg1))
      ∧ r.2.sem = fun _ => 0)

def quiescent_SfFwd [hSfFwd : Cert.SfFwd.Facts] : Prop :=
  ∀ (m : (ℓ : Loc Cert.SfFwd.nD Cert.SfFwd.τ Cert.SfFwd.sig) → Buf (Elt Bits) ℓ) (g : Dev Cert.SfFwd.nD → PrngReg), Pre_SfFwd m →
    θ_run (Cert.SfFwd.defs (F := Bits)) (onTc (τ := Cert.SfFwd.τ) (Cert.SfFwd.main (F := Bits))) ⟨m, fun _ => 0, g⟩ (fun r => (∀ c : Dev Cert.SfFwd.nD,
      r.2.mem ((c.tc : Thread Cert.SfFwd.nD Cert.SfFwd.τ).loc Cert.SfFwd.main_arg0) = m ((c.tc : Thread Cert.SfFwd.nD Cert.SfFwd.τ).loc Cert.SfFwd.main_arg0))
      ∧ r.2.sem = fun _ => 0)

def quiescent_SfFwdIdeal [hSfFwdIdeal : Cert.SfFwdIdeal.Facts] : Prop :=
  ∀ (m : (ℓ : Loc Cert.SfFwdIdeal.nD Cert.SfFwdIdeal.τ Cert.SfFwdIdeal.sig) → Buf (Elt Ideal) ℓ) (g : Dev Cert.SfFwdIdeal.nD → PrngReg), Pre_SfFwdIdeal m →
    θ_run (Cert.SfFwdIdeal.defs (F := Ideal)) (onTc (τ := Cert.SfFwdIdeal.τ) (Cert.SfFwdIdeal.main (F := Ideal))) ⟨m, fun _ => 0, g⟩ (fun r => (∀ c : Dev Cert.SfFwdIdeal.nD,
      r.2.mem ((c.tc : Thread Cert.SfFwdIdeal.nD Cert.SfFwdIdeal.τ).loc Cert.SfFwdIdeal.main_arg0) = m ((c.tc : Thread Cert.SfFwdIdeal.nD Cert.SfFwdIdeal.τ).loc Cert.SfFwdIdeal.main_arg0))
      ∧ r.2.sem = fun _ => 0)

def quiescent_SfFwdIdeal_pre_sf_finite [hSfFwdIdeal : Cert.SfFwdIdeal.Facts] [hPre_sf_finite : Cert.Pre_sf_finite.Facts] : Prop :=
  ∀ (m : (ℓ : Loc Cert.SfFwdIdeal.nD Cert.SfFwdIdeal.τ Cert.SfFwdIdeal.sig) → Buf (Elt Ideal) ℓ) (g : Dev Cert.SfFwdIdeal.nD → PrngReg), Pre_SfFwdIdeal_sf_finite m →
    θ_run (Cert.SfFwdIdeal.defs (F := Ideal)) (onTc (τ := Cert.SfFwdIdeal.τ) (Cert.SfFwdIdeal.main (F := Ideal))) ⟨m, fun _ => 0, g⟩ (fun r => (∀ c : Dev Cert.SfFwdIdeal.nD,
      r.2.mem ((c.tc : Thread Cert.SfFwdIdeal.nD Cert.SfFwdIdeal.τ).loc Cert.SfFwdIdeal.main_arg0) = m ((c.tc : Thread Cert.SfFwdIdeal.nD Cert.SfFwdIdeal.τ).loc Cert.SfFwdIdeal.main_arg0))
      ∧ r.2.sem = fun _ => 0)

def quiescent_SfFormIdeal [hSfFormIdeal : Cert.SfFormIdeal.Facts] : Prop :=
  ∀ (m : (ℓ : Loc Cert.SfFormIdeal.nD Cert.SfFormIdeal.τ Cert.SfFormIdeal.sig) → Buf (Elt Ideal) ℓ) (g : Dev Cert.SfFormIdeal.nD → PrngReg), Pre_SfFormIdeal m →
    θ_run (Cert.SfFormIdeal.defs (F := Ideal)) (onTc (τ := Cert.SfFormIdeal.τ) (Cert.SfFormIdeal.main (F := Ideal))) ⟨m, fun _ => 0, g⟩ (fun r => (∀ c : Dev Cert.SfFormIdeal.nD,
      r.2.mem ((c.tc : Thread Cert.SfFormIdeal.nD Cert.SfFormIdeal.τ).loc Cert.SfFormIdeal.main_arg0) = m ((c.tc : Thread Cert.SfFormIdeal.nD Cert.SfFormIdeal.τ).loc Cert.SfFormIdeal.main_arg0))
      ∧ r.2.sem = fun _ => 0)

def quiescent_SfFormIdeal_pre_sf_finite [hSfFormIdeal : Cert.SfFormIdeal.Facts] [hPre_sf_finite : Cert.Pre_sf_finite.Facts] : Prop :=
  ∀ (m : (ℓ : Loc Cert.SfFormIdeal.nD Cert.SfFormIdeal.τ Cert.SfFormIdeal.sig) → Buf (Elt Ideal) ℓ) (g : Dev Cert.SfFormIdeal.nD → PrngReg), Pre_SfFormIdeal_sf_finite m →
    θ_run (Cert.SfFormIdeal.defs (F := Ideal)) (onTc (τ := Cert.SfFormIdeal.τ) (Cert.SfFormIdeal.main (F := Ideal))) ⟨m, fun _ => 0, g⟩ (fun r => (∀ c : Dev Cert.SfFormIdeal.nD,
      r.2.mem ((c.tc : Thread Cert.SfFormIdeal.nD Cert.SfFormIdeal.τ).loc Cert.SfFormIdeal.main_arg0) = m ((c.tc : Thread Cert.SfFormIdeal.nD Cert.SfFormIdeal.τ).loc Cert.SfFormIdeal.main_arg0))
      ∧ r.2.sem = fun _ => 0)

def quiescent_MlFwd [hMlFwd : Cert.MlFwd.Facts] : Prop :=
  ∀ (m : (ℓ : Loc Cert.MlFwd.nD Cert.MlFwd.τ Cert.MlFwd.sig) → Buf (Elt Bits) ℓ) (g : Dev Cert.MlFwd.nD → PrngReg), Pre_MlFwd m →
    θ_run (Cert.MlFwd.defs (F := Bits)) (onTc (τ := Cert.MlFwd.τ) (Cert.MlFwd.main (F := Bits))) ⟨m, fun _ => 0, g⟩ (fun r => (∀ c : Dev Cert.MlFwd.nD,
      r.2.mem ((c.tc : Thread Cert.MlFwd.nD Cert.MlFwd.τ).loc Cert.MlFwd.main_arg0) = m ((c.tc : Thread Cert.MlFwd.nD Cert.MlFwd.τ).loc Cert.MlFwd.main_arg0)
      ∧ r.2.mem ((c.tc : Thread Cert.MlFwd.nD Cert.MlFwd.τ).loc Cert.MlFwd.main_arg1) = m ((c.tc : Thread Cert.MlFwd.nD Cert.MlFwd.τ).loc Cert.MlFwd.main_arg1)
      ∧ r.2.mem ((c.tc : Thread Cert.MlFwd.nD Cert.MlFwd.τ).loc Cert.MlFwd.main_arg2) = m ((c.tc : Thread Cert.MlFwd.nD Cert.MlFwd.τ).loc Cert.MlFwd.main_arg2)
      ∧ r.2.mem ((c.tc : Thread Cert.MlFwd.nD Cert.MlFwd.τ).loc Cert.MlFwd.main_arg3) = m ((c.tc : Thread Cert.MlFwd.nD Cert.MlFwd.τ).loc Cert.MlFwd.main_arg3)
      ∧ r.2.mem ((c.tc : Thread Cert.MlFwd.nD Cert.MlFwd.τ).loc Cert.MlFwd.main_arg4) = m ((c.tc : Thread Cert.MlFwd.nD Cert.MlFwd.τ).loc Cert.MlFwd.main_arg4))
      ∧ r.2.sem = fun _ => 0)

def quiescent_MlFwdIdeal [hMlFwdIdeal : Cert.MlFwdIdeal.Facts] : Prop :=
  ∀ (m : (ℓ : Loc Cert.MlFwdIdeal.nD Cert.MlFwdIdeal.τ Cert.MlFwdIdeal.sig) → Buf (Elt Ideal) ℓ) (g : Dev Cert.MlFwdIdeal.nD → PrngReg), Pre_MlFwdIdeal m →
    θ_run (Cert.MlFwdIdeal.defs (F := Ideal)) (onTc (τ := Cert.MlFwdIdeal.τ) (Cert.MlFwdIdeal.main (F := Ideal))) ⟨m, fun _ => 0, g⟩ (fun r => (∀ c : Dev Cert.MlFwdIdeal.nD,
      r.2.mem ((c.tc : Thread Cert.MlFwdIdeal.nD Cert.MlFwdIdeal.τ).loc Cert.MlFwdIdeal.main_arg0) = m ((c.tc : Thread Cert.MlFwdIdeal.nD Cert.MlFwdIdeal.τ).loc Cert.MlFwdIdeal.main_arg0)
      ∧ r.2.mem ((c.tc : Thread Cert.MlFwdIdeal.nD Cert.MlFwdIdeal.τ).loc Cert.MlFwdIdeal.main_arg1) = m ((c.tc : Thread Cert.MlFwdIdeal.nD Cert.MlFwdIdeal.τ).loc Cert.MlFwdIdeal.main_arg1)
      ∧ r.2.mem ((c.tc : Thread Cert.MlFwdIdeal.nD Cert.MlFwdIdeal.τ).loc Cert.MlFwdIdeal.main_arg2) = m ((c.tc : Thread Cert.MlFwdIdeal.nD Cert.MlFwdIdeal.τ).loc Cert.MlFwdIdeal.main_arg2)
      ∧ r.2.mem ((c.tc : Thread Cert.MlFwdIdeal.nD Cert.MlFwdIdeal.τ).loc Cert.MlFwdIdeal.main_arg3) = m ((c.tc : Thread Cert.MlFwdIdeal.nD Cert.MlFwdIdeal.τ).loc Cert.MlFwdIdeal.main_arg3)
      ∧ r.2.mem ((c.tc : Thread Cert.MlFwdIdeal.nD Cert.MlFwdIdeal.τ).loc Cert.MlFwdIdeal.main_arg4) = m ((c.tc : Thread Cert.MlFwdIdeal.nD Cert.MlFwdIdeal.τ).loc Cert.MlFwdIdeal.main_arg4))
      ∧ r.2.sem = fun _ => 0)

def quiescent_MlFormIdeal [hMlFormIdeal : Cert.MlFormIdeal.Facts] : Prop :=
  ∀ (m : (ℓ : Loc Cert.MlFormIdeal.nD Cert.MlFormIdeal.τ Cert.MlFormIdeal.sig) → Buf (Elt Ideal) ℓ) (g : Dev Cert.MlFormIdeal.nD → PrngReg), Pre_MlFormIdeal m →
    θ_run (Cert.MlFormIdeal.defs (F := Ideal)) (onTc (τ := Cert.MlFormIdeal.τ) (Cert.MlFormIdeal.main (F := Ideal))) ⟨m, fun _ => 0, g⟩ (fun r => (∀ c : Dev Cert.MlFormIdeal.nD,
      r.2.mem ((c.tc : Thread Cert.MlFormIdeal.nD Cert.MlFormIdeal.τ).loc Cert.MlFormIdeal.main_arg0) = m ((c.tc : Thread Cert.MlFormIdeal.nD Cert.MlFormIdeal.τ).loc Cert.MlFormIdeal.main_arg0)
      ∧ r.2.mem ((c.tc : Thread Cert.MlFormIdeal.nD Cert.MlFormIdeal.τ).loc Cert.MlFormIdeal.main_arg1) = m ((c.tc : Thread Cert.MlFormIdeal.nD Cert.MlFormIdeal.τ).loc Cert.MlFormIdeal.main_arg1)
      ∧ r.2.mem ((c.tc : Thread Cert.MlFormIdeal.nD Cert.MlFormIdeal.τ).loc Cert.MlFormIdeal.main_arg2) = m ((c.tc : Thread Cert.MlFormIdeal.nD Cert.MlFormIdeal.τ).loc Cert.MlFormIdeal.main_arg2)
      ∧ r.2.mem ((c.tc : Thread Cert.MlFormIdeal.nD Cert.MlFormIdeal.τ).loc Cert.MlFormIdeal.main_arg3) = m ((c.tc : Thread Cert.MlFormIdeal.nD Cert.MlFormIdeal.τ).loc Cert.MlFormIdeal.main_arg3)
      ∧ r.2.mem ((c.tc : Thread Cert.MlFormIdeal.nD Cert.MlFormIdeal.τ).loc Cert.MlFormIdeal.main_arg4) = m ((c.tc : Thread Cert.MlFormIdeal.nD Cert.MlFormIdeal.τ).loc Cert.MlFormIdeal.main_arg4))
      ∧ r.2.sem = fun _ => 0)

def quiescent_FuFwd [hFuFwd : Cert.FuFwd.Facts] : Prop :=
  ∀ (m : (ℓ : Loc Cert.FuFwd.nD Cert.FuFwd.τ Cert.FuFwd.sig) → Buf (Elt Bits) ℓ) (g : Dev Cert.FuFwd.nD → PrngReg), Pre_FuFwd m →
    θ_run (Cert.FuFwd.defs (F := Bits)) (onTc (τ := Cert.FuFwd.τ) (Cert.FuFwd.main (F := Bits))) ⟨m, fun _ => 0, g⟩ (fun r => (∀ c : Dev Cert.FuFwd.nD,
      r.2.mem ((c.tc : Thread Cert.FuFwd.nD Cert.FuFwd.τ).loc Cert.FuFwd.main_arg0) = m ((c.tc : Thread Cert.FuFwd.nD Cert.FuFwd.τ).loc Cert.FuFwd.main_arg0)
      ∧ r.2.mem ((c.tc : Thread Cert.FuFwd.nD Cert.FuFwd.τ).loc Cert.FuFwd.main_arg1) = m ((c.tc : Thread Cert.FuFwd.nD Cert.FuFwd.τ).loc Cert.FuFwd.main_arg1)
      ∧ r.2.mem ((c.tc : Thread Cert.FuFwd.nD Cert.FuFwd.τ).loc Cert.FuFwd.main_arg2) = m ((c.tc : Thread Cert.FuFwd.nD Cert.FuFwd.τ).loc Cert.FuFwd.main_arg2))
      ∧ r.2.sem = fun _ => 0)

def quiescent_FuFwdIdeal [hFuFwdIdeal : Cert.FuFwdIdeal.Facts] : Prop :=
  ∀ (m : (ℓ : Loc Cert.FuFwdIdeal.nD Cert.FuFwdIdeal.τ Cert.FuFwdIdeal.sig) → Buf (Elt Ideal) ℓ) (g : Dev Cert.FuFwdIdeal.nD → PrngReg), Pre_FuFwdIdeal m →
    θ_run (Cert.FuFwdIdeal.defs (F := Ideal)) (onTc (τ := Cert.FuFwdIdeal.τ) (Cert.FuFwdIdeal.main (F := Ideal))) ⟨m, fun _ => 0, g⟩ (fun r => (∀ c : Dev Cert.FuFwdIdeal.nD,
      r.2.mem ((c.tc : Thread Cert.FuFwdIdeal.nD Cert.FuFwdIdeal.τ).loc Cert.FuFwdIdeal.main_arg0) = m ((c.tc : Thread Cert.FuFwdIdeal.nD Cert.FuFwdIdeal.τ).loc Cert.FuFwdIdeal.main_arg0)
      ∧ r.2.mem ((c.tc : Thread Cert.FuFwdIdeal.nD Cert.FuFwdIdeal.τ).loc Cert.FuFwdIdeal.main_arg1) = m ((c.tc : Thread Cert.FuFwdIdeal.nD Cert.FuFwdIdeal.τ).loc Cert.FuFwdIdeal.main_arg1)
      ∧ r.2.mem ((c.tc : Thread Cert.FuFwdIdeal.nD Cert.FuFwdIdeal.τ).loc Cert.FuFwdIdeal.main_arg2) = m ((c.tc : Thread Cert.FuFwdIdeal.nD Cert.FuFwdIdeal.τ).loc Cert.FuFwdIdeal.main_arg2))
      ∧ r.2.sem = fun _ => 0)

def quiescent_FuFormIdeal [hFuFormIdeal : Cert.FuFormIdeal.Facts] : Prop :=
  ∀ (m : (ℓ : Loc Cert.FuFormIdeal.nD Cert.FuFormIdeal.τ Cert.FuFormIdeal.sig) → Buf (Elt Ideal) ℓ) (g : Dev Cert.FuFormIdeal.nD → PrngReg), Pre_FuFormIdeal m →
    θ_run (Cert.FuFormIdeal.defs (F := Ideal)) (onTc (τ := Cert.FuFormIdeal.τ) (Cert.FuFormIdeal.main (F := Ideal))) ⟨m, fun _ => 0, g⟩ (fun r => (∀ c : Dev Cert.FuFormIdeal.nD,
      r.2.mem ((c.tc : Thread Cert.FuFormIdeal.nD Cert.FuFormIdeal.τ).loc Cert.FuFormIdeal.main_arg0) = m ((c.tc : Thread Cert.FuFormIdeal.nD Cert.FuFormIdeal.τ).loc Cert.FuFormIdeal.main_arg0)
      ∧ r.2.mem ((c.tc : Thread Cert.FuFormIdeal.nD Cert.FuFormIdeal.τ).loc Cert.FuFormIdeal.main_arg1) = m ((c.tc : Thread Cert.FuFormIdeal.nD Cert.FuFormIdeal.τ).loc Cert.FuFormIdeal.main_arg1)
      ∧ r.2.mem ((c.tc : Thread Cert.FuFormIdeal.nD Cert.FuFormIdeal.τ).loc Cert.FuFormIdeal.main_arg2) = m ((c.tc : Thread Cert.FuFormIdeal.nD Cert.FuFormIdeal.τ).loc Cert.FuFormIdeal.main_arg2))
      ∧ r.2.sem = fun _ => 0)

def quiescent_BwFwd [hBwFwd : Cert.BwFwd.Facts] : Prop :=
  ∀ (m : (ℓ : Loc Cert.BwFwd.nD Cert.BwFwd.τ Cert.BwFwd.sig) → Buf (Elt Bits) ℓ) (g : Dev Cert.BwFwd.nD → PrngReg), Pre_BwFwd m →
    θ_run (Cert.BwFwd.defs (F := Bits)) (onTc (τ := Cert.BwFwd.τ) (Cert.BwFwd.main (F := Bits))) ⟨m, fun _ => 0, g⟩ (fun r => (∀ c : Dev Cert.BwFwd.nD,
      r.2.mem ((c.tc : Thread Cert.BwFwd.nD Cert.BwFwd.τ).loc Cert.BwFwd.main_arg0) = m ((c.tc : Thread Cert.BwFwd.nD Cert.BwFwd.τ).loc Cert.BwFwd.main_arg0))
      ∧ r.2.sem = fun _ => 0)

def quiescent_BwFwdIdeal [hBwFwdIdeal : Cert.BwFwdIdeal.Facts] : Prop :=
  ∀ (m : (ℓ : Loc Cert.BwFwdIdeal.nD Cert.BwFwdIdeal.τ Cert.BwFwdIdeal.sig) → Buf (Elt Ideal) ℓ) (g : Dev Cert.BwFwdIdeal.nD → PrngReg), Pre_BwFwdIdeal m →
    θ_run (Cert.BwFwdIdeal.defs (F := Ideal)) (onTc (τ := Cert.BwFwdIdeal.τ) (Cert.BwFwdIdeal.main (F := Ideal))) ⟨m, fun _ => 0, g⟩ (fun r => (∀ c : Dev Cert.BwFwdIdeal.nD,
      r.2.mem ((c.tc : Thread Cert.BwFwdIdeal.nD Cert.BwFwdIdeal.τ).loc Cert.BwFwdIdeal.main_arg0) = m ((c.tc : Thread Cert.BwFwdIdeal.nD Cert.BwFwdIdeal.τ).loc Cert.BwFwdIdeal.main_arg0))
      ∧ r.2.sem = fun _ => 0)

def quiescent_BwFormIdeal [hBwFormIdeal : Cert.BwFormIdeal.Facts] : Prop :=
  ∀ (m : (ℓ : Loc Cert.BwFormIdeal.nD Cert.BwFormIdeal.τ Cert.BwFormIdeal.sig) → Buf (Elt Ideal) ℓ) (g : Dev Cert.BwFormIdeal.nD → PrngReg), Pre_BwFormIdeal m →
    θ_run (Cert.BwFormIdeal.defs (F := Ideal)) (onTc (τ := Cert.BwFormIdeal.τ) (Cert.BwFormIdeal.main (F := Ideal))) ⟨m, fun _ => 0, g⟩ (fun r => (∀ c : Dev Cert.BwFormIdeal.nD,
      r.2.mem ((c.tc : Thread Cert.BwFormIdeal.nD Cert.BwFormIdeal.τ).loc Cert.BwFormIdeal.main_arg0) = m ((c.tc : Thread Cert.BwFormIdeal.nD Cert.BwFormIdeal.τ).loc Cert.BwFormIdeal.main_arg0))
      ∧ r.2.sem = fun _ => 0)

def quiescent_PxSwap [hPxSwap : Cert.PxSwap.Facts] : Prop :=
  ∀ (m : (ℓ : Loc Cert.PxSwap.nD Cert.PxSwap.τ Cert.PxSwap.sig) → Buf (Elt Bits) ℓ) (g : Dev Cert.PxSwap.nD → PrngReg), Pre_PxSwap m →
    θ_run (Cert.PxSwap.defs (F := Bits)) (onTc (τ := Cert.PxSwap.τ) (Cert.PxSwap.main (F := Bits))) ⟨m, fun _ => 0, g⟩ (fun r => (∀ c : Dev Cert.PxSwap.nD,
      r.2.mem ((c.tc : Thread Cert.PxSwap.nD Cert.PxSwap.τ).loc Cert.PxSwap.main_arg0) = m ((c.tc : Thread Cert.PxSwap.nD Cert.PxSwap.τ).loc Cert.PxSwap.main_arg0)
      ∧ r.2.mem ((c.tc : Thread Cert.PxSwap.nD Cert.PxSwap.τ).loc Cert.PxSwap.main_arg1) = m ((c.tc : Thread Cert.PxSwap.nD Cert.PxSwap.τ).loc Cert.PxSwap.main_arg1)
      ∧ r.2.mem ((c.tc : Thread Cert.PxSwap.nD Cert.PxSwap.τ).loc Cert.PxSwap.main_arg2) = m ((c.tc : Thread Cert.PxSwap.nD Cert.PxSwap.τ).loc Cert.PxSwap.main_arg2))
      ∧ r.2.sem = fun _ => 0)

def quiescent_PxSwapIdeal [hPxSwapIdeal : Cert.PxSwapIdeal.Facts] : Prop :=
  ∀ (m : (ℓ : Loc Cert.PxSwapIdeal.nD Cert.PxSwapIdeal.τ Cert.PxSwapIdeal.sig) → Buf (Elt Ideal) ℓ) (g : Dev Cert.PxSwapIdeal.nD → PrngReg), Pre_PxSwapIdeal m →
    θ_run (Cert.PxSwapIdeal.defs (F := Ideal)) (onTc (τ := Cert.PxSwapIdeal.τ) (Cert.PxSwapIdeal.main (F := Ideal))) ⟨m, fun _ => 0, g⟩ (fun r => (∀ c : Dev Cert.PxSwapIdeal.nD,
      r.2.mem ((c.tc : Thread Cert.PxSwapIdeal.nD Cert.PxSwapIdeal.τ).loc Cert.PxSwapIdeal.main_arg0) = m ((c.tc : Thread Cert.PxSwapIdeal.nD Cert.PxSwapIdeal.τ).loc Cert.PxSwapIdeal.main_arg0)
      ∧ r.2.mem ((c.tc : Thread Cert.PxSwapIdeal.nD Cert.PxSwapIdeal.τ).loc Cert.PxSwapIdeal.main_arg1) = m ((c.tc : Thread Cert.PxSwapIdeal.nD Cert.PxSwapIdeal.τ).loc Cert.PxSwapIdeal.main_arg1)
      ∧ r.2.mem ((c.tc : Thread Cert.PxSwapIdeal.nD Cert.PxSwapIdeal.τ).loc Cert.PxSwapIdeal.main_arg2) = m ((c.tc : Thread Cert.PxSwapIdeal.nD Cert.PxSwapIdeal.τ).loc Cert.PxSwapIdeal.main_arg2))
      ∧ r.2.sem = fun _ => 0)

def quiescent_PxHalvesIdeal [hPxHalvesIdeal : Cert.PxHalvesIdeal.Facts] : Prop :=
  ∀ (m : (ℓ : Loc Cert.PxHalvesIdeal.nD Cert.PxHalvesIdeal.τ Cert.PxHalvesIdeal.sig) → Buf (Elt Ideal) ℓ) (g : Dev Cert.PxHalvesIdeal.nD → PrngReg), Pre_PxHalvesIdeal m →
    θ_run (Cert.PxHalvesIdeal.defs (F := Ideal)) (onTc (τ := Cert.PxHalvesIdeal.τ) (Cert.PxHalvesIdeal.main (F := Ideal))) ⟨m, fun _ => 0, g⟩ (fun r => (∀ c : Dev Cert.PxHalvesIdeal.nD,
      r.2.mem ((c.tc : Thread Cert.PxHalvesIdeal.nD Cert.PxHalvesIdeal.τ).loc Cert.PxHalvesIdeal.main_arg0) = m ((c.tc : Thread Cert.PxHalvesIdeal.nD Cert.PxHalvesIdeal.τ).loc Cert.PxHalvesIdeal.main_arg0)
      ∧ r.2.mem ((c.tc : Thread Cert.PxHalvesIdeal.nD Cert.PxHalvesIdeal.τ).loc Cert.PxHalvesIdeal.main_arg1) = m ((c.tc : Thread Cert.PxHalvesIdeal.nD Cert.PxHalvesIdeal.τ).loc Cert.PxHalvesIdeal.main_arg1)
      ∧ r.2.mem ((c.tc : Thread Cert.PxHalvesIdeal.nD Cert.PxHalvesIdeal.τ).loc Cert.PxHalvesIdeal.main_arg2) = m ((c.tc : Thread Cert.PxHalvesIdeal.nD Cert.PxHalvesIdeal.τ).loc Cert.PxHalvesIdeal.main_arg2))
      ∧ r.2.sem = fun _ => 0)

def preserves_LnBwd_LnBwdIdeal : Prop :=
  True

def algebraic_LnBwdIdeal_LnGradIdeal_pre_ln_finite [hLnBwdIdeal : Cert.LnBwdIdeal.Facts] [hLnGradIdeal : Cert.LnGradIdeal.Facts] [hPre_ln_finite : Cert.Pre_ln_finite.Facts] : Prop :=
  ∀ (m : (ℓ : Loc Cert.LnBwdIdeal.nD Cert.LnBwdIdeal.τ Cert.LnBwdIdeal.sig) → Buf (Elt Ideal) ℓ) (g : Dev Cert.LnBwdIdeal.nD → PrngReg)
    (m' : (ℓ : Loc Cert.LnGradIdeal.nD Cert.LnGradIdeal.τ Cert.LnGradIdeal.sig) → Buf (Elt Ideal) ℓ) (g' : Dev Cert.LnGradIdeal.nD → PrngReg), Pre_LnBwdIdeal_ln_finite m →
    (∀ c : Dev Cert.LnBwdIdeal.nD,
      m' ((c.tc : Thread Cert.LnGradIdeal.nD Cert.LnGradIdeal.τ).loc Cert.LnGradIdeal.main_arg0) = m ((c.tc : Thread Cert.LnBwdIdeal.nD Cert.LnBwdIdeal.τ).loc Cert.LnBwdIdeal.main_arg0)
      ∧ m' ((c.tc : Thread Cert.LnGradIdeal.nD Cert.LnGradIdeal.τ).loc Cert.LnGradIdeal.main_arg1) = m ((c.tc : Thread Cert.LnBwdIdeal.nD Cert.LnBwdIdeal.τ).loc Cert.LnBwdIdeal.main_arg1)
      ∧ m' ((c.tc : Thread Cert.LnGradIdeal.nD Cert.LnGradIdeal.τ).loc Cert.LnGradIdeal.main_arg2) = m ((c.tc : Thread Cert.LnBwdIdeal.nD Cert.LnBwdIdeal.τ).loc Cert.LnBwdIdeal.main_arg2)
      ∧ m' ((c.tc : Thread Cert.LnGradIdeal.nD Cert.LnGradIdeal.τ).loc Cert.LnGradIdeal.main_arg3) = m ((c.tc : Thread Cert.LnBwdIdeal.nD Cert.LnBwdIdeal.τ).loc Cert.LnBwdIdeal.main_arg3)
      ∧ m' ((c.tc : Thread Cert.LnGradIdeal.nD Cert.LnGradIdeal.τ).loc Cert.LnGradIdeal.main_arg4) = m ((c.tc : Thread Cert.LnBwdIdeal.nD Cert.LnBwdIdeal.τ).loc Cert.LnBwdIdeal.main_arg4)
      ∧ m' ((c.tc : Thread Cert.LnGradIdeal.nD Cert.LnGradIdeal.τ).loc Cert.LnGradIdeal.main_arg5) = m ((c.tc : Thread Cert.LnBwdIdeal.nD Cert.LnBwdIdeal.τ).loc Cert.LnBwdIdeal.main_arg5)) →
    ∃ (v0 : (c : Dev Cert.LnBwdIdeal.nD) → Buf (Elt Ideal) ((c.tc : Thread Cert.LnBwdIdeal.nD Cert.LnBwdIdeal.τ).loc Cert.LnBwdIdeal.main_v22_0)) (v1 : (c : Dev Cert.LnBwdIdeal.nD) → Buf (Elt Ideal) ((c.tc : Thread Cert.LnBwdIdeal.nD Cert.LnBwdIdeal.τ).loc Cert.LnBwdIdeal.main_v22_1)) (v2 : (c : Dev Cert.LnBwdIdeal.nD) → Buf (Elt Ideal) ((c.tc : Thread Cert.LnBwdIdeal.nD Cert.LnBwdIdeal.τ).loc Cert.LnBwdIdeal.main_v22_2)) (v3 : (c : Dev Cert.LnBwdIdeal.nD) → Buf (Elt Ideal) ((c.tc : Thread Cert.LnBwdIdeal.nD Cert.LnBwdIdeal.τ).loc Cert.LnBwdIdeal.main_v22_3)),
      θ_run (Cert.LnBwdIdeal.defs (F := Ideal)) (onTc (τ := Cert.LnBwdIdeal.τ) (Cert.LnBwdIdeal.main (F := Ideal))) ⟨m, fun _ => 0, g⟩ (fun r => ∀ c : Dev Cert.LnBwdIdeal.nD,
          r.2.mem ((c.tc : Thread Cert.LnBwdIdeal.nD Cert.LnBwdIdeal.τ).loc Cert.LnBwdIdeal.main_v22_0) = v0 c
          ∧ r.2.mem ((c.tc : Thread Cert.LnBwdIdeal.nD Cert.LnBwdIdeal.τ).loc Cert.LnBwdIdeal.main_v22_1) = v1 c
          ∧ r.2.mem ((c.tc : Thread Cert.LnBwdIdeal.nD Cert.LnBwdIdeal.τ).loc Cert.LnBwdIdeal.main_v22_2) = v2 c
          ∧ r.2.mem ((c.tc : Thread Cert.LnBwdIdeal.nD Cert.LnBwdIdeal.τ).loc Cert.LnBwdIdeal.main_v22_3) = v3 c
          ∧ r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
          ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
          ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
          ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3)
          ∧ r.2.mem ((c.tc : Thread Cert.LnBwdIdeal.nD Cert.LnBwdIdeal.τ).loc Cert.LnBwdIdeal.main_arg4) = m ((c.tc : Thread Cert.LnBwdIdeal.nD Cert.LnBwdIdeal.τ).loc Cert.LnBwdIdeal.main_arg4)
          ∧ r.2.mem ((c.tc : Thread Cert.LnBwdIdeal.nD Cert.LnBwdIdeal.τ).loc Cert.LnBwdIdeal.main_arg5) = m ((c.tc : Thread Cert.LnBwdIdeal.nD Cert.LnBwdIdeal.τ).loc Cert.LnBwdIdeal.main_arg5))
      ∧ θ_run (Cert.LnGradIdeal.defs (F := Ideal)) (onTc (τ := Cert.LnGradIdeal.τ) (Cert.LnGradIdeal.main (F := Ideal))) ⟨m', fun _ => 0, g'⟩ (fun r => ∀ c : Dev Cert.LnGradIdeal.nD,
          r.2.mem ((c.tc : Thread Cert.LnGradIdeal.nD Cert.LnGradIdeal.τ).loc Cert.LnGradIdeal.main_v68) = v0 c
          ∧ r.2.mem ((c.tc : Thread Cert.LnGradIdeal.nD Cert.LnGradIdeal.τ).loc Cert.LnGradIdeal.main_v71) = v1 c
          ∧ r.2.mem ((c.tc : Thread Cert.LnGradIdeal.nD Cert.LnGradIdeal.τ).loc Cert.LnGradIdeal.main_v73) = v2 c
          ∧ r.2.mem ((c.tc : Thread Cert.LnGradIdeal.nD Cert.LnGradIdeal.τ).loc Cert.LnGradIdeal.main_v75) = v3 c
          ∧ r.2.mem ((c.tc : Thread Cert.LnGradIdeal.nD Cert.LnGradIdeal.τ).loc Cert.LnGradIdeal.main_arg0) = m' ((c.tc : Thread Cert.LnGradIdeal.nD Cert.LnGradIdeal.τ).loc Cert.LnGradIdeal.main_arg0)
          ∧ r.2.mem ((c.tc : Thread Cert.LnGradIdeal.nD Cert.LnGradIdeal.τ).loc Cert.LnGradIdeal.main_arg1) = m' ((c.tc : Thread Cert.LnGradIdeal.nD Cert.LnGradIdeal.τ).loc Cert.LnGradIdeal.main_arg1)
          ∧ r.2.mem ((c.tc : Thread Cert.LnGradIdeal.nD Cert.LnGradIdeal.τ).loc Cert.LnGradIdeal.main_arg2) = m' ((c.tc : Thread Cert.LnGradIdeal.nD Cert.LnGradIdeal.τ).loc Cert.LnGradIdeal.main_arg2)
          ∧ r.2.mem ((c.tc : Thread Cert.LnGradIdeal.nD Cert.LnGradIdeal.τ).loc Cert.LnGradIdeal.main_arg3) = m' ((c.tc : Thread Cert.LnGradIdeal.nD Cert.LnGradIdeal.τ).loc Cert.LnGradIdeal.main_arg3)
          ∧ r.2.mem ((c.tc : Thread Cert.LnGradIdeal.nD Cert.LnGradIdeal.τ).loc Cert.LnGradIdeal.main_arg4) = m' ((c.tc : Thread Cert.LnGradIdeal.nD Cert.LnGradIdeal.τ).loc Cert.LnGradIdeal.main_arg4)
          ∧ r.2.mem ((c.tc : Thread Cert.LnGradIdeal.nD Cert.LnGradIdeal.τ).loc Cert.LnGradIdeal.main_arg5) = m' ((c.tc : Thread Cert.LnGradIdeal.nD Cert.LnGradIdeal.τ).loc Cert.LnGradIdeal.main_arg5))

def preserves_SbBwd_SbBwdIdeal : Prop :=
  True

def algebraic_SbBwdIdeal_SbGradIdeal_pre_sb_finite [hSbBwdIdeal : Cert.SbBwdIdeal.Facts] [hSbGradIdeal : Cert.SbGradIdeal.Facts] [hPre_sb_finite : Cert.Pre_sb_finite.Facts] : Prop :=
  ∀ (m : (ℓ : Loc Cert.SbBwdIdeal.nD Cert.SbBwdIdeal.τ Cert.SbBwdIdeal.sig) → Buf (Elt Ideal) ℓ) (g : Dev Cert.SbBwdIdeal.nD → PrngReg)
    (m' : (ℓ : Loc Cert.SbGradIdeal.nD Cert.SbGradIdeal.τ Cert.SbGradIdeal.sig) → Buf (Elt Ideal) ℓ) (g' : Dev Cert.SbGradIdeal.nD → PrngReg), Pre_SbBwdIdeal_sb_finite m →
    (∀ c : Dev Cert.SbBwdIdeal.nD,
      m' ((c.tc : Thread Cert.SbGradIdeal.nD Cert.SbGradIdeal.τ).loc Cert.SbGradIdeal.main_arg0) = m ((c.tc : Thread Cert.SbBwdIdeal.nD Cert.SbBwdIdeal.τ).loc Cert.SbBwdIdeal.main_arg0)
      ∧ m' ((c.tc : Thread Cert.SbGradIdeal.nD Cert.SbGradIdeal.τ).loc Cert.SbGradIdeal.main_arg1) = m ((c.tc : Thread Cert.SbBwdIdeal.nD Cert.SbBwdIdeal.τ).loc Cert.SbBwdIdeal.main_arg1)) →
    ∃ (v0 : (c : Dev Cert.SbBwdIdeal.nD) → Buf (Elt Ideal) ((c.tc : Thread Cert.SbBwdIdeal.nD Cert.SbBwdIdeal.τ).loc Cert.SbBwdIdeal.main_v22)),
      θ_run (Cert.SbBwdIdeal.defs (F := Ideal)) (onTc (τ := Cert.SbBwdIdeal.τ) (Cert.SbBwdIdeal.main (F := Ideal))) ⟨m, fun _ => 0, g⟩ (fun r => ∀ c : Dev Cert.SbBwdIdeal.nD,
          r.2.mem ((c.tc : Thread Cert.SbBwdIdeal.nD Cert.SbBwdIdeal.τ).loc Cert.SbBwdIdeal.main_v22) = v0 c
          ∧ r.2.mem ((c.tc : Thread Cert.SbBwdIdeal.nD Cert.SbBwdIdeal.τ).loc Cert.SbBwdIdeal.main_arg0) = m ((c.tc : Thread Cert.SbBwdIdeal.nD Cert.SbBwdIdeal.τ).loc Cert.SbBwdIdeal.main_arg0)
          ∧ r.2.mem ((c.tc : Thread Cert.SbBwdIdeal.nD Cert.SbBwdIdeal.τ).loc Cert.SbBwdIdeal.main_arg1) = m ((c.tc : Thread Cert.SbBwdIdeal.nD Cert.SbBwdIdeal.τ).loc Cert.SbBwdIdeal.main_arg1))
      ∧ θ_run (Cert.SbGradIdeal.defs (F := Ideal)) (onTc (τ := Cert.SbGradIdeal.τ) (Cert.SbGradIdeal.main (F := Ideal))) ⟨m', fun _ => 0, g'⟩ (fun r => ∀ c : Dev Cert.SbGradIdeal.nD,
          r.2.mem ((c.tc : Thread Cert.SbGradIdeal.nD Cert.SbGradIdeal.τ).loc Cert.SbGradIdeal.main_v59) = v0 c
          ∧ r.2.mem ((c.tc : Thread Cert.SbGradIdeal.nD Cert.SbGradIdeal.τ).loc Cert.SbGradIdeal.main_arg0) = m' ((c.tc : Thread Cert.SbGradIdeal.nD Cert.SbGradIdeal.τ).loc Cert.SbGradIdeal.main_arg0)
          ∧ r.2.mem ((c.tc : Thread Cert.SbGradIdeal.nD Cert.SbGradIdeal.τ).loc Cert.SbGradIdeal.main_arg1) = m' ((c.tc : Thread Cert.SbGradIdeal.nD Cert.SbGradIdeal.τ).loc Cert.SbGradIdeal.main_arg1))

def preserves_AaBwd_AaBwdIdeal : Prop :=
  IdealRules.named_const.Statement Cert.AaBwdIdeal.κ "mask" .f32 0xF149F2CA#32 ⊥

def algebraic_AaBwdIdeal_AaGradIdeal_pre_aa_finite [hAaBwdIdeal : Cert.AaBwdIdeal.Facts] [hAaGradIdeal : Cert.AaGradIdeal.Facts] [hPre_aa_finite : Cert.Pre_aa_finite.Facts] : Prop :=
  ∀ (m : (ℓ : Loc Cert.AaBwdIdeal.nD Cert.AaBwdIdeal.τ Cert.AaBwdIdeal.sig) → Buf (Elt Ideal) ℓ) (g : Dev Cert.AaBwdIdeal.nD → PrngReg)
    (m' : (ℓ : Loc Cert.AaGradIdeal.nD Cert.AaGradIdeal.τ Cert.AaGradIdeal.sig) → Buf (Elt Ideal) ℓ) (g' : Dev Cert.AaGradIdeal.nD → PrngReg), Pre_AaBwdIdeal_aa_finite m →
    (∀ c : Dev Cert.AaBwdIdeal.nD,
      m' ((c.tc : Thread Cert.AaGradIdeal.nD Cert.AaGradIdeal.τ).loc Cert.AaGradIdeal.main_arg0) = m ((c.tc : Thread Cert.AaBwdIdeal.nD Cert.AaBwdIdeal.τ).loc Cert.AaBwdIdeal.main_arg0)
      ∧ m' ((c.tc : Thread Cert.AaGradIdeal.nD Cert.AaGradIdeal.τ).loc Cert.AaGradIdeal.main_arg1) = m ((c.tc : Thread Cert.AaBwdIdeal.nD Cert.AaBwdIdeal.τ).loc Cert.AaBwdIdeal.main_arg1)
      ∧ m' ((c.tc : Thread Cert.AaGradIdeal.nD Cert.AaGradIdeal.τ).loc Cert.AaGradIdeal.main_arg2) = m ((c.tc : Thread Cert.AaBwdIdeal.nD Cert.AaBwdIdeal.τ).loc Cert.AaBwdIdeal.main_arg2)) →
    ∃ (v0 : (c : Dev Cert.AaBwdIdeal.nD) → Buf (Elt Ideal) ((c.tc : Thread Cert.AaBwdIdeal.nD Cert.AaBwdIdeal.τ).loc Cert.AaBwdIdeal.main_v0_0)) (v1 : (c : Dev Cert.AaBwdIdeal.nD) → Buf (Elt Ideal) ((c.tc : Thread Cert.AaBwdIdeal.nD Cert.AaBwdIdeal.τ).loc Cert.AaBwdIdeal.main_v0_1)),
      θ_run (Cert.AaBwdIdeal.defs (F := Ideal)) (onTc (τ := Cert.AaBwdIdeal.τ) (Cert.AaBwdIdeal.main (F := Ideal))) ⟨m, fun _ => 0, g⟩ (fun r => ∀ c : Dev Cert.AaBwdIdeal.nD,
          r.2.mem ((c.tc : Thread Cert.AaBwdIdeal.nD Cert.AaBwdIdeal.τ).loc Cert.AaBwdIdeal.main_v0_0) = v0 c
          ∧ r.2.mem ((c.tc : Thread Cert.AaBwdIdeal.nD Cert.AaBwdIdeal.τ).loc Cert.AaBwdIdeal.main_v0_1) = v1 c
          ∧ r.2.mem ((c.tc : Thread Cert.AaBwdIdeal.nD Cert.AaBwdIdeal.τ).loc Cert.AaBwdIdeal.main_arg0) = m ((c.tc : Thread Cert.AaBwdIdeal.nD Cert.AaBwdIdeal.τ).loc Cert.AaBwdIdeal.main_arg0)
          ∧ r.2.mem ((c.tc : Thread Cert.AaBwdIdeal.nD Cert.AaBwdIdeal.τ).loc Cert.AaBwdIdeal.main_arg1) = m ((c.tc : Thread Cert.AaBwdIdeal.nD Cert.AaBwdIdeal.τ).loc Cert.AaBwdIdeal.main_arg1)
          ∧ r.2.mem ((c.tc : Thread Cert.AaBwdIdeal.nD Cert.AaBwdIdeal.τ).loc Cert.AaBwdIdeal.main_arg2) = m ((c.tc : Thread Cert.AaBwdIdeal.nD Cert.AaBwdIdeal.τ).loc Cert.AaBwdIdeal.main_arg2))
      ∧ θ_run (Cert.AaGradIdeal.defs (F := Ideal)) (onTc (τ := Cert.AaGradIdeal.τ) (Cert.AaGradIdeal.main (F := Ideal))) ⟨m', fun _ => 0, g'⟩ (fun r => ∀ c : Dev Cert.AaGradIdeal.nD,
          r.2.mem ((c.tc : Thread Cert.AaGradIdeal.nD Cert.AaGradIdeal.τ).loc Cert.AaGradIdeal.main_v109) = v0 c
          ∧ r.2.mem ((c.tc : Thread Cert.AaGradIdeal.nD Cert.AaGradIdeal.τ).loc Cert.AaGradIdeal.main_v110) = v1 c
          ∧ r.2.mem ((c.tc : Thread Cert.AaGradIdeal.nD Cert.AaGradIdeal.τ).loc Cert.AaGradIdeal.main_arg0) = m' ((c.tc : Thread Cert.AaGradIdeal.nD Cert.AaGradIdeal.τ).loc Cert.AaGradIdeal.main_arg0)
          ∧ r.2.mem ((c.tc : Thread Cert.AaGradIdeal.nD Cert.AaGradIdeal.τ).loc Cert.AaGradIdeal.main_arg1) = m' ((c.tc : Thread Cert.AaGradIdeal.nD Cert.AaGradIdeal.τ).loc Cert.AaGradIdeal.main_arg1)
          ∧ r.2.mem ((c.tc : Thread Cert.AaGradIdeal.nD Cert.AaGradIdeal.τ).loc Cert.AaGradIdeal.main_arg2) = m' ((c.tc : Thread Cert.AaGradIdeal.nD Cert.AaGradIdeal.τ).loc Cert.AaGradIdeal.main_arg2))

def preserves_FxBwd_FxBwdIdeal : Prop :=
  True

def algebraic_FxBwdIdeal_FxGradIdeal_pre_fx_finite [hFxBwdIdeal : Cert.FxBwdIdeal.Facts] [hFxGradIdeal : Cert.FxGradIdeal.Facts] [hPre_fx_finite : Cert.Pre_fx_finite.Facts] : Prop :=
  ∀ (m : (ℓ : Loc Cert.FxBwdIdeal.nD Cert.FxBwdIdeal.τ Cert.FxBwdIdeal.sig) → Buf (Elt Ideal) ℓ) (g : Dev Cert.FxBwdIdeal.nD → PrngReg)
    (m' : (ℓ : Loc Cert.FxGradIdeal.nD Cert.FxGradIdeal.τ Cert.FxGradIdeal.sig) → Buf (Elt Ideal) ℓ) (g' : Dev Cert.FxGradIdeal.nD → PrngReg), Pre_FxBwdIdeal_fx_finite m →
    (∀ c : Dev Cert.FxBwdIdeal.nD,
      m' ((c.tc : Thread Cert.FxGradIdeal.nD Cert.FxGradIdeal.τ).loc Cert.FxGradIdeal.main_arg0) = m ((c.tc : Thread Cert.FxBwdIdeal.nD Cert.FxBwdIdeal.τ).loc Cert.FxBwdIdeal.main_arg0)
      ∧ m' ((c.tc : Thread Cert.FxGradIdeal.nD Cert.FxGradIdeal.τ).loc Cert.FxGradIdeal.main_arg1) = m ((c.tc : Thread Cert.FxBwdIdeal.nD Cert.FxBwdIdeal.τ).loc Cert.FxBwdIdeal.main_arg1)
      ∧ m' ((c.tc : Thread Cert.FxGradIdeal.nD Cert.FxGradIdeal.τ).loc Cert.FxGradIdeal.main_arg2) = m ((c.tc : Thread Cert.FxBwdIdeal.nD Cert.FxBwdIdeal.τ).loc Cert.FxBwdIdeal.main_arg2)
      ∧ m' ((c.tc : Thread Cert.FxGradIdeal.nD Cert.FxGradIdeal.τ).loc Cert.FxGradIdeal.main_arg3) = m ((c.tc : Thread Cert.FxBwdIdeal.nD Cert.FxBwdIdeal.τ).loc Cert.FxBwdIdeal.main_arg3)
      ∧ m' ((c.tc : Thread Cert.FxGradIdeal.nD Cert.FxGradIdeal.τ).loc Cert.FxGradIdeal.main_arg4) = m ((c.tc : Thread Cert.FxBwdIdeal.nD Cert.FxBwdIdeal.τ).loc Cert.FxBwdIdeal.main_arg4)
      ∧ m' ((c.tc : Thread Cert.FxGradIdeal.nD Cert.FxGradIdeal.τ).loc Cert.FxGradIdeal.main_arg5) = m ((c.tc : Thread Cert.FxBwdIdeal.nD Cert.FxBwdIdeal.τ).loc Cert.FxBwdIdeal.main_arg5)
      ∧ m' ((c.tc : Thread Cert.FxGradIdeal.nD Cert.FxGradIdeal.τ).loc Cert.FxGradIdeal.main_arg6) = m ((c.tc : Thread Cert.FxBwdIdeal.nD Cert.FxBwdIdeal.τ).loc Cert.FxBwdIdeal.main_arg6)
      ∧ m' ((c.tc : Thread Cert.FxGradIdeal.nD Cert.FxGradIdeal.τ).loc Cert.FxGradIdeal.main_arg7) = m ((c.tc : Thread Cert.FxBwdIdeal.nD Cert.FxBwdIdeal.τ).loc Cert.FxBwdIdeal.main_arg7)
      ∧ m' ((c.tc : Thread Cert.FxGradIdeal.nD Cert.FxGradIdeal.τ).loc Cert.FxGradIdeal.main_arg8) = m ((c.tc : Thread Cert.FxBwdIdeal.nD Cert.FxBwdIdeal.τ).loc Cert.FxBwdIdeal.main_arg8)
      ∧ m' ((c.tc : Thread Cert.FxGradIdeal.nD Cert.FxGradIdeal.τ).loc Cert.FxGradIdeal.main_arg9) = m ((c.tc : Thread Cert.FxBwdIdeal.nD Cert.FxBwdIdeal.τ).loc Cert.FxBwdIdeal.main_arg9)) →
    ∃ (v0 : (c : Dev Cert.FxBwdIdeal.nD) → Buf (Elt Ideal) ((c.tc : Thread Cert.FxBwdIdeal.nD Cert.FxBwdIdeal.τ).loc Cert.FxBwdIdeal.main_v22_0)) (v1 : (c : Dev Cert.FxBwdIdeal.nD) → Buf (Elt Ideal) ((c.tc : Thread Cert.FxBwdIdeal.nD Cert.FxBwdIdeal.τ).loc Cert.FxBwdIdeal.main_v22_1)) (v2 : (c : Dev Cert.FxBwdIdeal.nD) → Buf (Elt Ideal) ((c.tc : Thread Cert.FxBwdIdeal.nD Cert.FxBwdIdeal.τ).loc Cert.FxBwdIdeal.main_v22_2)) (v3 : (c : Dev Cert.FxBwdIdeal.nD) → Buf (Elt Ideal) ((c.tc : Thread Cert.FxBwdIdeal.nD Cert.FxBwdIdeal.τ).loc Cert.FxBwdIdeal.main_v22_3)),
      θ_run (Cert.FxBwdIdeal.defs (F := Ideal)) (onTc (τ := Cert.FxBwdIdeal.τ) (Cert.FxBwdIdeal.main (F := Ideal))) ⟨m, fun _ => 0, g⟩ (fun r => ∀ c : Dev Cert.FxBwdIdeal.nD,
          r.2.mem ((c.tc : Thread Cert.FxBwdIdeal.nD Cert.FxBwdIdeal.τ).loc Cert.FxBwdIdeal.main_v22_0) = v0 c
          ∧ r.2.mem ((c.tc : Thread Cert.FxBwdIdeal.nD Cert.FxBwdIdeal.τ).loc Cert.FxBwdIdeal.main_v22_1) = v1 c
          ∧ r.2.mem ((c.tc : Thread Cert.FxBwdIdeal.nD Cert.FxBwdIdeal.τ).loc Cert.FxBwdIdeal.main_v22_2) = v2 c
          ∧ r.2.mem ((c.tc : Thread Cert.FxBwdIdeal.nD Cert.FxBwdIdeal.τ).loc Cert.FxBwdIdeal.main_v22_3) = v3 c
          ∧ r.2.mem ((c.tc : Thread Cert.FxBwdIdeal.nD Cert.FxBwdIdeal.τ).loc Cert.FxBwdIdeal.main_arg0) = m ((c.tc : Thread Cert.FxBwdIdeal.nD Cert.FxBwdIdeal.τ).loc Cert.FxBwdIdeal.main_arg0)
          ∧ r.2.mem ((c.tc : Thread Cert.FxBwdIdeal.nD Cert.FxBwdIdeal.τ).loc Cert.FxBwdIdeal.main_arg1) = m ((c.tc : Thread Cert.FxBwdIdeal.nD Cert.FxBwdIdeal.τ).loc Cert.FxBwdIdeal.main_arg1)
          ∧ r.2.mem ((c.tc : Thread Cert.FxBwdIdeal.nD Cert.FxBwdIdeal.τ).loc Cert.FxBwdIdeal.main_arg2) = m ((c.tc : Thread Cert.FxBwdIdeal.nD Cert.FxBwdIdeal.τ).loc Cert.FxBwdIdeal.main_arg2)
          ∧ r.2.mem ((c.tc : Thread Cert.FxBwdIdeal.nD Cert.FxBwdIdeal.τ).loc Cert.FxBwdIdeal.main_arg3) = m ((c.tc : Thread Cert.FxBwdIdeal.nD Cert.FxBwdIdeal.τ).loc Cert.FxBwdIdeal.main_arg3)
          ∧ r.2.mem ((c.tc : Thread Cert.FxBwdIdeal.nD Cert.FxBwdIdeal.τ).loc Cert.FxBwdIdeal.main_arg4) = m ((c.tc : Thread Cert.FxBwdIdeal.nD Cert.FxBwdIdeal.τ).loc Cert.FxBwdIdeal.main_arg4)
          ∧ r.2.mem ((c.tc : Thread Cert.FxBwdIdeal.nD Cert.FxBwdIdeal.τ).loc Cert.FxBwdIdeal.main_arg5) = m ((c.tc : Thread Cert.FxBwdIdeal.nD Cert.FxBwdIdeal.τ).loc Cert.FxBwdIdeal.main_arg5)
          ∧ r.2.mem ((c.tc : Thread Cert.FxBwdIdeal.nD Cert.FxBwdIdeal.τ).loc Cert.FxBwdIdeal.main_arg6) = m ((c.tc : Thread Cert.FxBwdIdeal.nD Cert.FxBwdIdeal.τ).loc Cert.FxBwdIdeal.main_arg6)
          ∧ r.2.mem ((c.tc : Thread Cert.FxBwdIdeal.nD Cert.FxBwdIdeal.τ).loc Cert.FxBwdIdeal.main_arg7) = m ((c.tc : Thread Cert.FxBwdIdeal.nD Cert.FxBwdIdeal.τ).loc Cert.FxBwdIdeal.main_arg7)
          ∧ r.2.mem ((c.tc : Thread Cert.FxBwdIdeal.nD Cert.FxBwdIdeal.τ).loc Cert.FxBwdIdeal.main_arg8) = m ((c.tc : Thread Cert.FxBwdIdeal.nD Cert.FxBwdIdeal.τ).loc Cert.FxBwdIdeal.main_arg8)
          ∧ r.2.mem ((c.tc : Thread Cert.FxBwdIdeal.nD Cert.FxBwdIdeal.τ).loc Cert.FxBwdIdeal.main_arg9) = m ((c.tc : Thread Cert.FxBwdIdeal.nD Cert.FxBwdIdeal.τ).loc Cert.FxBwdIdeal.main_arg9))
      ∧ θ_run (Cert.FxGradIdeal.defs (F := Ideal)) (onTc (τ := Cert.FxGradIdeal.τ) (Cert.FxGradIdeal.main (F := Ideal))) ⟨m', fun _ => 0, g'⟩ (fun r => ∀ c : Dev Cert.FxGradIdeal.nD,
          r.2.mem ((c.tc : Thread Cert.FxGradIdeal.nD Cert.FxGradIdeal.τ).loc Cert.FxGradIdeal.main_v89) = v0 c
          ∧ r.2.mem ((c.tc : Thread Cert.FxGradIdeal.nD Cert.FxGradIdeal.τ).loc Cert.FxGradIdeal.main_v92) = v1 c
          ∧ r.2.mem ((c.tc : Thread Cert.FxGradIdeal.nD Cert.FxGradIdeal.τ).loc Cert.FxGradIdeal.main_v94) = v2 c
          ∧ r.2.mem ((c.tc : Thread Cert.FxGradIdeal.nD Cert.FxGradIdeal.τ).loc Cert.FxGradIdeal.main_v96) = v3 c
          ∧ r.2.mem ((c.tc : Thread Cert.FxGradIdeal.nD Cert.FxGradIdeal.τ).loc Cert.FxGradIdeal.main_arg0) = m' ((c.tc : Thread Cert.FxGradIdeal.nD Cert.FxGradIdeal.τ).loc Cert.FxGradIdeal.main_arg0)
          ∧ r.2.mem ((c.tc : Thread Cert.FxGradIdeal.nD Cert.FxGradIdeal.τ).loc Cert.FxGradIdeal.main_arg1) = m' ((c.tc : Thread Cert.FxGradIdeal.nD Cert.FxGradIdeal.τ).loc Cert.FxGradIdeal.main_arg1)
          ∧ r.2.mem ((c.tc : Thread Cert.FxGradIdeal.nD Cert.FxGradIdeal.τ).loc Cert.FxGradIdeal.main_arg2) = m' ((c.tc : Thread Cert.FxGradIdeal.nD Cert.FxGradIdeal.τ).loc Cert.FxGradIdeal.main_arg2)
          ∧ r.2.mem ((c.tc : Thread Cert.FxGradIdeal.nD Cert.FxGradIdeal.τ).loc Cert.FxGradIdeal.main_arg3) = m' ((c.tc : Thread Cert.FxGradIdeal.nD Cert.FxGradIdeal.τ).loc Cert.FxGradIdeal.main_arg3)
          ∧ r.2.mem ((c.tc : Thread Cert.FxGradIdeal.nD Cert.FxGradIdeal.τ).loc Cert.FxGradIdeal.main_arg4) = m' ((c.tc : Thread Cert.FxGradIdeal.nD Cert.FxGradIdeal.τ).loc Cert.FxGradIdeal.main_arg4)
          ∧ r.2.mem ((c.tc : Thread Cert.FxGradIdeal.nD Cert.FxGradIdeal.τ).loc Cert.FxGradIdeal.main_arg5) = m' ((c.tc : Thread Cert.FxGradIdeal.nD Cert.FxGradIdeal.τ).loc Cert.FxGradIdeal.main_arg5)
          ∧ r.2.mem ((c.tc : Thread Cert.FxGradIdeal.nD Cert.FxGradIdeal.τ).loc Cert.FxGradIdeal.main_arg6) = m' ((c.tc : Thread Cert.FxGradIdeal.nD Cert.FxGradIdeal.τ).loc Cert.FxGradIdeal.main_arg6)
          ∧ r.2.mem ((c.tc : Thread Cert.FxGradIdeal.nD Cert.FxGradIdeal.τ).loc Cert.FxGradIdeal.main_arg7) = m' ((c.tc : Thread Cert.FxGradIdeal.nD Cert.FxGradIdeal.τ).loc Cert.FxGradIdeal.main_arg7)
          ∧ r.2.mem ((c.tc : Thread Cert.FxGradIdeal.nD Cert.FxGradIdeal.τ).loc Cert.FxGradIdeal.main_arg8) = m' ((c.tc : Thread Cert.FxGradIdeal.nD Cert.FxGradIdeal.τ).loc Cert.FxGradIdeal.main_arg8)
          ∧ r.2.mem ((c.tc : Thread Cert.FxGradIdeal.nD Cert.FxGradIdeal.τ).loc Cert.FxGradIdeal.main_arg9) = m' ((c.tc : Thread Cert.FxGradIdeal.nD Cert.FxGradIdeal.τ).loc Cert.FxGradIdeal.main_arg9))

def preserves_QxBwd_QxBwdIdeal : Prop :=
  True

def algebraic_QxBwdIdeal_QxGradIdeal_pre_qx_finite [hQxBwdIdeal : Cert.QxBwdIdeal.Facts] [hQxGradIdeal : Cert.QxGradIdeal.Facts] [hPre_qx_finite : Cert.Pre_qx_finite.Facts] : Prop :=
  ∀ (m : (ℓ : Loc Cert.QxBwdIdeal.nD Cert.QxBwdIdeal.τ Cert.QxBwdIdeal.sig) → Buf (Elt Ideal) ℓ) (g : Dev Cert.QxBwdIdeal.nD → PrngReg)
    (m' : (ℓ : Loc Cert.QxGradIdeal.nD Cert.QxGradIdeal.τ Cert.QxGradIdeal.sig) → Buf (Elt Ideal) ℓ) (g' : Dev Cert.QxGradIdeal.nD → PrngReg), Pre_QxBwdIdeal_qx_finite m →
    (∀ c : Dev Cert.QxBwdIdeal.nD,
      m' ((c.tc : Thread Cert.QxGradIdeal.nD Cert.QxGradIdeal.τ).loc Cert.QxGradIdeal.main_arg0) = m ((c.tc : Thread Cert.QxBwdIdeal.nD Cert.QxBwdIdeal.τ).loc Cert.QxBwdIdeal.main_arg0)
      ∧ m' ((c.tc : Thread Cert.QxGradIdeal.nD Cert.QxGradIdeal.τ).loc Cert.QxGradIdeal.main_arg1) = m ((c.tc : Thread Cert.QxBwdIdeal.nD Cert.QxBwdIdeal.τ).loc Cert.QxBwdIdeal.main_arg1)
      ∧ m' ((c.tc : Thread Cert.QxGradIdeal.nD Cert.QxGradIdeal.τ).loc Cert.QxGradIdeal.main_arg2) = m ((c.tc : Thread Cert.QxBwdIdeal.nD Cert.QxBwdIdeal.τ).loc Cert.QxBwdIdeal.main_arg2)
      ∧ m' ((c.tc : Thread Cert.QxGradIdeal.nD Cert.QxGradIdeal.τ).loc Cert.QxGradIdeal.main_arg3) = m ((c.tc : Thread Cert.QxBwdIdeal.nD Cert.QxBwdIdeal.τ).loc Cert.QxBwdIdeal.main_arg3)
      ∧ m' ((c.tc : Thread Cert.QxGradIdeal.nD Cert.QxGradIdeal.τ).loc Cert.QxGradIdeal.main_arg4) = m ((c.tc : Thread Cert.QxBwdIdeal.nD Cert.QxBwdIdeal.τ).loc Cert.QxBwdIdeal.main_arg4)
      ∧ m' ((c.tc : Thread Cert.QxGradIdeal.nD Cert.QxGradIdeal.τ).loc Cert.QxGradIdeal.main_arg5) = m ((c.tc : Thread Cert.QxBwdIdeal.nD Cert.QxBwdIdeal.τ).loc Cert.QxBwdIdeal.main_arg5)
      ∧ m' ((c.tc : Thread Cert.QxGradIdeal.nD Cert.QxGradIdeal.τ).loc Cert.QxGradIdeal.main_arg6) = m ((c.tc : Thread Cert.QxBwdIdeal.nD Cert.QxBwdIdeal.τ).loc Cert.QxBwdIdeal.main_arg6)
      ∧ m' ((c.tc : Thread Cert.QxGradIdeal.nD Cert.QxGradIdeal.τ).loc Cert.QxGradIdeal.main_arg7) = m ((c.tc : Thread Cert.QxBwdIdeal.nD Cert.QxBwdIdeal.τ).loc Cert.QxBwdIdeal.main_arg7)) →
    ∃ (v0 : (c : Dev Cert.QxBwdIdeal.nD) → Buf (Elt Ideal) ((c.tc : Thread Cert.QxBwdIdeal.nD Cert.QxBwdIdeal.τ).loc Cert.QxBwdIdeal.main_v22_0)) (v1 : (c : Dev Cert.QxBwdIdeal.nD) → Buf (Elt Ideal) ((c.tc : Thread Cert.QxBwdIdeal.nD Cert.QxBwdIdeal.τ).loc Cert.QxBwdIdeal.main_v22_1)) (v2 : (c : Dev Cert.QxBwdIdeal.nD) → Buf (Elt Ideal) ((c.tc : Thread Cert.QxBwdIdeal.nD Cert.QxBwdIdeal.τ).loc Cert.QxBwdIdeal.main_v22_2)) (v3 : (c : Dev Cert.QxBwdIdeal.nD) → Buf (Elt Ideal) ((c.tc : Thread Cert.QxBwdIdeal.nD Cert.QxBwdIdeal.τ).loc Cert.QxBwdIdeal.main_v22_3)),
      θ_run (Cert.QxBwdIdeal.defs (F := Ideal)) (onTc (τ := Cert.QxBwdIdeal.τ) (Cert.QxBwdIdeal.main (F := Ideal))) ⟨m, fun _ => 0, g⟩ (fun r => ∀ c : Dev Cert.QxBwdIdeal.nD,
          r.2.mem ((c.tc : Thread Cert.QxBwdIdeal.nD Cert.QxBwdIdeal.τ).loc Cert.QxBwdIdeal.main_v22_0) = v0 c
          ∧ r.2.mem ((c.tc : Thread Cert.QxBwdIdeal.nD Cert.QxBwdIdeal.τ).loc Cert.QxBwdIdeal.main_v22_1) = v1 c
          ∧ r.2.mem ((c.tc : Thread Cert.QxBwdIdeal.nD Cert.QxBwdIdeal.τ).loc Cert.QxBwdIdeal.main_v22_2) = v2 c
          ∧ r.2.mem ((c.tc : Thread Cert.QxBwdIdeal.nD Cert.QxBwdIdeal.τ).loc Cert.QxBwdIdeal.main_v22_3) = v3 c
          ∧ r.2.mem ((c.tc : Thread Cert.QxBwdIdeal.nD Cert.QxBwdIdeal.τ).loc Cert.QxBwdIdeal.main_arg0) = m ((c.tc : Thread Cert.QxBwdIdeal.nD Cert.QxBwdIdeal.τ).loc Cert.QxBwdIdeal.main_arg0)
          ∧ r.2.mem ((c.tc : Thread Cert.QxBwdIdeal.nD Cert.QxBwdIdeal.τ).loc Cert.QxBwdIdeal.main_arg1) = m ((c.tc : Thread Cert.QxBwdIdeal.nD Cert.QxBwdIdeal.τ).loc Cert.QxBwdIdeal.main_arg1)
          ∧ r.2.mem ((c.tc : Thread Cert.QxBwdIdeal.nD Cert.QxBwdIdeal.τ).loc Cert.QxBwdIdeal.main_arg2) = m ((c.tc : Thread Cert.QxBwdIdeal.nD Cert.QxBwdIdeal.τ).loc Cert.QxBwdIdeal.main_arg2)
          ∧ r.2.mem ((c.tc : Thread Cert.QxBwdIdeal.nD Cert.QxBwdIdeal.τ).loc Cert.QxBwdIdeal.main_arg3) = m ((c.tc : Thread Cert.QxBwdIdeal.nD Cert.QxBwdIdeal.τ).loc Cert.QxBwdIdeal.main_arg3)
          ∧ r.2.mem ((c.tc : Thread Cert.QxBwdIdeal.nD Cert.QxBwdIdeal.τ).loc Cert.QxBwdIdeal.main_arg4) = m ((c.tc : Thread Cert.QxBwdIdeal.nD Cert.QxBwdIdeal.τ).loc Cert.QxBwdIdeal.main_arg4)
          ∧ r.2.mem ((c.tc : Thread Cert.QxBwdIdeal.nD Cert.QxBwdIdeal.τ).loc Cert.QxBwdIdeal.main_arg5) = m ((c.tc : Thread Cert.QxBwdIdeal.nD Cert.QxBwdIdeal.τ).loc Cert.QxBwdIdeal.main_arg5)
          ∧ r.2.mem ((c.tc : Thread Cert.QxBwdIdeal.nD Cert.QxBwdIdeal.τ).loc Cert.QxBwdIdeal.main_arg6) = m ((c.tc : Thread Cert.QxBwdIdeal.nD Cert.QxBwdIdeal.τ).loc Cert.QxBwdIdeal.main_arg6)
          ∧ r.2.mem ((c.tc : Thread Cert.QxBwdIdeal.nD Cert.QxBwdIdeal.τ).loc Cert.QxBwdIdeal.main_arg7) = m ((c.tc : Thread Cert.QxBwdIdeal.nD Cert.QxBwdIdeal.τ).loc Cert.QxBwdIdeal.main_arg7))
      ∧ θ_run (Cert.QxGradIdeal.defs (F := Ideal)) (onTc (τ := Cert.QxGradIdeal.τ) (Cert.QxGradIdeal.main (F := Ideal))) ⟨m', fun _ => 0, g'⟩ (fun r => ∀ c : Dev Cert.QxGradIdeal.nD,
          r.2.mem ((c.tc : Thread Cert.QxGradIdeal.nD Cert.QxGradIdeal.τ).loc Cert.QxGradIdeal.main_v81) = v0 c
          ∧ r.2.mem ((c.tc : Thread Cert.QxGradIdeal.nD Cert.QxGradIdeal.τ).loc Cert.QxGradIdeal.main_v84) = v1 c
          ∧ r.2.mem ((c.tc : Thread Cert.QxGradIdeal.nD Cert.QxGradIdeal.τ).loc Cert.QxGradIdeal.main_v86) = v2 c
          ∧ r.2.mem ((c.tc : Thread Cert.QxGradIdeal.nD Cert.QxGradIdeal.τ).loc Cert.QxGradIdeal.main_v88) = v3 c
          ∧ r.2.mem ((c.tc : Thread Cert.QxGradIdeal.nD Cert.QxGradIdeal.τ).loc Cert.QxGradIdeal.main_arg0) = m' ((c.tc : Thread Cert.QxGradIdeal.nD Cert.QxGradIdeal.τ).loc Cert.QxGradIdeal.main_arg0)
          ∧ r.2.mem ((c.tc : Thread Cert.QxGradIdeal.nD Cert.QxGradIdeal.τ).loc Cert.QxGradIdeal.main_arg1) = m' ((c.tc : Thread Cert.QxGradIdeal.nD Cert.QxGradIdeal.τ).loc Cert.QxGradIdeal.main_arg1)
          ∧ r.2.mem ((c.tc : Thread Cert.QxGradIdeal.nD Cert.QxGradIdeal.τ).loc Cert.QxGradIdeal.main_arg2) = m' ((c.tc : Thread Cert.QxGradIdeal.nD Cert.QxGradIdeal.τ).loc Cert.QxGradIdeal.main_arg2)
          ∧ r.2.mem ((c.tc : Thread Cert.QxGradIdeal.nD Cert.QxGradIdeal.τ).loc Cert.QxGradIdeal.main_arg3) = m' ((c.tc : Thread Cert.QxGradIdeal.nD Cert.QxGradIdeal.τ).loc Cert.QxGradIdeal.main_arg3)
          ∧ r.2.mem ((c.tc : Thread Cert.QxGradIdeal.nD Cert.QxGradIdeal.τ).loc Cert.QxGradIdeal.main_arg4) = m' ((c.tc : Thread Cert.QxGradIdeal.nD Cert.QxGradIdeal.τ).loc Cert.QxGradIdeal.main_arg4)
          ∧ r.2.mem ((c.tc : Thread Cert.QxGradIdeal.nD Cert.QxGradIdeal.τ).loc Cert.QxGradIdeal.main_arg5) = m' ((c.tc : Thread Cert.QxGradIdeal.nD Cert.QxGradIdeal.τ).loc Cert.QxGradIdeal.main_arg5)
          ∧ r.2.mem ((c.tc : Thread Cert.QxGradIdeal.nD Cert.QxGradIdeal.τ).loc Cert.QxGradIdeal.main_arg6) = m' ((c.tc : Thread Cert.QxGradIdeal.nD Cert.QxGradIdeal.τ).loc Cert.QxGradIdeal.main_arg6)
          ∧ r.2.mem ((c.tc : Thread Cert.QxGradIdeal.nD Cert.QxGradIdeal.τ).loc Cert.QxGradIdeal.main_arg7) = m' ((c.tc : Thread Cert.QxGradIdeal.nD Cert.QxGradIdeal.τ).loc Cert.QxGradIdeal.main_arg7))

def preserves_FbBwd_FbBwdIdeal : Prop :=
  True

def algebraic_FbBwdIdeal_FbGradIdeal_pre_fb_finite [hFbBwdIdeal : Cert.FbBwdIdeal.Facts] [hFbGradIdeal : Cert.FbGradIdeal.Facts] [hPre_fb_finite : Cert.Pre_fb_finite.Facts] : Prop :=
  ∀ (m : (ℓ : Loc Cert.FbBwdIdeal.nD Cert.FbBwdIdeal.τ Cert.FbBwdIdeal.sig) → Buf (Elt Ideal) ℓ) (g : Dev Cert.FbBwdIdeal.nD → PrngReg)
    (m' : (ℓ : Loc Cert.FbGradIdeal.nD Cert.FbGradIdeal.τ Cert.FbGradIdeal.sig) → Buf (Elt Ideal) ℓ) (g' : Dev Cert.FbGradIdeal.nD → PrngReg), Pre_FbBwdIdeal_fb_finite m →
    (∀ c : Dev Cert.FbBwdIdeal.nD,
      m' ((c.tc : Thread Cert.FbGradIdeal.nD Cert.FbGradIdeal.τ).loc Cert.FbGradIdeal.main_arg0) = m ((c.tc : Thread Cert.FbBwdIdeal.nD Cert.FbBwdIdeal.τ).loc Cert.FbBwdIdeal.main_arg0)
      ∧ m' ((c.tc : Thread Cert.FbGradIdeal.nD Cert.FbGradIdeal.τ).loc Cert.FbGradIdeal.main_arg1) = m ((c.tc : Thread Cert.FbBwdIdeal.nD Cert.FbBwdIdeal.τ).loc Cert.FbBwdIdeal.main_arg1)
      ∧ m' ((c.tc : Thread Cert.FbGradIdeal.nD Cert.FbGradIdeal.τ).loc Cert.FbGradIdeal.main_arg2) = m ((c.tc : Thread Cert.FbBwdIdeal.nD Cert.FbBwdIdeal.τ).loc Cert.FbBwdIdeal.main_arg2)
      ∧ m' ((c.tc : Thread Cert.FbGradIdeal.nD Cert.FbGradIdeal.τ).loc Cert.FbGradIdeal.main_arg3) = m ((c.tc : Thread Cert.FbBwdIdeal.nD Cert.FbBwdIdeal.τ).loc Cert.FbBwdIdeal.main_arg3)
      ∧ m' ((c.tc : Thread Cert.FbGradIdeal.nD Cert.FbGradIdeal.τ).loc Cert.FbGradIdeal.main_arg4) = m ((c.tc : Thread Cert.FbBwdIdeal.nD Cert.FbBwdIdeal.τ).loc Cert.FbBwdIdeal.main_arg4)
      ∧ m' ((c.tc : Thread Cert.FbGradIdeal.nD Cert.FbGradIdeal.τ).loc Cert.FbGradIdeal.main_arg5) = m ((c.tc : Thread Cert.FbBwdIdeal.nD Cert.FbBwdIdeal.τ).loc Cert.FbBwdIdeal.main_arg5)
      ∧ m' ((c.tc : Thread Cert.FbGradIdeal.nD Cert.FbGradIdeal.τ).loc Cert.FbGradIdeal.main_arg6) = m ((c.tc : Thread Cert.FbBwdIdeal.nD Cert.FbBwdIdeal.τ).loc Cert.FbBwdIdeal.main_arg6)
      ∧ m' ((c.tc : Thread Cert.FbGradIdeal.nD Cert.FbGradIdeal.τ).loc Cert.FbGradIdeal.main_arg7) = m ((c.tc : Thread Cert.FbBwdIdeal.nD Cert.FbBwdIdeal.τ).loc Cert.FbBwdIdeal.main_arg7)) →
    ∃ (v0 : (c : Dev Cert.FbBwdIdeal.nD) → Buf (Elt Ideal) ((c.tc : Thread Cert.FbBwdIdeal.nD Cert.FbBwdIdeal.τ).loc Cert.FbBwdIdeal.main_v14_0)) (v1 : (c : Dev Cert.FbBwdIdeal.nD) → Buf (Elt Ideal) ((c.tc : Thread Cert.FbBwdIdeal.nD Cert.FbBwdIdeal.τ).loc Cert.FbBwdIdeal.main_v14_1)) (v2 : (c : Dev Cert.FbBwdIdeal.nD) → Buf (Elt Ideal) ((c.tc : Thread Cert.FbBwdIdeal.nD Cert.FbBwdIdeal.τ).loc Cert.FbBwdIdeal.main_v14_2)) (v3 : (c : Dev Cert.FbBwdIdeal.nD) → Buf (Elt Ideal) ((c.tc : Thread Cert.FbBwdIdeal.nD Cert.FbBwdIdeal.τ).loc Cert.FbBwdIdeal.main_v14_3)) (v4 : (c : Dev Cert.FbBwdIdeal.nD) → Buf (Elt Ideal) ((c.tc : Thread Cert.FbBwdIdeal.nD Cert.FbBwdIdeal.τ).loc Cert.FbBwdIdeal.main_v14_4)),
      θ_run (Cert.FbBwdIdeal.defs (F := Ideal)) (onTc (τ := Cert.FbBwdIdeal.τ) (Cert.FbBwdIdeal.main (F := Ideal))) ⟨m, fun _ => 0, g⟩ (fun r => ∀ c : Dev Cert.FbBwdIdeal.nD,
          r.2.mem ((c.tc : Thread Cert.FbBwdIdeal.nD Cert.FbBwdIdeal.τ).loc Cert.FbBwdIdeal.main_v14_0) = v0 c
          ∧ r.2.mem ((c.tc : Thread Cert.FbBwdIdeal.nD Cert.FbBwdIdeal.τ).loc Cert.FbBwdIdeal.main_v14_1) = v1 c
          ∧ r.2.mem ((c.tc : Thread Cert.FbBwdIdeal.nD Cert.FbBwdIdeal.τ).loc Cert.FbBwdIdeal.main_v14_2) = v2 c
          ∧ r.2.mem ((c.tc : Thread Cert.FbBwdIdeal.nD Cert.FbBwdIdeal.τ).loc Cert.FbBwdIdeal.main_v14_3) = v3 c
          ∧ r.2.mem ((c.tc : Thread Cert.FbBwdIdeal.nD Cert.FbBwdIdeal.τ).loc Cert.FbBwdIdeal.main_v14_4) = v4 c
          ∧ r.2.mem ((c.tc : Thread Cert.FbBwdIdeal.nD Cert.FbBwdIdeal.τ).loc Cert.FbBwdIdeal.main_arg0) = m ((c.tc : Thread Cert.FbBwdIdeal.nD Cert.FbBwdIdeal.τ).loc Cert.FbBwdIdeal.main_arg0)
          ∧ r.2.mem ((c.tc : Thread Cert.FbBwdIdeal.nD Cert.FbBwdIdeal.τ).loc Cert.FbBwdIdeal.main_arg1) = m ((c.tc : Thread Cert.FbBwdIdeal.nD Cert.FbBwdIdeal.τ).loc Cert.FbBwdIdeal.main_arg1)
          ∧ r.2.mem ((c.tc : Thread Cert.FbBwdIdeal.nD Cert.FbBwdIdeal.τ).loc Cert.FbBwdIdeal.main_arg2) = m ((c.tc : Thread Cert.FbBwdIdeal.nD Cert.FbBwdIdeal.τ).loc Cert.FbBwdIdeal.main_arg2)
          ∧ r.2.mem ((c.tc : Thread Cert.FbBwdIdeal.nD Cert.FbBwdIdeal.τ).loc Cert.FbBwdIdeal.main_arg3) = m ((c.tc : Thread Cert.FbBwdIdeal.nD Cert.FbBwdIdeal.τ).loc Cert.FbBwdIdeal.main_arg3)
          ∧ r.2.mem ((c.tc : Thread Cert.FbBwdIdeal.nD Cert.FbBwdIdeal.τ).loc Cert.FbBwdIdeal.main_arg4) = m ((c.tc : Thread Cert.FbBwdIdeal.nD Cert.FbBwdIdeal.τ).loc Cert.FbBwdIdeal.main_arg4)
          ∧ r.2.mem ((c.tc : Thread Cert.FbBwdIdeal.nD Cert.FbBwdIdeal.τ).loc Cert.FbBwdIdeal.main_arg5) = m ((c.tc : Thread Cert.FbBwdIdeal.nD Cert.FbBwdIdeal.τ).loc Cert.FbBwdIdeal.main_arg5)
          ∧ r.2.mem ((c.tc : Thread Cert.FbBwdIdeal.nD Cert.FbBwdIdeal.τ).loc Cert.FbBwdIdeal.main_arg6) = m ((c.tc : Thread Cert.FbBwdIdeal.nD Cert.FbBwdIdeal.τ).loc Cert.FbBwdIdeal.main_arg6)
          ∧ r.2.mem ((c.tc : Thread Cert.FbBwdIdeal.nD Cert.FbBwdIdeal.τ).loc Cert.FbBwdIdeal.main_arg7) = m ((c.tc : Thread Cert.FbBwdIdeal.nD Cert.FbBwdIdeal.τ).loc Cert.FbBwdIdeal.main_arg7))
      ∧ θ_run (Cert.FbGradIdeal.defs (F := Ideal)) (onTc (τ := Cert.FbGradIdeal.τ) (Cert.FbGradIdeal.main (F := Ideal))) ⟨m', fun _ => 0, g'⟩ (fun r => ∀ c : Dev Cert.FbGradIdeal.nD,
          r.2.mem ((c.tc : Thread Cert.FbGradIdeal.nD Cert.FbGradIdeal.τ).loc Cert.FbGradIdeal.main_v25) = v0 c
          ∧ r.2.mem ((c.tc : Thread Cert.FbGradIdeal.nD Cert.FbGradIdeal.τ).loc Cert.FbGradIdeal.main_v26) = v1 c
          ∧ r.2.mem ((c.tc : Thread Cert.FbGradIdeal.nD Cert.FbGradIdeal.τ).loc Cert.FbGradIdeal.main_v29) = v2 c
          ∧ r.2.mem ((c.tc : Thread Cert.FbGradIdeal.nD Cert.FbGradIdeal.τ).loc Cert.FbGradIdeal.main_v34) = v3 c
          ∧ r.2.mem ((c.tc : Thread Cert.FbGradIdeal.nD Cert.FbGradIdeal.τ).loc Cert.FbGradIdeal.main_v39) = v4 c
          ∧ r.2.mem ((c.tc : Thread Cert.FbGradIdeal.nD Cert.FbGradIdeal.τ).loc Cert.FbGradIdeal.main_arg0) = m' ((c.tc : Thread Cert.FbGradIdeal.nD Cert.FbGradIdeal.τ).loc Cert.FbGradIdeal.main_arg0)
          ∧ r.2.mem ((c.tc : Thread Cert.FbGradIdeal.nD Cert.FbGradIdeal.τ).loc Cert.FbGradIdeal.main_arg1) = m' ((c.tc : Thread Cert.FbGradIdeal.nD Cert.FbGradIdeal.τ).loc Cert.FbGradIdeal.main_arg1)
          ∧ r.2.mem ((c.tc : Thread Cert.FbGradIdeal.nD Cert.FbGradIdeal.τ).loc Cert.FbGradIdeal.main_arg2) = m' ((c.tc : Thread Cert.FbGradIdeal.nD Cert.FbGradIdeal.τ).loc Cert.FbGradIdeal.main_arg2)
          ∧ r.2.mem ((c.tc : Thread Cert.FbGradIdeal.nD Cert.FbGradIdeal.τ).loc Cert.FbGradIdeal.main_arg3) = m' ((c.tc : Thread Cert.FbGradIdeal.nD Cert.FbGradIdeal.τ).loc Cert.FbGradIdeal.main_arg3)
          ∧ r.2.mem ((c.tc : Thread Cert.FbGradIdeal.nD Cert.FbGradIdeal.τ).loc Cert.FbGradIdeal.main_arg4) = m' ((c.tc : Thread Cert.FbGradIdeal.nD Cert.FbGradIdeal.τ).loc Cert.FbGradIdeal.main_arg4)
          ∧ r.2.mem ((c.tc : Thread Cert.FbGradIdeal.nD Cert.FbGradIdeal.τ).loc Cert.FbGradIdeal.main_arg5) = m' ((c.tc : Thread Cert.FbGradIdeal.nD Cert.FbGradIdeal.τ).loc Cert.FbGradIdeal.main_arg5)
          ∧ r.2.mem ((c.tc : Thread Cert.FbGradIdeal.nD Cert.FbGradIdeal.τ).loc Cert.FbGradIdeal.main_arg6) = m' ((c.tc : Thread Cert.FbGradIdeal.nD Cert.FbGradIdeal.τ).loc Cert.FbGradIdeal.main_arg6)
          ∧ r.2.mem ((c.tc : Thread Cert.FbGradIdeal.nD Cert.FbGradIdeal.τ).loc Cert.FbGradIdeal.main_arg7) = m' ((c.tc : Thread Cert.FbGradIdeal.nD Cert.FbGradIdeal.τ).loc Cert.FbGradIdeal.main_arg7))

def preserves_LhBwd_LhBwdIdeal : Prop :=
  True

def algebraic_LhBwdIdeal_LhGradIdeal [hLhBwdIdeal : Cert.LhBwdIdeal.Facts] [hLhGradIdeal : Cert.LhGradIdeal.Facts] : Prop :=
  ∀ (m : (ℓ : Loc Cert.LhBwdIdeal.nD Cert.LhBwdIdeal.τ Cert.LhBwdIdeal.sig) → Buf (Elt Ideal) ℓ) (g : Dev Cert.LhBwdIdeal.nD → PrngReg)
    (m' : (ℓ : Loc Cert.LhGradIdeal.nD Cert.LhGradIdeal.τ Cert.LhGradIdeal.sig) → Buf (Elt Ideal) ℓ) (g' : Dev Cert.LhGradIdeal.nD → PrngReg), Pre_LhBwdIdeal m →
    (∀ c : Dev Cert.LhBwdIdeal.nD,
      m' ((c.tc : Thread Cert.LhGradIdeal.nD Cert.LhGradIdeal.τ).loc Cert.LhGradIdeal.main_arg0) = m ((c.tc : Thread Cert.LhBwdIdeal.nD Cert.LhBwdIdeal.τ).loc Cert.LhBwdIdeal.main_arg0)
      ∧ m' ((c.tc : Thread Cert.LhGradIdeal.nD Cert.LhGradIdeal.τ).loc Cert.LhGradIdeal.main_arg1) = m ((c.tc : Thread Cert.LhBwdIdeal.nD Cert.LhBwdIdeal.τ).loc Cert.LhBwdIdeal.main_arg1)) →
    ∃ (v0 : (c : Dev Cert.LhBwdIdeal.nD) → Buf (Elt Ideal) ((c.tc : Thread Cert.LhBwdIdeal.nD Cert.LhBwdIdeal.τ).loc Cert.LhBwdIdeal.main_v0_0)) (v1 : (c : Dev Cert.LhBwdIdeal.nD) → Buf (Elt Ideal) ((c.tc : Thread Cert.LhBwdIdeal.nD Cert.LhBwdIdeal.τ).loc Cert.LhBwdIdeal.main_v0_1)),
      θ_run (Cert.LhBwdIdeal.defs (F := Ideal)) (onTc (τ := Cert.LhBwdIdeal.τ) (Cert.LhBwdIdeal.main (F := Ideal))) ⟨m, fun _ => 0, g⟩ (fun r => ∀ c : Dev Cert.LhBwdIdeal.nD,
          r.2.mem ((c.tc : Thread Cert.LhBwdIdeal.nD Cert.LhBwdIdeal.τ).loc Cert.LhBwdIdeal.main_v0_0) = v0 c
          ∧ r.2.mem ((c.tc : Thread Cert.LhBwdIdeal.nD Cert.LhBwdIdeal.τ).loc Cert.LhBwdIdeal.main_v0_1) = v1 c
          ∧ r.2.mem ((c.tc : Thread Cert.LhBwdIdeal.nD Cert.LhBwdIdeal.τ).loc Cert.LhBwdIdeal.main_arg0) = m ((c.tc : Thread Cert.LhBwdIdeal.nD Cert.LhBwdIdeal.τ).loc Cert.LhBwdIdeal.main_arg0)
          ∧ r.2.mem ((c.tc : Thread Cert.LhBwdIdeal.nD Cert.LhBwdIdeal.τ).loc Cert.LhBwdIdeal.main_arg1) = m ((c.tc : Thread Cert.LhBwdIdeal.nD Cert.LhBwdIdeal.τ).loc Cert.LhBwdIdeal.main_arg1))
      ∧ θ_run (Cert.LhGradIdeal.defs (F := Ideal)) (onTc (τ := Cert.LhGradIdeal.τ) (Cert.LhGradIdeal.main (F := Ideal))) ⟨m', fun _ => 0, g'⟩ (fun r => ∀ c : Dev Cert.LhGradIdeal.nD,
          r.2.mem ((c.tc : Thread Cert.LhGradIdeal.nD Cert.LhGradIdeal.τ).loc Cert.LhGradIdeal.main_v14) = v0 c
          ∧ r.2.mem ((c.tc : Thread Cert.LhGradIdeal.nD Cert.LhGradIdeal.τ).loc Cert.LhGradIdeal.main_v15) = v1 c
          ∧ r.2.mem ((c.tc : Thread Cert.LhGradIdeal.nD Cert.LhGradIdeal.τ).loc Cert.LhGradIdeal.main_arg0) = m' ((c.tc : Thread Cert.LhGradIdeal.nD Cert.LhGradIdeal.τ).loc Cert.LhGradIdeal.main_arg0)
          ∧ r.2.mem ((c.tc : Thread Cert.LhGradIdeal.nD Cert.LhGradIdeal.τ).loc Cert.LhGradIdeal.main_arg1) = m' ((c.tc : Thread Cert.LhGradIdeal.nD Cert.LhGradIdeal.τ).loc Cert.LhGradIdeal.main_arg1))

def preserves_BvBwd_BvBwdIdeal : Prop :=
  True

def algebraic_BvBwdIdeal_BvGradIdeal [hBvBwdIdeal : Cert.BvBwdIdeal.Facts] [hBvGradIdeal : Cert.BvGradIdeal.Facts] : Prop :=
  ∀ (m : (ℓ : Loc Cert.BvBwdIdeal.nD Cert.BvBwdIdeal.τ Cert.BvBwdIdeal.sig) → Buf (Elt Ideal) ℓ) (g : Dev Cert.BvBwdIdeal.nD → PrngReg)
    (m' : (ℓ : Loc Cert.BvGradIdeal.nD Cert.BvGradIdeal.τ Cert.BvGradIdeal.sig) → Buf (Elt Ideal) ℓ) (g' : Dev Cert.BvGradIdeal.nD → PrngReg), Pre_BvBwdIdeal m →
    (∀ c : Dev Cert.BvBwdIdeal.nD,
      m' ((c.tc : Thread Cert.BvGradIdeal.nD Cert.BvGradIdeal.τ).loc Cert.BvGradIdeal.main_arg0) = m ((c.tc : Thread Cert.BvBwdIdeal.nD Cert.BvBwdIdeal.τ).loc Cert.BvBwdIdeal.main_arg0)) →
    ∃ (v0 : (c : Dev Cert.BvBwdIdeal.nD) → Buf (Elt Ideal) ((c.tc : Thread Cert.BvBwdIdeal.nD Cert.BvBwdIdeal.τ).loc Cert.BvBwdIdeal.main_v0)),
      θ_run (Cert.BvBwdIdeal.defs (F := Ideal)) (onTc (τ := Cert.BvBwdIdeal.τ) (Cert.BvBwdIdeal.main (F := Ideal))) ⟨m, fun _ => 0, g⟩ (fun r => ∀ c : Dev Cert.BvBwdIdeal.nD,
          r.2.mem ((c.tc : Thread Cert.BvBwdIdeal.nD Cert.BvBwdIdeal.τ).loc Cert.BvBwdIdeal.main_v0) = v0 c
          ∧ r.2.mem ((c.tc : Thread Cert.BvBwdIdeal.nD Cert.BvBwdIdeal.τ).loc Cert.BvBwdIdeal.main_arg0) = m ((c.tc : Thread Cert.BvBwdIdeal.nD Cert.BvBwdIdeal.τ).loc Cert.BvBwdIdeal.main_arg0))
      ∧ θ_run (Cert.BvGradIdeal.defs (F := Ideal)) (onTc (τ := Cert.BvGradIdeal.τ) (Cert.BvGradIdeal.main (F := Ideal))) ⟨m', fun _ => 0, g'⟩ (fun r => ∀ c : Dev Cert.BvGradIdeal.nD,
          r.2.mem ((c.tc : Thread Cert.BvGradIdeal.nD Cert.BvGradIdeal.τ).loc Cert.BvGradIdeal.main_v23) = v0 c
          ∧ r.2.mem ((c.tc : Thread Cert.BvGradIdeal.nD Cert.BvGradIdeal.τ).loc Cert.BvGradIdeal.main_arg0) = m' ((c.tc : Thread Cert.BvGradIdeal.nD Cert.BvGradIdeal.τ).loc Cert.BvGradIdeal.main_arg0))

def preserves_AfFwd_AfFwdIdeal : Prop :=
  IdealRules.named_const.Statement Cert.AfFwdIdeal.κ "mask" .f32 0xF149F2CA#32 ⊥

def algebraic_AfFwdIdeal_AfFormIdeal_pre_af_finite [hAfFwdIdeal : Cert.AfFwdIdeal.Facts] [hAfFormIdeal : Cert.AfFormIdeal.Facts] [hPre_af_finite : Cert.Pre_af_finite.Facts] : Prop :=
  ∀ (m : (ℓ : Loc Cert.AfFwdIdeal.nD Cert.AfFwdIdeal.τ Cert.AfFwdIdeal.sig) → Buf (Elt Ideal) ℓ) (g : Dev Cert.AfFwdIdeal.nD → PrngReg)
    (m' : (ℓ : Loc Cert.AfFormIdeal.nD Cert.AfFormIdeal.τ Cert.AfFormIdeal.sig) → Buf (Elt Ideal) ℓ) (g' : Dev Cert.AfFormIdeal.nD → PrngReg), Pre_AfFwdIdeal_af_finite m →
    (∀ c : Dev Cert.AfFwdIdeal.nD,
      m' ((c.tc : Thread Cert.AfFormIdeal.nD Cert.AfFormIdeal.τ).loc Cert.AfFormIdeal.main_arg0) = m ((c.tc : Thread Cert.AfFwdIdeal.nD Cert.AfFwdIdeal.τ).loc Cert.AfFwdIdeal.main_arg0)
      ∧ m' ((c.tc : Thread Cert.AfFormIdeal.nD Cert.AfFormIdeal.τ).loc Cert.AfFormIdeal.main_arg1) = m ((c.tc : Thread Cert.AfFwdIdeal.nD Cert.AfFwdIdeal.τ).loc Cert.AfFwdIdeal.main_arg1)) →
    ∃ (v0 : (c : Dev Cert.AfFwdIdeal.nD) → Buf (Elt Ideal) ((c.tc : Thread Cert.AfFwdIdeal.nD Cert.AfFwdIdeal.τ).loc Cert.AfFwdIdeal.main_v0)),
      θ_run (Cert.AfFwdIdeal.defs (F := Ideal)) (onTc (τ := Cert.AfFwdIdeal.τ) (Cert.AfFwdIdeal.main (F := Ideal))) ⟨m, fun _ => 0, g⟩ (fun r => ∀ c : Dev Cert.AfFwdIdeal.nD,
          r.2.mem ((c.tc : Thread Cert.AfFwdIdeal.nD Cert.AfFwdIdeal.τ).loc Cert.AfFwdIdeal.main_v0) = v0 c
          ∧ r.2.mem ((c.tc : Thread Cert.AfFwdIdeal.nD Cert.AfFwdIdeal.τ).loc Cert.AfFwdIdeal.main_arg0) = m ((c.tc : Thread Cert.AfFwdIdeal.nD Cert.AfFwdIdeal.τ).loc Cert.AfFwdIdeal.main_arg0)
          ∧ r.2.mem ((c.tc : Thread Cert.AfFwdIdeal.nD Cert.AfFwdIdeal.τ).loc Cert.AfFwdIdeal.main_arg1) = m ((c.tc : Thread Cert.AfFwdIdeal.nD Cert.AfFwdIdeal.τ).loc Cert.AfFwdIdeal.main_arg1))
      ∧ θ_run (Cert.AfFormIdeal.defs (F := Ideal)) (onTc (τ := Cert.AfFormIdeal.τ) (Cert.AfFormIdeal.main (F := Ideal))) ⟨m', fun _ => 0, g'⟩ (fun r => ∀ c : Dev Cert.AfFormIdeal.nD,
          r.2.mem ((c.tc : Thread Cert.AfFormIdeal.nD Cert.AfFormIdeal.τ).loc Cert.AfFormIdeal.main_v60) = v0 c
          ∧ r.2.mem ((c.tc : Thread Cert.AfFormIdeal.nD Cert.AfFormIdeal.τ).loc Cert.AfFormIdeal.main_arg0) = m' ((c.tc : Thread Cert.AfFormIdeal.nD Cert.AfFormIdeal.τ).loc Cert.AfFormIdeal.main_arg0)
          ∧ r.2.mem ((c.tc : Thread Cert.AfFormIdeal.nD Cert.AfFormIdeal.τ).loc Cert.AfFormIdeal.main_arg1) = m' ((c.tc : Thread Cert.AfFormIdeal.nD Cert.AfFormIdeal.τ).loc Cert.AfFormIdeal.main_arg1))

def preserves_SfFwd_SfFwdIdeal : Prop :=
  True

def algebraic_SfFwdIdeal_SfFormIdeal_pre_sf_finite [hSfFwdIdeal : Cert.SfFwdIdeal.Facts] [hSfFormIdeal : Cert.SfFormIdeal.Facts] [hPre_sf_finite : Cert.Pre_sf_finite.Facts] : Prop :=
  ∀ (m : (ℓ : Loc Cert.SfFwdIdeal.nD Cert.SfFwdIdeal.τ Cert.SfFwdIdeal.sig) → Buf (Elt Ideal) ℓ) (g : Dev Cert.SfFwdIdeal.nD → PrngReg)
    (m' : (ℓ : Loc Cert.SfFormIdeal.nD Cert.SfFormIdeal.τ Cert.SfFormIdeal.sig) → Buf (Elt Ideal) ℓ) (g' : Dev Cert.SfFormIdeal.nD → PrngReg), Pre_SfFwdIdeal_sf_finite m →
    (∀ c : Dev Cert.SfFwdIdeal.nD,
      m' ((c.tc : Thread Cert.SfFormIdeal.nD Cert.SfFormIdeal.τ).loc Cert.SfFormIdeal.main_arg0) = m ((c.tc : Thread Cert.SfFwdIdeal.nD Cert.SfFwdIdeal.τ).loc Cert.SfFwdIdeal.main_arg0)) →
    ∃ (v0 : (c : Dev Cert.SfFwdIdeal.nD) → Buf (Elt Ideal) ((c.tc : Thread Cert.SfFwdIdeal.nD Cert.SfFwdIdeal.τ).loc Cert.SfFwdIdeal.main_v0_0)) (v1 : (c : Dev Cert.SfFwdIdeal.nD) → Buf (Elt Ideal) ((c.tc : Thread Cert.SfFwdIdeal.nD Cert.SfFwdIdeal.τ).loc Cert.SfFwdIdeal.main_v0_1)),
      θ_run (Cert.SfFwdIdeal.defs (F := Ideal)) (onTc (τ := Cert.SfFwdIdeal.τ) (Cert.SfFwdIdeal.main (F := Ideal))) ⟨m, fun _ => 0, g⟩ (fun r => ∀ c : Dev Cert.SfFwdIdeal.nD,
          r.2.mem ((c.tc : Thread Cert.SfFwdIdeal.nD Cert.SfFwdIdeal.τ).loc Cert.SfFwdIdeal.main_v0_0) = v0 c
          ∧ r.2.mem ((c.tc : Thread Cert.SfFwdIdeal.nD Cert.SfFwdIdeal.τ).loc Cert.SfFwdIdeal.main_v0_1) = v1 c
          ∧ r.2.mem ((c.tc : Thread Cert.SfFwdIdeal.nD Cert.SfFwdIdeal.τ).loc Cert.SfFwdIdeal.main_arg0) = m ((c.tc : Thread Cert.SfFwdIdeal.nD Cert.SfFwdIdeal.τ).loc Cert.SfFwdIdeal.main_arg0))
      ∧ θ_run (Cert.SfFormIdeal.defs (F := Ideal)) (onTc (τ := Cert.SfFormIdeal.τ) (Cert.SfFormIdeal.main (F := Ideal))) ⟨m', fun _ => 0, g'⟩ (fun r => ∀ c : Dev Cert.SfFormIdeal.nD,
          r.2.mem ((c.tc : Thread Cert.SfFormIdeal.nD Cert.SfFormIdeal.τ).loc Cert.SfFormIdeal.main_v34) = v0 c
          ∧ r.2.mem ((c.tc : Thread Cert.SfFormIdeal.nD Cert.SfFormIdeal.τ).loc Cert.SfFormIdeal.main_v36) = v1 c
          ∧ r.2.mem ((c.tc : Thread Cert.SfFormIdeal.nD Cert.SfFormIdeal.τ).loc Cert.SfFormIdeal.main_arg0) = m' ((c.tc : Thread Cert.SfFormIdeal.nD Cert.SfFormIdeal.τ).loc Cert.SfFormIdeal.main_arg0))

def preserves_MlFwd_MlFwdIdeal : Prop :=
  True

def algebraic_MlFwdIdeal_MlFormIdeal [hMlFwdIdeal : Cert.MlFwdIdeal.Facts] [hMlFormIdeal : Cert.MlFormIdeal.Facts] : Prop :=
  ∀ (m : (ℓ : Loc Cert.MlFwdIdeal.nD Cert.MlFwdIdeal.τ Cert.MlFwdIdeal.sig) → Buf (Elt Ideal) ℓ) (g : Dev Cert.MlFwdIdeal.nD → PrngReg)
    (m' : (ℓ : Loc Cert.MlFormIdeal.nD Cert.MlFormIdeal.τ Cert.MlFormIdeal.sig) → Buf (Elt Ideal) ℓ) (g' : Dev Cert.MlFormIdeal.nD → PrngReg), Pre_MlFwdIdeal m →
    (∀ c : Dev Cert.MlFwdIdeal.nD,
      m' ((c.tc : Thread Cert.MlFormIdeal.nD Cert.MlFormIdeal.τ).loc Cert.MlFormIdeal.main_arg0) = m ((c.tc : Thread Cert.MlFwdIdeal.nD Cert.MlFwdIdeal.τ).loc Cert.MlFwdIdeal.main_arg0)
      ∧ m' ((c.tc : Thread Cert.MlFormIdeal.nD Cert.MlFormIdeal.τ).loc Cert.MlFormIdeal.main_arg1) = m ((c.tc : Thread Cert.MlFwdIdeal.nD Cert.MlFwdIdeal.τ).loc Cert.MlFwdIdeal.main_arg1)
      ∧ m' ((c.tc : Thread Cert.MlFormIdeal.nD Cert.MlFormIdeal.τ).loc Cert.MlFormIdeal.main_arg2) = m ((c.tc : Thread Cert.MlFwdIdeal.nD Cert.MlFwdIdeal.τ).loc Cert.MlFwdIdeal.main_arg2)
      ∧ m' ((c.tc : Thread Cert.MlFormIdeal.nD Cert.MlFormIdeal.τ).loc Cert.MlFormIdeal.main_arg3) = m ((c.tc : Thread Cert.MlFwdIdeal.nD Cert.MlFwdIdeal.τ).loc Cert.MlFwdIdeal.main_arg3)
      ∧ m' ((c.tc : Thread Cert.MlFormIdeal.nD Cert.MlFormIdeal.τ).loc Cert.MlFormIdeal.main_arg4) = m ((c.tc : Thread Cert.MlFwdIdeal.nD Cert.MlFwdIdeal.τ).loc Cert.MlFwdIdeal.main_arg4)) →
    ∃ (v0 : (c : Dev Cert.MlFwdIdeal.nD) → Buf (Elt Ideal) ((c.tc : Thread Cert.MlFwdIdeal.nD Cert.MlFwdIdeal.τ).loc Cert.MlFwdIdeal.main_v2_0)) (v1 : (c : Dev Cert.MlFwdIdeal.nD) → Buf (Elt Ideal) ((c.tc : Thread Cert.MlFwdIdeal.nD Cert.MlFwdIdeal.τ).loc Cert.MlFwdIdeal.main_v2_1)) (v2 : (c : Dev Cert.MlFwdIdeal.nD) → Buf (Elt Ideal) ((c.tc : Thread Cert.MlFwdIdeal.nD Cert.MlFwdIdeal.τ).loc Cert.MlFwdIdeal.main_v2_2)) (v3 : (c : Dev Cert.MlFwdIdeal.nD) → Buf (Elt Ideal) ((c.tc : Thread Cert.MlFwdIdeal.nD Cert.MlFwdIdeal.τ).loc Cert.MlFwdIdeal.main_v2_3)),
      θ_run (Cert.MlFwdIdeal.defs (F := Ideal)) (onTc (τ := Cert.MlFwdIdeal.τ) (Cert.MlFwdIdeal.main (F := Ideal))) ⟨m, fun _ => 0, g⟩ (fun r => ∀ c : Dev Cert.MlFwdIdeal.nD,
          r.2.mem ((c.tc : Thread Cert.MlFwdIdeal.nD Cert.MlFwdIdeal.τ).loc Cert.MlFwdIdeal.main_v2_0) = v0 c
          ∧ r.2.mem ((c.tc : Thread Cert.MlFwdIdeal.nD Cert.MlFwdIdeal.τ).loc Cert.MlFwdIdeal.main_v2_1) = v1 c
          ∧ r.2.mem ((c.tc : Thread Cert.MlFwdIdeal.nD Cert.MlFwdIdeal.τ).loc Cert.MlFwdIdeal.main_v2_2) = v2 c
          ∧ r.2.mem ((c.tc : Thread Cert.MlFwdIdeal.nD Cert.MlFwdIdeal.τ).loc Cert.MlFwdIdeal.main_v2_3) = v3 c
          ∧ r.2.mem ((c.tc : Thread Cert.MlFwdIdeal.nD Cert.MlFwdIdeal.τ).loc Cert.MlFwdIdeal.main_arg0) = m ((c.tc : Thread Cert.MlFwdIdeal.nD Cert.MlFwdIdeal.τ).loc Cert.MlFwdIdeal.main_arg0)
          ∧ r.2.mem ((c.tc : Thread Cert.MlFwdIdeal.nD Cert.MlFwdIdeal.τ).loc Cert.MlFwdIdeal.main_arg1) = m ((c.tc : Thread Cert.MlFwdIdeal.nD Cert.MlFwdIdeal.τ).loc Cert.MlFwdIdeal.main_arg1)
          ∧ r.2.mem ((c.tc : Thread Cert.MlFwdIdeal.nD Cert.MlFwdIdeal.τ).loc Cert.MlFwdIdeal.main_arg2) = m ((c.tc : Thread Cert.MlFwdIdeal.nD Cert.MlFwdIdeal.τ).loc Cert.MlFwdIdeal.main_arg2)
          ∧ r.2.mem ((c.tc : Thread Cert.MlFwdIdeal.nD Cert.MlFwdIdeal.τ).loc Cert.MlFwdIdeal.main_arg3) = m ((c.tc : Thread Cert.MlFwdIdeal.nD Cert.MlFwdIdeal.τ).loc Cert.MlFwdIdeal.main_arg3)
          ∧ r.2.mem ((c.tc : Thread Cert.MlFwdIdeal.nD Cert.MlFwdIdeal.τ).loc Cert.MlFwdIdeal.main_arg4) = m ((c.tc : Thread Cert.MlFwdIdeal.nD Cert.MlFwdIdeal.τ).loc Cert.MlFwdIdeal.main_arg4))
      ∧ θ_run (Cert.MlFormIdeal.defs (F := Ideal)) (onTc (τ := Cert.MlFormIdeal.τ) (Cert.MlFormIdeal.main (F := Ideal))) ⟨m', fun _ => 0, g'⟩ (fun r => ∀ c : Dev Cert.MlFormIdeal.nD,
          r.2.mem ((c.tc : Thread Cert.MlFormIdeal.nD Cert.MlFormIdeal.τ).loc Cert.MlFormIdeal.main_v33) = v0 c
          ∧ r.2.mem ((c.tc : Thread Cert.MlFormIdeal.nD Cert.MlFormIdeal.τ).loc Cert.MlFormIdeal.main_v34) = v1 c
          ∧ r.2.mem ((c.tc : Thread Cert.MlFormIdeal.nD Cert.MlFormIdeal.τ).loc Cert.MlFormIdeal.main_v27) = v2 c
          ∧ r.2.mem ((c.tc : Thread Cert.MlFormIdeal.nD Cert.MlFormIdeal.τ).loc Cert.MlFormIdeal.main_v23) = v3 c
          ∧ r.2.mem ((c.tc : Thread Cert.MlFormIdeal.nD Cert.MlFormIdeal.τ).loc Cert.MlFormIdeal.main_arg0) = m' ((c.tc : Thread Cert.MlFormIdeal.nD Cert.MlFormIdeal.τ).loc Cert.MlFormIdeal.main_arg0)
          ∧ r.2.mem ((c.tc : Thread Cert.MlFormIdeal.nD Cert.MlFormIdeal.τ).loc Cert.MlFormIdeal.main_arg1) = m' ((c.tc : Thread Cert.MlFormIdeal.nD Cert.MlFormIdeal.τ).loc Cert.MlFormIdeal.main_arg1)
          ∧ r.2.mem ((c.tc : Thread Cert.MlFormIdeal.nD Cert.MlFormIdeal.τ).loc Cert.MlFormIdeal.main_arg2) = m' ((c.tc : Thread Cert.MlFormIdeal.nD Cert.MlFormIdeal.τ).loc Cert.MlFormIdeal.main_arg2)
          ∧ r.2.mem ((c.tc : Thread Cert.MlFormIdeal.nD Cert.MlFormIdeal.τ).loc Cert.MlFormIdeal.main_arg3) = m' ((c.tc : Thread Cert.MlFormIdeal.nD Cert.MlFormIdeal.τ).loc Cert.MlFormIdeal.main_arg3)
          ∧ r.2.mem ((c.tc : Thread Cert.MlFormIdeal.nD Cert.MlFormIdeal.τ).loc Cert.MlFormIdeal.main_arg4) = m' ((c.tc : Thread Cert.MlFormIdeal.nD Cert.MlFormIdeal.τ).loc Cert.MlFormIdeal.main_arg4))

def preserves_FuFwd_FuFwdIdeal : Prop :=
  True

def algebraic_FuFwdIdeal_FuFormIdeal [hFuFwdIdeal : Cert.FuFwdIdeal.Facts] [hFuFormIdeal : Cert.FuFormIdeal.Facts] : Prop :=
  ∀ (m : (ℓ : Loc Cert.FuFwdIdeal.nD Cert.FuFwdIdeal.τ Cert.FuFwdIdeal.sig) → Buf (Elt Ideal) ℓ) (g : Dev Cert.FuFwdIdeal.nD → PrngReg)
    (m' : (ℓ : Loc Cert.FuFormIdeal.nD Cert.FuFormIdeal.τ Cert.FuFormIdeal.sig) → Buf (Elt Ideal) ℓ) (g' : Dev Cert.FuFormIdeal.nD → PrngReg), Pre_FuFwdIdeal m →
    (∀ c : Dev Cert.FuFwdIdeal.nD,
      m' ((c.tc : Thread Cert.FuFormIdeal.nD Cert.FuFormIdeal.τ).loc Cert.FuFormIdeal.main_arg0) = m ((c.tc : Thread Cert.FuFwdIdeal.nD Cert.FuFwdIdeal.τ).loc Cert.FuFwdIdeal.main_arg0)
      ∧ m' ((c.tc : Thread Cert.FuFormIdeal.nD Cert.FuFormIdeal.τ).loc Cert.FuFormIdeal.main_arg1) = m ((c.tc : Thread Cert.FuFwdIdeal.nD Cert.FuFwdIdeal.τ).loc Cert.FuFwdIdeal.main_arg1)
      ∧ m' ((c.tc : Thread Cert.FuFormIdeal.nD Cert.FuFormIdeal.τ).loc Cert.FuFormIdeal.main_arg2) = m ((c.tc : Thread Cert.FuFwdIdeal.nD Cert.FuFwdIdeal.τ).loc Cert.FuFwdIdeal.main_arg2)) →
    ∃ (v0 : (c : Dev Cert.FuFwdIdeal.nD) → Buf (Elt Ideal) ((c.tc : Thread Cert.FuFwdIdeal.nD Cert.FuFwdIdeal.τ).loc Cert.FuFwdIdeal.main_v0_0)) (v1 : (c : Dev Cert.FuFwdIdeal.nD) → Buf (Elt Ideal) ((c.tc : Thread Cert.FuFwdIdeal.nD Cert.FuFwdIdeal.τ).loc Cert.FuFwdIdeal.main_v0_1)) (v2 : (c : Dev Cert.FuFwdIdeal.nD) → Buf (Elt Ideal) ((c.tc : Thread Cert.FuFwdIdeal.nD Cert.FuFwdIdeal.τ).loc Cert.FuFwdIdeal.main_v0_2)),
      θ_run (Cert.FuFwdIdeal.defs (F := Ideal)) (onTc (τ := Cert.FuFwdIdeal.τ) (Cert.FuFwdIdeal.main (F := Ideal))) ⟨m, fun _ => 0, g⟩ (fun r => ∀ c : Dev Cert.FuFwdIdeal.nD,
          r.2.mem ((c.tc : Thread Cert.FuFwdIdeal.nD Cert.FuFwdIdeal.τ).loc Cert.FuFwdIdeal.main_v0_0) = v0 c
          ∧ r.2.mem ((c.tc : Thread Cert.FuFwdIdeal.nD Cert.FuFwdIdeal.τ).loc Cert.FuFwdIdeal.main_v0_1) = v1 c
          ∧ r.2.mem ((c.tc : Thread Cert.FuFwdIdeal.nD Cert.FuFwdIdeal.τ).loc Cert.FuFwdIdeal.main_v0_2) = v2 c
          ∧ r.2.mem ((c.tc : Thread Cert.FuFwdIdeal.nD Cert.FuFwdIdeal.τ).loc Cert.FuFwdIdeal.main_arg0) = m ((c.tc : Thread Cert.FuFwdIdeal.nD Cert.FuFwdIdeal.τ).loc Cert.FuFwdIdeal.main_arg0)
          ∧ r.2.mem ((c.tc : Thread Cert.FuFwdIdeal.nD Cert.FuFwdIdeal.τ).loc Cert.FuFwdIdeal.main_arg1) = m ((c.tc : Thread Cert.FuFwdIdeal.nD Cert.FuFwdIdeal.τ).loc Cert.FuFwdIdeal.main_arg1)
          ∧ r.2.mem ((c.tc : Thread Cert.FuFwdIdeal.nD Cert.FuFwdIdeal.τ).loc Cert.FuFwdIdeal.main_arg2) = m ((c.tc : Thread Cert.FuFwdIdeal.nD Cert.FuFwdIdeal.τ).loc Cert.FuFwdIdeal.main_arg2))
      ∧ θ_run (Cert.FuFormIdeal.defs (F := Ideal)) (onTc (τ := Cert.FuFormIdeal.τ) (Cert.FuFormIdeal.main (F := Ideal))) ⟨m', fun _ => 0, g'⟩ (fun r => ∀ c : Dev Cert.FuFormIdeal.nD,
          r.2.mem ((c.tc : Thread Cert.FuFormIdeal.nD Cert.FuFormIdeal.τ).loc Cert.FuFormIdeal.main_v12) = v0 c
          ∧ r.2.mem ((c.tc : Thread Cert.FuFormIdeal.nD Cert.FuFormIdeal.τ).loc Cert.FuFormIdeal.main_v13) = v1 c
          ∧ r.2.mem ((c.tc : Thread Cert.FuFormIdeal.nD Cert.FuFormIdeal.τ).loc Cert.FuFormIdeal.main_v16) = v2 c
          ∧ r.2.mem ((c.tc : Thread Cert.FuFormIdeal.nD Cert.FuFormIdeal.τ).loc Cert.FuFormIdeal.main_arg0) = m' ((c.tc : Thread Cert.FuFormIdeal.nD Cert.FuFormIdeal.τ).loc Cert.FuFormIdeal.main_arg0)
          ∧ r.2.mem ((c.tc : Thread Cert.FuFormIdeal.nD Cert.FuFormIdeal.τ).loc Cert.FuFormIdeal.main_arg1) = m' ((c.tc : Thread Cert.FuFormIdeal.nD Cert.FuFormIdeal.τ).loc Cert.FuFormIdeal.main_arg1)
          ∧ r.2.mem ((c.tc : Thread Cert.FuFormIdeal.nD Cert.FuFormIdeal.τ).loc Cert.FuFormIdeal.main_arg2) = m' ((c.tc : Thread Cert.FuFormIdeal.nD Cert.FuFormIdeal.τ).loc Cert.FuFormIdeal.main_arg2))

def preserves_BwFwd_BwFwdIdeal : Prop :=
  True

def algebraic_BwFwdIdeal_BwFormIdeal [hBwFwdIdeal : Cert.BwFwdIdeal.Facts] [hBwFormIdeal : Cert.BwFormIdeal.Facts] : Prop :=
  ∀ (m : (ℓ : Loc Cert.BwFwdIdeal.nD Cert.BwFwdIdeal.τ Cert.BwFwdIdeal.sig) → Buf (Elt Ideal) ℓ) (g : Dev Cert.BwFwdIdeal.nD → PrngReg)
    (m' : (ℓ : Loc Cert.BwFormIdeal.nD Cert.BwFormIdeal.τ Cert.BwFormIdeal.sig) → Buf (Elt Ideal) ℓ) (g' : Dev Cert.BwFormIdeal.nD → PrngReg), Pre_BwFwdIdeal m →
    (∀ c : Dev Cert.BwFwdIdeal.nD,
      m' ((c.tc : Thread Cert.BwFormIdeal.nD Cert.BwFormIdeal.τ).loc Cert.BwFormIdeal.main_arg0) = m ((c.tc : Thread Cert.BwFwdIdeal.nD Cert.BwFwdIdeal.τ).loc Cert.BwFwdIdeal.main_arg0)) →
    ∃ (v0 : (c : Dev Cert.BwFwdIdeal.nD) → Buf (Elt Ideal) ((c.tc : Thread Cert.BwFwdIdeal.nD Cert.BwFwdIdeal.τ).loc Cert.BwFwdIdeal.main_v2)),
      θ_run (Cert.BwFwdIdeal.defs (F := Ideal)) (onTc (τ := Cert.BwFwdIdeal.τ) (Cert.BwFwdIdeal.main (F := Ideal))) ⟨m, fun _ => 0, g⟩ (fun r => ∀ c : Dev Cert.BwFwdIdeal.nD,
          r.2.mem ((c.tc : Thread Cert.BwFwdIdeal.nD Cert.BwFwdIdeal.τ).loc Cert.BwFwdIdeal.main_v2) = v0 c
          ∧ r.2.mem ((c.tc : Thread Cert.BwFwdIdeal.nD Cert.BwFwdIdeal.τ).loc Cert.BwFwdIdeal.main_arg0) = m ((c.tc : Thread Cert.BwFwdIdeal.nD Cert.BwFwdIdeal.τ).loc Cert.BwFwdIdeal.main_arg0))
      ∧ θ_run (Cert.BwFormIdeal.defs (F := Ideal)) (onTc (τ := Cert.BwFormIdeal.τ) (Cert.BwFormIdeal.main (F := Ideal))) ⟨m', fun _ => 0, g'⟩ (fun r => ∀ c : Dev Cert.BwFormIdeal.nD,
          r.2.mem ((c.tc : Thread Cert.BwFormIdeal.nD Cert.BwFormIdeal.τ).loc Cert.BwFormIdeal.main_v13) = v0 c
          ∧ r.2.mem ((c.tc : Thread Cert.BwFormIdeal.nD Cert.BwFormIdeal.τ).loc Cert.BwFormIdeal.main_arg0) = m' ((c.tc : Thread Cert.BwFormIdeal.nD Cert.BwFormIdeal.τ).loc Cert.BwFormIdeal.main_arg0))

def preserves_PxSwap_PxSwapIdeal : Prop :=
  True

def algebraic_PxSwapIdeal_PxHalvesIdeal [hPxSwapIdeal : Cert.PxSwapIdeal.Facts] [hPxHalvesIdeal : Cert.PxHalvesIdeal.Facts] : Prop :=
  ∀ (m : (ℓ : Loc Cert.PxSwapIdeal.nD Cert.PxSwapIdeal.τ Cert.PxSwapIdeal.sig) → Buf (Elt Ideal) ℓ) (g : Dev Cert.PxSwapIdeal.nD → PrngReg)
    (m' : (ℓ : Loc Cert.PxHalvesIdeal.nD Cert.PxHalvesIdeal.τ Cert.PxHalvesIdeal.sig) → Buf (Elt Ideal) ℓ) (g' : Dev Cert.PxHalvesIdeal.nD → PrngReg), Pre_PxSwapIdeal m →
    (∀ c : Dev Cert.PxSwapIdeal.nD,
      m ((c.tc : Thread Cert.PxSwapIdeal.nD Cert.PxSwapIdeal.τ).loc Cert.PxSwapIdeal.main_arg0) = Layout.block ⟨4, ![1, 4, 704, 1024]⟩ ⟨4, ![8, 4, 704, 1024]⟩ 0 8 c (m' (((0 : Dev Cert.PxHalvesIdeal.nD).tc : Thread Cert.PxHalvesIdeal.nD Cert.PxHalvesIdeal.τ).loc Cert.PxHalvesIdeal.main_arg0))
      ∧ m ((c.tc : Thread Cert.PxSwapIdeal.nD Cert.PxSwapIdeal.τ).loc Cert.PxSwapIdeal.main_arg1) = Layout.block ⟨4, ![1, 4, 704, 1024]⟩ ⟨4, ![8, 4, 704, 1024]⟩ 0 8 c (m' (((0 : Dev Cert.PxHalvesIdeal.nD).tc : Thread Cert.PxHalvesIdeal.nD Cert.PxHalvesIdeal.τ).loc Cert.PxHalvesIdeal.main_arg1))
      ∧ m ((c.tc : Thread Cert.PxSwapIdeal.nD Cert.PxSwapIdeal.τ).loc Cert.PxSwapIdeal.main_arg2) = Layout.block ⟨4, ![1, 4, 704, 1024]⟩ ⟨4, ![8, 4, 704, 1024]⟩ 0 8 c (m' (((0 : Dev Cert.PxHalvesIdeal.nD).tc : Thread Cert.PxHalvesIdeal.nD Cert.PxHalvesIdeal.τ).loc Cert.PxHalvesIdeal.main_arg2))) →
    ∃ (v0 : Buf (Elt Ideal) (((0 : Dev Cert.PxHalvesIdeal.nD).tc : Thread Cert.PxHalvesIdeal.nD Cert.PxHalvesIdeal.τ).loc Cert.PxHalvesIdeal.main_v8)) (v1 : Buf (Elt Ideal) (((0 : Dev Cert.PxHalvesIdeal.nD).tc : Thread Cert.PxHalvesIdeal.nD Cert.PxHalvesIdeal.τ).loc Cert.PxHalvesIdeal.main_v17)) (v2 : Buf (Elt Ideal) (((0 : Dev Cert.PxHalvesIdeal.nD).tc : Thread Cert.PxHalvesIdeal.nD Cert.PxHalvesIdeal.τ).loc Cert.PxHalvesIdeal.main_v26)),
      θ_run (Cert.PxSwapIdeal.defs (F := Ideal)) (onTc (τ := Cert.PxSwapIdeal.τ) (Cert.PxSwapIdeal.main (F := Ideal))) ⟨m, fun _ => 0, g⟩ (fun r => ∀ c : Dev Cert.PxSwapIdeal.nD,
          r.2.mem ((c.tc : Thread Cert.PxSwapIdeal.nD Cert.PxSwapIdeal.τ).loc Cert.PxSwapIdeal.main_v1_0) = Layout.block ⟨4, ![1, 4, 352, 1024]⟩ ⟨4, ![8, 4, 352, 1024]⟩ 0 8 c v0
          ∧ r.2.mem ((c.tc : Thread Cert.PxSwapIdeal.nD Cert.PxSwapIdeal.τ).loc Cert.PxSwapIdeal.main_v1_1) = Layout.block ⟨4, ![1, 4, 352, 1024]⟩ ⟨4, ![8, 4, 352, 1024]⟩ 0 8 c v1
          ∧ r.2.mem ((c.tc : Thread Cert.PxSwapIdeal.nD Cert.PxSwapIdeal.τ).loc Cert.PxSwapIdeal.main_v1_2) = Layout.block ⟨4, ![1, 4, 352, 1024]⟩ ⟨4, ![8, 4, 352, 1024]⟩ 0 8 c v2
          ∧ r.2.mem ((c.tc : Thread Cert.PxSwapIdeal.nD Cert.PxSwapIdeal.τ).loc Cert.PxSwapIdeal.main_arg0) = m ((c.tc : Thread Cert.PxSwapIdeal.nD Cert.PxSwapIdeal.τ).loc Cert.PxSwapIdeal.main_arg0)
          ∧ r.2.mem ((c.tc : Thread Cert.PxSwapIdeal.nD Cert.PxSwapIdeal.τ).loc Cert.PxSwapIdeal.main_arg1) = m ((c.tc : Thread Cert.PxSwapIdeal.nD Cert.PxSwapIdeal.τ).loc Cert.PxSwapIdeal.main_arg1)
          ∧ r.2.mem ((c.tc : Thread Cert.PxSwapIdeal.nD Cert.PxSwapIdeal.τ).loc Cert.PxSwapIdeal.main_arg2) = m ((c.tc : Thread Cert.PxSwapIdeal.nD Cert.PxSwapIdeal.τ).loc Cert.PxSwapIdeal.main_arg2))
      ∧ θ_run (Cert.PxHalvesIdeal.defs (F := Ideal)) (onTc (τ := Cert.PxHalvesIdeal.τ) (Cert.PxHalvesIdeal.main (F := Ideal))) ⟨m', fun _ => 0, g'⟩ (fun r =>
          r.2.mem (((0 : Dev Cert.PxHalvesIdeal.nD).tc : Thread Cert.PxHalvesIdeal.nD Cert.PxHalvesIdeal.τ).loc Cert.PxHalvesIdeal.main_v8) = v0
          ∧ r.2.mem (((0 : Dev Cert.PxHalvesIdeal.nD).tc : Thread Cert.PxHalvesIdeal.nD Cert.PxHalvesIdeal.τ).loc Cert.PxHalvesIdeal.main_v17) = v1
          ∧ r.2.mem (((0 : Dev Cert.PxHalvesIdeal.nD).tc : Thread Cert.PxHalvesIdeal.nD Cert.PxHalvesIdeal.τ).loc Cert.PxHalvesIdeal.main_v26) = v2
          ∧ r.2.mem (((0 : Dev Cert.PxHalvesIdeal.nD).tc : Thread Cert.PxHalvesIdeal.nD Cert.PxHalvesIdeal.τ).loc Cert.PxHalvesIdeal.main_arg0) = m' (((0 : Dev Cert.PxHalvesIdeal.nD).tc : Thread Cert.PxHalvesIdeal.nD Cert.PxHalvesIdeal.τ).loc Cert.PxHalvesIdeal.main_arg0)
          ∧ r.2.mem (((0 : Dev Cert.PxHalvesIdeal.nD).tc : Thread Cert.PxHalvesIdeal.nD Cert.PxHalvesIdeal.τ).loc Cert.PxHalvesIdeal.main_arg1) = m' (((0 : Dev Cert.PxHalvesIdeal.nD).tc : Thread Cert.PxHalvesIdeal.nD Cert.PxHalvesIdeal.τ).loc Cert.PxHalvesIdeal.main_arg1)
          ∧ r.2.mem (((0 : Dev Cert.PxHalvesIdeal.nD).tc : Thread Cert.PxHalvesIdeal.nD Cert.PxHalvesIdeal.τ).loc Cert.PxHalvesIdeal.main_arg2) = m' (((0 : Dev Cert.PxHalvesIdeal.nD).tc : Thread Cert.PxHalvesIdeal.nD Cert.PxHalvesIdeal.τ).loc Cert.PxHalvesIdeal.main_arg2))

def Claim : Prop :=
  ∃ (hLnBwd : Cert.LnBwd.Facts) (hLnBwdIdeal : Cert.LnBwdIdeal.Facts) (hLnGradIdeal : Cert.LnGradIdeal.Facts) (hSbBwd : Cert.SbBwd.Facts) (hSbBwdIdeal : Cert.SbBwdIdeal.Facts) (hSbGradIdeal : Cert.SbGradIdeal.Facts) (hAaBwd : Cert.AaBwd.Facts) (hAaBwdIdeal : Cert.AaBwdIdeal.Facts) (hAaGradIdeal : Cert.AaGradIdeal.Facts) (hFxBwd : Cert.FxBwd.Facts) (hFxBwdIdeal : Cert.FxBwdIdeal.Facts) (hFxGradIdeal : Cert.FxGradIdeal.Facts) (hQxBwd : Cert.QxBwd.Facts) (hQxBwdIdeal : Cert.QxBwdIdeal.Facts) (hQxGradIdeal : Cert.QxGradIdeal.Facts) (hFbBwd : Cert.FbBwd.Facts) (hFbBwdIdeal : Cert.FbBwdIdeal.Facts) (hFbGradIdeal : Cert.FbGradIdeal.Facts) (hLhBwd : Cert.LhBwd.Facts) (hLhBwdIdeal : Cert.LhBwdIdeal.Facts) (hLhGradIdeal : Cert.LhGradIdeal.Facts) (hBvBwd : Cert.BvBwd.Facts) (hBvBwdIdeal : Cert.BvBwdIdeal.Facts) (hBvGradIdeal : Cert.BvGradIdeal.Facts) (hAfFwd : Cert.AfFwd.Facts) (hAfFwdIdeal : Cert.AfFwdIdeal.Facts) (hAfFormIdeal : Cert.AfFormIdeal.Facts) (hSfFwd : Cert.SfFwd.Facts) (hSfFwdIdeal : Cert.SfFwdIdeal.Facts) (hSfFormIdeal : Cert.SfFormIdeal.Facts) (hMlFwd : Cert.MlFwd.Facts) (hMlFwdIdeal : Cert.MlFwdIdeal.Facts) (hMlFormIdeal : Cert.MlFormIdeal.Facts) (hFuFwd : Cert.FuFwd.Facts) (hFuFwdIdeal : Cert.FuFwdIdeal.Facts) (hFuFormIdeal : Cert.FuFormIdeal.Facts) (hBwFwd : Cert.BwFwd.Facts) (hBwFwdIdeal : Cert.BwFwdIdeal.Facts) (hBwFormIdeal : Cert.BwFormIdeal.Facts) (hPxSwap : Cert.PxSwap.Facts) (hPxSwapIdeal : Cert.PxSwapIdeal.Facts) (hPxHalvesIdeal : Cert.PxHalvesIdeal.Facts) (hPre_ln_finite : Cert.Pre_ln_finite.Facts) (hPre_sb_finite : Cert.Pre_sb_finite.Facts) (hPre_aa_finite : Cert.Pre_aa_finite.Facts) (hPre_fx_finite : Cert.Pre_fx_finite.Facts) (hPre_qx_finite : Cert.Pre_qx_finite.Facts) (hPre_fb_finite : Cert.Pre_fb_finite.Facts) (hPre_af_finite : Cert.Pre_af_finite.Facts) (hPre_sf_finite : Cert.Pre_sf_finite.Facts),
    quiescent_LnBwd (hLnBwd := hLnBwd)
    ∧ quiescent_LnBwdIdeal (hLnBwdIdeal := hLnBwdIdeal)
    ∧ quiescent_LnBwdIdeal_pre_ln_finite (hLnBwdIdeal := hLnBwdIdeal) (hPre_ln_finite := hPre_ln_finite)
    ∧ quiescent_LnGradIdeal (hLnGradIdeal := hLnGradIdeal)
    ∧ quiescent_LnGradIdeal_pre_ln_finite (hLnGradIdeal := hLnGradIdeal) (hPre_ln_finite := hPre_ln_finite)
    ∧ quiescent_SbBwd (hSbBwd := hSbBwd)
    ∧ quiescent_SbBwdIdeal (hSbBwdIdeal := hSbBwdIdeal)
    ∧ quiescent_SbBwdIdeal_pre_sb_finite (hSbBwdIdeal := hSbBwdIdeal) (hPre_sb_finite := hPre_sb_finite)
    ∧ quiescent_SbGradIdeal (hSbGradIdeal := hSbGradIdeal)
    ∧ quiescent_SbGradIdeal_pre_sb_finite (hSbGradIdeal := hSbGradIdeal) (hPre_sb_finite := hPre_sb_finite)
    ∧ quiescent_AaBwd (hAaBwd := hAaBwd)
    ∧ quiescent_AaBwdIdeal (hAaBwdIdeal := hAaBwdIdeal)
    ∧ quiescent_AaBwdIdeal_pre_aa_finite (hAaBwdIdeal := hAaBwdIdeal) (hPre_aa_finite := hPre_aa_finite)
    ∧ quiescent_AaGradIdeal (hAaGradIdeal := hAaGradIdeal)
    ∧ quiescent_AaGradIdeal_pre_aa_finite (hAaGradIdeal := hAaGradIdeal) (hPre_aa_finite := hPre_aa_finite)
    ∧ quiescent_FxBwd (hFxBwd := hFxBwd)
    ∧ quiescent_FxBwdIdeal (hFxBwdIdeal := hFxBwdIdeal)
    ∧ quiescent_FxBwdIdeal_pre_fx_finite (hFxBwdIdeal := hFxBwdIdeal) (hPre_fx_finite := hPre_fx_finite)
    ∧ quiescent_FxGradIdeal (hFxGradIdeal := hFxGradIdeal)
    ∧ quiescent_FxGradIdeal_pre_fx_finite (hFxGradIdeal := hFxGradIdeal) (hPre_fx_finite := hPre_fx_finite)
    ∧ quiescent_QxBwd (hQxBwd := hQxBwd)
    ∧ quiescent_QxBwdIdeal (hQxBwdIdeal := hQxBwdIdeal)
    ∧ quiescent_QxBwdIdeal_pre_qx_finite (hQxBwdIdeal := hQxBwdIdeal) (hPre_qx_finite := hPre_qx_finite)
    ∧ quiescent_QxGradIdeal (hQxGradIdeal := hQxGradIdeal)
    ∧ quiescent_QxGradIdeal_pre_qx_finite (hQxGradIdeal := hQxGradIdeal) (hPre_qx_finite := hPre_qx_finite)
    ∧ quiescent_FbBwd (hFbBwd := hFbBwd)
    ∧ quiescent_FbBwdIdeal (hFbBwdIdeal := hFbBwdIdeal)
    ∧ quiescent_FbBwdIdeal_pre_fb_finite (hFbBwdIdeal := hFbBwdIdeal) (hPre_fb_finite := hPre_fb_finite)
    ∧ quiescent_FbGradIdeal (hFbGradIdeal := hFbGradIdeal)
    ∧ quiescent_FbGradIdeal_pre_fb_finite (hFbGradIdeal := hFbGradIdeal) (hPre_fb_finite := hPre_fb_finite)
    ∧ quiescent_LhBwd (hLhBwd := hLhBwd)
    ∧ quiescent_LhBwdIdeal (hLhBwdIdeal := hLhBwdIdeal)
    ∧ quiescent_LhGradIdeal (hLhGradIdeal := hLhGradIdeal)
    ∧ quiescent_BvBwd (hBvBwd := hBvBwd)
    ∧ quiescent_BvBwdIdeal (hBvBwdIdeal := hBvBwdIdeal)
    ∧ quiescent_BvGradIdeal (hBvGradIdeal := hBvGradIdeal)
    ∧ quiescent_AfFwd (hAfFwd := hAfFwd)
    ∧ quiescent_AfFwdIdeal (hAfFwdIdeal := hAfFwdIdeal)
    ∧ quiescent_AfFwdIdeal_pre_af_finite (hAfFwdIdeal := hAfFwdIdeal) (hPre_af_finite := hPre_af_finite)
    ∧ quiescent_AfFormIdeal (hAfFormIdeal := hAfFormIdeal)
    ∧ quiescent_AfFormIdeal_pre_af_finite (hAfFormIdeal := hAfFormIdeal) (hPre_af_finite := hPre_af_finite)
    ∧ quiescent_SfFwd (hSfFwd := hSfFwd)
    ∧ quiescent_SfFwdIdeal (hSfFwdIdeal := hSfFwdIdeal)
    ∧ quiescent_SfFwdIdeal_pre_sf_finite (hSfFwdIdeal := hSfFwdIdeal) (hPre_sf_finite := hPre_sf_finite)
    ∧ quiescent_SfFormIdeal (hSfFormIdeal := hSfFormIdeal)
    ∧ quiescent_SfFormIdeal_pre_sf_finite (hSfFormIdeal := hSfFormIdeal) (hPre_sf_finite := hPre_sf_finite)
    ∧ quiescent_MlFwd (hMlFwd := hMlFwd)
    ∧ quiescent_MlFwdIdeal (hMlFwdIdeal := hMlFwdIdeal)
    ∧ quiescent_MlFormIdeal (hMlFormIdeal := hMlFormIdeal)
    ∧ quiescent_FuFwd (hFuFwd := hFuFwd)
    ∧ quiescent_FuFwdIdeal (hFuFwdIdeal := hFuFwdIdeal)
    ∧ quiescent_FuFormIdeal (hFuFormIdeal := hFuFormIdeal)
    ∧ quiescent_BwFwd (hBwFwd := hBwFwd)
    ∧ quiescent_BwFwdIdeal (hBwFwdIdeal := hBwFwdIdeal)
    ∧ quiescent_BwFormIdeal (hBwFormIdeal := hBwFormIdeal)
    ∧ quiescent_PxSwap (hPxSwap := hPxSwap)
    ∧ quiescent_PxSwapIdeal (hPxSwapIdeal := hPxSwapIdeal)
    ∧ quiescent_PxHalvesIdeal (hPxHalvesIdeal := hPxHalvesIdeal)
    ∧ preserves_LnBwd_LnBwdIdeal
    ∧ algebraic_LnBwdIdeal_LnGradIdeal_pre_ln_finite (hLnBwdIdeal := hLnBwdIdeal) (hLnGradIdeal := hLnGradIdeal) (hPre_ln_finite := hPre_ln_finite)
    ∧ preserves_SbBwd_SbBwdIdeal
    ∧ algebraic_SbBwdIdeal_SbGradIdeal_pre_sb_finite (hSbBwdIdeal := hSbBwdIdeal) (hSbGradIdeal := hSbGradIdeal) (hPre_sb_finite := hPre_sb_finite)
    ∧ preserves_AaBwd_AaBwdIdeal
    ∧ algebraic_AaBwdIdeal_AaGradIdeal_pre_aa_finite (hAaBwdIdeal := hAaBwdIdeal) (hAaGradIdeal := hAaGradIdeal) (hPre_aa_finite := hPre_aa_finite)
    ∧ preserves_FxBwd_FxBwdIdeal
    ∧ algebraic_FxBwdIdeal_FxGradIdeal_pre_fx_finite (hFxBwdIdeal := hFxBwdIdeal) (hFxGradIdeal := hFxGradIdeal) (hPre_fx_finite := hPre_fx_finite)
    ∧ preserves_QxBwd_QxBwdIdeal
    ∧ algebraic_QxBwdIdeal_QxGradIdeal_pre_qx_finite (hQxBwdIdeal := hQxBwdIdeal) (hQxGradIdeal := hQxGradIdeal) (hPre_qx_finite := hPre_qx_finite)
    ∧ preserves_FbBwd_FbBwdIdeal
    ∧ algebraic_FbBwdIdeal_FbGradIdeal_pre_fb_finite (hFbBwdIdeal := hFbBwdIdeal) (hFbGradIdeal := hFbGradIdeal) (hPre_fb_finite := hPre_fb_finite)
    ∧ preserves_LhBwd_LhBwdIdeal
    ∧ algebraic_LhBwdIdeal_LhGradIdeal (hLhBwdIdeal := hLhBwdIdeal) (hLhGradIdeal := hLhGradIdeal)
    ∧ preserves_BvBwd_BvBwdIdeal
    ∧ algebraic_BvBwdIdeal_BvGradIdeal (hBvBwdIdeal := hBvBwdIdeal) (hBvGradIdeal := hBvGradIdeal)
    ∧ preserves_AfFwd_AfFwdIdeal
    ∧ algebraic_AfFwdIdeal_AfFormIdeal_pre_af_finite (hAfFwdIdeal := hAfFwdIdeal) (hAfFormIdeal := hAfFormIdeal) (hPre_af_finite := hPre_af_finite)
    ∧ preserves_SfFwd_SfFwdIdeal
    ∧ algebraic_SfFwdIdeal_SfFormIdeal_pre_sf_finite (hSfFwdIdeal := hSfFwdIdeal) (hSfFormIdeal := hSfFormIdeal) (hPre_sf_finite := hPre_sf_finite)
    ∧ preserves_MlFwd_MlFwdIdeal
    ∧ algebraic_MlFwdIdeal_MlFormIdeal (hMlFwdIdeal := hMlFwdIdeal) (hMlFormIdeal := hMlFormIdeal)
    ∧ preserves_FuFwd_FuFwdIdeal
    ∧ algebraic_FuFwdIdeal_FuFormIdeal (hFuFwdIdeal := hFuFwdIdeal) (hFuFormIdeal := hFuFormIdeal)
    ∧ preserves_BwFwd_BwFwdIdeal
    ∧ algebraic_BwFwdIdeal_BwFormIdeal (hBwFwdIdeal := hBwFwdIdeal) (hBwFormIdeal := hBwFormIdeal)
    ∧ preserves_PxSwap_PxSwapIdeal
    ∧ algebraic_PxSwapIdeal_PxHalvesIdeal (hPxSwapIdeal := hPxSwapIdeal) (hPxHalvesIdeal := hPxHalvesIdeal)
-- ==== Pre_aa_finite.lean ====
abbrev S4096x3072 : Shape := ⟨2, ![4096, 3072]⟩
abbrev S8x2x1024 : Shape := ⟨3, ![8, 2, 1024]⟩
abbrev S4096x1024 : Shape := ⟨2, ![4096, 1024]⟩
abbrev S_ : Shape := ⟨0, ![]⟩

class Facts : Prop where
  bitsLt_bf16_f32 : FTy.bits .bf16 < FTy.bits .f32
  bcast_S_S4096x3072 : S_.BroadcastsInDim S4096x3072 (![] : Fin 0 → Fin S4096x3072.rank)
  reducesTo_S4096x3072_S_d0_1 : S4096x3072.ReducesTo [0, 1] S_
  h_S_ : 0 < S_.numel
  bcast_S_S8x2x1024 : S_.BroadcastsInDim S8x2x1024 (![] : Fin 0 → Fin S8x2x1024.rank)
  reducesTo_S8x2x1024_S_d0_1_2 : S8x2x1024.ReducesTo [0, 1, 2] S_
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x3072 .bf16) (main_arg1 : FVec F S8x2x1024 .f32) (main_arg2 : FVec F S4096x1024 .bf16) : IVec S_ 1 :=
  let main_v0 : FVec F S4096x3072 .f32 := (extf .f32 · bitsLt_bf16_f32) main_arg0
  let main_v1 : FVec F S4096x3072 .f32 := Host.absf main_v0
  let main_cst : FVec F S_ .f32 := constant S_ .f32 0x7F800000#32
  let main_v2 : FVec F S4096x3072 .f32 := broadcastInDim S4096x3072 ![] bcast_S_S4096x3072 main_cst
  let main_v3 : IVec S4096x3072 1 := cmpf .olt main_v1 main_v2
  let main_c : IVec S_ 1 := constantI S_ 1 1#1
  let main_v4 : IVec S_ 1 := (fun x v => Host.reduce IntOp.andi x v reducesTo_S4096x3072_S_d0_1 h_S_) main_v3 main_c
  let main_v5 : FVec F S8x2x1024 .f32 := Host.absf main_arg1
  let main_cst_0 : FVec F S_ .f32 := constant S_ .f32 0x7F800000#32
  let main_v6 : FVec F S8x2x1024 .f32 := broadcastInDim S8x2x1024 ![] bcast_S_S8x2x1024 main_cst_0
  let main_v7 : IVec S8x2x1024 1 := cmpf .olt main_v5 main_v6
  let main_c_1 : IVec S_ 1 := constantI S_ 1 1#1
  let main_v8 : IVec S_ 1 := (fun x v => Host.reduce IntOp.andi x v reducesTo_S8x2x1024_S_d0_1_2 h_S_) main_v7 main_c_1
  let main_v9 : IVec S_ 1 := andi main_v4 main_v8
  let main_v10 : FVec F S4096x1024 .f32 := (extf .f32 · bitsLt_bf16_f32) main_arg2
  let main_v11 : FVec F S4096x1024 .f32 := Host.absf main_v10
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : IVec S_ 1 := andi main_v9 main_v14
  main_v15
-- ==== Pre_af_finite.lean ====
abbrev S4096x3072 : Shape := ⟨2, ![4096, 3072]⟩
abbrev S8x2x1024 : Shape := ⟨3, ![8, 2, 1024]⟩
abbrev S4096x2048 : Shape := ⟨2, ![4096, 2048]⟩
abbrev S_ : Shape := ⟨0, ![]⟩

class Facts : Prop where
  slices_S4096x3072_S4096x2048_0_0 : S4096x3072.Slices ![0, 0] S4096x2048
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S8x2x1024 : S_.BroadcastsInDim S8x2x1024 (![] : Fin 0 → Fin S8x2x1024.rank)
  reducesTo_S8x2x1024_S_d0_1_2 : S8x2x1024.ReducesTo [0, 1, 2] S_

variable [Facts]

def fn {F : FTy → Type} [FloatOps F] (main_arg0 : FVec F S4096x3072 .bf16) (main_arg1 : FVec F S8x2x1024 .f32) : IVec S_ 1 :=
  let main_v0 : FVec F S4096x2048 .bf16 := (extractStridedSlice S4096x2048 ![0, 0] · slices_S4096x3072_S4096x2048_0_0) main_arg0
  let main_v1 : FVec F S4096x2048 .f32 := (extf .f32 · bitsLt_bf16_f32) main_v0
  let main_v2 : FVec F S4096x2048 .f32 := Host.absf main_v1
  let main_cst : FVec F S_ .f32 := constant S_ .f32 0x7F800000#32
  let main_v3 : FVec F S4096x2048 .f32 := broadcastInDim S4096x2048 ![] bcast_S_S4096x2048 main_cst
  let main_v4 : IVec S4096x2048 1 := cmpf .olt main_v2 main_v3
  let main_c : IVec S_ 1 := constantI S_ 1 1#1
  let main_v5 : IVec S_ 1 := (fun x v => Host.reduce IntOp.andi x v reducesTo_S4096x2048_S_d0_1 h_S_) main_v4 main_c
  let main_v6 : FVec F S8x2x1024 .f32 := Host.absf main_arg1
  let main_cst_0 : FVec F S_ .f32 := constant S_ .f32 0x7F800000#32
  let main_v7 : FVec F S8x2x1024 .f32 := broadcastInDim S8x2x1024 ![] bcast_S_S8x2x1024 main_cst_0
  let main_v8 : IVec S8x2x1024 1 := cmpf .olt main_v6 main_v7
  let main_c_1 : IVec S_ 1 := constantI S_ 1 1#1
  let main_v9 : IVec S_ 1 := (fun x v => Host.reduce IntOp.andi x v reducesTo_S8x2x1024_S_d0_1_2 h_S_) main_v8 main_c_1
  let main_v10 : IVec S_ 1 := andi main_v5 main_v9
  main_v10
-- ==== Pre_fb_finite.lean ====
abbrev S4096x1024 : Shape := ⟨2, ![4096, 1024]⟩
abbrev S4x2x704x1024 : Shape := ⟨4, ![4, 2, 704, 1024]⟩
abbrev S2x4x704x1024 : Shape := ⟨4, ![2, 4, 704, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4x2x704x1024 : S_.BroadcastsInDim S4x2x704x1024 (![] : Fin 0 → Fin S4x2x704x1024.rank)
  reducesTo_S4x2x704x1024_S_d0_1_2_3 : S4x2x704x1024.ReducesTo [0, 1, 2, 3] S_

variable [Facts]

def fn_part1 {F : FTy → Type} [FloatOps F] (main_arg4 : FVec F S4096x1024 .bf16) (main_v16 : IVec S_ 1) (main_v17 : FVec F S4x2x704x1024 .f32) : IVec S_ 1 :=
  let main_v18 : FVec F S4x2x704x1024 .f32 := Host.absf main_v17
  let main_cst_4 : FVec F S_ .f32 := constant S_ .f32 0x7F800000#32
  let main_v19 : FVec F S4x2x704x1024 .f32 := broadcastInDim S4x2x704x1024 ![] bcast_S_S4x2x704x1024 main_cst_4
  let main_v20 : IVec S4x2x704x1024 1 := cmpf .olt main_v18 main_v19
  let main_c_5 : IVec S_ 1 := constantI S_ 1 1#1
  let main_v21 : IVec S_ 1 := (fun x v => Host.reduce IntOp.andi x v reducesTo_S4x2x704x1024_S_d0_1_2_3 h_S_) main_v20 main_c_5
  let main_v22 : IVec S_ 1 := andi main_v16 main_v21
  let main_v23 : FVec F S4096x1024 .f32 := (extf .f32 · bitsLt_bf16_f32) main_arg4
  let main_v24 : FVec F S4096x1024 .f32 := Host.absf main_v23
  let main_cst_6 : FVec F S_ .f32 := constant S_ .f32 0x7F800000#32
  let main_v25 : FVec F S4096x1024 .f32 := broadcastInDim S4096x1024 ![] bcast_S_S4096x1024 main_cst_6
  let main_v26 : IVec S4096x1024 1 := cmpf .olt main_v24 main_v25
  let main_c_7 : IVec S_ 1 := constantI S_ 1 1#1
  let main_v27 : IVec S_ 1 := (fun x v => Host.reduce IntOp.andi x v reducesTo_S4096x1024_S_d0_1 h_S_) main_v26 main_c_7
  let main_v28 : IVec S_ 1 := andi main_v22 main_v27
  main_v28

def fn {F : FTy → Type} [FloatOps F] (main_arg0 : FVec F S4096x1024 .bf16) (main_arg1 : FVec F S4x2x704x1024 .bf16) (main_arg2 : FVec F S4x2x704x1024 .bf16) (main_arg3 : FVec F S4x2x704x1024 .bf16) (main_arg4 : FVec F S4096x1024 .bf16) (main_arg5 : FVec F S2x4x704x1024 .bf16) (main_arg6 : FVec F S2x4x704x1024 .bf16) (main_arg7 : FVec F S2x4x704x1024 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4x2x704x1024 .f32 := (extf .f32 · bitsLt_bf16_f32) main_arg1
  let main_v6 : FVec F S4x2x704x1024 .f32 := Host.absf main_v5
  let main_cst_0 : FVec F S_ .f32 := constant S_ .f32 0x7F800000#32
  let main_v7 : FVec F S4x2x704x1024 .f32 := broadcastInDim S4x2x704x1024 ![] bcast_S_S4x2x704x1024 main_cst_0
  let main_v8 : IVec S4x2x704x1024 1 := cmpf .olt main_v6 main_v7
  let main_c_1 : IVec S_ 1 := constantI S_ 1 1#1
  let main_v9 : IVec S_ 1 := (fun x v => Host.reduce IntOp.andi x v reducesTo_S4x2x704x1024_S_d0_1_2_3 h_S_) main_v8 main_c_1
  let main_v10 : IVec S_ 1 := andi main_v4 main_v9
  let main_v11 : FVec F S4x2x704x1024 .f32 := (extf .f32 · bitsLt_bf16_f32) main_arg2
  let main_v12 : FVec F S4x2x704x1024 .f32 := Host.absf main_v11
  let main_cst_2 : FVec F S_ .f32 := constant S_ .f32 0x7F800000#32
  let main_v13 : FVec F S4x2x704x1024 .f32 := broadcastInDim S4x2x704x1024 ![] bcast_S_S4x2x704x1024 main_cst_2
  let main_v14 : IVec S4x2x704x1024 1 := cmpf .olt main_v12 main_v13
  let main_c_3 : IVec S_ 1 := constantI S_ 1 1#1
  let main_v15 : IVec S_ 1 := (fun x v => Host.reduce IntOp.andi x v reducesTo_S4x2x704x1024_S_d0_1_2_3 h_S_) main_v14 main_c_3
  let main_v16 : IVec S_ 1 := andi main_v10 main_v15
  let main_v17 : FVec F S4x2x704x1024 .f32 := (extf .f32 · bitsLt_bf16_f32) main_arg3
  fn_part1 (F := F) main_arg4 main_v16 main_v17
-- ==== Pre_fx_finite.lean ====
abbrev S4096x1024 : Shape := ⟨2, ![4096, 1024]⟩
abbrev S1024 : Shape := ⟨1, ![1024]⟩
abbrev S4x2x704x1024 : Shape := ⟨4, ![4, 2, 704, 1024]⟩
abbrev S4x4096x704 : Shape := ⟨3, ![4, 4096, 704]⟩
abbrev S12x1x1024 : Shape := ⟨3, ![12, 1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bitsLt_bf16_f32 : FTy.bits .bf16 < FTy.bits .f32
  bcast_S_S4x2x704x1024 : S_.BroadcastsInDim S4x2x704x1024 (![] : Fin 0 → Fin S4x2x704x1024.rank)
  reducesTo_S4x2x704x1024_S_d0_1_2_3 : S4x2x704x1024.ReducesTo [0, 1, 2, 3] S_
  bcast_S_S4x4096x704 : S_.BroadcastsInDim S4x4096x704 (![] : Fin 0 → Fin S4x4096x704.rank)
  reducesTo_S4x4096x704_S_d0_1_2 : S4x4096x704.ReducesTo [0, 1, 2] S_

variable [Facts]

def fn_part2 {F : FTy → Type} [FloatOps F] (main_arg6 : FVec F S4x4096x704 .bf16) (main_v30 : IVec S_ 1) (main_v34 : IVec S4x4096x704 1) : IVec S_ 1 :=
  let main_c_11 : IVec S_ 1 := constantI S_ 1 1#1
  let main_v35 : IVec S_ 1 := (fun x v => Host.reduce IntOp.andi x v reducesTo_S4x4096x704_S_d0_1_2 h_S_) main_v34 main_c_11
  let main_v36 : IVec S_ 1 := andi main_v30 main_v35
  let main_v37 : FVec F S4x4096x704 .f32 := (extf .f32 · bitsLt_bf16_f32) main_arg6
  let main_v38 : FVec F S4x4096x704 .f32 := Host.absf main_v37
  let main_cst_12 : FVec F S_ .f32 := constant S_ .f32 0x7F800000#32
  let main_v39 : FVec F S4x4096x704 .f32 := broadcastInDim S4x4096x704 ![] bcast_S_S4x4096x704 main_cst_12
  let main_v40 : IVec S4x4096x704 1 := cmpf .olt main_v38 main_v39
  let main_c_13 : IVec S_ 1 := constantI S_ 1 1#1
  let main_v41 : IVec S_ 1 := (fun x v => Host.reduce IntOp.andi x v reducesTo_S4x4096x704_S_d0_1_2 h_S_) main_v40 main_c_13
  let main_v42 : IVec S_ 1 := andi main_v36 main_v41
  main_v42

def fn_part1 {F : FTy → Type} [FloatOps F] (main_arg3 : FVec F S4x2x704x1024 .bf16) (main_arg4 : FVec F S4x2x704x1024 .bf16) (main_arg5 : FVec F S4x4096x704 .bf16) (main_arg6 : FVec F S4x4096x704 .bf16) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4x2x704x1024 .f32 := (extf .f32 · bitsLt_bf16_f32) main_arg3
  let main_v20 : FVec F S4x2x704x1024 .f32 := Host.absf main_v19
  let main_cst_6 : FVec F S_ .f32 := constant S_ .f32 0x7F800000#32
  let main_v21 : FVec F S4x2x704x1024 .f32 := broadcastInDim S4x2x704x1024 ![] bcast_S_S4x2x704x1024 main_cst_6
  let main_v22 : IVec S4x2x704x1024 1 := cmpf .olt main_v20 main_v21
  let main_c_7 : IVec S_ 1 := constantI S_ 1 1#1
  let main_v23 : IVec S_ 1 := (fun x v => Host.reduce IntOp.andi x v reducesTo_S4x2x704x1024_S_d0_1_2_3 h_S_) main_v22 main_c_7
  let main_v24 : IVec S_ 1 := andi main_v18 main_v23
  let main_v25 : FVec F S4x2x704x1024 .f32 := (extf .f32 · bitsLt_bf16_f32) main_arg4
  let main_v26 : FVec F S4x2x704x1024 .f32 := Host.absf main_v25
  let main_cst_8 : FVec F S_ .f32 := constant S_ .f32 0x7F800000#32
  let main_v27 : FVec F S4x2x704x1024 .f32 := broadcastInDim S4x2x704x1024 ![] bcast_S_S4x2x704x1024 main_cst_8
  let main_v28 : IVec S4x2x704x1024 1 := cmpf .olt main_v26 main_v27
  let main_c_9 : IVec S_ 1 := constantI S_ 1 1#1
  let main_v29 : IVec S_ 1 := (fun x v => Host.reduce IntOp.andi x v reducesTo_S4x2x704x1024_S_d0_1_2_3 h_S_) main_v28 main_c_9
  let main_v30 : IVec S_ 1 := andi main_v24 main_v29
  let main_v31 : FVec F S4x4096x704 .f32 := (extf .f32 · bitsLt_bf16_f32) main_arg5
  let main_v32 : FVec F S4x4096x704 .f32 := Host.absf main_v31
  let main_cst_10 : FVec F S_ .f32 := constant S_ .f32 0x7F800000#32
  let main_v33 : FVec F S4x4096x704 .f32 := broadcastInDim S4x4096x704 ![] bcast_S_S4x4096x704 main_cst_10
  let main_v34 : IVec S4x4096x704 1 := cmpf .olt main_v32 main_v33
  fn_part2 (F := F) main_arg6 main_v30 main_v34

def fn {F : FTy → Type} [FloatOps F] (main_arg0 : FVec F S4096x1024 .f32) (main_arg1 : FVec F S4096x1024 .f32) (main_arg2 : FVec F S1024 .f32) (main_arg3 : FVec F S4x2x704x1024 .bf16) (main_arg4 : FVec F S4x2x704x1024 .bf16) (main_arg5 : FVec F S4x4096x704 .bf16) (main_arg6 : FVec F S4x4096x704 .bf16) (main_arg7 : FVec F S4096x1024 .f32) (main_arg8 : FVec F S12x1x1024 .f32) (main_arg9 : FVec F S12x1x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S4096x1024 .f32 := Host.absf main_arg7
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg3 main_arg4 main_arg5 main_arg6 main_v13 main_v16
-- ==== Pre_ln_finite.lean ====
abbrev S4096x1024 : Shape := ⟨2, ![4096, 1024]⟩
abbrev S1024 : Shape := ⟨1, ![1024]⟩
abbrev S12x1x1024 : Shape := ⟨3, ![12, 1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S4096x1024 .f32) (main_arg1 : FVec F S4096x1024 .f32) (main_arg2 : FVec F S1024 .f32) (main_arg3 : FVec F S4096x1024 .f32) (main_arg4 : FVec F S12x1x1024 .f32) (main_arg5 : FVec F S12x1x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Pre_qx_finite.lean ====
abbrev S4096x1024 : Shape := ⟨2, ![4096, 1024]⟩
abbrev S1024 : Shape := ⟨1, ![1024]⟩
abbrev S4x1x1024x768 : Shape := ⟨4, ![4, 1, 1024, 768]⟩
abbrev S3x4096x1024 : Shape := ⟨3, ![3, 4096, 1024]⟩
abbrev S12x1x1024 : Shape := ⟨3, ![12, 1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bitsLt_bf16_f32 : FTy.bits .bf16 < FTy.bits .f32
  bcast_S_S4x1x1024x768 : S_.BroadcastsInDim S4x1x1024x768 (![] : Fin 0 → Fin S4x1x1024x768.rank)
  reducesTo_S4x1x1024x768_S_d0_1_2_3 : S4x1x1024x768.ReducesTo [0, 1, 2, 3] S_
  bcast_S_S3x4096x1024 : S_.BroadcastsInDim S3x4096x1024 (![] : Fin 0 → Fin S3x4096x1024.rank)
  reducesTo_S3x4096x1024_S_d0_1_2 : S3x4096x1024.ReducesTo [0, 1, 2] S_

variable [Facts]

def fn_part1 {F : FTy → Type} [FloatOps F] (main_arg3 : FVec F S4x1x1024x768 .bf16) (main_arg4 : FVec F S3x4096x1024 .bf16) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4x1x1024x768 .f32 := (extf .f32 · bitsLt_bf16_f32) main_arg3
  let main_v20 : FVec F S4x1x1024x768 .f32 := Host.absf main_v19
  let main_cst_6 : FVec F S_ .f32 := constant S_ .f32 0x7F800000#32
  let main_v21 : FVec F S4x1x1024x768 .f32 := broadcastInDim S4x1x1024x768 ![] bcast_S_S4x1x1024x768 main_cst_6
  let main_v22 : IVec S4x1x1024x768 1 := cmpf .olt main_v20 main_v21
  let main_c_7 : IVec S_ 1 := constantI S_ 1 1#1
  let main_v23 : IVec S_ 1 := (fun x v => Host.reduce IntOp.andi x v reducesTo_S4x1x1024x768_S_d0_1_2_3 h_S_) main_v22 main_c_7
  let main_v24 : IVec S_ 1 := andi main_v18 main_v23
  let main_v25 : FVec F S3x4096x1024 .f32 := (extf .f32 · bitsLt_bf16_f32) main_arg4
  let main_v26 : FVec F S3x4096x1024 .f32 := Host.absf main_v25
  let main_cst_8 : FVec F S_ .f32 := constant S_ .f32 0x7F800000#32
  let main_v27 : FVec F S3x4096x1024 .f32 := broadcastInDim S3x4096x1024 ![] bcast_S_S3x4096x1024 main_cst_8
  let main_v28 : IVec S3x4096x1024 1 := cmpf .olt main_v26 main_v27
  let main_c_9 : IVec S_ 1 := constantI S_ 1 1#1
  let main_v29 : IVec S_ 1 := (fun x v => Host.reduce IntOp.andi x v reducesTo_S3x4096x1024_S_d0_1_2 h_S_) main_v28 main_c_9
  let main_v30 : IVec S_ 1 := andi main_v24 main_v29
  main_v30

def fn {F : FTy → Type} [FloatOps F] (main_arg0 : FVec F S4096x1024 .f32) (main_arg1 : FVec F S4096x1024 .f32) (main_arg2 : FVec F S1024 .f32) (main_arg3 : FVec F S4x1x1024x768 .bf16) (main_arg4 : FVec F S3x4096x1024 .bf16) (main_arg5 : FVec F S4096x1024 .f32) (main_arg6 : FVec F S12x1x1024 .f32) (main_arg7 : FVec F S12x1x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S4096x1024 .f32 := Host.absf main_arg5
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg3 main_arg4 main_v13 main_v16
-- ==== Pre_sb_finite.lean ====
abbrev S4096x3072 : Shape := ⟨2, ![4096, 3072]⟩
abbrev S4096x1024 : Shape := ⟨2, ![4096, 1024]⟩
abbrev S_ : Shape := ⟨0, ![]⟩

class Facts : Prop where
  bitsLt_bf16_f32 : FTy.bits .bf16 < FTy.bits .f32
  bcast_S_S4096x3072 : S_.BroadcastsInDim S4096x3072 (![] : Fin 0 → Fin S4096x3072.rank)
  reducesTo_S4096x3072_S_d0_1 : S4096x3072.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x3072 .bf16) (main_arg1 : FVec F S4096x1024 .bf16) : IVec S_ 1 :=
  let main_v0 : FVec F S4096x3072 .f32 := (extf .f32 · bitsLt_bf16_f32) main_arg0
  let main_v1 : FVec F S4096x3072 .f32 := Host.absf main_v0
  let main_cst : FVec F S_ .f32 := constant S_ .f32 0x7F800000#32
  let main_v2 : FVec F S4096x3072 .f32 := broadcastInDim S4096x3072 ![] bcast_S_S4096x3072 main_cst
  let main_v3 : IVec S4096x3072 1 := cmpf .olt main_v1 main_v2
  let main_c : IVec S_ 1 := constantI S_ 1 1#1
  let main_v4 : IVec S_ 1 := (fun x v => Host.reduce IntOp.andi x v reducesTo_S4096x3072_S_d0_1 h_S_) main_v3 main_c
  let main_v5 : FVec F S4096x1024 .f32 := (extf .f32 · bitsLt_bf16_f32) main_arg1
  let main_v6 : FVec F S4096x1024 .f32 := Host.absf main_v5
  let main_cst_0 : FVec F S_ .f32 := constant S_ .f32 0x7F800000#32
  let main_v7 : FVec F S4096x1024 .f32 := broadcastInDim S4096x1024 ![] bcast_S_S4096x1024 main_cst_0
  let main_v8 : IVec S4096x1024 1 := cmpf .olt main_v6 main_v7
  let main_c_1 : IVec S_ 1 := constantI S_ 1 1#1
  let main_v9 : IVec S_ 1 := (fun x v => Host.reduce IntOp.andi x v reducesTo_S4096x1024_S_d0_1 h_S_) main_v8 main_c_1
  let main_v10 : IVec S_ 1 := andi main_v4 main_v9
  main_v10
-- ==== Pre_sf_finite.lean ====
abbrev S4096x3072 : Shape := ⟨2, ![4096, 3072]⟩
abbrev S4096x2048 : Shape := ⟨2, ![4096, 2048]⟩
abbrev S_ : Shape := ⟨0, ![]⟩

class Facts : Prop where
  slices_S4096x3072_S4096x2048_0_0 : S4096x3072.Slices ![0, 0] S4096x2048
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn {F : FTy → Type} [FloatOps F] (main_arg0 : FVec F S4096x3072 .bf16) : IVec S_ 1 :=
  let main_v0 : FVec F S4096x2048 .bf16 := (extractStridedSlice S4096x2048 ![0, 0] · slices_S4096x3072_S4096x2048_0_0) main_arg0
  let main_v1 : FVec F S4096x2048 .f32 := (extf .f32 · bitsLt_bf16_f32) main_v0
  let main_v2 : FVec F S4096x2048 .f32 := Host.absf main_v1
  let main_cst : FVec F S_ .f32 := constant S_ .f32 0x7F800000#32
  let main_v3 : FVec F S4096x2048 .f32 := broadcastInDim S4096x2048 ![] bcast_S_S4096x2048 main_cst
  let main_v4 : IVec S4096x2048 1 := cmpf .olt main_v2 main_v3
  let main_c : IVec S_ 1 := constantI S_ 1 1#1
  let main_v5 : IVec S_ 1 := (fun x v => Host.reduce IntOp.andi x v reducesTo_S4096x2048_S_d0_1 h_S_) main_v4 main_c
  main_v5
-- ==== LnBwd.lean ====
abbrev S4096x1024 : Shape := ⟨2, ![4096, 1024]⟩
abbrev S1024 : Shape := ⟨1, ![1024]⟩
abbrev S12x1x1024 : Shape := ⟨3, ![12, 1, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S512x1024 : Shape := ⟨2, ![512, 1024]⟩
abbrev S512x1 : Shape := ⟨2, ![512, 1]⟩
abbrev S1x1x1024 : Shape := ⟨3, ![1, 1, 1024]⟩
abbrev S512 : Shape := ⟨1, ![512]⟩

abbrev nBuf : Space → Nat
  | .hbm => 39
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S12x1x1024, .f32⟩
  | .hbm, ⟨5, _⟩ => ⟨S12x1x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .bf16⟩
  | .hbm, ⟨37, _⟩ => ⟨S12x1x1024, .f32⟩
  | .hbm, ⟨38, _⟩ => ⟨S12x1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1, .f32⟩
  | .local _ .vmem, ⟨5, _⟩ => ⟨S512x1, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1x1024, .f32⟩
  | .local _ .vmem, ⟨12, _⟩ => ⟨S1x1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22_0 : Ref sig .tc := ⟨.hbm, 35, rfl⟩
abbrev main_v22_1 : Ref sig .tc := ⟨.hbm, 36, rfl⟩
abbrev main_v22_2 : Ref sig .tc := ⟨.hbm, 37, rfl⟩
abbrev main_v22_3 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_17 : BitVec 32 := 0#32
  let v37 : BitVec 1 := Scalar.cmpi .ne v36 c0_i32_17
  v37

def k0_cond2 (i : grid0.Coords) : BitVec 1 :=
  let arg0 : BitVec 32 := BitVec.ofNat 32 (i 0).val
  let c0_i32_18 : BitVec 32 := 0#32
  let v38 : BitVec 1 := Scalar.cmpi .sgt arg0 c0_i32_18
  let v39 : BitVec 32 := Scalar.extui v38
  let c0_i32_19 : BitVec 32 := 0#32
  let v40 : BitVec 1 := Scalar.cmpi .ne v39 c0_i32_19
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c11_i32 : BitVec 32 := 11#32
  let c0_i32 : BitVec 32 := 0#32
  let c0_i32_0 : BitVec 32 := 0#32
  let c0_i32_1 : BitVec 32 := 0#32
  ![c11_i32.toNat, c0_i32.toNat, c0_i32_0.toNat]

def cc0_transform_9 (i : grid0.Coords) : Fin 3 → Nat :=
  let arg0 : BitVec 32 := BitVec.ofNat 32 (i 0).val
  let c11_i32 : BitVec 32 := 11#32
  let c0_i32 : BitVec 32 := 0#32
  let c0_i32_0 : BitVec 32 := 0#32
  let c0_i32_1 : BitVec 32 := 0#32
  ![c11_i32.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LnGradIdeal.lean ====
abbrev S4096x1024 : Shape := ⟨2, ![4096, 1024]⟩
abbrev S1024 : Shape := ⟨1, ![1024]⟩
abbrev S12x1x1024 : Shape := ⟨3, ![12, 1, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x1x1024 : Shape := ⟨3, ![1, 1, 1024]⟩

abbrev nBuf : Space → Nat
  | .hbm => 110
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S12x1x1024, .f32⟩
  | .hbm, ⟨5, _⟩ => ⟨S12x1x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S_, .f32⟩
  | .hbm, ⟨56, _⟩ => ⟨S1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S1024, .f32⟩
  | .hbm, ⟨65, _⟩ => ⟨S4096x1024, .f32⟩
  | .hbm, ⟨66, _⟩ => ⟨S_, .f32⟩
  | .hbm, ⟨67, _⟩ => ⟨S4096, .f32⟩
  | .hbm, ⟨68, _⟩ => ⟨S4096x1, .f32⟩
  | .hbm, ⟨69, _⟩ => ⟨S4096x1024, .f32⟩
  | .hbm, ⟨70, _⟩ => ⟨S4096x1024, .f32⟩
  | .hbm, ⟨71, _⟩ => ⟨S4096x1, .f32⟩
  | .hbm, ⟨72, _⟩ => ⟨S4096x1024, .f32⟩
  | .hbm, ⟨73, _⟩ => ⟨S_, .f32⟩
  | .hbm, ⟨74, _⟩ => ⟨S4096, .f32⟩
  | .hbm, ⟨75, _⟩ => ⟨S4096x1, .f32⟩
  | .hbm, ⟨76, _⟩ => ⟨S_, .f32⟩
  | .hbm, ⟨77, _⟩ => ⟨S4096x1, .f32⟩
  | .hbm, ⟨78, _⟩ => ⟨S4096x1, .f32⟩
  | .hbm, ⟨79, _⟩ => ⟨S_, .f32⟩
  | .hbm, ⟨80, _⟩ => ⟨S4096, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S_, .f32⟩
  | .hbm, ⟨85, _⟩ => ⟨S4096, .f32⟩
  | .hbm, ⟨86, _⟩ => ⟨S4096x1, .f32⟩
  | .hbm, ⟨87, _⟩ => ⟨S4096x1024, .f32⟩
  | .hbm, ⟨88, _⟩ => ⟨S4096x1, .f32⟩
  | .hbm, ⟨89, _⟩ => ⟨S_, .f32⟩
  | .hbm, ⟨90, _⟩ => ⟨S4096x1, .f32⟩
  | .hbm, ⟨91, _⟩ => ⟨S4096x1, .f32⟩
  | .hbm, ⟨92, _⟩ => ⟨S_, .f32⟩
  | .hbm, ⟨93, _⟩ => ⟨S4096, .f32⟩
  | .hbm, ⟨94, _⟩ => ⟨S4096x1024, .f32⟩
  | .hbm, ⟨95, _⟩ => ⟨S4096x1024, .f32⟩
  | .hbm, ⟨96, _⟩ => ⟨S_, .f32⟩
  | .hbm, ⟨97, _⟩ => ⟨S4096x1024, .f32⟩
  | .hbm, ⟨98, _⟩ => ⟨S4096x1024, .f32⟩
  | .hbm, ⟨99, _⟩ => ⟨S4096x1024, .bf16⟩
  | .hbm, ⟨100, _⟩ => ⟨S1x1x1024, .f32⟩
  | .hbm, ⟨101, _⟩ => ⟨S_, .i32⟩
  | .hbm, ⟨102, _⟩ => ⟨S_, .i32⟩
  | .hbm, ⟨103, _⟩ => ⟨S_, .i32⟩
  | .hbm, ⟨104, _⟩ => ⟨S12x1x1024, .f32⟩
  | .hbm, ⟨105, _⟩ => ⟨S1x1x1024, .f32⟩
  | .hbm, ⟨106, _⟩ => ⟨S_, .i32⟩
  | .hbm, ⟨107, _⟩ => ⟨S_, .i32⟩
  | .hbm, ⟨108, _⟩ => ⟨S_, .i32⟩
  | .hbm, ⟨109, _⟩ => ⟨S12x1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_cst_5 : Ref sig .tc := ⟨.hbm, 27, rfl⟩
abbrev main_v15 : Ref sig .tc := ⟨.hbm, 28, rfl⟩
abbrev main_v16 : Ref sig .tc := ⟨.hbm, 29, rfl⟩
abbrev main_cst_6 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_7 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_8 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_v39 : Ref sig .tc := ⟨.hbm, 57, rfl⟩
abbrev main_cst_11 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_12 : Ref sig .tc := ⟨.hbm, 63, rfl⟩
abbrev main_v44 : Ref sig .tc := ⟨.hbm, 64, rfl⟩
abbrev main_v45 : Ref sig .tc := ⟨.hbm, 65, rfl⟩
abbrev main_cst_13 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_14 : Ref sig .tc := ⟨.hbm, 73, rfl⟩
abbrev main_v52 : Ref sig .tc := ⟨.hbm, 74, rfl⟩
abbrev main_v53 : Ref sig .tc := ⟨.hbm, 75, rfl⟩
abbrev main_cst_15 : Ref sig .tc := ⟨.hbm, 76, rfl⟩
abbrev main_v54 : Ref sig .tc := ⟨.hbm, 77, rfl⟩
abbrev main_v55 : Ref sig .tc := ⟨.hbm, 78, rfl⟩
abbrev main_cst_16 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_17 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_18 : Ref sig .tc := ⟨.hbm, 89, rfl⟩
abbrev main_v64 : Ref sig .tc := ⟨.hbm, 90, rfl⟩
abbrev main_v65 : Ref sig .tc := ⟨.hbm, 91, rfl⟩
abbrev main_cst_19 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_20 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c : Ref sig .tc := ⟨.hbm, 101, rfl⟩
abbrev main_c_21 : Ref sig .tc := ⟨.hbm, 102, rfl⟩
abbrev main_c_22 : Ref sig .tc := ⟨.hbm, 103, rfl⟩
abbrev main_v73 : Ref sig .tc := ⟨.hbm, 104, rfl⟩
abbrev main_v74 : Ref sig .tc := ⟨.hbm, 105, rfl⟩
abbrev main_c_23 : Ref sig .tc := ⟨.hbm, 106, rfl⟩
abbrev main_c_24 : Ref sig .tc := ⟨.hbm, 107, rfl⟩
abbrev main_c_25 : Ref sig .tc := ⟨.hbm, 108, rfl⟩
abbrev main_v75 : Ref sig .tc := ⟨.hbm, 109, rfl⟩

abbrev nD : Nat := 1
abbrev τ : Topo := Topo.v7x

variable {F : FTy → Type} [FloatOps F]
-- ==== SbBwd.lean ====
abbrev S4096x3072 : Shape := ⟨2, ![4096, 3072]⟩
abbrev S4096x1024 : Shape := ⟨2, ![4096, 1024]⟩
abbrev S2x2048x16x64 : Shape := ⟨4, ![2, 2048, 16, 64]⟩
abbrev S2x16x2048x2048 : Shape := ⟨4, ![2, 16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x16x2048 : Shape := ⟨3, ![2, 16, 2048]⟩
abbrev S2x2048x16 : Shape := ⟨3, ![2, 2048, 16]⟩
abbrev S2x2048x16x1 : Shape := ⟨4, ![2, 2048, 16, 1]⟩
abbrev S3x4096x1024 : Shape := ⟨3, ![3, 4096, 1024]⟩
abbrev S2048x128 : Shape := ⟨2, ![2048, 128]⟩
abbrev S3x2048x128 : Shape := ⟨3, ![3, 2048, 128]⟩
abbrev S8x128x256 : Shape := ⟨3, ![8, 128, 256]⟩
abbrev S256x256 : Shape := ⟨2, ![256, 256]⟩
abbrev S256x128 : Shape := ⟨2, ![256, 128]⟩
abbrev S128x256 : Shape := ⟨2, ![128, 256]⟩
abbrev S256x64 : Shape := ⟨2, ![256, 64]⟩
abbrev S64x256 : Shape := ⟨2, ![64, 256]⟩
abbrev S256x1 : Shape := ⟨2, ![256, 1]⟩
abbrev S256 : Shape := ⟨1, ![256]⟩
abbrev S1x64x256 : Shape := ⟨3, ![1, 64, 256]⟩
abbrev S1x256x64 : Shape := ⟨3, ![1, 256, 64]⟩
abbrev S1x128x256 : Shape := ⟨3, ![1, 128, 256]⟩
abbrev S1x256x128 : Shape := ⟨3, ![1, 256, 128]⟩

abbrev nBuf : Space → Nat
  | .hbm => 46
  | .vmem => 14
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S4096x1024, .bf16⟩
  | .hbm, ⟨3, _⟩ => ⟨S2x2048x16x64, .bf16⟩
  | .hbm, ⟨4, _⟩ => ⟨S4096x1024, .bf16⟩
  | .hbm, ⟨5, _⟩ => ⟨S2x2048x16x64, .bf16⟩
  | .hbm, ⟨6, _⟩ => ⟨S2x16x2048x2048, .f32⟩
  | .hbm, ⟨7, _⟩ => ⟨S_, .f32⟩
  | .hbm, ⟨8, _⟩ => ⟨S2x16x2048x2048, .f32⟩
  | .hbm, ⟨9, _⟩ => ⟨S2x16x2048x2048, .f32⟩
  | .hbm, ⟨10, _⟩ => ⟨S2048, .i32⟩
  | .hbm, ⟨11, _⟩ => ⟨S1x2048, .i32⟩
  | .hbm, ⟨12, _⟩ => ⟨S2048, .i32⟩
  | .hbm, ⟨13, _⟩ => ⟨S2048x1, .i32⟩
  | .hbm, ⟨14, _⟩ => ⟨S2048x2048, .i32⟩
  | .hbm, ⟨15, _⟩ => ⟨S2048x2048, .i32⟩
  | .hbm, ⟨16, _⟩ => ⟨S2048x2048, .i1⟩
  | .hbm, ⟨17, _⟩ => ⟨S2x16x2048x2048, .f32⟩
  | .hbm, ⟨18, _⟩ => ⟨S2x16x2048x2048, .f32⟩
  | .hbm, ⟨19, _⟩ => ⟨S_, .f32⟩
  | .hbm, ⟨20, _⟩ => ⟨S2x16x2048x2048, .f32⟩
  | .hbm, ⟨21, _⟩ => ⟨S2x16x2048x2048, .f32⟩
  | .hbm, ⟨22, _⟩ => ⟨S2x16x2048x2048, .f32⟩
  | .hbm, ⟨23, _⟩ => ⟨S2x16x2048x2048, .f32⟩
  | .hbm, ⟨24, _⟩ => ⟨S2x16x2048x2048, .i1⟩
  | .hbm, ⟨25, _⟩ => ⟨S2x16x2048x2048, .f32⟩
  | .hbm, ⟨26, _⟩ => ⟨S2x16x2048x2048, .f32⟩
  | .hbm, ⟨27, _⟩ => ⟨S2x16x2048x2048, .f32⟩
  | .hbm, ⟨28, _⟩ => ⟨S2x16x2048x2048, .f32⟩
  | .hbm, ⟨29, _⟩ => ⟨S2x16x2048x2048, .f32⟩
  | .hbm, ⟨30, _⟩ => ⟨S2x16x2048x2048, .f32⟩
  | .hbm, ⟨31, _⟩ => ⟨S2x16x2048x2048, .f32⟩
  | .hbm, ⟨32, _⟩ => ⟨S2x16x2048x2048, .f32⟩
  | .hbm, ⟨33, _⟩ => ⟨S2x16x2048x2048, .f32⟩
  | .hbm, ⟨34, _⟩ => ⟨S_, .f32⟩
  | .hbm, ⟨35, _⟩ => ⟨S_, .f32⟩
  | .hbm, ⟨36, _⟩ => ⟨S2x16x2048x2048, .i1⟩
  | .hbm, ⟨37, _⟩ => ⟨S2x16x2048x2048, .f32⟩
  | .hbm, ⟨38, _⟩ => ⟨S2x16x2048x2048, .f32⟩
  | .hbm, ⟨39, _⟩ => ⟨S_, .f32⟩
  | .hbm, ⟨40, _⟩ => ⟨S2x16x2048, .f32⟩
  | .hbm, ⟨41, _⟩ => ⟨S2x2048x16, .f32⟩
  | .hbm, ⟨42, _⟩ => ⟨S2x2048x16x1, .f32⟩
  | .hbm, ⟨43, _⟩ => ⟨S2x2048x16x64, .f32⟩
  | .hbm, ⟨44, _⟩ => ⟨S4096x1024, .f32⟩
  | .hbm, ⟨45, _⟩ => ⟨S3x4096x1024, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .f32⟩
  | .local _ .vmem, ⟨9, _⟩ => ⟨S2048x128, .f32⟩
  | .local _ .vmem, ⟨10, _⟩ => ⟨S3x2048x128, .bf16⟩
  | .local _ .vmem, ⟨11, _⟩ => ⟨S3x2048x128, .bf16⟩
  | .local _ .vmem, ⟨12, _⟩ => ⟨S8x128x256, .f32⟩
  | .local _ .vmem, ⟨13, _⟩ => ⟨S8x128x256, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v15 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v16 : Ref sig .tc := ⟨.hbm, 38, rfl⟩
abbrev main_cst_1 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32 : BitVec 32 := 0#32
  let c4_i32 : BitVec 32 := 4#32
  let v20 : BitVec 32 := Scalar.addi c0_i32 c4_i32
  let c1_i32 : BitVec 32 := 1#32
  ⟨c0_i32, v20, c1_i32⟩
def k0_mult1 (k0_t1 : Fin k0_t1_loop.trips) : BitVec 32 :=
  let c2_i32 : BitVec 32 := 2#32
  let c0_i32 : BitVec 32 := 0#32
  let c1_i32 : BitVec 32 := 1#32
  let arg10 : BitVec 32 := Scf.iv c0_i32 c1_i32 k0_t1
  let v133 : BitVec 32 := Scalar.muli c2_i32 arg10
  let c256_i32 : BitVec 32 := 256#32
  let v134 : BitVec 32 := Scalar.muli v133 c256_i32
  v134
def k0_off1 (k0_t1 : Fin k0_t1_loop.trips) : Fin 2 → Nat :=
  let c2_i32 : BitVec 32 := 2#32
  let c0_i32 : BitVec 32 := 0#32
  let c1_i32 : BitVec 32 := 1#32
  let arg10 : BitVec 32 := Scf.iv c0_i32 c1_i32 k0_t1
  let v133 : BitVec 32 := Scalar.muli c2_i32 arg10
  let c256_i32 : BitVec 32 := 256#32
  let v134 : BitVec 32 := Scalar.muli v133 c256_i32
  let v135 : BitVec 32 := v134
  let v136 : Index := Scalar.indexCast v135
  let c0_89 : Index := 0#32
  ![v136.toNat, 0]
def k0_off2 (k0_t1 : Fin k0_t1_loop.trips) : Fin 2 → Nat :=
  let c2_i32 : BitVec 32 := 2#32
  let c0_i32 : BitVec 32 := 0#32
  let c1_i32 : BitVec 32 := 1#32
  let arg10 : BitVec 32 := Scf.iv c0_i32 c1_i32 k0_t1
  let v133 : BitVec 32 := Scalar.muli c2_i32 arg10
  let c256_i32 : BitVec 32 := 256#32
  let v134 : BitVec 32 := Scalar.muli v133 c256_i32
  let v135 : BitVec 32 := v134
  let v148 : Index := Scalar.indexCast v135
  let c0_92 : Index := 0#32
  ![v148.toNat, 0]
def k0_off3 (k0_t1 : Fin k0_t1_loop.trips) : Fin 2 → Nat :=
  let c2_i32 : BitVec 32 := 2#32
  let c0_i32 : BitVec 32 := 0#32
  let c1_i32 : BitVec 32 := 1#32
  let arg10 : BitVec 32 := Scf.iv c0_i32 c1_i32 k0_t1
  let v133 : BitVec 32 := Scalar.muli c2_i32 arg10
  let c256_i32 : BitVec 32 := 256#32
  let v134 : BitVec 32 := Scalar.muli v133 c256_i32
  let v135 : BitVec 32 := v134
  let v156 : Index := Scalar.indexCast v135
  let c0_95 : Index := 0#32
  ![v156.toNat, 0]
def k0_off4 (k0_t1 : Fin k0_t1_loop.trips) : Fin 2 → Nat :=
  let c2_i32 : BitVec 32 := 2#32
  let c0_i32 : BitVec 32 := 0#32
  let c1_i32 : BitVec 32 := 1#32
  let arg10 : BitVec 32 := Scf.iv c0_i32 c1_i32 k0_t1
  let v133 : BitVec 32 := Scalar.muli c2_i32 arg10
  let c256_i32 : BitVec 32 := 256#32
  let v134 : BitVec 32 := Scalar.muli v133 c256_i32
  let v135 : BitVec 32 := v134
  let v159 : Index := Scalar.indexCast v135
  let c64 : Index := 64#32
  ![v159.toNat, 64]
def k0_off5 (k0_t1 : Fin k0_t1_loop.trips) : Fin 2 → Nat :=
  let c2_i32 : BitVec 32 := 2#32
  let c0_i32 : BitVec 32 := 0#32
  let c1_i32 : BitVec 32 := 1#32
  let arg10 : BitVec 32 := Scf.iv c0_i32 c1_i32 k0_t1
  let v133 : BitVec 32 := Scalar.muli c2_i32 arg10
  let c256_i32 : BitVec 32 := 256#32
  let v134 : BitVec 32 := Scalar.muli v133 c256_i32
  let v135 : BitVec 32 := v134
  let v167 : Index := Scalar.indexCast v135
  let c64_98 : Index := 64#32
  ![v167.toNat, 64]
@[reducible] def k0_t2_loop (k0_t1 : Fin k0_t1_loop.trips) : Scf.Loop 32 :=
  let c0_i32_101 : BitVec 32 := 0#32
  let c0_i32 : BitVec 32 := 0#32
  let c1_i32 : BitVec 32 := 1#32
  let arg10 : BitVec 32 := Scf.iv c0_i32 c1_i32 k0_t1
  let v172 : BitVec 32 := Scalar.subi arg10 c0_i32_101
  let c1_i32_102 : BitVec 32 := 1#32
  let v174 : BitVec 32 := Scalar.divsi v172 c1_i32_102
  let v175 : BitVec 32 := Scalar.muli v174 c1_i32_102
  let v176 : BitVec 32 := Scalar.addi c0_i32_101 v175
  let c1_i32_103 : BitVec 32 := 1#32
  ⟨c0_i32_101, v176, c1_i32_103⟩
def k0_mult2 (k0_t1 : Fin k0_t1_loop.trips) (k0_t2 : Fin (k0_t2_loop k0_t1).trips) : BitVec 32 :=
  let c2_i32_292 : BitVec 32 := 2#32
  let c0_i32_101 : BitVec 32 := 0#32
  let c1_i32_103 : BitVec 32 := 1#32
  let arg11 : BitVec 32 := Scf.iv c0_i32_101 c1_i32_103 k0_t2
  let v711 : BitVec 32 := Scalar.muli c2_i32_292 arg11
  let c256_i32_295 : BitVec 32 := 256#32
  let v714 : BitVec 32 := Scalar.muli v711 c256_i32_295
  v714
def k0_mult3 (k0_t1 : Fin k0_t1_loop.trips) (k0_t2 : Fin (k0_t2_loop k0_t1).trips) : BitVec 32 :=
  let c2_i32_293 : BitVec 32 := 2#32
  let c0_i32_101 : BitVec 32 := 0#32
  let c1_i32_103 : BitVec 32 := 1#32
  let arg11 : BitVec 32 := Scf.iv c0_i32_101 c1_i32_103 k0_t2
  let v712 : BitVec 32 := Scalar.muli c2_i32_293 arg11
  let c1_i32_294 : BitVec 32 := 1#32
  let v713 : BitVec 32 := Scalar.addi v712 c1_i32_294
  let c256_i32_296 : BitVec 32 := 256#32
  let v716 : BitVec 32 := Scalar.muli v713 c256_i32_296
  v716
def k0_mult4 (k0_t1 : Fin k0_t1_loop.trips) (k0_t2 : Fin (k0_t2_loop k0_t1).trips) : BitVec 32 :=
  let c2_i32_292 : BitVec 32 := 2#32
  let c0_i32_101 : BitVec 32 := 0#32
  let c1_i32_103 : BitVec 32 := 1#32
  let arg11 : BitVec 32 := Scf.iv c0_i32_101 c1_i32_103 k0_t2
  let v711 : BitVec 32 := Scalar.muli c2_i32_292 arg11
  let c256_i32_297 : BitVec 32 := 256#32
  let v718 : BitVec 32 := Scalar.muli v711 c256_i32_297
  v718
def k0_mult5 (k0_t1 : Fin k0_t1_loop.trips) (k0_t2 : Fin (k0_t2_loop k0_t1).trips) : BitVec 32 :=
  let c2_i32_293 : BitVec 32 := 2#32
  let c0_i32_101 : BitVec 32 := 0#32
  let c1_i32_103 : BitVec 32 := 1#32
  let arg11 : BitVec 32 := Scf.iv c0_i32_101 c1_i32_103 k0_t2
  let v712 : BitVec 32 := Scalar.muli c2_i32_293 arg11
  let c1_i32_294 : BitVec 32 := 1#32
  let v713 : BitVec 32 := Scalar.addi v712 c1_i32_294
  let c256_i32_298 : BitVec 32 := 256#32
  let v720 : BitVec 32 := Scalar.muli v713 c256_i32_298
  v720
def k0_off6 (k0_t1 : Fin k0_t1_loop.trips) (k0_t2 : Fin (k0_t2_loop k0_t1).trips) : Fin 2 → Nat :=
  let c2_i32_292 : BitVec 32 := 2#32
  let c0_i32_101 : BitVec 32 := 0#32
  let c1_i32_103 : BitVec 32 := 1#32
  let arg11 : BitVec 32 := Scf.iv c0_i32_101 c1_i32_103 k0_t2
  let v711 : BitVec 32 := Scalar.muli c2_i32_292 arg11
  let c256_i32_295 : BitVec 32 := 256#32
  let v714 : BitVec 32 := Scalar.muli v711 c256_i32_295
  let v715 : BitVec 32 := v714
  let v722 : Index := Scalar.indexCast v715
  let c0_299 : Index := 0#32
  ![v722.toNat, 0]
def k0_off7 (k0_t1 : Fin k0_t1_loop.trips) (k0_t2 : Fin (k0_t2_loop k0_t1).trips) : Fin 2 → Nat :=
  let c2_i32_293 : BitVec 32 := 2#32
  let c0_i32_101 : BitVec 32 := 0#32
  let c1_i32_103 : BitVec 32 := 1#32
  let arg11 : BitVec 32 := Scf.iv c0_i32_101 c1_i32_103 k0_t2
  let v712 : BitVec 32 := Scalar.muli c2_i32_293 arg11
  let c1_i32_294 : BitVec 32 := 1#32
  let v713 : BitVec 32 := Scalar.addi v712 c1_i32_294
  let c256_i32_296 : BitVec 32 := 256#32
  let v716 : BitVec 32 := Scalar.muli v713 c256_i32_296
  let v717 : BitVec 32 := v716
  let v724 : Index := Scalar.indexCast v717
  let c0_300 : Index := 0#32
  ![v724.toNat, 0]
def k0_off8 (k0_t1 : Fin k0_t1_loop.trips) (k0_t2 : Fin (k0_t2_loop k0_t1).trips) : Fin 2 → Nat :=
  let c2_i32_292 : BitVec 32 := 2#32
  let c0_i32_101 : BitVec 32 := 0#32
  let c1_i32_103 : BitVec 32 := 1#32
  let arg11 : BitVec 32 := Scf.iv c0_i32_101 c1_i32_103 k0_t2
  let v711 : BitVec 32 := Scalar.muli c2_i32_292 arg11
  let c256_i32_297 : BitVec 32 := 256#32
  let v718 : BitVec 32 := Scalar.muli v711 c256_i32_297
  let v719 : BitVec 32 := v718
  let v726 : Index := Scalar.indexCast v719
  let c64_301 : Index := 64#32
  ![v726.toNat, 64]
def k0_off9 (k0_t1 : Fin k0_t1_loop.trips) (k0_t2 : Fin (k0_t2_loop k0_t1).trips) : Fin 2 → Nat :=
  let c2_i32_293 : BitVec 32 := 2#32
  let c0_i32_101 : BitVec 32 := 0#32
  let c1_i32_103 : BitVec 32 := 1#32
  let arg11 : BitVec 32 := Scf.iv c0_i32_101 c1_i32_103 k0_t2
  let v712 : BitVec 32 := Scalar.muli c2_i32_293 arg11
  let c1_i32_294 : BitVec 32 := 1#32
  let v713 : BitVec 32 := Scalar.addi v712 c1_i32_294
  let c256_i32_298 : BitVec 32 := 256#32
  let v720 : BitVec 32 := Scalar.muli v713 c256_i32_298
  let v721 : BitVec 32 := v720
  let v728 : Index := Scalar.indexCast v721
  let c64_302 : Index := 64#32
  ![v728.toNat, 64]
def k0_off10 (k0_t1 : Fin k0_t1_loop.trips) (k0_t2 : Fin (k0_t2_loop k0_t1).trips) : Fin 3 → Nat :=
  let c2_i32_292 : BitVec 32 := 2#32
  let c0_i32_101 : BitVec 32 := 0#32
  let c1_i32_103 : BitVec 32 := 1#32
  let arg11 : BitVec 32 := Scf.iv c0_i32_101 c1_i32_103 k0_t2
  let v711 : BitVec 32 := Scalar.muli c2_i32_292 arg11
  let v928 : Index := Scalar.indexCast v711
  let c0_352 : Index := 0#32
  let c0_353 : Index := 0#32
  ![v928.toNat, 0, 0]
def k0_off11 (k0_t1 : Fin k0_t1_loop.trips) (k0_t2 : Fin (k0_t2_loop k0_t1).trips) : Fin 3 → Nat :=
  let c2_i32_293 : BitVec 32 := 2#32
  let c0_i32_101 : BitVec 32 := 0#32
  let c1_i32_103 : BitVec 32 := 1#32
  let arg11 : BitVec 32 := Scf.iv c0_i32_101 c1_i32_103 k0_t2
  let v712 : BitVec 32 := Scalar.muli c2_i32_293 arg11
  let c1_i32_294 : BitVec 32 := 1#32
  let v713 : BitVec 32 := Scalar.addi v712 c1_i32_294
  let v949 : Index := Scalar.indexCast v713
  let c0_363 : Index := 0#32
  let c0_364 : Index := 0#32
  ![v949.toNat, 0, 0]
def k0_off12 (k0_t1 : Fin k0_t1_loop.trips) (k0_t2 : Fin (k0_t2_loop k0_t1).trips) : Fin 3 → Nat :=
  let c2_i32_292 : BitVec 32 := 2#32
  let c0_i32_101 : BitVec 32 := 0#32
  let c1_i32_103 : BitVec 32 := 1#32
  let arg11 : BitVec 32 := Scf.iv c0_i32_101 c1_i32_103 k0_t2
  let v711 : BitVec 32 := Scalar.muli c2_i32_292 arg11
  let v970 : Index := Scalar.indexCast v711
  let c64_374 : Index := 64#32
  let c0_375 : Index := 0#32
  ![v970.toNat, 64, 0]
def k0_off13 (k0_t1 : Fin k0_t1_loop.trips) (k0_t2 : Fin (k0_t2_loop k0_t1).trips) : Fin 3 → Nat :=
  let c2_i32_293 : BitVec 32 := 2#32
  let c0_i32_101 : BitVec 32 := 0#32
  let c1_i32_103 : BitVec 32 := 1#32
  let arg11 : BitVec 32 := Scf.iv c0_i32_101 c1_i32_103 k0_t2
  let v712 : BitVec 32 := Scalar.muli c2_i32_293 arg11
  let c1_i32_294 : BitVec 32 := 1#32
  let v713 : BitVec 32 := Scalar.addi v712 c1_i32_294
  let v991 : Index := Scalar.indexCast v713
  let c64_385 : Index := 64#32
  let c0_386 : Index := 0#32
  ![v991.toNat, 64, 0]
@[reducible] def k0_t3_loop (k0_t1 : Fin k0_t1_loop.trips) : Scf.Loop 32 :=
  let c0_i32_101 : BitVec 32 := 0#32
  let c0_i32 : BitVec 32 := 0#32
  let c1_i32 : BitVec 32 := 1#32
  let arg10 : BitVec 32 := Scf.iv c0_i32 c1_i32 k0_t1
  let v172 : BitVec 32 := Scalar.subi arg10 c0_i32_101
  let c1_i32_102 : BitVec 32 := 1#32
  let v174 : BitVec 32 := Scalar.divsi v172 c1_i32_102
  let v175 : BitVec 32 := Scalar.muli v174 c1_i32_102
  let v176 : BitVec 32 := Scalar.addi c0_i32_101 v175
  let v173 : BitVec 32 := Scalar.addi c0_i32_101 v172
  let c1_i32_104 : BitVec 32 := 1#32
  ⟨v176, v173, c1_i32_104⟩
def k0_mult6 (k0_t1 : Fin k0_t1_loop.trips) (k0_t3 : Fin (k0_t3_loop k0_t1).trips) : BitVec 32 :=
  let c2_i32_292 : BitVec 32 := 2#32
  let c0_i32_101 : BitVec 32 := 0#32
  let c0_i32 : BitVec 32 := 0#32
  let c1_i32 : BitVec 32 := 1#32
  let arg10 : BitVec 32 := Scf.iv c0_i32 c1_i32 k0_t1
  let v172 : BitVec 32 := Scalar.subi arg10 c0_i32_101
  let c1_i32_102 : BitVec 32 := 1#32
  let v174 : BitVec 32 := Scalar.divsi v172 c1_i32_102
  let v175 : BitVec 32 := Scalar.muli v174 c1_i32_102
  let v176 : BitVec 32 := Scalar.addi c0_i32_101 v175
  let c1_i32_104 : BitVec 32 := 1#32
  let arg11 : BitVec 32 := Scf.iv v176 c1_i32_104 k0_t3
  let v711 : BitVec 32 := Scalar.muli c2_i32_292 arg11
  let c256_i32_295 : BitVec 32 := 256#32
  let v714 : BitVec 32 := Scalar.muli v711 c256_i32_295
  v714
def k0_mult7 (k0_t1 : Fin k0_t1_loop.trips) (k0_t3 : Fin (k0_t3_loop k0_t1).trips) : BitVec 32 :=
  let c2_i32_293 : BitVec 32 := 2#32
  let c0_i32_101 : BitVec 32 := 0#32
  let c0_i32 : BitVec 32 := 0#32
  let c1_i32 : BitVec 32 := 1#32
  let arg10 : BitVec 32 := Scf.iv c0_i32 c1_i32 k0_t1
  let v172 : BitVec 32 := Scalar.subi arg10 c0_i32_101
  let c1_i32_102 : BitVec 32 := 1#32
  let v174 : BitVec 32 := Scalar.divsi v172 c1_i32_102
  let v175 : BitVec 32 := Scalar.muli v174 c1_i32_102
  let v176 : BitVec 32 := Scalar.addi c0_i32_101 v175
  let c1_i32_104 : BitVec 32 := 1#32
  let arg11 : BitVec 32 := Scf.iv v176 c1_i32_104 k0_t3
  let v712 : BitVec 32 := Scalar.muli c2_i32_293 arg11
  let c1_i32_294 : BitVec 32 := 1#32
  let v713 : BitVec 32 := Scalar.addi v712 c1_i32_294
  let c256_i32_296 : BitVec 32 := 256#32
  let v716 : BitVec 32 := Scalar.muli v713 c256_i32_296
  v716
def k0_mult8 (k0_t1 : Fin k0_t1_loop.trips) (k0_t3 : Fin (k0_t3_loop k0_t1).trips) : BitVec 32 :=
  let c2_i32_292 : BitVec 32 := 2#32
  let c0_i32_101 : BitVec 32 := 0#32
  let c0_i32 : BitVec 32 := 0#32
  let c1_i32 : BitVec 32 := 1#32
  let arg10 : BitVec 32 := Scf.iv c0_i32 c1_i32 k0_t1
  let v172 : BitVec 32 := Scalar.subi arg10 c0_i32_101
  let c1_i32_102 : BitVec 32 := 1#32
  let v174 : BitVec 32 := Scalar.divsi v172 c1_i32_102
  let v175 : BitVec 32 := Scalar.muli v174 c1_i32_102
  let v176 : BitVec 32 := Scalar.addi c0_i32_101 v175
  let c1_i32_104 : BitVec 32 := 1#32
  let arg11 : BitVec 32 := Scf.iv v176 c1_i32_104 k0_t3
  let v711 : BitVec 32 := Scalar.muli c2_i32_292 arg11
  let c256_i32_297 : BitVec 32 := 256#32
  let v718 : BitVec 32 := Scalar.muli v711 c256_i32_297
  v718
def k0_mult9 (k0_t1 : Fin k0_t1_loop.trips) (k0_t3 : Fin (k0_t3_loop k0_t1).trips) : BitVec 32 :=
  let c2_i32_293 : BitVec 32 := 2#32
  let c0_i32_101 : BitVec 32 := 0#32
  let c0_i32 : BitVec 32 := 0#32
  let c1_i32 : BitVec 32 := 1#32
  let arg10 : BitVec 32 := Scf.iv c0_i32 c1_i32 k0_t1
  let v172 : BitVec 32 := Scalar.subi arg10 c0_i32_101
  let c1_i32_102 : BitVec 32 := 1#32
  let v174 : BitVec 32 := Scalar.divsi v172 c1_i32_102
  let v175 : BitVec 32 := Scalar.muli v174 c1_i32_102
  let v176 : BitVec 32 := Scalar.addi c0_i32_101 v175
  let c1_i32_104 : BitVec 32 := 1#32
  let arg11 : BitVec 32 := Scf.iv v176 c1_i32_104 k0_t3
  let v712 : BitVec 32 := Scalar.muli c2_i32_293 arg11
  let c1_i32_294 : BitVec 32 := 1#32
  let v713 : BitVec 32 := Scalar.addi v712 c1_i32_294
  let c256_i32_298 : BitVec 32 := 256#32
  let v720 : BitVec 32 := Scalar.muli v713 c256_i32_298
  v720
def k0_off14 (k0_t1 : Fin k0_t1_loop.trips) (k0_t3 : Fin (k0_t3_loop k0_t1).trips) : Fin 2 → Nat :=
  let c2_i32_292 : BitVec 32 := 2#32
  let c0_i32_101 : BitVec 32 := 0#32
  let c0_i32 : BitVec 32 := 0#32
  let c1_i32 : BitVec 32 := 1#32
  let arg10 : BitVec 32 := Scf.iv c0_i32 c1_i32 k0_t1
  let v172 : BitVec 32 := Scalar.subi arg10 c0_i32_101
  let c1_i32_102 : BitVec 32 := 1#32
  let v174 : BitVec 32 := Scalar.divsi v172 c1_i32_102
  let v175 : BitVec 32 := Scalar.muli v174 c1_i32_102
  let v176 : BitVec 32 := Scalar.addi c0_i32_101 v175
  let c1_i32_104 : BitVec 32 := 1#32
  let arg11 : BitVec 32 := Scf.iv v176 c1_i32_104 k0_t3
  let v711 : BitVec 32 := Scalar.muli c2_i32_292 arg11
  let c256_i32_295 : BitVec 32 := 256#32
  let v714 : BitVec 32 := Scalar.muli v711 c256_i32_295
  let v715 : BitVec 32 := v714
  let v722 : Index := Scalar.indexCast v715
  let c0_299 : Index := 0#32
  ![v722.toNat, 0]
def k0_off15 (k0_t1 : Fin k0_t1_loop.trips) (k0_t3 : Fin (k0_t3_loop k0_t1).trips) : Fin 2 → Nat :=
  let c2_i32_293 : BitVec 32 := 2#32
  let c0_i32_101 : BitVec 32 := 0#32
  let c0_i32 : BitVec 32 := 0#32
  let c1_i32 : BitVec 32 := 1#32
  let arg10 : BitVec 32 := Scf.iv c0_i32 c1_i32 k0_t1
  let v172 : BitVec 32 := Scalar.subi arg10 c0_i32_101
  let c1_i32_102 : BitVec 32 := 1#32
  let v174 : BitVec 32 := Scalar.divsi v172 c1_i32_102
  let v175 : BitVec 32 := Scalar.muli v174 c1_i32_102
  let v176 : BitVec 32 := Scalar.addi c0_i32_101 v175
  let c1_i32_104 : BitVec 32 := 1#32
  let arg11 : BitVec 32 := Scf.iv v176 c1_i32_104 k0_t3
  let v712 : BitVec 32 := Scalar.muli c2_i32_293 arg11
  let c1_i32_294 : BitVec 32 := 1#32
  let v713 : BitVec 32 := Scalar.addi v712 c1_i32_294
  let c256_i32_296 : BitVec 32 := 256#32
  let v716 : BitVec 32 := Scalar.muli v713 c256_i32_296
  let v717 : BitVec 32 := v716
  let v724 : Index := Scalar.indexCast v717
  let c0_300 : Index := 0#32
  ![v724.toNat, 0]
def k0_off16 (k0_t1 : Fin k0_t1_loop.trips) (k0_t3 : Fin (k0_t3_loop k0_t1).trips) : Fin 2 → Nat :=
  let c2_i32_292 : BitVec 32 := 2#32
  let c0_i32_101 : BitVec 32 := 0#32
  let c0_i32 : BitVec 32 := 0#32
  let c1_i32 : BitVec 32 := 1#32
  let arg10 : BitVec 32 := Scf.iv c0_i32 c1_i32 k0_t1
  let v172 : BitVec 32 := Scalar.subi arg10 c0_i32_101
  let c1_i32_102 : BitVec 32 := 1#32
  let v174 : BitVec 32 := Scalar.divsi v172 c1_i32_102
  let v175 : BitVec 32 := Scalar.muli v174 c1_i32_102
  let v176 : BitVec 32 := Scalar.addi c0_i32_101 v175
  let c1_i32_104 : BitVec 32 := 1#32
  let arg11 : BitVec 32 := Scf.iv v176 c1_i32_104 k0_t3
  let v711 : BitVec 32 := Scalar.muli c2_i32_292 arg11
  let c256_i32_297 : BitVec 32 := 256#32
  let v718 : BitVec 32 := Scalar.muli v711 c256_i32_297
  let v719 : BitVec 32 := v718
  let v726 : Index := Scalar.indexCast v719
  let c64_301 : Index := 64#32
  ![v726.toNat, 64]
def k0_off17 (k0_t1 : Fin k0_t1_loop.trips) (k0_t3 : Fin (k0_t3_loop k0_t1).trips) : Fin 2 → Nat :=
  let c2_i32_293 : BitVec 32 := 2#32
  let c0_i32_101 : BitVec 32 := 0#32
  let c0_i32 : BitVec 32 := 0#32
  let c1_i32 : BitVec 32 := 1#32
  let arg10 : BitVec 32 := Scf.iv c0_i32 c1_i32 k0_t1
  let v172 : BitVec 32 := Scalar.subi arg10 c0_i32_101
  let c1_i32_102 : BitVec 32 := 1#32
  let v174 : BitVec 32 := Scalar.divsi v172 c1_i32_102
  let v175 : BitVec 32 := Scalar.muli v174 c1_i32_102
  let v176 : BitVec 32 := Scalar.addi c0_i32_101 v175
  let c1_i32_104 : BitVec 32 := 1#32
  let arg11 : BitVec 32 := Scf.iv v176 c1_i32_104 k0_t3
  let v712 : BitVec 32 := Scalar.muli c2_i32_293 arg11
  let c1_i32_294 : BitVec 32 := 1#32
  let v713 : BitVec 32 := Scalar.addi v712 c1_i32_294
  let c256_i32_298 : BitVec 32 := 256#32
  let v720 : BitVec 32 := Scalar.muli v713 c256_i32_298
  let v721 : BitVec 32 := v720
  let v728 : Index := Scalar.indexCast v721
  let c64_302 : Index := 64#32
  ![v728.toNat, 64]
def k0_off18 (k0_t1 : Fin k0_t1_loop.trips) (k0_t3 : Fin (k0_t3_loop k0_t1).trips) : Fin 3 → Nat :=
  let c2_i32_292 : BitVec 32 := 2#32
  let c0_i32_101 : BitVec 32 := 0#32
  let c0_i32 : BitVec 32 := 0#32
  let c1_i32 : BitVec 32 := 1#32
  let arg10 : BitVec 32 := Scf.iv c0_i32 c1_i32 k0_t1
  let v172 : BitVec 32 := Scalar.subi arg10 c0_i32_101
  let c1_i32_102 : BitVec 32 := 1#32
  let v174 : BitVec 32 := Scalar.divsi v172 c1_i32_102
  let v175 : BitVec 32 := Scalar.muli v174 c1_i32_102
  let v176 : BitVec 32 := Scalar.addi c0_i32_101 v175
  let c1_i32_104 : BitVec 32 := 1#32
  let arg11 : BitVec 32 := Scf.iv v176 c1_i32_104 k0_t3
  let v711 : BitVec 32 := Scalar.muli c2_i32_292 arg11
  let v928 : Index := Scalar.indexCast v711
  let c0_352 : Index := 0#32
  let c0_353 : Index := 0#32
  ![v928.toNat, 0, 0]
def k0_off19 (k0_t1 : Fin k0_t1_loop.trips) (k0_t3 : Fin (k0_t3_loop k0_t1).trips) : Fin 3 → Nat :=
  let c2_i32_293 : BitVec 32 := 2#32
  let c0_i32_101 : BitVec 32 := 0#32
  let c0_i32 : BitVec 32 := 0#32
  let c1_i32 : BitVec 32 := 1#32
  let arg10 : BitVec 32 := Scf.iv c0_i32 c1_i32 k0_t1
  let v172 : BitVec 32 := Scalar.subi arg10 c0_i32_101
  let c1_i32_102 : BitVec 32 := 1#32
  let v174 : BitVec 32 := Scalar.divsi v172 c1_i32_102
  let v175 : BitVec 32 := Scalar.muli v174 c1_i32_102
  let v176 : BitVec 32 := Scalar.addi c0_i32_101 v175
  let c1_i32_104 : BitVec 32 := 1#32
  let arg11 : BitVec 32 := Scf.iv v176 c1_i32_104 k0_t3
  let v712 : BitVec 32 := Scalar.muli c2_i32_293 arg11
  let c1_i32_294 : BitVec 32 := 1#32
  let v713 : BitVec 32 := Scalar.addi v712 c1_i32_294
  let v949 : Index := Scalar.indexCast v713
  let c0_363 : Index := 0#32
  let c0_364 : Index := 0#32
  ![v949.toNat, 0, 0]
def k0_off20 (k0_t1 : Fin k0_t1_loop.trips) (k0_t3 : Fin (k0_t3_loop k0_t1).trips) : Fin 3 → Nat :=
  let c2_i32_292 : BitVec 32 := 2#32
  let c0_i32_101 : BitVec 32 := 0#32
  let c0_i32 : BitVec 32 := 0#32
  let c1_i32 : BitVec 32 := 1#32
  let arg10 : BitVec 32 := Scf.iv c0_i32 c1_i32 k0_t1
  let v172 : BitVec 32 := Scalar.subi arg10 c0_i32_101
  let c1_i32_102 : BitVec 32 := 1#32
  let v174 : BitVec 32 := Scalar.divsi v172 c1_i32_102
  let v175 : BitVec 32 := Scalar.muli v174 c1_i32_102
  let v176 : BitVec 32 := Scalar.addi c0_i32_101 v175
  let c1_i32_104 : BitVec 32 := 1#32
  let arg11 : BitVec 32 := Scf.iv v176 c1_i32_104 k0_t3
  let v711 : BitVec 32 := Scalar.muli c2_i32_292 arg11
  let v970 : Index := Scalar.indexCast v711
  let c64_374 : Index := 64#32
  let c0_375 : Index := 0#32
  ![v970.toNat, 64, 0]
def k0_off21 (k0_t1 : Fin k0_t1_loop.trips) (k0_t3 : Fin (k0_t3_loop k0_t1).trips) : Fin 3 → Nat :=
  let c2_i32_293 : BitVec 32 := 2#32
  let c0_i32_101 : BitVec 32 := 0#32
  let c0_i32 : BitVec 32 := 0#32
  let c1_i32 : BitVec 32 := 1#32
  let arg10 : BitVec 32 := Scf.iv c0_i32 c1_i32 k0_t1
  let v172 : BitVec 32 := Scalar.subi arg10 c0_i32_101
  let c1_i32_102 : BitVec 32 := 1#32
  let v174 : BitVec 32 := Scalar.divsi v172 c1_i32_102
  let v175 : BitVec 32 := Scalar.muli v174 c1_i32_102
  let v176 : BitVec 32 := Scalar.addi c0_i32_101 v175
  let c1_i32_104 : BitVec 32 := 1#32
  let arg11 : BitVec 32 := Scf.iv v176 c1_i32_104 k0_t3
  let v712 : BitVec 32 := Scalar.muli c2_i32_293 arg11
  let c1_i32_294 : BitVec 32 := 1#32
  let v713 : BitVec 32 := Scalar.addi v712 c1_i32_294
  let v991 : Index := Scalar.indexCast v713
  let c64_385 : Index := 64#32
  let c0_386 : Index := 0#32
  ![v991.toNat, 64, 0]
def k0_mult10 (k0_t1 : Fin k0_t1_loop.trips) : BitVec 32 :=
  let c2_i32 : BitVec 32 := 2#32
  let c0_i32 : BitVec 32 := 0#32
  let c1_i32 : BitVec 32 := 1#32
  let arg10 : BitVec 32 := Scf.iv c0_i32 c1_i32 k0_t1
  let v133 : BitVec 32 := Scalar.muli c2_i32 arg10
  let c256_i32_105 : BitVec 32 := 256#32
  let v179 : BitVec 32 := Scalar.muli v133 c256_i32_105
  v179
def k0_mult11 (k0_t1 : Fin k0_t1_loop.trips) : BitVec 32 :=
  let c2_i32 : BitVec 32 := 2#32
  let c0_i32 : BitVec 32 := 0#32
  let c1_i32 : BitVec 32 := 1#32
  let arg10 : BitVec 32 := Scf.iv c0_i32 c1_i32 k0_t1
  let v133 : BitVec 32 := Scalar.muli c2_i32 arg10
  let c256_i32_106 : BitVec 32 := 256#32
  let v181 : BitVec 32 := Scalar.muli v133 c256_i32_106
  v181
def k0_off22 (k0_t1 : Fin k0_t1_loop.trips) : Fin 3 → Nat :=
  let c2_i32 : BitVec 32 := 2#32
  let c0_i32 : BitVec 32 := 0#32
  let c1_i32 : BitVec 32 := 1#32
  let arg10 : BitVec 32 := Scf.iv c0_i32 c1_i32 k0_t1
  let v133 : BitVec 32 := Scalar.muli c2_i32 arg10
  let v293 : Index := Scalar.indexCast v133
  let c0_136 : Index := 0#32
  let c0_137 : Index := 0#32
  ![v293.toNat, 0, 0]
def k0_off23 (k0_t1 : Fin k0_t1_loop.trips) : Fin 3 → Nat :=
  let c2_i32 : BitVec 32 := 2#32
  let c0_i32 : BitVec 32 := 0#32
  let c1_i32 : BitVec 32 := 1#32
  let arg10 : BitVec 32 := Scf.iv c0_i32 c1_i32 k0_t1
  let v133 : BitVec 32 := Scalar.muli c2_i32 arg10
  let v314 : Index := Scalar.indexCast v133
  let c64_147 : Index := 64#32
  let c0_148 : Index := 0#32
  ![v314.toNat, 64, 0]
def k0_off24 (k0_t1 : Fin k0_t1_loop.trips) : Fin 3 → Nat :=
  let c0_158 : Index := 0#32
  let c2_i32 : BitVec 32 := 2#32
  let c0_i32 : BitVec 32 := 0#32
  let c1_i32 : BitVec 32 := 1#32
  let arg10 : BitVec 32 := Scf.iv c0_i32 c1_i32 k0_t1
  let v133 : BitVec 32 := Scalar.muli c2_i32 arg10
  let c256_i32 : BitVec 32 := 256#32
  let v134 : BitVec 32 := Scalar.muli v133 c256_i32
  let v135 : BitVec 32 := v134
  let v336 : Index := Scalar.indexCast v135
  let c0_159 : Index := 0#32
  ![0, v336.toNat, 0]
def k0_off25 (k0_t1 : Fin k0_t1_loop.trips) : Fin 3 → Nat :=
  let c0_161 : Index := 0#32
  let c2_i32 : BitVec 32 := 2#32
  let c0_i32 : BitVec 32 := 0#32
  let c1_i32 : BitVec 32 := 1#32
  let arg10 : BitVec 32 := Scf.iv c0_i32 c1_i32 k0_t1
  let v133 : BitVec 32 := Scalar.muli c2_i32 arg10
  let c256_i32 : BitVec 32 := 256#32
  let v134 : BitVec 32 := Scalar.muli v133 c256_i32
  let v135 : BitVec 32 := v134
  let v343 : Index := Scalar.indexCast v135
  let c64_162 : Index := 64#32
  ![0, v343.toNat, 64]
def k0_mult12 (k0_t1 : Fin k0_t1_loop.trips) : BitVec 32 :=
  let c2_i32_163 : BitVec 32 := 2#32
  let c0_i32 : BitVec 32 := 0#32
  let c1_i32 : BitVec 32 := 1#32
  let arg10 : BitVec 32 := Scf.iv c0_i32 c1_i32 k0_t1
  let v347 : BitVec 32 := Scalar.muli c2_i32_163 arg10
  let c1_i32_164 : BitVec 32 := 1#32
  let v348 : BitVec 32 := Scalar.addi v347 c1_i32_164
  let c256_i32_165 : BitVec 32 := 256#32
  let v349 : BitVec 32 := Scalar.muli v348 c256_i32_165
  v349
def k0_off26 (k0_t1 : Fin k0_t1_loop.trips) : Fin 2 → Nat :=
  let c2_i32_163 : BitVec 32 := 2#32
  let c0_i32 : BitVec 32 := 0#32
  let c1_i32 : BitVec 32 := 1#32
  let arg10 : BitVec 32 := Scf.iv c0_i32 c1_i32 k0_t1
  let v347 : BitVec 32 := Scalar.muli c2_i32_163 arg10
  let c1_i32_164 : BitVec 32 := 1#32
  let v348 : BitVec 32 := Scalar.addi v347 c1_i32_164
  let c256_i32_165 : BitVec 32 := 256#32
  let v349 : BitVec 32 := Scalar.muli v348 c256_i32_165
  let v350 : BitVec 32 := v349
  let v351 : Index := Scalar.indexCast v350
  let c0_166 : Index := 0#32
  ![v351.toNat, 0]
def k0_off27 (k0_t1 : Fin k0_t1_loop.trips) : Fin 2 → Nat :=
  let c2_i32_163 : BitVec 32 := 2#32
  let c0_i32 : BitVec 32 := 0#32
  let c1_i32 : BitVec 32 := 1#32
  let arg10 : BitVec 32 := Scf.iv c0_i32 c1_i32 k0_t1
  let v347 : BitVec 32 := Scalar.muli c2_i32_163 arg10
  let c1_i32_164 : BitVec 32 := 1#32
  let v348 : BitVec 32 := Scalar.addi v347 c1_i32_164
  let c256_i32_165 : BitVec 32 := 256#32
  let v349 : BitVec 32 := Scalar.muli v348 c256_i32_165
  let v350 : BitVec 32 := v349
  let v363 : Index := Scalar.indexCast v350
  let c0_169 : Index := 0#32
  ![v363.toNat, 0]
def k0_off28 (k0_t1 : Fin k0_t1_loop.trips) : Fin 2 → Nat :=
  let c2_i32_163 : BitVec 32 := 2#32
  let c0_i32 : BitVec 32 := 0#32
  let c1_i32 : BitVec 32 := 1#32
  let arg10 : BitVec 32 := Scf.iv c0_i32 c1_i32 k0_t1
  let v347 : BitVec 32 := Scalar.muli c2_i32_163 arg10
  let c1_i32_164 : BitVec 32 := 1#32
  let v348 : BitVec 32 := Scalar.addi v347 c1_i32_164
  let c256_i32_165 : BitVec 32 := 256#32
  let v349 : BitVec 32 := Scalar.muli v348 c256_i32_165
  let v350 : BitVec 32 := v349
  let v371 : Index := Scalar.indexCast v350
  let c0_172 : Index := 0#32
  ![v371.toNat, 0]
def k0_off29 (k0_t1 : Fin k0_t1_loop.trips) : Fin 2 → Nat :=
  let c2_i32_163 : BitVec 32 := 2#32
  let c0_i32 : BitVec 32 := 0#32
  let c1_i32 : BitVec 32 := 1#32
  let arg10 : BitVec 32 := Scf.iv c0_i32 c1_i32 k0_t1
  let v347 : BitVec 32 := Scalar.muli c2_i32_163 arg10
  let c1_i32_164 : BitVec 32 := 1#32
  let v348 : BitVec 32 := Scalar.addi v347 c1_i32_164
  let c256_i32_165 : BitVec 32 := 256#32
  let v349 : BitVec 32 := Scalar.muli v348 c256_i32_165
  let v350 : BitVec 32 := v349
  let v374 : Index := Scalar.indexCast v350
  let c64_173 : Index := 64#32
  ![v374.toNat, 64]
def k0_off30 (k0_t1 : Fin k0_t1_loop.trips) : Fin 2 → Nat :=
  let c2_i32_163 : BitVec 32 := 2#32
  let c0_i32 : BitVec 32 := 0#32
  let c1_i32 : BitVec 32 := 1#32
  let arg10 : BitVec 32 := Scf.iv c0_i32 c1_i32 k0_t1
  let v347 : BitVec 32 := Scalar.muli c2_i32_163 arg10
  let c1_i32_164 : BitVec 32 := 1#32
  let v348 : BitVec 32 := Scalar.addi v347 c1_i32_164
  let c256_i32_165 : BitVec 32 := 256#32
  let v349 : BitVec 32 := Scalar.muli v348 c256_i32_165
  let v350 : BitVec 32 := v349
  let v382 : Index := Scalar.indexCast v350
  let c64_176 : Index := 64#32
  ![v382.toNat, 64]
@[reducible] def k0_t4_loop (k0_t1 : Fin k0_t1_loop.trips) : Scf.Loop 32 :=
  let c0_i32_179 : BitVec 32 := 0#32
  let c0_i32 : BitVec 32 := 0#32
  let c1_i32 : BitVec 32 := 1#32
  let arg10 : BitVec 32 := Scf.iv c0_i32 c1_i32 k0_t1
  let v387 : BitVec 32 := Scalar.subi arg10 c0_i32_179
  let c1_i32_180 : BitVec 32 := 1#32
  let v389 : BitVec 32 := Scalar.divsi v387 c1_i32_180
  let v390 : BitVec 32 := Scalar.muli v389 c1_i32_180
  let v391 : BitVec 32 := Scalar.addi c0_i32_179 v390
  let c1_i32_181 : BitVec 32 := 1#32
  ⟨c0_i32_179, v391, c1_i32_181⟩
def k0_mult13 (k0_t1 : Fin k0_t1_loop.trips) (k0_t4 : Fin (k0_t4_loop k0_t1).trips) : BitVec 32 :=
  let c2_i32_292 : BitVec 32 := 2#32
  let c0_i32_179 : BitVec 32 := 0#32
  let c1_i32_181 : BitVec 32 := 1#32
  let arg11 : BitVec 32 := Scf.iv c0_i32_179 c1_i32_181 k0_t4
  let v711 : BitVec 32 := Scalar.muli c2_i32_292 arg11
  let c256_i32_295 : BitVec 32 := 256#32
  let v714 : BitVec 32 := Scalar.muli v711 c256_i32_295
  v714
def k0_mult14 (k0_t1 : Fin k0_t1_loop.trips) (k0_t4 : Fin (k0_t4_loop k0_t1).trips) : BitVec 32 :=
  let c2_i32_293 : BitVec 32 := 2#32
  let c0_i32_179 : BitVec 32 := 0#32
  let c1_i32_181 : BitVec 32 := 1#32
  let arg11 : BitVec 32 := Scf.iv c0_i32_179 c1_i32_181 k0_t4
  let v712 : BitVec 32 := Scalar.muli c2_i32_293 arg11
  let c1_i32_294 : BitVec 32 := 1#32
  let v713 : BitVec 32 := Scalar.addi v712 c1_i32_294
  let c256_i32_296 : BitVec 32 := 256#32
  let v716 : BitVec 32 := Scalar.muli v713 c256_i32_296
  v716
def k0_mult15 (k0_t1 : Fin k0_t1_loop.trips) (k0_t4 : Fin (k0_t4_loop k0_t1).trips) : BitVec 32 :=
  let c2_i32_292 : BitVec 32 := 2#32
  let c0_i32_179 : BitVec 32 := 0#32
  let c1_i32_181 : BitVec 32 := 1#32
  let arg11 : BitVec 32 := Scf.iv c0_i32_179 c1_i32_181 k0_t4
  let v711 : BitVec 32 := Scalar.muli c2_i32_292 arg11
  let c256_i32_297 : BitVec 32 := 256#32
  let v718 : BitVec 32 := Scalar.muli v711 c256_i32_297
  v718
def k0_mult16 (k0_t1 : Fin k0_t1_loop.trips) (k0_t4 : Fin (k0_t4_loop k0_t1).trips) : BitVec 32 :=
  let c2_i32_293 : BitVec 32 := 2#32
  let c0_i32_179 : BitVec 32 := 0#32
  let c1_i32_181 : BitVec 32 := 1#32
  let arg11 : BitVec 32 := Scf.iv c0_i32_179 c1_i32_181 k0_t4
  let v712 : BitVec 32 := Scalar.muli c2_i32_293 arg11
  let c1_i32_294 : BitVec 32 := 1#32
  let v713 : BitVec 32 := Scalar.addi v712 c1_i32_294
  let c256_i32_298 : BitVec 32 := 256#32
  let v720 : BitVec 32 := Scalar.muli v713 c256_i32_298
  v720
def k0_off31 (k0_t1 : Fin k0_t1_loop.trips) (k0_t4 : Fin (k0_t4_loop k0_t1).trips) : Fin 2 → Nat :=
  let c2_i32_292 : BitVec 32 := 2#32
  let c0_i32_179 : BitVec 32 := 0#32
  let c1_i32_181 : BitVec 32 := 1#32
  let arg11 : BitVec 32 := Scf.iv c0_i32_179 c1_i32_181 k0_t4
  let v711 : BitVec 32 := Scalar.muli c2_i32_292 arg11
  let c256_i32_295 : BitVec 32 := 256#32
  let v714 : BitVec 32 := Scalar.muli v711 c256_i32_295
  let v715 : BitVec 32 := v714
  let v722 : Index := Scalar.indexCast v715
  let c0_299 : Index := 0#32
  ![v722.toNat, 0]
def k0_off32 (k0_t1 : Fin k0_t1_loop.trips) (k0_t4 : Fin (k0_t4_loop k0_t1).trips) : Fin 2 → Nat :=
  let c2_i32_293 : BitVec 32 := 2#32
  let c0_i32_179 : BitVec 32 := 0#32
  let c1_i32_181 : BitVec 32 := 1#32
  let arg11 : BitVec 32 := Scf.iv c0_i32_179 c1_i32_181 k0_t4
  let v712 : BitVec 32 := Scalar.muli c2_i32_293 arg11
  let c1_i32_294 : BitVec 32 := 1#32
  let v713 : BitVec 32 := Scalar.addi v712 c1_i32_294
  let c256_i32_296 : BitVec 32 := 256#32
  let v716 : BitVec 32 := Scalar.muli v713 c256_i32_296
  let v717 : BitVec 32 := v716
  let v724 : Index := Scalar.indexCast v717
  let c0_300 : Index := 0#32
  ![v724.toNat, 0]
def k0_off33 (k0_t1 : Fin k0_t1_loop.trips) (k0_t4 : Fin (k0_t4_loop k0_t1).trips) : Fin 2 → Nat :=
  let c2_i32_292 : BitVec 32 := 2#32
  let c0_i32_179 : BitVec 32 := 0#32
  let c1_i32_181 : BitVec 32 := 1#32
  let arg11 : BitVec 32 := Scf.iv c0_i32_179 c1_i32_181 k0_t4
  let v711 : BitVec 32 := Scalar.muli c2_i32_292 arg11
  let c256_i32_297 : BitVec 32 := 256#32
  let v718 : BitVec 32 := Scalar.muli v711 c256_i32_297
  let v719 : BitVec 32 := v718
  let v726 : Index := Scalar.indexCast v719
  let c64_301 : Index := 64#32
  ![v726.toNat, 64]
def k0_off34 (k0_t1 : Fin k0_t1_loop.trips) (k0_t4 : Fin (k0_t4_loop k0_t1).trips) : Fin 2 → Nat :=
  let c2_i32_293 : BitVec 32 := 2#32
  let c0_i32_179 : BitVec 32 := 0#32
  let c1_i32_181 : BitVec 32 := 1#32
  let arg11 : BitVec 32 := Scf.iv c0_i32_179 c1_i32_181 k0_t4
  let v712 : BitVec 32 := Scalar.muli c2_i32_293 arg11
  let c1_i32_294 : BitVec 32 := 1#32
  let v713 : BitVec 32 := Scalar.addi v712 c1_i32_294
  let c256_i32_298 : BitVec 32 := 256#32
  let v720 : BitVec 32 := Scalar.muli v713 c256_i32_298
  let v721 : BitVec 32 := v720
  let v728 : Index := Scalar.indexCast v721
  let c64_302 : Index := 64#32
  ![v728.toNat, 64]
def k0_off35 (k0_t1 : Fin k0_t1_loop.trips) (k0_t4 : Fin (k0_t4_loop k0_t1).trips) : Fin 3 → Nat :=
  let c2_i32_292 : BitVec 32 := 2#32
  let c0_i32_179 : BitVec 32 := 0#32
  let c1_i32_181 : BitVec 32 := 1#32
  let arg11 : BitVec 32 := Scf.iv c0_i32_179 c1_i32_181 k0_t4
  let v711 : BitVec 32 := Scalar.muli c2_i32_292 arg11
  let v928 : Index := Scalar.indexCast v711
  let c0_352 : Index := 0#32
  let c0_353 : Index := 0#32
  ![v928.toNat, 0, 0]
def k0_off36 (k0_t1 : Fin k0_t1_loop.trips) (k0_t4 : Fin (k0_t4_loop k0_t1).trips) : Fin 3 → Nat :=
  let c2_i32_293 : BitVec 32 := 2#32
  let c0_i32_179 : BitVec 32 := 0#32
  let c1_i32_181 : BitVec 32 := 1#32
  let arg11 : BitVec 32 := Scf.iv c0_i32_179 c1_i32_181 k0_t4
  let v712 : BitVec 32 := Scalar.muli c2_i32_293 arg11
  let c1_i32_294 : BitVec 32 := 1#32
  let v713 : BitVec 32 := Scalar.addi v712 c1_i32_294
  let v949 : Index := Scalar.indexCast v713
  let c0_363 : Index := 0#32
  let c0_364 : Index := 0#32
  ![v949.toNat, 0, 0]
def k0_off37 (k0_t1 : Fin k0_t1_loop.trips) (k0_t4 : Fin (k0_t4_loop k0_t1).trips) : Fin 3 → Nat :=
  let c2_i32_292 : BitVec 32 := 2#32
  let c0_i32_179 : BitVec 32 := 0#32
  let c1_i32_181 : BitVec 32 := 1#32
  let arg11 : BitVec 32 := Scf.iv c0_i32_179 c1_i32_181 k0_t4
  let v711 : BitVec 32 := Scalar.muli c2_i32_292 arg11
  let v970 : Index := Scalar.indexCast v711
  let c64_374 : Index := 64#32
  let c0_375 : Index := 0#32
  ![v970.toNat, 64, 0]
def k0_off38 (k0_t1 : Fin k0_t1_loop.trips) (k0_t4 : Fin (k0_t4_loop k0_t1).trips) : Fin 3 → Nat :=
  let c2_i32_293 : BitVec 32 := 2#32
  let c0_i32_179 : BitVec 32 := 0#32
  let c1_i32_181 : BitVec 32 := 1#32
  let arg11 : BitVec 32 := Scf.iv c0_i32_179 c1_i32_181 k0_t4
  let v712 : BitVec 32 := Scalar.muli c2_i32_293 arg11
  let c1_i32_294 : BitVec 32 := 1#32
  let v713 : BitVec 32 := Scalar.addi v712 c1_i32_294
  let v991 : Index := Scalar.indexCast v713
  let c64_385 : Index := 64#32
  let c0_386 : Index := 0#32
  ![v991.toNat, 64, 0]
@[reducible] def k0_t5_loop (k0_t1 : Fin k0_t1_loop.trips) : Scf.Loop 32 :=
  let c0_i32_179 : BitVec 32 := 0#32
  let c0_i32 : BitVec 32 := 0#32
  let c1_i32 : BitVec 32 := 1#32
  let arg10 : BitVec 32 := Scf.iv c0_i32 c1_i32 k0_t1
  let v387 : BitVec 32 := Scalar.subi arg10 c0_i32_179
  let c1_i32_180 : BitVec 32 := 1#32
  let v389 : BitVec 32 := Scalar.divsi v387 c1_i32_180
  let v390 : BitVec 32 := Scalar.muli v389 c1_i32_180
  let v391 : BitVec 32 := Scalar.addi c0_i32_179 v390
  let v388 : BitVec 32 := Scalar.addi c0_i32_179 v387
  let c1_i32_182 : BitVec 32 := 1#32
  ⟨v391, v388, c1_i32_182⟩
def k0_mult17 (k0_t1 : Fin k0_t1_loop.trips) (k0_t5 : Fin (k0_t5_loop k0_t1).trips) : BitVec 32 :=
  let c2_i32_292 : BitVec 32 := 2#32
  let c0_i32_179 : BitVec 32 := 0#32
  let c0_i32 : BitVec 32 := 0#32
  let c1_i32 : BitVec 32 := 1#32
  let arg10 : BitVec 32 := Scf.iv c0_i32 c1_i32 k0_t1
  let v387 : BitVec 32 := Scalar.subi arg10 c0_i32_179
  let c1_i32_180 : BitVec 32 := 1#32
  let v389 : BitVec 32 := Scalar.divsi v387 c1_i32_180
  let v390 : BitVec 32 := Scalar.muli v389 c1_i32_180
  let v391 : BitVec 32 := Scalar.addi c0_i32_179 v390
  let c1_i32_182 : BitVec 32 := 1#32
  let arg11 : BitVec 32 := Scf.iv v391 c1_i32_182 k0_t5
  let v711 : BitVec 32 := Scalar.muli c2_i32_292 arg11
  let c256_i32_295 : BitVec 32 := 256#32
  let v714 : BitVec 32 := Scalar.muli v711 c256_i32_295
  v714
def k0_mult18 (k0_t1 : Fin k0_t1_loop.trips) (k0_t5 : Fin (k0_t5_loop k0_t1).trips) : BitVec 32 :=
  let c2_i32_293 : BitVec 32 := 2#32
  let c0_i32_179 : BitVec 32 := 0#32
  let c0_i32 : BitVec 32 := 0#32
  let c1_i32 : BitVec 32 := 1#32
  let arg10 : BitVec 32 := Scf.iv c0_i32 c1_i32 k0_t1
  let v387 : BitVec 32 := Scalar.subi arg10 c0_i32_179
  let c1_i32_180 : BitVec 32 := 1#32
  let v389 : BitVec 32 := Scalar.divsi v387 c1_i32_180
  let v390 : BitVec 32 := Scalar.muli v389 c1_i32_180
  let v391 : BitVec 32 := Scalar.addi c0_i32_179 v390
  let c1_i32_182 : BitVec 32 := 1#32
  let arg11 : BitVec 32 := Scf.iv v391 c1_i32_182 k0_t5
  let v712 : BitVec 32 := Scalar.muli c2_i32_293 arg11
  let c1_i32_294 : BitVec 32 := 1#32
  let v713 : BitVec 32 := Scalar.addi v712 c1_i32_294
  let c256_i32_296 : BitVec 32 := 256#32
  let v716 : BitVec 32 := Scalar.muli v713 c256_i32_296
  v716
def k0_mult19 (k0_t1 : Fin k0_t1_loop.trips) (k0_t5 : Fin (k0_t5_loop k0_t1).trips) : BitVec 32 :=
  let c2_i32_292 : BitVec 32 := 2#32
  let c0_i32_179 : BitVec 32 := 0#32
  let c0_i32 : BitVec 32 := 0#32
  let c1_i32 : BitVec 32 := 1#32
  let arg10 : BitVec 32 := Scf.iv c0_i32 c1_i32 k0_t1
  let v387 : BitVec 32 := Scalar.subi arg10 c0_i32_179
  let c1_i32_180 : BitVec 32 := 1#32
  let v389 : BitVec 32 := Scalar.divsi v387 c1_i32_180
  let v390 : BitVec 32 := Scalar.muli v389 c1_i32_180
  let v391 : BitVec 32 := Scalar.addi c0_i32_179 v390
  let c1_i32_182 : BitVec 32 := 1#32
  let arg11 : BitVec 32 := Scf.iv v391 c1_i32_182 k0_t5
  let v711 : BitVec 32 := Scalar.muli c2_i32_292 arg11
  let c256_i32_297 : BitVec 32 := 256#32
  let v718 : BitVec 32 := Scalar.muli v711 c256_i32_297
  v718
def k0_mult20 (k0_t1 : Fin k0_t1_loop.trips) (k0_t5 : Fin (k0_t5_loop k0_t1).trips) : BitVec 32 :=
  let c2_i32_293 : BitVec 32 := 2#32
  let c0_i32_179 : BitVec 32 := 0#32
  let c0_i32 : BitVec 32 := 0#32
  let c1_i32 : BitVec 32 := 1#32
  let arg10 : BitVec 32 := Scf.iv c0_i32 c1_i32 k0_t1
  let v387 : BitVec 32 := Scalar.subi arg10 c0_i32_179
  let c1_i32_180 : BitVec 32 := 1#32
  let v389 : BitVec 32 := Scalar.divsi v387 c1_i32_180
  let v390 : BitVec 32 := Scalar.muli v389 c1_i32_180
  let v391 : BitVec 32 := Scalar.addi c0_i32_179 v390
  let c1_i32_182 : BitVec 32 := 1#32
  let arg11 : BitVec 32 := Scf.iv v391 c1_i32_182 k0_t5
  let v712 : BitVec 32 := Scalar.muli c2_i32_293 arg11
  let c1_i32_294 : BitVec 32 := 1#32
  let v713 : BitVec 32 := Scalar.addi v712 c1_i32_294
  let c256_i32_298 : BitVec 32 := 256#32
  let v720 : BitVec 32 := Scalar.muli v713 c256_i32_298
  v720
def k0_off39 (k0_t1 : Fin k0_t1_loop.trips) (k0_t5 : Fin (k0_t5_loop k0_t1).trips) : Fin 2 → Nat :=
  let c2_i32_292 : BitVec 32 := 2#32
  let c0_i32_179 : BitVec 32 := 0#32
  let c0_i32 : BitVec 32 := 0#32
  let c1_i32 : BitVec 32 := 1#32
  let arg10 : BitVec 32 := Scf.iv c0_i32 c1_i32 k0_t1
  let v387 : BitVec 32 := Scalar.subi arg10 c0_i32_179
  let c1_i32_180 : BitVec 32 := 1#32
  let v389 : BitVec 32 := Scalar.divsi v387 c1_i32_180
  let v390 : BitVec 32 := Scalar.muli v389 c1_i32_180
  let v391 : BitVec 32 := Scalar.addi c0_i32_179 v390
  let c1_i32_182 : BitVec 32 := 1#32
  let arg11 : BitVec 32 := Scf.iv v391 c1_i32_182 k0_t5
  let v711 : BitVec 32 := Scalar.muli c2_i32_292 arg11
  let c256_i32_295 : BitVec 32 := 256#32
  let v714 : BitVec 32 := Scalar.muli v711 c256_i32_295
  let v715 : BitVec 32 := v714
  let v722 : Index := Scalar.indexCast v715
  let c0_299 : Index := 0#32
  ![v722.toNat, 0]
def k0_off40 (k0_t1 : Fin k0_t1_loop.trips) (k0_t5 : Fin (k0_t5_loop k0_t1).trips) : Fin 2 → Nat :=
  let c2_i32_293 : BitVec 32 := 2#32
  let c0_i32_179 : BitVec 32 := 0#32
  let c0_i32 : BitVec 32 := 0#32
  let c1_i32 : BitVec 32 := 1#32
  let arg10 : BitVec 32 := Scf.iv c0_i32 c1_i32 k0_t1
  let v387 : BitVec 32 := Scalar.subi arg10 c0_i32_179
  let c1_i32_180 : BitVec 32 := 1#32
  let v389 : BitVec 32 := Scalar.divsi v387 c1_i32_180
  let v390 : BitVec 32 := Scalar.muli v389 c1_i32_180
  let v391 : BitVec 32 := Scalar.addi c0_i32_179 v390
  let c1_i32_182 : BitVec 32 := 1#32
  let arg11 : BitVec 32 := Scf.iv v391 c1_i32_182 k0_t5
  let v712 : BitVec 32 := Scalar.muli c2_i32_293 arg11
  let c1_i32_294 : BitVec 32 := 1#32
  let v713 : BitVec 32 := Scalar.addi v712 c1_i32_294
  let c256_i32_296 : BitVec 32 := 256#32
  let v716 : BitVec 32 := Scalar.muli v713 c256_i32_296
  let v717 : BitVec 32 := v716
  let v724 : Index := Scalar.indexCast v717
  let c0_300 : Index := 0#32
  ![v724.toNat, 0]
def k0_off41 (k0_t1 : Fin k0_t1_loop.trips) (k0_t5 : Fin (k0_t5_loop k0_t1).trips) : Fin 2 → Nat :=
  let c2_i32_292 : BitVec 32 := 2#32
  let c0_i32_179 : BitVec 32 := 0#32
  let c0_i32 : BitVec 32 := 0#32
  let c1_i32 : BitVec 32 := 1#32
  let arg10 : BitVec 32 := Scf.iv c0_i32 c1_i32 k0_t1
  let v387 : BitVec 32 := Scalar.subi arg10 c0_i32_179
  let c1_i32_180 : BitVec 32 := 1#32
  let v389 : BitVec 32 := Scalar.divsi v387 c1_i32_180
  let v390 : BitVec 32 := Scalar.muli v389 c1_i32_180
  let v391 : BitVec 32 := Scalar.addi c0_i32_179 v390
  let c1_i32_182 : BitVec 32 := 1#32
  let arg11 : BitVec 32 := Scf.iv v391 c1_i32_182 k0_t5
  let v711 : BitVec 32 := Scalar.muli c2_i32_292 arg11
  let c256_i32_297 : BitVec 32 := 256#32
  let v718 : BitVec 32 := Scalar.muli v711 c256_i32_297
  let v719 : BitVec 32 := v718
  let v726 : Index := Scalar.indexCast v719
  let c64_301 : Index := 64#32
  ![v726.toNat, 64]
def k0_off42 (k0_t1 : Fin k0_t1_loop.trips) (k0_t5 : Fin (k0_t5_loop k0_t1).trips) : Fin 2 → Nat :=
  let c2_i32_293 : BitVec 32 := 2#32
  let c0_i32_179 : BitVec 32 := 0#32
  let c0_i32 : BitVec 32 := 0#32
  let c1_i32 : BitVec 32 := 1#32
  let arg10 : BitVec 32 := Scf.iv c0_i32 c1_i32 k0_t1
  let v387 : BitVec 32 := Scalar.subi arg10 c0_i32_179
  let c1_i32_180 : BitVec 32 := 1#32
  let v389 : BitVec 32 := Scalar.divsi v387 c1_i32_180
  let v390 : BitVec 32 := Scalar.muli v389 c1_i32_180
  let v391 : BitVec 32 := Scalar.addi c0_i32_179 v390
  let c1_i32_182 : BitVec 32 := 1#32
  let arg11 : BitVec 32 := Scf.iv v391 c1_i32_182 k0_t5
  let v712 : BitVec 32 := Scalar.muli c2_i32_293 arg11
  let c1_i32_294 : BitVec 32 := 1#32
  let v713 : BitVec 32 := Scalar.addi v712 c1_i32_294
  let c256_i32_298 : BitVec 32 := 256#32
  let v720 : BitVec 32 := Scalar.muli v713 c256_i32_298
  let v721 : BitVec 32 := v720
  let v728 : Index := Scalar.indexCast v721
  let c64_302 : Index := 64#32
  ![v728.toNat, 64]
def k0_off43 (k0_t1 : Fin k0_t1_loop.trips) (k0_t5 : Fin (k0_t5_loop k0_t1).trips) : Fin 3 → Nat :=
  let c2_i32_292 : BitVec 32 := 2#32
  let c0_i32_179 : BitVec 32 := 0#32
  let c0_i32 : BitVec 32 := 0#32
  let c1_i32 : BitVec 32 := 1#32
  let arg10 : BitVec 32 := Scf.iv c0_i32 c1_i32 k0_t1
  let v387 : BitVec 32 := Scalar.subi arg10 c0_i32_179
  let c1_i32_180 : BitVec 32 := 1#32
  let v389 : BitVec 32 := Scalar.divsi v387 c1_i32_180
  let v390 : BitVec 32 := Scalar.muli v389 c1_i32_180
  let v391 : BitVec 32 := Scalar.addi c0_i32_179 v390
  let c1_i32_182 : BitVec 32 := 1#32
  let arg11 : BitVec 32 := Scf.iv v391 c1_i32_182 k0_t5
  let v711 : BitVec 32 := Scalar.muli c2_i32_292 arg11
  let v928 : Index := Scalar.indexCast v711
  let c0_352 : Index := 0#32
  let c0_353 : Index := 0#32
  ![v928.toNat, 0, 0]
def k0_off44 (k0_t1 : Fin k0_t1_loop.trips) (k0_t5 : Fin (k0_t5_loop k0_t1).trips) : Fin 3 → Nat :=
  let c2_i32_293 : BitVec 32 := 2#32
  let c0_i32_179 : BitVec 32 := 0#32
  let c0_i32 : BitVec 32 := 0#32
  let c1_i32 : BitVec 32 := 1#32
  let arg10 : BitVec 32 := Scf.iv c0_i32 c1_i32 k0_t1
  let v387 : BitVec 32 := Scalar.subi arg10 c0_i32_179
  let c1_i32_180 : BitVec 32 := 1#32
  let v389 : BitVec 32 := Scalar.divsi v387 c1_i32_180
  let v390 : BitVec 32 := Scalar.muli v389 c1_i32_180
  let v391 : BitVec 32 := Scalar.addi c0_i32_179 v390
  let c1_i32_182 : BitVec 32 := 1#32
  let arg11 : BitVec 32 := Scf.iv v391 c1_i32_182 k0_t5
  let v712 : BitVec 32 := Scalar.muli c2_i32_293 arg11
  let c1_i32_294 : BitVec 32 := 1#32
  let v713 : BitVec 32 := Scalar.addi v712 c1_i32_294
  let v949 : Index := Scalar.indexCast v713
  let c0_363 : Index := 0#32
  let c0_364 : Index := 0#32
  ![v949.toNat, 0, 0]
def k0_off45 (k0_t1 : Fin k0_t1_loop.trips) (k0_t5 : Fin (k0_t5_loop k0_t1).trips) : Fin 3 → Nat :=
  let c2_i32_292 : BitVec 32 := 2#32
  let c0_i32_179 : BitVec 32 := 0#32
  let c0_i32 : BitVec 32 := 0#32
  let c1_i32 : BitVec 32 := 1#32
  let arg10 : BitVec 32 := Scf.iv c0_i32 c1_i32 k0_t1
  let v387 : BitVec 32 := Scalar.subi arg10 c0_i32_179
  let c1_i32_180 : BitVec 32 := 1#32
  let v389 : BitVec 32 := Scalar.divsi v387 c1_i32_180
  let v390 : BitVec 32 := Scalar.muli v389 c1_i32_180
  let v391 : BitVec 32 := Scalar.addi c0_i32_179 v390
  let c1_i32_182 : BitVec 32 := 1#32
  let arg11 : BitVec 32 := Scf.iv v391 c1_i32_182 k0_t5
  let v711 : BitVec 32 := Scalar.muli c2_i32_292 arg11
  let v970 : Index := Scalar.indexCast v711
  let c64_374 : Index := 64#32
  let c0_375 : Index := 0#32
  ![v970.toNat, 64, 0]
def k0_off46 (k0_t1 : Fin k0_t1_loop.trips) (k0_t5 : Fin (k0_t5_loop k0_t1).trips) : Fin 3 → Nat :=
  let c2_i32_293 : BitVec 32 := 2#32
  let c0_i32_179 : BitVec 32 := 0#32
  let c0_i32 : BitVec 32 := 0#32
  let c1_i32 : BitVec 32 := 1#32
  let arg10 : BitVec 32 := Scf.iv c0_i32 c1_i32 k0_t1
  let v387 : BitVec 32 := Scalar.subi arg10 c0_i32_179
  let c1_i32_180 : BitVec 32 := 1#32
  let v389 : BitVec 32 := Scalar.divsi v387 c1_i32_180
  let v390 : BitVec 32 := Scalar.muli v389 c1_i32_180
  let v391 : BitVec 32 := Scalar.addi c0_i32_179 v390
  let c1_i32_182 : BitVec 32 := 1#32
  let arg11 : BitVec 32 := Scf.iv v391 c1_i32_182 k0_t5
  let v712 : BitVec 32 := Scalar.muli c2_i32_293 arg11
  let c1_i32_294 : BitVec 32 := 1#32
  let v713 : BitVec 32 := Scalar.addi v712 c1_i32_294
  let v991 : Index := Scalar.indexCast v713
  let c64_385 : Index := 64#32
  let c0_386 : Index := 0#32
  ![v991.toNat, 64, 0]
def k0_mult21 (k0_t1 : Fin k0_t1_loop.trips) : BitVec 32 :=
  let c2_i32_163 : BitVec 32 := 2#32
  let c0_i32 : BitVec 32 := 0#32
  let c1_i32 : BitVec 32 := 1#32
  let arg10 : BitVec 32 := Scf.iv c0_i32 c1_i32 k0_t1
  let v347 : BitVec 32 := Scalar.muli c2_i32_163 arg10
  let c1_i32_164 : BitVec 32 := 1#32
  let v348 : BitVec 32 := Scalar.addi v347 c1_i32_164
  let c1_i32_183 : BitVec 32 := 1#32
  let v394 : BitVec 32 := Scalar.subi v348 c1_i32_183
  let c256_i32_184 : BitVec 32 := 256#32
  let v395 : BitVec 32 := Scalar.muli v394 c256_i32_184
  v395
def k0_mult22 (k0_t1 : Fin k0_t1_loop.trips) : BitVec 32 :=
  let c2_i32_163 : BitVec 32 := 2#32
  let c0_i32 : BitVec 32 := 0#32
  let c1_i32 : BitVec 32 := 1#32
  let arg10 : BitVec 32 := Scf.iv c0_i32 c1_i32 k0_t1
  let v347 : BitVec 32 := Scalar.muli c2_i32_163 arg10
  let c1_i32_164 : BitVec 32 := 1#32
  let v348 : BitVec 32 := Scalar.addi v347 c1_i32_164
  let c256_i32_185 : BitVec 32 := 256#32
  let v397 : BitVec 32 := Scalar.muli v348 c256_i32_185
  v397
def k0_mult23 (k0_t1 : Fin k0_t1_loop.trips) : BitVec 32 :=
  let c2_i32_163 : BitVec 32 := 2#32
  let c0_i32 : BitVec 32 := 0#32
  let c1_i32 : BitVec 32 := 1#32
  let arg10 : BitVec 32 := Scf.iv c0_i32 c1_i32 k0_t1
  let v347 : BitVec 32 := Scalar.muli c2_i32_163 arg10
  let c1_i32_164 : BitVec 32 := 1#32
  let v348 : BitVec 32 := Scalar.addi v347 c1_i32_164
  let c1_i32_183 : BitVec 32 := 1#32
  let v394 : BitVec 32 := Scalar.subi v348 c1_i32_183
  let c256_i32_186 : BitVec 32 := 256#32
  let v399 : BitVec 32 := Scalar.muli v394 c256_i32_186
  v399
def k0_mult24 (k0_t1 : Fin k0_t1_loop.trips) : BitVec 32 :=
  let c2_i32_163 : BitVec 32 := 2#32
  let c0_i32 : BitVec 32 := 0#32
  let c1_i32 : BitVec 32 := 1#32
  let arg10 : BitVec 32 := Scf.iv c0_i32 c1_i32 k0_t1
  let v347 : BitVec 32 := Scalar.muli c2_i32_163 arg10
  let c1_i32_164 : BitVec 32 := 1#32
  let v348 : BitVec 32 := Scalar.addi v347 c1_i32_164
  let c256_i32_187 : BitVec 32 := 256#32
  let v401 : BitVec 32 := Scalar.muli v348 c256_i32_187
  v401
def k0_off47 (k0_t1 : Fin k0_t1_loop.trips) : Fin 2 → Nat :=
  let c2_i32_163 : BitVec 32 := 2#32
  let c0_i32 : BitVec 32 := 0#32
  let c1_i32 : BitVec 32 := 1#32
  let arg10 : BitVec 32 := Scf.iv c0_i32 c1_i32 k0_t1
  let v347 : BitVec 32 := Scalar.muli c2_i32_163 arg10
  let c1_i32_164 : BitVec 32 := 1#32
  let v348 : BitVec 32 := Scalar.addi v347 c1_i32_164
  let c1_i32_183 : BitVec 32 := 1#32
  let v394 : BitVec 32 := Scalar.subi v348 c1_i32_183
  let c256_i32_184 : BitVec 32 := 256#32
  let v395 : BitVec 32 := Scalar.muli v394 c256_i32_184
  let v396 : BitVec 32 := v395
  let v403 : Index := Scalar.indexCast v396
  let c0_188 : Index := 0#32
  ![v403.toNat, 0]
def k0_off48 (k0_t1 : Fin k0_t1_loop.trips) : Fin 2 → Nat :=
  let c2_i32_163 : BitVec 32 := 2#32
  let c0_i32 : BitVec 32 := 0#32
  let c1_i32 : BitVec 32 := 1#32
  let arg10 : BitVec 32 := Scf.iv c0_i32 c1_i32 k0_t1
  let v347 : BitVec 32 := Scalar.muli c2_i32_163 arg10
  let c1_i32_164 : BitVec 32 := 1#32
  let v348 : BitVec 32 := Scalar.addi v347 c1_i32_164
  let c1_i32_183 : BitVec 32 := 1#32
  let v394 : BitVec 32 := Scalar.subi v348 c1_i32_183
  let c256_i32_186 : BitVec 32 := 256#32
  let v399 : BitVec 32 := Scalar.muli v394 c256_i32_186
  let v400 : BitVec 32 := v399
  let v407 : Index := Scalar.indexCast v400
  let c64_190 : Index := 64#32
  ![v407.toNat, 64]
def k0_off49 (k0_t1 : Fin k0_t1_loop.trips) : Fin 3 → Nat :=
  let c2_i32_163 : BitVec 32 := 2#32
  let c0_i32 : BitVec 32 := 0#32
  let c1_i32 : BitVec 32 := 1#32
  let arg10 : BitVec 32 := Scf.iv c0_i32 c1_i32 k0_t1
  let v347 : BitVec 32 := Scalar.muli c2_i32_163 arg10
  let c1_i32_164 : BitVec 32 := 1#32
  let v348 : BitVec 32 := Scalar.addi v347 c1_i32_164
  let c1_i32_183 : BitVec 32 := 1#32
  let v394 : BitVec 32 := Scalar.subi v348 c1_i32_183
  let v615 : Index := Scalar.indexCast v394
  let c0_243 : Index := 0#32
  let c0_244 : Index := 0#32
  ![v615.toNat, 0, 0]
def k0_off50 (k0_t1 : Fin k0_t1_loop.trips) : Fin 3 → Nat :=
  let c2_i32_163 : BitVec 32 := 2#32
  let c0_i32 : BitVec 32 := 0#32
  let c1_i32 : BitVec 32 := 1#32
  let arg10 : BitVec 32 := Scf.iv c0_i32 c1_i32 k0_t1
  let v347 : BitVec 32 := Scalar.muli c2_i32_163 arg10
  let c1_i32_164 : BitVec 32 := 1#32
  let v348 : BitVec 32 := Scalar.addi v347 c1_i32_164
  let v636 : Index := Scalar.indexCast v348
  let c0_254 : Index := 0#32
  let c0_255 : Index := 0#32
  ![v636.toNat, 0, 0]
def k0_off51 (k0_t1 : Fin k0_t1_loop.trips) : Fin 3 → Nat :=
  let c2_i32_163 : BitVec 32 := 2#32
  let c0_i32 : BitVec 32 := 0#32
  let c1_i32 : BitVec 32 := 1#32
  let arg10 : BitVec 32 := Scf.iv c0_i32 c1_i32 k0_t1
  let v347 : BitVec 32 := Scalar.muli c2_i32_163 arg10
  let c1_i32_164 : BitVec 32 := 1#32
  let v348 : BitVec 32 := Scalar.addi v347 c1_i32_164
  let c1_i32_183 : BitVec 32 := 1#32
  let v394 : BitVec 32 := Scalar.subi v348 c1_i32_183
  let v657 : Index := Scalar.indexCast v394
  let c64_265 : Index := 64#32
  let c0_266 : Index := 0#32
  ![v657.toNat, 64, 0]
def k0_off52 (k0_t1 : Fin k0_t1_loop.trips) : Fin 3 → Nat :=
  let c2_i32_163 : BitVec 32 := 2#32
  let c0_i32 : BitVec 32 := 0#32
  let c1_i32 : BitVec 32 := 1#32
  let arg10 : BitVec 32 := Scf.iv c0_i32 c1_i32 k0_t1
  let v347 : BitVec 32 := Scalar.muli c2_i32_163 arg10
  let c1_i32_164 : BitVec 32 := 1#32
  let v348 : BitVec 32 := Scalar.addi v347 c1_i32_164
  let v678 : Index := Scalar.indexCast v348
  let c64_276 : Index := 64#32
  let c0_277 : Index := 0#32
  ![v678.toNat, 64, 0]
def k0_off53 (k0_t1 : Fin k0_t1_loop.trips) : Fin 3 → Nat :=
  let c0_287 : Index := 0#32
  let c2_i32_163 : BitVec 32 := 2#32
  let c0_i32 : BitVec 32 := 0#32
  let c1_i32 : BitVec 32 := 1#32
  let arg10 : BitVec 32 := Scf.iv c0_i32 c1_i32 k0_t1
  let v347 : BitVec 32 := Scalar.muli c2_i32_163 arg10
  let c1_i32_164 : BitVec 32 := 1#32
  let v348 : BitVec 32 := Scalar.addi v347 c1_i32_164
  let c256_i32_165 : BitVec 32 := 256#32
  let v349 : BitVec 32 := Scalar.muli v348 c256_i32_165
  let v350 : BitVec 32 := v349
  let v700 : Index := Scalar.indexCast v350
  let c0_288 : Index := 0#32
  ![0, v700.toNat, 0]
def k0_off54 (k0_t1 : Fin k0_t1_loop.trips) : Fin 3 → Nat :=
  let c0_290 : Index := 0#32
  let c2_i32_163 : BitVec 32 := 2#32
  let c0_i32 : BitVec 32 := 0#32
  let c1_i32 : BitVec 32 := 1#32
  let arg10 : BitVec 32 := Scf.iv c0_i32 c1_i32 k0_t1
  let v347 : BitVec 32 := Scalar.muli c2_i32_163 arg10
  let c1_i32_164 : BitVec 32 := 1#32
  let v348 : BitVec 32 := Scalar.addi v347 c1_i32_164
  let c256_i32_165 : BitVec 32 := 256#32
  let v349 : BitVec 32 := Scalar.muli v348 c256_i32_165
  let v350 : BitVec 32 := v349
  let v707 : Index := Scalar.indexCast v350
  let c64_291 : Index := 64#32
  ![0, v707.toNat, 64]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SbGradIdeal.lean ====
abbrev S4096x3072 : Shape := ⟨2, ![4096, 3072]⟩
abbrev S4096x1024 : Shape := ⟨2, ![4096, 1024]⟩
abbrev S2x2048x16x64 : Shape := ⟨4, ![2, 2048, 16, 64]⟩
abbrev S2x16x2048x2048 : Shape := ⟨4, ![2, 16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x16x64x2048 : Shape := ⟨4, ![2, 16, 64, 2048]⟩
abbrev S2x16x2048x64 : Shape := ⟨4, ![2, 16, 2048, 64]⟩
abbrev S1x4096x1024 : Shape := ⟨3, ![1, 4096, 1024]⟩
abbrev S3x4096x1024 : Shape := ⟨3, ![3, 4096, 1024]⟩

abbrev nBuf : Space → Nat
  | .hbm => 182
  | .vmem => 0
  | .smem => 0
  | _ => 0

abbrev hbmTy0_0 (i : Nat) : BufTy := match i % 128 with
  | 0 => ⟨S4096x3072, .bf16⟩
  | 1 => ⟨S4096x1024, .bf16⟩
  | 2 => ⟨S4096x1024, .bf16⟩
  | 3 => ⟨S4096x1024, .f32⟩
  | 4 => ⟨S2x2048x16x64, .f32⟩
  | 5 => ⟨S4096x1024, .bf16⟩
  | 6 => ⟨S4096x1024, .f32⟩
  | 7 => ⟨S2x2048x16x64, .f32⟩
  | 8 => ⟨S4096x1024, .bf16⟩
  | 9 => ⟨S4096x1024, .f32⟩
  | 10 => ⟨S2x2048x16x64, .f32⟩
  | 11 => ⟨S2x16x2048x2048, .f32⟩
  | 12 => ⟨S_, .f32⟩
  | 13 => ⟨S2x16x2048x2048, .f32⟩
  | 14 => ⟨S2x16x2048x2048, .f32⟩
  | 15 => ⟨S2048, .i32⟩
  | 16 => ⟨S1x2048, .i32⟩
  | 17 => ⟨S2048, .i32⟩
  | 18 => ⟨S2048x1, .i32⟩
  | 19 => ⟨S2048x2048, .i32⟩
  | 20 => ⟨S2048x2048, .i32⟩
  | 21 => ⟨S2048x2048, .i1⟩
  | 22 => ⟨S2x16x2048x2048, .f32⟩
  | 23 => ⟨S_, .f32⟩
  | 24 => ⟨S2x16x2048x2048, .f32⟩
  | 25 => ⟨S2x16x2048x2048, .f32⟩
  | 26 => ⟨S2x16x2048x2048, .f32⟩
  | 27 => ⟨S2x16x2048x2048, .f32⟩
  | 28 => ⟨S2x16x2048x2048, .i1⟩
  | 29 => ⟨S2x16x2048x2048, .f32⟩
  | 30 => ⟨S2x16x2048x2048, .f32⟩
  | 31 => ⟨S2x16x2048x2048, .f32⟩
  | 32 => ⟨S2x16x2048x2048, .f32⟩
  | 33 => ⟨S2x16x2048x2048, .f32⟩
  | 34 => ⟨S2x16x2048x2048, .f32⟩
  | 35 => ⟨S2x16x2048x2048, .f32⟩
  | 36 => ⟨S2x16x2048x2048, .f32⟩
  | 37 => ⟨S_, .f32⟩
  | 38 => ⟨S2x16x2048x2048, .f32⟩
  | 39 => ⟨S2x16x2048x2048, .i1⟩
  | 40 => ⟨S_, .f32⟩
  | 41 => ⟨S2x16x2048x2048, .f32⟩
  | 42 => ⟨S2x16x2048x2048, .f32⟩
  | 43 => ⟨S_, .f32⟩
  | 44 => ⟨S2x16x2048x2048, .f32⟩
  | 45 => ⟨S2x16x2048x2048, .i1⟩
  | 46 => ⟨S_, .f32⟩
  | 47 => ⟨S2x16x2048x2048, .f32⟩
  | 48 => ⟨S2x16x2048x2048, .f32⟩
  | 49 => ⟨S2x16x2048x2048, .f32⟩
  | 50 => ⟨S2x16x2048x2048, .f32⟩
  | 51 => ⟨S_, .f32⟩
  | 52 => ⟨S_, .f32⟩
  | 53 => ⟨S_, .i1⟩
  | 54 => ⟨S_, .f32⟩
  | 55 => ⟨S_, .f32⟩
  | 56 => ⟨S_, .f32⟩
  | 57 => ⟨S_, .f32⟩
  | 58 => ⟨S2x16x2048x2048, .f32⟩
  | 59 => ⟨S2x16x2048x2048, .i1⟩
  | 60 => ⟨S_, .f32⟩
  | 61 => ⟨S2x16x2048x2048, .f32⟩
  | 62 => ⟨S2x16x2048x2048, .f32⟩
  | 63 => ⟨S2x16x2048x2048, .f32⟩
  | 64 => ⟨S2x16x2048x2048, .f32⟩
  | 65 => ⟨S2x16x2048x2048, .f32⟩
  | 66 => ⟨S_, .f32⟩
  | 67 => ⟨S2x16x2048x2048, .f32⟩
  | 68 => ⟨S2x16x2048x2048, .f32⟩
  | 69 => ⟨S2x16x2048x2048, .f32⟩
  | 70 => ⟨S_, .f32⟩
  | 71 => ⟨S_, .f32⟩
  | 72 => ⟨S2x16x2048x2048, .i1⟩
  | 73 => ⟨S2x16x2048x2048, .f32⟩
  | 74 => ⟨S2x16x2048x2048, .f32⟩
  | 75 => ⟨S_, .f32⟩
  | 76 => ⟨S2x16x2048x2048, .f32⟩
  | 77 => ⟨S2x16x2048x2048, .f32⟩
  | 78 => ⟨S2x16x2048x2048, .f32⟩
  | 79 => ⟨S_, .f32⟩
  | 80 => ⟨S2x16x2048x2048, .f32⟩
  | 81 => ⟨S2x16x2048x2048, .f32⟩
  | 82 => ⟨S2x16x2048x2048, .f32⟩
  | 83 => ⟨S2x16x2048x2048, .f32⟩
  | 84 => ⟨S2x16x2048x2048, .i1⟩
  | 85 => ⟨S2x16x2048x2048, .f32⟩
  | 86 => ⟨S2x16x2048x2048, .f32⟩
  | 87 => ⟨S2x16x2048x2048, .f32⟩
  | 88 => ⟨S2x16x2048x2048, .f32⟩
  | 89 => ⟨S2x16x2048x2048, .f32⟩
  | 90 => ⟨S2x16x2048x2048, .f32⟩
  | 91 => ⟨S2x16x2048x2048, .f32⟩
  | 92 => ⟨S2x16x2048x2048, .f32⟩
  | 93 => ⟨S_, .f32⟩
  | 94 => ⟨S2x16x2048x2048, .f32⟩
  | 95 => ⟨S2x16x2048x2048, .i1⟩
  | 96 => ⟨S_, .f32⟩
  | 97 => ⟨S2x16x2048x2048, .f32⟩
  | 98 => ⟨S2x16x2048x2048, .f32⟩
  | 99 => ⟨S_, .f32⟩
  | 100 => ⟨S2x16x2048x2048, .f32⟩
  | 101 => ⟨S2x16x2048x2048, .i1⟩
  | 102 => ⟨S_, .f32⟩
  | 103 => ⟨S2x16x2048x2048, .f32⟩
  | 104 => ⟨S2x16x2048x2048, .f32⟩
  | 105 => ⟨S2x16x2048x2048, .f32⟩
  | 106 => ⟨S2x16x2048x2048, .f32⟩
  | 107 => ⟨S_, .f32⟩
  | 108 => ⟨S_, .f32⟩
  | 109 => ⟨S_, .i1⟩
  | 110 => ⟨S_, .f32⟩
  | 111 => ⟨S_, .f32⟩
  | 112 => ⟨S_, .f32⟩
  | 113 => ⟨S_, .f32⟩
  | 114 => ⟨S2x16x2048x2048, .f32⟩
  | 115 => ⟨S2x16x2048x2048, .i1⟩
  | 116 => ⟨S_, .f32⟩
  | 117 => ⟨S2x16x2048x2048, .f32⟩
  | 118 => ⟨S2x16x2048x2048, .f32⟩
  | 119 => ⟨S2x16x2048x2048, .f32⟩
  | 120 => ⟨S2x16x2048x2048, .f32⟩
  | 121 => ⟨S2x16x2048x2048, .f32⟩
  | 122 => ⟨S_, .f32⟩
  | 123 => ⟨S2x16x2048x2048, .f32⟩
  | 124 => ⟨S2x16x2048x2048, .f32⟩
  | 125 => ⟨S2x16x2048x2048, .f32⟩
  | 126 => ⟨S_, .f32⟩
  | 127 => ⟨S_, .f32⟩
  | _ => ⟨S4096x3072, .bf16⟩

abbrev hbmTy0_1 (i : Nat) : BufTy := match i % 128 with
  | 0 => ⟨S2x16x2048x2048, .i1⟩
  | 1 => ⟨S2x16x2048x2048, .f32⟩
  | 2 => ⟨S2x16x2048x2048, .f32⟩
  | 3 => ⟨S_, .f32⟩
  | 4 => ⟨S2x16x2048x2048, .f32⟩
  | 5 => ⟨S_, .f32⟩
  | 6 => ⟨S_, .f32⟩
  | 7 => ⟨S2x16x2048x2048, .f32⟩
  | 8 => ⟨S2x16x2048x2048, .f32⟩
  | 9 => ⟨S2x16x2048x2048, .f32⟩
  | 10 => ⟨S2x16x2048x2048, .f32⟩
  | 11 => ⟨S2x16x64x2048, .f32⟩
  | 12 => ⟨S2x2048x16x64, .f32⟩
  | 13 => ⟨S4096x1024, .f32⟩
  | 14 => ⟨S2x2048x16x64, .f32⟩
  | 15 => ⟨S2x16x64x2048, .f32⟩
  | 16 => ⟨S2x16x2048x2048, .f32⟩
  | 17 => ⟨S2x16x64x2048, .f32⟩
  | 18 => ⟨S2x2048x16x64, .f32⟩
  | 19 => ⟨S2x16x2048x2048, .f32⟩
  | 20 => ⟨S2x16x2048x2048, .f32⟩
  | 21 => ⟨S_, .f32⟩
  | 22 => ⟨S_, .f32⟩
  | 23 => ⟨S2x16x2048x2048, .f32⟩
  | 24 => ⟨S2x16x2048x2048, .f32⟩
  | 25 => ⟨S_, .f32⟩
  | 26 => ⟨S2x16x2048x2048, .f32⟩
  | 27 => ⟨S2x16x2048x2048, .f32⟩
  | 28 => ⟨S2x16x2048x2048, .f32⟩
  | 29 => ⟨S2x16x2048x2048, .f32⟩
  | 30 => ⟨S2x16x2048x2048, .f32⟩
  | 31 => ⟨S2x16x2048x2048, .f32⟩
  | 32 => ⟨S_, .f32⟩
  | 33 => ⟨S2x16x2048x2048, .f32⟩
  | 34 => ⟨S2x16x2048x2048, .f32⟩
  | 35 => ⟨S2x16x2048x2048, .f32⟩
  | 36 => ⟨S2x16x2048x2048, .f32⟩
  | 37 => ⟨S2x16x2048x2048, .f32⟩
  | 38 => ⟨S2x16x2048x2048, .f32⟩
  | 39 => ⟨S_, .f32⟩
  | 40 => ⟨S2x16x2048x2048, .f32⟩
  | 41 => ⟨S2x16x2048x2048, .f32⟩
  | 42 => ⟨S2x16x2048x64, .f32⟩
  | 43 => ⟨S2x2048x16x64, .f32⟩
  | 44 => ⟨S2x16x2048x64, .f32⟩
  | 45 => ⟨S2x2048x16x64, .f32⟩
  | 46 => ⟨S4096x1024, .f32⟩
  | 47 => ⟨S4096x1024, .f32⟩
  | 48 => ⟨S4096x1024, .f32⟩
  | 49 => ⟨S1x4096x1024, .f32⟩
  | 50 => ⟨S1x4096x1024, .f32⟩
  | 51 => ⟨S1x4096x1024, .f32⟩
  | 52 => ⟨S3x4096x1024, .f32⟩
  | 53 => ⟨S3x4096x1024, .bf16⟩
  | _ => ⟨S4096x3072, .bf16⟩

abbrev hbmTy (i : Nat) : BufTy := match i / 128 with
  | 0 => hbmTy0_0 i
  | 1 => hbmTy0_1 i
  | _ => ⟨S4096x3072, .bf16⟩

abbrev bufTy : (tb : Table) → Fin (tcTables nBuf tb) → BufTy
  | .hbm, ⟨i, _⟩ => hbmTy i
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1_0 : Ref sig .tc := ⟨.hbm, 36, rfl⟩
abbrev main_call0_call0_cst_0 : Ref sig .tc := ⟨.hbm, 37, rfl⟩
abbrev main_call0_call0_v13 : Ref sig .tc := ⟨.hbm, 38, rfl⟩
abbrev main_call0_call0_v14 : Ref sig .tc := ⟨.hbm, 39, rfl⟩
abbrev main_call0_call0_cst_1 : Ref sig .tc := ⟨.hbm, 40, rfl⟩
abbrev main_call0_call0_v15 : Ref sig .tc := ⟨.hbm, 41, rfl⟩
abbrev main_call0_call0_v16 : Ref sig .tc := ⟨.hbm, 42, rfl⟩
abbrev main_call0_call0_cst_2 : Ref sig .tc := ⟨.hbm, 43, rfl⟩
abbrev main_call0_call0_v17 : Ref sig .tc := ⟨.hbm, 44, rfl⟩
abbrev main_call0_call0_v18 : Ref sig .tc := ⟨.hbm, 45, rfl⟩
abbrev main_call0_call0_cst_3 : Ref sig .tc := ⟨.hbm, 46, rfl⟩
abbrev main_call0_call0_v19 : Ref sig .tc := ⟨.hbm, 47, rfl⟩
abbrev main_call0_call0_v20 : Ref sig .tc := ⟨.hbm, 48, rfl⟩
abbrev main_call0_call0_v21 : Ref sig .tc := ⟨.hbm, 49, rfl⟩
abbrev main_v19_1 : Ref sig .tc := ⟨.hbm, 50, rfl⟩
abbrev main_call0_call0_cst_4 : Ref sig .tc := ⟨.hbm, 51, rfl⟩
abbrev main_call0_call0_cst_5 : Ref sig .tc := ⟨.hbm, 52, rfl⟩
abbrev main_call0_call0_v23 : Ref sig .tc := ⟨.hbm, 53, rfl⟩
abbrev main_call0_call0_cst_6 : Ref sig .tc := ⟨.hbm, 54, rfl⟩
abbrev main_call0_call0_cst_7 : Ref sig .tc := ⟨.hbm, 55, rfl⟩
abbrev main_call0_call0_v24 : Ref sig .tc := ⟨.hbm, 56, rfl⟩
abbrev main_call0_call0_cst_8 : Ref sig .tc := ⟨.hbm, 57, rfl⟩
abbrev main_call0_call0_v25 : Ref sig .tc := ⟨.hbm, 58, rfl⟩
abbrev main_call0_call0_v26 : Ref sig .tc := ⟨.hbm, 59, rfl⟩
abbrev main_call0_call0_cst_9 : Ref sig .tc := ⟨.hbm, 60, rfl⟩
abbrev main_call0_call0_v27 : Ref sig .tc := ⟨.hbm, 61, rfl⟩
abbrev main_call0_call0_v28 : Ref sig .tc := ⟨.hbm, 62, rfl⟩
abbrev main_call0_call0_v29 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_cst_10 : Ref sig .tc := ⟨.hbm, 66, rfl⟩
abbrev main_call0_call0_v32 : Ref sig .tc := ⟨.hbm, 67, rfl⟩
abbrev main_v19_2 : Ref sig .tc := ⟨.hbm, 68, rfl⟩
abbrev main_v19_0 : Ref sig .tc := ⟨.hbm, 69, rfl⟩
abbrev main_cst_0 : Ref sig .tc := ⟨.hbm, 70, rfl⟩
abbrev main_call1_v0 : Ref sig .tc := ⟨.hbm, 71, rfl⟩
abbrev main_v20_1 : Ref sig .tc := ⟨.hbm, 72, rfl⟩
abbrev main_call1_v2 : Ref sig .tc := ⟨.hbm, 73, rfl⟩
abbrev main_v20_0 : Ref sig .tc := ⟨.hbm, 74, rfl⟩
abbrev main_call1_cst : Ref sig .tc := ⟨.hbm, 75, rfl⟩
abbrev main_v20_2 : Ref sig .tc := ⟨.hbm, 76, rfl⟩
abbrev main_v21 : Ref sig .tc := ⟨.hbm, 77, rfl⟩
abbrev main_call2_v0 : Ref sig .tc := ⟨.hbm, 78, rfl⟩
abbrev main_call2_call0_cst : Ref sig .tc := ⟨.hbm, 79, rfl⟩
abbrev main_call2_call0_v0 : Ref sig .tc := ⟨.hbm, 80, rfl⟩
abbrev main_call2_call0_v1 : Ref sig .tc := ⟨.hbm, 81, rfl⟩
abbrev main_call2_call0_v2 : Ref sig .tc := ⟨.hbm, 82, rfl⟩
abbrev main_call2_call0_v3 : Ref sig .tc := ⟨.hbm, 83, rfl⟩
abbrev main_call2_call0_v4 : Ref sig .tc := ⟨.hbm, 84, rfl⟩
abbrev main_call2_call0_v5 : Ref sig .tc := ⟨.hbm, 85, rfl⟩
abbrev main_call2_call0_v6 : Ref sig .tc := ⟨.hbm, 86, rfl⟩
abbrev main_call2_call0_v7 : Ref sig .tc := ⟨.hbm, 87, rfl⟩
abbrev main_call2_call0_v8 : Ref sig .tc := ⟨.hbm, 88, rfl⟩
abbrev main_call2_call0_v9 : Ref sig .tc := ⟨.hbm, 89, rfl⟩
abbrev main_call2_call0_v10 : Ref sig .tc := ⟨.hbm, 90, rfl⟩
abbrev main_call2_call0_v11 : Ref sig .tc := ⟨.hbm, 91, rfl⟩
abbrev main_call2_v1_0 : Ref sig .tc := ⟨.hbm, 92, rfl⟩
abbrev main_call2_call0_cst_0 : Ref sig .tc := ⟨.hbm, 93, rfl⟩
abbrev main_call2_call0_v13 : Ref sig .tc := ⟨.hbm, 94, rfl⟩
abbrev main_call2_call0_v14 : Ref sig .tc := ⟨.hbm, 95, rfl⟩
abbrev main_call2_call0_cst_1 : Ref sig .tc := ⟨.hbm, 96, rfl⟩
abbrev main_call2_call0_v15 : Ref sig .tc := ⟨.hbm, 97, rfl⟩
abbrev main_call2_call0_v16 : Ref sig .tc := ⟨.hbm, 98, rfl⟩
abbrev main_call2_call0_cst_2 : Ref sig .tc := ⟨.hbm, 99, rfl⟩
abbrev main_call2_call0_v17 : Ref sig .tc := ⟨.hbm, 100, rfl⟩
abbrev main_call2_call0_v18 : Ref sig .tc := ⟨.hbm, 101, rfl⟩
abbrev main_call2_call0_cst_3 : Ref sig .tc := ⟨.hbm, 102, rfl⟩
abbrev main_call2_call0_v19 : Ref sig .tc := ⟨.hbm, 103, rfl⟩
abbrev main_call2_call0_v20 : Ref sig .tc := ⟨.hbm, 104, rfl⟩
abbrev main_call2_call0_v21 : Ref sig .tc := ⟨.hbm, 105, rfl⟩
abbrev main_v22_1 : Ref sig .tc := ⟨.hbm, 106, rfl⟩
abbrev main_call2_call0_cst_4 : Ref sig .tc := ⟨.hbm, 107, rfl⟩
abbrev main_call2_call0_cst_5 : Ref sig .tc := ⟨.hbm, 108, rfl⟩
abbrev main_call2_call0_v23 : Ref sig .tc := ⟨.hbm, 109, rfl⟩
abbrev main_call2_call0_cst_6 : Ref sig .tc := ⟨.hbm, 110, rfl⟩
abbrev main_call2_call0_cst_7 : Ref sig .tc := ⟨.hbm, 111, rfl⟩
abbrev main_call2_call0_v24 : Ref sig .tc := ⟨.hbm, 112, rfl⟩
abbrev main_call2_call0_cst_8 : Ref sig .tc := ⟨.hbm, 113, rfl⟩
abbrev main_call2_call0_v25 : Ref sig .tc := ⟨.hbm, 114, rfl⟩
abbrev main_call2_call0_v26 : Ref sig .tc := ⟨.hbm, 115, rfl⟩
abbrev main_call2_call0_cst_9 : Ref sig .tc := ⟨.hbm, 116, rfl⟩
abbrev main_call2_call0_v27 : Ref sig .tc := ⟨.hbm, 117, rfl⟩
abbrev main_call2_call0_v28 : Ref sig .tc := ⟨.hbm, 118, rfl⟩
abbrev main_call2_call0_v29 : Ref sig .tc := ⟨.hbm, 119, rfl⟩
abbrev main_call2_call0_v30 : Ref sig .tc := ⟨.hbm, 120, rfl⟩
abbrev main_call2_call0_v31 : Ref sig .tc := ⟨.hbm, 121, rfl⟩
abbrev main_call2_call0_cst_10 : Ref sig .tc := ⟨.hbm, 122, rfl⟩
abbrev main_call2_call0_v32 : Ref sig .tc := ⟨.hbm, 123, rfl⟩
abbrev main_v22_2 : Ref sig .tc := ⟨.hbm, 124, rfl⟩
abbrev main_v22_0 : Ref sig .tc := ⟨.hbm, 125, rfl⟩
abbrev main_cst_1 : Ref sig .tc := ⟨.hbm, 126, rfl⟩
abbrev main_call3_v0 : Ref sig .tc := ⟨.hbm, 127, rfl⟩
abbrev main_v23_1 : Ref sig .tc := ⟨.hbm, 128, rfl⟩
abbrev main_call3_v2 : Ref sig .tc := ⟨.hbm, 129, rfl⟩
abbrev main_v23_0 : Ref sig .tc := ⟨.hbm, 130, rfl⟩
abbrev main_call3_cst : Ref sig .tc := ⟨.hbm, 131, rfl⟩
abbrev main_v23_2 : Ref sig .tc := ⟨.hbm, 132, rfl⟩
abbrev main_call4_cst : Ref sig .tc := ⟨.hbm, 133, rfl⟩
abbrev main_call4_v0 : Ref sig .tc := ⟨.hbm, 134, rfl⟩
abbrev main_v24 : Ref sig .tc := ⟨.hbm, 135, rfl⟩
abbrev main_v25 : Ref sig .tc := ⟨.hbm, 136, rfl⟩
abbrev main_v26 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_v37 : Ref sig .tc := ⟨.hbm, 148, rfl⟩
abbrev main_call5_cst : Ref sig .tc := ⟨.hbm, 149, rfl⟩
abbrev main_call5_v0 : Ref sig .tc := ⟨.hbm, 150, rfl⟩
abbrev main_v38 : Ref sig .tc := ⟨.hbm, 151, rfl⟩
abbrev main_v39 : Ref sig .tc := ⟨.hbm, 152, rfl⟩
abbrev main_call6_cst : Ref sig .tc := ⟨.hbm, 153, rfl⟩
abbrev main_call6_v0 : Ref sig .tc := ⟨.hbm, 154, rfl⟩
abbrev main_v40 : Ref sig .tc := ⟨.hbm, 155, rfl⟩
abbrev main_call7_v0 : Ref sig .tc := ⟨.hbm, 156, rfl⟩
abbrev main_call7_v1 : Ref sig .tc := ⟨.hbm, 157, rfl⟩
abbrev main_v41 : Ref sig .tc := ⟨.hbm, 158, rfl⟩
abbrev main_v42 : Ref sig .tc := ⟨.hbm, 159, rfl⟩
abbrev main_call8_cst : Ref sig .tc := ⟨.hbm, 160, rfl⟩
abbrev main_call8_v0 : Ref sig .tc := ⟨.hbm, 161, rfl⟩
abbrev main_v43 : Ref sig .tc := ⟨.hbm, 162, rfl⟩
abbrev main_call9_v0 : Ref sig .tc := ⟨.hbm, 163, rfl⟩
abbrev main_call9_v1 : Ref sig .tc := ⟨.hbm, 164, rfl⟩
abbrev main_v44 : Ref sig .tc := ⟨.hbm, 165, rfl⟩
abbrev main_v45 : Ref sig .tc := ⟨.hbm, 166, rfl⟩
abbrev main_cst_2 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩
abbrev main_v58 : Ref sig .tc := ⟨.hbm, 180, rfl⟩
abbrev main_v59 : Ref sig .tc := ⟨.hbm, 181, rfl⟩

abbrev nD : Nat := 1
abbrev τ : Topo := Topo.v7x

variable {F : FTy → Type} [FloatOps F]
-- ==== AaBwd.lean ====
abbrev S4096x3072 : Shape := ⟨2, ![4096, 3072]⟩
abbrev S8x2x1024 : Shape := ⟨3, ![8, 2, 1024]⟩
abbrev S4096x1024 : Shape := ⟨2, ![4096, 1024]⟩
abbrev S3x4096x1024 : Shape := ⟨3, ![3, 4096, 1024]⟩
abbrev S2x8x2x1024 : Shape := ⟨4, ![2, 8, 2, 1024]⟩
abbrev S2048x128 : Shape := ⟨2, ![2048, 128]⟩
abbrev S1x2x1024 : Shape := ⟨3, ![1, 2, 1024]⟩
abbrev S3x2048x128 : Shape := ⟨3, ![3, 2048, 128]⟩
abbrev S1x1x2x1024 : Shape := ⟨4, ![1, 1, 2, 1024]⟩
abbrev S128x2048 : Shape := ⟨2, ![128, 2048]⟩
abbrev S2x256x1024 : Shape := ⟨3, ![2, 256, 1024]⟩
abbrev S1x1x1024 : Shape := ⟨3, ![1, 1, 1024]⟩
abbrev S1x1024 : Shape := ⟨2, ![1, 1024]⟩
abbrev S256x1024 : Shape := ⟨2, ![256, 1024]⟩
abbrev S256x768 : Shape := ⟨2, ![256, 768]⟩
abbrev S256x128 : Shape := ⟨2, ![256, 128]⟩
abbrev S128x256 : Shape := ⟨2, ![128, 256]⟩
abbrev S64x256 : Shape := ⟨2, ![64, 256]⟩
abbrev S256x64 : Shape := ⟨2, ![256, 64]⟩
abbrev S256x256 : Shape := ⟨2, ![256, 256]⟩
abbrev S512x64 : Shape := ⟨2, ![512, 64]⟩
abbrev S256x512 : Shape := ⟨2, ![256, 512]⟩
abbrev S256 : Shape := ⟨1, ![256]⟩
abbrev S256x1 : Shape := ⟨2, ![256, 1]⟩
abbrev S1x256x256 : Shape := ⟨3, ![1, 256, 256]⟩
abbrev S1x256x512 : Shape := ⟨3, ![1, 256, 512]⟩
abbrev S1x256x64 : Shape := ⟨3, ![1, 256, 64]⟩
abbrev S64x512 : Shape := ⟨2, ![64, 512]⟩
abbrev S768x64 : Shape := ⟨2, ![768, 64]⟩
abbrev S1x256x768 : Shape := ⟨3, ![1, 256, 768]⟩
abbrev S64x768 : Shape := ⟨2, ![64, 768]⟩
abbrev S1x8x1024 : Shape := ⟨3, ![1, 8, 1024]⟩
abbrev S8x1024 : Shape := ⟨2, ![8, 1024]⟩
abbrev S1024 : Shape := ⟨1, ![1024]⟩
abbrev S1x1x1x1024 : Shape := ⟨4, ![1, 1, 1, 1024]⟩
abbrev S1x2048x128 : Shape := ⟨3, ![1, 2048, 128]⟩

abbrev nBuf : Space → Nat
  | .hbm => 5
  | .vmem => 17
  | .smem => 0
  | _ => 0

abbrev bufTy : (tb : Table) → Fin (tcTables nBuf tb) → BufTy
  | .hbm, ⟨0, _⟩ => ⟨S4096x3072, .bf16⟩
  | .hbm, ⟨1, _⟩ => ⟨S8x2x1024, .f32⟩
  | .hbm, ⟨2, _⟩ => ⟨S4096x1024, .bf16⟩
  | .hbm, ⟨3, _⟩ => ⟨S3x4096x1024, .bf16⟩
  | .hbm, ⟨4, _⟩ => ⟨S2x8x2x1024, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1x2x1024, .f32⟩
  | .local _ .vmem, ⟨7, _⟩ => ⟨S1x2x1024, .f32⟩
  | .local _ .vmem, ⟨8, _⟩ => ⟨S2048x128, .bf16⟩
  | .local _ .vmem, ⟨9, _⟩ => ⟨S2048x128, .bf16⟩
  | .local _ .vmem, ⟨10, _⟩ => ⟨S3x2048x128, .bf16⟩
  | .local _ .vmem, ⟨11, _⟩ => ⟨S3x2048x128, .bf16⟩
  | .local _ .vmem, ⟨12, _⟩ => ⟨S1x1x2x1024, .f32⟩
  | .local _ .vmem, ⟨13, _⟩ => ⟨S1x1x2x1024, .f32⟩
  | .local _ .vmem, ⟨14, _⟩ => ⟨S128x2048, .f32⟩
  | .local _ .vmem, ⟨15, _⟩ => ⟨S128x2048, .f32⟩
  | .local _ .vmem, ⟨16, _⟩ => ⟨S2x256x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AaBwdIdeal.lean ====
variable {F : FTy → Type} [FloatOps F] [Named F]
def κ : String → Option EReal := fun
  | "mask" => some ⊥
  | _ => none
-- ==== AaGradIdeal.lean ====
abbrev S4096x3072 : Shape := ⟨2, ![4096, 3072]⟩
abbrev S8x2x1024 : Shape := ⟨3, ![8, 2, 1024]⟩
abbrev S4096x1024 : Shape := ⟨2, ![4096, 1024]⟩
abbrev S2x2048x16x64 : Shape := ⟨4, ![2, 2048, 16, 64]⟩
abbrev S1x16x1024 : Shape := ⟨3, ![1, 16, 1024]⟩
abbrev S2x16x1024 : Shape := ⟨3, ![2, 16, 1024]⟩
abbrev S32x64 : Shape := ⟨2, ![32, 64]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S2048x2048x1 : Shape := ⟨3, ![2048, 2048, 1]⟩
abbrev S1024 : Shape := ⟨1, ![1024]⟩
abbrev S1x1x1024 : Shape := ⟨3, ![1, 1, 1024]⟩
abbrev S2048x2048x1024 : Shape := ⟨3, ![2048, 2048, 1024]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩
abbrev S2x16x64x2048 : Shape := ⟨4, ![2, 16, 64, 2048]⟩
abbrev S2x16x2048x64 : Shape := ⟨4, ![2, 16, 2048, 64]⟩
abbrev S1x4096x1024 : Shape := ⟨3, ![1, 4096, 1024]⟩
abbrev S3x4096x1024 : Shape := ⟨3, ![3, 4096, 1024]⟩
abbrev S2x8x2x1024 : Shape := ⟨4, ![2, 8, 2, 1024]⟩

abbrev nBuf : Space → Nat
  | .hbm => 138
  | .vmem => 0
  | .smem => 0
  | _ => 0

abbrev hbmTy0_0 (i : Nat) : BufTy := match i % 128 with
  | 0 => ⟨S4096x3072, .bf16⟩
  | 1 => ⟨S8x2x1024, .f32⟩
  | 2 => ⟨S4096x1024, .bf16⟩
  | 3 => ⟨S4096x1024, .bf16⟩
  | 4 => ⟨S4096x1024, .f32⟩
  | 5 => ⟨S2x2048x16x64, .f32⟩
  | 6 => ⟨S4096x1024, .bf16⟩
  | 7 => ⟨S4096x1024, .f32⟩
  | 8 => ⟨S2x2048x16x64, .f32⟩
  | 9 => ⟨S4096x1024, .bf16⟩
  | 10 => ⟨S4096x1024, .f32⟩
  | 11 => ⟨S2x2048x16x64, .f32⟩
  | 12 => ⟨S1x16x1024, .f32⟩
  | 13 => ⟨S2x16x1024, .f32⟩
  | 14 => ⟨S32x64, .i32⟩
  | 15 => ⟨S2048, .i32⟩
  | 16 => ⟨S2048x1, .i32⟩
  | 17 => ⟨S1x2048, .i32⟩
  | 18 => ⟨S2048x2048, .i32⟩
  | 19 => ⟨S2048x2048, .i32⟩
  | 20 => ⟨S2048x2048, .i1⟩
  | 21 => ⟨S_, .i32⟩
  | 22 => ⟨S1x2048, .i32⟩
  | 23 => ⟨S1x2048, .i32⟩
  | 24 => ⟨S2048x2048, .i32⟩
  | 25 => ⟨S2048x2048, .i32⟩
  | 26 => ⟨S2048x2048, .i1⟩
  | 27 => ⟨S2048x2048, .i1⟩
  | 28 => ⟨S2048, .i32⟩
  | 29 => ⟨S1x2048, .i32⟩
  | 30 => ⟨S2048, .i32⟩
  | 31 => ⟨S2048x1, .i32⟩
  | 32 => ⟨S2048x2048, .i32⟩
  | 33 => ⟨S2048x2048, .i32⟩
  | 34 => ⟨S2048x2048, .i32⟩
  | 35 => ⟨S_, .i32⟩
  | 36 => ⟨S2048x2048, .i32⟩
  | 37 => ⟨S2048x2048, .i32⟩
  | 38 => ⟨S2048x2048x1, .i32⟩
  | 39 => ⟨S1024, .i32⟩
  | 40 => ⟨S1x1x1024, .i32⟩
  | 41 => ⟨S2048x2048x1024, .i32⟩
  | 42 => ⟨S2048x2048x1024, .i32⟩
  | 43 => ⟨S2048x2048x1024, .i1⟩
  | 44 => ⟨S2048x2048x1024, .f32⟩
  | 45 => ⟨S2x16x2048x2048, .f32⟩
  | 46 => ⟨S2x16x2048x2048, .f32⟩
  | 47 => ⟨S_, .f32⟩
  | 48 => ⟨S2x16x2048x2048, .f32⟩
  | 49 => ⟨S2x16x2048x2048, .f32⟩
  | 50 => ⟨S2x16x2048x2048, .f32⟩
  | 51 => ⟨S_, .f32⟩
  | 52 => ⟨S_, .f32⟩
  | 53 => ⟨S2x16x2048x2048, .i1⟩
  | 54 => ⟨S2x16x2048x2048, .f32⟩
  | 55 => ⟨S2x16x2048x2048, .f32⟩
  | 56 => ⟨S_, .f32⟩
  | 57 => ⟨S2x16x2048x2048, .f32⟩
  | 58 => ⟨S_, .f32⟩
  | 59 => ⟨S2x16x2048, .f32⟩
  | 60 => ⟨S2x16x2048x1, .f32⟩
  | 61 => ⟨S2x16x2048x2048, .f32⟩
  | 62 => ⟨S2x16x2048x2048, .i1⟩
  | 63 => ⟨S2x16x2048x2048, .f32⟩
  | 64 => ⟨S_, .f32⟩
  | 65 => ⟨S2x16x2048, .f32⟩
  | 66 => ⟨S_, .f32⟩
  | 67 => ⟨S2x16x2048, .f32⟩
  | 68 => ⟨S2x16x2048, .f32⟩
  | 69 => ⟨S_, .f32⟩
  | 70 => ⟨S2x16x2048, .f32⟩
  | 71 => ⟨S2x16x2048, .i1⟩
  | 72 => ⟨S_, .f32⟩
  | 73 => ⟨S2x16x2048, .f32⟩
  | 74 => ⟨S2x16x2048, .i1⟩
  | 75 => ⟨S_, .f32⟩
  | 76 => ⟨S2x16x2048, .f32⟩
  | 77 => ⟨S_, .f32⟩
  | 78 => ⟨S2x16x2048, .f32⟩
  | 79 => ⟨S_, .f32⟩
  | 80 => ⟨S2x16x2048, .f32⟩
  | 81 => ⟨S2x16x2048, .f32⟩
  | 82 => ⟨S2x16x2048, .f32⟩
  | 83 => ⟨S2x16x2048x1, .f32⟩
  | 84 => ⟨S2x16x2048x2048, .f32⟩
  | 85 => ⟨S2x16x2048x2048, .f32⟩
  | 86 => ⟨S2x16x2048x2048, .f32⟩
  | 87 => ⟨S_, .f32⟩
  | 88 => ⟨S2x16x2048, .f32⟩
  | 89 => ⟨S2x16x2048x1, .f32⟩
  | 90 => ⟨S2x16x2048x2048, .f32⟩
  | 91 => ⟨S2x16x2048x2048, .f32⟩
  | 92 => ⟨S2x16x2048x1, .f32⟩
  | 93 => ⟨S_, .f32⟩
  | 94 => ⟨S2x16x2048x1, .f32⟩
  | 95 => ⟨S2x16x2048x1, .f32⟩
  | 96 => ⟨S2x16x64x2048, .f32⟩
  | 97 => ⟨S2x2048x16x64, .f32⟩
  | 98 => ⟨S4096x1024, .f32⟩
  | 99 => ⟨S2x2048x16x64, .f32⟩
  | 100 => ⟨S2x16x64x2048, .f32⟩
  | 101 => ⟨S2x16x2048x2048, .f32⟩
  | 102 => ⟨S2x16x64x2048, .f32⟩
  | 103 => ⟨S2x2048x16x64, .f32⟩
  | 104 => ⟨S2x16x2048x2048, .f32⟩
  | 105 => ⟨S2x16x2048x2048, .f32⟩
  | 106 => ⟨S2x16x2048x2048, .f32⟩
  | 107 => ⟨S_, .f32⟩
  | 108 => ⟨S2x16x2048, .f32⟩
  | 109 => ⟨S2x16x2048x1, .f32⟩
  | 110 => ⟨S2x16x2048x1, .f32⟩
  | 111 => ⟨S2x16x2048x2048, .f32⟩
  | 112 => ⟨S2x16x2048x2048, .f32⟩
  | 113 => ⟨S_, .f32⟩
  | 114 => ⟨S2x16x2048, .f32⟩
  | 115 => ⟨S2x16x2048x2048, .f32⟩
  | 116 => ⟨S2x16x2048x2048, .f32⟩
  | 117 => ⟨S2x16x2048x2048, .f32⟩
  | 118 => ⟨S_, .f32⟩
  | 119 => ⟨S2x16x2048x2048, .f32⟩
  | 120 => ⟨S2x16x2048x2048, .f32⟩
  | 121 => ⟨S_, .f32⟩
  | 122 => ⟨S2x16x2048x2048, .f32⟩
  | 123 => ⟨S2x16x2048x2048, .f32⟩
  | 124 => ⟨S2x16x2048x64, .f32⟩
  | 125 => ⟨S2x2048x16x64, .f32⟩
  | 126 => ⟨S2x16x2048x64, .f32⟩
  | 127 => ⟨S2x2048x16x64, .f32⟩
  | _ => ⟨S4096x3072, .bf16⟩

abbrev hbmTy0_1 (i : Nat) : BufTy := match i % 128 with
  | 0 => ⟨S2x16x1024, .f32⟩
  | 1 => ⟨S4096x1024, .f32⟩
  | 2 => ⟨S4096x1024, .f32⟩
  | 3 => ⟨S4096x1024, .f32⟩
  | 4 => ⟨S1x4096x1024, .f32⟩
  | 5 => ⟨S1x4096x1024, .f32⟩
  | 6 => ⟨S1x4096x1024, .f32⟩
  | 7 => ⟨S3x4096x1024, .f32⟩
  | 8 => ⟨S3x4096x1024, .bf16⟩
  | 9 => ⟨S2x8x2x1024, .f32⟩
  | _ => ⟨S4096x3072, .bf16⟩

abbrev hbmTy (i : Nat) : BufTy := match i / 128 with
  | 0 => hbmTy0_0 i
  | 1 => hbmTy0_1 i
  | _ => ⟨S4096x3072, .bf16⟩

abbrev bufTy : (tb : Table) → Fin (tcTables nBuf tb) → BufTy
  | .hbm, ⟨i, _⟩ => hbmTy i
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_c : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_c_0 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_cst : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_cst_1 : Ref sig .tc := ⟨.hbm, 51, rfl⟩
abbrev main_call0_v0 : Ref sig .tc := ⟨.hbm, 52, rfl⟩
abbrev main_v45_1 : Ref sig .tc := ⟨.hbm, 53, rfl⟩
abbrev main_call0_v2 : Ref sig .tc := ⟨.hbm, 54, rfl⟩
abbrev main_v45_0 : Ref sig .tc := ⟨.hbm, 55, rfl⟩
abbrev main_call0_cst : Ref sig .tc := ⟨.hbm, 56, rfl⟩
abbrev main_v45_2 : Ref sig .tc := ⟨.hbm, 57, rfl⟩
abbrev main_cst_2 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_3 : Ref sig .tc := ⟨.hbm, 64, rfl⟩
abbrev main_v51 : Ref sig .tc := ⟨.hbm, 65, rfl⟩
abbrev main_cst_4 : Ref sig .tc := ⟨.hbm, 66, rfl⟩
abbrev main_v52 : Ref sig .tc := ⟨.hbm, 67, rfl⟩
abbrev main_v53 : Ref sig .tc := ⟨.hbm, 68, rfl⟩
abbrev main_cst_5 : Ref sig .tc := ⟨.hbm, 69, rfl⟩
abbrev main_v54 : Ref sig .tc := ⟨.hbm, 70, rfl⟩
abbrev main_v55 : Ref sig .tc := ⟨.hbm, 71, rfl⟩
abbrev main_cst_6 : Ref sig .tc := ⟨.hbm, 72, rfl⟩
abbrev main_v56 : Ref sig .tc := ⟨.hbm, 73, rfl⟩
abbrev main_v57 : Ref sig .tc := ⟨.hbm, 74, rfl⟩
abbrev main_cst_7 : Ref sig .tc := ⟨.hbm, 75, rfl⟩
abbrev main_v58 : Ref sig .tc := ⟨.hbm, 76, rfl⟩
abbrev main_cst_8 : Ref sig .tc := ⟨.hbm, 77, rfl⟩
abbrev main_v59 : Ref sig .tc := ⟨.hbm, 78, rfl⟩
abbrev main_cst_9 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_10 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_11 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_cst_12 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_cst_13 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_call1_cst : Ref sig .tc := ⟨.hbm, 118, rfl⟩
abbrev main_call1_v0 : Ref sig .tc := ⟨.hbm, 119, rfl⟩
abbrev main_v94 : Ref sig .tc := ⟨.hbm, 120, rfl⟩
abbrev main_cst_14 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩

abbrev nD : Nat := 1
abbrev τ : Topo := Topo.v7x

variable {F : FTy → Type} [FloatOps F]
-- ==== FxBwd.lean ====
abbrev S4096x1024 : Shape := ⟨2, ![4096, 1024]⟩
abbrev S1024 : Shape := ⟨1, ![1024]⟩
abbrev S4x2x704x1024 : Shape := ⟨4, ![4, 2, 704, 1024]⟩
abbrev S4x4096x704 : Shape := ⟨3, ![4, 4096, 704]⟩
abbrev S12x1x1024 : Shape := ⟨3, ![12, 1, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4x256x704 : Shape := ⟨3, ![4, 256, 704]⟩
abbrev S4x1x704x1024 : Shape := ⟨4, ![4, 1, 704, 1024]⟩
abbrev S256x1024 : Shape := ⟨2, ![256, 1024]⟩
abbrev S256x1 : Shape := ⟨2, ![256, 1]⟩
abbrev S1x1x1024 : Shape := ⟨3, ![1, 1, 1024]⟩
abbrev S1x256x704 : Shape := ⟨3, ![1, 256, 704]⟩
abbrev S256x704 : Shape := ⟨2, ![256, 704]⟩
abbrev S1x1x704x1024 : Shape := ⟨4, ![1, 1, 704, 1024]⟩
abbrev S704x1024 : Shape := ⟨2, ![704, 1024]⟩
abbrev S256 : Shape := ⟨1, ![256]⟩

abbrev nBuf : Space → Nat
  | .hbm => 43
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4x2x704x1024, .bf16⟩
  | .hbm, ⟨4, _⟩ => ⟨S4x2x704x1024, .bf16⟩
  | .hbm, ⟨5, _⟩ => ⟨S4x4096x704, .bf16⟩
  | .hbm, ⟨6, _⟩ => ⟨S4x4096x704, .bf16⟩
  | .hbm, ⟨7, _⟩ => ⟨S4096x1024, .f32⟩
  | .hbm, ⟨8, _⟩ => ⟨S12x1x1024, .f32⟩
  | .hbm, ⟨9, _⟩ => ⟨S12x1x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .bf16⟩
  | .hbm, ⟨41, _⟩ => ⟨S12x1x1024, .f32⟩
  | .hbm, ⟨42, _⟩ => ⟨S12x1x1024, .f32⟩
  | .local _ .vmem, ⟨0, _⟩ => ⟨S4x256x704, .bf16⟩
  | .local _ .vmem, ⟨1, _⟩ => ⟨S4x256x704, .bf16⟩
  | .local _ .vmem, ⟨2, _⟩ => ⟨S4x1x704x1024, .bf16⟩
  | .local _ .vmem, ⟨3, _⟩ => ⟨S4x256x704, .bf16⟩
  | .local _ .vmem, ⟨4, _⟩ => ⟨S4x256x704, .bf16⟩
  | .local _ .vmem, ⟨5, _⟩ => ⟨S4x1x704x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1, .f32⟩
  | .local _ .vmem, ⟨11, _⟩ => ⟨S256x1, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S1x1x1024, .f32⟩
  | .local _ .vmem, ⟨18, _⟩ => ⟨S1x1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_v14 : Ref sig .tc := ⟨.hbm, 30, rfl⟩
abbrev main_v15 : Ref sig .tc := ⟨.hbm, 31, rfl⟩
abbrev main_cst_5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22_0 : Ref sig .tc := ⟨.hbm, 39, rfl⟩
abbrev main_v22_1 : Ref sig .tc := ⟨.hbm, 40, rfl⟩
abbrev main_v22_2 : Ref sig .tc := ⟨.hbm, 41, rfl⟩
abbrev main_v22_3 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v85 : BitVec 1 := Scalar.cmpi .eq arg0 c0_i32
  let v86 : BitVec 32 := Scalar.extui v85
  let c0_i32_79 : BitVec 32 := 0#32
  let v87 : BitVec 1 := Scalar.cmpi .ne v86 c0_i32_79
  v87

def k0_cond2 (i : grid0.Coords) : BitVec 1 :=
  let arg0 : BitVec 32 := BitVec.ofNat 32 (i 0).val
  let c0_i32_80 : BitVec 32 := 0#32
  let v88 : BitVec 1 := Scalar.cmpi .sgt arg0 c0_i32_80
  let v89 : BitVec 32 := Scalar.extui v88
  let c0_i32_81 : BitVec 32 := 0#32
  let v90 : BitVec 1 := Scalar.cmpi .ne v89 c0_i32_81
  v90

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_13 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

abbrev stage0_0 : Fin 2 → Memref sig .tc .vmem S4x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x256x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FxGradIdeal.lean ====
abbrev S4096x1024 : Shape := ⟨2, ![4096, 1024]⟩
abbrev S1024 : Shape := ⟨1, ![1024]⟩
abbrev S4x2x704x1024 : Shape := ⟨4, ![4, 2, 704, 1024]⟩
abbrev S4x4096x704 : Shape := ⟨3, ![4, 4096, 704]⟩
abbrev S12x1x1024 : Shape := ⟨3, ![12, 1, 1024]⟩
abbrev S4x1x704x1024 : Shape := ⟨4, ![4, 1, 704, 1024]⟩
abbrev S4x704x1024 : Shape := ⟨3, ![4, 704, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4x704x4096 : Shape := ⟨3, ![4, 704, 4096]⟩
abbrev S1x1x1024 : Shape := ⟨3, ![1, 1, 1024]⟩

abbrev nBuf : Space → Nat
  | .hbm => 137
  | .vmem => 0
  | .smem => 0
  | _ => 0

abbrev hbmTy0_0 (i : Nat) : BufTy := match i % 128 with
  | 0 => ⟨S4096x1024, .f32⟩
  | 1 => ⟨S4096x1024, .f32⟩
  | 2 => ⟨S1024, .f32⟩
  | 3 => ⟨S4x2x704x1024, .bf16⟩
  | 4 => ⟨S4x2x704x1024, .bf16⟩
  | 5 => ⟨S4x4096x704, .bf16⟩
  | 6 => ⟨S4x4096x704, .bf16⟩
  | 7 => ⟨S4096x1024, .f32⟩
  | 8 => ⟨S12x1x1024, .f32⟩
  | 9 => ⟨S12x1x1024, .f32⟩
  | 10 => ⟨S4x1x704x1024, .bf16⟩
  | 11 => ⟨S4x704x1024, .bf16⟩
  | 12 => ⟨S4x704x1024, .f32⟩
  | 13 => ⟨S4x1x704x1024, .bf16⟩
  | 14 => ⟨S4x704x1024, .bf16⟩
  | 15 => ⟨S4x704x1024, .f32⟩
  | 16 => ⟨S_, .f32⟩
  | 17 => ⟨S4096x1024, .f32⟩
  | 18 => ⟨S4096x1024, .f32⟩
  | 19 => ⟨S_, .f32⟩
  | 20 => ⟨S1024, .f32⟩
  | 21 => ⟨S_, .f32⟩
  | 22 => ⟨S4096x1024, .f32⟩
  | 23 => ⟨S4096x1024, .f32⟩
  | 24 => ⟨S4096x1024, .f32⟩
  | 25 => ⟨S_, .f32⟩
  | 26 => ⟨S4096, .f32⟩
  | 27 => ⟨S4096x1, .f32⟩
  | 28 => ⟨S_, .f32⟩
  | 29 => ⟨S4096x1, .f32⟩
  | 30 => ⟨S4096x1, .f32⟩
  | 31 => ⟨S4096x1024, .f32⟩
  | 32 => ⟨S4096x1024, .f32⟩
  | 33 => ⟨S4096x1024, .f32⟩
  | 34 => ⟨S_, .f32⟩
  | 35 => ⟨S4096x1024, .f32⟩
  | 36 => ⟨S4096x1024, .f32⟩
  | 37 => ⟨S_, .f32⟩
  | 38 => ⟨S4096, .f32⟩
  | 39 => ⟨S4096x1, .f32⟩
  | 40 => ⟨S_, .f32⟩
  | 41 => ⟨S4096x1, .f32⟩
  | 42 => ⟨S4096x1, .f32⟩
  | 43 => ⟨S4096x1024, .f32⟩
  | 44 => ⟨S4096x1024, .f32⟩
  | 45 => ⟨S_, .f32⟩
  | 46 => ⟨S4096x1, .f32⟩
  | 47 => ⟨S4096x1, .f32⟩
  | 48 => ⟨S4096x1, .f32⟩
  | 49 => ⟨S4096x1, .f32⟩
  | 50 => ⟨S_, .f32⟩
  | 51 => ⟨S4096x1, .f32⟩
  | 52 => ⟨S4096x1, .f32⟩
  | 53 => ⟨S4096x1024, .f32⟩
  | 54 => ⟨S4096x1024, .f32⟩
  | 55 => ⟨S1x1024, .f32⟩
  | 56 => ⟨S4096x1024, .f32⟩
  | 57 => ⟨S4096x1024, .f32⟩
  | 58 => ⟨S1x1024, .f32⟩
  | 59 => ⟨S4096x1024, .f32⟩
  | 60 => ⟨S4096x1024, .f32⟩
  | 61 => ⟨S_, .f32⟩
  | 62 => ⟨S4096x1024, .f32⟩
  | 63 => ⟨S4096x1024, .f32⟩
  | 64 => ⟨S4x704x4096, .f32⟩
  | 65 => ⟨S4x4096x704, .f32⟩
  | 66 => ⟨S4x704x4096, .f32⟩
  | 67 => ⟨S4x4096x704, .f32⟩
  | 68 => ⟨S4x4096x704, .f32⟩
  | 69 => ⟨S4x4096x704, .f32⟩
  | 70 => ⟨S4x704x4096, .f32⟩
  | 71 => ⟨S4096x1024, .f32⟩
  | 72 => ⟨S4x704x4096, .f32⟩
  | 73 => ⟨S4096x1024, .f32⟩
  | 74 => ⟨S4096x1024, .f32⟩
  | 75 => ⟨S_, .f32⟩
  | 76 => ⟨S4096x1024, .f32⟩
  | 77 => ⟨S4096x1024, .f32⟩
  | 78 => ⟨S4096x1024, .f32⟩
  | 79 => ⟨S_, .f32⟩
  | 80 => ⟨S1024, .f32⟩
  | 81 => ⟨S1x1024, .f32⟩
  | 82 => ⟨S_, .f32⟩
  | 83 => ⟨S1024, .f32⟩
  | 84 => ⟨S4096x1024, .f32⟩
  | 85 => ⟨S_, .f32⟩
  | 86 => ⟨S1024, .f32⟩
  | 87 => ⟨S1x1024, .f32⟩
  | 88 => ⟨S4096x1024, .f32⟩
  | 89 => ⟨S4096x1024, .f32⟩
  | 90 => ⟨S_, .f32⟩
  | 91 => ⟨S1024, .f32⟩
  | 92 => ⟨S4096x1024, .f32⟩
  | 93 => ⟨S_, .f32⟩
  | 94 => ⟨S4096, .f32⟩
  | 95 => ⟨S4096x1, .f32⟩
  | 96 => ⟨S4096x1024, .f32⟩
  | 97 => ⟨S4096x1024, .f32⟩
  | 98 => ⟨S4096x1, .f32⟩
  | 99 => ⟨S4096x1024, .f32⟩
  | 100 => ⟨S_, .f32⟩
  | 101 => ⟨S4096, .f32⟩
  | 102 => ⟨S4096x1, .f32⟩
  | 103 => ⟨S_, .f32⟩
  | 104 => ⟨S4096x1, .f32⟩
  | 105 => ⟨S4096x1, .f32⟩
  | 106 => ⟨S_, .f32⟩
  | 107 => ⟨S4096, .f32⟩
  | 108 => ⟨S4096x1024, .f32⟩
  | 109 => ⟨S4096x1024, .f32⟩
  | 110 => ⟨S4096x1024, .f32⟩
  | 111 => ⟨S_, .f32⟩
  | 112 => ⟨S4096, .f32⟩
  | 113 => ⟨S4096x1, .f32⟩
  | 114 => ⟨S4096x1024, .f32⟩
  | 115 => ⟨S4096x1, .f32⟩
  | 116 => ⟨S_, .f32⟩
  | 117 => ⟨S4096x1, .f32⟩
  | 118 => ⟨S4096x1, .f32⟩
  | 119 => ⟨S_, .f32⟩
  | 120 => ⟨S4096, .f32⟩
  | 121 => ⟨S4096x1024, .f32⟩
  | 122 => ⟨S4096x1024, .f32⟩
  | 123 => ⟨S_, .f32⟩
  | 124 => ⟨S4096x1024, .f32⟩
  | 125 => ⟨S4096x1024, .f32⟩
  | 126 => ⟨S4096x1024, .bf16⟩
  | 127 => ⟨S1x1x1024, .f32⟩
  | _ => ⟨S4096x1024, .f32⟩

abbrev hbmTy0_1 (i : Nat) : BufTy := match i % 128 with
  | 0 => ⟨S_, .i32⟩
  | 1 => ⟨S_, .i32⟩
  | 2 => ⟨S_, .i32⟩
  | 3 => ⟨S12x1x1024, .f32⟩
  | 4 => ⟨S1x1x1024, .f32⟩
  | 5 => ⟨S_, .i32⟩
  | 6 => ⟨S_, .i32⟩
  | 7 => ⟨S_, .i32⟩
  | 8 => ⟨S12x1x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_7 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_cst_12 : Ref sig .tc := ⟨.hbm, 82, rfl⟩
abbrev main_v59 : Ref sig .tc := ⟨.hbm, 83, rfl⟩
abbrev main_v60 : Ref sig .tc := ⟨.hbm, 84, rfl⟩
abbrev main_cst_13 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_14 : Ref sig .tc := ⟨.hbm, 90, rfl⟩
abbrev main_v65 : Ref sig .tc := ⟨.hbm, 91, rfl⟩
abbrev main_v66 : Ref sig .tc := ⟨.hbm, 92, rfl⟩
abbrev main_cst_15 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_16 : Ref sig .tc := ⟨.hbm, 100, rfl⟩
abbrev main_v73 : Ref sig .tc := ⟨.hbm, 101, rfl⟩
abbrev main_v74 : Ref sig .tc := ⟨.hbm, 102, rfl⟩
abbrev main_cst_17 : Ref sig .tc := ⟨.hbm, 103, rfl⟩
abbrev main_v75 : Ref sig .tc := ⟨.hbm, 104, rfl⟩
abbrev main_v76 : Ref sig .tc := ⟨.hbm, 105, rfl⟩
abbrev main_cst_18 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_19 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_20 : Ref sig .tc := ⟨.hbm, 116, rfl⟩
abbrev main_v85 : Ref sig .tc := ⟨.hbm, 117, rfl⟩
abbrev main_v86 : Ref sig .tc := ⟨.hbm, 118, rfl⟩
abbrev main_cst_21 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_22 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_c : Ref sig .tc := ⟨.hbm, 128, rfl⟩
abbrev main_c_23 : Ref sig .tc := ⟨.hbm, 129, rfl⟩
abbrev main_c_24 : Ref sig .tc := ⟨.hbm, 130, rfl⟩
abbrev main_v94 : Ref sig .tc := ⟨.hbm, 131, rfl⟩
abbrev main_v95 : Ref sig .tc := ⟨.hbm, 132, rfl⟩
abbrev main_c_25 : Ref sig .tc := ⟨.hbm, 133, rfl⟩
abbrev main_c_26 : Ref sig .tc := ⟨.hbm, 134, rfl⟩
abbrev main_c_27 : Ref sig .tc := ⟨.hbm, 135, rfl⟩
abbrev main_v96 : Ref sig .tc := ⟨.hbm, 136, rfl⟩

abbrev nD : Nat := 1
abbrev τ : Topo := Topo.v7x

variable {F : FTy → Type} [FloatOps F]
-- ==== QxBwd.lean ====
abbrev S4096x1024 : Shape := ⟨2, ![4096, 1024]⟩
abbrev S1024 : Shape := ⟨1, ![1024]⟩
abbrev S4x1x1024x768 : Shape := ⟨4, ![4, 1, 1024, 768]⟩
abbrev S3x4096x1024 : Shape := ⟨3, ![3, 4096, 1024]⟩
abbrev S12x1x1024 : Shape := ⟨3, ![12, 1, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S3x512x1024 : Shape := ⟨3, ![3, 512, 1024]⟩
abbrev S512x1024 : Shape := ⟨2, ![512, 1024]⟩
abbrev S512x1 : Shape := ⟨2, ![512, 1]⟩
abbrev S1x1x1024 : Shape := ⟨3, ![1, 1, 1024]⟩
abbrev S1x512x256 : Shape := ⟨3, ![1, 512, 256]⟩
abbrev S512x256 : Shape := ⟨2, ![512, 256]⟩
abbrev S1x1x1024x256 : Shape := ⟨4, ![1, 1, 1024, 256]⟩
abbrev S1024x256 : Shape := ⟨2, ![1024, 256]⟩
abbrev S512 : Shape := ⟨1, ![512]⟩

abbrev nBuf : Space → Nat
  | .hbm => 41
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4x1x1024x768, .bf16⟩
  | .hbm, ⟨4, _⟩ => ⟨S3x4096x1024, .bf16⟩
  | .hbm, ⟨5, _⟩ => ⟨S4096x1024, .f32⟩
  | .hbm, ⟨6, _⟩ => ⟨S12x1x1024, .f32⟩
  | .hbm, ⟨7, _⟩ => ⟨S12x1x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .bf16⟩
  | .hbm, ⟨39, _⟩ => ⟨S12x1x1024, .f32⟩
  | .hbm, ⟨40, _⟩ => ⟨S12x1x1024, .f32⟩
  | .local _ .vmem, ⟨0, _⟩ => ⟨S3x512x1024, .bf16⟩
  | .local _ .vmem, ⟨1, _⟩ => ⟨S3x512x1024, .bf16⟩
  | .local _ .vmem, ⟨2, _⟩ => ⟨S4x1x1024x768, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1, .f32⟩
  | .local _ .vmem, ⟨8, _⟩ => ⟨S512x1, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1x1024, .f32⟩
  | .local _ .vmem, ⟨15, _⟩ => ⟨S1x1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22_0 : Ref sig .tc := ⟨.hbm, 37, rfl⟩
abbrev main_v22_1 : Ref sig .tc := ⟨.hbm, 38, rfl⟩
abbrev main_v22_2 : Ref sig .tc := ⟨.hbm, 39, rfl⟩
abbrev main_v22_3 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v109 : BitVec 1 := Scalar.cmpi .eq arg0 c0_i32
  let v110 : BitVec 32 := Scalar.extui v109
  let c0_i32_108 : BitVec 32 := 0#32
  let v111 : BitVec 1 := Scalar.cmpi .ne v110 c0_i32_108
  v111

def k0_cond2 (i : grid0.Coords) : BitVec 1 :=
  let arg0 : BitVec 32 := BitVec.ofNat 32 (i 0).val
  let c0_i32_109 : BitVec 32 := 0#32
  let v112 : BitVec 1 := Scalar.cmpi .sgt arg0 c0_i32_109
  let v113 : BitVec 32 := Scalar.extui v112
  let c0_i32_110 : BitVec 32 := 0#32
  let v114 : BitVec 1 := Scalar.cmpi .ne v113 c0_i32_110
  v114

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c9_i32 : BitVec 32 := 9#32
  let c0_i32 : BitVec 32 := 0#32
  let c0_i32_0 : BitVec 32 := 0#32
  let c0_i32_1 : BitVec 32 := 0#32
  ![c9_i32.toNat, c0_i32.toNat, c0_i32_0.toNat]

def cc0_transform_11 (i : grid0.Coords) : Fin 3 → Nat :=
  let arg0 : BitVec 32 := BitVec.ofNat 32 (i 0).val
  let c9_i32 : BitVec 32 := 9#32
  let c0_i32 : BitVec 32 := 0#32
  let c0_i32_0 : BitVec 32 := 0#32
  let c0_i32_1 : BitVec 32 := 0#32
  ![c9_i32.toNat, c0_i32.toNat, c0_i32_0.toNat]

abbrev stage0_0 : Fin 2 → Memref sig .tc .vmem S3x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== QxGradIdeal.lean ====
abbrev S4096x1024 : Shape := ⟨2, ![4096, 1024]⟩
abbrev S1024 : Shape := ⟨1, ![1024]⟩
abbrev S4x1x1024x768 : Shape := ⟨4, ![4, 1, 1024, 768]⟩
abbrev S3x4096x1024 : Shape := ⟨3, ![3, 4096, 1024]⟩
abbrev S12x1x1024 : Shape := ⟨3, ![12, 1, 1024]⟩
abbrev S4x1024x768 : Shape := ⟨3, ![4, 1024, 768]⟩
abbrev S1024x4x768 : Shape := ⟨3, ![1024, 4, 768]⟩
abbrev S1024x3072 : Shape := ⟨2, ![1024, 3072]⟩
abbrev S4096x3x1024 : Shape := ⟨3, ![4096, 3, 1024]⟩
abbrev S4096x3072 : Shape := ⟨2, ![4096, 3072]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x1x1024 : Shape := ⟨3, ![1, 1, 1024]⟩

abbrev nBuf : Space → Nat
  | .hbm => 127
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4x1x1024x768, .bf16⟩
  | .hbm, ⟨4, _⟩ => ⟨S3x4096x1024, .bf16⟩
  | .hbm, ⟨5, _⟩ => ⟨S4096x1024, .f32⟩
  | .hbm, ⟨6, _⟩ => ⟨S12x1x1024, .f32⟩
  | .hbm, ⟨7, _⟩ => ⟨S12x1x1024, .f32⟩
  | .hbm, ⟨8, _⟩ => ⟨S4x1024x768, .bf16⟩
  | .hbm, ⟨9, _⟩ => ⟨S4x1024x768, .f32⟩
  | .hbm, ⟨10, _⟩ => ⟨S1024x4x768, .f32⟩
  | .hbm, ⟨11, _⟩ => ⟨S1024x3072, .f32⟩
  | .hbm, ⟨12, _⟩ => ⟨S3x4096x1024, .f32⟩
  | .hbm, ⟨13, _⟩ => ⟨S4096x3x1024, .f32⟩
  | .hbm, ⟨14, _⟩ => ⟨S4096x3072, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S4096x1024, .f32⟩
  | .hbm, ⟨53, _⟩ => ⟨S4096x1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096x1024, .f32⟩
  | .hbm, ⟨62, _⟩ => ⟨S4096x1024, .f32⟩
  | .hbm, ⟨63, _⟩ => ⟨S4096x3072, .f32⟩
  | .hbm, ⟨64, _⟩ => ⟨S4096x1024, .f32⟩
  | .hbm, ⟨65, _⟩ => ⟨S_, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S_, .f32⟩
  | .hbm, ⟨73, _⟩ => ⟨S1024, .f32⟩
  | .hbm, ⟨74, _⟩ => ⟨S4096x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S4096x1024, .f32⟩
  | .hbm, ⟨79, _⟩ => ⟨S4096x1024, .f32⟩
  | .hbm, ⟨80, _⟩ => ⟨S_, .f32⟩
  | .hbm, ⟨81, _⟩ => ⟨S1024, .f32⟩
  | .hbm, ⟨82, _⟩ => ⟨S4096x1024, .f32⟩
  | .hbm, ⟨83, _⟩ => ⟨S_, .f32⟩
  | .hbm, ⟨84, _⟩ => ⟨S4096, .f32⟩
  | .hbm, ⟨85, _⟩ => ⟨S4096x1, .f32⟩
  | .hbm, ⟨86, _⟩ => ⟨S4096x1024, .f32⟩
  | .hbm, ⟨87, _⟩ => ⟨S4096x1024, .f32⟩
  | .hbm, ⟨88, _⟩ => ⟨S4096x1, .f32⟩
  | .hbm, ⟨89, _⟩ => ⟨S4096x1024, .f32⟩
  | .hbm, ⟨90, _⟩ => ⟨S_, .f32⟩
  | .hbm, ⟨91, _⟩ => ⟨S4096, .f32⟩
  | .hbm, ⟨92, _⟩ => ⟨S4096x1, .f32⟩
  | .hbm, ⟨93, _⟩ => ⟨S_, .f32⟩
  | .hbm, ⟨94, _⟩ => ⟨S4096x1, .f32⟩
  | .hbm, ⟨95, _⟩ => ⟨S4096x1, .f32⟩
  | .hbm, ⟨96, _⟩ => ⟨S_, .f32⟩
  | .hbm, ⟨97, _⟩ => ⟨S4096, .f32⟩
  | .hbm, ⟨98, _⟩ => ⟨S4096x1024, .f32⟩
  | .hbm, ⟨99, _⟩ => ⟨S4096x1024, .f32⟩
  | .hbm, ⟨100, _⟩ => ⟨S4096x1024, .f32⟩
  | .hbm, ⟨101, _⟩ => ⟨S_, .f32⟩
  | .hbm, ⟨102, _⟩ => ⟨S4096, .f32⟩
  | .hbm, ⟨103, _⟩ => ⟨S4096x1, .f32⟩
  | .hbm, ⟨104, _⟩ => ⟨S4096x1024, .f32⟩
  | .hbm, ⟨105, _⟩ => ⟨S4096x1, .f32⟩
  | .hbm, ⟨106, _⟩ => ⟨S_, .f32⟩
  | .hbm, ⟨107, _⟩ => ⟨S4096x1, .f32⟩
  | .hbm, ⟨108, _⟩ => ⟨S4096x1, .f32⟩
  | .hbm, ⟨109, _⟩ => ⟨S_, .f32⟩
  | .hbm, ⟨110, _⟩ => ⟨S4096, .f32⟩
  | .hbm, ⟨111, _⟩ => ⟨S4096x1024, .f32⟩
  | .hbm, ⟨112, _⟩ => ⟨S4096x1024, .f32⟩
  | .hbm, ⟨113, _⟩ => ⟨S_, .f32⟩
  | .hbm, ⟨114, _⟩ => ⟨S4096x1024, .f32⟩
  | .hbm, ⟨115, _⟩ => ⟨S4096x1024, .f32⟩
  | .hbm, ⟨116, _⟩ => ⟨S4096x1024, .bf16⟩
  | .hbm, ⟨117, _⟩ => ⟨S1x1x1024, .f32⟩
  | .hbm, ⟨118, _⟩ => ⟨S_, .i32⟩
  | .hbm, ⟨119, _⟩ => ⟨S_, .i32⟩
  | .hbm, ⟨120, _⟩ => ⟨S_, .i32⟩
  | .hbm, ⟨121, _⟩ => ⟨S12x1x1024, .f32⟩
  | .hbm, ⟨122, _⟩ => ⟨S1x1x1024, .f32⟩
  | .hbm, ⟨123, _⟩ => ⟨S_, .i32⟩
  | .hbm, ⟨124, _⟩ => ⟨S_, .i32⟩
  | .hbm, ⟨125, _⟩ => ⟨S_, .i32⟩
  | .hbm, ⟨126, _⟩ => ⟨S12x1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_8 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_9 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_11 : Ref sig .tc := ⟨.hbm, 69, rfl⟩
abbrev main_v49 : Ref sig .tc := ⟨.hbm, 70, rfl⟩
abbrev main_v50 : Ref sig .tc := ⟨.hbm, 71, rfl⟩
abbrev main_cst_12 : Ref sig .tc := ⟨.hbm, 72, rfl⟩
abbrev main_v51 : Ref sig .tc := ⟨.hbm, 73, rfl⟩
abbrev main_v52 : Ref sig .tc := ⟨.hbm, 74, rfl⟩
abbrev main_cst_13 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_14 : Ref sig .tc := ⟨.hbm, 80, rfl⟩
abbrev main_v57 : Ref sig .tc := ⟨.hbm, 81, rfl⟩
abbrev main_v58 : Ref sig .tc := ⟨.hbm, 82, rfl⟩
abbrev main_cst_15 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_16 : Ref sig .tc := ⟨.hbm, 90, rfl⟩
abbrev main_v65 : Ref sig .tc := ⟨.hbm, 91, rfl⟩
abbrev main_v66 : Ref sig .tc := ⟨.hbm, 92, rfl⟩
abbrev main_cst_17 : Ref sig .tc := ⟨.hbm, 93, rfl⟩
abbrev main_v67 : Ref sig .tc := ⟨.hbm, 94, rfl⟩
abbrev main_v68 : Ref sig .tc := ⟨.hbm, 95, rfl⟩
abbrev main_cst_18 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_19 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_20 : Ref sig .tc := ⟨.hbm, 106, rfl⟩
abbrev main_v77 : Ref sig .tc := ⟨.hbm, 107, rfl⟩
abbrev main_v78 : Ref sig .tc := ⟨.hbm, 108, rfl⟩
abbrev main_cst_21 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_22 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_c : Ref sig .tc := ⟨.hbm, 118, rfl⟩
abbrev main_c_23 : Ref sig .tc := ⟨.hbm, 119, rfl⟩
abbrev main_c_24 : Ref sig .tc := ⟨.hbm, 120, rfl⟩
abbrev main_v86 : Ref sig .tc := ⟨.hbm, 121, rfl⟩
abbrev main_v87 : Ref sig .tc := ⟨.hbm, 122, rfl⟩
abbrev main_c_25 : Ref sig .tc := ⟨.hbm, 123, rfl⟩
abbrev main_c_26 : Ref sig .tc := ⟨.hbm, 124, rfl⟩
abbrev main_c_27 : Ref sig .tc := ⟨.hbm, 125, rfl⟩
abbrev main_v88 : Ref sig .tc := ⟨.hbm, 126, rfl⟩

abbrev nD : Nat := 1
abbrev τ : Topo := Topo.v7x

variable {F : FTy → Type} [FloatOps F]
-- ==== FbBwd.lean ====
abbrev S4096x1024 : Shape := ⟨2, ![4096, 1024]⟩
abbrev S4x2x704x1024 : Shape := ⟨4, ![4, 2, 704, 1024]⟩
abbrev S2x4x704x1024 : Shape := ⟨4, ![2, 4, 704, 1024]⟩
abbrev S4x1x704x1024 : Shape := ⟨4, ![4, 1, 704, 1024]⟩
abbrev S4x704x1024 : Shape := ⟨3, ![4, 704, 1024]⟩
abbrev S4x704x4096 : Shape := ⟨3, ![4, 704, 4096]⟩
abbrev S4x4096x704 : Shape := ⟨3, ![4, 4096, 704]⟩
abbrev S_ : Shape := ⟨0, ![]⟩
abbrev S8x128 : Shape := ⟨2, ![8, 128]⟩
abbrev S1024x1024 : Shape := ⟨2, ![1024, 1024]⟩
abbrev S1x1x704x1024 : Shape := ⟨4, ![1, 1, 704, 1024]⟩
abbrev S1x1024x704 : Shape := ⟨3, ![1, 1024, 704]⟩
abbrev S704x1024 : Shape := ⟨2, ![704, 1024]⟩
abbrev S1024x704 : Shape := ⟨2, ![1024, 704]⟩

abbrev nBuf : Space → Nat
  | .hbm => 36
  | .vmem => 26
  | .smem => 0
  | _ => 0

abbrev bufTy : (tb : Table) → Fin (tcTables nBuf tb) → BufTy
  | .hbm, ⟨0, _⟩ => ⟨S4096x1024, .bf16⟩
  | .hbm, ⟨1, _⟩ => ⟨S4x2x704x1024, .bf16⟩
  | .hbm, ⟨2, _⟩ => ⟨S4x2x704x1024, .bf16⟩
  | .hbm, ⟨3, _⟩ => ⟨S4x2x704x1024, .bf16⟩
  | .hbm, ⟨4, _⟩ => ⟨S4096x1024, .bf16⟩
  | .hbm, ⟨5, _⟩ => ⟨S2x4x704x1024, .bf16⟩
  | .hbm, ⟨6, _⟩ => ⟨S2x4x704x1024, .bf16⟩
  | .hbm, ⟨7, _⟩ => ⟨S2x4x704x1024, .bf16⟩
  | .hbm, ⟨8, _⟩ => ⟨S4x1x704x1024, .bf16⟩
  | .hbm, ⟨9, _⟩ => ⟨S4x704x1024, .bf16⟩
  | .hbm, ⟨10, _⟩ => ⟨S4x1x704x1024, .bf16⟩
  | .hbm, ⟨11, _⟩ => ⟨S4x704x1024, .bf16⟩
  | .hbm, ⟨12, _⟩ => ⟨S4x704x4096, .f32⟩
  | .hbm, ⟨13, _⟩ => ⟨S4x4096x704, .f32⟩
  | .hbm, ⟨14, _⟩ => ⟨S4x704x4096, .f32⟩
  | .hbm, ⟨15, _⟩ => ⟨S4x4096x704, .f32⟩
  | .hbm, ⟨16, _⟩ => ⟨S4x4096x704, .bf16⟩
  | .hbm, ⟨17, _⟩ => ⟨S4x4096x704, .bf16⟩
  | .hbm, ⟨18, _⟩ => ⟨S4x4096x704, .f32⟩
  | .hbm, ⟨19, _⟩ => ⟨S4x4096x704, .f32⟩
  | .hbm, ⟨20, _⟩ => ⟨S_, .f32⟩
  | .hbm, ⟨21, _⟩ => ⟨S4x4096x704, .f32⟩
  | .hbm, ⟨22, _⟩ => ⟨S4x4096x704, .f32⟩
  | .hbm, ⟨23, _⟩ => ⟨S_, .f32⟩
  | .hbm, ⟨24, _⟩ => ⟨S4x4096x704, .f32⟩
  | .hbm, ⟨25, _⟩ => ⟨S4x4096x704, .f32⟩
  | .hbm, ⟨26, _⟩ => ⟨S4x4096x704, .f32⟩
  | .hbm, ⟨27, _⟩ => ⟨S4x4096x704, .f32⟩
  | .hbm, ⟨28, _⟩ => ⟨S4x4096x704, .bf16⟩
  | .hbm, ⟨29, _⟩ => ⟨S_, .f32⟩
  | .hbm, ⟨30, _⟩ => ⟨S8x128, .f32⟩
  | .hbm, ⟨31, _⟩ => ⟨S4x4096x704, .bf16⟩
  | .hbm, ⟨32, _⟩ => ⟨S4x4096x704, .bf16⟩
  | .hbm, ⟨33, _⟩ => ⟨S2x4x704x1024, .bf16⟩
  | .hbm, ⟨34, _⟩ => ⟨S2x4x704x1024, .bf16⟩
  | .hbm, ⟨35, _⟩ => ⟨S2x4x704x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1x704x1024, .bf16⟩
  | .local _ .vmem, ⟨5, _⟩ => ⟨S1x1x704x1024, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | .local _ .vmem, ⟨12, _⟩ => ⟨S8x128, .f32⟩
  | .local _ .vmem, ⟨13, _⟩ => ⟨S1x1024x704, .bf16⟩
  | .local _ .vmem, ⟨14, _⟩ => ⟨S1x1024x704, .bf16⟩
  | .local _ .vmem, ⟨15, _⟩ => ⟨S1x1024x704, .bf16⟩
  | .local _ .vmem, ⟨16, _⟩ => ⟨S1x1024x704, .bf16⟩
  | .local _ .vmem, ⟨17, _⟩ => ⟨S1x1x704x1024, .bf16⟩
  | .local _ .vmem, ⟨18, _⟩ => ⟨S1x1x704x1024, .bf16⟩
  | .local _ .vmem, ⟨19, _⟩ => ⟨S1x1x704x1024, .bf16⟩
  | .local _ .vmem, ⟨20, _⟩ => ⟨S1x1x704x1024, .bf16⟩
  | .local _ .vmem, ⟨21, _⟩ => ⟨S1x1x704x1024, .bf16⟩
  | .local _ .vmem, ⟨22, _⟩ => ⟨S1x1x704x1024, .bf16⟩
  | .local _ .vmem, ⟨23, _⟩ => ⟨S704x1024, .f32⟩
  | .local _ .vmem, ⟨24, _⟩ => ⟨S704x1024, .f32⟩
  | .local _ .vmem, ⟨25, _⟩ => ⟨S704x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_v14_0 : Ref sig .tc := ⟨.hbm, 31, rfl⟩
abbrev main_v14_1 : Ref sig .tc := ⟨.hbm, 32, rfl⟩
abbrev main_v14_2 : Ref sig .tc := ⟨.hbm, 33, rfl⟩
abbrev main_v14_3 : Ref sig .tc := ⟨.hbm, 34, rfl⟩
abbrev main_v14_4 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v57 : BitVec 1 := Scalar.cmpi .eq arg1 c3_i32
  let v58 : BitVec 32 := Scalar.extui v57
  let c0_i32_42 : BitVec 32 := 0#32
  let v59 : BitVec 1 := Scalar.cmpi .ne v58 c0_i32_42
  v59

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x704x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x704x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x704x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== FbGradIdeal.lean ====
abbrev S4096x1024 : Shape := ⟨2, ![4096, 1024]⟩
abbrev S4x2x704x1024 : Shape := ⟨4, ![4, 2, 704, 1024]⟩
abbrev S2x4x704x1024 : Shape := ⟨4, ![2, 4, 704, 1024]⟩
abbrev S4x1x704x1024 : Shape := ⟨4, ![4, 1, 704, 1024]⟩
abbrev S4x704x1024 : Shape := ⟨3, ![4, 704, 1024]⟩
abbrev S4x704x4096 : Shape := ⟨3, ![4, 704, 4096]⟩
abbrev S4x4096x704 : Shape := ⟨3, ![4, 4096, 704]⟩
abbrev S_ : Shape := ⟨0, ![]⟩
abbrev S1024x4x704 : Shape := ⟨3, ![1024, 4, 704]⟩
abbrev S4096x4x704 : Shape := ⟨3, ![4096, 4, 704]⟩
abbrev S1x4x704x1024 : Shape := ⟨4, ![1, 4, 704, 1024]⟩

abbrev nBuf : Space → Nat
  | .hbm => 75
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x2x704x1024, .bf16⟩
  | .hbm, ⟨2, _⟩ => ⟨S4x2x704x1024, .bf16⟩
  | .hbm, ⟨3, _⟩ => ⟨S4x2x704x1024, .bf16⟩
  | .hbm, ⟨4, _⟩ => ⟨S4096x1024, .bf16⟩
  | .hbm, ⟨5, _⟩ => ⟨S2x4x704x1024, .bf16⟩
  | .hbm, ⟨6, _⟩ => ⟨S2x4x704x1024, .bf16⟩
  | .hbm, ⟨7, _⟩ => ⟨S2x4x704x1024, .bf16⟩
  | .hbm, ⟨8, _⟩ => ⟨S4096x1024, .f32⟩
  | .hbm, ⟨9, _⟩ => ⟨S4x1x704x1024, .bf16⟩
  | .hbm, ⟨10, _⟩ => ⟨S4x704x1024, .bf16⟩
  | .hbm, ⟨11, _⟩ => ⟨S4x704x1024, .f32⟩
  | .hbm, ⟨12, _⟩ => ⟨S4x1x704x1024, .bf16⟩
  | .hbm, ⟨13, _⟩ => ⟨S4x704x1024, .bf16⟩
  | .hbm, ⟨14, _⟩ => ⟨S4x704x1024, .f32⟩
  | .hbm, ⟨15, _⟩ => ⟨S4x1x704x1024, .bf16⟩
  | .hbm, ⟨16, _⟩ => ⟨S4x704x1024, .bf16⟩
  | .hbm, ⟨17, _⟩ => ⟨S4x704x1024, .f32⟩
  | .hbm, ⟨18, _⟩ => ⟨S4096x1024, .f32⟩
  | .hbm, ⟨19, _⟩ => ⟨S4x704x4096, .f32⟩
  | .hbm, ⟨20, _⟩ => ⟨S4x4096x704, .f32⟩
  | .hbm, ⟨21, _⟩ => ⟨S4x704x4096, .f32⟩
  | .hbm, ⟨22, _⟩ => ⟨S4x4096x704, .f32⟩
  | .hbm, ⟨23, _⟩ => ⟨S4x4096x704, .f32⟩
  | .hbm, ⟨24, _⟩ => ⟨S4x4096x704, .f32⟩
  | .hbm, ⟨25, _⟩ => ⟨S_, .f32⟩
  | .hbm, ⟨26, _⟩ => ⟨S4x4096x704, .f32⟩
  | .hbm, ⟨27, _⟩ => ⟨S4x4096x704, .f32⟩
  | .hbm, ⟨28, _⟩ => ⟨S_, .f32⟩
  | .hbm, ⟨29, _⟩ => ⟨S4x4096x704, .f32⟩
  | .hbm, ⟨30, _⟩ => ⟨S4x4096x704, .f32⟩
  | .hbm, ⟨31, _⟩ => ⟨S_, .f32⟩
  | .hbm, ⟨32, _⟩ => ⟨S4x4096x704, .f32⟩
  | .hbm, ⟨33, _⟩ => ⟨S4x4096x704, .f32⟩
  | .hbm, ⟨34, _⟩ => ⟨S4x4096x704, .f32⟩
  | .hbm, ⟨35, _⟩ => ⟨S4x4096x704, .f32⟩
  | .hbm, ⟨36, _⟩ => ⟨S4x4096x704, .f32⟩
  | .hbm, ⟨37, _⟩ => ⟨S4096x1024, .f32⟩
  | .hbm, ⟨38, _⟩ => ⟨S1024x4x704, .f32⟩
  | .hbm, ⟨39, _⟩ => ⟨S4x704x1024, .f32⟩
  | .hbm, ⟨40, _⟩ => ⟨S4096x4x704, .f32⟩
  | .hbm, ⟨41, _⟩ => ⟨S4x4096x704, .f32⟩
  | .hbm, ⟨42, _⟩ => ⟨S4x4096x704, .f32⟩
  | .hbm, ⟨43, _⟩ => ⟨S4x4096x704, .f32⟩
  | .hbm, ⟨44, _⟩ => ⟨S4x4096x704, .f32⟩
  | .hbm, ⟨45, _⟩ => ⟨S4x4096x704, .f32⟩
  | .hbm, ⟨46, _⟩ => ⟨S4x4096x704, .f32⟩
  | .hbm, ⟨47, _⟩ => ⟨S4x4096x704, .f32⟩
  | .hbm, ⟨48, _⟩ => ⟨S4x4096x704, .bf16⟩
  | .hbm, ⟨49, _⟩ => ⟨S4x4096x704, .bf16⟩
  | .hbm, ⟨50, _⟩ => ⟨S4x704x1024, .bf16⟩
  | .hbm, ⟨51, _⟩ => ⟨S1x4x704x1024, .bf16⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S2x4x704x1024, .bf16⟩
  | .hbm, ⟨57, _⟩ => ⟨S4x704x4096, .f32⟩
  | .hbm, ⟨58, _⟩ => ⟨S4x704x1024, .f32⟩
  | .hbm, ⟨59, _⟩ => ⟨S4x704x1024, .bf16⟩
  | .hbm, ⟨60, _⟩ => ⟨S1x4x704x1024, .bf16⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S2x4x704x1024, .bf16⟩
  | .hbm, ⟨66, _⟩ => ⟨S4x704x4096, .f32⟩
  | .hbm, ⟨67, _⟩ => ⟨S4x704x1024, .f32⟩
  | .hbm, ⟨68, _⟩ => ⟨S4x704x1024, .bf16⟩
  | .hbm, ⟨69, _⟩ => ⟨S1x4x704x1024, .bf16⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S2x4x704x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_v15_2 : Ref sig .tc := ⟨.hbm, 30, rfl⟩
abbrev main_call0_cst_1 : Ref sig .tc := ⟨.hbm, 31, rfl⟩
abbrev main_call0_v6 : Ref sig .tc := ⟨.hbm, 32, rfl⟩
abbrev main_call0_v7 : Ref sig .tc := ⟨.hbm, 33, rfl⟩
abbrev main_v15_1 : Ref sig .tc := ⟨.hbm, 34, rfl⟩
abbrev main_v15_0 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c : Ref sig .tc := ⟨.hbm, 52, rfl⟩
abbrev main_c_0 : Ref sig .tc := ⟨.hbm, 53, rfl⟩
abbrev main_c_1 : Ref sig .tc := ⟨.hbm, 54, rfl⟩
abbrev main_c_2 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_c_3 : Ref sig .tc := ⟨.hbm, 61, rfl⟩
abbrev main_c_4 : Ref sig .tc := ⟨.hbm, 62, rfl⟩
abbrev main_c_5 : Ref sig .tc := ⟨.hbm, 63, rfl⟩
abbrev main_c_6 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_c_7 : Ref sig .tc := ⟨.hbm, 70, rfl⟩
abbrev main_c_8 : Ref sig .tc := ⟨.hbm, 71, rfl⟩
abbrev main_c_9 : Ref sig .tc := ⟨.hbm, 72, rfl⟩
abbrev main_c_10 : Ref sig .tc := ⟨.hbm, 73, rfl⟩
abbrev main_v39 : Ref sig .tc := ⟨.hbm, 74, rfl⟩

abbrev nD : Nat := 1
abbrev τ : Topo := Topo.v7x

variable {F : FTy → Type} [FloatOps F]
-- ==== LhBwd.lean ====
abbrev S4096x1024 : Shape := ⟨2, ![4096, 1024]⟩
abbrev S1x1 : Shape := ⟨2, ![1, 1]⟩
abbrev S512x1024 : Shape := ⟨2, ![512, 1024]⟩
abbrev S1x1024 : Shape := ⟨2, ![1, 1024]⟩
abbrev S1024 : Shape := ⟨1, ![1024]⟩
abbrev S1 : Shape := ⟨1, ![1]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1, .f32⟩
  | .local _ .vmem, ⟨7, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v15 : BitVec 1 := Scalar.cmpi .eq arg0 c7_i32
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LhGradIdeal.lean ====
abbrev S4096x1024 : Shape := ⟨2, ![4096, 1024]⟩
abbrev S_ : Shape := ⟨0, ![]⟩
abbrev S4096 : Shape := ⟨1, ![4096]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | .hbm, ⟨25, _⟩ => ⟨S1x1, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== BvBwd.lean ====
abbrev S4x16x1024 : Shape := ⟨3, ![4, 16, 1024]⟩
abbrev S16x384 : Shape := ⟨2, ![16, 384]⟩
abbrev S1x16x1024 : Shape := ⟨3, ![1, 16, 1024]⟩
abbrev S16x1024 : Shape := ⟨2, ![16, 1024]⟩
abbrev S384x1024 : Shape := ⟨2, ![384, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4x16x1024, .f32⟩
  | .hbm, ⟨1, _⟩ => ⟨S16x384, .f32⟩
  | .local _ .vmem, ⟨0, _⟩ => ⟨S4x16x1024, .f32⟩
  | .local _ .vmem, ⟨1, _⟩ => ⟨S16x384, .f32⟩
  | _, _ => ⟨S4x16x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== BvGradIdeal.lean ====
abbrev S4x16x1024 : Shape := ⟨3, ![4, 16, 1024]⟩
abbrev S1024 : Shape := ⟨1, ![1024]⟩
abbrev S_ : Shape := ⟨0, ![]⟩
abbrev S16x384 : Shape := ⟨2, ![16, 384]⟩
abbrev S1x1x1024 : Shape := ⟨3, ![1, 1, 1024]⟩
abbrev S384 : Shape := ⟨1, ![384]⟩
abbrev S1x384x1 : Shape := ⟨3, ![1, 384, 1]⟩
abbrev S1x384x1024 : Shape := ⟨3, ![1, 384, 1024]⟩
abbrev S16x384x1 : Shape := ⟨3, ![16, 384, 1]⟩
abbrev S16x384x1024 : Shape := ⟨3, ![16, 384, 1024]⟩
abbrev S16x1024 : Shape := ⟨2, ![16, 1024]⟩
abbrev S1x16x1024 : Shape := ⟨3, ![1, 16, 1024]⟩

abbrev nBuf : Space → Nat
  | .hbm => 51
  | .vmem => 0
  | .smem => 0
  | _ => 0

abbrev bufTy : (tb : Table) → Fin (tcTables nBuf tb) → BufTy
  | .hbm, ⟨0, _⟩ => ⟨S4x16x1024, .f32⟩
  | .hbm, ⟨1, _⟩ => ⟨S1024, .i32⟩
  | .hbm, ⟨2, _⟩ => ⟨S_, .i32⟩
  | .hbm, ⟨3, _⟩ => ⟨S1024, .i32⟩
  | .hbm, ⟨4, _⟩ => ⟨S1024, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S_, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i32⟩
  | .hbm, ⟨16, _⟩ => ⟨S_, .f32⟩
  | .hbm, ⟨17, _⟩ => ⟨S16x384, .f32⟩
  | .hbm, ⟨18, _⟩ => ⟨S1x1x1024, .i32⟩
  | .hbm, ⟨19, _⟩ => ⟨S384, .i32⟩
  | .hbm, ⟨20, _⟩ => ⟨S1x384x1, .i32⟩
  | .hbm, ⟨21, _⟩ => ⟨S1x384x1024, .i32⟩
  | .hbm, ⟨22, _⟩ => ⟨S1x384x1024, .i32⟩
  | .hbm, ⟨23, _⟩ => ⟨S1x384x1024, .i1⟩
  | .hbm, ⟨24, _⟩ => ⟨S16x384x1, .f32⟩
  | .hbm, ⟨25, _⟩ => ⟨S_, .f32⟩
  | .hbm, ⟨26, _⟩ => ⟨S_, .f32⟩
  | .hbm, ⟨27, _⟩ => ⟨S16x384x1024, .i1⟩
  | .hbm, ⟨28, _⟩ => ⟨S16x384x1024, .f32⟩
  | .hbm, ⟨29, _⟩ => ⟨S16x384x1024, .f32⟩
  | .hbm, ⟨30, _⟩ => ⟨S16x384x1024, .f32⟩
  | .hbm, ⟨31, _⟩ => ⟨S_, .f32⟩
  | .hbm, ⟨32, _⟩ => ⟨S16x384x1024, .f32⟩
  | .hbm, ⟨33, _⟩ => ⟨S_, .f32⟩
  | .hbm, ⟨34, _⟩ => ⟨S16x1024, .f32⟩
  | .hbm, ⟨35, _⟩ => ⟨S1x16x1024, .f32⟩
  | .hbm, ⟨36, _⟩ => ⟨S4x16x1024, .f32⟩
  | .hbm, ⟨37, _⟩ => ⟨S_, .f32⟩
  | .hbm, ⟨38, _⟩ => ⟨S16x1024, .f32⟩
  | .hbm, ⟨39, _⟩ => ⟨S1x16x1024, .f32⟩
  | .hbm, ⟨40, _⟩ => ⟨S_, .f32⟩
  | .hbm, ⟨41, _⟩ => ⟨S16x1024, .f32⟩
  | .hbm, ⟨42, _⟩ => ⟨S16x384x1024, .f32⟩
  | .hbm, ⟨43, _⟩ => ⟨S_, .f32⟩
  | .hbm, ⟨44, _⟩ => ⟨S16x384x1024, .f32⟩
  | .hbm, ⟨45, _⟩ => ⟨S16x384x1024, .f32⟩
  | .hbm, ⟨46, _⟩ => ⟨S_, .f32⟩
  | .hbm, ⟨47, _⟩ => ⟨S16x384, .f32⟩
  | .hbm, ⟨48, _⟩ => ⟨S16x384x1, .f32⟩
  | .hbm, ⟨49, _⟩ => ⟨S_, .f32⟩
  | .hbm, ⟨50, _⟩ => ⟨S16x384, .f32⟩
  | _, _ => ⟨S4x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_c_1 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_c_2 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_call1_v0 : Ref sig .tc := ⟨.hbm, 26, rfl⟩
abbrev main_v14_1 : Ref sig .tc := ⟨.hbm, 27, rfl⟩
abbrev main_call1_v2 : Ref sig .tc := ⟨.hbm, 28, rfl⟩
abbrev main_call1_v3 : Ref sig .tc := ⟨.hbm, 29, rfl⟩
abbrev main_v14_0 : Ref sig .tc := ⟨.hbm, 30, rfl⟩
abbrev main_call1_cst : Ref sig .tc := ⟨.hbm, 31, rfl⟩
abbrev main_v14_2 : Ref sig .tc := ⟨.hbm, 32, rfl⟩
abbrev main_cst_4 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_5 : Ref sig .tc := ⟨.hbm, 37, rfl⟩
abbrev main_v18 : Ref sig .tc := ⟨.hbm, 38, rfl⟩
abbrev main_v19 : Ref sig .tc := ⟨.hbm, 39, rfl⟩
abbrev main_cst_6 : Ref sig .tc := ⟨.hbm, 40, rfl⟩
abbrev main_v20 : Ref sig .tc := ⟨.hbm, 41, rfl⟩
abbrev main_v21 : Ref sig .tc := ⟨.hbm, 42, rfl⟩
abbrev main_call2_cst : Ref sig .tc := ⟨.hbm, 43, rfl⟩
abbrev main_call2_v0 : Ref sig .tc := ⟨.hbm, 44, rfl⟩
abbrev main_call2_v1 : Ref sig .tc := ⟨.hbm, 45, rfl⟩
abbrev main_call2_cst_0 : Ref sig .tc := ⟨.hbm, 46, rfl⟩
abbrev main_call2_v2 : Ref sig .tc := ⟨.hbm, 47, rfl⟩
abbrev main_v22 : Ref sig .tc := ⟨.hbm, 48, rfl⟩
abbrev main_cst_7 : Ref sig .tc := ⟨.hbm, 49, rfl⟩
abbrev main_v23 : Ref sig .tc := ⟨.hbm, 50, rfl⟩

abbrev nD : Nat := 1
abbrev τ : Topo := Topo.v7x

variable {F : FTy → Type} [FloatOps F]
-- ==== AfFwd.lean ====
abbrev S4096x3072 : Shape := ⟨2, ![4096, 3072]⟩
abbrev S8x2x1024 : Shape := ⟨3, ![8, 2, 1024]⟩
abbrev S4096x1024 : Shape := ⟨2, ![4096, 1024]⟩
abbrev S2048x128 : Shape := ⟨2, ![2048, 128]⟩
abbrev S1x2x1024 : Shape := ⟨3, ![1, 2, 1024]⟩
abbrev S1x1x1024 : Shape := ⟨3, ![1, 1, 1024]⟩
abbrev S1x1024 : Shape := ⟨2, ![1, 1024]⟩
abbrev S256x1024 : Shape := ⟨2, ![256, 1024]⟩
abbrev S256x768 : Shape := ⟨2, ![256, 768]⟩
abbrev S256x64 : Shape := ⟨2, ![256, 64]⟩
abbrev S256x256 : Shape := ⟨2, ![256, 256]⟩
abbrev S512x64 : Shape := ⟨2, ![512, 64]⟩
abbrev S256x512 : Shape := ⟨2, ![256, 512]⟩
abbrev S256 : Shape := ⟨1, ![256]⟩
abbrev S256x1 : Shape := ⟨2, ![256, 1]⟩
abbrev S768x64 : Shape := ⟨2, ![768, 64]⟩

abbrev nBuf : Space → Nat
  | .hbm => 3
  | .vmem => 10
  | .smem => 0
  | _ => 0

abbrev bufTy : (tb : Table) → Fin (tcTables nBuf tb) → BufTy
  | .hbm, ⟨0, _⟩ => ⟨S4096x3072, .bf16⟩
  | .hbm, ⟨1, _⟩ => ⟨S8x2x1024, .f32⟩
  | .hbm, ⟨2, _⟩ => ⟨S4096x1024, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1x2x1024, .f32⟩
  | .local _ .vmem, ⟨7, _⟩ => ⟨S1x2x1024, .f32⟩
  | .local _ .vmem, ⟨8, _⟩ => ⟨S2048x128, .bf16⟩
  | .local _ .vmem, ⟨9, _⟩ => ⟨S2048x128, .bf16⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AfFwdIdeal.lean ====
variable {F : FTy → Type} [FloatOps F] [Named F]
def κ : String → Option EReal := fun
  | "mask" => some ⊥
  | _ => none
-- ==== AfFormIdeal.lean ====
abbrev S4096x3072 : Shape := ⟨2, ![4096, 3072]⟩
abbrev S8x2x1024 : Shape := ⟨3, ![8, 2, 1024]⟩
abbrev S4096x1024 : Shape := ⟨2, ![4096, 1024]⟩
abbrev S2x2048x16x64 : Shape := ⟨4, ![2, 2048, 16, 64]⟩
abbrev S1x16x1024 : Shape := ⟨3, ![1, 16, 1024]⟩
abbrev S2x16x1024 : Shape := ⟨3, ![2, 16, 1024]⟩
abbrev S32x64 : Shape := ⟨2, ![32, 64]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S2048x2048x1 : Shape := ⟨3, ![2048, 2048, 1]⟩
abbrev S1024 : Shape := ⟨1, ![1024]⟩
abbrev S1x1x1024 : Shape := ⟨3, ![1, 1, 1024]⟩
abbrev S2048x2048x1024 : Shape := ⟨3, ![2048, 2048, 1024]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩
abbrev S2x16x64x2048 : Shape := ⟨4, ![2, 16, 64, 2048]⟩

abbrev nBuf : Space → Nat
  | .hbm => 73
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S8x2x1024, .f32⟩
  | .hbm, ⟨2, _⟩ => ⟨S4096x1024, .bf16⟩
  | .hbm, ⟨3, _⟩ => ⟨S4096x1024, .f32⟩
  | .hbm, ⟨4, _⟩ => ⟨S2x2048x16x64, .f32⟩
  | .hbm, ⟨5, _⟩ => ⟨S4096x1024, .bf16⟩
  | .hbm, ⟨6, _⟩ => ⟨S4096x1024, .f32⟩
  | .hbm, ⟨7, _⟩ => ⟨S2x2048x16x64, .f32⟩
  | .hbm, ⟨8, _⟩ => ⟨S4096x1024, .bf16⟩
  | .hbm, ⟨9, _⟩ => ⟨S4096x1024, .f32⟩
  | .hbm, ⟨10, _⟩ => ⟨S2x2048x16x64, .f32⟩
  | .hbm, ⟨11, _⟩ => ⟨S1x16x1024, .f32⟩
  | .hbm, ⟨12, _⟩ => ⟨S2x16x1024, .f32⟩
  | .hbm, ⟨13, _⟩ => ⟨S32x64, .i32⟩
  | .hbm, ⟨14, _⟩ => ⟨S2048, .i32⟩
  | .hbm, ⟨15, _⟩ => ⟨S2048x1, .i32⟩
  | .hbm, ⟨16, _⟩ => ⟨S1x2048, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S_, .i32⟩
  | .hbm, ⟨21, _⟩ => ⟨S1x2048, .i32⟩
  | .hbm, ⟨22, _⟩ => ⟨S1x2048, .i32⟩
  | .hbm, ⟨23, _⟩ => ⟨S2048x2048, .i32⟩
  | .hbm, ⟨24, _⟩ => ⟨S2048x2048, .i32⟩
  | .hbm, ⟨25, _⟩ => ⟨S2048x2048, .i1⟩
  | .hbm, ⟨26, _⟩ => ⟨S2048x2048, .i1⟩
  | .hbm, ⟨27, _⟩ => ⟨S2048, .i32⟩
  | .hbm, ⟨28, _⟩ => ⟨S1x2048, .i32⟩
  | .hbm, ⟨29, _⟩ => ⟨S2048, .i32⟩
  | .hbm, ⟨30, _⟩ => ⟨S2048x1, .i32⟩
  | .hbm, ⟨31, _⟩ => ⟨S2048x2048, .i32⟩
  | .hbm, ⟨32, _⟩ => ⟨S2048x2048, .i32⟩
  | .hbm, ⟨33, _⟩ => ⟨S2048x2048, .i32⟩
  | .hbm, ⟨34, _⟩ => ⟨S_, .i32⟩
  | .hbm, ⟨35, _⟩ => ⟨S2048x2048, .i32⟩
  | .hbm, ⟨36, _⟩ => ⟨S2048x2048, .i32⟩
  | .hbm, ⟨37, _⟩ => ⟨S2048x2048x1, .i32⟩
  | .hbm, ⟨38, _⟩ => ⟨S1024, .i32⟩
  | .hbm, ⟨39, _⟩ => ⟨S1x1x1024, .i32⟩
  | .hbm, ⟨40, _⟩ => ⟨S2048x2048x1024, .i32⟩
  | .hbm, ⟨41, _⟩ => ⟨S2048x2048x1024, .i32⟩
  | .hbm, ⟨42, _⟩ => ⟨S2048x2048x1024, .i1⟩
  | .hbm, ⟨43, _⟩ => ⟨S2048x2048x1024, .f32⟩
  | .hbm, ⟨44, _⟩ => ⟨S2x16x2048x2048, .f32⟩
  | .hbm, ⟨45, _⟩ => ⟨S2x16x2048x2048, .f32⟩
  | .hbm, ⟨46, _⟩ => ⟨S_, .f32⟩
  | .hbm, ⟨47, _⟩ => ⟨S2x16x2048x2048, .f32⟩
  | .hbm, ⟨48, _⟩ => ⟨S2x16x2048x2048, .f32⟩
  | .hbm, ⟨49, _⟩ => ⟨S2x16x2048x2048, .f32⟩
  | .hbm, ⟨50, _⟩ => ⟨S_, .f32⟩
  | .hbm, ⟨51, _⟩ => ⟨S_, .f32⟩
  | .hbm, ⟨52, _⟩ => ⟨S2x16x2048x2048, .i1⟩
  | .hbm, ⟨53, _⟩ => ⟨S2x16x2048x2048, .f32⟩
  | .hbm, ⟨54, _⟩ => ⟨S2x16x2048x2048, .f32⟩
  | .hbm, ⟨55, _⟩ => ⟨S_, .f32⟩
  | .hbm, ⟨56, _⟩ => ⟨S2x16x2048, .f32⟩
  | .hbm, ⟨57, _⟩ => ⟨S_, .f32⟩
  | .hbm, ⟨58, _⟩ => ⟨S2x16x2048, .f32⟩
  | .hbm, ⟨59, _⟩ => ⟨S2x16x2048, .f32⟩
  | .hbm, ⟨60, _⟩ => ⟨S2x16x2048x1, .f32⟩
  | .hbm, ⟨61, _⟩ => ⟨S2x16x2048x2048, .f32⟩
  | .hbm, ⟨62, _⟩ => ⟨S2x16x2048x2048, .f32⟩
  | .hbm, ⟨63, _⟩ => ⟨S2x16x2048x2048, .f32⟩
  | .hbm, ⟨64, _⟩ => ⟨S_, .f32⟩
  | .hbm, ⟨65, _⟩ => ⟨S2x16x2048, .f32⟩
  | .hbm, ⟨66, _⟩ => ⟨S2x16x2048x1, .f32⟩
  | .hbm, ⟨67, _⟩ => ⟨S2x16x2048x2048, .f32⟩
  | .hbm, ⟨68, _⟩ => ⟨S2x16x2048x2048, .f32⟩
  | .hbm, ⟨69, _⟩ => ⟨S2x16x64x2048, .f32⟩
  | .hbm, ⟨70, _⟩ => ⟨S2x2048x16x64, .f32⟩
  | .hbm, ⟨71, _⟩ => ⟨S4096x1024, .f32⟩
  | .hbm, ⟨72, _⟩ => ⟨S4096x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_c : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_c_0 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_cst : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_cst_1 : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_v45 : Ref sig .tc := ⟨.hbm, 54, rfl⟩
abbrev main_cst_2 : Ref sig .tc := ⟨.hbm, 55, rfl⟩
abbrev main_v46 : Ref sig .tc := ⟨.hbm, 56, rfl⟩
abbrev main_cst_3 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_4 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩

abbrev nD : Nat := 1
abbrev τ : Topo := Topo.v7x

variable {F : FTy → Type} [FloatOps F]
-- ==== SfFwd.lean ====
abbrev S4096x3072 : Shape := ⟨2, ![4096, 3072]⟩
abbrev S4096x1024 : Shape := ⟨2, ![4096, 1024]⟩
abbrev S2048x128 : Shape := ⟨2, ![2048, 128]⟩
abbrev S256x256 : Shape := ⟨2, ![256, 256]⟩
abbrev S256x64 : Shape := ⟨2, ![256, 64]⟩
abbrev S256x1 : Shape := ⟨2, ![256, 1]⟩
abbrev S256 : Shape := ⟨1, ![256]⟩

abbrev nBuf : Space → Nat
  | .hbm => 3
  | .vmem => 10
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S4096x1024, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .f32⟩
  | .local _ .vmem, ⟨9, _⟩ => ⟨S2048x128, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32 : BitVec 32 := 0#32
  let c4_i32 : BitVec 32 := 4#32
  let v6 : BitVec 32 := Scalar.addi c0_i32 c4_i32
  let c1_i32 : BitVec 32 := 1#32
  ⟨c0_i32, v6, c1_i32⟩
def k0_mult1 (k0_t1 : Fin k0_t1_loop.trips) : BitVec 32 :=
  let c2_i32 : BitVec 32 := 2#32
  let c0_i32 : BitVec 32 := 0#32
  let c1_i32 : BitVec 32 := 1#32
  let arg7 : BitVec 32 := Scf.iv c0_i32 c1_i32 k0_t1
  let v7 : BitVec 32 := Scalar.muli c2_i32 arg7
  let c256_i32 : BitVec 32 := 256#32
  let v8 : BitVec 32 := Scalar.muli v7 c256_i32
  v8
def k0_off1 (k0_t1 : Fin k0_t1_loop.trips) : Fin 2 → Nat :=
  let c2_i32 : BitVec 32 := 2#32
  let c0_i32 : BitVec 32 := 0#32
  let c1_i32 : BitVec 32 := 1#32
  let arg7 : BitVec 32 := Scf.iv c0_i32 c1_i32 k0_t1
  let v7 : BitVec 32 := Scalar.muli c2_i32 arg7
  let c256_i32 : BitVec 32 := 256#32
  let v8 : BitVec 32 := Scalar.muli v7 c256_i32
  let v9 : BitVec 32 := v8
  let v10 : Index := Scalar.indexCast v9
  let c0 : Index := 0#32
  ![v10.toNat, 0]
def k0_off2 (k0_t1 : Fin k0_t1_loop.trips) : Fin 2 → Nat :=
  let c2_i32 : BitVec 32 := 2#32
  let c0_i32 : BitVec 32 := 0#32
  let c1_i32 : BitVec 32 := 1#32
  let arg7 : BitVec 32 := Scf.iv c0_i32 c1_i32 k0_t1
  let v7 : BitVec 32 := Scalar.muli c2_i32 arg7
  let c256_i32 : BitVec 32 := 256#32
  let v8 : BitVec 32 := Scalar.muli v7 c256_i32
  let v9 : BitVec 32 := v8
  let v14 : Index := Scalar.indexCast v9
  let c64 : Index := 64#32
  ![v14.toNat, 64]
def k0_mult2 (k0_t1 : Fin k0_t1_loop.trips) : BitVec 32 :=
  let c2_i32 : BitVec 32 := 2#32
  let c0_i32 : BitVec 32 := 0#32
  let c1_i32 : BitVec 32 := 1#32
  let arg7 : BitVec 32 := Scf.iv c0_i32 c1_i32 k0_t1
  let v7 : BitVec 32 := Scalar.muli c2_i32 arg7
  let c256_i32_5 : BitVec 32 := 256#32
  let v21 : BitVec 32 := Scalar.muli v7 c256_i32_5
  v21
def k0_mult3 (k0_t1 : Fin k0_t1_loop.trips) : BitVec 32 :=
  let c2_i32 : BitVec 32 := 2#32
  let c0_i32 : BitVec 32 := 0#32
  let c1_i32 : BitVec 32 := 1#32
  let arg7 : BitVec 32 := Scf.iv c0_i32 c1_i32 k0_t1
  let v7 : BitVec 32 := Scalar.muli c2_i32 arg7
  let c256_i32_6 : BitVec 32 := 256#32
  let v23 : BitVec 32 := Scalar.muli v7 c256_i32_6
  v23
@[reducible] def k0_t2_loop (k0_t1 : Fin k0_t1_loop.trips) : Scf.Loop 32 :=
  let c0_i32_31 : BitVec 32 := 0#32
  let c0_i32 : BitVec 32 := 0#32
  let c1_i32 : BitVec 32 := 1#32
  let arg7 : BitVec 32 := Scf.iv c0_i32 c1_i32 k0_t1
  let v105 : BitVec 32 := Scalar.subi arg7 c0_i32_31
  let c1_i32_32 : BitVec 32 := 1#32
  let v107 : BitVec 32 := Scalar.divsi v105 c1_i32_32
  let v108 : BitVec 32 := Scalar.muli v107 c1_i32_32
  let v109 : BitVec 32 := Scalar.addi c0_i32_31 v108
  let c1_i32_33 : BitVec 32 := 1#32
  ⟨c0_i32_31, v109, c1_i32_33⟩
def k0_mult4 (k0_t1 : Fin k0_t1_loop.trips) (k0_t2 : Fin (k0_t2_loop k0_t1).trips) : BitVec 32 :=
  let c2_i32 : BitVec 32 := 2#32
  let c0_i32 : BitVec 32 := 0#32
  let c1_i32 : BitVec 32 := 1#32
  let arg7 : BitVec 32 := Scf.iv c0_i32 c1_i32 k0_t1
  let v7 : BitVec 32 := Scalar.muli c2_i32 arg7
  let c1_i32_4 : BitVec 32 := 1#32
  let v20 : BitVec 32 := Scalar.subi v7 c1_i32_4
  let c2_i32_106 : BitVec 32 := 2#32
  let c0_i32_31 : BitVec 32 := 0#32
  let c1_i32_33 : BitVec 32 := 1#32
  let arg8 : BitVec 32 := Scf.iv c0_i32_31 c1_i32_33 k0_t2
  let v317 : BitVec 32 := Scalar.muli c2_i32_106 arg8
  let v318 : BitVec 32 := Scalar.subi v20 v317
  let c256_i32_109 : BitVec 32 := 256#32
  let v322 : BitVec 32 := Scalar.muli v318 c256_i32_109
  v322
def k0_mult5 (k0_t1 : Fin k0_t1_loop.trips) (k0_t2 : Fin (k0_t2_loop k0_t1).trips) : BitVec 32 :=
  let c2_i32 : BitVec 32 := 2#32
  let c0_i32 : BitVec 32 := 0#32
  let c1_i32 : BitVec 32 := 1#32
  let arg7 : BitVec 32 := Scf.iv c0_i32 c1_i32 k0_t1
  let v7 : BitVec 32 := Scalar.muli c2_i32 arg7
  let c1_i32_4 : BitVec 32 := 1#32
  let v20 : BitVec 32 := Scalar.subi v7 c1_i32_4
  let c2_i32_107 : BitVec 32 := 2#32
  let c0_i32_31 : BitVec 32 := 0#32
  let c1_i32_33 : BitVec 32 := 1#32
  let arg8 : BitVec 32 := Scf.iv c0_i32_31 c1_i32_33 k0_t2
  let v319 : BitVec 32 := Scalar.muli c2_i32_107 arg8
  let v320 : BitVec 32 := Scalar.subi v20 v319
  let c1_i32_108 : BitVec 32 := 1#32
  let v321 : BitVec 32 := Scalar.subi v320 c1_i32_108
  let c256_i32_110 : BitVec 32 := 256#32
  let v324 : BitVec 32 := Scalar.muli v321 c256_i32_110
  v324
def k0_mult6 (k0_t1 : Fin k0_t1_loop.trips) (k0_t2 : Fin (k0_t2_loop k0_t1).trips) : BitVec 32 :=
  let c2_i32 : BitVec 32 := 2#32
  let c0_i32 : BitVec 32 := 0#32
  let c1_i32 : BitVec 32 := 1#32
  let arg7 : BitVec 32 := Scf.iv c0_i32 c1_i32 k0_t1
  let v7 : BitVec 32 := Scalar.muli c2_i32 arg7
  let c1_i32_4 : BitVec 32 := 1#32
  let v20 : BitVec 32 := Scalar.subi v7 c1_i32_4
  let c2_i32_106 : BitVec 32 := 2#32
  let c0_i32_31 : BitVec 32 := 0#32
  let c1_i32_33 : BitVec 32 := 1#32
  let arg8 : BitVec 32 := Scf.iv c0_i32_31 c1_i32_33 k0_t2
  let v317 : BitVec 32 := Scalar.muli c2_i32_106 arg8
  let v318 : BitVec 32 := Scalar.subi v20 v317
  let c256_i32_111 : BitVec 32 := 256#32
  let v326 : BitVec 32 := Scalar.muli v318 c256_i32_111
  v326
def k0_mult7 (k0_t1 : Fin k0_t1_loop.trips) (k0_t2 : Fin (k0_t2_loop k0_t1).trips) : BitVec 32 :=
  let c2_i32 : BitVec 32 := 2#32
  let c0_i32 : BitVec 32 := 0#32
  let c1_i32 : BitVec 32 := 1#32
  let arg7 : BitVec 32 := Scf.iv c0_i32 c1_i32 k0_t1
  let v7 : BitVec 32 := Scalar.muli c2_i32 arg7
  let c1_i32_4 : BitVec 32 := 1#32
  let v20 : BitVec 32 := Scalar.subi v7 c1_i32_4
  let c2_i32_107 : BitVec 32 := 2#32
  let c0_i32_31 : BitVec 32 := 0#32
  let c1_i32_33 : BitVec 32 := 1#32
  let arg8 : BitVec 32 := Scf.iv c0_i32_31 c1_i32_33 k0_t2
  let v319 : BitVec 32 := Scalar.muli c2_i32_107 arg8
  let v320 : BitVec 32 := Scalar.subi v20 v319
  let c1_i32_108 : BitVec 32 := 1#32
  let v321 : BitVec 32 := Scalar.subi v320 c1_i32_108
  let c256_i32_112 : BitVec 32 := 256#32
  let v328 : BitVec 32 := Scalar.muli v321 c256_i32_112
  v328
def k0_off3 (k0_t1 : Fin k0_t1_loop.trips) (k0_t2 : Fin (k0_t2_loop k0_t1).trips) : Fin 2 → Nat :=
  let c2_i32 : BitVec 32 := 2#32
  let c0_i32 : BitVec 32 := 0#32
  let c1_i32 : BitVec 32 := 1#32
  let arg7 : BitVec 32 := Scf.iv c0_i32 c1_i32 k0_t1
  let v7 : BitVec 32 := Scalar.muli c2_i32 arg7
  let c1_i32_4 : BitVec 32 := 1#32
  let v20 : BitVec 32 := Scalar.subi v7 c1_i32_4
  let c2_i32_106 : BitVec 32 := 2#32
  let c0_i32_31 : BitVec 32 := 0#32
  let c1_i32_33 : BitVec 32 := 1#32
  let arg8 : BitVec 32 := Scf.iv c0_i32_31 c1_i32_33 k0_t2
  let v317 : BitVec 32 := Scalar.muli c2_i32_106 arg8
  let v318 : BitVec 32 := Scalar.subi v20 v317
  let c256_i32_109 : BitVec 32 := 256#32
  let v322 : BitVec 32 := Scalar.muli v318 c256_i32_109
  let v323 : BitVec 32 := v322
  let v330 : Index := Scalar.indexCast v323
  let c0_113 : Index := 0#32
  ![v330.toNat, 0]
def k0_off4 (k0_t1 : Fin k0_t1_loop.trips) (k0_t2 : Fin (k0_t2_loop k0_t1).trips) : Fin 2 → Nat :=
  let c2_i32 : BitVec 32 := 2#32
  let c0_i32 : BitVec 32 := 0#32
  let c1_i32 : BitVec 32 := 1#32
  let arg7 : BitVec 32 := Scf.iv c0_i32 c1_i32 k0_t1
  let v7 : BitVec 32 := Scalar.muli c2_i32 arg7
  let c1_i32_4 : BitVec 32 := 1#32
  let v20 : BitVec 32 := Scalar.subi v7 c1_i32_4
  let c2_i32_107 : BitVec 32 := 2#32
  let c0_i32_31 : BitVec 32 := 0#32
  let c1_i32_33 : BitVec 32 := 1#32
  let arg8 : BitVec 32 := Scf.iv c0_i32_31 c1_i32_33 k0_t2
  let v319 : BitVec 32 := Scalar.muli c2_i32_107 arg8
  let v320 : BitVec 32 := Scalar.subi v20 v319
  let c1_i32_108 : BitVec 32 := 1#32
  let v321 : BitVec 32 := Scalar.subi v320 c1_i32_108
  let c256_i32_110 : BitVec 32 := 256#32
  let v324 : BitVec 32 := Scalar.muli v321 c256_i32_110
  let v325 : BitVec 32 := v324
  let v344 : Index := Scalar.indexCast v325
  let c0_118 : Index := 0#32
  ![v344.toNat, 0]
def k0_off5 (k0_t1 : Fin k0_t1_loop.trips) (k0_t2 : Fin (k0_t2_loop k0_t1).trips) : Fin 2 → Nat :=
  let c2_i32 : BitVec 32 := 2#32
  let c0_i32 : BitVec 32 := 0#32
  let c1_i32 : BitVec 32 := 1#32
  let arg7 : BitVec 32 := Scf.iv c0_i32 c1_i32 k0_t1
  let v7 : BitVec 32 := Scalar.muli c2_i32 arg7
  let c1_i32_4 : BitVec 32 := 1#32
  let v20 : BitVec 32 := Scalar.subi v7 c1_i32_4
  let c2_i32_106 : BitVec 32 := 2#32
  let c0_i32_31 : BitVec 32 := 0#32
  let c1_i32_33 : BitVec 32 := 1#32
  let arg8 : BitVec 32 := Scf.iv c0_i32_31 c1_i32_33 k0_t2
  let v317 : BitVec 32 := Scalar.muli c2_i32_106 arg8
  let v318 : BitVec 32 := Scalar.subi v20 v317
  let c256_i32_111 : BitVec 32 := 256#32
  let v326 : BitVec 32 := Scalar.muli v318 c256_i32_111
  let v327 : BitVec 32 := v326
  let v358 : Index := Scalar.indexCast v327
  let c64_123 : Index := 64#32
  ![v358.toNat, 64]
def k0_off6 (k0_t1 : Fin k0_t1_loop.trips) (k0_t2 : Fin (k0_t2_loop k0_t1).trips) : Fin 2 → Nat :=
  let c2_i32 : BitVec 32 := 2#32
  let c0_i32 : BitVec 32 := 0#32
  let c1_i32 : BitVec 32 := 1#32
  let arg7 : BitVec 32 := Scf.iv c0_i32 c1_i32 k0_t1
  let v7 : BitVec 32 := Scalar.muli c2_i32 arg7
  let c1_i32_4 : BitVec 32 := 1#32
  let v20 : BitVec 32 := Scalar.subi v7 c1_i32_4
  let c2_i32_107 : BitVec 32 := 2#32
  let c0_i32_31 : BitVec 32 := 0#32
  let c1_i32_33 : BitVec 32 := 1#32
  let arg8 : BitVec 32 := Scf.iv c0_i32_31 c1_i32_33 k0_t2
  let v319 : BitVec 32 := Scalar.muli c2_i32_107 arg8
  let v320 : BitVec 32 := Scalar.subi v20 v319
  let c1_i32_108 : BitVec 32 := 1#32
  let v321 : BitVec 32 := Scalar.subi v320 c1_i32_108
  let c256_i32_112 : BitVec 32 := 256#32
  let v328 : BitVec 32 := Scalar.muli v321 c256_i32_112
  let v329 : BitVec 32 := v328
  let v372 : Index := Scalar.indexCast v329
  let c64_128 : Index := 64#32
  ![v372.toNat, 64]
@[reducible] def k0_t3_loop (k0_t1 : Fin k0_t1_loop.trips) : Scf.Loop 32 :=
  let c0_i32_31 : BitVec 32 := 0#32
  let c0_i32 : BitVec 32 := 0#32
  let c1_i32 : BitVec 32 := 1#32
  let arg7 : BitVec 32 := Scf.iv c0_i32 c1_i32 k0_t1
  let v105 : BitVec 32 := Scalar.subi arg7 c0_i32_31
  let c1_i32_32 : BitVec 32 := 1#32
  let v107 : BitVec 32 := Scalar.divsi v105 c1_i32_32
  let v108 : BitVec 32 := Scalar.muli v107 c1_i32_32
  let v109 : BitVec 32 := Scalar.addi c0_i32_31 v108
  let v106 : BitVec 32 := Scalar.addi c0_i32_31 v105
  let c1_i32_34 : BitVec 32 := 1#32
  ⟨v109, v106, c1_i32_34⟩
def k0_mult8 (k0_t1 : Fin k0_t1_loop.trips) (k0_t3 : Fin (k0_t3_loop k0_t1).trips) : BitVec 32 :=
  let c2_i32 : BitVec 32 := 2#32
  let c0_i32 : BitVec 32 := 0#32
  let c1_i32 : BitVec 32 := 1#32
  let arg7 : BitVec 32 := Scf.iv c0_i32 c1_i32 k0_t1
  let v7 : BitVec 32 := Scalar.muli c2_i32 arg7
  let c1_i32_4 : BitVec 32 := 1#32
  let v20 : BitVec 32 := Scalar.subi v7 c1_i32_4
  let c2_i32_106 : BitVec 32 := 2#32
  let c0_i32_31 : BitVec 32 := 0#32
  let v105 : BitVec 32 := Scalar.subi arg7 c0_i32_31
  let c1_i32_32 : BitVec 32 := 1#32
  let v107 : BitVec 32 := Scalar.divsi v105 c1_i32_32
  let v108 : BitVec 32 := Scalar.muli v107 c1_i32_32
  let v109 : BitVec 32 := Scalar.addi c0_i32_31 v108
  let c1_i32_34 : BitVec 32 := 1#32
  let arg8 : BitVec 32 := Scf.iv v109 c1_i32_34 k0_t3
  let v317 : BitVec 32 := Scalar.muli c2_i32_106 arg8
  let v318 : BitVec 32 := Scalar.subi v20 v317
  let c256_i32_109 : BitVec 32 := 256#32
  let v322 : BitVec 32 := Scalar.muli v318 c256_i32_109
  v322
def k0_mult9 (k0_t1 : Fin k0_t1_loop.trips) (k0_t3 : Fin (k0_t3_loop k0_t1).trips) : BitVec 32 :=
  let c2_i32 : BitVec 32 := 2#32
  let c0_i32 : BitVec 32 := 0#32
  let c1_i32 : BitVec 32 := 1#32
  let arg7 : BitVec 32 := Scf.iv c0_i32 c1_i32 k0_t1
  let v7 : BitVec 32 := Scalar.muli c2_i32 arg7
  let c1_i32_4 : BitVec 32 := 1#32
  let v20 : BitVec 32 := Scalar.subi v7 c1_i32_4
  let c2_i32_107 : BitVec 32 := 2#32
  let c0_i32_31 : BitVec 32 := 0#32
  let v105 : BitVec 32 := Scalar.subi arg7 c0_i32_31
  let c1_i32_32 : BitVec 32 := 1#32
  let v107 : BitVec 32 := Scalar.divsi v105 c1_i32_32
  let v108 : BitVec 32 := Scalar.muli v107 c1_i32_32
  let v109 : BitVec 32 := Scalar.addi c0_i32_31 v108
  let c1_i32_34 : BitVec 32 := 1#32
  let arg8 : BitVec 32 := Scf.iv v109 c1_i32_34 k0_t3
  let v319 : BitVec 32 := Scalar.muli c2_i32_107 arg8
  let v320 : BitVec 32 := Scalar.subi v20 v319
  let c1_i32_108 : BitVec 32 := 1#32
  let v321 : BitVec 32 := Scalar.subi v320 c1_i32_108
  let c256_i32_110 : BitVec 32 := 256#32
  let v324 : BitVec 32 := Scalar.muli v321 c256_i32_110
  v324
def k0_mult10 (k0_t1 : Fin k0_t1_loop.trips) (k0_t3 : Fin (k0_t3_loop k0_t1).trips) : BitVec 32 :=
  let c2_i32 : BitVec 32 := 2#32
  let c0_i32 : BitVec 32 := 0#32
  let c1_i32 : BitVec 32 := 1#32
  let arg7 : BitVec 32 := Scf.iv c0_i32 c1_i32 k0_t1
  let v7 : BitVec 32 := Scalar.muli c2_i32 arg7
  let c1_i32_4 : BitVec 32 := 1#32
  let v20 : BitVec 32 := Scalar.subi v7 c1_i32_4
  let c2_i32_106 : BitVec 32 := 2#32
  let c0_i32_31 : BitVec 32 := 0#32
  let v105 : BitVec 32 := Scalar.subi arg7 c0_i32_31
  let c1_i32_32 : BitVec 32 := 1#32
  let v107 : BitVec 32 := Scalar.divsi v105 c1_i32_32
  let v108 : BitVec 32 := Scalar.muli v107 c1_i32_32
  let v109 : BitVec 32 := Scalar.addi c0_i32_31 v108
  let c1_i32_34 : BitVec 32 := 1#32
  let arg8 : BitVec 32 := Scf.iv v109 c1_i32_34 k0_t3
  let v317 : BitVec 32 := Scalar.muli c2_i32_106 arg8
  let v318 : BitVec 32 := Scalar.subi v20 v317
  let c256_i32_111 : BitVec 32 := 256#32
  let v326 : BitVec 32 := Scalar.muli v318 c256_i32_111
  v326
def k0_mult11 (k0_t1 : Fin k0_t1_loop.trips) (k0_t3 : Fin (k0_t3_loop k0_t1).trips) : BitVec 32 :=
  let c2_i32 : BitVec 32 := 2#32
  let c0_i32 : BitVec 32 := 0#32
  let c1_i32 : BitVec 32 := 1#32
  let arg7 : BitVec 32 := Scf.iv c0_i32 c1_i32 k0_t1
  let v7 : BitVec 32 := Scalar.muli c2_i32 arg7
  let c1_i32_4 : BitVec 32 := 1#32
  let v20 : BitVec 32 := Scalar.subi v7 c1_i32_4
  let c2_i32_107 : BitVec 32 := 2#32
  let c0_i32_31 : BitVec 32 := 0#32
  let v105 : BitVec 32 := Scalar.subi arg7 c0_i32_31
  let c1_i32_32 : BitVec 32 := 1#32
  let v107 : BitVec 32 := Scalar.divsi v105 c1_i32_32
  let v108 : BitVec 32 := Scalar.muli v107 c1_i32_32
  let v109 : BitVec 32 := Scalar.addi c0_i32_31 v108
  let c1_i32_34 : BitVec 32 := 1#32
  let arg8 : BitVec 32 := Scf.iv v109 c1_i32_34 k0_t3
  let v319 : BitVec 32 := Scalar.muli c2_i32_107 arg8
  let v320 : BitVec 32 := Scalar.subi v20 v319
  let c1_i32_108 : BitVec 32 := 1#32
  let v321 : BitVec 32 := Scalar.subi v320 c1_i32_108
  let c256_i32_112 : BitVec 32 := 256#32
  let v328 : BitVec 32 := Scalar.muli v321 c256_i32_112
  v328
def k0_off7 (k0_t1 : Fin k0_t1_loop.trips) (k0_t3 : Fin (k0_t3_loop k0_t1).trips) : Fin 2 → Nat :=
  let c2_i32 : BitVec 32 := 2#32
  let c0_i32 : BitVec 32 := 0#32
  let c1_i32 : BitVec 32 := 1#32
  let arg7 : BitVec 32 := Scf.iv c0_i32 c1_i32 k0_t1
  let v7 : BitVec 32 := Scalar.muli c2_i32 arg7
  let c1_i32_4 : BitVec 32 := 1#32
  let v20 : BitVec 32 := Scalar.subi v7 c1_i32_4
  let c2_i32_106 : BitVec 32 := 2#32
  let c0_i32_31 : BitVec 32 := 0#32
  let v105 : BitVec 32 := Scalar.subi arg7 c0_i32_31
  let c1_i32_32 : BitVec 32 := 1#32
  let v107 : BitVec 32 := Scalar.divsi v105 c1_i32_32
  let v108 : BitVec 32 := Scalar.muli v107 c1_i32_32
  let v109 : BitVec 32 := Scalar.addi c0_i32_31 v108
  let c1_i32_34 : BitVec 32 := 1#32
  let arg8 : BitVec 32 := Scf.iv v109 c1_i32_34 k0_t3
  let v317 : BitVec 32 := Scalar.muli c2_i32_106 arg8
  let v318 : BitVec 32 := Scalar.subi v20 v317
  let c256_i32_109 : BitVec 32 := 256#32
  let v322 : BitVec 32 := Scalar.muli v318 c256_i32_109
  let v323 : BitVec 32 := v322
  let v330 : Index := Scalar.indexCast v323
  let c0_113 : Index := 0#32
  ![v330.toNat, 0]
def k0_off8 (k0_t1 : Fin k0_t1_loop.trips) (k0_t3 : Fin (k0_t3_loop k0_t1).trips) : Fin 2 → Nat :=
  let c2_i32 : BitVec 32 := 2#32
  let c0_i32 : BitVec 32 := 0#32
  let c1_i32 : BitVec 32 := 1#32
  let arg7 : BitVec 32 := Scf.iv c0_i32 c1_i32 k0_t1
  let v7 : BitVec 32 := Scalar.muli c2_i32 arg7
  let c1_i32_4 : BitVec 32 := 1#32
  let v20 : BitVec 32 := Scalar.subi v7 c1_i32_4
  let c2_i32_107 : BitVec 32 := 2#32
  let c0_i32_31 : BitVec 32 := 0#32
  let v105 : BitVec 32 := Scalar.subi arg7 c0_i32_31
  let c1_i32_32 : BitVec 32 := 1#32
  let v107 : BitVec 32 := Scalar.divsi v105 c1_i32_32
  let v108 : BitVec 32 := Scalar.muli v107 c1_i32_32
  let v109 : BitVec 32 := Scalar.addi c0_i32_31 v108
  let c1_i32_34 : BitVec 32 := 1#32
  let arg8 : BitVec 32 := Scf.iv v109 c1_i32_34 k0_t3
  let v319 : BitVec 32 := Scalar.muli c2_i32_107 arg8
  let v320 : BitVec 32 := Scalar.subi v20 v319
  let c1_i32_108 : BitVec 32 := 1#32
  let v321 : BitVec 32 := Scalar.subi v320 c1_i32_108
  let c256_i32_110 : BitVec 32 := 256#32
  let v324 : BitVec 32 := Scalar.muli v321 c256_i32_110
  let v325 : BitVec 32 := v324
  let v344 : Index := Scalar.indexCast v325
  let c0_118 : Index := 0#32
  ![v344.toNat, 0]
def k0_off9 (k0_t1 : Fin k0_t1_loop.trips) (k0_t3 : Fin (k0_t3_loop k0_t1).trips) : Fin 2 → Nat :=
  let c2_i32 : BitVec 32 := 2#32
  let c0_i32 : BitVec 32 := 0#32
  let c1_i32 : BitVec 32 := 1#32
  let arg7 : BitVec 32 := Scf.iv c0_i32 c1_i32 k0_t1
  let v7 : BitVec 32 := Scalar.muli c2_i32 arg7
  let c1_i32_4 : BitVec 32 := 1#32
  let v20 : BitVec 32 := Scalar.subi v7 c1_i32_4
  let c2_i32_106 : BitVec 32 := 2#32
  let c0_i32_31 : BitVec 32 := 0#32
  let v105 : BitVec 32 := Scalar.subi arg7 c0_i32_31
  let c1_i32_32 : BitVec 32 := 1#32
  let v107 : BitVec 32 := Scalar.divsi v105 c1_i32_32
  let v108 : BitVec 32 := Scalar.muli v107 c1_i32_32
  let v109 : BitVec 32 := Scalar.addi c0_i32_31 v108
  let c1_i32_34 : BitVec 32 := 1#32
  let arg8 : BitVec 32 := Scf.iv v109 c1_i32_34 k0_t3
  let v317 : BitVec 32 := Scalar.muli c2_i32_106 arg8
  let v318 : BitVec 32 := Scalar.subi v20 v317
  let c256_i32_111 : BitVec 32 := 256#32
  let v326 : BitVec 32 := Scalar.muli v318 c256_i32_111
  let v327 : BitVec 32 := v326
  let v358 : Index := Scalar.indexCast v327
  let c64_123 : Index := 64#32
  ![v358.toNat, 64]
def k0_off10 (k0_t1 : Fin k0_t1_loop.trips) (k0_t3 : Fin (k0_t3_loop k0_t1).trips) : Fin 2 → Nat :=
  let c2_i32 : BitVec 32 := 2#32
  let c0_i32 : BitVec 32 := 0#32
  let c1_i32 : BitVec 32 := 1#32
  let arg7 : BitVec 32 := Scf.iv c0_i32 c1_i32 k0_t1
  let v7 : BitVec 32 := Scalar.muli c2_i32 arg7
  let c1_i32_4 : BitVec 32 := 1#32
  let v20 : BitVec 32 := Scalar.subi v7 c1_i32_4
  let c2_i32_107 : BitVec 32 := 2#32
  let c0_i32_31 : BitVec 32 := 0#32
  let v105 : BitVec 32 := Scalar.subi arg7 c0_i32_31
  let c1_i32_32 : BitVec 32 := 1#32
  let v107 : BitVec 32 := Scalar.divsi v105 c1_i32_32
  let v108 : BitVec 32 := Scalar.muli v107 c1_i32_32
  let v109 : BitVec 32 := Scalar.addi c0_i32_31 v108
  let c1_i32_34 : BitVec 32 := 1#32
  let arg8 : BitVec 32 := Scf.iv v109 c1_i32_34 k0_t3
  let v319 : BitVec 32 := Scalar.muli c2_i32_107 arg8
  let v320 : BitVec 32 := Scalar.subi v20 v319
  let c1_i32_108 : BitVec 32 := 1#32
  let v321 : BitVec 32 := Scalar.subi v320 c1_i32_108
  let c256_i32_112 : BitVec 32 := 256#32
  let v328 : BitVec 32 := Scalar.muli v321 c256_i32_112
  let v329 : BitVec 32 := v328
  let v372 : Index := Scalar.indexCast v329
  let c64_128 : Index := 64#32
  ![v372.toNat, 64]
def k0_mult12 (k0_t1 : Fin k0_t1_loop.trips) : BitVec 32 :=
  let c2_i32_39 : BitVec 32 := 2#32
  let c0_i32 : BitVec 32 := 0#32
  let c1_i32 : BitVec 32 := 1#32
  let arg7 : BitVec 32 := Scf.iv c0_i32 c1_i32 k0_t1
  let v126 : BitVec 32 := Scalar.muli c2_i32_39 arg7
  let c1_i32_40 : BitVec 32 := 1#32
  let v127 : BitVec 32 := Scalar.addi v126 c1_i32_40
  let c256_i32_41 : BitVec 32 := 256#32
  let v128 : BitVec 32 := Scalar.muli v127 c256_i32_41
  v128
def k0_off11 (k0_t1 : Fin k0_t1_loop.trips) : Fin 2 → Nat :=
  let c2_i32_39 : BitVec 32 := 2#32
  let c0_i32 : BitVec 32 := 0#32
  let c1_i32 : BitVec 32 := 1#32
  let arg7 : BitVec 32 := Scf.iv c0_i32 c1_i32 k0_t1
  let v126 : BitVec 32 := Scalar.muli c2_i32_39 arg7
  let c1_i32_40 : BitVec 32 := 1#32
  let v127 : BitVec 32 := Scalar.addi v126 c1_i32_40
  let c256_i32_41 : BitVec 32 := 256#32
  let v128 : BitVec 32 := Scalar.muli v127 c256_i32_41
  let v129 : BitVec 32 := v128
  let v130 : Index := Scalar.indexCast v129
  let c0_42 : Index := 0#32
  ![v130.toNat, 0]
def k0_off12 (k0_t1 : Fin k0_t1_loop.trips) : Fin 2 → Nat :=
  let c2_i32_39 : BitVec 32 := 2#32
  let c0_i32 : BitVec 32 := 0#32
  let c1_i32 : BitVec 32 := 1#32
  let arg7 : BitVec 32 := Scf.iv c0_i32 c1_i32 k0_t1
  let v126 : BitVec 32 := Scalar.muli c2_i32_39 arg7
  let c1_i32_40 : BitVec 32 := 1#32
  let v127 : BitVec 32 := Scalar.addi v126 c1_i32_40
  let c256_i32_41 : BitVec 32 := 256#32
  let v128 : BitVec 32 := Scalar.muli v127 c256_i32_41
  let v129 : BitVec 32 := v128
  let v134 : Index := Scalar.indexCast v129
  let c64_44 : Index := 64#32
  ![v134.toNat, 64]
def k0_mult13 (k0_t1 : Fin k0_t1_loop.trips) : BitVec 32 :=
  let c2_i32_39 : BitVec 32 := 2#32
  let c0_i32 : BitVec 32 := 0#32
  let c1_i32 : BitVec 32 := 1#32
  let arg7 : BitVec 32 := Scf.iv c0_i32 c1_i32 k0_t1
  let v126 : BitVec 32 := Scalar.muli c2_i32_39 arg7
  let c1_i32_40 : BitVec 32 := 1#32
  let v127 : BitVec 32 := Scalar.addi v126 c1_i32_40
  let c256_i32_50 : BitVec 32 := 256#32
  let v142 : BitVec 32 := Scalar.muli v127 c256_i32_50
  v142
def k0_mult14 (k0_t1 : Fin k0_t1_loop.trips) : BitVec 32 :=
  let c2_i32_39 : BitVec 32 := 2#32
  let c0_i32 : BitVec 32 := 0#32
  let c1_i32 : BitVec 32 := 1#32
  let arg7 : BitVec 32 := Scf.iv c0_i32 c1_i32 k0_t1
  let v126 : BitVec 32 := Scalar.muli c2_i32_39 arg7
  let c1_i32_40 : BitVec 32 := 1#32
  let v127 : BitVec 32 := Scalar.addi v126 c1_i32_40
  let c1_i32_48 : BitVec 32 := 1#32
  let v140 : BitVec 32 := Scalar.subi v127 c1_i32_48
  let c256_i32_51 : BitVec 32 := 256#32
  let v144 : BitVec 32 := Scalar.muli v140 c256_i32_51
  v144
def k0_mult15 (k0_t1 : Fin k0_t1_loop.trips) : BitVec 32 :=
  let c2_i32_39 : BitVec 32 := 2#32
  let c0_i32 : BitVec 32 := 0#32
  let c1_i32 : BitVec 32 := 1#32
  let arg7 : BitVec 32 := Scf.iv c0_i32 c1_i32 k0_t1
  let v126 : BitVec 32 := Scalar.muli c2_i32_39 arg7
  let c1_i32_40 : BitVec 32 := 1#32
  let v127 : BitVec 32 := Scalar.addi v126 c1_i32_40
  let c256_i32_52 : BitVec 32 := 256#32
  let v146 : BitVec 32 := Scalar.muli v127 c256_i32_52
  v146
def k0_mult16 (k0_t1 : Fin k0_t1_loop.trips) : BitVec 32 :=
  let c2_i32_39 : BitVec 32 := 2#32
  let c0_i32 : BitVec 32 := 0#32
  let c1_i32 : BitVec 32 := 1#32
  let arg7 : BitVec 32 := Scf.iv c0_i32 c1_i32 k0_t1
  let v126 : BitVec 32 := Scalar.muli c2_i32_39 arg7
  let c1_i32_40 : BitVec 32 := 1#32
  let v127 : BitVec 32 := Scalar.addi v126 c1_i32_40
  let c1_i32_48 : BitVec 32 := 1#32
  let v140 : BitVec 32 := Scalar.subi v127 c1_i32_48
  let c256_i32_53 : BitVec 32 := 256#32
  let v148 : BitVec 32 := Scalar.muli v140 c256_i32_53
  v148
def k0_off13 (k0_t1 : Fin k0_t1_loop.trips) : Fin 2 → Nat :=
  let c2_i32_39 : BitVec 32 := 2#32
  let c0_i32 : BitVec 32 := 0#32
  let c1_i32 : BitVec 32 := 1#32
  let arg7 : BitVec 32 := Scf.iv c0_i32 c1_i32 k0_t1
  let v126 : BitVec 32 := Scalar.muli c2_i32_39 arg7
  let c1_i32_40 : BitVec 32 := 1#32
  let v127 : BitVec 32 := Scalar.addi v126 c1_i32_40
  let c1_i32_48 : BitVec 32 := 1#32
  let v140 : BitVec 32 := Scalar.subi v127 c1_i32_48
  let c256_i32_51 : BitVec 32 := 256#32
  let v144 : BitVec 32 := Scalar.muli v140 c256_i32_51
  let v145 : BitVec 32 := v144
  let v169 : Index := Scalar.indexCast v145
  let c0_60 : Index := 0#32
  ![v169.toNat, 0]
def k0_off14 (k0_t1 : Fin k0_t1_loop.trips) : Fin 2 → Nat :=
  let c2_i32_39 : BitVec 32 := 2#32
  let c0_i32 : BitVec 32 := 0#32
  let c1_i32 : BitVec 32 := 1#32
  let arg7 : BitVec 32 := Scf.iv c0_i32 c1_i32 k0_t1
  let v126 : BitVec 32 := Scalar.muli c2_i32_39 arg7
  let c1_i32_40 : BitVec 32 := 1#32
  let v127 : BitVec 32 := Scalar.addi v126 c1_i32_40
  let c1_i32_48 : BitVec 32 := 1#32
  let v140 : BitVec 32 := Scalar.subi v127 c1_i32_48
  let c256_i32_53 : BitVec 32 := 256#32
  let v148 : BitVec 32 := Scalar.muli v140 c256_i32_53
  let v149 : BitVec 32 := v148
  let v202 : Index := Scalar.indexCast v149
  let c64_71 : Index := 64#32
  ![v202.toNat, 64]
@[reducible] def k0_t4_loop (k0_t1 : Fin k0_t1_loop.trips) : Scf.Loop 32 :=
  let c0_i32_98 : BitVec 32 := 0#32
  let c0_i32 : BitVec 32 := 0#32
  let c1_i32 : BitVec 32 := 1#32
  let arg7 : BitVec 32 := Scf.iv c0_i32 c1_i32 k0_t1
  let v296 : BitVec 32 := Scalar.subi arg7 c0_i32_98
  let c1_i32_99 : BitVec 32 := 1#32
  let v298 : BitVec 32 := Scalar.divsi v296 c1_i32_99
  let v299 : BitVec 32 := Scalar.muli v298 c1_i32_99
  let v300 : BitVec 32 := Scalar.addi c0_i32_98 v299
  let c1_i32_100 : BitVec 32 := 1#32
  ⟨c0_i32_98, v300, c1_i32_100⟩
def k0_mult17 (k0_t1 : Fin k0_t1_loop.trips) (k0_t4 : Fin (k0_t4_loop k0_t1).trips) : BitVec 32 :=
  let c2_i32_39 : BitVec 32 := 2#32
  let c0_i32 : BitVec 32 := 0#32
  let c1_i32 : BitVec 32 := 1#32
  let arg7 : BitVec 32 := Scf.iv c0_i32 c1_i32 k0_t1
  let v126 : BitVec 32 := Scalar.muli c2_i32_39 arg7
  let c1_i32_40 : BitVec 32 := 1#32
  let v127 : BitVec 32 := Scalar.addi v126 c1_i32_40
  let c2_i32_49 : BitVec 32 := 2#32
  let v141 : BitVec 32 := Scalar.subi v127 c2_i32_49
  let c2_i32_106 : BitVec 32 := 2#32
  let c0_i32_98 : BitVec 32 := 0#32
  let c1_i32_100 : BitVec 32 := 1#32
  let arg8 : BitVec 32 := Scf.iv c0_i32_98 c1_i32_100 k0_t4
  let v317 : BitVec 32 := Scalar.muli c2_i32_106 arg8
  let v318 : BitVec 32 := Scalar.subi v141 v317
  let c256_i32_109 : BitVec 32 := 256#32
  let v322 : BitVec 32 := Scalar.muli v318 c256_i32_109
  v322
def k0_mult18 (k0_t1 : Fin k0_t1_loop.trips) (k0_t4 : Fin (k0_t4_loop k0_t1).trips) : BitVec 32 :=
  let c2_i32_39 : BitVec 32 := 2#32
  let c0_i32 : BitVec 32 := 0#32
  let c1_i32 : BitVec 32 := 1#32
  let arg7 : BitVec 32 := Scf.iv c0_i32 c1_i32 k0_t1
  let v126 : BitVec 32 := Scalar.muli c2_i32_39 arg7
  let c1_i32_40 : BitVec 32 := 1#32
  let v127 : BitVec 32 := Scalar.addi v126 c1_i32_40
  let c2_i32_49 : BitVec 32 := 2#32
  let v141 : BitVec 32 := Scalar.subi v127 c2_i32_49
  let c2_i32_107 : BitVec 32 := 2#32
  let c0_i32_98 : BitVec 32 := 0#32
  let c1_i32_100 : BitVec 32 := 1#32
  let arg8 : BitVec 32 := Scf.iv c0_i32_98 c1_i32_100 k0_t4
  let v319 : BitVec 32 := Scalar.muli c2_i32_107 arg8
  let v320 : BitVec 32 := Scalar.subi v141 v319
  let c1_i32_108 : BitVec 32 := 1#32
  let v321 : BitVec 32 := Scalar.subi v320 c1_i32_108
  let c256_i32_110 : BitVec 32 := 256#32
  let v324 : BitVec 32 := Scalar.muli v321 c256_i32_110
  v324
def k0_mult19 (k0_t1 : Fin k0_t1_loop.trips) (k0_t4 : Fin (k0_t4_loop k0_t1).trips) : BitVec 32 :=
  let c2_i32_39 : BitVec 32 := 2#32
  let c0_i32 : BitVec 32 := 0#32
  let c1_i32 : BitVec 32 := 1#32
  let arg7 : BitVec 32 := Scf.iv c0_i32 c1_i32 k0_t1
  let v126 : BitVec 32 := Scalar.muli c2_i32_39 arg7
  let c1_i32_40 : BitVec 32 := 1#32
  let v127 : BitVec 32 := Scalar.addi v126 c1_i32_40
  let c2_i32_49 : BitVec 32 := 2#32
  let v141 : BitVec 32 := Scalar.subi v127 c2_i32_49
  let c2_i32_106 : BitVec 32 := 2#32
  let c0_i32_98 : BitVec 32 := 0#32
  let c1_i32_100 : BitVec 32 := 1#32
  let arg8 : BitVec 32 := Scf.iv c0_i32_98 c1_i32_100 k0_t4
  let v317 : BitVec 32 := Scalar.muli c2_i32_106 arg8
  let v318 : BitVec 32 := Scalar.subi v141 v317
  let c256_i32_111 : BitVec 32 := 256#32
  let v326 : BitVec 32 := Scalar.muli v318 c256_i32_111
  v326
def k0_mult20 (k0_t1 : Fin k0_t1_loop.trips) (k0_t4 : Fin (k0_t4_loop k0_t1).trips) : BitVec 32 :=
  let c2_i32_39 : BitVec 32 := 2#32
  let c0_i32 : BitVec 32 := 0#32
  let c1_i32 : BitVec 32 := 1#32
  let arg7 : BitVec 32 := Scf.iv c0_i32 c1_i32 k0_t1
  let v126 : BitVec 32 := Scalar.muli c2_i32_39 arg7
  let c1_i32_40 : BitVec 32 := 1#32
  let v127 : BitVec 32 := Scalar.addi v126 c1_i32_40
  let c2_i32_49 : BitVec 32 := 2#32
  let v141 : BitVec 32 := Scalar.subi v127 c2_i32_49
  let c2_i32_107 : BitVec 32 := 2#32
  let c0_i32_98 : BitVec 32 := 0#32
  let c1_i32_100 : BitVec 32 := 1#32
  let arg8 : BitVec 32 := Scf.iv c0_i32_98 c1_i32_100 k0_t4
  let v319 : BitVec 32 := Scalar.muli c2_i32_107 arg8
  let v320 : BitVec 32 := Scalar.subi v141 v319
  let c1_i32_108 : BitVec 32 := 1#32
  let v321 : BitVec 32 := Scalar.subi v320 c1_i32_108
  let c256_i32_112 : BitVec 32 := 256#32
  let v328 : BitVec 32 := Scalar.muli v321 c256_i32_112
  v328
def k0_off15 (k0_t1 : Fin k0_t1_loop.trips) (k0_t4 : Fin (k0_t4_loop k0_t1).trips) : Fin 2 → Nat :=
  let c2_i32_39 : BitVec 32 := 2#32
  let c0_i32 : BitVec 32 := 0#32
  let c1_i32 : BitVec 32 := 1#32
  let arg7 : BitVec 32 := Scf.iv c0_i32 c1_i32 k0_t1
  let v126 : BitVec 32 := Scalar.muli c2_i32_39 arg7
  let c1_i32_40 : BitVec 32 := 1#32
  let v127 : BitVec 32 := Scalar.addi v126 c1_i32_40
  let c2_i32_49 : BitVec 32 := 2#32
  let v141 : BitVec 32 := Scalar.subi v127 c2_i32_49
  let c2_i32_106 : BitVec 32 := 2#32
  let c0_i32_98 : BitVec 32 := 0#32
  let c1_i32_100 : BitVec 32 := 1#32
  let arg8 : BitVec 32 := Scf.iv c0_i32_98 c1_i32_100 k0_t4
  let v317 : BitVec 32 := Scalar.muli c2_i32_106 arg8
  let v318 : BitVec 32 := Scalar.subi v141 v317
  let c256_i32_109 : BitVec 32 := 256#32
  let v322 : BitVec 32 := Scalar.muli v318 c256_i32_109
  let v323 : BitVec 32 := v322
  let v330 : Index := Scalar.indexCast v323
  let c0_113 : Index := 0#32
  ![v330.toNat, 0]
def k0_off16 (k0_t1 : Fin k0_t1_loop.trips) (k0_t4 : Fin (k0_t4_loop k0_t1).trips) : Fin 2 → Nat :=
  let c2_i32_39 : BitVec 32 := 2#32
  let c0_i32 : BitVec 32 := 0#32
  let c1_i32 : BitVec 32 := 1#32
  let arg7 : BitVec 32 := Scf.iv c0_i32 c1_i32 k0_t1
  let v126 : BitVec 32 := Scalar.muli c2_i32_39 arg7
  let c1_i32_40 : BitVec 32 := 1#32
  let v127 : BitVec 32 := Scalar.addi v126 c1_i32_40
  let c2_i32_49 : BitVec 32 := 2#32
  let v141 : BitVec 32 := Scalar.subi v127 c2_i32_49
  let c2_i32_107 : BitVec 32 := 2#32
  let c0_i32_98 : BitVec 32 := 0#32
  let c1_i32_100 : BitVec 32 := 1#32
  let arg8 : BitVec 32 := Scf.iv c0_i32_98 c1_i32_100 k0_t4
  let v319 : BitVec 32 := Scalar.muli c2_i32_107 arg8
  let v320 : BitVec 32 := Scalar.subi v141 v319
  let c1_i32_108 : BitVec 32 := 1#32
  let v321 : BitVec 32 := Scalar.subi v320 c1_i32_108
  let c256_i32_110 : BitVec 32 := 256#32
  let v324 : BitVec 32 := Scalar.muli v321 c256_i32_110
  let v325 : BitVec 32 := v324
  let v344 : Index := Scalar.indexCast v325
  let c0_118 : Index := 0#32
  ![v344.toNat, 0]
def k0_off17 (k0_t1 : Fin k0_t1_loop.trips) (k0_t4 : Fin (k0_t4_loop k0_t1).trips) : Fin 2 → Nat :=
  let c2_i32_39 : BitVec 32 := 2#32
  let c0_i32 : BitVec 32 := 0#32
  let c1_i32 : BitVec 32 := 1#32
  let arg7 : BitVec 32 := Scf.iv c0_i32 c1_i32 k0_t1
  let v126 : BitVec 32 := Scalar.muli c2_i32_39 arg7
  let c1_i32_40 : BitVec 32 := 1#32
  let v127 : BitVec 32 := Scalar.addi v126 c1_i32_40
  let c2_i32_49 : BitVec 32 := 2#32
  let v141 : BitVec 32 := Scalar.subi v127 c2_i32_49
  let c2_i32_106 : BitVec 32 := 2#32
  let c0_i32_98 : BitVec 32 := 0#32
  let c1_i32_100 : BitVec 32 := 1#32
  let arg8 : BitVec 32 := Scf.iv c0_i32_98 c1_i32_100 k0_t4
  let v317 : BitVec 32 := Scalar.muli c2_i32_106 arg8
  let v318 : BitVec 32 := Scalar.subi v141 v317
  let c256_i32_111 : BitVec 32 := 256#32
  let v326 : BitVec 32 := Scalar.muli v318 c256_i32_111
  let v327 : BitVec 32 := v326
  let v358 : Index := Scalar.indexCast v327
  let c64_123 : Index := 64#32
  ![v358.toNat, 64]
def k0_off18 (k0_t1 : Fin k0_t1_loop.trips) (k0_t4 : Fin (k0_t4_loop k0_t1).trips) : Fin 2 → Nat :=
  let c2_i32_39 : BitVec 32 := 2#32
  let c0_i32 : BitVec 32 := 0#32
  let c1_i32 : BitVec 32 := 1#32
  let arg7 : BitVec 32 := Scf.iv c0_i32 c1_i32 k0_t1
  let v126 : BitVec 32 := Scalar.muli c2_i32_39 arg7
  let c1_i32_40 : BitVec 32 := 1#32
  let v127 : BitVec 32 := Scalar.addi v126 c1_i32_40
  let c2_i32_49 : BitVec 32 := 2#32
  let v141 : BitVec 32 := Scalar.subi v127 c2_i32_49
  let c2_i32_107 : BitVec 32 := 2#32
  let c0_i32_98 : BitVec 32 := 0#32
  let c1_i32_100 : BitVec 32 := 1#32
  let arg8 : BitVec 32 := Scf.iv c0_i32_98 c1_i32_100 k0_t4
  let v319 : BitVec 32 := Scalar.muli c2_i32_107 arg8
  let v320 : BitVec 32 := Scalar.subi v141 v319
  let c1_i32_108 : BitVec 32 := 1#32
  let v321 : BitVec 32 := Scalar.subi v320 c1_i32_108
  let c256_i32_112 : BitVec 32 := 256#32
  let v328 : BitVec 32 := Scalar.muli v321 c256_i32_112
  let v329 : BitVec 32 := v328
  let v372 : Index := Scalar.indexCast v329
  let c64_128 : Index := 64#32
  ![v372.toNat, 64]
@[reducible] def k0_t5_loop (k0_t1 : Fin k0_t1_loop.trips) : Scf.Loop 32 :=
  let c0_i32_98 : BitVec 32 := 0#32
  let c0_i32 : BitVec 32 := 0#32
  let c1_i32 : BitVec 32 := 1#32
  let arg7 : BitVec 32 := Scf.iv c0_i32 c1_i32 k0_t1
  let v296 : BitVec 32 := Scalar.subi arg7 c0_i32_98
  let c1_i32_99 : BitVec 32 := 1#32
  let v298 : BitVec 32 := Scalar.divsi v296 c1_i32_99
  let v299 : BitVec 32 := Scalar.muli v298 c1_i32_99
  let v300 : BitVec 32 := Scalar.addi c0_i32_98 v299
  let v297 : BitVec 32 := Scalar.addi c0_i32_98 v296
  let c1_i32_101 : BitVec 32 := 1#32
  ⟨v300, v297, c1_i32_101⟩
def k0_mult21 (k0_t1 : Fin k0_t1_loop.trips) (k0_t5 : Fin (k0_t5_loop k0_t1).trips) : BitVec 32 :=
  let c2_i32_39 : BitVec 32 := 2#32
  let c0_i32 : BitVec 32 := 0#32
  let c1_i32 : BitVec 32 := 1#32
  let arg7 : BitVec 32 := Scf.iv c0_i32 c1_i32 k0_t1
  let v126 : BitVec 32 := Scalar.muli c2_i32_39 arg7
  let c1_i32_40 : BitVec 32 := 1#32
  let v127 : BitVec 32 := Scalar.addi v126 c1_i32_40
  let c2_i32_49 : BitVec 32 := 2#32
  let v141 : BitVec 32 := Scalar.subi v127 c2_i32_49
  let c2_i32_106 : BitVec 32 := 2#32
  let c0_i32_98 : BitVec 32 := 0#32
  let v296 : BitVec 32 := Scalar.subi arg7 c0_i32_98
  let c1_i32_99 : BitVec 32 := 1#32
  let v298 : BitVec 32 := Scalar.divsi v296 c1_i32_99
  let v299 : BitVec 32 := Scalar.muli v298 c1_i32_99
  let v300 : BitVec 32 := Scalar.addi c0_i32_98 v299
  let c1_i32_101 : BitVec 32 := 1#32
  let arg8 : BitVec 32 := Scf.iv v300 c1_i32_101 k0_t5
  let v317 : BitVec 32 := Scalar.muli c2_i32_106 arg8
  let v318 : BitVec 32 := Scalar.subi v141 v317
  let c256_i32_109 : BitVec 32 := 256#32
  let v322 : BitVec 32 := Scalar.muli v318 c256_i32_109
  v322
def k0_mult22 (k0_t1 : Fin k0_t1_loop.trips) (k0_t5 : Fin (k0_t5_loop k0_t1).trips) : BitVec 32 :=
  let c2_i32_39 : BitVec 32 := 2#32
  let c0_i32 : BitVec 32 := 0#32
  let c1_i32 : BitVec 32 := 1#32
  let arg7 : BitVec 32 := Scf.iv c0_i32 c1_i32 k0_t1
  let v126 : BitVec 32 := Scalar.muli c2_i32_39 arg7
  let c1_i32_40 : BitVec 32 := 1#32
  let v127 : BitVec 32 := Scalar.addi v126 c1_i32_40
  let c2_i32_49 : BitVec 32 := 2#32
  let v141 : BitVec 32 := Scalar.subi v127 c2_i32_49
  let c2_i32_107 : BitVec 32 := 2#32
  let c0_i32_98 : BitVec 32 := 0#32
  let v296 : BitVec 32 := Scalar.subi arg7 c0_i32_98
  let c1_i32_99 : BitVec 32 := 1#32
  let v298 : BitVec 32 := Scalar.divsi v296 c1_i32_99
  let v299 : BitVec 32 := Scalar.muli v298 c1_i32_99
  let v300 : BitVec 32 := Scalar.addi c0_i32_98 v299
  let c1_i32_101 : BitVec 32 := 1#32
  let arg8 : BitVec 32 := Scf.iv v300 c1_i32_101 k0_t5
  let v319 : BitVec 32 := Scalar.muli c2_i32_107 arg8
  let v320 : BitVec 32 := Scalar.subi v141 v319
  let c1_i32_108 : BitVec 32 := 1#32
  let v321 : BitVec 32 := Scalar.subi v320 c1_i32_108
  let c256_i32_110 : BitVec 32 := 256#32
  let v324 : BitVec 32 := Scalar.muli v321 c256_i32_110
  v324
def k0_mult23 (k0_t1 : Fin k0_t1_loop.trips) (k0_t5 : Fin (k0_t5_loop k0_t1).trips) : BitVec 32 :=
  let c2_i32_39 : BitVec 32 := 2#32
  let c0_i32 : BitVec 32 := 0#32
  let c1_i32 : BitVec 32 := 1#32
  let arg7 : BitVec 32 := Scf.iv c0_i32 c1_i32 k0_t1
  let v126 : BitVec 32 := Scalar.muli c2_i32_39 arg7
  let c1_i32_40 : BitVec 32 := 1#32
  let v127 : BitVec 32 := Scalar.addi v126 c1_i32_40
  let c2_i32_49 : BitVec 32 := 2#32
  let v141 : BitVec 32 := Scalar.subi v127 c2_i32_49
  let c2_i32_106 : BitVec 32 := 2#32
  let c0_i32_98 : BitVec 32 := 0#32
  let v296 : BitVec 32 := Scalar.subi arg7 c0_i32_98
  let c1_i32_99 : BitVec 32 := 1#32
  let v298 : BitVec 32 := Scalar.divsi v296 c1_i32_99
  let v299 : BitVec 32 := Scalar.muli v298 c1_i32_99
  let v300 : BitVec 32 := Scalar.addi c0_i32_98 v299
  let c1_i32_101 : BitVec 32 := 1#32
  let arg8 : BitVec 32 := Scf.iv v300 c1_i32_101 k0_t5
  let v317 : BitVec 32 := Scalar.muli c2_i32_106 arg8
  let v318 : BitVec 32 := Scalar.subi v141 v317
  let c256_i32_111 : BitVec 32 := 256#32
  let v326 : BitVec 32 := Scalar.muli v318 c256_i32_111
  v326
def k0_mult24 (k0_t1 : Fin k0_t1_loop.trips) (k0_t5 : Fin (k0_t5_loop k0_t1).trips) : BitVec 32 :=
  let c2_i32_39 : BitVec 32 := 2#32
  let c0_i32 : BitVec 32 := 0#32
  let c1_i32 : BitVec 32 := 1#32
  let arg7 : BitVec 32 := Scf.iv c0_i32 c1_i32 k0_t1
  let v126 : BitVec 32 := Scalar.muli c2_i32_39 arg7
  let c1_i32_40 : BitVec 32 := 1#32
  let v127 : BitVec 32 := Scalar.addi v126 c1_i32_40
  let c2_i32_49 : BitVec 32 := 2#32
  let v141 : BitVec 32 := Scalar.subi v127 c2_i32_49
  let c2_i32_107 : BitVec 32 := 2#32
  let c0_i32_98 : BitVec 32 := 0#32
  let v296 : BitVec 32 := Scalar.subi arg7 c0_i32_98
  let c1_i32_99 : BitVec 32 := 1#32
  let v298 : BitVec 32 := Scalar.divsi v296 c1_i32_99
  let v299 : BitVec 32 := Scalar.muli v298 c1_i32_99
  let v300 : BitVec 32 := Scalar.addi c0_i32_98 v299
  let c1_i32_101 : BitVec 32 := 1#32
  let arg8 : BitVec 32 := Scf.iv v300 c1_i32_101 k0_t5
  let v319 : BitVec 32 := Scalar.muli c2_i32_107 arg8
  let v320 : BitVec 32 := Scalar.subi v141 v319
  let c1_i32_108 : BitVec 32 := 1#32
  let v321 : BitVec 32 := Scalar.subi v320 c1_i32_108
  let c256_i32_112 : BitVec 32 := 256#32
  let v328 : BitVec 32 := Scalar.muli v321 c256_i32_112
  v328
def k0_off19 (k0_t1 : Fin k0_t1_loop.trips) (k0_t5 : Fin (k0_t5_loop k0_t1).trips) : Fin 2 → Nat :=
  let c2_i32_39 : BitVec 32 := 2#32
  let c0_i32 : BitVec 32 := 0#32
  let c1_i32 : BitVec 32 := 1#32
  let arg7 : BitVec 32 := Scf.iv c0_i32 c1_i32 k0_t1
  let v126 : BitVec 32 := Scalar.muli c2_i32_39 arg7
  let c1_i32_40 : BitVec 32 := 1#32
  let v127 : BitVec 32 := Scalar.addi v126 c1_i32_40
  let c2_i32_49 : BitVec 32 := 2#32
  let v141 : BitVec 32 := Scalar.subi v127 c2_i32_49
  let c2_i32_106 : BitVec 32 := 2#32
  let c0_i32_98 : BitVec 32 := 0#32
  let v296 : BitVec 32 := Scalar.subi arg7 c0_i32_98
  let c1_i32_99 : BitVec 32 := 1#32
  let v298 : BitVec 32 := Scalar.divsi v296 c1_i32_99
  let v299 : BitVec 32 := Scalar.muli v298 c1_i32_99
  let v300 : BitVec 32 := Scalar.addi c0_i32_98 v299
  let c1_i32_101 : BitVec 32 := 1#32
  let arg8 : BitVec 32 := Scf.iv v300 c1_i32_101 k0_t5
  let v317 : BitVec 32 := Scalar.muli c2_i32_106 arg8
  let v318 : BitVec 32 := Scalar.subi v141 v317
  let c256_i32_109 : BitVec 32 := 256#32
  let v322 : BitVec 32 := Scalar.muli v318 c256_i32_109
  let v323 : BitVec 32 := v322
  let v330 : Index := Scalar.indexCast v323
  let c0_113 : Index := 0#32
  ![v330.toNat, 0]
def k0_off20 (k0_t1 : Fin k0_t1_loop.trips) (k0_t5 : Fin (k0_t5_loop k0_t1).trips) : Fin 2 → Nat :=
  let c2_i32_39 : BitVec 32 := 2#32
  let c0_i32 : BitVec 32 := 0#32
  let c1_i32 : BitVec 32 := 1#32
  let arg7 : BitVec 32 := Scf.iv c0_i32 c1_i32 k0_t1
  let v126 : BitVec 32 := Scalar.muli c2_i32_39 arg7
  let c1_i32_40 : BitVec 32 := 1#32
  let v127 : BitVec 32 := Scalar.addi v126 c1_i32_40
  let c2_i32_49 : BitVec 32 := 2#32
  let v141 : BitVec 32 := Scalar.subi v127 c2_i32_49
  let c2_i32_107 : BitVec 32 := 2#32
  let c0_i32_98 : BitVec 32 := 0#32
  let v296 : BitVec 32 := Scalar.subi arg7 c0_i32_98
  let c1_i32_99 : BitVec 32 := 1#32
  let v298 : BitVec 32 := Scalar.divsi v296 c1_i32_99
  let v299 : BitVec 32 := Scalar.muli v298 c1_i32_99
  let v300 : BitVec 32 := Scalar.addi c0_i32_98 v299
  let c1_i32_101 : BitVec 32 := 1#32
  let arg8 : BitVec 32 := Scf.iv v300 c1_i32_101 k0_t5
  let v319 : BitVec 32 := Scalar.muli c2_i32_107 arg8
  let v320 : BitVec 32 := Scalar.subi v141 v319
  let c1_i32_108 : BitVec 32 := 1#32
  let v321 : BitVec 32 := Scalar.subi v320 c1_i32_108
  let c256_i32_110 : BitVec 32 := 256#32
  let v324 : BitVec 32 := Scalar.muli v321 c256_i32_110
  let v325 : BitVec 32 := v324
  let v344 : Index := Scalar.indexCast v325
  let c0_118 : Index := 0#32
  ![v344.toNat, 0]
def k0_off21 (k0_t1 : Fin k0_t1_loop.trips) (k0_t5 : Fin (k0_t5_loop k0_t1).trips) : Fin 2 → Nat :=
  let c2_i32_39 : BitVec 32 := 2#32
  let c0_i32 : BitVec 32 := 0#32
  let c1_i32 : BitVec 32 := 1#32
  let arg7 : BitVec 32 := Scf.iv c0_i32 c1_i32 k0_t1
  let v126 : BitVec 32 := Scalar.muli c2_i32_39 arg7
  let c1_i32_40 : BitVec 32 := 1#32
  let v127 : BitVec 32 := Scalar.addi v126 c1_i32_40
  let c2_i32_49 : BitVec 32 := 2#32
  let v141 : BitVec 32 := Scalar.subi v127 c2_i32_49
  let c2_i32_106 : BitVec 32 := 2#32
  let c0_i32_98 : BitVec 32 := 0#32
  let v296 : BitVec 32 := Scalar.subi arg7 c0_i32_98
  let c1_i32_99 : BitVec 32 := 1#32
  let v298 : BitVec 32 := Scalar.divsi v296 c1_i32_99
  let v299 : BitVec 32 := Scalar.muli v298 c1_i32_99
  let v300 : BitVec 32 := Scalar.addi c0_i32_98 v299
  let c1_i32_101 : BitVec 32 := 1#32
  let arg8 : BitVec 32 := Scf.iv v300 c1_i32_101 k0_t5
  let v317 : BitVec 32 := Scalar.muli c2_i32_106 arg8
  let v318 : BitVec 32 := Scalar.subi v141 v317
  let c256_i32_111 : BitVec 32 := 256#32
  let v326 : BitVec 32 := Scalar.muli v318 c256_i32_111
  let v327 : BitVec 32 := v326
  let v358 : Index := Scalar.indexCast v327
  let c64_123 : Index := 64#32
  ![v358.toNat, 64]
def k0_off22 (k0_t1 : Fin k0_t1_loop.trips) (k0_t5 : Fin (k0_t5_loop k0_t1).trips) : Fin 2 → Nat :=
  let c2_i32_39 : BitVec 32 := 2#32
  let c0_i32 : BitVec 32 := 0#32
  let c1_i32 : BitVec 32 := 1#32
  let arg7 : BitVec 32 := Scf.iv c0_i32 c1_i32 k0_t1
  let v126 : BitVec 32 := Scalar.muli c2_i32_39 arg7
  let c1_i32_40 : BitVec 32 := 1#32
  let v127 : BitVec 32 := Scalar.addi v126 c1_i32_40
  let c2_i32_49 : BitVec 32 := 2#32
  let v141 : BitVec 32 := Scalar.subi v127 c2_i32_49
  let c2_i32_107 : BitVec 32 := 2#32
  let c0_i32_98 : BitVec 32 := 0#32
  let v296 : BitVec 32 := Scalar.subi arg7 c0_i32_98
  let c1_i32_99 : BitVec 32 := 1#32
  let v298 : BitVec 32 := Scalar.divsi v296 c1_i32_99
  let v299 : BitVec 32 := Scalar.muli v298 c1_i32_99
  let v300 : BitVec 32 := Scalar.addi c0_i32_98 v299
  let c1_i32_101 : BitVec 32 := 1#32
  let arg8 : BitVec 32 := Scf.iv v300 c1_i32_101 k0_t5
  let v319 : BitVec 32 := Scalar.muli c2_i32_107 arg8
  let v320 : BitVec 32 := Scalar.subi v141 v319
  let c1_i32_108 : BitVec 32 := 1#32
  let v321 : BitVec 32 := Scalar.subi v320 c1_i32_108
  let c256_i32_112 : BitVec 32 := 256#32
  let v328 : BitVec 32 := Scalar.muli v321 c256_i32_112
  let v329 : BitVec 32 := v328
  let v372 : Index := Scalar.indexCast v329
  let c64_128 : Index := 64#32
  ![v372.toNat, 64]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SfFormIdeal.lean ====
abbrev S4096x3072 : Shape := ⟨2, ![4096, 3072]⟩
abbrev S4096x1024 : Shape := ⟨2, ![4096, 1024]⟩
abbrev S2x2048x16x64 : Shape := ⟨4, ![2, 2048, 16, 64]⟩
abbrev S2x16x2048x2048 : Shape := ⟨4, ![2, 16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x16x64x2048 : Shape := ⟨4, ![2, 16, 64, 2048]⟩
abbrev S2x16x2048 : Shape := ⟨3, ![2, 16, 2048]⟩
abbrev S2x2048x16 : Shape := ⟨3, ![2, 2048, 16]⟩
abbrev S2x2048x16x1 : Shape := ⟨4, ![2, 2048, 16, 1]⟩

abbrev nBuf : Space → Nat
  | .hbm => 80
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S4096x1024, .f32⟩
  | .hbm, ⟨3, _⟩ => ⟨S2x2048x16x64, .f32⟩
  | .hbm, ⟨4, _⟩ => ⟨S4096x1024, .bf16⟩
  | .hbm, ⟨5, _⟩ => ⟨S4096x1024, .f32⟩
  | .hbm, ⟨6, _⟩ => ⟨S2x2048x16x64, .f32⟩
  | .hbm, ⟨7, _⟩ => ⟨S4096x1024, .bf16⟩
  | .hbm, ⟨8, _⟩ => ⟨S4096x1024, .f32⟩
  | .hbm, ⟨9, _⟩ => ⟨S2x2048x16x64, .f32⟩
  | .hbm, ⟨10, _⟩ => ⟨S2x16x2048x2048, .f32⟩
  | .hbm, ⟨11, _⟩ => ⟨S_, .f32⟩
  | .hbm, ⟨12, _⟩ => ⟨S2x16x2048x2048, .f32⟩
  | .hbm, ⟨13, _⟩ => ⟨S2x16x2048x2048, .f32⟩
  | .hbm, ⟨14, _⟩ => ⟨S2048, .i32⟩
  | .hbm, ⟨15, _⟩ => ⟨S1x2048, .i32⟩
  | .hbm, ⟨16, _⟩ => ⟨S2048, .i32⟩
  | .hbm, ⟨17, _⟩ => ⟨S2048x1, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S2x16x2048x2048, .f32⟩
  | .hbm, ⟨22, _⟩ => ⟨S_, .f32⟩
  | .hbm, ⟨23, _⟩ => ⟨S2x16x2048x2048, .f32⟩
  | .hbm, ⟨24, _⟩ => ⟨S2x16x2048x2048, .f32⟩
  | .hbm, ⟨25, _⟩ => ⟨S2x16x2048x2048, .f32⟩
  | .hbm, ⟨26, _⟩ => ⟨S2x16x2048x2048, .f32⟩
  | .hbm, ⟨27, _⟩ => ⟨S2x16x2048x2048, .i1⟩
  | .hbm, ⟨28, _⟩ => ⟨S2x16x2048x2048, .f32⟩
  | .hbm, ⟨29, _⟩ => ⟨S2x16x2048x2048, .f32⟩
  | .hbm, ⟨30, _⟩ => ⟨S2x16x2048x2048, .f32⟩
  | .hbm, ⟨31, _⟩ => ⟨S2x16x2048x2048, .f32⟩
  | .hbm, ⟨32, _⟩ => ⟨S2x16x2048x2048, .f32⟩
  | .hbm, ⟨33, _⟩ => ⟨S2x16x2048x2048, .f32⟩
  | .hbm, ⟨34, _⟩ => ⟨S2x16x2048x2048, .f32⟩
  | .hbm, ⟨35, _⟩ => ⟨S2x16x2048x2048, .f32⟩
  | .hbm, ⟨36, _⟩ => ⟨S2x16x2048x2048, .f32⟩
  | .hbm, ⟨37, _⟩ => ⟨S_, .f32⟩
  | .hbm, ⟨38, _⟩ => ⟨S_, .f32⟩
  | .hbm, ⟨39, _⟩ => ⟨S2x16x2048x2048, .i1⟩
  | .hbm, ⟨40, _⟩ => ⟨S2x16x2048x2048, .f32⟩
  | .hbm, ⟨41, _⟩ => ⟨S2x16x2048x2048, .f32⟩
  | .hbm, ⟨42, _⟩ => ⟨S2x16x2048x2048, .f32⟩
  | .hbm, ⟨43, _⟩ => ⟨S2x16x2048x2048, .f32⟩
  | .hbm, ⟨44, _⟩ => ⟨S_, .f32⟩
  | .hbm, ⟨45, _⟩ => ⟨S2x16x2048x2048, .f32⟩
  | .hbm, ⟨46, _⟩ => ⟨S2x16x2048x2048, .f32⟩
  | .hbm, ⟨47, _⟩ => ⟨S2x16x2048x2048, .f32⟩
  | .hbm, ⟨48, _⟩ => ⟨S2x16x2048x2048, .f32⟩
  | .hbm, ⟨49, _⟩ => ⟨S2x16x2048x2048, .i1⟩
  | .hbm, ⟨50, _⟩ => ⟨S2x16x2048x2048, .f32⟩
  | .hbm, ⟨51, _⟩ => ⟨S2x16x2048x2048, .f32⟩
  | .hbm, ⟨52, _⟩ => ⟨S2x16x2048x2048, .f32⟩
  | .hbm, ⟨53, _⟩ => ⟨S2x16x2048x2048, .f32⟩
  | .hbm, ⟨54, _⟩ => ⟨S2x16x2048x2048, .f32⟩
  | .hbm, ⟨55, _⟩ => ⟨S2x16x2048x2048, .f32⟩
  | .hbm, ⟨56, _⟩ => ⟨S2x16x2048x2048, .f32⟩
  | .hbm, ⟨57, _⟩ => ⟨S2x16x2048x2048, .f32⟩
  | .hbm, ⟨58, _⟩ => ⟨S2x16x2048x2048, .f32⟩
  | .hbm, ⟨59, _⟩ => ⟨S_, .f32⟩
  | .hbm, ⟨60, _⟩ => ⟨S_, .f32⟩
  | .hbm, ⟨61, _⟩ => ⟨S2x16x2048x2048, .i1⟩
  | .hbm, ⟨62, _⟩ => ⟨S2x16x2048x2048, .f32⟩
  | .hbm, ⟨63, _⟩ => ⟨S2x16x2048x2048, .f32⟩
  | .hbm, ⟨64, _⟩ => ⟨S_, .f32⟩
  | .hbm, ⟨65, _⟩ => ⟨S_, .f32⟩
  | .hbm, ⟨66, _⟩ => ⟨S2x16x2048x2048, .f32⟩
  | .hbm, ⟨67, _⟩ => ⟨S2x16x2048x2048, .f32⟩
  | .hbm, ⟨68, _⟩ => ⟨S2x16x2048x2048, .f32⟩
  | .hbm, ⟨69, _⟩ => ⟨S2x16x2048x2048, .f32⟩
  | .hbm, ⟨70, _⟩ => ⟨S2x16x64x2048, .f32⟩
  | .hbm, ⟨71, _⟩ => ⟨S2x2048x16x64, .f32⟩
  | .hbm, ⟨72, _⟩ => ⟨S_, .f32⟩
  | .hbm, ⟨73, _⟩ => ⟨S2x16x2048, .f32⟩
  | .hbm, ⟨74, _⟩ => ⟨S2x2048x16, .f32⟩
  | .hbm, ⟨75, _⟩ => ⟨S2x2048x16x1, .f32⟩
  | .hbm, ⟨76, _⟩ => ⟨S4096x1024, .f32⟩
  | .hbm, ⟨77, _⟩ => ⟨S4096x1024, .bf16⟩
  | .hbm, ⟨78, _⟩ => ⟨S2x2048x16x64, .f32⟩
  | .hbm, ⟨79, _⟩ => ⟨S4096x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v19 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v20 : Ref sig .tc := ⟨.hbm, 41, rfl⟩
abbrev main_v21 : Ref sig .tc := ⟨.hbm, 42, rfl⟩
abbrev main_call2_v0 : Ref sig .tc := ⟨.hbm, 43, rfl⟩
abbrev main_call2_call0_cst : Ref sig .tc := ⟨.hbm, 44, rfl⟩
abbrev main_call2_call0_v0 : Ref sig .tc := ⟨.hbm, 45, rfl⟩
abbrev main_call2_call0_v1 : Ref sig .tc := ⟨.hbm, 46, rfl⟩
abbrev main_call2_call0_v2 : Ref sig .tc := ⟨.hbm, 47, rfl⟩
abbrev main_call2_call0_v3 : Ref sig .tc := ⟨.hbm, 48, rfl⟩
abbrev main_call2_call0_v4 : Ref sig .tc := ⟨.hbm, 49, rfl⟩
abbrev main_call2_call0_v5 : Ref sig .tc := ⟨.hbm, 50, rfl⟩
abbrev main_call2_call0_v6 : Ref sig .tc := ⟨.hbm, 51, rfl⟩
abbrev main_call2_call0_v7 : Ref sig .tc := ⟨.hbm, 52, rfl⟩
abbrev main_call2_call0_v8 : Ref sig .tc := ⟨.hbm, 53, rfl⟩
abbrev main_call2_call0_v9 : Ref sig .tc := ⟨.hbm, 54, rfl⟩
abbrev main_call2_call0_v10 : Ref sig .tc := ⟨.hbm, 55, rfl⟩
abbrev main_call2_call0_v11 : Ref sig .tc := ⟨.hbm, 56, rfl⟩
abbrev main_call2_v1 : Ref sig .tc := ⟨.hbm, 57, rfl⟩
abbrev main_v22 : Ref sig .tc := ⟨.hbm, 58, rfl⟩
abbrev main_cst_1 : Ref sig .tc := ⟨.hbm, 59, rfl⟩
abbrev main_call3_v0 : Ref sig .tc := ⟨.hbm, 60, rfl⟩
abbrev main_call3_v1 : Ref sig .tc := ⟨.hbm, 61, rfl⟩
abbrev main_call3_v2 : Ref sig .tc := ⟨.hbm, 62, rfl⟩
abbrev main_v23 : Ref sig .tc := ⟨.hbm, 63, rfl⟩
abbrev main_call4_cst : Ref sig .tc := ⟨.hbm, 64, rfl⟩
abbrev main_call4_v0 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_cst_2 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩

abbrev nD : Nat := 1
abbrev τ : Topo := Topo.v7x

variable {F : FTy → Type} [FloatOps F]
-- ==== MlFwd.lean ====
abbrev S4x4096x704 : Shape := ⟨3, ![4, 4096, 704]⟩
abbrev S4x2x704x1024 : Shape := ⟨4, ![4, 2, 704, 1024]⟩
abbrev S4096x1024 : Shape := ⟨2, ![4096, 1024]⟩
abbrev S1024 : Shape := ⟨1, ![1024]⟩
abbrev S1x1024 : Shape := ⟨2, ![1, 1024]⟩
abbrev S4096x1 : Shape := ⟨2, ![4096, 1]⟩
abbrev S4x512x704 : Shape := ⟨3, ![4, 512, 704]⟩
abbrev S4x1x704x1024 : Shape := ⟨4, ![4, 1, 704, 1024]⟩
abbrev S512x1024 : Shape := ⟨2, ![512, 1024]⟩
abbrev S512x1 : Shape := ⟨2, ![512, 1]⟩
abbrev S1x512x704 : Shape := ⟨3, ![1, 512, 704]⟩
abbrev S512x704 : Shape := ⟨2, ![512, 704]⟩
abbrev S1x1x704x1024 : Shape := ⟨4, ![1, 1, 704, 1024]⟩
abbrev S704x1024 : Shape := ⟨2, ![704, 1024]⟩
abbrev S512 : Shape := ⟨1, ![512]⟩

abbrev nBuf : Space → Nat
  | .hbm => 11
  | .vmem => 15
  | .smem => 0
  | _ => 0

abbrev bufTy : (tb : Table) → Fin (tcTables nBuf tb) → BufTy
  | .hbm, ⟨0, _⟩ => ⟨S4x4096x704, .bf16⟩
  | .hbm, ⟨1, _⟩ => ⟨S4x2x704x1024, .bf16⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .bf16⟩
  | .hbm, ⟨9, _⟩ => ⟨S4096x1024, .f32⟩
  | .hbm, ⟨10, _⟩ => ⟨S4096x1, .f32⟩
  | .local _ .vmem, ⟨0, _⟩ => ⟨S4x512x704, .bf16⟩
  | .local _ .vmem, ⟨1, _⟩ => ⟨S4x512x704, .bf16⟩
  | .local _ .vmem, ⟨2, _⟩ => ⟨S4x1x704x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S512x1, .f32⟩
  | .local _ .vmem, ⟨14, _⟩ => ⟨S512x1, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MlFormIdeal.lean ====
abbrev S4x4096x704 : Shape := ⟨3, ![4, 4096, 704]⟩
abbrev S4x2x704x1024 : Shape := ⟨4, ![4, 2, 704, 1024]⟩
abbrev S4096x1024 : Shape := ⟨2, ![4096, 1024]⟩
abbrev S1024 : Shape := ⟨1, ![1024]⟩
abbrev S4x1x704x1024 : Shape := ⟨4, ![4, 1, 704, 1024]⟩
abbrev S4x704x1024 : Shape := ⟨3, ![4, 704, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 47
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4x2x704x1024, .bf16⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4x4096x704, .f32⟩
  | .hbm, ⟨6, _⟩ => ⟨S4x1x704x1024, .bf16⟩
  | .hbm, ⟨7, _⟩ => ⟨S4x704x1024, .bf16⟩
  | .hbm, ⟨8, _⟩ => ⟨S4x704x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S4096x1024, .bf16⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== FuFwd.lean ====
abbrev S4096x1024 : Shape := ⟨2, ![4096, 1024]⟩
abbrev S4x2x704x1024 : Shape := ⟨4, ![4, 2, 704, 1024]⟩
abbrev S4x4096x704 : Shape := ⟨3, ![4, 4096, 704]⟩
abbrev S1024x1024 : Shape := ⟨2, ![1024, 1024]⟩
abbrev S1x1x704x1024 : Shape := ⟨4, ![1, 1, 704, 1024]⟩
abbrev S1x1024x704 : Shape := ⟨3, ![1, 1024, 704]⟩
abbrev S704x1024 : Shape := ⟨2, ![704, 1024]⟩
abbrev S1024x704 : Shape := ⟨2, ![1024, 704]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S4x2x704x1024, .bf16⟩
  | .hbm, ⟨2, _⟩ => ⟨S4x2x704x1024, .bf16⟩
  | .hbm, ⟨3, _⟩ => ⟨S4x4096x704, .bf16⟩
  | .hbm, ⟨4, _⟩ => ⟨S4x4096x704, .bf16⟩
  | .hbm, ⟨5, _⟩ => ⟨S4x4096x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x704x1024, .bf16⟩
  | .local _ .vmem, ⟨3, _⟩ => ⟨S1x1x704x1024, .bf16⟩
  | .local _ .vmem, ⟨4, _⟩ => ⟨S1x1x704x1024, .bf16⟩
  | .local _ .vmem, ⟨5, _⟩ => ⟨S1x1x704x1024, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FuFormIdeal.lean ====
abbrev S4096x1024 : Shape := ⟨2, ![4096, 1024]⟩
abbrev S4x2x704x1024 : Shape := ⟨4, ![4, 2, 704, 1024]⟩
abbrev S4x1x704x1024 : Shape := ⟨4, ![4, 1, 704, 1024]⟩
abbrev S4x704x1024 : Shape := ⟨3, ![4, 704, 1024]⟩
abbrev S4x704x4096 : Shape := ⟨3, ![4, 704, 4096]⟩
abbrev S4x4096x704 : Shape := ⟨3, ![4, 4096, 704]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x2x704x1024, .bf16⟩
  | .hbm, ⟨2, _⟩ => ⟨S4x2x704x1024, .bf16⟩
  | .hbm, ⟨3, _⟩ => ⟨S4096x1024, .f32⟩
  | .hbm, ⟨4, _⟩ => ⟨S4x1x704x1024, .bf16⟩
  | .hbm, ⟨5, _⟩ => ⟨S4x704x1024, .bf16⟩
  | .hbm, ⟨6, _⟩ => ⟨S4x704x1024, .f32⟩
  | .hbm, ⟨7, _⟩ => ⟨S4x704x4096, .f32⟩
  | .hbm, ⟨8, _⟩ => ⟨S4x4096x704, .f32⟩
  | .hbm, ⟨9, _⟩ => ⟨S4096x1024, .f32⟩
  | .hbm, ⟨10, _⟩ => ⟨S4x1x704x1024, .bf16⟩
  | .hbm, ⟨11, _⟩ => ⟨S4x704x1024, .bf16⟩
  | .hbm, ⟨12, _⟩ => ⟨S4x704x1024, .f32⟩
  | .hbm, ⟨13, _⟩ => ⟨S4x704x4096, .f32⟩
  | .hbm, ⟨14, _⟩ => ⟨S4x4096x704, .f32⟩
  | .hbm, ⟨15, _⟩ => ⟨S4x4096x704, .bf16⟩
  | .hbm, ⟨16, _⟩ => ⟨S4x4096x704, .bf16⟩
  | .hbm, ⟨17, _⟩ => ⟨S4x4096x704, .f32⟩
  | .hbm, ⟨18, _⟩ => ⟨S4x4096x704, .f32⟩
  | .hbm, ⟨19, _⟩ => ⟨S_, .f32⟩
  | .hbm, ⟨20, _⟩ => ⟨S4x4096x704, .f32⟩
  | .hbm, ⟨21, _⟩ => ⟨S4x4096x704, .f32⟩
  | .hbm, ⟨22, _⟩ => ⟨S_, .f32⟩
  | .hbm, ⟨23, _⟩ => ⟨S4x4096x704, .f32⟩
  | .hbm, ⟨24, _⟩ => ⟨S4x4096x704, .f32⟩
  | .hbm, ⟨25, _⟩ => ⟨S4x4096x704, .f32⟩
  | .hbm, ⟨26, _⟩ => ⟨S4x4096x704, .f32⟩
  | .hbm, ⟨27, _⟩ => ⟨S4x4096x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]
-- ==== BwFwd.lean ====
abbrev S257x16 : Shape := ⟨2, ![257, 16]⟩
abbrev S16x257 : Shape := ⟨2, ![16, 257]⟩
abbrev S_ : Shape := ⟨0, ![]⟩
abbrev S16x384 : Shape := ⟨2, ![16, 384]⟩
abbrev S16x1024 : Shape := ⟨2, ![16, 1024]⟩
abbrev S384x1024 : Shape := ⟨2, ![384, 1024]⟩

abbrev nBuf : Space → Nat
  | .hbm => 6
  | .vmem => 2
  | .smem => 0
  | _ => 0

abbrev bufTy : (tb : Table) → Fin (tcTables nBuf tb) → BufTy
  | .hbm, ⟨0, _⟩ => ⟨S257x16, .f32⟩
  | .hbm, ⟨1, _⟩ => ⟨S16x257, .f32⟩
  | .hbm, ⟨2, _⟩ => ⟨S_, .i32⟩
  | .hbm, ⟨3, _⟩ => ⟨S_, .f32⟩
  | .hbm, ⟨4, _⟩ => ⟨S16x384, .f32⟩
  | .hbm, ⟨5, _⟩ => ⟨S16x1024, .f32⟩
  | .local _ .vmem, ⟨0, _⟩ => ⟨S16x384, .f32⟩
  | .local _ .vmem, ⟨1, _⟩ => ⟨S16x1024, .f32⟩
  | _, _ => ⟨S257x16, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S16x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== BwFormIdeal.lean ====
abbrev S257x16 : Shape := ⟨2, ![257, 16]⟩
abbrev S1024 : Shape := ⟨1, ![1024]⟩
abbrev S_ : Shape := ⟨0, ![]⟩
abbrev S1024x1 : Shape := ⟨2, ![1024, 1]⟩
abbrev S1024x16 : Shape := ⟨2, ![1024, 16]⟩
abbrev S16x1024 : Shape := ⟨2, ![16, 1024]⟩

abbrev nBuf : Space → Nat
  | .hbm => 26
  | .vmem => 0
  | .smem => 0
  | _ => 0

abbrev bufTy : (tb : Table) → Fin (tcTables nBuf tb) → BufTy
  | .hbm, ⟨0, _⟩ => ⟨S257x16, .f32⟩
  | .hbm, ⟨1, _⟩ => ⟨S1024, .i32⟩
  | .hbm, ⟨2, _⟩ => ⟨S_, .i32⟩
  | .hbm, ⟨3, _⟩ => ⟨S1024, .i32⟩
  | .hbm, ⟨4, _⟩ => ⟨S1024, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S_, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i32⟩
  | .hbm, ⟨16, _⟩ => ⟨S_, .i32⟩
  | .hbm, ⟨17, _⟩ => ⟨S1024, .i32⟩
  | .hbm, ⟨18, _⟩ => ⟨S1024, .i1⟩
  | .hbm, ⟨19, _⟩ => ⟨S_, .i32⟩
  | .hbm, ⟨20, _⟩ => ⟨S1024, .i32⟩
  | .hbm, ⟨21, _⟩ => ⟨S1024, .i32⟩
  | .hbm, ⟨22, _⟩ => ⟨S1024, .i32⟩
  | .hbm, ⟨23, _⟩ => ⟨S1024x1, .i32⟩
  | .hbm, ⟨24, _⟩ => ⟨S1024x16, .f32⟩
  | .hbm, ⟨25, _⟩ => ⟨S16x1024, .f32⟩
  | _, _ => ⟨S257x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_c_1 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_c_2 : Ref sig .tc := ⟨.hbm, 13, rfl⟩
abbrev main_v4 : Ref sig .tc := ⟨.hbm, 14, rfl⟩
abbrev main_v5 : Ref sig .tc := ⟨.hbm, 15, rfl⟩
abbrev main_c_3 : Ref sig .tc := ⟨.hbm, 16, rfl⟩
abbrev main_v6 : Ref sig .tc := ⟨.hbm, 17, rfl⟩
abbrev main_v7 : Ref sig .tc := ⟨.hbm, 18, rfl⟩
abbrev main_c_4 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩

abbrev nD : Nat := 1
abbrev τ : Topo := Topo.v7x

variable {F : FTy → Type} [FloatOps F]
-- ==== PxSwap.lean ====
abbrev S1x4x704x1024 : Shape := ⟨4, ![1, 4, 704, 1024]⟩
abbrev S1x4x352x1024 : Shape := ⟨4, ![1, 4, 352, 1024]⟩
abbrev S3 : Shape := ⟨1, ![3]⟩
abbrev S1 : Shape := ⟨1, ![1]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1x4x704x1024, .bf16⟩
  | .hbm, ⟨1, _⟩ => ⟨S1x4x704x1024, .bf16⟩
  | .hbm, ⟨2, _⟩ => ⟨S1x4x704x1024, .bf16⟩
  | .hbm, ⟨3, _⟩ => ⟨S1x4x352x1024, .bf16⟩
  | .hbm, ⟨4, _⟩ => ⟨S1x4x352x1024, .bf16⟩
  | .hbm, ⟨5, _⟩ => ⟨S1x4x352x1024, .bf16⟩
  | _, _ => ⟨S1x4x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩

abbrev nD : Nat := 8
abbrev τ : Topo := Topo.v7x

variable {F : FTy → Type} [FloatOps F]

abbrev grid0 : Pipeline.Grid := .none

def k0_off1 (d0 : Dev nD) : Fin 4 → Nat :=
  let c0_i32_10 : BitVec 32 := 0#32
  let c0_i32_11 : BitVec 32 := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c352_i32 : BitVec 32 := 352#32
  let v10 : BitVec 32 := Scalar.muli v9 c352_i32
  let c0_i32_12 : BitVec 32 := 0#32
  ![0, 0, v10.toNat, 0]
def k0_dev1 (d0 : Dev nD) : Nat :=
  let c0_i32_7 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_6 : BitVec 32 := 4#32
  let v12 : BitVec 32 := Scalar.muli v2 c4_i32_6
  let v13 : BitVec 32 := Scalar.addi c0_i32_7 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_8 : BitVec 32 := 2#32
  let v14 : BitVec 32 := Scalar.muli v5 c2_i32_8
  let v15 : BitVec 32 := Scalar.addi v13 v14
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_9 : BitVec 32 := 1#32
  let v16 : BitVec 32 := Scalar.muli v11 c1_i32_9
  let v17 : BitVec 32 := Scalar.addi v15 v16
  v17.toNat
def k0_dev2 (d0 : Dev nD) : Nat :=
  let c0_i32_19 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_18 : BitVec 32 := 4#32
  let v26 : BitVec 32 := Scalar.muli v2 c4_i32_18
  let v27 : BitVec 32 := Scalar.addi c0_i32_19 v26
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_20 : BitVec 32 := 2#32
  let v28 : BitVec 32 := Scalar.muli v5 c2_i32_20
  let v29 : BitVec 32 := Scalar.addi v27 v28
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let c1_i32_21 : BitVec 32 := 1#32
  let v30 : BitVec 32 := Scalar.muli v25 c1_i32_21
  let v31 : BitVec 32 := Scalar.addi v29 v30
  v31.toNat
def k0_dev3 (d0 : Dev nD) : Nat :=
  let c0_i32_31 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_30 : BitVec 32 := 4#32
  let v40 : BitVec 32 := Scalar.muli v2 c4_i32_30
  let v41 : BitVec 32 := Scalar.addi c0_i32_31 v40
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_32 : BitVec 32 := 2#32
  let v42 : BitVec 32 := Scalar.muli v5 c2_i32_32
  let v43 : BitVec 32 := Scalar.addi v41 v42
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.subi c1_i32_27 v8
  let c1_i32_33 : BitVec 32 := 1#32
  let v44 : BitVec 32 := Scalar.muli v39 c1_i32_33
  let v45 : BitVec 32 := Scalar.addi v43 v44
  v45.toNat
-- ==== PxHalvesIdeal.lean ====
abbrev S8x4x704x1024 : Shape := ⟨4, ![8, 4, 704, 1024]⟩
abbrev S4x2x4x2x352x1024 : Shape := ⟨6, ![4, 2, 4, 2, 352, 1024]⟩
abbrev S4x1x4x1x352x1024 : Shape := ⟨6, ![4, 1, 4, 1, 352, 1024]⟩
abbrev S4x4x352x1024 : Shape := ⟨4, ![4, 4, 352, 1024]⟩
abbrev S4x1x4x352x1024 : Shape := ⟨5, ![4, 1, 4, 352, 1024]⟩
abbrev S4x2x4x352x1024 : Shape := ⟨5, ![4, 2, 4, 352, 1024]⟩
abbrev S8x4x352x1024 : Shape := ⟨4, ![8, 4, 352, 1024]⟩

abbrev nBuf : Space → Nat
  | .hbm => 30
  | .vmem => 0
  | .smem => 0
  | _ => 0

abbrev bufTy : (tb : Table) → Fin (tcTables nBuf tb) → BufTy
  | .hbm, ⟨0, _⟩ => ⟨S8x4x704x1024, .bf16⟩
  | .hbm, ⟨1, _⟩ => ⟨S8x4x704x1024, .bf16⟩
  | .hbm, ⟨2, _⟩ => ⟨S8x4x704x1024, .bf16⟩
  | .hbm, ⟨3, _⟩ => ⟨S4x2x4x2x352x1024, .bf16⟩
  | .hbm, ⟨4, _⟩ => ⟨S4x1x4x1x352x1024, .bf16⟩
  | .hbm, ⟨5, _⟩ => ⟨S4x4x352x1024, .bf16⟩
  | .hbm, ⟨6, _⟩ => ⟨S4x1x4x1x352x1024, .bf16⟩
  | .hbm, ⟨7, _⟩ => ⟨S4x4x352x1024, .bf16⟩
  | .hbm, ⟨8, _⟩ => ⟨S4x1x4x352x1024, .bf16⟩
  | .hbm, ⟨9, _⟩ => ⟨S4x1x4x352x1024, .bf16⟩
  | .hbm, ⟨10, _⟩ => ⟨S4x2x4x352x1024, .bf16⟩
  | .hbm, ⟨11, _⟩ => ⟨S8x4x352x1024, .bf16⟩
  | .hbm, ⟨12, _⟩ => ⟨S4x2x4x2x352x1024, .bf16⟩
  | .hbm, ⟨13, _⟩ => ⟨S4x1x4x1x352x1024, .bf16⟩
  | .hbm, ⟨14, _⟩ => ⟨S4x4x352x1024, .bf16⟩
  | .hbm, ⟨15, _⟩ => ⟨S4x1x4x1x352x1024, .bf16⟩
  | .hbm, ⟨16, _⟩ => ⟨S4x4x352x1024, .bf16⟩
  | .hbm, ⟨17, _⟩ => ⟨S4x1x4x352x1024, .bf16⟩
  | .hbm, ⟨18, _⟩ => ⟨S4x1x4x352x1024, .bf16⟩
  | .hbm, ⟨19, _⟩ => ⟨S4x2x4x352x1024, .bf16⟩
  | .hbm, ⟨20, _⟩ => ⟨S8x4x352x1024, .bf16⟩
  | .hbm, ⟨21, _⟩ => ⟨S4x2x4x2x352x1024, .bf16⟩
  | .hbm, ⟨22, _⟩ => ⟨S4x1x4x1x352x1024, .bf16⟩
  | .hbm, ⟨23, _⟩ => ⟨S4x4x352x1024, .bf16⟩
  | .hbm, ⟨24, _⟩ => ⟨S4x1x4x1x352x1024, .bf16⟩
  | .hbm, ⟨25, _⟩ => ⟨S4x4x352x1024, .bf16⟩
  | .hbm, ⟨26, _⟩ => ⟨S4x1x4x352x1024, .bf16⟩
  | .hbm, ⟨27, _⟩ => ⟨S4x1x4x352x1024, .bf16⟩
  | .hbm, ⟨28, _⟩ => ⟨S4x2x4x352x1024, .bf16⟩
  | .hbm, ⟨29, _⟩ => ⟨S8x4x352x1024, .bf16⟩
  | _, _ => ⟨S8x4x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩

abbrev nD : Nat := 1
abbrev τ : Topo := Topo.v7x

variable {F : FTy → Type} [FloatOps F]
-- ==== Proof.Reals.lean ====
module

public import Idealize.ShloMosaic.Lib.Pointwise
public import Idealize.ShloMosaic.PureOps.Ideal.Laws

/-!
# Real values inside the extended reals

Where every argument is finite, each stage of a program is the image of a real number. The lemmas here move that image
outwards, one operation at a time, and give the real value of the literals the programs use.
-/

@[expose] public section

noncomputable section

namespace Cert.Reals

open Idealize.ShloMosaic

/-- A finite sum of real values is the real sum. -/
theorem sum_coe {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A value whose absolute value is below `⊤` is the image of a real. -/
theorem eq_coe_toReal {x : EReal} (h : max x (-x) < ⊤) : x = (x.toReal : EReal) := by
  induction x with
  | bot => simp at h
  | top => simp at h
  | coe r => rfl

/-- Division by a nonzero real. -/
theorem div_coe_coe (x : ℝ) {y : ℝ} (h : y ≠ 0) : Ideal.div (x : EReal) (y : EReal) = ((x / y : ℝ) : EReal) := by
  rw [Ideal.div_coe h, ← EReal.coe_mul, mul_one_div]

/-- The reciprocal square root of a positive real. -/
theorem rsqrt_coe_pos {x : ℝ} (h : 0 < x) : Ideal.rsqrt (x : EReal) = (((Real.sqrt x)⁻¹ : ℝ) : EReal) := by
  rw [Ideal.rsqrt_coe, if_neg (not_lt.2 h.le), if_neg h.ne']

theorem word_one : Ideal.ofBits .f32 0x3F800000#32 = ((1 : ℝ) : EReal) := by
  simp [Ideal.ofBits, Ideal.ieee, -EReal.coe_mul] <;> norm_num
theorem word_half : Ideal.ofBits .f32 0x3F000000#32 = ((1 / 2 : ℝ) : EReal) := by
  simp [Ideal.ofBits, Ideal.ieee, -EReal.coe_mul] <;> norm_num
theorem word_neg_half : Ideal.ofBits .f32 0xBF000000#32 = ((-(1 / 2) : ℝ) : EReal) := by
  simp [Ideal.ofBits, Ideal.ieee, -EReal.coe_mul] <;> norm_num
theorem word_two : Ideal.ofBits .f32 0x40000000#32 = ((2 : ℝ) : EReal) := by
  simp [Ideal.ofBits, Ideal.ieee, -EReal.coe_mul] <;> norm_num
theorem word_1024 : Ideal.ofBits .f32 0x44800000#32 = ((1024 : ℝ) : EReal) := by
  simp [Ideal.ofBits, Ideal.ieee, -EReal.coe_mul] <;> norm_num
theorem word_top : Ideal.ofBits .f32 0x7F800000#32 = ⊤ := by
  simp [Ideal.ofBits, Ideal.ieee, -EReal.coe_mul] <;> norm_num

/-- The variance offset of the normalisation, as the real its word denotes. -/
def eps : ℝ := 10995116 / 2 ^ 40
theorem word_eps : Ideal.ofBits .f32 0x3727C5AC#32 = ((eps : ℝ) : EReal) := by
  simp [Ideal.ofBits, Ideal.ieee, eps, -EReal.coe_mul] <;> norm_num
theorem eps_pos : 0 < eps := by norm_num [eps]

/-- The residual's scale `8^(1/4)` as the real its word denotes. -/
def alpha : ℝ := 14107901 / 2 ^ 23
theorem word_alpha : Ideal.ofBits .f32 0x3FD744FD#32 = ((alpha : ℝ) : EReal) := by
  simp [Ideal.ofBits, Ideal.ieee, alpha, -EReal.coe_mul] <;> norm_num

end Cert.Reals

end
-- ==== Proof.NormMath.lean ====
module

public import proofs.«01_k».proof.Proof.Reals

/-!
# The gradient of a layer normalisation, over the reals

One row of 1024 entries. `grad` is the closed form; `grad_eq_chain` says that the chain of partial derivatives that
follows the forward lines one after another (the variance's, then the mean's) gives the same row.
-/

@[expose] public section

noncomputable section

namespace Cert.NormMath

open Cert.Reals

variable (x g d : Fin 1024 → ℝ)

/-- The row's mean. -/
def mean : ℝ := (∑ k, x k) / 1024
/-- The row less its mean. -/
def cen (k : Fin 1024) : ℝ := x k - mean x
/-- The row's variance. -/
def var : ℝ := (∑ k, cen x k * cen x k) / 1024
/-- The reciprocal of the row's deviation. -/
def rstd : ℝ := (Real.sqrt (var x + eps))⁻¹
/-- The normalised row. -/
def xhat (k : Fin 1024) : ℝ := cen x k * rstd x

/-- The gradient at the row's entries, from the row's reciprocal deviation `r` and normalised row `h`. -/
def gradOf (r : ℝ) (h : Fin 1024 → ℝ) (k : Fin 1024) : ℝ :=
  r * (d k * g k - (∑ j, d j * g j) / 1024 - h k * ((∑ j, d j * g j * h j) / 1024))

/-- The gradient of the normalised, scaled row at its input. -/
def grad (k : Fin 1024) : ℝ := gradOf g d (rstd x) (xhat x) k

theorem var_nonneg : 0 ≤ var x :=
  div_nonneg (Finset.sum_nonneg fun k _ => mul_self_nonneg _) (by norm_num)

theorem var_eps_pos : 0 < var x + eps := add_pos_of_nonneg_of_pos (var_nonneg x) eps_pos

theorem sum_cen : ∑ k, cen x k = 0 := by
  simp only [cen, Finset.sum_sub_distrib, Finset.sum_const, Finset.card_univ, Fintype.card_fin, nsmul_eq_mul, mean]
  push_cast
  ring

theorem rstd_sq : rstd x * rstd x = 1 / (var x + eps) := by
  rw [rstd, ← mul_inv, Real.mul_self_sqrt (var_eps_pos x).le, one_div]

/-- The variance's derivative along the row. -/
def dvar : ℝ := (∑ j, cen x j * (d j * g j)) * (-(1 / 2) * (rstd x / (var x + eps))) / 1024

/-- The chain rule through the normalised row, the variance and the mean in turn is the closed form. -/
theorem grad_eq_chain (k : Fin 1024) :
    d k * g k * rstd x + dvar x g d * (2 * cen x k)
      + (∑ j, -(d j * g j * rstd x) + ∑ j, -(dvar x g d * (2 * cen x j))) / 1024 = grad x g d k := by
  have h2 : ∑ j, -(dvar x g d * (2 * cen x j)) = 0 := by
    have : ∀ j, -(dvar x g d * (2 * cen x j)) = (-(dvar x g d) * 2) * cen x j := fun j => by ring
    simp only [this, ← Finset.mul_sum, sum_cen, mul_zero]
  have h1 : ∑ j, -(d j * g j * rstd x) = -((∑ j, d j * g j) * rstd x) := by
    rw [Finset.sum_neg_distrib, Finset.sum_mul]
  have h3 : ∑ j, d j * g j * xhat x j = (∑ j, cen x j * (d j * g j)) * rstd x := by
    rw [Finset.sum_mul]; exact Finset.sum_congr rfl fun j _ => by rw [xhat]; ring
  rw [h2, h1, grad, gradOf, h3, xhat, dvar]
  have h4 : rstd x / (var x + eps) = rstd x * (rstd x * rstd x) := by rw [rstd_sq]; ring
  rw [h4]; ring

end Cert.NormMath

end
-- ==== Proof.NormRef.lean ====
module

public import proofs.«01_k».proof.Proof.NormMath
public import proofs.«01_k».proof.Proof.Gen.LnGradIdeal.Read
public import Idealize.ShloMosaic.Lib.WordCmp

/-!
# What the reference of the normalisation's gradient computes

Each line of the derivative of the normalisation, at finite arguments, as a real number of its row.
-/

@[expose] public section

noncomputable section

namespace Cert.NormRef

open Idealize.ShloMosaic Cert.Reals Cert.NormMath Cert.LnGradIdeal Cert.LnGradIdeal.Read

variable (x h : S4096x1024.Idx → ℝ) (g : S1024.Idx → ℝ) (d : S4096x1024.Idx → ℝ)

/-- The real array as an array of extended reals. -/
abbrev up {s : Shape} (v : s.Idx → ℝ) : s.Idx → EReal := fun i => (v i : EReal)

/-- Row `r` of the normalisation's input: the scaled residual plus half the branch. -/
def pre (r : Fin 4096) (k : Fin 1024) : ℝ := alpha * x (ix2 r k) + 1 / 2 * h (ix2 r k)
/-- The scale as a row. -/
def gam (k : Fin 1024) : ℝ := g (ix1 k)
/-- Row `r` of the cotangent. -/
def dro (r : Fin 4096) (k : Fin 1024) : ℝ := d (ix2 r k)

theorem v5 (r : Fin 4096) (k : Fin 1024) : val_main_v5 (F := Ideal) (up x) (up h) (ix2 r k) = (pre x h r k : EReal) := by
  pointwise [val_main_v5, val_main_v1, val_main_v0, val_main_cst, val_main_v4, val_main_v3, val_main_cst_1]
  rw [word_alpha, word_half, pre]; push_cast; rfl

theorem v9 (r : Fin 4096) : val_main_v9 (F := Ideal) (up x) (up h) (ix2 r 0) = (mean (pre x h r) : EReal) := by
  pointwise [val_main_v9, val_main_v7, val_main_v6, val_main_v8, val_main_cst_3, val_main_cst_2]
  simp only [v5, sum_coe, word_1024]
  rw [div_coe_coe _ (by norm_num), mean]

theorem v20 (r : Fin 4096) (k : Fin 1024) : val_main_v20 (F := Ideal) (up x) (up h) (ix2 r k) = (cen (pre x h r) k : EReal) := by
  pointwise [val_main_v20, val_main_v19]
  rw [v9, v5, cen]; push_cast; rfl

theorem v11 (r : Fin 4096) (k : Fin 1024) : val_main_v11 (F := Ideal) (up x) (up h) (ix2 r k) = (cen (pre x h r) k : EReal) := by
  pointwise [val_main_v11, val_main_v10]
  rw [v9, v5, cen]; push_cast; rfl

theorem v22 (r : Fin 4096) : val_main_v22 (F := Ideal) (up x) (up h) (ix2 r 0) = ((var (pre x h r) + eps : ℝ) : EReal) := by
  pointwise [val_main_v22, val_main_v18, val_main_v16, val_main_v15, val_main_v17, val_main_cst_6, val_main_cst_5,
    val_main_v21, val_main_cst_7, val_main_v12]
  simp only [v11, ← EReal.coe_mul, sum_coe, word_1024, word_eps]
  rw [div_coe_coe _ (by norm_num), ← EReal.coe_add, var]

theorem v23 (r : Fin 4096) : val_main_v23 (F := Ideal) (up x) (up h) (ix2 r 0) = (rstd (pre x h r) : EReal) := by
  pointwise [val_main_v23]
  rw [v22, rsqrt_coe_pos (var_eps_pos _), rstd]

theorem v28 (r : Fin 4096) (k : Fin 1024) : val_main_v28 (F := Ideal) (up x) (up h) (ix2 r k) = (xhat (pre x h r) k : EReal) := by
  pointwise [val_main_v28, val_main_v27]
  rw [v20, v23, xhat]; push_cast; rfl

theorem v43 (r : Fin 4096) (k : Fin 1024) :
    val_main_v43 (F := Ideal) (up g) (up d) (ix2 r k) = ((dro d r k * gam g k : ℝ) : EReal) := by
  pointwise [val_main_v43, val_main_v42, val_main_v29, val_main_v35]
  rw [dro, gam]; push_cast; rfl

/-- The variance's derivative, spread along the row. -/
theorem v57 (r : Fin 4096) (k : Fin 1024) :
    val_main_v57 (F := Ideal) (up x) (up h) (up g) (up d) (ix2 r k) = (dvar (pre x h r) (gam g) (dro d r) : EReal) := by
  pointwise [val_main_v57, val_main_v56, val_main_v55, val_main_v50, val_main_v47, val_main_v46, val_main_v45,
    val_main_v26, val_main_v24, val_main_v25, val_main_cst_8, val_main_v54, val_main_cst_13, val_main_cst_15, val_main_cst_16]
  simp only [Finset.univ_unique, Fin.default_eq_zero, Finset.sum_singleton, v20, v43, v23, v22, ← EReal.coe_mul, sum_coe, word_1024,
    word_neg_half]
  rw [div_coe_coe _ (var_eps_pos _).ne', ← EReal.coe_mul, ← EReal.coe_mul, div_coe_coe _ (by norm_num), dvar]

theorem v49 (r : Fin 4096) (k : Fin 1024) : val_main_v49 (F := Ideal) (up x) (up h) (up g) (up d) (ix2 r k)
    = ((dro d r k * gam g k * rstd (pre x h r) : ℝ) : EReal) := by
  pointwise [val_main_v49, val_main_v48]
  rw [v43, v23]; push_cast; rfl

theorem v58 (r : Fin 4096) (k : Fin 1024) : val_main_v58 (F := Ideal) (up x) (up h) (up g) (up d) (ix2 r k)
    = ((dvar (pre x h r) (gam g) (dro d r) * (2 * cen (pre x h r) k) : ℝ) : EReal) := by
  pointwise [val_main_v58, val_main_v14, val_main_v13, val_main_cst_4]
  rw [v57, v11, word_two]; push_cast; rfl

/-- The gradient at the normalisation's residual input. -/
theorem v68 (r : Fin 4096) (k : Fin 1024) : val_main_v68 (F := Ideal) (up x) (up h) (up g) (up d) (ix2 r k)
    = (grad (pre x h r) (gam g) (dro d r) k : EReal) := by
  pointwise [val_main_v68, val_main_v62, val_main_v67, val_main_v66, val_main_v65, val_main_v63, val_main_v64, val_main_v53,
    val_main_v52, val_main_v51, val_main_v61, val_main_v60, val_main_v59, val_main_cst_14, val_main_cst_17, val_main_cst_18,
    val_main_cst_19]
  simp only [Finset.univ_unique, Fin.default_eq_zero, Finset.sum_singleton, v49, v58, ← EReal.coe_neg, sum_coe, ← EReal.coe_add,
    word_1024]
  rw [div_coe_coe _ (by norm_num), ← EReal.coe_add, grad_eq_chain]

/-- The gradient at the branch: half of it. -/
theorem v71 (r : Fin 4096) (k : Fin 1024) : val_main_v71 (F := Ideal) (up x) (up h) (up g) (up d) (ix2 r k)
    = ((1 / 2 * grad (pre x h r) (gam g) (dro d r) k : ℝ) : EReal) := by
  pointwise [val_main_v71, val_main_v70, val_main_v69, val_main_cst_20]
  rw [v68, word_half]; push_cast; rfl

/-- The scale's gradient. -/
theorem v72 (k : Fin 1024) : val_main_v72 (F := Ideal) (up x) (up h) (up d) (ix3 0 0 k)
    = ((∑ r, xhat (pre x h r) k * dro d r k : ℝ) : EReal) := by
  pointwise [val_main_v72, val_main_v44, val_main_v41, val_main_v40, val_main_v39, val_main_v35, val_main_cst_11, val_main_cst_12]
  simp only [Finset.univ_unique, Fin.default_eq_zero, Finset.sum_singleton, v28, ← EReal.coe_mul, sum_coe, dro]

/-- The offset's gradient. -/
theorem v74 (k : Fin 1024) : val_main_v74 (F := Ideal) (up d) (ix3 0 0 k) = ((∑ r, dro d r k : ℝ) : EReal) := by
  pointwise [val_main_v74, val_main_v38, val_main_v37, val_main_v36, val_main_cst_9, val_main_cst_10]
  simp only [Finset.univ_unique, Fin.default_eq_zero, Finset.sum_singleton, sum_coe, dro]

/-- The two stacked gradients with the last layer's row replaced. -/
theorem v73_update (x h d : S4096x1024.Idx → EReal) (o : S12x1x1024.Idx → EReal) : val_main_v73 (F := Ideal) x h d o
    = updateSlice o (val_main_v72 (F := Ideal) x h d) ![11, 0, 0] (by decide) :=
  WordCmp.dynamicUpdateSlice_eq_update _ _ _ _ _ _ (by decide +kernel)

theorem v75_update (d : S4096x1024.Idx → EReal) (o : S12x1x1024.Idx → EReal) : val_main_v75 (F := Ideal) d o
    = updateSlice o (val_main_v74 (F := Ideal) d) ![11, 0, 0] (by decide) :=
  WordCmp.dynamicUpdateSlice_eq_update _ _ _ _ _ _ (by decide +kernel)

end Cert.NormRef

end
-- ==== Proof.NormKernel.lean ====
module

public import proofs.«01_k».proof.Proof.NormRef
public import proofs.«01_k».proof.Proof.Gen.LnBwdIdeal.Value
public import Idealize.ShloMosaic.Lib.Pipeline.ValueKit

/-!
# What the kernel of the normalisation's gradient computes
-/

@[expose] public section

noncomputable section

namespace Cert.NormKernel

open Idealize.ShloMosaic Idealize.ShloMosaic.TcCoe Idealize.SL.Sem Cert.Reals Cert.NormMath Cert.LnBwdIdeal Cert.LnBwdIdeal.Gen

section AnyInstance

variable {F : FTy → Type} [FloatOps F]
variable (m : (ℓ : Loc nD τ sig) → Buf (Elt F) ℓ)

/-- The kernel's normalised rows, prepared before the call, are the reference's. -/
theorem V_xhat (c : Dev nD) : V m c main_v20 = Cert.LnGradIdeal.Read.val_main_v28 (F := F)
    (m ((c : Thread nD τ).loc main_arg0)) (m ((c : Thread nD τ).loc main_arg1)) := by
  unfold V hostOps0
  after_results_simp
  rfl

theorem V_rstd (c : Dev nD) : V m c main_v18 = Cert.LnGradIdeal.Read.val_main_v23 (F := F)
    (m ((c : Thread nD τ).loc main_arg0)) (m ((c : Thread nD τ).loc main_arg1)) := by
  unfold V hostOps0
  after_results_simp
  rfl

theorem V_gam (c : Dev nD) : V m c main_v21 = shapeCast _ (m ((c : Thread nD τ).loc main_arg2)) shapeCasts_S1024_S1x1024 := by
  unfold V hostOps0
  after_results_simp
  rfl

theorem V_dgam (c : Dev nD) : V m c main_v22_2 = m ((c : Thread nD τ).loc main_arg4) := by
  unfold V hostOps0
  after_results_simp
  rfl

theorem V_dbet (c : Dev nD) : V m c main_v22_3 = m ((c : Thread nD τ).loc main_arg5) := by
  unfold V hostOps0
  after_results_simp
  rfl

theorem lt8 (t : Fin cfg0.N) : t.val < 8 := by
  exact lt_of_lt_of_eq t.isLt (show cfg0.N = 8 from N_0)

/-- What every point leaves in the first output's block. -/
theorem outs4 (c : Dev nD) (t : Fin cfg0.N) :
    (outsAt0 m c t.val t.isLt).1 = k0_pay6 (iblk m c 0 t) (iblk m c 1 t) (iblk m c 3 t) (iblk m c 2 t) := by
  have := lt8 t
  by_cases h0 : t.val % 8 = 0
  · rw [outsAt0_A m c t h0 (by omega)]; frame_out
  · rw [outsAt0_B m c t h0 (by omega)]; frame_out

/-- What every point leaves in the second output's block. -/
theorem outs5 (c : Dev nD) (t : Fin cfg0.N) :
    (outsAt0 m c t.val t.isLt).2.1 = k0_pay7 (iblk m c 0 t) (iblk m c 1 t) (iblk m c 3 t) (iblk m c 2 t) := by
  have := lt8 t
  by_cases h0 : t.val % 8 = 0
  · rw [outsAt0_A m c t h0 (by omega)]; frame_out
  · rw [outsAt0_B m c t h0 (by omega)]; frame_out

/-- The partial sums the first point leaves, and what each later point adds to the ones before. -/
theorem outs6_first (c : Dev nD) (t : Fin cfg0.N) (h0 : t.val % 8 = 0) :
    (outsAt0 m c t.val t.isLt).2.2.1 = k0_pay1 (k0_pay8 (iblk m c 0 t) (iblk m c 1 t)) := by
  have := lt8 t
  rw [outsAt0_A m c t h0 (by omega)]; frame_out

theorem outs6_next (c : Dev nD) (t : Fin cfg0.N) (h0 : ¬t.val % 8 = 0) :
    (outsAt0 m c t.val t.isLt).2.2.1 = k0_pay3 (k0_pay8 (iblk m c 0 t) (iblk m c 1 t))
      (outsAt0 m c (t.val - 1) (Nat.lt_of_le_of_lt (Nat.sub_le _ _) t.isLt)).2.2.1 := by
  have := lt8 t
  rw [outsAt0_B m c t h0 (by omega)]; frame_out

theorem outs7_first (c : Dev nD) (t : Fin cfg0.N) (h0 : t.val % 8 = 0) :
    (outsAt0 m c t.val t.isLt).2.2.2 = k0_pay2 (k0_pay9 (iblk m c 0 t)) := by
  have := lt8 t
  rw [outsAt0_A m c t h0 (by omega)]; frame_out

theorem outs7_next (c : Dev nD) (t : Fin cfg0.N) (h0 : ¬t.val % 8 = 0) :
    (outsAt0 m c t.val t.isLt).2.2.2 = k0_pay4 (k0_pay9 (iblk m c 0 t))
      (outsAt0 m c (t.val - 1) (Nat.lt_of_le_of_lt (Nat.sub_le _ _) t.isLt)).2.2.2 := by
  have := lt8 t
  rw [outsAt0_B m c t h0 (by omega)]; frame_out

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![0, 0] := by decide +kernel
theorem idx4 : ∀ t : Fin grid0.N, win0_4.index t = ![t.val, 0] := by decide +kernel
theorem idx6 : ∀ t : Fin grid0.N, win0_6.index t = ![11, 0, 0] := by decide +kernel
theorem idx7 : ∀ t : Fin grid0.N, win0_7.index t = ![11, 0, 0] := by decide +kernel
theorem idx5 : ∀ t : Fin grid0.N, win0_5.index t = ![t.val, 0] := by decide +kernel

end AnyInstance

open Cert.NormRef (up pre gam dro)

variable (m : (ℓ : Loc nD τ sig) → Buf (Elt Ideal) ℓ) (c : Dev nD)
  (x h : S4096x1024.Idx → ℝ) (g : S1024.Idx → ℝ) (d : S4096x1024.Idx → ℝ)

/-- The launch memory holds the four real arrays. -/
structure Holds : Prop where
  x : m ((c : Thread nD τ).loc main_arg0) = up x
  h : m ((c : Thread nD τ).loc main_arg1) = up h
  g : m ((c : Thread nD τ).loc main_arg2) = up g
  d : m ((c : Thread nD τ).loc main_arg3) = up d

/-- One block of 512 rows of the gradient, from the blocks of the four operands. -/
theorem pay6_apply (r0 : ℕ) (hr : r0 + 512 ≤ 4096) (D H : Fin 4096 → Fin 1024 → ℝ) (G : Fin 1024 → ℝ) (R : Fin 4096 → ℝ)
    (v0 v1 : Vec Ideal S512x1024 .f32) (v3 : Vec Ideal S1x1024 .f32) (v16 : Vec Ideal S512x1 .f32)
    (e0 : ∀ (a : Fin 512) k, v0 (ix2 a k) = (D ⟨r0 + a, by omega⟩ k : EReal))
    (e1 : ∀ (a : Fin 512) k, v1 (ix2 a k) = (H ⟨r0 + a, by omega⟩ k : EReal))
    (e3 : ∀ k, v3 (ix2 0 k) = (G k : EReal))
    (e16 : ∀ a : Fin 512, v16 (ix2 a 0) = (R ⟨r0 + a, by omega⟩ : EReal)) (a : Fin 512) (k : Fin 1024) :
    k0_pay6 v0 v1 v3 v16 (ix2 a k) = (gradOf G (D ⟨r0 + a, by omega⟩) (R ⟨r0 + a, by omega⟩) (H ⟨r0 + a, by omega⟩) k : EReal) := by
  pointwise [k0_pay6, k0_pay5]
  simp only [e0, e1, e3, e16, ← EReal.coe_mul, sum_coe, word_1024, div_coe_coe _ (by norm_num : (1024 : ℝ) ≠ 0), ← EReal.coe_sub, gradOf]

open Cert.LnGradIdeal.Read

theorem row (t : Fin cfg0.N) : 512 * t.val + 512 ≤ 4096 := by have := lt8 t; omega

theorem blk0 (hm : Holds m c x h g d) (t : Fin cfg0.N) (a : Fin 512) (k : Fin 1024) :
    iblk m c 0 t (ix2 a k) = (dro d ⟨512 * t.val + a, by have := row t; omega⟩ k : EReal) := by
  blk_simp [iblk, idx0 t]
  rw [V_main_arg3, hm.d]
  refine congrArg (up d) ?_
  blk_ext [idx0 t]

theorem blk1 (hm : Holds m c x h g d) (t : Fin cfg0.N) (a : Fin 512) (k : Fin 1024) :
    iblk m c 1 t (ix2 a k) = (xhat (pre x h ⟨512 * t.val + a, by have := row t; omega⟩) k : EReal) := by
  rw [← Cert.NormRef.v28]
  blk_simp [iblk, idx1 t]
  rw [V_xhat, hm.x, hm.h]
  refine congrArg _ ?_
  blk_ext [idx1 t]

theorem blk2 (hm : Holds m c x h g d) (t : Fin cfg0.N) (a : Fin 512) :
    iblk m c 2 t (ix2 a 0) = (rstd (pre x h ⟨512 * t.val + a, by have := row t; omega⟩) : EReal) := by
  rw [← Cert.NormRef.v23]
  blk_simp [iblk, idx2 t]
  rw [V_rstd, hm.x, hm.h]
  refine congrArg _ ?_
  blk_ext [idx2 t]

theorem blk3 (hm : Holds m c x h g d) (t : Fin cfg0.N) (k : Fin 1024) :
    iblk m c 3 t (ix2 0 k) = (gam g k : EReal) := by
  blk_simp [iblk, idx3 t]
  rw [V_gam, hm.g, show (win0_3.blk t).view.emb (ix2 0 k) = ix2 0 k by blk_ext [idx3 t]]
  pointwise
  rfl

theorem final4 (hm : Holds m c x h g d) :
    (dats m 0 c).arrAt 4 cfg0.N = val_main_v68 (F := Ideal) (up x) (up h) (up g) (up d) := by
  refine (dats m 0 c).arrAt_eq_of_covers 4 _ (by decide +kernel) fun t hf y => ?_
  blk_simp
  rw [after0_4, outs4]
  idx_vars y
  rw [pay6_apply (512 * t.val) (row t) (dro d) (fun r => xhat (pre x h r)) (gam g) (fun r => rstd (pre x h r)) _ _ _ _ (blk0 m c x h g d hm t) (blk1 m c x h g d hm t) (blk3 m c x h g d hm t) (blk2 m c x h g d hm t)]
  refine (Cert.NormRef.v68 x h g d _ _).symm.trans (congrArg _ ?_)
  blk_ext [idx4 t]

theorem final5 (hm : Holds m c x h g d) :
    (dats m 0 c).arrAt 5 cfg0.N = val_main_v71 (F := Ideal) (up x) (up h) (up g) (up d) := by
  refine (dats m 0 c).arrAt_eq_of_covers 5 _ (by decide +kernel) fun t hf y => ?_
  blk_simp
  rw [after0_5, outs5]
  idx_vars y
  pointwise [k0_pay7]
  rw [pay6_apply (512 * t.val) (row t) (dro d) (fun r => xhat (pre x h r)) (gam g) (fun r => rstd (pre x h r)) _ _ _ _ (blk0 m c x h g d hm t) (blk1 m c x h g d hm t) (blk3 m c x h g d hm t) (blk2 m c x h g d hm t)]
  rw [word_half, ← EReal.coe_mul]
  refine (Cert.NormRef.v71 x h g d _ _).symm.trans (congrArg _ ?_)
  blk_ext [idx5 t]

/-- The rows a point adds up for the scale's gradient, and for the offset's. -/
theorem pay8_apply (hm : Holds m c x h g d) (t : Fin cfg0.N) (k : Fin 1024) :
    k0_pay8 (iblk m c 0 t) (iblk m c 1 t) (ix2 0 k)
      = ((∑ a : Fin 512, xhat (pre x h ⟨512 * t.val + a, by have := row t; omega⟩) k * dro d ⟨512 * t.val + a, by have := row t; omega⟩ k : ℝ) : EReal) := by
  pointwise [k0_pay8, k0_pay5]
  simp only [blk0 m c x h g d hm t, blk1 m c x h g d hm t, ← EReal.coe_mul, sum_coe, mul_comm]

theorem pay9_apply (hm : Holds m c x h g d) (t : Fin cfg0.N) (k : Fin 1024) :
    k0_pay9 (iblk m c 0 t) (ix2 0 k)
      = ((∑ a : Fin 512, dro d ⟨512 * t.val + a, by have := row t; omega⟩ k : ℝ) : EReal) := by
  pointwise [k0_pay9]
  simp only [blk0 m c x h g d hm t, sum_coe]

theorem last_of_flush6 {t : Fin cfg0.N} (hf : (cfg0.win 6).flush t = true) : t.val + 1 = cfg0.N := by
  have := lt8 t
  have := (flush0_6 t).mp hf
  exact (show t.val + 1 = 8 by omega).trans (show cfg0.N = 8 from N_0).symm

theorem last_of_flush7 {t : Fin cfg0.N} (hf : (cfg0.win 7).flush t = true) : t.val + 1 = cfg0.N := by
  have := lt8 t
  have := (flush0_7 t).mp hf
  exact (show t.val + 1 = 8 by omega).trans (show cfg0.N = 8 from N_0).symm

theorem N_le : cfg0.N ≤ 8 := le_of_eq (show cfg0.N = 8 from N_0)

/-- The sum over all rows, block by block. -/
theorem sum_blocks (f : Fin 4096 → ℝ) :
    ∑ t : Fin cfg0.N, ∑ a : Fin 512, f ⟨512 * t.val + a, by have := row t; omega⟩ = ∑ r, f r :=
  Fin.sum_mul_add_congr (fun s k hl => congrArg f (Fin.ext (by simp only []; omega))) (show 4096 = cfg0.N * 512 by rw [show cfg0.N = 8 from N_0])

theorem outs6_last (hm : Holds m c x h g d) (t : Fin cfg0.N) (ht : t.val + 1 = cfg0.N) (k : Fin 1024) :
    (outsAt0 m c t.val t.isLt).2.2.1 (ix3 0 0 k) = ((∑ r, xhat (pre x h r) k * dro d r k : ℝ) : EReal) := by
  refine (Pipeline.eq_sum_fin_of_reset_step_apply_last (fun n hn k => (outsAt0 m c n hn).2.2.1 (ix3 0 0 k)) 8 (fun _ => 0)
    (fun t k => k0_pay8 (iblk m c 0 t) (iblk m c 1 t) (ix2 0 k)) (fun t h0 k => ?_) (fun t h0 k => ?_) N_le t ht k).trans ?_
  · simp only [outs6_first m c t h0]
    pointwise [k0_pay1]
  · simp only [outs6_next m c t h0]
    pointwise [k0_pay3]
  · simp only [pay8_apply m c x h g d hm, sum_coe, zero_add]
    exact congrArg _ (sum_blocks fun r => xhat (pre x h r) k * dro d r k)

theorem outs7_last (hm : Holds m c x h g d) (t : Fin cfg0.N) (ht : t.val + 1 = cfg0.N) (k : Fin 1024) :
    (outsAt0 m c t.val t.isLt).2.2.2 (ix3 0 0 k) = ((∑ r, dro d r k : ℝ) : EReal) := by
  refine (Pipeline.eq_sum_fin_of_reset_step_apply_last (fun n hn k => (outsAt0 m c n hn).2.2.2 (ix3 0 0 k)) 8 (fun _ => 0)
    (fun t k => k0_pay9 (iblk m c 0 t) (ix2 0 k)) (fun t h0 k => ?_) (fun t h0 k => ?_) N_le t ht k).trans ?_
  · simp only [outs7_first m c t h0]
    pointwise [k0_pay2]
  · simp only [outs7_next m c t h0]
    pointwise [k0_pay4]
  · simp only [pay9_apply m c x h g d hm, sum_coe, zero_add]
    exact congrArg _ (sum_blocks fun r => dro d r k)

theorem final6 (hm : Holds m c x h g d) :
    (dats m 0 c).arrAt 6 cfg0.N = val_main_v73 (F := Ideal) (up x) (up h) (up d) (m ((c : Thread nD τ).loc main_arg4)) := by
  refine (dats m 0 c).arrAt_eq_of_coversWhere_of_agree 6 _ (fun β => 11 ≤ β (0 : Fin 3)) (by decide +kernel) (fun t hf y => ?_) (fun j hj => ?_)
  · blk_simp
    rw [after0_6, Cert.NormRef.v73_update]
    idx_vars y
    obtain rfl := Subsingleton.elim y0 0
    obtain rfl := Subsingleton.elim y1 0
    rw [outs6_last m c x h g d hm t (last_of_flush6 hf), show (((View.whole main_v22_2).slice (win0_6.rect t)).emb (ix3 0 0 y2)) = ix3 11 0 y2 by blk_ext [idx6 t]]
    refine (Cert.NormRef.v72 x h d _).symm.trans ?_
    pointwise
  · blk_simp [Pipeline.Window.cell_apply] at hj
    rw [Cert.NormRef.v73_update, A_eq]
    refine (congrFun (V_dgam m c) _).trans ?_
    rw [updateSlice_apply, dif_neg]
    · intro hin
      have := (hin 0).1
      idx_vars j
      refine hj ?_
      simpa using this

theorem final7 (hm : Holds m c x h g d) :
    (dats m 0 c).arrAt 7 cfg0.N = val_main_v75 (F := Ideal) (up d) (m ((c : Thread nD τ).loc main_arg5)) := by
  refine (dats m 0 c).arrAt_eq_of_coversWhere_of_agree 7 _ (fun β => 11 ≤ β (0 : Fin 3)) (by decide +kernel) (fun t hf y => ?_) (fun j hj => ?_)
  · blk_simp
    rw [after0_7, Cert.NormRef.v75_update]
    idx_vars y
    obtain rfl := Subsingleton.elim y0 0
    obtain rfl := Subsingleton.elim y1 0
    rw [outs7_last m c x h g d hm t (last_of_flush7 hf), show (((View.whole main_v22_3).slice (win0_7.rect t)).emb (ix3 0 0 y2)) = ix3 11 0 y2 by blk_ext [idx7 t]]
    refine (Cert.NormRef.v74 d _).symm.trans ?_
    pointwise
  · blk_simp [Pipeline.Window.cell_apply] at hj
    rw [Cert.NormRef.v75_update, A_eq]
    refine (congrFun (V_dbet m c) _).trans ?_
    rw [updateSlice_apply, dif_neg]
    · intro hin
      have := (hin 0).1
      idx_vars j
      refine hj ?_
      simpa using this

end Cert.NormKernel

end
-- ==== Proof.Finite.lean ====
module

public import proofs.«01_k».proof.Proof.Reals
public import Idealize.ShloMosaic.Lib.ReduceAll
public import Idealize.ShloMosaic.Lib.Affine
public import Idealize.ShloMosaic.Lib.Pointwise

/-!
# An array all of whose magnitudes are below infinity is an array of real numbers
-/

@[expose] public section

noncomputable section

namespace Cert.Finite

open Idealize.ShloMosaic Cert.Reals

/-- The real numbers an array holds, where it holds real numbers. -/
def reals {s : Shape} (x : s.Idx → EReal) : s.Idx → ℝ := fun i => (x i).toReal

/-- An array all of whose magnitudes compare below infinity holds real numbers. -/
theorem eq_reals {s t u : Shape} [Subsingleton t.Idx] {axes : List (Fin s.rank)} {dims : Fin t.rank → Fin s.rank} (x : FVec Ideal s .f32)
    (hb : t.BroadcastsInDim s dims) (init : u.Idx → BitVec 1) (h : s.ReducesTo axes t) (hu : 0 < u.numel) (j : t.Idx)
    (e : Host.reduce IntOp.andi (cmpf .olt (Host.absf x) (broadcastInDim s dims hb (constant t .f32 0x7F800000#32))) init h hu j = 1#1) :
    x = fun i => ((reals x i : ℝ) : EReal) := by
  funext i
  have e := Host.reduce_andi_all _ _ _ _ _ e i
  refine eq_coe_toReal ?_
  replace e : BitVec.ofBool (decide (max (x i) (-x i) < Ideal.ofBits .f32 0x7F800000#32)) = 1#1 := e
  rw [word_top] at e
  by_contra hn
  rw [decide_eq_false hn] at e
  exact absurd e (by decide)

end Cert.Finite

end
-- ==== Proof.NormClaim.lean ====
module

public import proofs.«01_k».proof.Defs
public import proofs.«01_k».proof.Proof.NormKernel
public import proofs.«01_k».proof.Proof.Finite
public import proofs.«01_k».proof.Proof.Gen.LnBwd.Frame
public import proofs.«01_k».proof.Proof.Gen.LnGradIdeal.Run
public import proofs.«01_k».proof.Proof.Gen.Pre_ln_finite

/-!
# The claims about the normalisation's gradient
-/

@[expose] public section

noncomputable section

namespace Cert.NormClaim

open Idealize.ShloMosaic Idealize.ShloMosaic.TcCoe Idealize.SL.Sem Cert.Finite

/-- The precondition says that the first four arguments hold real numbers. -/
theorem holds_of_pre (m : (ℓ : Loc LnBwdIdeal.nD LnBwdIdeal.τ LnBwdIdeal.sig) → Buf (Elt Ideal) ℓ) (h : Pre_LnBwdIdeal_ln_finite m)
    (c : Dev LnBwdIdeal.nD) :
    ∃ x h g d, NormKernel.Holds m c x h g d := by
  have hc := congrFun (h c) (Shape.Idx.first Pre_ln_finite.Gen.h_S_)
  dsimp only [Pre_ln_finite.fn, Pre_ln_finite.fn_part1] at hc
  obtain ⟨hc, e3⟩ := IntOp.andi_eq_one.1 hc
  obtain ⟨hc, e2⟩ := IntOp.andi_eq_one.1 hc
  obtain ⟨e0, e1⟩ := IntOp.andi_eq_one.1 hc
  exact ⟨_, _, _, _, eq_reals _ _ _ _ _ _ e0, eq_reals _ _ _ _ _ _ e1, eq_reals _ _ _ _ _ _ e2, eq_reals _ _ _ _ _ _ e3⟩

theorem frame_reference : Cert.quiescent_LnGradIdeal := fun m ρ _ =>
  (θ_run LnGradIdeal.defs _ _).mono (fun r h => ⟨fun c => (h c).2.2.2.2, sem_eq_zero_of_no_sems (by decide) r.2⟩)
    (LnGradIdeal.Value.run (F := Ideal) m ρ)

theorem equal : Cert.algebraic_LnBwdIdeal_LnGradIdeal_pre_ln_finite := by
  intro m ρ m' ρ' hpre hagree
  refine ⟨fun c => (LnBwdIdeal.Gen.dats m 0 c).arrAt 4 LnBwdIdeal.cfg0.N, fun c => (LnBwdIdeal.Gen.dats m 0 c).arrAt 5 LnBwdIdeal.cfg0.N,
    fun c => (LnBwdIdeal.Gen.dats m 0 c).arrAt 6 LnBwdIdeal.cfg0.N, fun c => (LnBwdIdeal.Gen.dats m 0 c).arrAt 7 LnBwdIdeal.cfg0.N,
    LnBwdIdeal.Value.run_blocks m ρ, ?_⟩
  refine (θ_run LnGradIdeal.defs _ _).mono (fun _ h c => ?_) (LnGradIdeal.Value.run (F := Ideal) m' ρ')
  obtain ⟨x, y, g, d, hm⟩ := holds_of_pre m hpre c
  obtain ⟨a0, a1, a2, a3, a4, a5⟩ := hagree c
  obtain ⟨h0, h1, h2, h3, hk⟩ := h c
  refine ⟨h0.trans ?_, h1.trans ?_, h2.trans ?_, h3.trans ?_, hk⟩
  · refine Eq.trans ?_ (NormKernel.final4 m c x y g d hm).symm
    rw [LnGradIdeal.Read.val_main_v68_eq, a0, a1, a2, a3, hm.x, hm.h, hm.g, hm.d]
  · refine Eq.trans ?_ (NormKernel.final5 m c x y g d hm).symm
    rw [LnGradIdeal.Read.val_main_v71_eq, a0, a1, a2, a3, hm.x, hm.h, hm.g, hm.d]
  · refine Eq.trans ?_ (NormKernel.final6 m c x y g d hm).symm
    rw [a0, a1, a3, a4, hm.x, hm.h, hm.d]
    rfl
  · refine Eq.trans ?_ (NormKernel.final7 m c x y g d hm).symm
    rw [a3, a5, hm.d]
    rfl

end Cert.NormClaim

end
-- ==== Proof.SbBody.lean ====
module

public import proofs.«01_k».proof.Proof.Gen.SbBwdIdeal.Frame
public import proofs.«01_k».proof.Proof.Gen.SbBwdIdeal.Skeleton
public import proofs.«01_k».proof.Proof.Gen.SbBwdIdeal.Loops
public import Idealize.ShloMosaic.Lib.VecWindow

@[expose] public section

noncomputable section

namespace Cert.SbBody

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.SbBwdIdeal Cert.SbBwdIdeal.Gen

variable {F : FTy → Type} [FloatOps F]

variable (c : Dev nD) (i : grid0.Coords)
  (arg2 : Memref sig .tc .vmem S2048x128 .bf16) (harg2 : arg2.IsWhole)
  (arg3 : Memref sig .tc .vmem S2048x128 .bf16) (harg3 : arg3.IsWhole)
  (arg4 : Memref sig .tc .vmem S2048x128 .bf16) (harg4 : arg4.IsWhole)
  (arg5 : Memref sig .tc .vmem S2048x128 .bf16) (harg5 : arg5.IsWhole)
  (arg6 : Memref sig .tc .vmem S2048x128 .f32) (harg6 : arg6.IsWhole)
  (arg7 : Memref sig .tc .vmem S3x2048x128 .bf16) (harg7 : arg7.IsWhole)
  (arg8 : Memref sig .tc .vmem S8x128x256 .f32) (harg8 : arg8.IsWhole)
  (arg9 : Memref sig .tc .vmem S8x128x256 .f32) (harg9 : arg9.IsWhole)
  (X2 : BufTy.Contents (Elt F) arg2.view.ty) (X3 : BufTy.Contents (Elt F) arg3.view.ty)
  (X4 : BufTy.Contents (Elt F) arg4.view.ty) (X5 : BufTy.Contents (Elt F) arg5.view.ty)
  (X6 : BufTy.Contents (Elt F) arg6.view.ty)

/-- What the body holds: the five blocks it reads, the block it writes and its two accumulators. -/
abbrev Held (f7 : BufTy.Contents (Elt F) arg7.view.ty) (f8 : BufTy.Contents (Elt F) arg8.view.ty)
    (f9 : BufTy.Contents (Elt F) arg9.view.ty) : sProp (MT nD τ sig Unit (Elt F) ℕ (UR sig nD τ) ℕ) :=
  iprop((arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} X6)
    ∗ (arg7.view.loc (c : Thread nD τ) ↦[arg7.view.set]{fullShare} f7)
    ∗ (arg8.view.loc (c : Thread nD τ) ↦[arg8.view.set]{fullShare} f8)
    ∗ (arg9.view.loc (c : Thread nD τ) ↦[arg9.view.set]{fullShare} f9))

set_option maxHeartbeats 4000000 in
/-- One trip of the loop over pairs of query blocks. -/
@[irreducible] def trip (k : Fin k0_t1_loop.trips) :
    Σ' (C7 : BufTy.Contents (Elt F) arg7.view.ty → BufTy.Contents (Elt F) arg8.view.ty → BufTy.Contents (Elt F) arg9.view.ty → BufTy.Contents (Elt F) arg7.view.ty)
      (C8 : BufTy.Contents (Elt F) arg8.view.ty → BufTy.Contents (Elt F) arg9.view.ty → BufTy.Contents (Elt F) arg8.view.ty),
      { C9 : BufTy.Contents (Elt F) arg8.view.ty → BufTy.Contents (Elt F) arg9.view.ty → BufTy.Contents (Elt F) arg9.view.ty //
        ∀ (E : Set ℕ) (u : Unit) (f7 : BufTy.Contents (Elt F) arg7.view.ty) (f8 : BufTy.Contents (Elt F) arg8.view.ty)
          (f9 : BufTy.Contents (Elt F) arg9.view.ty),
          Held c arg2 arg3 arg4 arg5 arg6 arg7 arg8 arg9 X2 X3 X4 X5 X6 f7 f8 f9
          ⊢ wp frame (wpE (defs₀ (F := F)) Variants.none (c : Thread nD τ) none) E
              (k0_t1_body (F := F) i arg2 harg2 arg3 harg3 arg4 harg4 arg5 harg5 arg6 harg6 arg7 harg7 arg8 harg8 arg9 harg9 k u)
              (fun _ => Held c arg2 arg3 arg4 arg5 arg6 arg7 arg8 arg9 X2 X3 X4 X5 X6 (C7 f7 f8 f9) (C8 f8 f9) (C9 f8 f9)) } := by
  refine ⟨?_, ?_, ?_, fun E u f7 f8 f9 => ?run⟩
  case run =>
    unfold k0_t1_body
    iintro ⟨H2, H3, H4, H5, H6, H7, H8, H9⟩
    sl_exec
    sl_step
    sl_close

/-- What is known before a trip of the loop over pairs: the blocks read, and a relation `I` of the written block and
    the accumulators to the number of trips done. -/
def before (I : ℕ → BufTy.Contents (Elt F) arg7.view.ty → BufTy.Contents (Elt F) arg8.view.ty → BufTy.Contents (Elt F) arg9.view.ty → Prop)
    (k : ℕ) (_ : Unit) : sProp (MT nD τ sig Unit (Elt F) ℕ (UR sig nD τ) ℕ) :=
  iprop(∃ g7 g8 g9, Held c arg2 arg3 arg4 arg5 arg6 arg7 arg8 arg9 X2 X3 X4 X5 X6 g7 g8 g9 ∗ ⌜I k g7 g8 g9⌝)

/-- A relation that holds of zeroed accumulators and that a trip preserves. -/
structure Kept (I : ℕ → BufTy.Contents (Elt F) arg7.view.ty → BufTy.Contents (Elt F) arg8.view.ty → BufTy.Contents (Elt F) arg9.view.ty → Prop) : Prop where
  start : ∀ f7 f8 f9, arg8.view.read (Elt F) f8 = k0_pay350 (F := F) → arg9.view.read (Elt F) f9 = k0_pay351 (F := F) → I 0 f7 f8 f9
  next : ∀ (k : Fin k0_t1_loop.trips) f7 f8 f9, I k.val f7 f8 f9 →
    I (k.val + 1) ((trip c i arg2 harg2 arg3 harg3 arg4 harg4 arg5 harg5 arg6 harg6 arg7 harg7 arg8 harg8 arg9 harg9 X2 X3 X4 X5 X6 k).1 f7 f8 f9) ((trip c i arg2 harg2 arg3 harg3 arg4 harg4 arg5 harg5 arg6 harg6 arg7 harg7 arg8 harg8 arg9 harg9 X2 X3 X4 X5 X6 k).2.1 f8 f9) ((trip c i arg2 harg2 arg3 harg3 arg4 harg4 arg5 harg5 arg6 harg6 arg7 harg7 arg8 harg8 arg9 harg9 X2 X3 X4 X5 X6 k).2.2.1 f8 f9)

set_option maxHeartbeats 4000000 in
/-- The whole body: from the five blocks it reads, the block it writes ends at a function of what the loop left. -/
@[irreducible] def body :
    { O : BufTy.Contents (Elt F) arg7.view.ty → BufTy.Contents (Elt F) arg8.view.ty → BufTy.Contents (Elt F) arg9.view.ty → BufTy.Contents (Elt F) arg7.view.ty //
      ∀ (I : ℕ → BufTy.Contents (Elt F) arg7.view.ty → BufTy.Contents (Elt F) arg8.view.ty → BufTy.Contents (Elt F) arg9.view.ty → Prop),
        Kept c i arg2 harg2 arg3 harg3 arg4 harg4 arg5 harg5 arg6 harg6 arg7 harg7 arg8 harg8 arg9 harg9 X2 X3 X4 X5 X6 I →
        ∀ (E : Set ℕ) (f7 : BufTy.Contents (Elt F) arg7.view.ty) (f8 : BufTy.Contents (Elt F) arg8.view.ty)
          (f9 : BufTy.Contents (Elt F) arg9.view.ty),
        Held c arg2 arg3 arg4 arg5 arg6 arg7 arg8 arg9 X2 X3 X4 X5 X6 f7 f8 f9
        ⊢ wp frame (wpE (defs₀ (F := F)) Variants.none (c : Thread nD τ) none) E
            (cc0_attn_b_bwd (F := F) i arg2 harg2 arg3 harg3 arg4 harg4 arg5 harg5 arg6 harg6 arg7 harg7 arg8 harg8 arg9 harg9)
            (fun _ => iprop(∃ g7 g8 g9, Held c arg2 arg3 arg4 arg5 arg6 arg7 arg8 arg9 X2 X3 X4 X5 X6 (O g7 g8 g9) g8 g9 ∗ ⌜I k0_t1_loop.trips g7 g8 g9⌝)) } := by
  refine ⟨?_, fun I hI E f7 f8 f9 => ?run⟩
  case run =>
    simp only [cc0_attn_b_bwd_eq_skeleton]
    unfold cc0_attn_b_bwd_skel
    iintro ⟨H2, H3, H4, H5, H6, H7, H8, H9⟩
    sl_exec
    sl_for (before c arg2 arg3 arg4 arg5 arg6 arg7 arg8 arg9 X2 X3 X4 X5 X6 I) $$ [H2 H3 H4 H5 H6 H7 H8 H9]
    case region =>
      intro k acc
      unfold before
      iintro ⟨%g7, %g8, %g9, HH, %h⟩
      iapply (wp_wand_r frame (wpE (defs₀ (F := F)) Variants.none (c : Thread nD τ) none) E)
      isplitl [HH]
      · iapply ((trip c i arg2 harg2 arg3 harg3 arg4 harg4 arg5 harg5 arg6 harg6 arg7 harg7 arg8 harg8 arg9 harg9 X2 X3 X4 X5 X6 k).2.2.2 E acc)
        iexact HH
      · iintro %_ HH
        iexists _, _, _
        isplitl [HH]; · iexact HH
        ipureintro; exact hI.next k _ _ _ h
    · unfold before
      iexists _, _, _
      isplitl
      · sl_close
      ipureintro
      refine hI.start _ _ _ ?_ ?_
      · exact View.read_writes_full _ _ _ _ []
      · exact View.read_writes_full _ _ _ _ []
    iintro %acc HH
    unfold before
    icases HH with ⟨%g7, %g8, %g9, ⟨H2, H3, H4, H5, H6, H7, H8, H9⟩, %h⟩
    sl_exec
    sl_step
    iexists g7, g8, g9
    sl_close

end Cert.SbBody

end
end
-- ==== Proof.SbFrame.lean ====
module

public import proofs.«01_k».proof.Proof.SbBody

@[expose] public section

noncomputable section

namespace Cert.SbFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.SbBwdIdeal Cert.SbBwdIdeal.Gen

variable {F : FTy → Type} [FloatOps F]

variable (m : (ℓ : Loc nD τ sig) → Buf (Elt F) ℓ) (ρ : Dev nD → PrngReg)

/-- What is written of the result's block at each grid point of each core. -/
abbrev Blocks (F : FTy → Type) : Type := (c : Dev nD) → (t : Fin cfg0.N) → S3x2048x128.Idx → Elt F .bf16

/-- The proof data: the arrays as the region finds them, each input's buffer at its block after the body, the result's at `out`. -/
def dats (out : Blocks F) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out c t
  Φ _ := Pipeline.ΦA spec0 c
  q w := Pipeline.shareOf spec0 w
  owed _ := 0

theorem A_eq (out : Blocks F) (c : Dev nD) (w : Fin cfg0.W) : (dats m out 0 c).A w = V m c (Pipeline.arrRef spec0 w) := by
  dsimp only [dats]

theorem after0 (out : Blocks F) (c : Dev nD) (t : Fin cfg0.N) : (dats m out 0 c).after 0 t = iblk m c 0 t := by dsimp only [dats]
theorem after1 (out : Blocks F) (c : Dev nD) (t : Fin cfg0.N) : (dats m out 0 c).after 1 t = iblk m c 1 t := by dsimp only [dats]
theorem after2 (out : Blocks F) (c : Dev nD) (t : Fin cfg0.N) : (dats m out 0 c).after 2 t = iblk m c 2 t := by dsimp only [dats]
theorem after3 (out : Blocks F) (c : Dev nD) (t : Fin cfg0.N) : (dats m out 0 c).after 3 t = iblk m c 3 t := by dsimp only [dats]
theorem after4 (out : Blocks F) (c : Dev nD) (t : Fin cfg0.N) : (dats m out 0 c).after 4 t = iblk m c 4 t := by dsimp only [dats]
theorem after5 (out : Blocks F) (c : Dev nD) (t : Fin cfg0.N) : (dats m out 0 c).after 5 t = out c t := by dsimp only [dats]

theorem before0 (out : Blocks F) (c : Dev nD) (t : Fin cfg0.N) (d) : (dats m out 0 c).before 0 t d = iblk m c 0 t :=
  before0_0_of m (dats m out 0 c) (A_eq m out c 0) (after0 m out c) t d
theorem before1 (out : Blocks F) (c : Dev nD) (t : Fin cfg0.N) (d) : (dats m out 0 c).before 1 t d = iblk m c 1 t :=
  before0_1_of m (dats m out 0 c) (A_eq m out c 1) (after1 m out c) t d
theorem before2 (out : Blocks F) (c : Dev nD) (t : Fin cfg0.N) (d) : (dats m out 0 c).before 2 t d = iblk m c 2 t :=
  before0_2_of m (dats m out 0 c) (A_eq m out c 2) (after2 m out c) t d
theorem before3 (out : Blocks F) (c : Dev nD) (t : Fin cfg0.N) (d) : (dats m out 0 c).before 3 t d = iblk m c 3 t :=
  before0_3_of m (dats m out 0 c) (A_eq m out c 3) (after3 m out c) t d
theorem before4 (out : Blocks F) (c : Dev nD) (t : Fin cfg0.N) (d) : (dats m out 0 c).before 4 t d = iblk m c 4 t :=
  before0_4_of m (dats m out 0 c) (A_eq m out c 4) (after4 m out c) t d

/-- What the body keeps at a point: the scratch, whatever else is held (`Z`), the five input buffers at their blocks; and
    what is said of the result's buffer (`Y`). -/
def around (c : Dev nD) (t : Fin cfg0.N) (Z Y : sProp (MT nD τ sig Unit (Elt F) ℕ (UR sig nD τ) ℕ)) : sProp (MT nD τ sig Unit (Elt F) ℕ (UR sig nD τ) ℕ) :=
  iprop(Pipeline.ΦA spec0 c ∗ Z
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ Y)

/-- A relation of the written block and the accumulators to the number of trips done, at every point and every contents
    of the input buffers that read as their blocks. -/
abbrev Rel (F : FTy → Type) : Type :=
  (c : Dev nD) → (t : Fin cfg0.N) → ℕ → BufTy.Contents (Elt F) (st0_5 t).view.ty → BufTy.Contents (Elt F) (Memref.whole cc0_scratch0).view.ty
    → BufTy.Contents (Elt F) (Memref.whole cc0_scratch1).view.ty → Prop

/-- `I` is kept by the body at point `t`, and where it holds after the loop the written block satisfies `W`. -/
def Works (c : Dev nD) (t : Fin cfg0.N) (W : (S3x2048x128.Idx → Elt F .bf16) → Prop) : Prop :=
  ∀ X2 X3 X4 X5 X6, (st0_0 t).view.read (Elt F) X2 = iblk m c 0 t → (st0_1 t).view.read (Elt F) X3 = iblk m c 1 t →
    (st0_2 t).view.read (Elt F) X4 = iblk m c 2 t → (st0_3 t).view.read (Elt F) X5 = iblk m c 3 t →
    (st0_4 t).view.read (Elt F) X6 = iblk m c 4 t →
    ∃ I, Cert.SbBody.Kept c (grid0.coords t) (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3)) (st0_4 t) (hstage0_4 ((cfg0.slots t 4).cast nbuf0_4))
        (st0_5 t) (hstage0_5 ((cfg0.slots t 5).cast nbuf0_5)) (Memref.whole cc0_scratch0) (Memref.isWhole_whole _) (Memref.whole cc0_scratch1) (Memref.isWhole_whole _) X2 X3 X4 X5 X6 I
      ∧ ∀ g7 g8 g9, I k0_t1_loop.trips g7 g8 g9 → W ((st0_5 t).view.read (Elt F)
        ((Cert.SbBody.body c (grid0.coords t) (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3)) (st0_4 t) (hstage0_4 ((cfg0.slots t 4).cast nbuf0_4))
        (st0_5 t) (hstage0_5 ((cfg0.slots t 5).cast nbuf0_5)) (Memref.whole cc0_scratch0) (Memref.isWhole_whole _) (Memref.whole cc0_scratch1) (Memref.isWhole_whole _) X2 X3 X4 X5 X6).1 g7 g8 g9))

set_option maxHeartbeats 1600000 in
/-- The body at any point. -/
theorem sound_body (c : Dev nD) (t : Fin cfg0.N) (W : (S3x2048x128.Idx → Elt F .bf16) → Prop) (hW : Works m c t W)
    (Z : sProp (MT nD τ sig Unit (Elt F) ℕ (UR sig nD τ) ℕ)) :
    around m c t Z iprop(∃ X, owns (c : Thread nD τ) (st0_5 t) fullShare X)
      ⊢ wp frame (wpE (defs₀ (F := F)) Variants.none c none) Set.univ (bodyAt0 t)
        (fun _ => around m c t Z iprop(∃ X, owns (c : Thread nD τ) (st0_5 t) fullShare X ∗ ⌜W X⌝)) := by
  unfold around bodyAt0 Pipeline.ΦA
  rw [scopedRest0_eq]
  iintro ⟨⟨⟨⟨%f8, H8⟩, ⟨%f9, H9⟩⟩, Hp⟩, HZ, H0, H1, H2, H3, H4, ⟨%X, H5⟩⟩
  unfold owns
  icases H0 with ⟨%x2, %h2, H0⟩
  icases H1 with ⟨%x3, %h3, H1⟩
  icases H2 with ⟨%x4, %h4, H2⟩
  icases H3 with ⟨%x5, %h5, H3⟩
  icases H4 with ⟨%x6, %h6, H4⟩
  icases H5 with ⟨%f7, %h7, H5⟩
  obtain ⟨I, hI, hO⟩ := hW x2 x3 x4 x5 x6 h2 h3 h4 h5 h6
  iapply (wp_wand_r frame (wpE (defs₀ (F := F)) Variants.none (c : Thread nD τ) none) Set.univ)
  isplitl [H0 H1 H2 H3 H4 H5 H8 H9]
  · iapply ((Cert.SbBody.body c (grid0.coords t) (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3)) (st0_4 t) (hstage0_4 ((cfg0.slots t 4).cast nbuf0_4))
        (st0_5 t) (hstage0_5 ((cfg0.slots t 5).cast nbuf0_5)) (Memref.whole cc0_scratch0) (Memref.isWhole_whole _) (Memref.whole cc0_scratch1) (Memref.isWhole_whole _) x2 x3 x4 x5 x6).2 I hI Set.univ f7 f8 f9)
    unfold Cert.SbBody.Held
    simp only [Memref.view_whole, View.set_whole]
    isplitl [H0]; · iexact H0
    isplitl [H1]; · iexact H1
    isplitl [H2]; · iexact H2
    isplitl [H3]; · iexact H3
    isplitl [H4]; · iexact H4
    isplitl [H5]; · iexact H5
    isplitl [H8]; · iexact H8
    iexact H9
  · iintro %_ ⟨%g7, %g8, %g9, ⟨H0, H1, H2, H3, H4, H5, H8, H9⟩, %h⟩
    simp only [Memref.view_whole, View.set_whole]
    isplitl [H8 H9 Hp]
    · isplitl [H8 H9]
      · isplitl [H8]
        · iexists _; iexact H8
        · iexists _; iexact H9
      · iexact Hp
    isplitl [HZ]; · iexact HZ
    isplitl [H0]; · iexists _; isplitr; swap; iexact H0; ipureintro; exact h2
    isplitl [H1]; · iexists _; isplitr; swap; iexact H1; ipureintro; exact h3
    isplitl [H2]; · iexists _; isplitr; swap; iexact H2; ipureintro; exact h4
    isplitl [H3]; · iexists _; isplitr; swap; iexact H3; ipureintro; exact h5
    isplitl [H4]; · iexists _; isplitr; swap; iexact H4; ipureintro; exact h6
    iexists _
    isplitl [H5]
    · iexists _; isplitr; swap; iexact H5; ipureintro; rfl
    ipureintro; exact hO g7 g8 g9 h

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- Which windows' results are not named: the result's, or none. -/
abbrev hide (w : Fin 6) : Bool := w == 5

set_option maxHeartbeats 1600000 in
/-- The body's obligation with the result unnamed. -/
theorem obligation_hidden (out : Blocks F) (c : Dev nD) (h : ∀ t, Works m c t fun _ => True) :
    BodyObligationLoose (dats (F := F) m out 0 c) (defs₀ (F := F)) Variants.none () Set.univ hide := fun t => by
  rw [bigSep_W0, bigSep_W0, defs₀_row]
  refine triple_restated (sound_body m c t _ (h t) ((dats m out 0 c).owesAt () t.castSucc)) rfl ?_ fun _ => ?_
  · unfold around
    change iprop(Pipeline.ΦA spec0 c ∗ (dats m out 0 c).owesAt () t.castSucc
      ∗ (∃ d, owns (c : Thread nD τ) (st0_0 t) fullShare ((dats m out 0 c).before 0 t d))
      ∗ (∃ d, owns (c : Thread nD τ) (st0_1 t) fullShare ((dats m out 0 c).before 1 t d))
      ∗ (∃ d, owns (c : Thread nD τ) (st0_2 t) fullShare ((dats m out 0 c).before 2 t d))
      ∗ (∃ d, owns (c : Thread nD τ) (st0_3 t) fullShare ((dats m out 0 c).before 3 t d))
      ∗ (∃ d, owns (c : Thread nD τ) (st0_4 t) fullShare ((dats m out 0 c).before 4 t d))
      ∗ (∃ X, owns (c : Thread nD τ) (st0_5 t) fullShare X)) ⊢ _
    simp only [before0, before1, before2, before3, before4]
    iintro ⟨HP, HZ, ⟨%d0, H0⟩, ⟨%d1, H1⟩, ⟨%d2, H2⟩, ⟨%d3, H3⟩, ⟨%d4, H4⟩, H5⟩
    isplitl [HP]; · iexact HP
    isplitl [HZ]; · iexact HZ
    isplitl [H0]; · iexact H0
    isplitl [H1]; · iexact H1
    isplitl [H2]; · iexact H2
    isplitl [H3]; · iexact H3
    isplitl [H4]; · iexact H4
    iexact H5
  · unfold around
    change _ ⊢ iprop(Pipeline.ΦA spec0 c ∗ (dats m out 0 c).owesAt () t.castSucc
      ∗ owns (c : Thread nD τ) (st0_0 t) fullShare (iblk m c 0 t)
      ∗ owns (c : Thread nD τ) (st0_1 t) fullShare (iblk m c 1 t)
      ∗ owns (c : Thread nD τ) (st0_2 t) fullShare (iblk m c 2 t)
      ∗ owns (c : Thread nD τ) (st0_3 t) fullShare (iblk m c 3 t)
      ∗ owns (c : Thread nD τ) (st0_4 t) fullShare (iblk m c 4 t)
      ∗ (∃ X, owns (c : Thread nD τ) (st0_5 t) fullShare X))
    iintro ⟨HP, HZ, H0, H1, H2, H3, H4, ⟨%X, H5, %hX⟩⟩
    isplitl [HP]; · iexact HP
    isplitl [HZ]; · iexact HZ
    isplitl [H0]; · iexact H0
    isplitl [H1]; · iexact H1
    isplitl [H2]; · iexact H2
    isplitl [H3]; · iexact H3
    isplitl [H4]; · iexact H4
    iexists X; iexact H5

set_option maxHeartbeats 1600000 in
/-- The body's obligation with the result named. -/
theorem obligation (out : Blocks F) (c : Dev nD) (h : ∀ t, Works m c t fun X => X = out c t) :
    BodyObligation (dats (F := F) m out 0 c) (defs₀ (F := F)) Variants.none () Set.univ := fun t => by
  rw [bigSep_W0, bigSep_W0, defs₀_row]
  refine triple_restated (sound_body m c t _ (h t) ((dats m out 0 c).owesAt () t.castSucc)) rfl ?_ fun _ => ?_
  · unfold around
    change iprop(Pipeline.ΦA spec0 c ∗ (dats m out 0 c).owesAt () t.castSucc
      ∗ (∃ d, owns (c : Thread nD τ) (st0_0 t) fullShare ((dats m out 0 c).before 0 t d))
      ∗ (∃ d, owns (c : Thread nD τ) (st0_1 t) fullShare ((dats m out 0 c).before 1 t d))
      ∗ (∃ d, owns (c : Thread nD τ) (st0_2 t) fullShare ((dats m out 0 c).before 2 t d))
      ∗ (∃ d, owns (c : Thread nD τ) (st0_3 t) fullShare ((dats m out 0 c).before 3 t d))
      ∗ (∃ d, owns (c : Thread nD τ) (st0_4 t) fullShare ((dats m out 0 c).before 4 t d))
      ∗ (∃ d, owns (c : Thread nD τ) (st0_5 t) fullShare ((dats m out 0 c).before 5 t d))) ⊢ _
    simp only [before0, before1, before2, before3, before4]
    iintro ⟨HP, HZ, ⟨%d0, H0⟩, ⟨%d1, H1⟩, ⟨%d2, H2⟩, ⟨%d3, H3⟩, ⟨%d4, H4⟩, ⟨%d5, H5⟩⟩
    isplitl [HP]; · iexact HP
    isplitl [HZ]; · iexact HZ
    isplitl [H0]; · iexact H0
    isplitl [H1]; · iexact H1
    isplitl [H2]; · iexact H2
    isplitl [H3]; · iexact H3
    isplitl [H4]; · iexact H4
    iexists _; iexact H5
  · unfold around
    change _ ⊢ iprop(Pipeline.ΦA spec0 c ∗ (dats m out 0 c).owesAt () t.castSucc
      ∗ owns (c : Thread nD τ) (st0_0 t) fullShare (iblk m c 0 t)
      ∗ owns (c : Thread nD τ) (st0_1 t) fullShare (iblk m c 1 t)
      ∗ owns (c : Thread nD τ) (st0_2 t) fullShare (iblk m c 2 t)
      ∗ owns (c : Thread nD τ) (st0_3 t) fullShare (iblk m c 3 t)
      ∗ owns (c : Thread nD τ) (st0_4 t) fullShare (iblk m c 4 t)
      ∗ owns (c : Thread nD τ) (st0_5 t) fullShare (out c t))
    iintro ⟨HP, HZ, H0, H1, H2, H3, H4, ⟨%X, H5, %hX⟩⟩
    subst hX
    isplitl [HP]; · iexact HP
    isplitl [HZ]; · iexact HZ
    isplitl [H0]; · iexact H0
    isplitl [H1]; · iexact H1
    isplitl [H2]; · iexact H2
    isplitl [H3]; · iexact H3
    isplitl [H4]; · iexact H4
    iexact H5

/-- Every point keeps the relation that says nothing. -/
theorem works (c : Dev nD) (t : Fin cfg0.N) : Works m c t fun _ => True := by
  intro X2 X3 X4 X5 X6 _ _ _ _ _
  exact ⟨fun _ _ _ _ => True, ⟨fun _ _ _ _ _ => trivial, fun _ _ _ _ _ => trivial⟩, fun _ _ _ _ => trivial⟩

set_option backward.isDefEq.respectTransparency.types false in
/-- The run with the result unnamed: every array may hold what its write-backs allow, and every counter ends at zero. -/
theorem run_hidden (out : Blocks F) : θ_run defs (onTc (τ := τ) (main (F := F))) (s₀ m ρ)
    (fun r => Pipeline.RDat.FramePost cfg0 (fun c => (dats m out 0 c).toRForget hide) (V m) r ∧ r.2.sem = fun _ => 0) :=
  Pipeline.θ_run_frame_forget_shared cfgs (dats m out) (0 : Fin 1) launch₀0 defs₀ Variants.none hide m ρ main
    (hbody := fun c => obligation_hidden m out c fun t => works m c t) (hq := fun _ _ _ => rfl)
    (howed := fun _ _ => rfl) (V := V m) (hmain := hmain m Variants.none) (hA := A_eq m out) (hΦ := fun _ _ => rfl)
    (Q' := fun r => Pipeline.RDat.FramePost cfg0 (fun c => (dats m out 0 c).toRForget hide) (V m) r ∧ r.2.sem = fun _ => 0)
    (hQ' := fun _ h => h)

set_option backward.isDefEq.respectTransparency.types false in
/-- The run with the result named. -/
theorem run (out : Blocks F) (h : ∀ c t, Works m c t fun X => X = out c t) : θ_run defs (onTc (τ := τ) (main (F := F))) (s₀ m ρ)
    (fun r => Pipeline.FramePost cfgs (dats m out) 0 (V m) r ∧ r.2.sem = fun _ => 0) :=
  Pipeline.θ_run_frame_shared (Q' := _) cfgs (dats m out) (0 : Fin 1) launch₀0 defs₀ Variants.none m ρ main
    (hbody := fun c => (obligation m out c (h c)).loose) (hq := fun _ _ _ => rfl)
    (howed := fun _ _ => rfl) (V := V m) (hmain := hmain m Variants.none) (hA := A_eq m out) (hΦ := fun _ _ => rfl)

/-- The program runs, leaves its arguments as they were, and ends with every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) := by
  refine (θ_run defs _ _).mono (fun r h => ⟨fun c => ⟨?_, ?_⟩, h.2⟩) (run_hidden m ρ fun _ _ => constant S3x2048x128 .bf16 0x0000#16)
  · exact (((dats m _ 0 c).toRForget_arrAt_iff (by decide : hide 2 = false) _ _).1 ((h.1 c).1 2)).trans
      (((dats m _ 0 c).arrAt_in 2 rfl _).trans ((A_eq m _ c 2).trans (V_main_arg0 m c)))
  · exact (((dats m _ 0 c).toRForget_arrAt_iff (by decide : hide 3 = false) _ _).1 ((h.1 c).1 3)).trans
      (((dats m _ 0 c).arrAt_in 3 rfl _).trans ((A_eq m _ c 3).trans (V_main_arg1 m c)))

end Cert.SbFrame

end
end
-- ==== Proof.SbFrames.lean ====
module

public import proofs.«01_k».proof.Defs
public import proofs.«01_k».proof.Proof.SbFrame
public import proofs.«01_k».proof.Proof.Gen.SbBwd.Launch
public import proofs.«01_k».proof.Proof.Gen.SbGradIdeal.Run
public import proofs.«01_k».proof.Proof.Gen.SbGradIdeal.Read

@[expose] public section

noncomputable section

namespace Cert.SbFrames

open Idealize.ShloMosaic Idealize.ShloMosaic.TcCoe Idealize.ShloMosaic.Tactic
open Idealize.SL.Sem

/-- The frame's statement of the idealized program's text, over any values. -/
def Runs (F : FTy → Type) [FloatOps F] : Prop :=
  ∀ (m : (ℓ : Loc Cert.SbBwdIdeal.nD Cert.SbBwdIdeal.τ Cert.SbBwdIdeal.sig) → Buf (Elt F) ℓ) (g : Dev Cert.SbBwdIdeal.nD → PrngReg),
    θ_run (Cert.SbBwdIdeal.defs (F := F)) (onTc (τ := Cert.SbBwdIdeal.τ) (Cert.SbBwdIdeal.main (F := F))) ⟨m, fun _ => 0, g⟩ (fun r => (∀ c : Dev Cert.SbBwdIdeal.nD,
      r.2.mem ((c.tc : Thread Cert.SbBwdIdeal.nD Cert.SbBwdIdeal.τ).loc Cert.SbBwdIdeal.main_arg0) = m ((c.tc : Thread Cert.SbBwdIdeal.nD Cert.SbBwdIdeal.τ).loc Cert.SbBwdIdeal.main_arg0)
      ∧ r.2.mem ((c.tc : Thread Cert.SbBwdIdeal.nD Cert.SbBwdIdeal.τ).loc Cert.SbBwdIdeal.main_arg1) = m ((c.tc : Thread Cert.SbBwdIdeal.nD Cert.SbBwdIdeal.τ).loc Cert.SbBwdIdeal.main_arg1))
      ∧ r.2.sem = fun _ => 0)

/-- The same statement of the compiled program's text, over any values. -/
def Runs' (F : FTy → Type) [FloatOps F] : Prop :=
  ∀ (m : (ℓ : Loc Cert.SbBwd.nD Cert.SbBwd.τ Cert.SbBwd.sig) → Buf (Elt F) ℓ) (g : Dev Cert.SbBwd.nD → PrngReg),
    θ_run (Cert.SbBwd.defs (F := F)) (onTc (τ := Cert.SbBwd.τ) (Cert.SbBwd.main (F := F))) ⟨m, fun _ => 0, g⟩ (fun r => (∀ c : Dev Cert.SbBwd.nD,
      r.2.mem ((c.tc : Thread Cert.SbBwd.nD Cert.SbBwd.τ).loc Cert.SbBwd.main_arg0) = m ((c.tc : Thread Cert.SbBwd.nD Cert.SbBwd.τ).loc Cert.SbBwd.main_arg0)
      ∧ r.2.mem ((c.tc : Thread Cert.SbBwd.nD Cert.SbBwd.τ).loc Cert.SbBwd.main_arg1) = m ((c.tc : Thread Cert.SbBwd.nD Cert.SbBwd.τ).loc Cert.SbBwd.main_arg1))
      ∧ r.2.sem = fun _ => 0)

set_option maxHeartbeats 4000000 in
/-- The two programs have one and the same text, so the two statements are one. -/
theorem same (F : FTy → Type) [FloatOps F] : Runs F = Runs' F := by
  sl_kernel_rfl

theorem bits : Cert.quiescent_SbBwd (hSbBwd := Cert.SbBwd.Gen.facts) := fun m g _ =>
  (same Bits ▸ (fun m g => Cert.SbFrame.frame (F := Bits) m g : Runs Bits) : Runs' Bits) m g

theorem ideal : Cert.quiescent_SbBwdIdeal (hSbBwdIdeal := Cert.SbBwdIdeal.Gen.facts) := fun m g _ => Cert.SbFrame.frame (F := Ideal) m g

/-- The reference runs and leaves its arguments as they were. -/
theorem reference : Cert.quiescent_SbGradIdeal (hSbGradIdeal := Cert.SbGradIdeal.Gen.facts) := fun m ρ _ =>
  (θ_run Cert.SbGradIdeal.defs _ _).mono (fun r h => ⟨fun c => (h c).2, sem_eq_zero_of_no_sems (by decide) r.2⟩)
    (Cert.SbGradIdeal.Value.run (F := Ideal) m ρ)

end Cert.SbFrames

end
end
-- ==== Proof.SbReal.lean ====
/- The stick-breaking attention's gradient over the reals: what one row's running sums are after some blocks of keys. -/
module

public import proofs.«01_k».proof.Proof.Reals

@[expose] public section

noncomputable section

namespace Cert.SbReal

/-- The log-sigmoid, as the kernel spells it. -/
def lb (z : ℝ) : ℝ := min z 0 - Real.log (1 + Real.exp (0 - |z|))

/-- The log of one minus the sigmoid. -/
def l1 (z : ℝ) : ℝ := lb z - z

variable (q k v d : ℕ → Fin 64 → ℝ)

/-- The score of row `i` and key `j`. -/
def z (i j : ℕ) : ℝ := ∑ e, q i e * (1 / 8) * k j e

/-- The log of what key `j` leaves of row `i`'s stick. -/
def L (i j : ℕ) : ℝ := if j < i then l1 (z q k i j) else 0

/-- The log of what all keys leave of row `i`'s stick. -/
def N (i : ℕ) : ℝ := ∑ j ∈ Finset.range 2048, L q k i j

/-- The weight of key `j` in row `i`. -/
def A (i j : ℕ) : ℝ := if j < i then Real.exp (lb (z q k i j) + (N q k i - ∑ l ∈ Finset.range (j + 1), L q k i l)) else 0

/-- The weight times its gradient. -/
def P (i j : ℕ) : ℝ := A q k i j * ∑ e, d i e * v j e

/-- The score's gradient. -/
def Z (i j : ℕ) : ℝ :=
  if j < i then P q k v d i j * Real.exp (l1 (z q k i j)) - (∑ l ∈ Finset.range j, P q k v d i l) * Real.exp (lb (z q k i j)) else 0

/-- The gradients of the query, the key and the value. -/
def dq (i : ℕ) (e : Fin 64) : ℝ := (∑ j ∈ Finset.range 2048, Z q k v d i j * k j e) * (1 / 8)
def dk (j : ℕ) (e : Fin 64) : ℝ := ∑ i ∈ Finset.range 2048, q i e * (1 / 8) * Z q k v d i j
def dv (j : ℕ) (e : Fin 64) : ℝ := ∑ i ∈ Finset.range 2048, d i e * A q k i j

theorem range_add (f : ℕ → ℝ) (a b : ℕ) : ∑ x ∈ Finset.range (a + b), f x = ∑ x ∈ Finset.range a, f x + ∑ x : Fin b, f (a + x.val) := by
  rw [Finset.sum_range_add, Finset.sum_range (fun x => f (a + x))]

/-- The first `c` of a block's `b` terms, chosen by a comparison. -/
theorem range_lt (f : ℕ → ℝ) (b : ℕ) (c : ℕ) (h : c ≤ b) : ∑ x : Fin b, (if x.val < c then f x.val else 0) = ∑ x ∈ Finset.range c, f x := by
  rw [← Finset.sum_range (fun x => if x < c then f x else 0), ← Finset.sum_filter]
  congr 1; ext x; simp only [Finset.mem_filter, Finset.mem_range]; omega

theorem range_add_lt (f : ℕ → ℝ) (a b c : ℕ) (h : c ≤ b) :
    ∑ x ∈ Finset.range (a + c), f x = ∑ x ∈ Finset.range a, f x + ∑ x : Fin b, (if x.val < c then f (a + x.val) else 0) := by
  rw [Finset.sum_range_add, range_lt (fun x => f (a + x)) b c h]

variable {q k v d}

theorem L_of_le {i j : ℕ} (h : i ≤ j) : L q k i j = 0 := if_neg (by omega)
theorem A_of_le {i j : ℕ} (h : i ≤ j) : A q k i j = 0 := if_neg (by omega)
theorem Z_of_le {i j : ℕ} (h : i ≤ j) : Z q k v d i j = 0 := if_neg (by omega)

/-- A row's sum over all keys is its sum over the keys up to its block's end. -/
theorem range_of_zero (f : ℕ → ℝ) (a b : ℕ) (hab : a ≤ b) (h : ∀ j, a ≤ j → f j = 0) : ∑ x ∈ Finset.range b, f x = ∑ x ∈ Finset.range a, f x := by
  refine (Finset.sum_subset (Finset.range_mono hab) fun x _ hx => h x ?_).symm
  simpa using hx

end Cert.SbReal

end
-- ==== Proof.SbData.lean ====
module

public import proofs.«01_k».proof.Proof.SbReal
public import Idealize.ShloMosaic.Lib.Pointwise

/-!
# The arrays of the stick-breaking attention's gradient

Two sequences of 2048 positions, 16 heads of 64 features; the queries, keys and values side by side in one array.
-/

@[expose] public section

noncomputable section

namespace Cert.SbData

open Idealize.ShloMosaic

/-- An entry of a matrix, by numbers. -/
def cell {R C : ℕ} (x : (⟨2, ![R, C]⟩ : Shape).Idx → ℝ) (r c : ℕ) : ℝ := if h : r < R ∧ c < C then x (ix2 ⟨r, h.1⟩ ⟨c, h.2⟩) else 0

theorem cell_eq {R C : ℕ} (x : (⟨2, ![R, C]⟩ : Shape).Idx → ℝ) (i : (⟨2, ![R, C]⟩ : Shape).Idx) (r c : ℕ) (h0 : (i 0).val = r) (h1 : (i 1).val = c) :
    x i = cell x r c := by
  subst h0; subst h1
  rw [cell, dif_pos ⟨(i 0).isLt, (i 1).isLt⟩]
  congr 1
  funext a
  match a with
  | 0 => rfl
  | 1 => rfl

/-- Head `h` of sequence `b` of the array's part `s`. -/
def part {R C : ℕ} (x : (⟨2, ![R, C]⟩ : Shape).Idx → ℝ) (s b h : ℕ) (i : ℕ) (e : Fin 64) : ℝ := cell x (2048 * b + i) (1024 * s + 64 * h + e.val)

variable (x : (⟨2, ![4096, 3072]⟩ : Shape).Idx → ℝ) (y : (⟨2, ![4096, 1024]⟩ : Shape).Idx → ℝ)

/-- The three gradients, part by part. -/
def result (s r : ℕ) (c : ℕ) : ℝ :=
  let b := r / 2048
  let h := c / 64
  let e : Fin 64 := ⟨c % 64, Nat.mod_lt _ (by decide)⟩
  if s = 0 then SbReal.dq (part x 0 b h) (part x 1 b h) (part x 2 b h) (part y 0 b h) (r % 2048) e
  else if s = 1 then SbReal.dk (part x 0 b h) (part x 1 b h) (part x 2 b h) (part y 0 b h) (r % 2048) e
  else SbReal.dv (part x 0 b h) (part x 1 b h) (part y 0 b h) (r % 2048) e

end Cert.SbData

end
end
-- ==== Proof.SbWindow.lean ====
module

public import proofs.«01_k».proof.Proof.Reals

/-!
# Running sums

A window as long as the axis, padded on one side, sums what lies on the other side of each place.
-/

@[expose] public section

noncomputable section

namespace Cert.SbWindow

open Idealize.ShloMosaic

theorem foldl_add {ι : Type*} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- A window along the last of four axes. -/
abbrev W (n : ℕ) : Shape := ⟨4, ![1, 1, 1, n]⟩

def along (n : ℕ) : (W n).Idx ≃ Fin n where
  toFun y := y 3
  invFun w := fun a => match a with
    | 0 => (0 : Fin 1)
    | 1 => (0 : Fin 1)
    | 2 => (0 : Fin 1)
    | 3 => w
  left_inv y := by
    funext a
    match a with
    | 0 => exact Subsingleton.elim (α := Fin 1) _ _
    | 1 => exact Subsingleton.elim (α := Fin 1) _ _
    | 2 => exact Subsingleton.elim (α := Fin 1) _ _
    | 3 => rfl
  right_inv w := rfl

/-- A window sum from zero is the sum over the window's places of the padded operand. -/
theorem window_apply {s t u : Shape} (win strides lo hi : Fin s.rank → Nat) (x : FVec Ideal s .f32) (init : u.Idx → EReal)
    (h : s.ReduceWindows win strides lo hi t) (hu : 0 < u.numel) (j : t.Idx) (h0 : init (Shape.Idx.first hu) = 0) :
    Host.reduceWindowAdd (F := Ideal) win strides lo hi x init h hu j = ∑ y : (⟨s.rank, win⟩ : Shape).Idx,
      let p : Fin s.rank → Nat := fun a => (j (a.cast h.1.symm)).val * strides a + (y a).val
      if hin : ∀ a, lo a ≤ p a ∧ p a - lo a < s.size a then x (fun a => ⟨p a - lo a, (hin a).2⟩) else 0 := by
  show List.foldl _ (init (Shape.Idx.first hu)) _ = _
  rw [h0]
  refine (foldl_add _ _ _).trans ?_
  rw [zero_add, ← Fin.sum_univ_def]
  refine Eq.trans (Finset.sum_congr rfl fun n _ => ?_) (Equiv.sum_comp (Shape.rowMajor (⟨s.rank, win⟩ : Shape)).symm (fun y : (⟨s.rank, win⟩ : Shape).Idx =>
      let p : Fin s.rank → Nat := fun a => (j (a.cast h.1.symm)).val * strides a + (y a).val
      if hin : ∀ a, lo a ≤ p a ∧ p a - lo a < s.size a then x (fun a => ⟨p a - lo a, (hin a).2⟩) else (0 : EReal)))
  dsimp only
  split_ifs <;> rfl

/-- The arrays of scores. -/
abbrev S : Shape := ⟨4, ![2, 16, 2048, 2048]⟩

variable {u : Shape} (X : FVec Ideal S .f32) (init : u.Idx → EReal) (hu : 0 < u.numel) (h0 : init (Shape.Idx.first hu) = 0)
  (b : Fin 2) (h : Fin 16) (i : Fin 2048) (f : ℕ → ℝ) (hf : ∀ j : Fin 2048, X (ix4 b h i j) = (f j.val : EReal))
include h0 hf

/-- Padded high: the sum from a place on. -/
theorem from_here (hw : S.ReduceWindows ![1, 1, 1, 2048] ![1, 1, 1, 1] ![0, 0, 0, 0] ![0, 0, 0, 2047] S) (j : Fin 2048) :
    Host.reduceWindowAdd (F := Ideal) ![1, 1, 1, 2048] ![1, 1, 1, 1] ![0, 0, 0, 0] ![0, 0, 0, 2047] X init hw hu (ix4 b h i j)
      = ((∑ w : Fin 2048, (if j.val + w.val < 2048 then f (j.val + w.val) else 0) : ℝ) : EReal) := by
  rw [window_apply _ _ _ _ _ _ _ _ _ h0]
  refine Eq.trans (Equiv.sum_comp (along 2048).symm _).symm ?_
  rw [← Cert.Reals.sum_coe]
  refine Finset.sum_congr rfl fun w _ => ?_
  by_cases hj : j.val + w.val < 2048
  · rw [if_pos hj, ← hf ⟨_, hj⟩]
    dsimp only
    rw [dif_pos (show _ from fun a => by
      match a with
      | 0 => exact ⟨Nat.zero_le _, by show b.val * 1 + 0 - 0 < 2; omega⟩
      | 1 => exact ⟨Nat.zero_le _, by show h.val * 1 + 0 - 0 < 16; omega⟩
      | 2 => exact ⟨Nat.zero_le _, by show i.val * 1 + 0 - 0 < 2048; omega⟩
      | 3 => exact ⟨Nat.zero_le _, by show j.val * 1 + w.val - 0 < 2048; omega⟩)]
    refine congrArg X (funext fun a => Fin.ext ?_)
    match a with
    | 0 => show b.val * 1 + 0 - 0 = b.val; omega
    | 1 => show h.val * 1 + 0 - 0 = h.val; omega
    | 2 => show i.val * 1 + 0 - 0 = i.val; omega
    | 3 => show j.val * 1 + w.val - 0 = j.val + w.val; omega
  · rw [if_neg hj, EReal.coe_zero]
    dsimp only
    refine dif_neg fun hin => hj ?_
    have : j.val * 1 + w.val - 0 < 2048 := (hin 3).2
    omega

/-- Padded low: the sum up to a place. -/
theorem up_to_here (hw : S.ReduceWindows ![1, 1, 1, 2048] ![1, 1, 1, 1] ![0, 0, 0, 2047] ![0, 0, 0, 0] S) (j : Fin 2048) :
    Host.reduceWindowAdd (F := Ideal) ![1, 1, 1, 2048] ![1, 1, 1, 1] ![0, 0, 0, 2047] ![0, 0, 0, 0] X init hw hu (ix4 b h i j)
      = ((∑ w : Fin 2048, (if 2047 ≤ j.val + w.val then f (j.val + w.val - 2047) else 0) : ℝ) : EReal) := by
  rw [window_apply _ _ _ _ _ _ _ _ _ h0]
  refine Eq.trans (Equiv.sum_comp (along 2048).symm _).symm ?_
  rw [← Cert.Reals.sum_coe]
  refine Finset.sum_congr rfl fun w _ => ?_
  by_cases hj : 2047 ≤ j.val + w.val
  · rw [if_pos hj, ← hf ⟨j.val + w.val - 2047, by omega⟩]
    dsimp only
    rw [dif_pos (show _ from fun a => by
      match a with
      | 0 => exact ⟨Nat.zero_le _, by show b.val * 1 + 0 - 0 < 2; omega⟩
      | 1 => exact ⟨Nat.zero_le _, by show h.val * 1 + 0 - 0 < 16; omega⟩
      | 2 => exact ⟨Nat.zero_le _, by show i.val * 1 + 0 - 0 < 2048; omega⟩
      | 3 => exact ⟨by show 2047 ≤ j.val * 1 + w.val; omega, by show j.val * 1 + w.val - 2047 < 2048; omega⟩)]
    refine congrArg X (funext fun a => Fin.ext ?_)
    match a with
    | 0 => show b.val * 1 + 0 - 0 = b.val; omega
    | 1 => show h.val * 1 + 0 - 0 = h.val; omega
    | 2 => show i.val * 1 + 0 - 0 = i.val; omega
    | 3 => show j.val * 1 + w.val - 2047 = j.val + w.val - 2047; omega
  · rw [if_neg hj, EReal.coe_zero]
    dsimp only
    refine dif_neg fun hin => hj ?_
    have : 2047 ≤ j.val * 1 + w.val := (hin 3).1
    omega

omit h0 hf

theorem sum_from (j : ℕ) (hj : j ≤ 2048) : ∑ w : Fin 2048, (if j + w.val < 2048 then f (j + w.val) else 0)
    = ∑ l ∈ Finset.range 2048, f l - ∑ l ∈ Finset.range j, f l := by
  rw [Finset.sum_range (fun w => if j + w < 2048 then f (j + w) else 0) |>.symm, ← Finset.sum_filter, eq_sub_iff_add_eq, add_comm]
  have : Finset.filter (fun w => j + w < 2048) (Finset.range 2048) = Finset.range (2048 - j) := by
    ext w; simp only [Finset.mem_filter, Finset.mem_range]; omega
  rw [this, ← Finset.sum_range_add, Nat.add_sub_cancel' hj]

theorem sum_up_to (j : ℕ) (hj : j < 2048) : ∑ w : Fin 2048, (if 2047 ≤ j + w.val then f (j + w.val - 2047) else 0) = ∑ l ∈ Finset.range (j + 1), f l := by
  rw [Finset.sum_range (fun w => if 2047 ≤ j + w then f (j + w - 2047) else 0) |>.symm,
    show (2048 : ℕ) = (2047 - j) + (j + 1) by omega, Finset.sum_range_add, Finset.sum_eq_zero, zero_add]
  · exact Finset.sum_congr rfl fun w hw => by rw [if_pos (by omega), show j + (2047 - j + w) - 2047 = w by omega]
  · intro w hw
    rw [Finset.mem_range] at hw
    exact if_neg (by omega)

end Cert.SbWindow

end
end
-- ==== Proof.SbChain.lean ====
module

public import proofs.«01_k».proof.Proof.SbReal
public import proofs.«01_k».proof.Proof.Gen.SbBwdIdeal.Skeleton

/-!
# One block of queries against one block of keys

The arithmetic of the stick-breaking attention's gradient for one head, 256 queries and 256 keys, as functions of the
vectors read, and what each is over the reals.
-/

@[expose] public section

noncomputable section

namespace Cert.SbChain

open Idealize.ShloMosaic Cert.SbBwdIdeal Cert.SbBwdIdeal.Gen

variable {F : FTy → Type} [FloatOps F]

/-- The square of comparisons: the key's place before the query's. -/
def causal : IVec S256x256 1 := cmpi .slt (iota .tc S256x256 32 [1] iota_S256x256_d1_w32) (iota .tc S256x256 32 [0] iota_S256x256_d0_w32)

/-- On the diagonal, zero where the key does not come before the query. -/
def mask (dg : Bool) (x : FVec F S256x256 .f32) : FVec F S256x256 .f32 :=
  match dg with
  | true => select causal x (broadcast S256x256 (Scalar.ofBits .f32 0x00000000#32 : F .f32))
  | false => x

def score (s x : FVec F S256x64 .bf16) : FVec F S256x256 .f32 :=
  matmul dot_S256x64_S256x64_S256x256_1_1_0_0_n_n none s x (constant S256x256 .f32 0x00000000#32)

def logb (s x : FVec F S256x64 .bf16) : FVec F S256x256 .f32 :=
  subf (minimumf (score s x) (broadcast S256x256 (Scalar.ofBits .f32 0x00000000#32 : F .f32)))
    (log (addf (broadcast S256x256 (Scalar.ofBits .f32 0x3F800000#32 : F .f32))
      (exp (subf (broadcast S256x256 (Scalar.ofBits .f32 0x00000000#32 : F .f32)) (absf (score s x))))))

def log1 (dg : Bool) (s x : FVec F S256x64 .bf16) : FVec F S256x256 .f32 := mask dg (subf (logb s x) (score s x))

/-- The product with a triangle of ones, the factor split in a rounded part and a rest. -/
def cum (x : FVec F S256x256 .f32) (t : FVec F S256x256 .bf16) : FVec F S256x256 .f32 :=
  addf (matmul dot_S256x256_S256x256_S256x256_1_0_0_1_n_n none (truncf .bf16 x bitsLt_bf16_f32) t (constant S256x256 .f32 0x00000000#32))
    (matmul dot_S256x256_S256x256_S256x256_1_0_0_1_n_n none
      (truncf .bf16 (subf x (extf .f32 (truncf .bf16 x bitsLt_bf16_f32) bitsLt_bf16_f32)) bitsLt_bf16_f32) t (constant S256x256 .f32 0x00000000#32))

def rowsum (x : FVec F S256x256 .f32) : FVec F S256x1 .f32 :=
  shapeCast S256x1 (multiReduction .add [1] S256 x 0x00000000#32 reduces_S256x256_S256 (.inl rfl) rfl) shapeCasts_S256_S256x1

def weight (dg : Bool) (s x : FVec F S256x64 .bf16) (nt ln : FVec F S256x1 .f32) : FVec F S256x256 .f32 :=
  mask dg (exp (subf (addf (logb s x) (broadcastTo S256x256 (subf nt ln) broadcasts_S256x1_S256x256)) (cum (log1 dg s x) k0_pay348)))

def grad (dg : Bool) (s x w o : FVec F S256x64 .bf16) (nt ln : FVec F S256x1 .f32) : FVec F S256x256 .f32 :=
  mulf (weight dg s x nt ln) (score o w)

def lnNext (dg : Bool) (s x : FVec F S256x64 .bf16) (ln : FVec F S256x1 .f32) : FVec F S256x1 .f32 := addf ln (rowsum (log1 dg s x))

def ldNext (dg : Bool) (s x w o : FVec F S256x64 .bf16) (nt ln ld : FVec F S256x1 .f32) : FVec F S256x1 .f32 :=
  addf ld (rowsum (grad dg s x w o nt ln))

def dscore (dg : Bool) (s x w o : FVec F S256x64 .bf16) (nt ln ld : FVec F S256x1 .f32) : FVec F S256x256 .bf16 :=
  truncf .bf16 (mask dg (subf (mulf (grad dg s x w o nt ln) (exp (log1 dg s x)))
    (mulf (addf (broadcastTo S256x256 ld broadcasts_S256x1_S256x256) (cum (grad dg s x w o nt ln) k0_pay349)) (exp (logb s x))))) bitsLt_bf16_f32

def dqNext (dz : FVec F S256x256 .bf16) (x : FVec F S256x64 .bf16) (dq : FVec F S256x64 .f32) : FVec F S256x64 .f32 :=
  addf dq (matmul dot_S256x256_S256x64_S256x64_1_0_0_1_n_n none dz x (constant S256x64 .f32 0x00000000#32))

def accNext (t : FVec F S64x256 .bf16) (dz : FVec F S256x256 .bf16) (old : FVec F S1x64x256 .f32) : FVec F S1x64x256 .f32 :=
  shapeCast S1x64x256 (addf (shapeCast S64x256 old shapeCasts_S1x64x256_S64x256)
    (matmul dot_S64x256_S256x256_S64x256_1_0_0_1_n_n none t dz (constant S64x256 .f32 0x00000000#32))) shapeCasts_S64x256_S1x64x256

/-- A head's running sums: of the logs, of the weighted gradients, and the query's gradient. -/
abbrev State (F : FTy → Type) := FVec F S256x1 .f32 × FVec F S256x1 .f32 × FVec F S256x64 .f32

/-- The running sums after one more block of keys `x` and values `w`. -/
def next (dg : Bool) (s o : FVec F S256x64 .bf16) (nt : FVec F S256x1 .f32) (x w : FVec F S256x64 .bf16) (st : State F) : State F :=
  (lnNext dg s x st.1, ldNext dg s x w o nt st.1 st.2.1, dqNext (dscore dg s x w o nt st.1 st.2.1) x st.2.2)

/-- The key's gradient with one more block of queries. -/
def keyNext (dg : Bool) (s o : FVec F S256x64 .bf16) (nt : FVec F S256x1 .f32) (t : FVec F S64x256 .bf16) (x w : FVec F S256x64 .bf16)
    (st : State F) (old : FVec F S1x64x256 .f32) : FVec F S1x64x256 .f32 :=
  accNext t (dscore dg s x w o nt st.1 st.2.1) old

/-- The value's gradient with one more block of queries. -/
def valNext (dg : Bool) (s : FVec F S256x64 .bf16) (nt : FVec F S256x1 .f32) (t : FVec F S64x256 .bf16) (x : FVec F S256x64 .bf16)
    (st : State F) (old : FVec F S1x64x256 .f32) : FVec F S1x64x256 .f32 :=
  accNext t (truncf .bf16 (weight dg s x nt st.1) bitsLt_bf16_f32) old

end Cert.SbChain

end
-- ==== Proof.SbStep.lean ====
module

public import proofs.«01_k».proof.Proof.SbBody
public import proofs.«01_k».proof.Proof.SbChain

/-!
# The kernel's loops as blocks of queries against blocks of keys

Each trip of the kernel's loops named by the arithmetic of one block of queries against one block of keys, for the two
heads a program of the grid works on.
-/

@[expose] public section

noncomputable section

namespace Cert.SbStep

open Idealize.ShloMosaic Idealize.ShloMosaic.TcCoe Cert.SbBody.trip
open Cert.SbChain Cert.SbBwdIdeal Cert.SbBwdIdeal.Gen

variable {F : FTy → Type} [FloatOps F]

/-- A head's block of 256 keys or values. -/
abbrev tile (m : Memref sig .tc .vmem S2048x128 .bf16) (X : BufTy.Contents (Elt F) m.view.ty) {o : Fin 2 → Nat}
    (h : ∀ a, o a + S256x64.size a ≤ S2048x128.size a) : FVec F S256x64 .bf16 :=
  View.readAt (Elt F) m.view (Rect.unit (s := S2048x128) o S256x64.size h).toLoadRect X

/-- Both heads' block of 256 rows. -/
abbrev wide (m : Memref sig .tc .vmem S2048x128 .bf16) (X : BufTy.Contents (Elt F) m.view.ty) {o : Fin 2 → Nat}
    (h : ∀ a, o a + S256x128.size a ≤ S2048x128.size a) : FVec F S256x128 .bf16 :=
  View.readAt (Elt F) m.view (Rect.unit (s := S2048x128) o S256x128.size h).toLoadRect X

/-- One column of 256 rows. -/
abbrev column (m : Memref sig .tc .vmem S2048x128 .f32) (X : BufTy.Contents (Elt F) m.view.ty) {o : Fin 2 → Nat}
    (h : ∀ a, o a + S256x1.size a ≤ S2048x128.size a) : FVec F S256x1 .f32 :=
  View.readAt (Elt F) m.view (Rect.unit (s := S2048x128) o S256x1.size h).toLoadRect X

/-- The window of an accumulator that one head and one block of keys has. -/
abbrev held (m : Memref sig .tc .vmem S8x128x256 .f32) (X : BufTy.Contents (Elt F) m.view.ty) {o : Fin 3 → Nat}
    (h : ∀ a, o a + S1x64x256.size a ≤ S8x128x256.size a) : FVec F S1x64x256 .f32 :=
  View.readAt (Elt F) m.view (Rect.unit (s := S8x128x256) o S1x64x256.size h).toLoadRect X

/-- A store in an accumulator. -/
abbrev stored {o : Fin 3 → Nat} (h : ∀ a, o a + S1x64x256.size a ≤ S8x128x256.size a) (w : FVec F S1x64x256 .f32) :
    View.Piece (Elt F) S8x128x256 .f32 := ⟨Rect.unit (s := S8x128x256) o S1x64x256.size h, w⟩

/-- What a head's block of queries brings: the scaled queries, the cotangents, both turned, and the logs' whole sums. -/
structure Side (F : FTy → Type) where
  s : FVec F S256x64 .bf16
  o : FVec F S256x64 .bf16
  t : FVec F S64x256 .bf16
  e : FVec F S64x256 .bf16
  n : FVec F S256x1 .f32

/-- The running sums after one more block of keys. -/
abbrev go (dg : Bool) (Q : Side F) (x w : FVec F S256x64 .bf16) (st : State F) : State F := next dg Q.s Q.o Q.n x w st

/-- The keys' gradient with this block of queries. -/
abbrev goKey (dg : Bool) (Q : Side F) (x w : FVec F S256x64 .bf16) (st : State F) (old : FVec F S1x64x256 .f32) : FVec F S1x64x256 .f32 :=
  keyNext dg Q.s Q.o Q.n Q.t x w st old

/-- The values' gradient with this block of queries. -/
abbrev goVal (dg : Bool) (Q : Side F) (x : FVec F S256x64 .bf16) (st : State F) (old : FVec F S1x64x256 .f32) : FVec F S1x64x256 .f32 :=
  valNext dg Q.s Q.n Q.e x st old

/-- The running sums of two heads, as the loops carry them. -/
abbrev Carried (F : FTy → Type) := FVec F S256x1 .f32 × FVec F S256x1 .f32 × FVec F S256x64 .f32 × FVec F S256x1 .f32 × FVec F S256x1 .f32 × FVec F S256x64 .f32

abbrev fst (z : Carried F) : State F := (z.1, z.2.1, z.2.2.1)
abbrev snd (z : Carried F) : State F := (z.2.2.2.1, z.2.2.2.2.1, z.2.2.2.2.2)
abbrev both (a b : State F) : Carried F := (a.1, a.2.1, a.2.2, b.1, b.2.1, b.2.2)

/-- What a loop leaves: the running sums and the stores in the two accumulators, the last first. -/
abbrev Left (F : FTy → Type) := Carried F × List (View.Piece (Elt F) S8x128x256 .f32) × List (View.Piece (Elt F) S8x128x256 .f32)

/-- No keys seen yet. -/
abbrev none : Carried F := (k0_pay237, k0_pay237, k0_pay238, k0_pay237, k0_pay237, k0_pay238)

/-- The query's gradient as stored: scaled and rounded. -/
abbrev scaled (x : FVec F S256x64 .f32) : FVec F S1x256x64 .bf16 := k0_pay271 x

variable (c : Dev nD) (i : grid0.Coords)
  (b2 : Memref sig .tc .vmem S2048x128 .bf16) (w2 : b2.IsWhole)
  (b3 : Memref sig .tc .vmem S2048x128 .bf16) (w3 : b3.IsWhole)
  (b4 : Memref sig .tc .vmem S2048x128 .bf16) (w4 : b4.IsWhole)
  (b5 : Memref sig .tc .vmem S2048x128 .bf16) (w5 : b5.IsWhole)
  (b6 : Memref sig .tc .vmem S2048x128 .f32) (w6 : b6.IsWhole)
  (b7 : Memref sig .tc .vmem S3x2048x128 .bf16) (w7 : b7.IsWhole)
  (b8 : Memref sig .tc .vmem S8x128x256 .f32) (w8 : b8.IsWhole)
  (b9 : Memref sig .tc .vmem S8x128x256 .f32) (w9 : b9.IsWhole)
  (X2 : BufTy.Contents (Elt F) b2.view.ty) (X3 : BufTy.Contents (Elt F) b3.view.ty)
  (X4 : BufTy.Contents (Elt F) b4.view.ty) (X5 : BufTy.Contents (Elt F) b5.view.ty)
  (X6 : BufTy.Contents (Elt F) b6.view.ty)

/-- The first head's even block of queries. -/
abbrev evenQ0 (k : Fin k0_t1_loop.trips) : Side F :=
  ⟨k0_pay229 (tile b2 X2 (k0_off2_inb k)), tile b5 X5 (k0_off2_inb k), k0_pay230 (wide b2 X2 (k0_off1_inb k)),
    k0_pay231 (wide b5 X5 (k0_off1_inb k)), k0_pay232 (column b6 X6 (k0_off3_inb k))⟩

/-- The second head's even block of queries. -/
abbrev evenQ1 (k : Fin k0_t1_loop.trips) : Side F :=
  ⟨k0_pay229 (tile b2 X2 (k0_off4_inb k)), tile b5 X5 (k0_off4_inb k), k0_pay234 (wide b2 X2 (k0_off1_inb k)),
    k0_pay235 (wide b5 X5 (k0_off1_inb k)), k0_pay232 (column b6 X6 (k0_off5_inb k))⟩

/-- The first head's odd block of queries. -/
abbrev oddQ0 (k : Fin k0_t1_loop.trips) : Side F :=
  ⟨k0_pay229 (tile b2 X2 (k0_off27_inb k)), tile b5 X5 (k0_off27_inb k), k0_pay230 (wide b2 X2 (k0_off26_inb k)),
    k0_pay231 (wide b5 X5 (k0_off26_inb k)), k0_pay232 (column b6 X6 (k0_off28_inb k))⟩

/-- The second head's odd block of queries. -/
abbrev oddQ1 (k : Fin k0_t1_loop.trips) : Side F :=
  ⟨k0_pay229 (tile b2 X2 (k0_off29_inb k)), tile b5 X5 (k0_off29_inb k), k0_pay234 (wide b2 X2 (k0_off26_inb k)),
    k0_pay235 (wide b5 X5 (k0_off26_inb k)), k0_pay232 (column b6 X6 (k0_off30_inb k))⟩

/-- The loop over pairs of whole blocks of keys, at an even block of queries, after `t` trips. -/
abbrev evenLoop (Q0 Q1 : Side F) (k : Fin k0_t1_loop.trips) (f8 : BufTy.Contents (Elt F) b8.view.ty)
    (f9 : BufTy.Contents (Elt F) b9.view.ty) (t : ℕ) : Left F :=
  st_k0_t2 Variants.none c Option.none i b2 w2 b3 w3 b4 w4 b5 w5 b6 w6 b7 w7 b8 w8 b9 w9 k0_pay348 k0_pay349 k (sl.v133 k) Q0.s Q0.o Q0.t Q0.e Q0.n Q1.s Q1.o Q1.t Q1.e Q1.n k0_pay237 k0_pay238 0#32 1#32 (sl.v174 k) X3 X4 f8 f9 none t

theorem evenLoop_succ (Q0 Q1 : Side F) (k : Fin k0_t1_loop.trips) (t : Fin (k0_t2_loop k).trips)
    (f8 : BufTy.Contents (Elt F) b8.view.ty) (f9 : BufTy.Contents (Elt F) b9.view.ty) :
    let z := (evenLoop c i b2 w2 b3 w3 b4 w4 b5 w5 b6 w6 b7 w7 b8 w8 b9 w9 X3 X4 Q0 Q1 k f8 f9 t).1
    let g8 := b8.view.writes (Elt F) f8 (evenLoop c i b2 w2 b3 w3 b4 w4 b5 w5 b6 w6 b7 w7 b8 w8 b9 w9 X3 X4 Q0 Q1 k f8 f9 t).2.1
    let g9 := b9.view.writes (Elt F) f9 (evenLoop c i b2 w2 b3 w3 b4 w4 b5 w5 b6 w6 b7 w7 b8 w8 b9 w9 X3 X4 Q0 Q1 k f8 f9 t).2.2
    let x0 := tile b3 X3 (k0_off6_inb k t); let w0 := tile b4 X4 (k0_off6_inb k t)
    let x1 := tile b3 X3 (k0_off7_inb k t); let w1 := tile b4 X4 (k0_off7_inb k t)
    let y0 := tile b3 X3 (k0_off8_inb k t); let u0 := tile b4 X4 (k0_off8_inb k t)
    let y1 := tile b3 X3 (k0_off9_inb k t); let u1 := tile b4 X4 (k0_off9_inb k t)
    let a0 := fst z; let a1 := go false Q0 x0 w0 a0
    let b0 := snd z; let b1 := go false Q1 y0 u0 b0
    evenLoop c i b2 w2 b3 w3 b4 w4 b5 w5 b6 w6 b7 w7 b8 w8 b9 w9 X3 X4 Q0 Q1 k f8 f9 (t + 1) =
      (both (go false Q0 x1 w1 a1) (go false Q1 y1 u1 b1),
        [stored (k0_off13_inb k t) (goKey false Q1 y1 u1 b1 (held b8 g8 (k0_off13_inb k t))), stored (k0_off12_inb k t) (goKey false Q1 y0 u0 b0 (held b8 g8 (k0_off12_inb k t))),
          stored (k0_off11_inb k t) (goKey false Q0 x1 w1 a1 (held b8 g8 (k0_off11_inb k t))), stored (k0_off10_inb k t) (goKey false Q0 x0 w0 a0 (held b8 g8 (k0_off10_inb k t)))]
          ++ (evenLoop c i b2 w2 b3 w3 b4 w4 b5 w5 b6 w6 b7 w7 b8 w8 b9 w9 X3 X4 Q0 Q1 k f8 f9 t).2.1,
        [stored (k0_off13_inb k t) (goVal false Q1 y1 b1 (held b9 g9 (k0_off13_inb k t))), stored (k0_off12_inb k t) (goVal false Q1 y0 b0 (held b9 g9 (k0_off12_inb k t))),
          stored (k0_off11_inb k t) (goVal false Q0 x1 a1 (held b9 g9 (k0_off11_inb k t))), stored (k0_off10_inb k t) (goVal false Q0 x0 a0 (held b9 g9 (k0_off10_inb k t)))]
          ++ (evenLoop c i b2 w2 b3 w3 b4 w4 b5 w5 b6 w6 b7 w7 b8 w8 b9 w9 X3 X4 Q0 Q1 k f8 f9 t).2.2) := by
  unfold evenLoop
  rw [st_k0_t2_succ]
  generalize st_k0_t2 Variants.none c Option.none i b2 w2 b3 w3 b4 w4 b5 w5 b6 w6 b7 w7 b8 w8 b9 w9 _ _ _ _ _ _ _ _ _ _ _ _ _ _ _ _ _ _ _ X3 X4 f8 f9 none t.val = S
  unfold tripR_k0_t2 tripL_k0_t2 trip_k0_t2
  rfl

/-- The loop over pairs of whole blocks of keys, at an odd block of queries, after `t` trips. -/
abbrev oddLoop (Q0 Q1 : Side F) (k : Fin k0_t1_loop.trips) (f8 : BufTy.Contents (Elt F) b8.view.ty)
    (f9 : BufTy.Contents (Elt F) b9.view.ty) (t : ℕ) : Left F :=
  st_k0_t4 Variants.none c Option.none i b2 w2 b3 w3 b4 w4 b5 w5 b6 w6 b7 w7 b8 w8 b9 w9 k0_pay348 k0_pay349 k (sl.v348 k) Q0.s Q0.o Q0.t Q0.e Q0.n Q1.s Q1.o Q1.t Q1.e Q1.n k0_pay283 k0_pay284 0#32 (sl.v390 k) X3 X4 f8 f9 none t

theorem oddLoop_succ (Q0 Q1 : Side F) (k : Fin k0_t1_loop.trips) (t : Fin (k0_t4_loop k).trips)
    (f8 : BufTy.Contents (Elt F) b8.view.ty) (f9 : BufTy.Contents (Elt F) b9.view.ty) :
    let z := (oddLoop c i b2 w2 b3 w3 b4 w4 b5 w5 b6 w6 b7 w7 b8 w8 b9 w9 X3 X4 Q0 Q1 k f8 f9 t).1
    let g8 := b8.view.writes (Elt F) f8 (oddLoop c i b2 w2 b3 w3 b4 w4 b5 w5 b6 w6 b7 w7 b8 w8 b9 w9 X3 X4 Q0 Q1 k f8 f9 t).2.1
    let g9 := b9.view.writes (Elt F) f9 (oddLoop c i b2 w2 b3 w3 b4 w4 b5 w5 b6 w6 b7 w7 b8 w8 b9 w9 X3 X4 Q0 Q1 k f8 f9 t).2.2
    let x0 := tile b3 X3 (k0_off31_inb k t); let w0 := tile b4 X4 (k0_off31_inb k t)
    let x1 := tile b3 X3 (k0_off32_inb k t); let w1 := tile b4 X4 (k0_off32_inb k t)
    let y0 := tile b3 X3 (k0_off33_inb k t); let u0 := tile b4 X4 (k0_off33_inb k t)
    let y1 := tile b3 X3 (k0_off34_inb k t); let u1 := tile b4 X4 (k0_off34_inb k t)
    let a0 := fst z; let a1 := go false Q0 x0 w0 a0
    let b0 := snd z; let b1 := go false Q1 y0 u0 b0
    oddLoop c i b2 w2 b3 w3 b4 w4 b5 w5 b6 w6 b7 w7 b8 w8 b9 w9 X3 X4 Q0 Q1 k f8 f9 (t + 1) =
      (both (go false Q0 x1 w1 a1) (go false Q1 y1 u1 b1),
        [stored (k0_off38_inb k t) (goKey false Q1 y1 u1 b1 (held b8 g8 (k0_off38_inb k t))), stored (k0_off37_inb k t) (goKey false Q1 y0 u0 b0 (held b8 g8 (k0_off37_inb k t))),
          stored (k0_off36_inb k t) (goKey false Q0 x1 w1 a1 (held b8 g8 (k0_off36_inb k t))), stored (k0_off35_inb k t) (goKey false Q0 x0 w0 a0 (held b8 g8 (k0_off35_inb k t)))]
          ++ (oddLoop c i b2 w2 b3 w3 b4 w4 b5 w5 b6 w6 b7 w7 b8 w8 b9 w9 X3 X4 Q0 Q1 k f8 f9 t).2.1,
        [stored (k0_off38_inb k t) (goVal false Q1 y1 b1 (held b9 g9 (k0_off38_inb k t))), stored (k0_off37_inb k t) (goVal false Q1 y0 b0 (held b9 g9 (k0_off37_inb k t))),
          stored (k0_off36_inb k t) (goVal false Q0 x1 a1 (held b9 g9 (k0_off36_inb k t))), stored (k0_off35_inb k t) (goVal false Q0 x0 a0 (held b9 g9 (k0_off35_inb k t)))]
          ++ (oddLoop c i b2 w2 b3 w3 b4 w4 b5 w5 b6 w6 b7 w7 b8 w8 b9 w9 X3 X4 Q0 Q1 k f8 f9 t).2.2) := by
  unfold oddLoop
  rw [st_k0_t4_succ]
  generalize st_k0_t4 Variants.none c Option.none i b2 w2 b3 w3 b4 w4 b5 w5 b6 w6 b7 w7 b8 w8 b9 w9 _ _ _ _ _ _ _ _ _ _ _ _ _ _ _ _ _ _ X3 X4 f8 f9 none t.val = S
  unfold tripR_k0_t4 tripL_k0_t4 trip_k0_t4
  rfl

end Cert.SbStep

end
-- ==== Proof.SbTrace.lean ====
module

public import proofs.«01_k».proof.Proof.SbStep

/-!
# A trip over a pair of blocks of queries

What a trip of the kernel's outer loop stores, in terms of the two inner loops and of the blocks on and beside the
diagonal.
-/

@[expose] public section

noncomputable section

namespace Cert.SbTrace

open Idealize.ShloMosaic Idealize.ShloMosaic.TcCoe Cert.SbBody.trip
open Cert.SbStep Cert.SbChain Cert.SbBwdIdeal Cert.SbBwdIdeal.Gen
variable {F : FTy → Type} [FloatOps F]
theorem t3_any (𝒱 : Variants) (c : Dev nD) (bd : Option 𝒱.V) (i : grid0.Coords) (b2 : Memref sig .tc .vmem S2048x128 .bf16) (w2 : b2.IsWhole) (b3 : Memref sig .tc .vmem S2048x128 .bf16) (w3 : b3.IsWhole) (b4 : Memref sig .tc .vmem S2048x128 .bf16) (w4 : b4.IsWhole) (b5 : Memref sig .tc .vmem S2048x128 .bf16) (w5 : b5.IsWhole) (b6 : Memref sig .tc .vmem S2048x128 .f32) (w6 : b6.IsWhole) (b7 : Memref sig .tc .vmem S3x2048x128 .bf16) (w7 : b7.IsWhole) (b8 : Memref sig .tc .vmem S8x128x256 .f32) (w8 : b8.IsWhole) (b9 : Memref sig .tc .vmem S8x128x256 .f32) (w9 : b9.IsWhole) (v5 : FVec F S256x256 .bf16) (v11 : FVec F S256x256 .bf16) (k0_t1 : Fin k0_t1_loop.trips) (v133 : BitVec 32) (v151 : FVec F S256x64 .bf16) (v153 : Vec F S256x64 .bf16) (v154 : FVec F S64x256 .bf16) (v155 : FVec F S64x256 .bf16) (v158 : FVec F S256x1 .f32) (v162 : FVec F S256x64 .bf16) (v164 : Vec F S256x64 .bf16) (v165 : FVec F S64x256 .bf16) (v166 : FVec F S64x256 .bf16) (v169 : FVec F S256x1 .f32) (v170 : FVec F S256x1 .f32) (v171 : FVec F S256x64 .f32) (c0_i32_101 : BitVec 32) (c1_i32_102 : BitVec 32) (v174 : BitVec 32) (v176 : BitVec 32) (X_arg3 : BufTy.Contents (Elt F) b3.view.ty) (X_arg4 : BufTy.Contents (Elt F) b4.view.ty) (G_arg8 : BufTy.Contents (Elt F) b8.view.ty) (G_arg9 : BufTy.Contents (Elt F) b9.view.ty) (init : FVec F S256x1 .f32 × FVec F S256x1 .f32 × FVec F S256x64 .f32 × FVec F S256x1 .f32 × FVec F S256x1 .f32 × FVec F S256x64 .f32) :
    st_k0_t3 (F := F) 𝒱 c bd i b2 w2 b3 w3 b4 w4 b5 w5 b6 w6 b7 w7 b8 w8 b9 w9 v5 v11 k0_t1 v133 v151 v153 v154 v155 v158 v162 v164 v165 v166 v169 v170 v171 c0_i32_101 c1_i32_102 v174 v176 X_arg3 X_arg4 G_arg8 G_arg9 init (Scf.trips (k0_t3_loop k0_t1).lb (k0_t3_loop k0_t1).ub (k0_t3_loop k0_t1).st) = (init, [], []) := by
  rw [show Scf.trips (k0_t3_loop k0_t1).lb (k0_t3_loop k0_t1).ub (k0_t3_loop k0_t1).st = 0 from Nat.le_zero.1 ((k0_t3_abs k0_t1).2.1)]
  rfl
theorem t5_any (𝒱 : Variants) (c : Dev nD) (bd : Option 𝒱.V) (i : grid0.Coords) (b2 : Memref sig .tc .vmem S2048x128 .bf16) (w2 : b2.IsWhole) (b3 : Memref sig .tc .vmem S2048x128 .bf16) (w3 : b3.IsWhole) (b4 : Memref sig .tc .vmem S2048x128 .bf16) (w4 : b4.IsWhole) (b5 : Memref sig .tc .vmem S2048x128 .bf16) (w5 : b5.IsWhole) (b6 : Memref sig .tc .vmem S2048x128 .f32) (w6 : b6.IsWhole) (b7 : Memref sig .tc .vmem S3x2048x128 .bf16) (w7 : b7.IsWhole) (b8 : Memref sig .tc .vmem S8x128x256 .f32) (w8 : b8.IsWhole) (b9 : Memref sig .tc .vmem S8x128x256 .f32) (w9 : b9.IsWhole) (v5 : FVec F S256x256 .bf16) (v11 : FVec F S256x256 .bf16) (k0_t1 : Fin k0_t1_loop.trips) (v348 : BitVec 32) (v366 : FVec F S256x64 .bf16) (v368 : Vec F S256x64 .bf16) (v369 : FVec F S64x256 .bf16) (v370 : FVec F S64x256 .bf16) (v373 : FVec F S256x1 .f32) (v377 : FVec F S256x64 .bf16) (v379 : Vec F S256x64 .bf16) (v380 : FVec F S64x256 .bf16) (v381 : FVec F S64x256 .bf16) (v384 : FVec F S256x1 .f32) (v385 : FVec F S256x1 .f32) (v386 : FVec F S256x64 .f32) (c0_i32_179 : BitVec 32) (v390 : BitVec 32) (v391 : BitVec 32) (X_arg3 : BufTy.Contents (Elt F) b3.view.ty) (X_arg4 : BufTy.Contents (Elt F) b4.view.ty) (G_arg8 : BufTy.Contents (Elt F) b8.view.ty) (G_arg9 : BufTy.Contents (Elt F) b9.view.ty) (init : FVec F S256x1 .f32 × FVec F S256x1 .f32 × FVec F S256x64 .f32 × FVec F S256x1 .f32 × FVec F S256x1 .f32 × FVec F S256x64 .f32) :
    st_k0_t5 (F := F) 𝒱 c bd i b2 w2 b3 w3 b4 w4 b5 w5 b6 w6 b7 w7 b8 w8 b9 w9 v5 v11 k0_t1 v348 v366 v368 v369 v370 v373 v377 v379 v380 v381 v384 v385 v386 c0_i32_179 v390 v391 X_arg3 X_arg4 G_arg8 G_arg9 init (Scf.trips (k0_t5_loop k0_t1).lb (k0_t5_loop k0_t1).ub (k0_t5_loop k0_t1).st) = (init, [], []) := by
  rw [show Scf.trips (k0_t5_loop k0_t1).lb (k0_t5_loop k0_t1).ub (k0_t5_loop k0_t1).st = 0 from Nat.le_zero.1 ((k0_t5_abs k0_t1).2.1)]
  rfl
variable (c : Dev nD) (i : grid0.Coords)
  (b2 : Memref sig .tc .vmem S2048x128 .bf16) (w2 : b2.IsWhole)
  (b3 : Memref sig .tc .vmem S2048x128 .bf16) (w3 : b3.IsWhole)
  (b4 : Memref sig .tc .vmem S2048x128 .bf16) (w4 : b4.IsWhole)
  (b5 : Memref sig .tc .vmem S2048x128 .bf16) (w5 : b5.IsWhole)
  (b6 : Memref sig .tc .vmem S2048x128 .f32) (w6 : b6.IsWhole)
  (b7 : Memref sig .tc .vmem S3x2048x128 .bf16) (w7 : b7.IsWhole)
  (b8 : Memref sig .tc .vmem S8x128x256 .f32) (w8 : b8.IsWhole)
  (b9 : Memref sig .tc .vmem S8x128x256 .f32) (w9 : b9.IsWhole)
  (X2 : BufTy.Contents (Elt F) b2.view.ty) (X3 : BufTy.Contents (Elt F) b3.view.ty)
  (X4 : BufTy.Contents (Elt F) b4.view.ty) (X5 : BufTy.Contents (Elt F) b5.view.ty)
  (X6 : BufTy.Contents (Elt F) b6.view.ty)
  (k : Fin k0_t1_loop.trips) (f8 : BufTy.Contents (Elt F) b8.view.ty) (f9 : BufTy.Contents (Elt F) b9.view.ty)

abbrev Even0 : Side F := ⟨sl.r b2 X2 k, sl.r_1 b5 X5 k, sl.r_2 b2 X2 k, sl.r_3 b5 X5 k, sl.r_4 b6 X6 k⟩
abbrev Even1 : Side F := ⟨sl.r_5 b2 X2 k, sl.r_6 b5 X5 k, sl.r_7 b2 X2 k, sl.r_8 b5 X5 k, sl.r_9 b6 X6 k⟩

theorem Even0_eq : Even0 b2 b5 b6 X2 X5 X6 k = evenQ0 b2 b5 b6 X2 X5 X6 k := rfl
theorem Even1_eq : Even1 b2 b5 b6 X2 X5 X6 k = evenQ1 b2 b5 b6 X2 X5 X6 k := rfl
attribute [local irreducible] st_k0_t2 st_k0_t3 st_k0_t4 st_k0_t5 View.writes Scf.trips

def evenE : Left F :=
  evenLoop c i b2 w2 b3 w3 b4 w4 b5 w5 b6 w6 b7 w7 b8 w8 b9 w9 X3 X4 (Even0 b2 b5 b6 X2 X5 X6 k) (Even1 b2 b5 b6 X2 X5 X6 k) k f8 f9 (Scf.trips (k0_t2_loop k).lb (k0_t2_loop k).ub (k0_t2_loop k).st)

theorem r_10 : sl.r_10 c i b2 w2 b3 w3 b4 w4 b5 w5 b6 w6 b7 w7 b8 w8 b9 w9 X2 X3 X4 X5 X6 k f8 f9 = (evenE c i b2 w2 b3 w3 b4 w4 b5 w5 b6 w6 b7 w7 b8 w8 b9 w9 X2 X3 X4 X5 X6 k f8 f9).1.1 := by
  unfold sl.r_10 evenE
  rw [t3_any]

theorem r_11 : sl.r_11 c i b2 w2 b3 w3 b4 w4 b5 w5 b6 w6 b7 w7 b8 w8 b9 w9 X2 X3 X4 X5 X6 k f8 f9 = (evenE c i b2 w2 b3 w3 b4 w4 b5 w5 b6 w6 b7 w7 b8 w8 b9 w9 X2 X3 X4 X5 X6 k f8 f9).1.2.1 := by
  unfold sl.r_11 evenE
  rw [t3_any]

theorem r_12 : sl.r_12 c i b2 w2 b3 w3 b4 w4 b5 w5 b6 w6 b7 w7 b8 w8 b9 w9 X2 X3 X4 X5 X6 k f8 f9 = (evenE c i b2 w2 b3 w3 b4 w4 b5 w5 b6 w6 b7 w7 b8 w8 b9 w9 X2 X3 X4 X5 X6 k f8 f9).1.2.2.1 := by
  unfold sl.r_12 evenE
  rw [t3_any]

theorem r_13 : sl.r_13 c i b2 w2 b3 w3 b4 w4 b5 w5 b6 w6 b7 w7 b8 w8 b9 w9 X2 X3 X4 X5 X6 k f8 f9 = (evenE c i b2 w2 b3 w3 b4 w4 b5 w5 b6 w6 b7 w7 b8 w8 b9 w9 X2 X3 X4 X5 X6 k f8 f9).1.2.2.2.1 := by
  unfold sl.r_13 evenE
  rw [t3_any]

theorem r_14 : sl.r_14 c i b2 w2 b3 w3 b4 w4 b5 w5 b6 w6 b7 w7 b8 w8 b9 w9 X2 X3 X4 X5 X6 k f8 f9 = (evenE c i b2 w2 b3 w3 b4 w4 b5 w5 b6 w6 b7 w7 b8 w8 b9 w9 X2 X3 X4 X5 X6 k f8 f9).1.2.2.2.2.1 := by
  unfold sl.r_14 evenE
  rw [t3_any]

theorem r_15 : sl.r_15 c i b2 w2 b3 w3 b4 w4 b5 w5 b6 w6 b7 w7 b8 w8 b9 w9 X2 X3 X4 X5 X6 k f8 f9 = (evenE c i b2 w2 b3 w3 b4 w4 b5 w5 b6 w6 b7 w7 b8 w8 b9 w9 X2 X3 X4 X5 X6 k f8 f9).1.2.2.2.2.2 := by
  unfold sl.r_15 evenE
  rw [t3_any]

theorem v294 : sl.v294 c i b2 w2 b3 w3 b4 w4 b5 w5 b6 w6 b7 w7 b8 w8 b9 w9 X2 X3 X4 X5 X6 k f8 f9 = held b8 (b8.view.writes (Elt F) f8 (evenE c i b2 w2 b3 w3 b4 w4 b5 w5 b6 w6 b7 w7 b8 w8 b9 w9 X2 X3 X4 X5 X6 k f8 f9).2.1) (k0_off22_inb k) := by
  unfold sl.v294 evenE
  rw [t3_any, List.nil_append]

theorem v303 : sl.v303 c i b2 w2 b3 w3 b4 w4 b5 w5 b6 w6 b7 w7 b8 w8 b9 w9 X2 X3 X4 X5 X6 k f8 f9 = held b9 (b9.view.writes (Elt F) f9 (evenE c i b2 w2 b3 w3 b4 w4 b5 w5 b6 w6 b7 w7 b8 w8 b9 w9 X2 X3 X4 X5 X6 k f8 f9).2.2) (k0_off22_inb k) := by
  unfold sl.v303 evenE
  rw [t3_any, List.nil_append]

theorem H8_1 : sl.H8_1 c i b2 w2 b3 w3 b4 w4 b5 w5 b6 w6 b7 w7 b8 w8 b9 w9 X2 X3 X4 X5 X6 k f8 f9 =
    stored (k0_off22_inb k) (goKey true (Even0 b2 b5 b6 X2 X5 X6 k) (tile b3 X3 (k0_off2_inb k)) (tile b4 X4 (k0_off2_inb k)) (fst (evenE c i b2 w2 b3 w3 b4 w4 b5 w5 b6 w6 b7 w7 b8 w8 b9 w9 X2 X3 X4 X5 X6 k f8 f9).1) (held b8 (b8.view.writes (Elt F) f8 (evenE c i b2 w2 b3 w3 b4 w4 b5 w5 b6 w6 b7 w7 b8 w8 b9 w9 X2 X3 X4 X5 X6 k f8 f9).2.1) (k0_off22_inb k))) :: (evenE c i b2 w2 b3 w3 b4 w4 b5 w5 b6 w6 b7 w7 b8 w8 b9 w9 X2 X3 X4 X5 X6 k f8 f9).2.1 := by
  unfold sl.H8_1 sl.r_24 sl.r_27
  rw [t3_any, List.nil_append, r_10, r_11, v294]
  change _ :: (evenE (F := F) ..).2.1 = _
  generalize evenE (F := F) .. = E
  rfl

theorem H9_1 : sl.H9_1 c i b2 w2 b3 w3 b4 w4 b5 w5 b6 w6 b7 w7 b8 w8 b9 w9 X2 X3 X4 X5 X6 k f8 f9 =
    stored (k0_off22_inb k) (goVal true (Even0 b2 b5 b6 X2 X5 X6 k) (tile b3 X3 (k0_off2_inb k)) (fst (evenE c i b2 w2 b3 w3 b4 w4 b5 w5 b6 w6 b7 w7 b8 w8 b9 w9 X2 X3 X4 X5 X6 k f8 f9).1) (held b9 (b9.view.writes (Elt F) f9 (evenE c i b2 w2 b3 w3 b4 w4 b5 w5 b6 w6 b7 w7 b8 w8 b9 w9 X2 X3 X4 X5 X6 k f8 f9).2.2) (k0_off22_inb k))) :: (evenE c i b2 w2 b3 w3 b4 w4 b5 w5 b6 w6 b7 w7 b8 w8 b9 w9 X2 X3 X4 X5 X6 k f8 f9).2.2 := by
  unfold sl.H9_1 sl.r_32 sl.r_23
  rw [t3_any, List.nil_append, r_10, v303]
  change _ :: (evenE (F := F) ..).2.2 = _
  generalize evenE (F := F) .. = E
  rfl

theorem r_31 : sl.r_31 c i b2 w2 b3 w3 b4 w4 b5 w5 b6 w6 b7 w7 b8 w8 b9 w9 X2 X3 X4 X5 X6 k f8 f9 = (go true (Even0 b2 b5 b6 X2 X5 X6 k) (tile b3 X3 (k0_off2_inb k)) (tile b4 X4 (k0_off2_inb k)) (fst (evenE c i b2 w2 b3 w3 b4 w4 b5 w5 b6 w6 b7 w7 b8 w8 b9 w9 X2 X3 X4 X5 X6 k f8 f9).1)).2.2 := by
  unfold sl.r_31 sl.r_24 sl.r_27
  rw [r_10, r_11, r_12]
  generalize evenE (F := F) .. = E
  rfl

theorem r_30 : k0_pay272 (sl.r_15 c i b2 w2 b3 w3 b4 w4 b5 w5 b6 w6 b7 w7 b8 w8 b9 w9 X2 X3 X4 X5 X6 k f8 f9) (sl.r_17 b3 X3 k) (sl.r_30 c i b2 w2 b3 w3 b4 w4 b5 w5 b6 w6 b7 w7 b8 w8 b9 w9 X2 X3 X4 X5 X6 k f8 f9) = scaled (go true (Even1 b2 b5 b6 X2 X5 X6 k) (tile b3 X3 (k0_off4_inb k)) (tile b4 X4 (k0_off4_inb k)) (snd (evenE c i b2 w2 b3 w3 b4 w4 b5 w5 b6 w6 b7 w7 b8 w8 b9 w9 X2 X3 X4 X5 X6 k f8 f9).1)).2.2 := by
  unfold sl.r_30 sl.r_26 sl.r_28 sl.r_29
  rw [r_13, r_14, r_15]
  generalize evenE (F := F) .. = E
  rfl

def evenD8 : List (View.Piece (Elt F) S8x128x256 .f32) :=
  ⟨Rect.unit (s := S8x128x256) (k0_off23 k) S1x64x256.size (k0_off23_inb k), k0_pay269 (sl.r_7 b2 X2 k) (sl.r_30 c i b2 w2 b3 w3 b4 w4 b5 w5 b6 w6 b7 w7 b8 w8 b9 w9 X2 X3 X4 X5 X6 k f8 f9)
    (View.readAt (Elt F) b8.view (Rect.unit (s := S8x128x256) (k0_off23 k) S1x64x256.size (k0_off23_inb k)).toLoadRect (b8.view.writes (Elt F) f8 (sl.H8_1 c i b2 w2 b3 w3 b4 w4 b5 w5 b6 w6 b7 w7 b8 w8 b9 w9 X2 X3 X4 X5 X6 k f8 f9)))⟩ :: sl.H8_1 c i b2 w2 b3 w3 b4 w4 b5 w5 b6 w6 b7 w7 b8 w8 b9 w9 X2 X3 X4 X5 X6 k f8 f9

def evenD9 : List (View.Piece (Elt F) S8x128x256 .f32) :=
  ⟨Rect.unit (s := S8x128x256) (k0_off23 k) S1x64x256.size (k0_off23_inb k), k0_pay270 (sl.r_8 b5 X5 k) (sl.r_25 c i b2 w2 b3 w3 b4 w4 b5 w5 b6 w6 b7 w7 b8 w8 b9 w9 X2 X3 X4 X5 X6 k f8 f9)
    (View.readAt (Elt F) b9.view (Rect.unit (s := S8x128x256) (k0_off23 k) S1x64x256.size (k0_off23_inb k)).toLoadRect (b9.view.writes (Elt F) f9 (sl.H9_1 c i b2 w2 b3 w3 b4 w4 b5 w5 b6 w6 b7 w7 b8 w8 b9 w9 X2 X3 X4 X5 X6 k f8 f9)))⟩ :: sl.H9_1 c i b2 w2 b3 w3 b4 w4 b5 w5 b6 w6 b7 w7 b8 w8 b9 w9 X2 X3 X4 X5 X6 k f8 f9

theorem evenD8_eq : evenD8 c i b2 w2 b3 w3 b4 w4 b5 w5 b6 w6 b7 w7 b8 w8 b9 w9 X2 X3 X4 X5 X6 k f8 f9 =
    let L := stored (k0_off22_inb k) (goKey true (Even0 b2 b5 b6 X2 X5 X6 k) (tile b3 X3 (k0_off2_inb k)) (tile b4 X4 (k0_off2_inb k)) (fst (evenE c i b2 w2 b3 w3 b4 w4 b5 w5 b6 w6 b7 w7 b8 w8 b9 w9 X2 X3 X4 X5 X6 k f8 f9).1) (held b8 (b8.view.writes (Elt F) f8 (evenE c i b2 w2 b3 w3 b4 w4 b5 w5 b6 w6 b7 w7 b8 w8 b9 w9 X2 X3 X4 X5 X6 k f8 f9).2.1) (k0_off22_inb k))) :: (evenE c i b2 w2 b3 w3 b4 w4 b5 w5 b6 w6 b7 w7 b8 w8 b9 w9 X2 X3 X4 X5 X6 k f8 f9).2.1
    stored (k0_off23_inb k) (goKey true (Even1 b2 b5 b6 X2 X5 X6 k) (tile b3 X3 (k0_off4_inb k)) (tile b4 X4 (k0_off4_inb k)) (snd (evenE c i b2 w2 b3 w3 b4 w4 b5 w5 b6 w6 b7 w7 b8 w8 b9 w9 X2 X3 X4 X5 X6 k f8 f9).1) (held b8 (b8.view.writes (Elt F) f8 L) (k0_off23_inb k))) :: L := by
  unfold evenD8 sl.r_30 sl.r_26 sl.r_28 sl.r_29
  rw [r_13, r_14, H8_1]
  generalize evenE (F := F) .. = E
  rfl

theorem evenD9_eq : evenD9 c i b2 w2 b3 w3 b4 w4 b5 w5 b6 w6 b7 w7 b8 w8 b9 w9 X2 X3 X4 X5 X6 k f8 f9 =
    let L := stored (k0_off22_inb k) (goVal true (Even0 b2 b5 b6 X2 X5 X6 k) (tile b3 X3 (k0_off2_inb k)) (fst (evenE c i b2 w2 b3 w3 b4 w4 b5 w5 b6 w6 b7 w7 b8 w8 b9 w9 X2 X3 X4 X5 X6 k f8 f9).1) (held b9 (b9.view.writes (Elt F) f9 (evenE c i b2 w2 b3 w3 b4 w4 b5 w5 b6 w6 b7 w7 b8 w8 b9 w9 X2 X3 X4 X5 X6 k f8 f9).2.2) (k0_off22_inb k))) :: (evenE c i b2 w2 b3 w3 b4 w4 b5 w5 b6 w6 b7 w7 b8 w8 b9 w9 X2 X3 X4 X5 X6 k f8 f9).2.2
    stored (k0_off23_inb k) (goVal true (Even1 b2 b5 b6 X2 X5 X6 k) (tile b3 X3 (k0_off4_inb k)) (snd (evenE c i b2 w2 b3 w3 b4 w4 b5 w5 b6 w6 b7 w7 b8 w8 b9 w9 X2 X3 X4 X5 X6 k f8 f9).1) (held b9 (b9.view.writes (Elt F) f9 L) (k0_off23_inb k))) :: L := by
  unfold evenD9 sl.r_25
  rw [r_13, H9_1]
  generalize evenE (F := F) .. = E
  rfl

abbrev Odd0 : Side F := ⟨sl.r_33 b2 X2 k, sl.r_34 b5 X5 k, sl.r_35 b2 X2 k, sl.r_36 b5 X5 k, sl.r_37 b6 X6 k⟩
abbrev Odd1 : Side F := ⟨sl.r_38 b2 X2 k, sl.r_39 b5 X5 k, sl.r_40 b2 X2 k, sl.r_41 b5 X5 k, sl.r_42 b6 X6 k⟩
theorem Odd0_eq : Odd0 b2 b5 b6 X2 X5 X6 k = oddQ0 b2 b5 b6 X2 X5 X6 k := rfl
theorem Odd1_eq : Odd1 b2 b5 b6 X2 X5 X6 k = oddQ1 b2 b5 b6 X2 X5 X6 k := rfl

def oddO : Left F :=
  oddLoop c i b2 w2 b3 w3 b4 w4 b5 w5 b6 w6 b7 w7 b8 w8 b9 w9 X3 X4 (Odd0 b2 b5 b6 X2 X5 X6 k) (Odd1 b2 b5 b6 X2 X5 X6 k) k (b8.view.writes (Elt F) f8 (evenD8 c i b2 w2 b3 w3 b4 w4 b5 w5 b6 w6 b7 w7 b8 w8 b9 w9 X2 X3 X4 X5 X6 k f8 f9)) (b9.view.writes (Elt F) f9 (evenD9 c i b2 w2 b3 w3 b4 w4 b5 w5 b6 w6 b7 w7 b8 w8 b9 w9 X2 X3 X4 X5 X6 k f8 f9))
    (Scf.trips (k0_t4_loop k).lb (k0_t4_loop k).ub (k0_t4_loop k).st)

theorem r_43 : sl.r_43 c i b2 w2 b3 w3 b4 w4 b5 w5 b6 w6 b7 w7 b8 w8 b9 w9 X2 X3 X4 X5 X6 k f8 f9 = (oddO c i b2 w2 b3 w3 b4 w4 b5 w5 b6 w6 b7 w7 b8 w8 b9 w9 X2 X3 X4 X5 X6 k f8 f9).1.1 := by
  unfold sl.r_43 oddO
  rw [t5_any]
  rfl

theorem r_44 : sl.r_44 c i b2 w2 b3 w3 b4 w4 b5 w5 b6 w6 b7 w7 b8 w8 b9 w9 X2 X3 X4 X5 X6 k f8 f9 = (oddO c i b2 w2 b3 w3 b4 w4 b5 w5 b6 w6 b7 w7 b8 w8 b9 w9 X2 X3 X4 X5 X6 k f8 f9).1.2.1 := by
  unfold sl.r_44 oddO
  rw [t5_any]
  rfl

theorem r_45 : sl.r_45 c i b2 w2 b3 w3 b4 w4 b5 w5 b6 w6 b7 w7 b8 w8 b9 w9 X2 X3 X4 X5 X6 k f8 f9 = (oddO c i b2 w2 b3 w3 b4 w4 b5 w5 b6 w6 b7 w7 b8 w8 b9 w9 X2 X3 X4 X5 X6 k f8 f9).1.2.2.1 := by
  unfold sl.r_45 oddO
  rw [t5_any]
  rfl

theorem r_46 : sl.r_46 c i b2 w2 b3 w3 b4 w4 b5 w5 b6 w6 b7 w7 b8 w8 b9 w9 X2 X3 X4 X5 X6 k f8 f9 = (oddO c i b2 w2 b3 w3 b4 w4 b5 w5 b6 w6 b7 w7 b8 w8 b9 w9 X2 X3 X4 X5 X6 k f8 f9).1.2.2.2.1 := by
  unfold sl.r_46 oddO
  rw [t5_any]
  rfl

theorem r_47 : sl.r_47 c i b2 w2 b3 w3 b4 w4 b5 w5 b6 w6 b7 w7 b8 w8 b9 w9 X2 X3 X4 X5 X6 k f8 f9 = (oddO c i b2 w2 b3 w3 b4 w4 b5 w5 b6 w6 b7 w7 b8 w8 b9 w9 X2 X3 X4 X5 X6 k f8 f9).1.2.2.2.2.1 := by
  unfold sl.r_47 oddO
  rw [t5_any]
  rfl

theorem r_48 : sl.r_48 c i b2 w2 b3 w3 b4 w4 b5 w5 b6 w6 b7 w7 b8 w8 b9 w9 X2 X3 X4 X5 X6 k f8 f9 = (oddO c i b2 w2 b3 w3 b4 w4 b5 w5 b6 w6 b7 w7 b8 w8 b9 w9 X2 X3 X4 X5 X6 k f8 f9).1.2.2.2.2.2 := by
  unfold sl.r_48 oddO
  rw [t5_any]
  rfl

theorem v616 : sl.v616 c i b2 w2 b3 w3 b4 w4 b5 w5 b6 w6 b7 w7 b8 w8 b9 w9 X2 X3 X4 X5 X6 k f8 f9 = held b8 (b8.view.writes (Elt F) f8 ((oddO c i b2 w2 b3 w3 b4 w4 b5 w5 b6 w6 b7 w7 b8 w8 b9 w9 X2 X3 X4 X5 X6 k f8 f9).2.1 ++ (evenD8 c i b2 w2 b3 w3 b4 w4 b5 w5 b6 w6 b7 w7 b8 w8 b9 w9 X2 X3 X4 X5 X6 k f8 f9))) (k0_off49_inb k) := by
  unfold sl.v616 oddO
  rw [t5_any, List.nil_append]
  rfl

theorem v625 : sl.v625 c i b2 w2 b3 w3 b4 w4 b5 w5 b6 w6 b7 w7 b8 w8 b9 w9 X2 X3 X4 X5 X6 k f8 f9 = held b9 (b9.view.writes (Elt F) f9 ((oddO c i b2 w2 b3 w3 b4 w4 b5 w5 b6 w6 b7 w7 b8 w8 b9 w9 X2 X3 X4 X5 X6 k f8 f9).2.2 ++ (evenD9 c i b2 w2 b3 w3 b4 w4 b5 w5 b6 w6 b7 w7 b8 w8 b9 w9 X2 X3 X4 X5 X6 k f8 f9))) (k0_off49_inb k) := by
  unfold sl.v625 oddO
  rw [t5_any, List.nil_append]
  rfl

theorem H8_1_1 : (sl.H8_1_1 c i b2 w2 b3 w3 b4 w4 b5 w5 b6 w6 b7 w7 b8 w8 b9 w9 X2 X3 X4 X5 X6 k f8 f9) =
    stored (k0_off49_inb k) (goKey false (Odd0 b2 b5 b6 X2 X5 X6 k) (tile b3 X3 (k0_off47_inb k)) (tile b4 X4 (k0_off47_inb k)) (fst (oddO c i b2 w2 b3 w3 b4 w4 b5 w5 b6 w6 b7 w7 b8 w8 b9 w9 X2 X3 X4 X5 X6 k f8 f9).1) (held b8 (b8.view.writes (Elt F) f8 ((oddO c i b2 w2 b3 w3 b4 w4 b5 w5 b6 w6 b7 w7 b8 w8 b9 w9 X2 X3 X4 X5 X6 k f8 f9).2.1 ++ (evenD8 c i b2 w2 b3 w3 b4 w4 b5 w5 b6 w6 b7 w7 b8 w8 b9 w9 X2 X3 X4 X5 X6 k f8 f9))) (k0_off49_inb k))) :: ((oddO c i b2 w2 b3 w3 b4 w4 b5 w5 b6 w6 b7 w7 b8 w8 b9 w9 X2 X3 X4 X5 X6 k f8 f9).2.1 ++ (evenD8 c i b2 w2 b3 w3 b4 w4 b5 w5 b6 w6 b7 w7 b8 w8 b9 w9 X2 X3 X4 X5 X6 k f8 f9)) := by
  unfold sl.H8_1_1 sl.r_90 sl.r_80 sl.r_84 sl.r_85 sl.r_72
  rw [t5_any, List.nil_append, r_43, r_44, v616]
  change _ :: ((oddO c i b2 w2 b3 w3 b4 w4 b5 w5 b6 w6 b7 w7 b8 w8 b9 w9 X2 X3 X4 X5 X6 k f8 f9).2.1 ++ (evenD8 c i b2 w2 b3 w3 b4 w4 b5 w5 b6 w6 b7 w7 b8 w8 b9 w9 X2 X3 X4 X5 X6 k f8 f9)) = _
  generalize oddO (F := F) .. = O
  rfl

theorem H9_1_1 : (sl.H9_1_1 c i b2 w2 b3 w3 b4 w4 b5 w5 b6 w6 b7 w7 b8 w8 b9 w9 X2 X3 X4 X5 X6 k f8 f9) =
    stored (k0_off49_inb k) (goVal false (Odd0 b2 b5 b6 X2 X5 X6 k) (tile b3 X3 (k0_off47_inb k)) (fst (oddO c i b2 w2 b3 w3 b4 w4 b5 w5 b6 w6 b7 w7 b8 w8 b9 w9 X2 X3 X4 X5 X6 k f8 f9).1) (held b9 (b9.view.writes (Elt F) f9 ((oddO c i b2 w2 b3 w3 b4 w4 b5 w5 b6 w6 b7 w7 b8 w8 b9 w9 X2 X3 X4 X5 X6 k f8 f9).2.2 ++ (evenD9 c i b2 w2 b3 w3 b4 w4 b5 w5 b6 w6 b7 w7 b8 w8 b9 w9 X2 X3 X4 X5 X6 k f8 f9))) (k0_off49_inb k))) :: ((oddO c i b2 w2 b3 w3 b4 w4 b5 w5 b6 w6 b7 w7 b8 w8 b9 w9 X2 X3 X4 X5 X6 k f8 f9).2.2 ++ (evenD9 c i b2 w2 b3 w3 b4 w4 b5 w5 b6 w6 b7 w7 b8 w8 b9 w9 X2 X3 X4 X5 X6 k f8 f9)) := by
  unfold sl.H9_1_1 sl.r_71
  rw [t5_any, List.nil_append, r_43, v625]
  change _ :: ((oddO c i b2 w2 b3 w3 b4 w4 b5 w5 b6 w6 b7 w7 b8 w8 b9 w9 X2 X3 X4 X5 X6 k f8 f9).2.2 ++ (evenD9 c i b2 w2 b3 w3 b4 w4 b5 w5 b6 w6 b7 w7 b8 w8 b9 w9 X2 X3 X4 X5 X6 k f8 f9)) = _
  generalize oddO (F := F) .. = O
  rfl

theorem H8_2 : (sl.H8_2 c i b2 w2 b3 w3 b4 w4 b5 w5 b6 w6 b7 w7 b8 w8 b9 w9 X2 X3 X4 X5 X6 k f8 f9) =
    stored (k0_off50_inb k) (goKey true (Odd0 b2 b5 b6 X2 X5 X6 k) (tile b3 X3 (k0_off27_inb k)) (tile b4 X4 (k0_off27_inb k)) (go false (Odd0 b2 b5 b6 X2 X5 X6 k) (tile b3 X3 (k0_off47_inb k)) (tile b4 X4 (k0_off47_inb k)) (fst (oddO c i b2 w2 b3 w3 b4 w4 b5 w5 b6 w6 b7 w7 b8 w8 b9 w9 X2 X3 X4 X5 X6 k f8 f9).1)) (held b8 (b8.view.writes (Elt F) f8 (sl.H8_1_1 c i b2 w2 b3 w3 b4 w4 b5 w5 b6 w6 b7 w7 b8 w8 b9 w9 X2 X3 X4 X5 X6 k f8 f9)) (k0_off50_inb k))) :: (sl.H8_1_1 c i b2 w2 b3 w3 b4 w4 b5 w5 b6 w6 b7 w7 b8 w8 b9 w9 X2 X3 X4 X5 X6 k f8 f9) := by
  unfold sl.H8_2 sl.r_86 sl.r_75 sl.r_81 sl.r_73 sl.r_72
  rw [r_43, r_44]
  generalize oddO (F := F) .. = O
  rfl

theorem H9_2 : (sl.H9_2 c i b2 w2 b3 w3 b4 w4 b5 w5 b6 w6 b7 w7 b8 w8 b9 w9 X2 X3 X4 X5 X6 k f8 f9) =
    stored (k0_off50_inb k) (goVal true (Odd0 b2 b5 b6 X2 X5 X6 k) (tile b3 X3 (k0_off27_inb k)) (go false (Odd0 b2 b5 b6 X2 X5 X6 k) (tile b3 X3 (k0_off47_inb k)) (tile b4 X4 (k0_off47_inb k)) (fst (oddO c i b2 w2 b3 w3 b4 w4 b5 w5 b6 w6 b7 w7 b8 w8 b9 w9 X2 X3 X4 X5 X6 k f8 f9).1)) (held b9 (b9.view.writes (Elt F) f9 (sl.H9_1_1 c i b2 w2 b3 w3 b4 w4 b5 w5 b6 w6 b7 w7 b8 w8 b9 w9 X2 X3 X4 X5 X6 k f8 f9)) (k0_off50_inb k))) :: (sl.H9_1_1 c i b2 w2 b3 w3 b4 w4 b5 w5 b6 w6 b7 w7 b8 w8 b9 w9 X2 X3 X4 X5 X6 k f8 f9) := by
  unfold sl.H9_2 sl.r_74 sl.r_73
  rw [r_43]
  generalize oddO (F := F) .. = O
  rfl

theorem H8_3 : (sl.H8_3 c i b2 w2 b3 w3 b4 w4 b5 w5 b6 w6 b7 w7 b8 w8 b9 w9 X2 X3 X4 X5 X6 k f8 f9) =
    stored (k0_off51_inb k) (goKey false (Odd1 b2 b5 b6 X2 X5 X6 k) (tile b3 X3 (k0_off48_inb k)) (tile b4 X4 (k0_off48_inb k)) (snd (oddO c i b2 w2 b3 w3 b4 w4 b5 w5 b6 w6 b7 w7 b8 w8 b9 w9 X2 X3 X4 X5 X6 k f8 f9).1) (held b8 (b8.view.writes (Elt F) f8 (sl.H8_2 c i b2 w2 b3 w3 b4 w4 b5 w5 b6 w6 b7 w7 b8 w8 b9 w9 X2 X3 X4 X5 X6 k f8 f9)) (k0_off51_inb k))) :: (sl.H8_2 c i b2 w2 b3 w3 b4 w4 b5 w5 b6 w6 b7 w7 b8 w8 b9 w9 X2 X3 X4 X5 X6 k f8 f9) := by
  unfold sl.H8_3 sl.r_87 sl.r_93 sl.r_77 sl.r_82
  rw [r_46, r_47]
  generalize oddO (F := F) .. = O
  rfl

theorem H9_3 : (sl.H9_3 c i b2 w2 b3 w3 b4 w4 b5 w5 b6 w6 b7 w7 b8 w8 b9 w9 X2 X3 X4 X5 X6 k f8 f9) =
    stored (k0_off51_inb k) (goVal false (Odd1 b2 b5 b6 X2 X5 X6 k) (tile b3 X3 (k0_off48_inb k)) (snd (oddO c i b2 w2 b3 w3 b4 w4 b5 w5 b6 w6 b7 w7 b8 w8 b9 w9 X2 X3 X4 X5 X6 k f8 f9).1) (held b9 (b9.view.writes (Elt F) f9 (sl.H9_2 c i b2 w2 b3 w3 b4 w4 b5 w5 b6 w6 b7 w7 b8 w8 b9 w9 X2 X3 X4 X5 X6 k f8 f9)) (k0_off51_inb k))) :: (sl.H9_2 c i b2 w2 b3 w3 b4 w4 b5 w5 b6 w6 b7 w7 b8 w8 b9 w9 X2 X3 X4 X5 X6 k f8 f9) := by
  unfold sl.H9_3 sl.r_76
  rw [r_46]
  generalize oddO (F := F) .. = O
  rfl

theorem r_91 : sl.r_91 c i b2 w2 b3 w3 b4 w4 b5 w5 b6 w6 b7 w7 b8 w8 b9 w9 X2 X3 X4 X5 X6 k f8 f9 =
    (go true (Odd0 b2 b5 b6 X2 X5 X6 k) (tile b3 X3 (k0_off27_inb k)) (tile b4 X4 (k0_off27_inb k)) (go false (Odd0 b2 b5 b6 X2 X5 X6 k) (tile b3 X3 (k0_off47_inb k)) (tile b4 X4 (k0_off47_inb k)) (fst (oddO c i b2 w2 b3 w3 b4 w4 b5 w5 b6 w6 b7 w7 b8 w8 b9 w9 X2 X3 X4 X5 X6 k f8 f9).1))).2.2 := by
  unfold sl.r_91 sl.r_86 sl.r_89 sl.r_80 sl.r_84 sl.r_85 sl.r_75 sl.r_81 sl.r_73 sl.r_72
  rw [r_43, r_44, r_45]
  generalize oddO (F := F) .. = O
  rfl

theorem r_94 : sl.r_94 c i b2 w2 b3 w3 b4 w4 b5 w5 b6 w6 b7 w7 b8 w8 b9 w9 X2 X3 X4 X5 X6 k f8 f9 =
    (go true (Odd1 b2 b5 b6 X2 X5 X6 k) (tile b3 X3 (k0_off29_inb k)) (tile b4 X4 (k0_off29_inb k)) (go false (Odd1 b2 b5 b6 X2 X5 X6 k) (tile b3 X3 (k0_off48_inb k)) (tile b4 X4 (k0_off48_inb k)) (snd (oddO c i b2 w2 b3 w3 b4 w4 b5 w5 b6 w6 b7 w7 b8 w8 b9 w9 X2 X3 X4 X5 X6 k f8 f9).1))).2.2 := by
  unfold sl.r_94 sl.r_88 sl.r_92 sl.r_87 sl.r_77 sl.r_79 sl.r_82 sl.r_83
  rw [r_46, r_47, r_48]
  generalize oddO (F := F) .. = O
  rfl

/-- A trip over a pair of blocks of queries. -/
theorem trip_fst (f7 : BufTy.Contents (Elt F) b7.view.ty) (f8 : BufTy.Contents (Elt F) b8.view.ty) (f9 : BufTy.Contents (Elt F) b9.view.ty) :
    (SbBody.trip c i b2 w2 b3 w3 b4 w4 b5 w5 b6 w6 b7 w7 b8 w8 b9 w9 X2 X3 X4 X5 X6 k).1 f7 f8 f9 = b7.view.writes (Elt F) f7
        [⟨Rect.unit (s := S3x2048x128) (k0_off54 k) S1x256x64.size (k0_off54_inb k), scaled (go true (Odd1 b2 b5 b6 X2 X5 X6 k) (tile b3 X3 (k0_off29_inb k)) (tile b4 X4 (k0_off29_inb k)) (go false (Odd1 b2 b5 b6 X2 X5 X6 k) (tile b3 X3 (k0_off48_inb k)) (tile b4 X4 (k0_off48_inb k)) (snd (oddO c i b2 w2 b3 w3 b4 w4 b5 w5 b6 w6 b7 w7 b8 w8 b9 w9 X2 X3 X4 X5 X6 k f8 f9).1))).2.2⟩,
          ⟨Rect.unit (s := S3x2048x128) (k0_off53 k) S1x256x64.size (k0_off53_inb k), scaled (go true (Odd0 b2 b5 b6 X2 X5 X6 k) (tile b3 X3 (k0_off27_inb k)) (tile b4 X4 (k0_off27_inb k)) (go false (Odd0 b2 b5 b6 X2 X5 X6 k) (tile b3 X3 (k0_off47_inb k)) (tile b4 X4 (k0_off47_inb k)) (fst (oddO c i b2 w2 b3 w3 b4 w4 b5 w5 b6 w6 b7 w7 b8 w8 b9 w9 X2 X3 X4 X5 X6 k f8 f9).1))).2.2⟩,
          ⟨Rect.unit (s := S3x2048x128) (k0_off25 k) S1x256x64.size (k0_off25_inb k), scaled (go true (Even1 b2 b5 b6 X2 X5 X6 k) (tile b3 X3 (k0_off4_inb k)) (tile b4 X4 (k0_off4_inb k)) (snd (evenE c i b2 w2 b3 w3 b4 w4 b5 w5 b6 w6 b7 w7 b8 w8 b9 w9 X2 X3 X4 X5 X6 k f8 f9).1)).2.2⟩,
          ⟨Rect.unit (s := S3x2048x128) (k0_off24 k) S1x256x64.size (k0_off24_inb k), scaled (go true (Even0 b2 b5 b6 X2 X5 X6 k) (tile b3 X3 (k0_off2_inb k)) (tile b4 X4 (k0_off2_inb k)) (fst (evenE c i b2 w2 b3 w3 b4 w4 b5 w5 b6 w6 b7 w7 b8 w8 b9 w9 X2 X3 X4 X5 X6 k f8 f9).1)).2.2⟩] := by
  rw [← r_31, ← r_30, ← r_91, ← r_94]
  unfold SbBody.trip
  rfl

theorem trip_snd : (SbBody.trip c i b2 w2 b3 w3 b4 w4 b5 w5 b6 w6 b7 w7 b8 w8 b9 w9 X2 X3 X4 X5 X6 k).2.1 f8 f9 = b8.view.writes (Elt F) f8
    (stored (k0_off52_inb k) (goKey true (Odd1 b2 b5 b6 X2 X5 X6 k) (tile b3 X3 (k0_off29_inb k)) (tile b4 X4 (k0_off29_inb k)) (go false (Odd1 b2 b5 b6 X2 X5 X6 k) (tile b3 X3 (k0_off48_inb k)) (tile b4 X4 (k0_off48_inb k)) (snd (oddO c i b2 w2 b3 w3 b4 w4 b5 w5 b6 w6 b7 w7 b8 w8 b9 w9 X2 X3 X4 X5 X6 k f8 f9).1)) (held b8 (b8.view.writes (Elt F) f8 (sl.H8_3 c i b2 w2 b3 w3 b4 w4 b5 w5 b6 w6 b7 w7 b8 w8 b9 w9 X2 X3 X4 X5 X6 k f8 f9)) (k0_off52_inb k))) :: (sl.H8_3 c i b2 w2 b3 w3 b4 w4 b5 w5 b6 w6 b7 w7 b8 w8 b9 w9 X2 X3 X4 X5 X6 k f8 f9)) := by
  unfold SbBody.trip
  change b8.view.writes (Elt F) f8 (stored (k0_off52_inb k) (k0_pay346 (sl.r_40 b2 X2 k) _ (held b8 (b8.view.writes (Elt F) f8 (sl.H8_3 (F := F) ..)) (k0_off52_inb k))) :: (sl.H8_3 (F := F) ..)) = _
  unfold sl.r_88 sl.r_77 sl.r_79 sl.r_83
  rw [r_46, r_47]
  generalize oddO (F := F) .. = O
  rfl

theorem trip_thd : (SbBody.trip c i b2 w2 b3 w3 b4 w4 b5 w5 b6 w6 b7 w7 b8 w8 b9 w9 X2 X3 X4 X5 X6 k).2.2.1 f8 f9 = b9.view.writes (Elt F) f9
    (stored (k0_off52_inb k) (goVal true (Odd1 b2 b5 b6 X2 X5 X6 k) (tile b3 X3 (k0_off29_inb k)) (go false (Odd1 b2 b5 b6 X2 X5 X6 k) (tile b3 X3 (k0_off48_inb k)) (tile b4 X4 (k0_off48_inb k)) (snd (oddO c i b2 w2 b3 w3 b4 w4 b5 w5 b6 w6 b7 w7 b8 w8 b9 w9 X2 X3 X4 X5 X6 k f8 f9).1)) (held b9 (b9.view.writes (Elt F) f9 (sl.H9_3 c i b2 w2 b3 w3 b4 w4 b5 w5 b6 w6 b7 w7 b8 w8 b9 w9 X2 X3 X4 X5 X6 k f8 f9)) (k0_off52_inb k))) :: (sl.H9_3 c i b2 w2 b3 w3 b4 w4 b5 w5 b6 w6 b7 w7 b8 w8 b9 w9 X2 X3 X4 X5 X6 k f8 f9)) := by
  unfold SbBody.trip
  change b9.view.writes (Elt F) f9 (stored (k0_off52_inb k) (k0_pay347 (sl.r_41 b5 X5 k) _ (held b9 (b9.view.writes (Elt F) f9 (sl.H9_3 (F := F) ..)) (k0_off52_inb k))) :: (sl.H9_3 (F := F) ..)) = _
  unfold sl.r_78
  rw [r_46]
  generalize oddO (F := F) .. = O
  rfl
end Cert.SbTrace

end
end
-- ==== Proof.SbBlock.lean ====
module

public import proofs.«01_k».proof.Proof.SbChain
public import Idealize.ShloMosaic.Lib.WordCmp

/-!
# One block of queries against one block of keys, over the reals

With finite arguments, every vector of `SbChain` is the image of the real gradient's own partial sums.
-/

@[expose] public section

noncomputable section

namespace Cert.SbBlock

open Idealize.ShloMosaic Cert.SbBwdIdeal Cert.SbBwdIdeal.Gen Cert.SbChain Cert.SbReal Cert.Reals

/-- Every entry of the matrix is the image of a real. -/
abbrev Is2 {a b : ℕ} (x : (⟨2, ![a, b]⟩ : Shape).Idx → EReal) (f : Fin a → Fin b → ℝ) : Prop := ∀ r c, x (ix2 r c) = ((f r c : ℝ) : EReal)

variable {s x w o : FVec Ideal S256x64 .bf16} {S X W O : Fin 256 → Fin 64 → ℝ}

theorem score_is (hs : Is2 s S) (hx : Is2 x X) : Is2 (score s x) (fun r c => ∑ e, S r e * X c e) := fun r c => by
  pointwise [score]
  simp only [hs _ _, hx _ _, ← EReal.coe_mul, sum_coe]

theorem word_zero : Ideal.ofBits .f32 0x00000000#32 = ((0 : ℝ) : EReal) := by simp [Ideal.ofBits, Ideal.ieee]

theorem min_coe (a b : ℝ) : min (a : EReal) (b : EReal) = ((min a b : ℝ) : EReal) := by
  rcases le_total a b with h | h
  · rw [min_eq_left h, min_eq_left (EReal.coe_le_coe_iff.2 h)]
  · rw [min_eq_right h, min_eq_right (EReal.coe_le_coe_iff.2 h)]

theorem max_coe (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

theorem lb_is {Q : Fin 256 → Fin 256 → ℝ} (h : Is2 (score s x) Q) : Is2 (logb s x) (fun r c => lb (Q r c)) := fun r c => by
  pointwise [logb]
  simp only [h r c, Ideal.absf_def, ← EReal.coe_zero, ← EReal.coe_one, ← EReal.coe_neg, max_coe, min_coe, ← EReal.coe_sub, Ideal.exp_coe,
    ← EReal.coe_add]
  rw [Ideal.log_coe, if_neg (not_le.2 (by positivity)), ← EReal.coe_sub]
  rfl

theorem cmpi_slt_nat (a b : Fin 256) : IntOp.cmpi CmpIPredicate.slt (BitVec.ofNat 32 a.val) (BitVec.ofNat 32 b.val) = BitVec.ofBool (decide (a.val < b.val)) :=
  WordCmp.cmpi_slt_ofNat (by have := a.isLt; omega) (by have := b.isLt; omega)

theorem cmpi_sle_nat (a b : Fin 256) : IntOp.cmpi CmpIPredicate.sle (BitVec.ofNat 32 a.val) (BitVec.ofNat 32 b.val) = BitVec.ofBool (decide (a.val ≤ b.val)) :=
  WordCmp.cmpi_sle_ofNat (by have := a.isLt; omega) (by have := b.isLt; omega)

theorem mask_is {dg : Bool} {y : FVec Ideal S256x256 .f32} {Y G : Fin 256 → Fin 256 → ℝ} (h : Is2 y Y)
    (hG : ∀ r c, G r c = if dg = true ∧ r.val ≤ c.val then 0 else Y r c) : Is2 (mask dg y) G := fun r c => by
  cases dg
  · rw [hG]; simpa [mask] using h r c
  · rw [hG]
    pointwise [mask, causal]
    rw [cmpi_slt_nat, h r c]
    by_cases hc : c.val < r.val
    · simp [Scalar.select, hc, not_le.2 hc]
    · simp [Scalar.select, hc, not_lt.1 hc]

theorem sitofp_one : FloatOps.sitofp (F := Ideal) .f32 1#32 = ((1 : ℝ) : EReal) := by
  show ((((1#32 : BitVec 32).toInt : ℤ) : ℝ) : EReal) = _
  rw [show (1#32 : BitVec 32).toInt = 1 from by decide, Int.cast_one]

theorem sitofp_zero : FloatOps.sitofp (F := Ideal) .f32 0#32 = ((0 : ℝ) : EReal) := by
  show ((((0#32 : BitVec 32).toInt : ℤ) : ℝ) : EReal) = _
  rw [show (0#32 : BitVec 32).toInt = 0 from by decide, Int.cast_zero]

theorem tri_incl (j c : Fin 256) : k0_pay348 (F := Ideal) (ix2 j c) = (((if j.val ≤ c.val then 1 else 0 : ℝ)) : EReal) := by
  pointwise [k0_pay348]
  rw [cmpi_sle_nat]
  by_cases h : j.val ≤ c.val <;> simp [h, sitofp_one, sitofp_zero]

theorem tri_excl (j c : Fin 256) : k0_pay349 (F := Ideal) (ix2 j c) = (((if j.val < c.val then 1 else 0 : ℝ)) : EReal) := by
  pointwise [k0_pay349]
  rw [cmpi_slt_nat]
  by_cases h : j.val < c.val <;> simp [h, sitofp_one, sitofp_zero]

theorem cum_is {y : FVec Ideal S256x256 .f32} {t : FVec Ideal S256x256 .bf16} {Y T : Fin 256 → Fin 256 → ℝ} (h : Is2 y Y) (ht : Is2 t T) :
    Is2 (cum y t) (fun r c => ∑ j, Y r j * T j c) := fun r c => by
  pointwise [cum]
  simp only [h _ _, ht _ _, ← EReal.coe_sub, ← EReal.coe_mul, sum_coe, ← EReal.coe_add, sub_self, zero_mul, Finset.sum_const_zero, add_zero]

theorem rowsum_is {y : FVec Ideal S256x256 .f32} {Y : Fin 256 → Fin 256 → ℝ} (h : Is2 y Y) : Is2 (rowsum y) (fun r _ => ∑ c, Y r c) := fun r c => by
  obtain rfl : c = 0 := Subsingleton.elim _ _
  pointwise [rowsum]
  simp only [h _ _, sum_coe]

/-- A state's entries are the partial sums over the keys before `C`, of the rows from `R` on. -/
structure Sums (q k v d : ℕ → Fin 64 → ℝ) (R C : ℕ) (st : State Ideal) : Prop where
  ln : Is2 st.1 fun r _ => ∑ l ∈ Finset.range C, L q k (R + r.val) l
  ld : Is2 st.2.1 fun r _ => ∑ l ∈ Finset.range C, P q k v d (R + r.val) l
  dq : Is2 st.2.2 fun r e => ∑ l ∈ Finset.range C, Z q k v d (R + r.val) l * k l e

variable {q k v d : ℕ → Fin 64 → ℝ} {R C : ℕ} {dg : Bool}

/-- The block of keys at `C` lies on the diagonal of the block of queries at `R`, or before it. -/
def Placed (dg : Bool) (R C : ℕ) : Prop := if dg = true then C = R else C + 256 ≤ R

theorem Placed.lt_iff (h : Placed dg R C) (r c : Fin 256) : C + c.val < R + r.val ↔ ¬ (dg = true ∧ r.val ≤ c.val) := by
  have := r.isLt; have := c.isLt
  unfold Placed at h
  cases dg <;> simp at h ⊢ <;> omega

variable {st : State Ideal} {nt : FVec Ideal S256x1 .f32}
  (hp : Placed dg R C) (hs : Is2 s fun r e => q (R + r.val) e * (1 / 8)) (ho : Is2 o fun r e => d (R + r.val) e)
  (hn : Is2 nt fun r _ => N q k (R + r.val)) (hx : Is2 x fun c e => k (C + c.val) e) (hw : Is2 w fun c e => v (C + c.val) e)
  (hst : Sums q k v d R C st)
include hp hs hx

theorem log1_is : Is2 (log1 dg s x) fun r c => L q k (R + r.val) (C + c.val) := by
  refine mask_is (Y := fun r c => l1 (z q k (R + r.val) (C + c.val))) (fun r c => ?_) fun r c => ?_
  · have h := score_is hs hx
    pointwise []
    rw [lb_is h r c, h r c, ← EReal.coe_sub]; rfl
  · rw [L]; have := hp.lt_iff r c
    by_cases h : dg = true ∧ r.val ≤ c.val
    · rw [if_neg fun hl => this.1 hl h, if_pos h]
    · rw [if_pos (this.2 h), if_neg h]

omit hp in
theorem logb_is : Is2 (logb s x) fun r c => lb (z q k (R + r.val) (C + c.val)) := lb_is (score_is hs hx)

include hn in
theorem weight_is (hl : Is2 st.1 fun r _ => ∑ l ∈ Finset.range C, L q k (R + r.val) l) :
    Is2 (weight dg s x nt st.1) fun r c => A q k (R + r.val) (C + c.val) := by
  refine mask_is (Y := fun r c => Real.exp (lb (z q k (R + r.val) (C + c.val)) +
    (N q k (R + r.val) - ∑ l ∈ Finset.range (C + c.val + 1), L q k (R + r.val) l))) (fun r c => ?_) fun r c => ?_
  · pointwise []
    rw [logb_is hs hx r c, hn r 0, hl r 0, cum_is (log1_is hp hs hx) tri_incl r c, ← EReal.coe_sub, ← EReal.coe_add, ← EReal.coe_sub,
      Ideal.exp_coe, add_assoc C, range_add_lt _ C 256 (c.val + 1) (by omega)]
    congr 2
    simp only [mul_ite, mul_one, mul_zero, Nat.lt_succ_iff]
    ring
  · rw [A]; have := hp.lt_iff r c
    by_cases h : dg = true ∧ r.val ≤ c.val
    · rw [if_neg fun hl => this.1 hl h, if_pos h]
    · rw [if_pos (this.2 h), if_neg h]

include hn hw ho in
theorem grad_is (hl : Is2 st.1 fun r _ => ∑ l ∈ Finset.range C, L q k (R + r.val) l) :
    Is2 (grad dg s x w o nt st.1) fun r c => P q k v d (R + r.val) (C + c.val) := fun r c => by
  pointwise [grad]
  rw [weight_is hp hs hn hx hl r c, score_is ho hw r c, ← EReal.coe_mul]; rfl

include hn hw ho hst in
theorem dscore_is : Is2 (dscore dg s x w o nt st.1 st.2.1) fun r c => Z q k v d (R + r.val) (C + c.val) := by
  have hg := grad_is hp hs ho hn hx hw hst.ln
  refine mask_is (Y := fun r c => P q k v d (R + r.val) (C + c.val) * Real.exp (L q k (R + r.val) (C + c.val)) -
    (∑ l ∈ Finset.range (C + c.val), P q k v d (R + r.val) l) * Real.exp (lb (z q k (R + r.val) (C + c.val)))) (fun r c => ?_) fun r c => ?_
  · pointwise []
    rw [logb_is hs hx r c, log1_is hp hs hx r c, hst.ld r 0, hg r c, cum_is hg tri_excl r c, ← EReal.coe_add, Ideal.exp_coe, Ideal.exp_coe,
      ← EReal.coe_mul, ← EReal.coe_mul, ← EReal.coe_sub, range_add_lt _ C 256 c.val (by omega)]
    simp only [mul_ite, mul_one, mul_zero]
  · rw [Z]; have := hp.lt_iff r c
    by_cases h : dg = true ∧ r.val ≤ c.val
    · rw [if_neg fun hl => this.1 hl h, if_pos h]
    · rw [if_pos (this.2 h), if_neg h, L, if_pos (this.2 h)]

include hn hw ho hst in
theorem next_sums : Sums q k v d R (C + 256) (next dg s o nt x w st) where
  ln := fun r c => by
    obtain rfl : c = 0 := Subsingleton.elim _ _
    pointwise [next, lnNext]
    rw [rowsum_is (log1_is hp hs hx) r 0, hst.ln r 0, ← EReal.coe_add, range_add]
  ld := fun r c => by
    obtain rfl : c = 0 := Subsingleton.elim _ _
    pointwise [next, ldNext]
    rw [rowsum_is (grad_is hp hs ho hn hx hw hst.ln) r 0, hst.ld r 0, ← EReal.coe_add, range_add]
  dq := fun r e => by
    have hz := dscore_is hp hs ho hn hx hw hst
    pointwise [next, dqNext]
    simp only [hst.dq r e, hz _ _, hx _ _, ← EReal.coe_mul, sum_coe, ← EReal.coe_add, range_add]

omit hp hs hx in
/-- One more block of queries in an accumulator. -/
theorem accNext_is {t : FVec Ideal S64x256 .bf16} {T : Fin 64 → Fin 256 → ℝ} {dz : FVec Ideal S256x256 .bf16} {D : Fin 256 → Fin 256 → ℝ}
    {old : FVec Ideal S1x64x256 .f32} {G : Fin 64 → Fin 256 → ℝ} (ht : Is2 t T) (hd : Is2 dz D)
    (hG : ∀ (e : Fin 64) (c : Fin 256), old (ix3 0 e c) = ((G e c : ℝ) : EReal)) (e : Fin 64) (c : Fin 256) :
    accNext t dz old (ix3 0 e c) = ((G e c + ∑ r, T e r * D r c : ℝ) : EReal) := by
  pointwise [accNext]
  simp only [hG, ht _ _, hd _ _, ← EReal.coe_mul, sum_coe, ← EReal.coe_add]

end Cert.SbBlock

end
-- ==== Proof.SbAcc.lean ====
module

public import proofs.«01_k».proof.Proof.SbTrace
public import proofs.«01_k».proof.Proof.SbBlock

/-!
# The blocks read and the two accumulators, over the reals

A block of rows holds two heads side by side; an accumulator holds, for every head and key, the sum over the queries
already seen. One store adds one block of queries.
-/

@[expose] public section

noncomputable section

namespace Cert.SbAcc

open Idealize.ShloMosaic Idealize.ShloMosaic.TcCoe Cert.SbBwdIdeal Cert.SbBwdIdeal.Gen
open Cert.SbStep Cert.SbChain Cert.SbReal Cert.SbBlock

/-- Two heads' rows side by side. -/
def beside (f : ℕ → ℕ → Fin 64 → ℝ) : S2048x128.Idx → EReal := fun i =>
  ((f ((i 1).val / 64) (i 0).val ⟨(i 1).val % 64, Nat.mod_lt _ (by decide)⟩ : ℝ) : EReal)

theorem beside_at (f : ℕ → ℕ → Fin 64 → ℝ) (i : S2048x128.Idx) (h r : ℕ) (e : Fin 64) (h0 : (i 0).val = r) (h1 : (i 1).val = 64 * h + e.val) :
    beside f i = ((f h r e : ℝ) : EReal) := by
  have e1 : (i 1).val / 64 = h := by have := e.isLt; omega
  have e2 : (⟨(i 1).val % 64, Nat.mod_lt _ (by decide)⟩ : Fin 64) = e := Fin.ext (by have := e.isLt; simp only; omega)
  unfold beside
  rw [e1, e2, h0]

variable {f : ℕ → ℕ → Fin 64 → ℝ} {R h : ℕ}

theorem tile_is (m : Memref sig .tc .vmem S2048x128 .bf16) (X : BufTy.Contents (Elt Ideal) m.view.ty) (hX : m.view.read (Elt Ideal) X = beside f)
    {o : Fin 2 → Nat} (inb : ∀ a, o a + S256x64.size a ≤ S2048x128.size a) (ho : o = ![R, 64 * h]) :
    Is2 (tile m X inb) fun r e => f h (R + r.val) e := fun r e => by
  subst ho
  show m.view.read (Elt Ideal) X _ = _
  rw [hX]
  exact beside_at _ _ _ _ _ (by show R + 1 * r.val = _; omega) (by show 64 * h + 1 * e.val = _; omega)

theorem column_is (m : Memref sig .tc .vmem S2048x128 .f32) (X : BufTy.Contents (Elt Ideal) m.view.ty) (hX : m.view.read (Elt Ideal) X = beside f)
    {o : Fin 2 → Nat} (inb : ∀ a, o a + S256x1.size a ≤ S2048x128.size a) (ho : o = ![R, 64 * h]) :
    Is2 (column m X inb) fun r _ => f h (R + r.val) 0 := fun r e => by
  subst ho
  show m.view.read (Elt Ideal) X _ = _
  rw [hX]
  exact beside_at _ _ _ _ _ (by show R + 1 * r.val = _; omega) (by show 64 * h + 1 * e.val = _; have := e.isLt; show _ = 64 * h + 0; omega)

theorem wide_is (m : Memref sig .tc .vmem S2048x128 .bf16) (X : BufTy.Contents (Elt Ideal) m.view.ty) (hX : m.view.read (Elt Ideal) X = beside f)
    {o : Fin 2 → Nat} (inb : ∀ a, o a + S256x128.size a ≤ S2048x128.size a) (ho : o = ![R, 0]) (r : Fin 256) (e : Fin 64) (c : Fin 128)
    (hc : c.val = 64 * h + e.val) : wide m X inb (ix2 r c) = ((f h (R + r.val) e : ℝ) : EReal) := by
  subst ho
  show m.view.read (Elt Ideal) X _ = _
  rw [hX]
  exact beside_at _ _ _ _ _ (by show R + 1 * r.val = _; omega) (by show 0 + 1 * c.val = _; omega)

/-- A block of queries holds the rows from `R` on of one head. -/
structure SideIs (q k d : ℕ → Fin 64 → ℝ) (R : ℕ) (Q : Side Ideal) : Prop where
  s : Is2 Q.s fun r e => q (R + r.val) e * (1 / 8)
  o : Is2 Q.o fun r e => d (R + r.val) e
  t : Is2 Q.t fun e r => q (R + r.val) e * (1 / 8)
  e : Is2 Q.e fun e r => d (R + r.val) e
  n : Is2 Q.n fun r _ => N q k (R + r.val)

/-- The word of an eighth. -/
theorem word_eighth : Ideal.ofBits .bf16 0x3E00#16 = ((1 / 8 : ℝ) : EReal) := by
  simp [Ideal.ofBits, Ideal.ieee, -EReal.coe_mul] <;> norm_num

theorem word_eighth32 : Ideal.ofBits .f32 0x3E000000#32 = ((1 / 8 : ℝ) : EReal) := by
  simp [Ideal.ofBits, Ideal.ieee, -EReal.coe_mul] <;> norm_num

/-- What an accumulator holds when the head `h` and the block of keys `kb` have seen `lim kb h` blocks of queries. -/
def acc (g : ℕ → ℕ → Fin 64 → ℕ → ℝ) (lim : ℕ → ℕ → ℕ) : S8x128x256.Idx → EReal := fun i =>
  ((∑ r ∈ Finset.range (256 * lim (i 0).val ((i 1).val / 64)),
    g ((i 1).val / 64) r ⟨(i 1).val % 64, Nat.mod_lt _ (by decide)⟩ (256 * (i 0).val + (i 2).val) : ℝ) : EReal)

/-- One more count. -/
def bump (lim : ℕ → ℕ → ℕ) (kb h n : ℕ) : ℕ → ℕ → ℕ := fun a b => if a = kb ∧ b = h then n else lim a b

variable {g : ℕ → ℕ → Fin 64 → ℕ → ℝ} {lim : ℕ → ℕ → ℕ} {kb n : ℕ}

theorem acc_at (i : S8x128x256.Idx) (e : Fin 64) (c : ℕ) (h0 : (i 0).val = kb) (h1 : (i 1).val = 64 * h + e.val) (h2 : (i 2).val = c) :
    acc g lim i = ((∑ r ∈ Finset.range (256 * lim kb h), g h r e (256 * kb + c) : ℝ) : EReal) := by
  have e1 : (i 1).val / 64 = h := by have := e.isLt; omega
  have e2 : (⟨(i 1).val % 64, Nat.mod_lt _ (by decide)⟩ : Fin 64) = e := Fin.ext (by have := e.isLt; simp only; omega)
  unfold acc
  rw [e1, e2, h0, h2]

/-- Counts may differ where the sums do not. -/
theorem acc_congr {lim' : ℕ → ℕ → ℕ} (hl : ∀ kb h e c, kb < 8 → h < 2 → c < 256 →
    ∑ r ∈ Finset.range (256 * lim kb h), g h r e (256 * kb + c) = ∑ r ∈ Finset.range (256 * lim' kb h), g h r e (256 * kb + c)) :
    acc g lim = acc g lim' := funext fun i => by
  have h1 : (i 1).val < 128 := (i 1).isLt
  exact congrArg _ (hl _ _ _ _ (i 0).isLt (by omega) (i 2).isLt)

theorem held_is (m : Memref sig .tc .vmem S8x128x256 .f32) (f : BufTy.Contents (Elt Ideal) m.view.ty) (hf : m.view.read (Elt Ideal) f = acc g lim)
    {o : Fin 3 → Nat} (inb : ∀ a, o a + S1x64x256.size a ≤ S8x128x256.size a) (ho : o = ![kb, 64 * h, 0]) (e : Fin 64) (c : Fin 256) :
    held m f inb (ix3 0 e c) = ((∑ r ∈ Finset.range (256 * lim kb h), g h r e (256 * kb + c.val) : ℝ) : EReal) := by
  subst ho
  show m.view.read (Elt Ideal) f _ = _
  rw [hf]
  exact acc_at _ _ _ (by show kb + 1 * 0 = _; omega) (by show 64 * h + 1 * e.val = _; omega) (by show 0 + 1 * c.val = _; omega)

theorem stored_is (m : Memref sig .tc .vmem S8x128x256 .f32) (f : BufTy.Contents (Elt Ideal) m.view.ty) (L : List (View.Piece (Elt Ideal) S8x128x256 .f32))
    (hf : m.view.read (Elt Ideal) (m.view.writes (Elt Ideal) f L) = acc g lim)
    {o : Fin 3 → Nat} (inb : ∀ a, o a + S1x64x256.size a ≤ S8x128x256.size a) (ho : o = ![kb, 64 * h, 0]) (w : FVec Ideal S1x64x256 .f32)
    (hw : ∀ (e : Fin 64) (c : Fin 256), w (ix3 0 e c) = ((∑ r ∈ Finset.range (256 * n), g h r e (256 * kb + c.val) : ℝ) : EReal)) :
    m.view.read (Elt Ideal) (m.view.writes (Elt Ideal) f (stored inb w :: L)) = acc g (bump lim kb h n) := by
  rw [View.read_writes_cons_put m.view f inb w L ho, hf]
  funext i
  have h1 : (i 1).val < 128 := (i 1).isLt
  have h2 : (i 2).val < 256 := (i 2).isLt
  unfold VecWindow.put
  split
  next hi =>
    have a0 : kb ≤ (i 0).val ∧ (i 0).val < kb + 1 := hi 0
    have a1 : 64 * h ≤ (i 1).val ∧ (i 1).val < 64 * h + 64 := hi 1
    rw [acc_at (kb := kb) (h := h) i ⟨(i 1).val - 64 * h, by omega⟩ (i 2).val (by omega) (by simp only; omega) rfl, bump, if_pos ⟨rfl, rfl⟩]
    refine Eq.trans (congrArg w ?_) (hw ⟨(i 1).val - 64 * h, by omega⟩ ⟨(i 2).val, h2⟩)
    refine funext fun a => Fin.ext ?_
    match a with
    | 0 => show (i 0).val - kb = 0; omega
    | 1 => rfl
    | 2 => rfl
  next hi =>
    have : bump lim kb h n (i 0).val ((i 1).val / 64) = lim (i 0).val ((i 1).val / 64) := if_neg fun hh => hi fun a => by
      match a with
      | 0 => show kb ≤ (i 0).val ∧ (i 0).val < kb + 1; omega
      | 1 => show 64 * h ≤ (i 1).val ∧ (i 1).val < 64 * h + 64; omega
      | 2 => show 0 ≤ (i 2).val ∧ (i 2).val < 0 + 256; omega
    unfold acc
    rw [this]

/-- What a query adds to a key's gradient, and to a value's. -/
def keyTerm (q k v d : ℕ → ℕ → Fin 64 → ℝ) (h r : ℕ) (e : Fin 64) (j : ℕ) : ℝ := q h r e * (1 / 8) * Z (q h) (k h) (v h) (d h) r j
def valTerm (q k d : ℕ → ℕ → Fin 64 → ℝ) (h r : ℕ) (e : Fin 64) (j : ℕ) : ℝ := d h r e * A (q h) (k h) r j

variable {q k v d : ℕ → ℕ → Fin 64 → ℝ} {Q : Side Ideal} {dg : Bool} {x w : FVec Ideal S256x64 .bf16} {st : State Ideal}

section

variable (hQ : SideIs (q h) (k h) (d h) (256 * n) Q) (hp : Placed dg (256 * n) (256 * kb)) (hx : Is2 x fun c e => k h (256 * kb + c.val) e)
  (hw : Is2 w fun c e => v h (256 * kb + c.val) e) (hst : Sums (q h) (k h) (v h) (d h) (256 * n) (256 * kb) st)
  (m : Memref sig .tc .vmem S8x128x256 .f32) (f' f : BufTy.Contents (Elt Ideal) m.view.ty) (L : List (View.Piece (Elt Ideal) S8x128x256 .f32))
  {lim' : ℕ → ℕ → ℕ} {o : Fin 3 → Nat} (inb : ∀ a, o a + S1x64x256.size a ≤ S8x128x256.size a) (ho : o = ![kb, 64 * h, 0]) (hl : lim' kb h = n)
include hQ hp hx hst

include hw in
theorem go_is : Sums (q h) (k h) (v h) (d h) (256 * n) (256 * (kb + 1)) (go dg Q x w st) :=
  next_sums hp hQ.s hQ.o hQ.n hx hw hst

include hw ho hl in
/-- A store of a key's gradient adds its block of queries. -/
theorem key_is (hf' : m.view.read (Elt Ideal) f' = acc (keyTerm q k v d) lim')
    (hf : m.view.read (Elt Ideal) (m.view.writes (Elt Ideal) f L) = acc (keyTerm q k v d) lim) :
    m.view.read (Elt Ideal) (m.view.writes (Elt Ideal) f (stored inb (goKey dg Q x w st (held m f' inb)) :: L)) =
      acc (keyTerm q k v d) (bump lim kb h (n + 1)) := by
  refine stored_is m f L hf inb ho _ fun e c => ?_
  have := accNext_is hQ.t (dscore_is hp hQ.s hQ.o hQ.n hx hw hst) (held_is m f' hf' inb ho) e c
  rw [hl] at this
  refine this.trans ?_
  rw [Nat.mul_succ, range_add]
  rfl

include ho hl in
/-- A store of a value's gradient adds its block of queries. -/
theorem val_is (hf' : m.view.read (Elt Ideal) f' = acc (valTerm q k d) lim')
    (hf : m.view.read (Elt Ideal) (m.view.writes (Elt Ideal) f L) = acc (valTerm q k d) lim) :
    m.view.read (Elt Ideal) (m.view.writes (Elt Ideal) f (stored inb (goVal dg Q x st (held m f' inb)) :: L)) =
      acc (valTerm q k d) (bump lim kb h (n + 1)) := by
  refine stored_is m f L hf inb ho _ fun e c => ?_
  have := accNext_is hQ.e (weight_is (st := st) hp hQ.s hQ.n hx hst.ln) (held_is m f' hf' inb ho) e c
  rw [hl] at this
  refine this.trans ?_
  rw [Nat.mul_succ, range_add]
  rfl

end

end Cert.SbAcc

end
-- ==== Proof.SbRef.lean ====
module

public import proofs.«01_k».proof.Proof.SbData
public import proofs.«01_k».proof.Proof.SbWindow
public import proofs.«01_k».proof.Proof.NormRef
public import proofs.«01_k».proof.Proof.SbAcc
public import proofs.«01_k».proof.Proof.Gen.SbGradIdeal.Read

/-!
# What the stick-breaking attention's reference gradient computes
-/

@[expose] public section

noncomputable section

namespace Cert.SbRef

open Idealize.ShloMosaic Cert.Reals Cert.SbReal Cert.SbData Cert.SbGradIdeal Cert.SbGradIdeal.Read
open Cert.NormRef (up)

/-- The softplus, as the host spells it. -/
def sp (a : ℝ) : ℝ := max a 0 + Real.log (1 + Real.exp (0 - |a|))

theorem coe_max (a b : ℝ) : ((max a b : ℝ) : EReal) = max (a : EReal) (b : EReal) := EReal.coe_strictMono.monotone.map_max

theorem soft (a : ℝ) : max (a : EReal) 0 + Ideal.log1p (Ideal.exp (-FloatOps.absf (F := Ideal) (φ := .f32) (a : EReal))) = (sp a : EReal) := by
  have h : ¬ (1 + Real.exp (-|a|) ≤ 0) := not_le.2 (by positivity)
  rw [Ideal.absf_def, Ideal.log1p, ← EReal.coe_zero, ← EReal.coe_one]
  rw [show (max (a : EReal) (-(a : EReal))) = ((|a| : ℝ) : EReal) by rw [← EReal.coe_neg]; exact (coe_max _ _).symm]
  rw [← EReal.coe_neg, Ideal.exp_coe, ← EReal.coe_add, Ideal.log_coe, if_neg h, ← coe_max, ← EReal.coe_add, sp, zero_sub]

theorem sp_neg (a : ℝ) : -sp (-a) = lb a := by
  rw [sp, lb, abs_neg, neg_add', ← min_neg_neg, neg_neg, neg_zero]

theorem neg_sp (a : ℝ) : -sp a = l1 a := by
  have := min_add_max a 0
  rw [sp, l1, lb]; linarith

/-- The mask: the key before the query. -/
theorem mask (i j : Fin 2048) : IntOp.cmpi CmpIPredicate.slt (BitVec.ofNat 32 j.val) (BitVec.ofNat 32 i.val) = BitVec.ofBool (decide (j.val < i.val)) :=
  WordCmp.cmpi_slt_ofNat (by have := i.isLt; omega) (by have := j.isLt; omega)

theorem v18 (i j : Fin 2048) : val_main_v18 (F := Ideal) (ix2 i j) = BitVec.ofBool (decide (j.val < i.val)) := by
  pointwise [val_main_v18, val_main_v16, val_main_v17, val_main_v15, val_main_v14, val_main_v13, val_main_v12]
  exact mask i j

section Parts

variable (x : S4096x3072.Idx → ℝ) (y : S4096x1024.Idx → ℝ) (b : Fin 2) (i : Fin 2048) (h : Fin 16) (e : Fin 64)

theorem v2 : val_main_v2 (F := Ideal) (up x) (ix4 b i h e) = (part x 0 b h i e : EReal) := by
  rw [val_main_v2_apply, val_main_v1_apply, val_main_v0_apply]
  refine congrArg ((↑) : ℝ → EReal) (cell_eq x _ _ _ ?_ ?_)
  · show ((((b.val * 2048 + i.val) * 16 + h.val) * 64 + e.val) / 1024) = _; omega
  · show ((((b.val * 2048 + i.val) * 16 + h.val) * 64 + e.val) % 1024) = _; omega

theorem v5 : val_main_v5 (F := Ideal) (up x) (ix4 b i h e) = (part x 1 b h i e : EReal) := by
  rw [val_main_v5_apply, val_main_v4_apply, val_main_v3_apply]
  refine congrArg ((↑) : ℝ → EReal) (cell_eq x _ _ _ ?_ ?_)
  · show ((((b.val * 2048 + i.val) * 16 + h.val) * 64 + e.val) / 1024) = _; omega
  · show 1024 + ((((b.val * 2048 + i.val) * 16 + h.val) * 64 + e.val) % 1024) = _; omega

theorem v8 : val_main_v8 (F := Ideal) (up x) (ix4 b i h e) = (part x 2 b h i e : EReal) := by
  rw [val_main_v8_apply, val_main_v7_apply, val_main_v6_apply]
  refine congrArg ((↑) : ℝ → EReal) (cell_eq x _ _ _ ?_ ?_)
  · show ((((b.val * 2048 + i.val) * 16 + h.val) * 64 + e.val) / 1024) = _; omega
  · show 2048 + ((((b.val * 2048 + i.val) * 16 + h.val) * 64 + e.val) % 1024) = _; omega

theorem v32 : val_main_v32 (F := Ideal) (up y) (ix4 b h e i) = (part y 0 b h i e : EReal) := by
  rw [val_main_v32_apply, val_main_v31_apply, val_main_v30_apply]
  refine congrArg ((↑) : ℝ → EReal) (cell_eq y _ _ _ ?_ ?_)
  · show ((((b.val * 2048 + i.val) * 16 + h.val) * 64 + e.val) / 1024) = _; omega
  · show ((((b.val * 2048 + i.val) * 16 + h.val) * 64 + e.val) % 1024) = _; omega

end Parts

variable (x : S4096x3072.Idx → ℝ) (y : S4096x1024.Idx → ℝ) (b : Fin 2) (h : Fin 16) (i j : Fin 2048)

theorem v11 : val_main_v11 (F := Ideal) (up x) (ix4 b h i j) = (z (part x 0 b h) (part x 1 b h) i j : EReal) := by
  pointwise [val_main_v11, val_main_v10, val_main_cst, val_main_v9]
  simp only [v2, v5, ← EReal.coe_mul, sum_coe, Cert.SbAcc.word_eighth32]
  rw [z, Finset.sum_mul]
  simp only [mul_right_comm]

theorem low : val_main_call0_v1_0 (F := Ideal) (up x) (ix4 b h i j) = (sp (-z (part x 0 b h) (part x 1 b h) i j) : EReal) := by
  pointwise [val_main_call0_v1_0, val_main_call0_call0_v4, val_main_call0_call0_v6, val_main_call0_call0_v5, val_main_call0_call0_v3, val_main_call0_call0_v2, val_main_call0_call0_v1, val_main_call0_call0_v0, val_main_call0_call0_v7, val_main_call0_call0_v8, val_main_call0_call0_v9, val_main_call0_call0_v10, val_main_call0_call0_v11, val_main_call0_call0_cst, val_main_call0_v0]
  simp only [v11, ← EReal.coe_neg, ne_eq, not_true_eq_false, if_false, soft]

theorem high : val_main_call2_v1_0 (F := Ideal) (up x) (ix4 b h i j) = (sp (z (part x 0 b h) (part x 1 b h) i j) : EReal) := by
  pointwise [val_main_call2_v1_0, val_main_call2_call0_v4, val_main_call2_call0_v6, val_main_call2_call0_v5, val_main_call2_call0_v3, val_main_call2_call0_v2, val_main_call2_call0_v1, val_main_call2_call0_v0, val_main_call2_call0_v7, val_main_call2_call0_v8, val_main_call2_call0_v9, val_main_call2_call0_v10, val_main_call2_call0_v11, val_main_call2_call0_cst, val_main_call2_v0, val_main_v21]
  simp only [v11, ← EReal.coe_neg, neg_neg, ne_eq, not_true_eq_false, if_false, soft]

theorem v19_0 : val_main_v19_0 (F := Ideal) (up x) (ix4 b h i j) = (lb (z (part x 0 b h) (part x 1 b h) i j) : EReal) := by
  pointwise [val_main_v19_0]
  rw [low, ← EReal.coe_neg, sp_neg]

theorem v22_0 : val_main_v22_0 (F := Ideal) (up x) (ix4 b h i j) = (l1 (z (part x 0 b h) (part x 1 b h) i j) : EReal) := by
  pointwise [val_main_v22_0]
  rw [high, ← EReal.coe_neg, neg_sp]

theorem v19_1 : val_main_v19_1 (F := Ideal) (up x) (ix4 b h i j) = (Real.exp (l1 (z (part x 0 b h) (part x 1 b h) i j)) : EReal) := by
  pointwise [val_main_v19_1, val_main_call0_call0_v21, val_main_call0_call0_v20, val_main_call0_call0_v19, val_main_call0_call0_v18, val_main_call0_call0_v17, val_main_call0_call0_v16, val_main_call0_call0_v15, val_main_call0_call0_v14, val_main_call0_call0_v13, val_main_call0_call0_cst_0, val_main_call0_call0_cst_1, val_main_call0_call0_cst_2, val_main_call0_call0_cst_3, val_main_call0_v0]
  rw [low, v11, word_top, ← EReal.coe_neg, if_neg (EReal.coe_ne_top _), if_neg (EReal.coe_ne_top _), ← EReal.coe_sub, Ideal.exp_coe]
  congr 2
  rw [sub_eq_add_neg, sp_neg, l1]; ring

theorem v22_1 : val_main_v22_1 (F := Ideal) (up x) (ix4 b h i j) = (Real.exp (lb (z (part x 0 b h) (part x 1 b h) i j)) : EReal) := by
  pointwise [val_main_v22_1, val_main_call2_call0_v21, val_main_call2_call0_v20, val_main_call2_call0_v19, val_main_call2_call0_v18, val_main_call2_call0_v17, val_main_call2_call0_v16, val_main_call2_call0_v15, val_main_call2_call0_v14, val_main_call2_call0_v13, val_main_call2_call0_cst_0, val_main_call2_call0_cst_1, val_main_call2_call0_cst_2, val_main_call2_call0_cst_3, val_main_call2_v0, val_main_v21]
  rw [high, v11, word_top, ← EReal.coe_neg, ← EReal.coe_neg, if_neg (EReal.coe_ne_top _), if_neg (EReal.coe_ne_top _), ← EReal.coe_sub, Ideal.exp_coe]
  congr 2
  rw [sub_eq_add_neg, neg_sp, l1]; ring

theorem word_bot : Ideal.ofBits .f32 0xFF800000#32 = ⊥ := by
  simp [Ideal.ofBits, Ideal.ieee, -EReal.coe_mul] <;> norm_num

theorem select_mask {α : Type} (a c : α) : Scalar.select (BitVec.ofBool (decide (j.val < i.val))) a c = if j.val < i.val then a else c := by
  by_cases hj : j.val < i.val <;> simp [Scalar.select, hj]

theorem v23_0 : val_main_v23_0 (F := Ideal) (up x) (ix4 b h i j) = (L (part x 0 b h) (part x 1 b h) i j : EReal) := by
  pointwise [val_main_v23_0, val_main_v23_1, val_main_call3_v2, val_main_call3_v0, val_main_cst_1]
  rw [v18, select_mask, v22_0, L]
  split_ifs
  · rfl
  · exact Ideal.ofBits_zero .f32

theorem v20_0 : val_main_v20_0 (F := Ideal) (up x) (ix4 b h i j) = if j.val < i.val then (lb (z (part x 0 b h) (part x 1 b h) i j) : EReal) else ⊥ := by
  pointwise [val_main_v20_0, val_main_v20_1, val_main_call1_v2, val_main_call1_v0, val_main_cst_0]
  rw [v18, select_mask, v19_0]
  refine congrArg (ite _ _) ?_
  exact word_bot

theorem v24 : val_main_v24 (F := Ideal) (up x) (ix4 b h i j)
    = ((∑ l ∈ Finset.range 2048, L (part x 0 b h) (part x 1 b h) i l - ∑ l ∈ Finset.range j, L (part x 0 b h) (part x 1 b h) i l : ℝ) : EReal) := by
  rw [← Cert.SbWindow.sum_from _ j (by omega)]
  refine Cert.SbWindow.from_here _ _ _ ?_ b h i _ (fun l => v23_0 x b h i l) _ j
  exact (val_main_call4_v0_apply _).trans (Ideal.ofBits_zero .f32)

theorem v27 : val_main_v27 (F := Ideal) (up x) (ix4 b h i j) = (A (part x 0 b h) (part x 1 b h) i j : EReal) := by
  pointwise [val_main_v27, val_main_v26, val_main_v25]
  rw [v24, v23_0, v20_0, A, N, Finset.sum_range_succ _ j.val, ← EReal.coe_sub]
  split_ifs
  · rw [← EReal.coe_add, Ideal.exp_coe, sub_sub]
  · rw [EReal.bot_add]; rfl

theorem v36 : val_main_v36 (F := Ideal) (up x) (up y) (ix4 b h i j) = (P (part x 0 b h) (part x 1 b h) (part x 2 b h) (part y 0 b h) i j : EReal) := by
  pointwise [val_main_v36, val_main_v33]
  simp only [v27, v32, v8, ← EReal.coe_mul, sum_coe]
  rw [P, mul_comm]

theorem v38 : val_main_v38 (F := Ideal) (up x) (up y) (ix4 b h i j)
    = ((∑ l ∈ Finset.range (j + 1), P (part x 0 b h) (part x 1 b h) (part x 2 b h) (part y 0 b h) i l : ℝ) : EReal) := by
  rw [← Cert.SbWindow.sum_up_to _ j j.isLt]
  refine Cert.SbWindow.up_to_here _ _ _ ?_ b h i _ (fun l => v36 x y b h i l) _ j
  exact (val_main_call5_v0_apply _).trans (Ideal.ofBits_zero .f32)

theorem v45 : val_main_v45 (F := Ideal) (up x) (up y) (ix4 b h i j) = (Z (part x 0 b h) (part x 1 b h) (part x 2 b h) (part y 0 b h) i j : EReal) := by
  pointwise [val_main_v45, val_main_v44, val_main_call9_v1, val_main_call9_v0, val_main_v43, val_main_call8_v0, val_main_call8_cst, val_main_v42, val_main_v41, val_main_call7_v1, val_main_call7_v0, val_main_v40, val_main_call6_v0, val_main_call6_cst, val_main_v23_1, val_main_v20_1, val_main_v39, val_main_v37]
  rw [v18, select_mask, select_mask, v38, v36, v22_1, v19_1, Finset.sum_range_succ, Z]
  split_ifs
  · simp only [← EReal.coe_neg, ← EReal.coe_add, ← EReal.coe_mul]
    congr 1; ring
  · simp

variable (e : Fin 64)

theorem v51 : val_main_v51 (F := Ideal) (up x) (up y) (ix4 b i h e) = (dq (part x 0 b h) (part x 1 b h) (part x 2 b h) (part y 0 b h) i e : EReal) := by
  pointwise [val_main_v51, val_main_v50, val_main_v47, val_main_v46, val_main_cst_2]
  simp only [v45, v5, Cert.SbAcc.word_eighth32, ← EReal.coe_mul, sum_coe]
  rw [dq, Finset.sum_range, Finset.sum_mul]
  simp only [mul_right_comm]

theorem v49 : val_main_v49 (F := Ideal) (up x) (up y) (ix4 b j h e) = (dk (part x 0 b h) (part x 1 b h) (part x 2 b h) (part y 0 b h) j e : EReal) := by
  pointwise [val_main_v49, val_main_v48, val_main_v47, val_main_v46, val_main_cst_2]
  simp only [v45, v2, Cert.SbAcc.word_eighth32, ← EReal.coe_mul, sum_coe]
  rw [dk, Finset.sum_range]
  congr 1; exact Finset.sum_congr rfl fun _ _ => by ring

theorem v35 : val_main_v35 (F := Ideal) (up x) (up y) (ix4 b j h e) = (dv (part x 0 b h) (part x 1 b h) (part y 0 b h) j e : EReal) := by
  pointwise [val_main_v35, val_main_v34]
  simp only [v32, v27, ← EReal.coe_mul, sum_coe]
  rw [dv, Finset.sum_range]

/-- Where an entry of a matrix of 4096 positions stands among the sequences, positions, heads and features. -/
theorem place (r : Fin 4096) (c : Fin 1024) : idx_main_v52 (ix2 r c)
    = ix4 ⟨r.val / 2048, by omega⟩ ⟨r.val % 2048, by omega⟩ ⟨c.val / 64, by omega⟩ ⟨c.val % 64, by omega⟩ := by
  funext a
  match a with
  | ⟨0, _⟩ => exact Fin.ext (show (r.val * 1024 + c.val) / 2097152 = r.val / 2048 by omega)
  | ⟨1, _⟩ => exact Fin.ext (show (r.val * 1024 + c.val) / 1024 % 2048 = r.val % 2048 by omega)
  | ⟨2, _⟩ => exact Fin.ext (show (r.val * 1024 + c.val) / 64 % 16 = c.val / 64 by omega)
  | ⟨3, _⟩ => exact Fin.ext (show (r.val * 1024 + c.val) % 64 = c.val % 64 by omega)

theorem v52 (r : Fin 4096) (c : Fin 1024) : val_main_v52 (F := Ideal) (up x) (up y) (ix2 r c) = (result x y 0 r c : EReal) := by
  rw [val_main_v52_apply, place, v51]; rfl

theorem v53 (r : Fin 4096) (c : Fin 1024) : val_main_v53 (F := Ideal) (up x) (up y) (ix2 r c) = (result x y 1 r c : EReal) := by
  rw [val_main_v53_apply, show idx_main_v53 (ix2 r c) = _ from place r c, v49]; rfl

theorem v54 (r : Fin 4096) (c : Fin 1024) : val_main_v54 (F := Ideal) (up x) (up y) (ix2 r c) = (result x y 2 r c : EReal) := by
  rw [val_main_v54_apply, show idx_main_v54 (ix2 r c) = _ from place r c, v35]; rfl

theorem v59 (s : Fin 3) (r : Fin 4096) (c : Fin 1024) : val_main_v59 (F := Ideal) (up x) (up y) (ix3 s r c) = (result x y s r c : EReal) := by
  pointwise [val_main_v59, val_main_v58, val_main_v55, val_main_v56, val_main_v57]
  simp only [v52, v53, v54]
  obtain ⟨_ | _ | _ | s, hs⟩ := s
  · simp
  · simp
  · simp
  · omega

end Cert.SbRef
end
end
-- ==== Proof.SbHost.lean ====
module

public import proofs.«01_k».proof.Proof.SbRef
public import proofs.«01_k».proof.Proof.SbFrame
public import Idealize.ShloMosaic.Lib.Pipeline.ValueKit

/-!
# The total stick of every row, prepared before the kernel runs
-/

@[expose] public section

noncomputable section

namespace Cert.SbHost

open Idealize.ShloMosaic Idealize.ShloMosaic.TcCoe Cert.Reals Cert.SbReal Cert.SbData Cert.SbBwdIdeal Cert.SbBwdIdeal.Gen
open Cert.NormRef (up)

variable (m : (ℓ : Loc nD τ sig) → Buf (Elt Ideal) ℓ) (c : Dev nD)

/-- Every row's total, beside itself at every feature of its head. -/
def spread (w : Vec Ideal S2x16x2048x2048 .f32) : Vec Ideal S4096x1024 .f32 :=
  shapeCast _ (broadcastInDim S2x2048x16x64 ![0, 1, 2, 3] bcast_S2x2048x16x1_S2x2048x16x64_0_1_2_3
    (broadcastInDim S2x2048x16x1 ![0, 1, 2] bcast_S2x2048x16_S2x2048x16x1_0_1_2 (transpose S2x2048x16 [0, 2, 1]
      (Host.reduceAdd (F := Ideal) (φ := .f32) w (constant S_ .f32 0x00000000#32)
        reducesTo_S2x16x2048x2048_S2x16x2048_d3 h_S_) transposes_S2x16x2048_S2x2048x16_0_2_1))) shapeCasts_S2x2048x16x64_S4096x1024

theorem V_main_v21 : V m c main_v21 = spread (Cert.SbGradIdeal.Read.val_main_v23_0 (F := Ideal) (m ((c : Thread nD τ).loc main_arg0))) := by
  unfold V hostOps0 hostOps0_1 hostOps0_2 hostOps0_3 hostOps0_4
  simp only [List.flatten_cons, List.flatten_nil, List.append_nil, List.cons_append, List.nil_append]
  after_results_simp
  rfl

theorem spread_apply (w : Vec Ideal S2x16x2048x2048 .f32) (r : Fin 4096) (k : Fin 1024) : spread w (ix2 r k)
    = ∑ j : Fin 2048, w (ix4 ⟨r.val / 2048, by omega⟩ ⟨k.val / 64, by omega⟩ ⟨r.val % 2048, by omega⟩ j) := by
  pointwise [spread]

/-- The launch memory holds the two real arrays. -/
structure Holds (x : S4096x3072.Idx → ℝ) (y : S4096x1024.Idx → ℝ) : Prop where
  x : m ((c : Thread nD τ).loc main_arg0) = up x
  y : m ((c : Thread nD τ).loc main_arg1) = up y

variable {m c} in
theorem total {x : S4096x3072.Idx → ℝ} {y : S4096x1024.Idx → ℝ} (hm : Holds m c x y) (r : Fin 4096) (k : Fin 1024) :
    V m c main_v21 (ix2 r k) = (N (part x 0 (r / 2048) (k / 64)) (part x 1 (r / 2048) (k / 64)) (r % 2048) : EReal) := by
  refine (congrFun (V_main_v21 m c) (ix2 r k)).trans ((spread_apply _ r k).trans ?_)
  rw [hm.x]
  simp only [Cert.SbRef.v23_0, sum_coe]
  rw [N, Finset.sum_range]

end Cert.SbHost
end
end
-- ==== Proof.SbLoop.lean ====
module

public import proofs.«01_k».proof.Proof.SbAcc

/-!
# The kernel's inner loops over the reals

What a block of queries has gathered, and what the accumulators hold, after some pairs of blocks of keys.
-/

@[expose] public section

noncomputable section

namespace Cert.SbLoop

open Idealize.ShloMosaic Idealize.ShloMosaic.TcCoe Cert.SbBwdIdeal Cert.SbBwdIdeal.Gen
open Cert.SbStep Cert.SbChain Cert.SbReal Cert.SbBlock Cert.SbAcc

variable {q k v d : ℕ → ℕ → Fin 64 → ℝ} {R n t : ℕ}

theorem vec2 {a a' b b' : ℕ} (h : a = a') (h' : b = b') : (![a, b] : Fin 2 → ℕ) = ![a', b'] := by rw [h, h']
theorem vec3 {a a' b b' : ℕ} (h : a = a') (h' : b = b') : (![a, b, 0] : Fin 3 → ℕ) = ![a', b', 0] := by rw [h, h']

section

variable (b2 b5 : Memref sig .tc .vmem S2048x128 .bf16) (b6 : Memref sig .tc .vmem S2048x128 .f32)
  (X2 : BufTy.Contents (Elt Ideal) b2.view.ty) (X5 : BufTy.Contents (Elt Ideal) b5.view.ty) (X6 : BufTy.Contents (Elt Ideal) b6.view.ty)
  (h2 : b2.view.read (Elt Ideal) X2 = beside q) (h5 : b5.view.read (Elt Ideal) X5 = beside d)
  (h6 : b6.view.read (Elt Ideal) X6 = beside fun h i _ => N (q h) (k h) i)
  {o1 o2 o3 : Fin 2 → ℕ} (i1 : ∀ a, o1 a + S256x64.size a ≤ S2048x128.size a) (i2 : ∀ a, o2 a + S256x128.size a ≤ S2048x128.size a)
  (i3 : ∀ a, o3 a + S256x1.size a ≤ S2048x128.size a)
include h2 h5 h6

/-- A block of queries of the first head. -/
theorem side0_is (e1 : o1 = ![R, 0]) (e2 : o2 = ![R, 0]) (e3 : o3 = ![R, 0]) :
    SideIs (q 0) (k 0) (d 0) R ⟨k0_pay229 (tile b2 X2 i1), tile b5 X5 i1, k0_pay230 (wide b2 X2 i2), k0_pay231 (wide b5 X5 i2), k0_pay232 (column b6 X6 i3)⟩ where
  s := fun r e => by pointwise [k0_pay229]; rw [tile_is (h := 0) b2 X2 h2 i1 e1 r e, word_eighth, ← EReal.coe_mul]
  o := tile_is (h := 0) b5 X5 h5 i1 e1
  t := fun e r => by pointwise [k0_pay230, k0_pay227]; rw [wide_is (h := 0) b2 X2 h2 i2 e2 r e _ (by first | rfl | simp), word_eighth, ← EReal.coe_mul]
  e := fun e r => by pointwise [k0_pay231, k0_pay228]; rw [wide_is (h := 0) b5 X5 h5 i2 e2 r e _ (by first | rfl | simp)]
  n := fun r c => by
    obtain rfl : c = 0 := Subsingleton.elim _ _
    pointwise [k0_pay232]; exact column_is (h := 0) b6 X6 h6 i3 e3 r 0

/-- A block of queries of the second head. -/
theorem side1_is (e1 : o1 = ![R, 64]) (e2 : o2 = ![R, 0]) (e3 : o3 = ![R, 64]) :
    SideIs (q 1) (k 1) (d 1) R ⟨k0_pay229 (tile b2 X2 i1), tile b5 X5 i1, k0_pay234 (wide b2 X2 i2), k0_pay235 (wide b5 X5 i2), k0_pay232 (column b6 X6 i3)⟩ where
  s := fun r e => by pointwise [k0_pay229]; rw [tile_is (h := 1) b2 X2 h2 i1 e1 r e, word_eighth, ← EReal.coe_mul]
  o := tile_is (h := 1) b5 X5 h5 i1 e1
  t := fun e r => by pointwise [k0_pay234, k0_pay227]; rw [wide_is (h := 1) b2 X2 h2 i2 e2 r e _ (by first | rfl | simp), word_eighth, ← EReal.coe_mul]
  e := fun e r => by pointwise [k0_pay235, k0_pay228]; rw [wide_is (h := 1) b5 X5 h5 i2 e2 r e _ (by first | rfl | simp)]
  n := fun r c => by
    obtain rfl : c = 0 := Subsingleton.elim _ _
    pointwise [k0_pay232]; exact column_is (h := 1) b6 X6 h6 i3 e3 r 0

end

/-- At a block of queries `n`, after `m` blocks of keys. -/
def limAt (n m : ℕ) : ℕ → ℕ → ℕ := fun kb _ => if kb < m then n + 1 else n

/-- After `m` blocks of keys: what the heads have gathered and the accumulators hold. -/
structure At (q k v d : ℕ → ℕ → Fin 64 → ℝ) (n m : ℕ) (z : Carried Ideal) (a8 a9 : S8x128x256.Idx → EReal) : Prop where
  s0 : Sums (q 0) (k 0) (v 0) (d 0) (256 * n) (256 * m) (SbStep.fst z)
  s1 : Sums (q 1) (k 1) (v 1) (d 1) (256 * n) (256 * m) (SbStep.snd z)
  key : a8 = acc (keyTerm q k v d) (limAt n m)
  val : a9 = acc (valTerm q k d) (limAt n m)

/-- Before any block of keys. -/
theorem At.start {a8 a9 : S8x128x256.Idx → EReal} (h8 : a8 = acc (keyTerm q k v d) fun _ _ => n) (h9 : a9 = acc (valTerm q k d) fun _ _ => n) :
    At q k v d n 0 SbStep.none a8 a9 := by
  refine ⟨⟨fun r c => ?_, fun r c => ?_, fun r c => ?_⟩, ⟨fun r c => ?_, fun r c => ?_, fun r c => ?_⟩, h8, h9⟩ <;>
  · pointwise [k0_pay237, k0_pay238]; simp

/-- Four more counts. -/
theorem bumps (g : ℕ → ℕ → Fin 64 → ℕ → ℝ) (a : S8x128x256.Idx → EReal)
    (h : a = acc g (bump (bump (bump (bump (limAt n (2 * t)) (2 * t) 0 (n + 1)) (2 * t + 1) 0 (n + 1)) (2 * t) 1 (n + 1)) (2 * t + 1) 1 (n + 1))) :
    a = acc g (limAt n (2 * t + 2)) := h.trans (acc_congr fun kb h e c _ hh _ => by
  congr 3
  unfold bump limAt
  have : h = 0 ∨ h = 1 := by omega
  rcases this with rfl | rfl <;> (by_cases h1 : kb = 2 * t <;> by_cases h2 : kb = 2 * t + 1 <;> by_cases h3 : kb < 2 * t <;> simp [h1, h2, h3] <;> omega))

section

variable (b3 b4 : Memref sig .tc .vmem S2048x128 .bf16) (b8 b9 : Memref sig .tc .vmem S8x128x256 .f32)
  (X3 : BufTy.Contents (Elt Ideal) b3.view.ty) (X4 : BufTy.Contents (Elt Ideal) b4.view.ty)
  (h3 : b3.view.read (Elt Ideal) X3 = beside k) (h4 : b4.view.read (Elt Ideal) X4 = beside v)
  (f8 : BufTy.Contents (Elt Ideal) b8.view.ty) (f9 : BufTy.Contents (Elt Ideal) b9.view.ty)
  {Q0 Q1 : Side Ideal} (hQ0 : SideIs (q 0) (k 0) (d 0) (256 * n) Q0) (hQ1 : SideIs (q 1) (k 1) (d 1) (256 * n) Q1)
include h3 h4 hQ0 hQ1

/-- A trip over a pair of whole blocks of keys. -/
theorem pair_step {z : Carried Ideal} (ht : 2 * t + 2 ≤ n)
    (hz : At q k v d n (2 * t) z (b8.view.read (Elt Ideal) f8) (b9.view.read (Elt Ideal) f9))
    {o0 o1 o2 o3 : Fin 2 → ℕ} (i0 : ∀ a, o0 a + S256x64.size a ≤ S2048x128.size a) (i1 : ∀ a, o1 a + S256x64.size a ≤ S2048x128.size a)
    (i2 : ∀ a, o2 a + S256x64.size a ≤ S2048x128.size a) (i3 : ∀ a, o3 a + S256x64.size a ≤ S2048x128.size a)
    (e0 : o0 = ![512 * t, 0]) (e1 : o1 = ![512 * t + 256, 0]) (e2 : o2 = ![512 * t, 64]) (e3 : o3 = ![512 * t + 256, 64])
    {p0 p1 p2 p3 : Fin 3 → ℕ} (j0 : ∀ a, p0 a + S1x64x256.size a ≤ S8x128x256.size a) (j1 : ∀ a, p1 a + S1x64x256.size a ≤ S8x128x256.size a)
    (j2 : ∀ a, p2 a + S1x64x256.size a ≤ S8x128x256.size a) (j3 : ∀ a, p3 a + S1x64x256.size a ≤ S8x128x256.size a)
    (g0 : p0 = ![2 * t, 0, 0]) (g1 : p1 = ![2 * t + 1, 0, 0]) (g2 : p2 = ![2 * t, 64, 0]) (g3 : p3 = ![2 * t + 1, 64, 0]) :
    let x0 := tile b3 X3 i0; let w0 := tile b4 X4 i0
    let x1 := tile b3 X3 i1; let w1 := tile b4 X4 i1
    let y0 := tile b3 X3 i2; let u0 := tile b4 X4 i2
    let y1 := tile b3 X3 i3; let u1 := tile b4 X4 i3
    let a0 := SbStep.fst z; let a1 := go false Q0 x0 w0 a0
    let b0 := SbStep.snd z; let b1 := go false Q1 y0 u0 b0
    At q k v d n (2 * t + 2) (both (go false Q0 x1 w1 a1) (go false Q1 y1 u1 b1))
      (b8.view.read (Elt Ideal) (b8.view.writes (Elt Ideal) f8
        [stored j3 (goKey false Q1 y1 u1 b1 (held b8 f8 j3)), stored j2 (goKey false Q1 y0 u0 b0 (held b8 f8 j2)),
          stored j1 (goKey false Q0 x1 w1 a1 (held b8 f8 j1)), stored j0 (goKey false Q0 x0 w0 a0 (held b8 f8 j0))]))
      (b9.view.read (Elt Ideal) (b9.view.writes (Elt Ideal) f9
        [stored j3 (goVal false Q1 y1 b1 (held b9 f9 j3)), stored j2 (goVal false Q1 y0 b0 (held b9 f9 j2)),
          stored j1 (goVal false Q0 x1 a1 (held b9 f9 j1)), stored j0 (goVal false Q0 x0 a0 (held b9 f9 j0))])) := by
  intro x0 w0 x1 w1 y0 u0 y1 u1 a0 a1 b0 b1
  have q0 : Placed false (256 * n) (256 * (2 * t)) := by show _ + _ ≤ _; omega
  have q1 : Placed false (256 * n) (256 * (2 * t + 1)) := by show _ + _ ≤ _; omega
  have hx0 := tile_is (h := 0) b3 X3 h3 i0 (e0.trans (vec2 (by omega : _ = 256 * (2 * t)) rfl))
  have hw0 := tile_is (h := 0) b4 X4 h4 i0 (e0.trans (vec2 (by omega : _ = 256 * (2 * t)) rfl))
  have hx1 := tile_is (h := 0) b3 X3 h3 i1 (e1.trans (vec2 (by omega : _ = 256 * (2 * t + 1)) rfl))
  have hw1 := tile_is (h := 0) b4 X4 h4 i1 (e1.trans (vec2 (by omega : _ = 256 * (2 * t + 1)) rfl))
  have hy0 := tile_is (h := 1) b3 X3 h3 i2 (e2.trans (vec2 (by omega : _ = 256 * (2 * t)) rfl))
  have hu0 := tile_is (h := 1) b4 X4 h4 i2 (e2.trans (vec2 (by omega : _ = 256 * (2 * t)) rfl))
  have hy1 := tile_is (h := 1) b3 X3 h3 i3 (e3.trans (vec2 (by omega : _ = 256 * (2 * t + 1)) rfl))
  have hu1 := tile_is (h := 1) b4 X4 h4 i3 (e3.trans (vec2 (by omega : _ = 256 * (2 * t + 1)) rfl))
  have ha1 : Sums (q 0) (k 0) (v 0) (d 0) (256 * n) (256 * (2 * t + 1)) a1 := go_is hQ0 q0 hx0 hw0 hz.s0
  have hb1 : Sums (q 1) (k 1) (v 1) (d 1) (256 * n) (256 * (2 * t + 1)) b1 := go_is hQ1 q0 hy0 hu0 hz.s1
  have l0 : ∀ h, limAt n (2 * t) (2 * t) h = n := fun h => if_neg (by omega)
  have l1 : ∀ h, limAt n (2 * t) (2 * t + 1) h = n := fun h => if_neg (by omega)
  refine ⟨go_is hQ0 q1 hx1 hw1 ha1, go_is hQ1 q1 hy1 hu1 hb1, bumps _ _ ?_, bumps _ _ ?_⟩
  · exact key_is hQ1 q1 hy1 hu1 hb1 b8 f8 f8 _ j3 g3 (l1 1) hz.key <|
      key_is hQ1 q0 hy0 hu0 hz.s1 b8 f8 f8 _ j2 g2 (l0 1) hz.key <|
      key_is hQ0 q1 hx1 hw1 ha1 b8 f8 f8 _ j1 g1 (l1 0) hz.key <|
      key_is hQ0 q0 hx0 hw0 hz.s0 b8 f8 f8 [] j0 g0 (l0 0) hz.key hz.key
  · exact val_is hQ1 q1 hy1 hb1 b9 f9 f9 _ j3 g3 (l1 1) hz.val <|
      val_is hQ1 q0 hy0 hz.s1 b9 f9 f9 _ j2 g2 (l0 1) hz.val <|
      val_is hQ0 q1 hx1 ha1 b9 f9 f9 _ j1 g1 (l1 0) hz.val <|
      val_is hQ0 q0 hx0 hz.s0 b9 f9 f9 [] j0 g0 (l0 0) hz.val hz.val

end

end Cert.SbLoop

end
-- ==== Proof.SbTrip.lean ====
module

public import proofs.«01_k».proof.Proof.SbLoop

/-!
# The kernel's outer loop over the reals

After some pairs of blocks of queries, the accumulators hold those queries' part of the keys' and values' gradients, and
the written block holds those queries' gradients.
-/

@[expose] public section

noncomputable section

namespace Cert.SbTrip

open Idealize.ShloMosaic Idealize.ShloMosaic.TcCoe Cert.SbBwdIdeal Cert.SbBwdIdeal.Gen
open Cert.SbChain Cert.SbReal Cert.SbBlock Cert.SbAcc Cert.SbLoop Cert.SbTrace
open Cert.SbStep hiding fst snd none

variable {q κ v d : ℕ → ℕ → Fin 64 → ℝ} {n : ℕ}

theorem even_trips : ∀ k : Fin k0_t1_loop.trips, (k0_t2_loop k).trips = k.val := by decide +kernel
theorem odd_trips : ∀ k : Fin k0_t1_loop.trips, (k0_t4_loop k).trips = k.val := by decide +kernel

/-- Past the diagonal nothing is added. -/
theorem keyTerm_of_le (h r : ℕ) (e : Fin 64) (j : ℕ) (hr : r ≤ j) : keyTerm q κ v d h r e j = 0 := by rw [keyTerm, Z_of_le hr, mul_zero]
theorem valTerm_of_le (h r : ℕ) (e : Fin 64) (j : ℕ) (hr : r ≤ j) : valTerm q κ d h r e j = 0 := by rw [valTerm, A_of_le hr, mul_zero]

/-- Once the block on the diagonal is counted, every key has seen the block of queries. -/
theorem whole {g : ℕ → ℕ → Fin 64 → ℕ → ℝ} (hg : ∀ h r e j, r ≤ j → g h r e j = 0) (lim : ℕ → ℕ → ℕ)
    (h0 : ∀ kb h, kb ≤ n → h < 2 → lim kb h = n + 1) (h1 : ∀ kb h, n < kb → h < 2 → lim kb h = n ∨ lim kb h = n + 1) :
    acc g lim = acc g fun _ _ => n + 1 := acc_congr fun kb h e c _ hh _ => by
  by_cases hk : kb ≤ n
  · rw [h0 kb h hk hh]
  · rcases h1 kb h (by omega) hh with hl | hl <;> rw [hl]
    rw [Nat.mul_succ, range_add, Finset.sum_eq_zero fun (x : Fin 256) _ => hg h (256 * n + x.val) e (256 * kb + c) (by have := x.isLt; omega), add_zero]

theorem even_lim (kb h : ℕ) : (bump (bump (limAt n n) n 0 (n + 1)) n 1 (n + 1)) kb h = if kb < n then n + 1 else if kb = n ∧ h < 2 then n + 1 else n := by
  unfold bump limAt
  by_cases h1 : kb = n <;> by_cases h2 : h = 0 <;> by_cases h3 : h = 1 <;> by_cases h4 : kb < n <;> simp [h1, h2, h3, h4] <;> omega

theorem odd_lim (kb h : ℕ) : (bump (bump (bump (bump (limAt (n + 1) n) n 0 (n + 2)) (n + 1) 0 (n + 2)) n 1 (n + 2)) (n + 1) 1 (n + 2)) kb h =
    if kb < n then n + 2 else if kb ≤ n + 1 ∧ h < 2 then n + 2 else n + 1 := by
  unfold bump limAt
  by_cases h1 : kb = n <;> by_cases h5 : kb = n + 1 <;> by_cases h2 : h = 0 <;> by_cases h3 : h = 1 <;> by_cases h4 : kb < n <;>
    simp [h1, h2, h3, h4, h5] <;> omega

/-- The query's gradient as stored. -/
theorem scaled_is {h : ℕ} {st : State Ideal} (hst : Sums (q h) (κ h) (v h) (d h) (256 * n) (256 * (n + 1)) st) (hn : n < 8) (r : Fin 256) (e : Fin 64) :
    scaled st.2.2 (ix3 0 r e) = ((SbReal.dq (q h) (κ h) (v h) (d h) (256 * n + r.val) e : ℝ) : EReal) := by
  pointwise [k0_pay271]
  rw [hst.dq r e, word_eighth32, ← EReal.coe_mul, SbReal.dq,
    range_of_zero _ (256 * (n + 1)) 2048 (by omega) fun j hj => by rw [Z_of_le (by have := r.isLt; omega), zero_mul]]

/-- The three gradients of two heads, as the written block holds them. -/
def grads (q κ v d : ℕ → ℕ → Fin 64 → ℝ) : S3x2048x128.Idx → EReal := fun i =>
  let h := (i 2).val / 64
  let e : Fin 64 := ⟨(i 2).val % 64, Nat.mod_lt _ (by decide)⟩
  if (i 0).val = 0 then ((SbReal.dq (q h) (κ h) (v h) (d h) (i 1).val e : ℝ) : EReal)
  else if (i 0).val = 1 then ((SbReal.dk (q h) (κ h) (v h) (d h) (i 1).val e : ℝ) : EReal)
  else ((SbReal.dv (q h) (κ h) (d h) (i 1).val e : ℝ) : EReal)

/-- A store that agrees with `G` on its rectangle keeps the agreement and adds the rectangle to it. -/
theorem agree_cons (m : Memref sig .tc .vmem S3x2048x128 .bf16) (f : BufTy.Contents (Elt Ideal) m.view.ty) (L : List (View.Piece (Elt Ideal) S3x2048x128 .bf16))
    (G : S3x2048x128.Idx → EReal) {D D' : S3x2048x128.Idx → Prop} (hL : ∀ y, D y → m.view.read (Elt Ideal) (m.view.writes (Elt Ideal) f L) y = G y)
    {o o' size : Fin 3 → ℕ} (inb : ∀ a, o a + size a ≤ S3x2048x128.size a) (ho : o = o') (w : (⟨3, size⟩ : Shape).Idx → EReal)
    (hw : ∀ y : S3x2048x128.Idx, (h : ∀ a, o' a ≤ (y a).val ∧ (y a).val < o' a + size a) → w (Rect.unitLocal (s := S3x2048x128) (off := o') (size := size) y h) = G y)
    (hD : ∀ y : S3x2048x128.Idx, D' y → D y ∨ ∀ a, o' a ≤ (y a).val ∧ (y a).val < o' a + size a) (y : S3x2048x128.Idx) (hy : D' y) :
    m.view.read (Elt Ideal) (m.view.writes (Elt Ideal) f (⟨Rect.unit (s := S3x2048x128) o size inb, w⟩ :: L)) y = G y := by
  rw [View.read_writes_cons_put m.view f inb w L ho]
  unfold VecWindow.put
  split
  next hi => exact hw y hi
  next hi => exact hL y ((hD y hy).resolve_right hi)

/-- A store of a head's 256 query gradients. -/
theorem agree_query (m : Memref sig .tc .vmem S3x2048x128 .bf16) (f : BufTy.Contents (Elt Ideal) m.view.ty) (L : List (View.Piece (Elt Ideal) S3x2048x128 .bf16))
    {D D' : S3x2048x128.Idx → Prop} (hL : ∀ y, D y → m.view.read (Elt Ideal) (m.view.writes (Elt Ideal) f L) y = grads q κ v d y)
    {o : Fin 3 → ℕ} (inb : ∀ a, o a + S1x256x64.size a ≤ S3x2048x128.size a) {h : ℕ} (ho : o = ![0, 256 * n, 64 * h]) (w : FVec Ideal S1x256x64 .bf16)
    (hw : ∀ (r : Fin 256) (e : Fin 64), w (ix3 0 r e) = ((SbReal.dq (q h) (κ h) (v h) (d h) (256 * n + r.val) e : ℝ) : EReal))
    (hD : ∀ y : S3x2048x128.Idx, D' y → D y ∨ ((y 0).val = 0 ∧ 256 * n ≤ (y 1).val ∧ (y 1).val < 256 * n + 256 ∧ (y 2).val / 64 = h))
    (y : S3x2048x128.Idx) (hy : D' y) :
    m.view.read (Elt Ideal) (m.view.writes (Elt Ideal) f (⟨Rect.unit (s := S3x2048x128) o S1x256x64.size inb, w⟩ :: L)) y = grads q κ v d y := by
  refine agree_cons m f L (grads q κ v d) hL inb ho w (fun y hy => ?_) (fun y hy => (hD y hy).imp id fun ⟨a, b, c, e⟩ i => ?_) y hy
  · have h0 : 0 ≤ (y 0).val ∧ (y 0).val < 0 + 1 := hy 0
    have h1 : 256 * n ≤ (y 1).val ∧ (y 1).val < 256 * n + 256 := hy 1
    have h2 : 64 * h ≤ (y 2).val ∧ (y 2).val < 64 * h + 64 := hy 2
    refine Eq.trans (congrArg w ?_) ((hw ⟨(y 1).val - 256 * n, by omega⟩ ⟨(y 2).val - 64 * h, by omega⟩).trans ?_)
    · refine funext fun a => Fin.ext ?_
      match a with
      | 0 => show (y 0).val - 0 = 0; omega
      | 1 => rfl
      | 2 => rfl
    · have e1 : (y 2).val / 64 = h := by omega
      have e2 : (⟨(y 2).val % 64, Nat.mod_lt _ (by decide)⟩ : Fin 64) = ⟨(y 2).val - 64 * h, by omega⟩ := Fin.ext (by simp only; omega)
      simp only [grads]
      rw [if_pos (by omega), e1, e2, show 256 * n + ((y 1).val - 256 * n) = (y 1).val by omega]
  · match i with
    | 0 => show 0 ≤ (y 0).val ∧ (y 0).val < 0 + 1; omega
    | 1 => exact ⟨b, c⟩
    | 2 => show 64 * h ≤ (y 2).val ∧ (y 2).val < 64 * h + 64; omega

variable (c : Dev nD) (i : grid0.Coords)
  (b2 : Memref sig .tc .vmem S2048x128 .bf16) (w2 : b2.IsWhole)
  (b3 : Memref sig .tc .vmem S2048x128 .bf16) (w3 : b3.IsWhole)
  (b4 : Memref sig .tc .vmem S2048x128 .bf16) (w4 : b4.IsWhole)
  (b5 : Memref sig .tc .vmem S2048x128 .bf16) (w5 : b5.IsWhole)
  (b6 : Memref sig .tc .vmem S2048x128 .f32) (w6 : b6.IsWhole)
  (b7 : Memref sig .tc .vmem S3x2048x128 .bf16) (w7 : b7.IsWhole)
  (b8 : Memref sig .tc .vmem S8x128x256 .f32) (w8 : b8.IsWhole)
  (b9 : Memref sig .tc .vmem S8x128x256 .f32) (w9 : b9.IsWhole)
  (X2 : BufTy.Contents (Elt Ideal) b2.view.ty) (X3 : BufTy.Contents (Elt Ideal) b3.view.ty)
  (X4 : BufTy.Contents (Elt Ideal) b4.view.ty) (X5 : BufTy.Contents (Elt Ideal) b5.view.ty)
  (X6 : BufTy.Contents (Elt Ideal) b6.view.ty)
  (h2 : b2.view.read (Elt Ideal) X2 = beside q) (h3 : b3.view.read (Elt Ideal) X3 = beside κ)
  (h4 : b4.view.read (Elt Ideal) X4 = beside v) (h5 : b5.view.read (Elt Ideal) X5 = beside d)
  (h6 : b6.view.read (Elt Ideal) X6 = beside fun h i _ => N (q h) (κ h) i)

section
include h3 h4
/-- The loop of an even block of queries. -/
theorem evenLoop_at (k : Fin k0_t1_loop.trips) (hn : 2 * k.val ≤ n) {Q0 Q1 : Side Ideal} (hQ0 : SideIs (q 0) (κ 0) (d 0) (256 * n) Q0)
    (hQ1 : SideIs (q 1) (κ 1) (d 1) (256 * n) Q1) (f8 : BufTy.Contents (Elt Ideal) b8.view.ty) (f9 : BufTy.Contents (Elt Ideal) b9.view.ty)
    (h8 : b8.view.read (Elt Ideal) f8 = acc (keyTerm q κ v d) fun _ _ => n) (h9 : b9.view.read (Elt Ideal) f9 = acc (valTerm q κ d) fun _ _ => n)
    (t : ℕ) (ht : t ≤ (k0_t2_loop k).trips) :
    At q κ v d n (2 * t) (evenLoop c i b2 w2 b3 w3 b4 w4 b5 w5 b6 w6 b7 w7 b8 w8 b9 w9 X3 X4 Q0 Q1 k f8 f9 t).1
      (b8.view.read (Elt Ideal) (b8.view.writes (Elt Ideal) f8 (evenLoop c i b2 w2 b3 w3 b4 w4 b5 w5 b6 w6 b7 w7 b8 w8 b9 w9 X3 X4 Q0 Q1 k f8 f9 t).2.1))
      (b9.view.read (Elt Ideal) (b9.view.writes (Elt Ideal) f9 (evenLoop c i b2 w2 b3 w3 b4 w4 b5 w5 b6 w6 b7 w7 b8 w8 b9 w9 X3 X4 Q0 Q1 k f8 f9 t).2.2)) := by
  induction t with
  | zero => exact At.start h8 h9
  | succ t ih =>
    have hk := even_trips k
    have hs := evenLoop_succ c i b2 w2 b3 w3 b4 w4 b5 w5 b6 w6 b7 w7 b8 w8 b9 w9 X3 X4 Q0 Q1 (k := k) (t := ⟨t, ht⟩) f8 f9
    dsimp only at hs
    rw [hs]
    dsimp only
    rw [View.writes_append, View.writes_append]
    exact pair_step b3 b4 b8 b9 X3 X4 h3 h4 _ _ hQ0 hQ1 (by omega) (ih (by omega))
      (k0_off6_inb k ⟨t, ht⟩) (k0_off7_inb k ⟨t, ht⟩) (k0_off8_inb k ⟨t, ht⟩) (k0_off9_inb k ⟨t, ht⟩)
      (k0_off6_eq k ⟨t, ht⟩) (k0_off7_eq k ⟨t, ht⟩) (k0_off8_eq k ⟨t, ht⟩) (k0_off9_eq k ⟨t, ht⟩)
      (k0_off10_inb k ⟨t, ht⟩) (k0_off11_inb k ⟨t, ht⟩) (k0_off12_inb k ⟨t, ht⟩) (k0_off13_inb k ⟨t, ht⟩)
      (k0_off10_eq k ⟨t, ht⟩) (k0_off11_eq k ⟨t, ht⟩) (k0_off12_eq k ⟨t, ht⟩) (k0_off13_eq k ⟨t, ht⟩)
end

section
include h3 h4
/-- The loop of an odd block of queries. -/
theorem oddLoop_at (k : Fin k0_t1_loop.trips) (hn : 2 * k.val ≤ n) {Q0 Q1 : Side Ideal} (hQ0 : SideIs (q 0) (κ 0) (d 0) (256 * n) Q0)
    (hQ1 : SideIs (q 1) (κ 1) (d 1) (256 * n) Q1) (f8 : BufTy.Contents (Elt Ideal) b8.view.ty) (f9 : BufTy.Contents (Elt Ideal) b9.view.ty)
    (h8 : b8.view.read (Elt Ideal) f8 = acc (keyTerm q κ v d) fun _ _ => n) (h9 : b9.view.read (Elt Ideal) f9 = acc (valTerm q κ d) fun _ _ => n)
    (t : ℕ) (ht : t ≤ (k0_t4_loop k).trips) :
    At q κ v d n (2 * t) (oddLoop c i b2 w2 b3 w3 b4 w4 b5 w5 b6 w6 b7 w7 b8 w8 b9 w9 X3 X4 Q0 Q1 k f8 f9 t).1
      (b8.view.read (Elt Ideal) (b8.view.writes (Elt Ideal) f8 (oddLoop c i b2 w2 b3 w3 b4 w4 b5 w5 b6 w6 b7 w7 b8 w8 b9 w9 X3 X4 Q0 Q1 k f8 f9 t).2.1))
      (b9.view.read (Elt Ideal) (b9.view.writes (Elt Ideal) f9 (oddLoop c i b2 w2 b3 w3 b4 w4 b5 w5 b6 w6 b7 w7 b8 w8 b9 w9 X3 X4 Q0 Q1 k f8 f9 t).2.2)) := by
  induction t with
  | zero => exact At.start h8 h9
  | succ t ih =>
    have hk := odd_trips k
    have hs := oddLoop_succ c i b2 w2 b3 w3 b4 w4 b5 w5 b6 w6 b7 w7 b8 w8 b9 w9 X3 X4 Q0 Q1 (k := k) (t := ⟨t, ht⟩) f8 f9
    dsimp only at hs
    rw [hs]
    dsimp only
    rw [View.writes_append, View.writes_append]
    exact pair_step b3 b4 b8 b9 X3 X4 h3 h4 _ _ hQ0 hQ1 (by omega) (ih (by omega))
      (k0_off31_inb k ⟨t, ht⟩) (k0_off32_inb k ⟨t, ht⟩) (k0_off33_inb k ⟨t, ht⟩) (k0_off34_inb k ⟨t, ht⟩)
      (k0_off31_eq k ⟨t, ht⟩) (k0_off32_eq k ⟨t, ht⟩) (k0_off33_eq k ⟨t, ht⟩) (k0_off34_eq k ⟨t, ht⟩)
      (k0_off35_inb k ⟨t, ht⟩) (k0_off36_inb k ⟨t, ht⟩) (k0_off37_inb k ⟨t, ht⟩) (k0_off38_inb k ⟨t, ht⟩)
      (k0_off35_eq k ⟨t, ht⟩) (k0_off36_eq k ⟨t, ht⟩) (k0_off37_eq k ⟨t, ht⟩) (k0_off38_eq k ⟨t, ht⟩)
end

section

variable (k : Fin k0_t1_loop.trips) (f8 : BufTy.Contents (Elt Ideal) b8.view.ty) (f9 : BufTy.Contents (Elt Ideal) b9.view.ty)
  (h8 : b8.view.read (Elt Ideal) f8 = acc (keyTerm q κ v d) fun _ _ => 2 * k.val) (h9 : b9.view.read (Elt Ideal) f9 = acc (valTerm q κ d) fun _ _ => 2 * k.val)

include h2 h5 h6 in
theorem even0 : SideIs (q 0) (κ 0) (d 0) (256 * (2 * k.val)) (Even0 b2 b5 b6 X2 X5 X6 k) :=
  side0_is b2 b5 b6 X2 X5 X6 h2 h5 h6 (k0_off2_inb k) (k0_off1_inb k) (k0_off3_inb k) ((k0_off2_eq k).trans (vec2 (by omega) rfl))
    ((k0_off1_eq k).trans (vec2 (by omega) rfl)) ((k0_off3_eq k).trans (vec2 (by omega) rfl))

include h2 h5 h6 in
theorem even1 : SideIs (q 1) (κ 1) (d 1) (256 * (2 * k.val)) (Even1 b2 b5 b6 X2 X5 X6 k) :=
  side1_is b2 b5 b6 X2 X5 X6 h2 h5 h6 (k0_off4_inb k) (k0_off1_inb k) (k0_off5_inb k) ((k0_off4_eq k).trans (vec2 (by omega) rfl))
    ((k0_off1_eq k).trans (vec2 (by omega) rfl)) ((k0_off5_eq k).trans (vec2 (by omega) rfl))

include h2 h5 h6 in
theorem odd0 : SideIs (q 0) (κ 0) (d 0) (256 * (2 * k.val + 1)) (Odd0 b2 b5 b6 X2 X5 X6 k) :=
  side0_is b2 b5 b6 X2 X5 X6 h2 h5 h6 (k0_off27_inb k) (k0_off26_inb k) (k0_off28_inb k) ((k0_off27_eq k).trans (vec2 (by omega) rfl))
    ((k0_off26_eq k).trans (vec2 (by omega) rfl)) ((k0_off28_eq k).trans (vec2 (by omega) rfl))

include h2 h5 h6 in
theorem odd1 : SideIs (q 1) (κ 1) (d 1) (256 * (2 * k.val + 1)) (Odd1 b2 b5 b6 X2 X5 X6 k) :=
  side1_is b2 b5 b6 X2 X5 X6 h2 h5 h6 (k0_off29_inb k) (k0_off26_inb k) (k0_off30_inb k) ((k0_off29_eq k).trans (vec2 (by omega) rfl))
    ((k0_off26_eq k).trans (vec2 (by omega) rfl)) ((k0_off30_eq k).trans (vec2 (by omega) rfl))

include h2 h3 h4 h5 h6 h8 h9

/-- The even block of queries after all whole blocks of keys before it. -/
theorem evenE_at : At q κ v d (2 * k.val) (2 * k.val) (evenE c i b2 w2 b3 w3 b4 w4 b5 w5 b6 w6 b7 w7 b8 w8 b9 w9 X2 X3 X4 X5 X6 k f8 f9).1
    (b8.view.read (Elt Ideal) (b8.view.writes (Elt Ideal) f8 (evenE c i b2 w2 b3 w3 b4 w4 b5 w5 b6 w6 b7 w7 b8 w8 b9 w9 X2 X3 X4 X5 X6 k f8 f9).2.1))
    (b9.view.read (Elt Ideal) (b9.view.writes (Elt Ideal) f9 (evenE c i b2 w2 b3 w3 b4 w4 b5 w5 b6 w6 b7 w7 b8 w8 b9 w9 X2 X3 X4 X5 X6 k f8 f9).2.2)) := by
  have := evenLoop_at c i b2 w2 b3 w3 b4 w4 b5 w5 b6 w6 b7 w7 b8 w8 b9 w9 X3 X4 h3 h4 k le_rfl (even0 b2 b5 b6 X2 X5 X6 h2 h5 h6 k) (even1 b2 b5 b6 X2 X5 X6 h2 h5 h6 k) f8 f9 h8 h9 _ le_rfl
  unfold evenE
  rw [show Scf.trips (k0_t2_loop k).lb (k0_t2_loop k).ub (k0_t2_loop k).st = k.val from even_trips k]
  rwa [even_trips k] at this

end

section

variable (k : Fin k0_t1_loop.trips)

include h3 in
theorem keys2 : Is2 (tile b3 X3 (k0_off2_inb k)) fun c e => κ 0 (256 * (2 * k.val) + c.val) e :=
  tile_is (h := 0) b3 X3 h3 _ ((k0_off2_eq k).trans (vec2 (by omega) rfl))
include h4 in
theorem vals2 : Is2 (tile b4 X4 (k0_off2_inb k)) fun c e => v 0 (256 * (2 * k.val) + c.val) e :=
  tile_is (h := 0) b4 X4 h4 _ ((k0_off2_eq k).trans (vec2 (by omega) rfl))
include h3 in
theorem keys4 : Is2 (tile b3 X3 (k0_off4_inb k)) fun c e => κ 1 (256 * (2 * k.val) + c.val) e :=
  tile_is (h := 1) b3 X3 h3 _ ((k0_off4_eq k).trans (vec2 (by omega) rfl))
include h4 in
theorem vals4 : Is2 (tile b4 X4 (k0_off4_inb k)) fun c e => v 1 (256 * (2 * k.val) + c.val) e :=
  tile_is (h := 1) b4 X4 h4 _ ((k0_off4_eq k).trans (vec2 (by omega) rfl))
include h3 in
theorem keys47 : Is2 (tile b3 X3 (k0_off47_inb k)) fun c e => κ 0 (256 * (2 * k.val) + c.val) e :=
  tile_is (h := 0) b3 X3 h3 _ ((k0_off47_eq k).trans (vec2 (by omega) rfl))
include h4 in
theorem vals47 : Is2 (tile b4 X4 (k0_off47_inb k)) fun c e => v 0 (256 * (2 * k.val) + c.val) e :=
  tile_is (h := 0) b4 X4 h4 _ ((k0_off47_eq k).trans (vec2 (by omega) rfl))
include h3 in
theorem keys48 : Is2 (tile b3 X3 (k0_off48_inb k)) fun c e => κ 1 (256 * (2 * k.val) + c.val) e :=
  tile_is (h := 1) b3 X3 h3 _ ((k0_off48_eq k).trans (vec2 (by omega) rfl))
include h4 in
theorem vals48 : Is2 (tile b4 X4 (k0_off48_inb k)) fun c e => v 1 (256 * (2 * k.val) + c.val) e :=
  tile_is (h := 1) b4 X4 h4 _ ((k0_off48_eq k).trans (vec2 (by omega) rfl))
include h3 in
theorem keys27 : Is2 (tile b3 X3 (k0_off27_inb k)) fun c e => κ 0 (256 * (2 * k.val + 1) + c.val) e :=
  tile_is (h := 0) b3 X3 h3 _ ((k0_off27_eq k).trans (vec2 (by omega) rfl))
include h4 in
theorem vals27 : Is2 (tile b4 X4 (k0_off27_inb k)) fun c e => v 0 (256 * (2 * k.val + 1) + c.val) e :=
  tile_is (h := 0) b4 X4 h4 _ ((k0_off27_eq k).trans (vec2 (by omega) rfl))
include h3 in
theorem keys29 : Is2 (tile b3 X3 (k0_off29_inb k)) fun c e => κ 1 (256 * (2 * k.val + 1) + c.val) e :=
  tile_is (h := 1) b3 X3 h3 _ ((k0_off29_eq k).trans (vec2 (by omega) rfl))
include h4 in
theorem vals29 : Is2 (tile b4 X4 (k0_off29_inb k)) fun c e => v 1 (256 * (2 * k.val + 1) + c.val) e :=
  tile_is (h := 1) b4 X4 h4 _ ((k0_off29_eq k).trans (vec2 (by omega) rfl))

theorem vecq {a b c d : ℕ} (h : a = b) (h' : c = d) : (![0, a, c] : Fin 3 → ℕ) = ![0, b, d] := by rw [h, h']

theorem placed_diag (n : ℕ) : Placed true (256 * n) (256 * n) := rfl
theorem placed_off (n : ℕ) : Placed false (256 * (n + 1)) (256 * n) := by show _ ≤ _; omega

variable (f7 : BufTy.Contents (Elt Ideal) b7.view.ty) (f8 : BufTy.Contents (Elt Ideal) b8.view.ty) (f9 : BufTy.Contents (Elt Ideal) b9.view.ty)
  (h8 : b8.view.read (Elt Ideal) f8 = acc (keyTerm q κ v d) fun _ _ => 2 * k.val) (h9 : b9.view.read (Elt Ideal) f9 = acc (valTerm q κ d) fun _ _ => 2 * k.val)

include h2 h3 h4 h5 h6 h8 h9

/-- The even block's states after its diagonal block of keys. -/
theorem even_states : Sums (q 0) (κ 0) (v 0) (d 0) (256 * (2 * k.val)) (256 * (2 * k.val + 1))
      (go true (Even0 b2 b5 b6 X2 X5 X6 k) (tile b3 X3 (k0_off2_inb k)) (tile b4 X4 (k0_off2_inb k)) (SbStep.fst (evenE c i b2 w2 b3 w3 b4 w4 b5 w5 b6 w6 b7 w7 b8 w8 b9 w9 X2 X3 X4 X5 X6 k f8 f9).1))
    ∧ Sums (q 1) (κ 1) (v 1) (d 1) (256 * (2 * k.val)) (256 * (2 * k.val + 1))
      (go true (Even1 b2 b5 b6 X2 X5 X6 k) (tile b3 X3 (k0_off4_inb k)) (tile b4 X4 (k0_off4_inb k)) (SbStep.snd (evenE c i b2 w2 b3 w3 b4 w4 b5 w5 b6 w6 b7 w7 b8 w8 b9 w9 X2 X3 X4 X5 X6 k f8 f9).1)) := by
  have hE := evenE_at c i b2 w2 b3 w3 b4 w4 b5 w5 b6 w6 b7 w7 b8 w8 b9 w9 X2 X3 X4 X5 X6 h2 h3 h4 h5 h6 k f8 f9 h8 h9
  exact ⟨go_is (even0 b2 b5 b6 X2 X5 X6 h2 h5 h6 k) (placed_diag _) (keys2 b3 X3 h3 k) (vals2 b4 X4 h4 k) hE.s0, go_is (even1 b2 b5 b6 X2 X5 X6 h2 h5 h6 k) (placed_diag _) (keys4 b3 X3 h3 k) (vals4 b4 X4 h4 k) hE.s1⟩

/-- The accumulators after the even block of queries. -/
theorem even_keys : b8.view.read (Elt Ideal) (b8.view.writes (Elt Ideal) f8 (evenD8 c i b2 w2 b3 w3 b4 w4 b5 w5 b6 w6 b7 w7 b8 w8 b9 w9 X2 X3 X4 X5 X6 k f8 f9)) = acc (keyTerm q κ v d) fun _ _ => 2 * k.val + 1 := by
  have hE := evenE_at c i b2 w2 b3 w3 b4 w4 b5 w5 b6 w6 b7 w7 b8 w8 b9 w9 X2 X3 X4 X5 X6 h2 h3 h4 h5 h6 k f8 f9 h8 h9
  have a := key_is (even0 b2 b5 b6 X2 X5 X6 h2 h5 h6 k) (placed_diag _) (keys2 b3 X3 h3 k) (vals2 b4 X4 h4 k) hE.s0 b8 _ f8 _ (k0_off22_inb k) ((k0_off22_eq k).trans (vec3 rfl rfl)) (by simp [limAt]) hE.key hE.key
  have b := key_is (even1 b2 b5 b6 X2 X5 X6 h2 h5 h6 k) (placed_diag _) (keys4 b3 X3 h3 k) (vals4 b4 X4 h4 k) hE.s1 b8 _ f8 _ (k0_off23_inb k) ((k0_off23_eq k).trans (vec3 rfl rfl)) (by simp [limAt, bump]) a a
  rw [evenD8_eq]
  refine b.trans (whole keyTerm_of_le _ (fun kb h hk hh => ?_) fun kb h hk hh => ?_)
  · rw [even_lim]; split_ifs <;> omega
  · rw [even_lim]; split_ifs <;> omega

theorem even_vals : b9.view.read (Elt Ideal) (b9.view.writes (Elt Ideal) f9 (evenD9 c i b2 w2 b3 w3 b4 w4 b5 w5 b6 w6 b7 w7 b8 w8 b9 w9 X2 X3 X4 X5 X6 k f8 f9)) = acc (valTerm q κ d) fun _ _ => 2 * k.val + 1 := by
  have hE := evenE_at c i b2 w2 b3 w3 b4 w4 b5 w5 b6 w6 b7 w7 b8 w8 b9 w9 X2 X3 X4 X5 X6 h2 h3 h4 h5 h6 k f8 f9 h8 h9
  have a := val_is (even0 b2 b5 b6 X2 X5 X6 h2 h5 h6 k) (placed_diag _) (keys2 b3 X3 h3 k) hE.s0 b9 _ f9 _ (k0_off22_inb k) ((k0_off22_eq k).trans (vec3 rfl rfl)) (by simp [limAt]) hE.val hE.val
  have b := val_is (even1 b2 b5 b6 X2 X5 X6 h2 h5 h6 k) (placed_diag _) (keys4 b3 X3 h3 k) hE.s1 b9 _ f9 _ (k0_off23_inb k) ((k0_off23_eq k).trans (vec3 rfl rfl)) (by simp [limAt, bump]) a a
  rw [evenD9_eq]
  refine b.trans (whole valTerm_of_le _ (fun kb h hk hh => ?_) fun kb h hk hh => ?_)
  · rw [even_lim]; split_ifs <;> omega
  · rw [even_lim]; split_ifs <;> omega

/-- The odd block of queries after the same blocks of keys. -/
theorem oddO_at : At q κ v d (2 * k.val + 1) (2 * k.val) (oddO c i b2 w2 b3 w3 b4 w4 b5 w5 b6 w6 b7 w7 b8 w8 b9 w9 X2 X3 X4 X5 X6 k f8 f9).1
    (b8.view.read (Elt Ideal) (b8.view.writes (Elt Ideal) f8 ((oddO c i b2 w2 b3 w3 b4 w4 b5 w5 b6 w6 b7 w7 b8 w8 b9 w9 X2 X3 X4 X5 X6 k f8 f9).2.1 ++ evenD8 c i b2 w2 b3 w3 b4 w4 b5 w5 b6 w6 b7 w7 b8 w8 b9 w9 X2 X3 X4 X5 X6 k f8 f9)))
    (b9.view.read (Elt Ideal) (b9.view.writes (Elt Ideal) f9 ((oddO c i b2 w2 b3 w3 b4 w4 b5 w5 b6 w6 b7 w7 b8 w8 b9 w9 X2 X3 X4 X5 X6 k f8 f9).2.2 ++ evenD9 c i b2 w2 b3 w3 b4 w4 b5 w5 b6 w6 b7 w7 b8 w8 b9 w9 X2 X3 X4 X5 X6 k f8 f9))) := by
  have := oddLoop_at c i b2 w2 b3 w3 b4 w4 b5 w5 b6 w6 b7 w7 b8 w8 b9 w9 X3 X4 h3 h4 k (Nat.le_succ _) (odd0 b2 b5 b6 X2 X5 X6 h2 h5 h6 k) (odd1 b2 b5 b6 X2 X5 X6 h2 h5 h6 k) _ _
    (even_keys c i b2 w2 b3 w3 b4 w4 b5 w5 b6 w6 b7 w7 b8 w8 b9 w9 X2 X3 X4 X5 X6 h2 h3 h4 h5 h6 k f8 f9 h8 h9) (even_vals c i b2 w2 b3 w3 b4 w4 b5 w5 b6 w6 b7 w7 b8 w8 b9 w9 X2 X3 X4 X5 X6 h2 h3 h4 h5 h6 k f8 f9 h8 h9) _ le_rfl
  rw [View.writes_append, View.writes_append]
  unfold oddO
  rw [show Scf.trips (k0_t4_loop k).lb (k0_t4_loop k).ub (k0_t4_loop k).st = k.val from odd_trips k]
  rwa [odd_trips k] at this

/-- The odd block's states before and after its diagonal block of keys. -/
theorem odd_state0 : Sums (q 0) (κ 0) (v 0) (d 0) (256 * (2 * k.val + 1)) (256 * (2 * k.val + 1))
      (go false (Odd0 b2 b5 b6 X2 X5 X6 k) (tile b3 X3 (k0_off47_inb k)) (tile b4 X4 (k0_off47_inb k)) (SbStep.fst (oddO c i b2 w2 b3 w3 b4 w4 b5 w5 b6 w6 b7 w7 b8 w8 b9 w9 X2 X3 X4 X5 X6 k f8 f9).1)) :=
  go_is (odd0 b2 b5 b6 X2 X5 X6 h2 h5 h6 k) (placed_off _) (keys47 b3 X3 h3 k) (vals47 b4 X4 h4 k) (oddO_at c i b2 w2 b3 w3 b4 w4 b5 w5 b6 w6 b7 w7 b8 w8 b9 w9 X2 X3 X4 X5 X6 h2 h3 h4 h5 h6 k f8 f9 h8 h9).s0

theorem odd_state1 : Sums (q 1) (κ 1) (v 1) (d 1) (256 * (2 * k.val + 1)) (256 * (2 * k.val + 1))
      (go false (Odd1 b2 b5 b6 X2 X5 X6 k) (tile b3 X3 (k0_off48_inb k)) (tile b4 X4 (k0_off48_inb k)) (SbStep.snd (oddO c i b2 w2 b3 w3 b4 w4 b5 w5 b6 w6 b7 w7 b8 w8 b9 w9 X2 X3 X4 X5 X6 k f8 f9).1)) :=
  go_is (odd1 b2 b5 b6 X2 X5 X6 h2 h5 h6 k) (placed_off _) (keys48 b3 X3 h3 k) (vals48 b4 X4 h4 k) (oddO_at c i b2 w2 b3 w3 b4 w4 b5 w5 b6 w6 b7 w7 b8 w8 b9 w9 X2 X3 X4 X5 X6 h2 h3 h4 h5 h6 k f8 f9 h8 h9).s1

/-- The accumulators after the odd block of queries. -/
theorem odd_keys : b8.view.read (Elt Ideal) ((SbBody.trip c i b2 w2 b3 w3 b4 w4 b5 w5 b6 w6 b7 w7 b8 w8 b9 w9 X2 X3 X4 X5 X6 k).2.1 f8 f9) = acc (keyTerm q κ v d) fun _ _ => 2 * k.val + 2 := by
  have hO := oddO_at c i b2 w2 b3 w3 b4 w4 b5 w5 b6 w6 b7 w7 b8 w8 b9 w9 X2 X3 X4 X5 X6 h2 h3 h4 h5 h6 k f8 f9 h8 h9
  have s0 := odd_state0 c i b2 w2 b3 w3 b4 w4 b5 w5 b6 w6 b7 w7 b8 w8 b9 w9 X2 X3 X4 X5 X6 h2 h3 h4 h5 h6 k f8 f9 h8 h9
  have s1 := odd_state1 c i b2 w2 b3 w3 b4 w4 b5 w5 b6 w6 b7 w7 b8 w8 b9 w9 X2 X3 X4 X5 X6 h2 h3 h4 h5 h6 k f8 f9 h8 h9
  have a := key_is (odd0 b2 b5 b6 X2 X5 X6 h2 h5 h6 k) (placed_off _) (keys47 b3 X3 h3 k) (vals47 b4 X4 h4 k) hO.s0 b8 _ f8 _ (k0_off49_inb k) ((k0_off49_eq k).trans (vec3 rfl rfl)) (by simp [limAt]) hO.key hO.key
  rw [← H8_1_1] at a
  have b := key_is (odd0 b2 b5 b6 X2 X5 X6 h2 h5 h6 k) (placed_diag _) (keys27 b3 X3 h3 k) (vals27 b4 X4 h4 k) s0 b8 _ f8 _ (k0_off50_inb k) ((k0_off50_eq k).trans (vec3 rfl rfl)) (by simp [limAt, bump]) a a
  rw [← H8_2] at b
  have e := key_is (odd1 b2 b5 b6 X2 X5 X6 h2 h5 h6 k) (placed_off _) (keys48 b3 X3 h3 k) (vals48 b4 X4 h4 k) hO.s1 b8 _ f8 _ (k0_off51_inb k) ((k0_off51_eq k).trans (vec3 rfl rfl)) (by simp [limAt, bump]) b b
  rw [← H8_3] at e
  have g := key_is (odd1 b2 b5 b6 X2 X5 X6 h2 h5 h6 k) (placed_diag _) (keys29 b3 X3 h3 k) (vals29 b4 X4 h4 k) s1 b8 _ f8 _ (k0_off52_inb k) ((k0_off52_eq k).trans (vec3 rfl rfl)) (by simp [limAt, bump]) e e
  rw [trip_snd]
  refine g.trans (whole keyTerm_of_le _ (fun kb h hk hh => ?_) fun kb h hk hh => ?_)
  · rw [odd_lim]; split_ifs <;> omega
  · rw [odd_lim]; split_ifs <;> omega

theorem odd_vals : b9.view.read (Elt Ideal) ((SbBody.trip c i b2 w2 b3 w3 b4 w4 b5 w5 b6 w6 b7 w7 b8 w8 b9 w9 X2 X3 X4 X5 X6 k).2.2.1 f8 f9) = acc (valTerm q κ d) fun _ _ => 2 * k.val + 2 := by
  have hO := oddO_at c i b2 w2 b3 w3 b4 w4 b5 w5 b6 w6 b7 w7 b8 w8 b9 w9 X2 X3 X4 X5 X6 h2 h3 h4 h5 h6 k f8 f9 h8 h9
  have s0 := odd_state0 c i b2 w2 b3 w3 b4 w4 b5 w5 b6 w6 b7 w7 b8 w8 b9 w9 X2 X3 X4 X5 X6 h2 h3 h4 h5 h6 k f8 f9 h8 h9
  have s1 := odd_state1 c i b2 w2 b3 w3 b4 w4 b5 w5 b6 w6 b7 w7 b8 w8 b9 w9 X2 X3 X4 X5 X6 h2 h3 h4 h5 h6 k f8 f9 h8 h9
  have a := val_is (odd0 b2 b5 b6 X2 X5 X6 h2 h5 h6 k) (placed_off _) (keys47 b3 X3 h3 k) hO.s0 b9 _ f9 _ (k0_off49_inb k) ((k0_off49_eq k).trans (vec3 rfl rfl)) (by simp [limAt]) hO.val hO.val
  rw [← H9_1_1] at a
  have b := val_is (odd0 b2 b5 b6 X2 X5 X6 h2 h5 h6 k) (placed_diag _) (keys27 b3 X3 h3 k) s0 b9 _ f9 _ (k0_off50_inb k) ((k0_off50_eq k).trans (vec3 rfl rfl)) (by simp [limAt, bump]) a a
  rw [← H9_2] at b
  have e := val_is (odd1 b2 b5 b6 X2 X5 X6 h2 h5 h6 k) (placed_off _) (keys48 b3 X3 h3 k) hO.s1 b9 _ f9 _ (k0_off51_inb k) ((k0_off51_eq k).trans (vec3 rfl rfl)) (by simp [limAt, bump]) b b
  rw [← H9_3] at e
  have g := val_is (odd1 b2 b5 b6 X2 X5 X6 h2 h5 h6 k) (placed_diag _) (keys29 b3 X3 h3 k) s1 b9 _ f9 _ (k0_off52_inb k) ((k0_off52_eq k).trans (vec3 rfl rfl)) (by simp [limAt, bump]) e e
  rw [trip_thd]
  refine g.trans (whole valTerm_of_le _ (fun kb h hk hh => ?_) fun kb h hk hh => ?_)
  · rw [odd_lim]; split_ifs <;> omega
  · rw [odd_lim]; split_ifs <;> omega

/-- The written block after the pair: the gradients of 512 more queries. -/
theorem trip_queries (h7 : ∀ y : S3x2048x128.Idx, (y 0).val = 0 → (y 1).val < 512 * k.val → b7.view.read (Elt Ideal) f7 y = grads q κ v d y)
    (y : S3x2048x128.Idx) (y0 : (y 0).val = 0) (y1 : (y 1).val < 512 * (k.val + 1)) :
    b7.view.read (Elt Ideal) ((SbBody.trip c i b2 w2 b3 w3 b4 w4 b5 w5 b6 w6 b7 w7 b8 w8 b9 w9 X2 X3 X4 X5 X6 k).1 f7 f8 f9) y = grads q κ v d y := by
  have hk : k.val < 4 := lt_of_lt_of_eq k.isLt (by decide)
  have hE := even_states c i b2 w2 b3 w3 b4 w4 b5 w5 b6 w6 b7 w7 b8 w8 b9 w9 X2 X3 X4 X5 X6 h2 h3 h4 h5 h6 k f8 f9 h8 h9
  have o0 := go_is (odd0 b2 b5 b6 X2 X5 X6 h2 h5 h6 k) (placed_diag _) (keys27 b3 X3 h3 k) (vals27 b4 X4 h4 k) (odd_state0 c i b2 w2 b3 w3 b4 w4 b5 w5 b6 w6 b7 w7 b8 w8 b9 w9 X2 X3 X4 X5 X6 h2 h3 h4 h5 h6 k f8 f9 h8 h9)
  have o1 := go_is (odd1 b2 b5 b6 X2 X5 X6 h2 h5 h6 k) (placed_diag _) (keys29 b3 X3 h3 k) (vals29 b4 X4 h4 k) (odd_state1 c i b2 w2 b3 w3 b4 w4 b5 w5 b6 w6 b7 w7 b8 w8 b9 w9 X2 X3 X4 X5 X6 h2 h3 h4 h5 h6 k f8 f9 h8 h9)
  rw [trip_fst]
  have hy := (y 2).isLt
  refine agree_query (n := 2 * k.val + 1) (h := 1) b7 f7 _
    (D := fun y => (y 0).val = 0 ∧ ((y 1).val < 512 * k.val + 256 ∨ ((y 1).val < 512 * k.val + 512 ∧ (y 2).val / 64 = 0)))
    (D' := fun y => (y 0).val = 0 ∧ (y 1).val < 512 * k.val + 512) ?_ (k0_off54_inb k) ((k0_off54_eq k).trans (vecq (by omega) rfl)) _
    (scaled_is o1 (by omega)) (fun y hy => ?_) y ⟨y0, by omega⟩
  swap
  · have : (y 2).val < 128 := (y 2).isLt
    omega
  refine agree_query (n := 2 * k.val + 1) (h := 0) b7 f7 _
    (D := fun y => (y 0).val = 0 ∧ (y 1).val < 512 * k.val + 256) ?_ (k0_off53_inb k) ((k0_off53_eq k).trans (vecq (by omega) rfl)) _
    (scaled_is o0 (by omega)) (fun y hy => ?_)
  swap
  · have : (y 2).val < 128 := (y 2).isLt
    omega
  refine agree_query (n := 2 * k.val) (h := 1) b7 f7 _
    (D := fun y => (y 0).val = 0 ∧ ((y 1).val < 512 * k.val ∨ ((y 1).val < 512 * k.val + 256 ∧ (y 2).val / 64 = 0)))
    ?_ (k0_off25_inb k) ((k0_off25_eq k).trans (vecq (by omega) rfl)) _
    (scaled_is hE.2 (by omega)) (fun y hy => ?_)
  swap
  · have : (y 2).val < 128 := (y 2).isLt
    omega
  refine agree_query (n := 2 * k.val) (h := 0) b7 f7 _
    (D := fun y => (y 0).val = 0 ∧ (y 1).val < 512 * k.val) ?_ (k0_off24_inb k) ((k0_off24_eq k).trans (vecq (by omega) rfl)) _
    (scaled_is hE.1 (by omega)) (fun y hy => ?_)
  swap
  · have : (y 2).val < 128 := (y 2).isLt
    omega
  exact fun y hy => h7 y hy.1 hy.2

end

end Cert.SbTrip

end
-- ==== Proof.SbWorks.lean ====
module

public import proofs.«01_k».proof.Proof.SbTrip
public import proofs.«01_k».proof.Proof.SbFrame

/-!
# The block the kernel writes

After the loop the accumulators hold the keys' and values' gradients, the columns of a block beside one another; the body
turns them and writes them under the queries' gradients.
-/

@[expose] public section

noncomputable section

namespace Cert.SbWorks

open Idealize.ShloMosaic Idealize.ShloMosaic.TcCoe Cert.SbBwdIdeal Cert.SbBwdIdeal.Gen
open Cert.SbReal Cert.SbAcc Cert.SbTrip

section Any

variable {F : FTy → Type} [FloatOps F]

/-- One block of an accumulator, turned. -/
abbrev turned (m : Memref sig .tc .vmem S8x128x256 .f32) (f : BufTy.Contents (Elt F) m.view.ty) (b : ℕ) (hb : b < 8) : FVec F S1x256x128 .bf16 :=
  shapeCast S1x256x128 (truncf .bf16 (transpose S256x128 [1, 0] (shapeCast S128x256
    (View.readAt (Elt F) m.view (Rect.unit (s := S8x128x256) ![b, 0, 0] S1x128x256.size (fun a => by
      match a with
      | 0 => show b + 1 ≤ 8; omega
      | 1 => show 0 + 128 ≤ 128; omega
      | 2 => show 0 + 256 ≤ 256; omega)).toLoadRect f : Vec F S1x128x256 .f32)
    shapeCasts_S1x128x256_S128x256) transposes_S128x256_p1_0_S256x128) bitsLt_bf16_f32) shapeCasts_S256x128_S1x256x128

/-- A turned block's place. -/
abbrev row (s b : ℕ) (hs : s < 3) (hb : b < 8) (w : FVec F S1x256x128 .bf16) : View.Piece (Elt F) S3x2048x128 .bf16 :=
  ⟨Rect.unit (s := S3x2048x128) ![s, 256 * b, 0] S1x256x128.size (fun a => by
      match a with
      | 0 => show s + 1 ≤ 3; omega
      | 1 => show 256 * b + 256 ≤ 2048; omega
      | 2 => show 0 + 128 ≤ 128; omega), w⟩

/-- The first blocks of both accumulators, last first. -/
def rows (m8 m9 : Memref sig .tc .vmem S8x128x256 .f32) (g8 : BufTy.Contents (Elt F) m8.view.ty) (g9 : BufTy.Contents (Elt F) m9.view.ty) :
    (b : ℕ) → b ≤ 8 → List (View.Piece (Elt F) S3x2048x128 .bf16)
  | 0, _ => []
  | b + 1, hb => row 2 b (by decide) hb (turned m9 g9 b hb) :: row 1 b (by decide) hb (turned m8 g8 b hb) :: rows m8 m9 g8 g9 b (Nat.le_of_succ_le hb)

variable (c : Dev nD) (i : grid0.Coords)
  (b2 : Memref sig .tc .vmem S2048x128 .bf16) (w2 : b2.IsWhole)
  (b3 : Memref sig .tc .vmem S2048x128 .bf16) (w3 : b3.IsWhole)
  (b4 : Memref sig .tc .vmem S2048x128 .bf16) (w4 : b4.IsWhole)
  (b5 : Memref sig .tc .vmem S2048x128 .bf16) (w5 : b5.IsWhole)
  (b6 : Memref sig .tc .vmem S2048x128 .f32) (w6 : b6.IsWhole)
  (b7 : Memref sig .tc .vmem S3x2048x128 .bf16) (w7 : b7.IsWhole)
  (b8 : Memref sig .tc .vmem S8x128x256 .f32) (w8 : b8.IsWhole)
  (b9 : Memref sig .tc .vmem S8x128x256 .f32) (w9 : b9.IsWhole)
  (X2 : BufTy.Contents (Elt F) b2.view.ty) (X3 : BufTy.Contents (Elt F) b3.view.ty)
  (X4 : BufTy.Contents (Elt F) b4.view.ty) (X5 : BufTy.Contents (Elt F) b5.view.ty)
  (X6 : BufTy.Contents (Elt F) b6.view.ty)

set_option maxHeartbeats 4000000 in
/-- What the body does to the written block after its loop. -/
theorem body_eq (g7 : BufTy.Contents (Elt F) b7.view.ty) (g8 : BufTy.Contents (Elt F) b8.view.ty) (g9 : BufTy.Contents (Elt F) b9.view.ty) :
    (SbBody.body c i b2 w2 b3 w3 b4 w4 b5 w5 b6 w6 b7 w7 b8 w8 b9 w9 X2 X3 X4 X5 X6).1 g7 g8 g9 = b7.view.writes (Elt F) g7 (rows b8 b9 g8 g9 8 le_rfl) := by
  delta SbBody.body
  rfl

end Any

variable {q κ v d : ℕ → ℕ → Fin 64 → ℝ}

/-- Turning swaps rows and columns. -/
theorem turn_at (w : FVec Ideal S1x128x256 .f32) (r : Fin 256) (e : Fin 128) :
    shapeCast S1x256x128 (truncf .bf16 (transpose S256x128 [1, 0] (shapeCast S128x256 w shapeCasts_S1x128x256_S128x256)
      transposes_S128x256_p1_0_S256x128) bitsLt_bf16_f32) shapeCasts_S256x128_S1x256x128 (ix3 0 r e) = w (ix3 0 e r) := by
  pointwise []

/-- A turned block at an index. -/
theorem turned_at (m : Memref sig .tc .vmem S8x128x256 .f32) (f : BufTy.Contents (Elt Ideal) m.view.ty) (b : ℕ) (hb : b < 8) (r : Fin 256) (e : Fin 128) :
    turned m f b hb (ix3 0 r e) = m.view.read (Elt Ideal) f (ix3 ⟨b, hb⟩ e r) := by
  refine (turn_at _ r e).trans ?_
  show m.view.read (Elt Ideal) f _ = _
  refine congrArg (m.view.read (Elt Ideal) f) (funext fun a => Fin.ext ?_)
  match a with
  | 0 => show b + 1 * 0 = b; omega
  | 1 => show 0 + 1 * e.val = e.val; omega
  | 2 => show 0 + 1 * r.val = r.val; omega

/-- The accumulators full, a turned block holds gradients. -/
theorem acc_at_full (g : ℕ → ℕ → Fin 64 → ℕ → ℝ) (b : Fin 8) (e : Fin 128) (r : Fin 256) :
    acc g (fun _ _ => 8) (ix3 b e r) = ((∑ i ∈ Finset.range 2048, g (e.val / 64) i ⟨e.val % 64, Nat.mod_lt _ (by decide)⟩ (256 * b.val + r.val) : ℝ) : EReal) := rfl

/-- One more turned block. -/
theorem agree_row (m : Memref sig .tc .vmem S3x2048x128 .bf16) (f : BufTy.Contents (Elt Ideal) m.view.ty) (L : List (View.Piece (Elt Ideal) S3x2048x128 .bf16))
    {D D' : S3x2048x128.Idx → Prop} (hL : ∀ y, D y → m.view.read (Elt Ideal) (m.view.writes (Elt Ideal) f L) y = grads q κ v d y)
    (s b : ℕ) (hs : s < 3) (hb : b < 8) (w : FVec Ideal S1x256x128 .bf16)
    (hw : ∀ (r : Fin 256) (e : Fin 128), w (ix3 0 r e) = grads q κ v d (ix3 ⟨s, hs⟩ ⟨256 * b + r.val, by have := r.isLt; omega⟩ e))
    (hD : ∀ y : S3x2048x128.Idx, D' y → D y ∨ ((y 0).val = s ∧ 256 * b ≤ (y 1).val ∧ (y 1).val < 256 * b + 256))
    (y : S3x2048x128.Idx) (hy : D' y) :
    m.view.read (Elt Ideal) (m.view.writes (Elt Ideal) f (row s b hs hb w :: L)) y = grads q κ v d y := by
  refine agree_cons m f L (grads q κ v d) hL _ rfl w (fun y hy => ?_) (fun y hy => (hD y hy).imp id fun ⟨a, b, c⟩ i => ?_) y hy
  · have h0 : s ≤ (y 0).val ∧ (y 0).val < s + 1 := hy 0
    have h1 : 256 * b ≤ (y 1).val ∧ (y 1).val < 256 * b + 256 := hy 1
    have h2 : 0 ≤ (y 2).val ∧ (y 2).val < 0 + 128 := hy 2
    refine Eq.trans (congrArg w ?_) ((hw ⟨(y 1).val - 256 * b, by omega⟩ ⟨(y 2).val, by omega⟩).trans (congrArg (grads q κ v d) ?_))
    · refine funext fun a => Fin.ext ?_
      match a with
      | 0 => show (y 0).val - s = 0; omega
      | 1 => rfl
      | 2 => rfl
    · refine funext fun a => Fin.ext ?_
      match a with
      | 0 => show s = (y 0).val; omega
      | 1 => show 256 * b + ((y 1).val - 256 * b) = (y 1).val; omega
      | 2 => rfl
  · match i with
    | 0 => show s ≤ (y 0).val ∧ (y 0).val < s + 1; omega
    | 1 => exact ⟨b, c⟩
    | 2 => exact ⟨Nat.zero_le _, (y 2).isLt⟩

/-- After the turned blocks the written block holds all three gradients. -/
theorem rows_agree (m : Memref sig .tc .vmem S3x2048x128 .bf16) (m8 m9 : Memref sig .tc .vmem S8x128x256 .f32) (g7 : BufTy.Contents (Elt Ideal) m.view.ty)
    (g8 : BufTy.Contents (Elt Ideal) m8.view.ty) (g9 : BufTy.Contents (Elt Ideal) m9.view.ty)
    (h7 : ∀ y : S3x2048x128.Idx, (y 0).val = 0 → m.view.read (Elt Ideal) g7 y = grads q κ v d y)
    (h8 : m8.view.read (Elt Ideal) g8 = acc (keyTerm q κ v d) fun _ _ => 8) (h9 : m9.view.read (Elt Ideal) g9 = acc (valTerm q κ d) fun _ _ => 8)
    (b : ℕ) (hb : b ≤ 8) (y : S3x2048x128.Idx) (hy : (y 0).val = 0 ∨ (y 1).val < 256 * b) :
    m.view.read (Elt Ideal) (m.view.writes (Elt Ideal) g7 (rows m8 m9 g8 g9 b hb)) y = grads q κ v d y := by
  induction b generalizing y with
  | zero => exact h7 y (by omega)
  | succ b ih =>
    refine agree_row (D := fun y => ((y 0).val = 0 ∨ (y 1).val < 256 * b) ∨ ((y 0).val = 1 ∧ (y 1).val < 256 * (b + 1)))
      (D' := fun y => (y 0).val = 0 ∨ (y 1).val < 256 * (b + 1)) m g7 _ ?_ 2 b (by decide) hb _ (fun r e => ?_) (fun y hy => ?_) y hy
    · refine agree_row (D := fun y => (y 0).val = 0 ∨ (y 1).val < 256 * b) m g7 _ (fun y hy => ih (Nat.le_of_succ_le hb) y hy) 1 b (by decide) hb _ (fun r e => ?_) (fun y hy => ?_)
      · rw [turned_at, h8, acc_at_full]; rfl
      · omega
    · rw [turned_at, h9, acc_at_full]; rfl
    · have : (y 0).val < 3 := (y 0).isLt
      omega

/-- What the loop keeps: the queries' gradients done so far, and their part of the keys' and the values'. -/
def Inv (q κ v d : ℕ → ℕ → Fin 64 → ℝ) (m7 : Memref sig .tc .vmem S3x2048x128 .bf16) (m8 m9 : Memref sig .tc .vmem S8x128x256 .f32) (T : ℕ)
    (g7 : BufTy.Contents (Elt Ideal) m7.view.ty) (g8 : BufTy.Contents (Elt Ideal) m8.view.ty) (g9 : BufTy.Contents (Elt Ideal) m9.view.ty) : Prop :=
  (∀ y : S3x2048x128.Idx, (y 0).val = 0 → (y 1).val < 512 * T → m7.view.read (Elt Ideal) g7 y = grads q κ v d y)
    ∧ m8.view.read (Elt Ideal) g8 = acc (keyTerm q κ v d) (fun _ _ => 2 * T) ∧ m9.view.read (Elt Ideal) g9 = acc (valTerm q κ d) fun _ _ => 2 * T

/-- No queries: nothing summed. -/
theorem acc_none (g : ℕ → ℕ → Fin 64 → ℕ → ℝ) : acc g (fun _ _ => 2 * 0) = k0_pay350 (F := Ideal) := by
  refine funext fun y => ?_
  have : (k0_pay350 (F := Ideal)) y = 0 := by
    obtain ⟨a, b, e, rfl⟩ : ∃ a b e, y = ix3 a b e := ⟨y 0, y 1, y 2, by funext i; match i with | 0 => rfl | 1 => rfl | 2 => rfl⟩
    pointwise [k0_pay350]
  rw [this]
  unfold acc
  rw [show 256 * (2 * 0) = 0 from rfl, Finset.range_zero, Finset.sum_empty, EReal.coe_zero]

variable (c : Dev nD) (i : grid0.Coords)
  (b2 : Memref sig .tc .vmem S2048x128 .bf16) (w2 : b2.IsWhole)
  (b3 : Memref sig .tc .vmem S2048x128 .bf16) (w3 : b3.IsWhole)
  (b4 : Memref sig .tc .vmem S2048x128 .bf16) (w4 : b4.IsWhole)
  (b5 : Memref sig .tc .vmem S2048x128 .bf16) (w5 : b5.IsWhole)
  (b6 : Memref sig .tc .vmem S2048x128 .f32) (w6 : b6.IsWhole)
  (b7 : Memref sig .tc .vmem S3x2048x128 .bf16) (w7 : b7.IsWhole)
  (b8 : Memref sig .tc .vmem S8x128x256 .f32) (w8 : b8.IsWhole)
  (b9 : Memref sig .tc .vmem S8x128x256 .f32) (w9 : b9.IsWhole)
  (X2 : BufTy.Contents (Elt Ideal) b2.view.ty) (X3 : BufTy.Contents (Elt Ideal) b3.view.ty)
  (X4 : BufTy.Contents (Elt Ideal) b4.view.ty) (X5 : BufTy.Contents (Elt Ideal) b5.view.ty)
  (X6 : BufTy.Contents (Elt Ideal) b6.view.ty)
  (h2 : b2.view.read (Elt Ideal) X2 = beside q) (h3 : b3.view.read (Elt Ideal) X3 = beside κ)
  (h4 : b4.view.read (Elt Ideal) X4 = beside v) (h5 : b5.view.read (Elt Ideal) X5 = beside d)
  (h6 : b6.view.read (Elt Ideal) X6 = beside fun h i _ => N (q h) (κ h) i)
include h2 h3 h4 h5 h6

/-- The loop keeps it. -/
theorem kept : SbBody.Kept c i b2 w2 b3 w3 b4 w4 b5 w5 b6 w6 b7 w7 b8 w8 b9 w9 X2 X3 X4 X5 X6 (Inv q κ v d b7 b8 b9) where
  start f7 f8 f9 e8 e9 := ⟨fun y _ hy => absurd hy (by omega), e8.trans (acc_none _).symm, e9.trans (acc_none _).symm⟩
  next k f7 f8 f9 h :=
    ⟨trip_queries c i b2 w2 b3 w3 b4 w4 b5 w5 b6 w6 b7 w7 b8 w8 b9 w9 X2 X3 X4 X5 X6 h2 h3 h4 h5 h6 k f7 f8 f9 h.2.1 h.2.2 h.1,
      odd_keys c i b2 w2 b3 w3 b4 w4 b5 w5 b6 w6 b7 w7 b8 w8 b9 w9 X2 X3 X4 X5 X6 h2 h3 h4 h5 h6 k f8 f9 h.2.1 h.2.2, odd_vals c i b2 w2 b3 w3 b4 w4 b5 w5 b6 w6 b7 w7 b8 w8 b9 w9 X2 X3 X4 X5 X6 h2 h3 h4 h5 h6 k f8 f9 h.2.1 h.2.2⟩

omit h2 h3 h4 h5 h6 in
/-- The block the body leaves. -/
theorem left (g7 : BufTy.Contents (Elt Ideal) b7.view.ty) (g8 : BufTy.Contents (Elt Ideal) b8.view.ty) (g9 : BufTy.Contents (Elt Ideal) b9.view.ty)
    (h : Inv q κ v d b7 b8 b9 k0_t1_loop.trips g7 g8 g9) :
    b7.view.read (Elt Ideal) ((SbBody.body c i b2 w2 b3 w3 b4 w4 b5 w5 b6 w6 b7 w7 b8 w8 b9 w9 X2 X3 X4 X5 X6).1 g7 g8 g9) = grads q κ v d := by
  rw [show k0_t1_loop.trips = 4 by decide] at h
  rw [body_eq]
  exact funext fun y => rows_agree b7 b8 b9 g7 g8 g9 (fun y hy => h.1 y hy (y 1).isLt) h.2.1 h.2.2 8 le_rfl y (Or.inr (y 1).isLt)

end Cert.SbWorks

namespace Cert.SbWorks

open Idealize.ShloMosaic Idealize.ShloMosaic.TcCoe Cert.SbBwdIdeal Cert.SbBwdIdeal.Gen
open Cert.SbReal Cert.SbAcc Cert.SbTrip

/-- At a point whose blocks hold two heads' data, the body leaves their gradients. -/
theorem works (m : (ℓ : Loc nD τ sig) → Buf (Elt Ideal) ℓ) (c : Dev nD) (t : Fin cfg0.N) {q κ v d : ℕ → ℕ → Fin 64 → ℝ}
    (h0 : iblk m c 0 t = beside q) (h1 : iblk m c 1 t = beside κ) (h2 : iblk m c 2 t = beside v) (h3 : iblk m c 3 t = beside d)
    (h4 : iblk m c 4 t = beside fun h i _ => N (q h) (κ h) i) : SbFrame.Works m c t fun X => X = grads q κ v d := by
  intro X2 X3 X4 X5 X6 e2 e3 e4 e5 e6
  exact ⟨_, kept _ _ _ _ _ _ _ _ _ _ _ _ _ _ _ _ _ _ X2 X3 X4 X5 X6 (e2.trans h0) (e3.trans h1) (e4.trans h2) (e5.trans h3) (e6.trans h4),
    fun g7 g8 g9 h => left _ _ _ _ _ _ _ _ _ _ _ _ _ _ _ _ _ _ X2 X3 X4 X5 X6 g7 g8 g9 h⟩

end Cert.SbWorks

end
end
-- ==== Proof.SbArray.lean ====
module

public import proofs.«01_k».proof.Proof.SbHost
public import proofs.«01_k».proof.Proof.SbWorks

/-!
# What the kernel of the stick-breaking attention's gradient leaves in its result
-/

@[expose] public section

noncomputable section

namespace Cert.SbArray

open Idealize.ShloMosaic Idealize.ShloMosaic.TcCoe Idealize.SL.Sem Cert.Reals Cert.SbReal Cert.SbData Cert.SbHost Cert.SbAcc Cert.SbBwdIdeal Cert.SbBwdIdeal.Gen
open Cert.NormRef (up)

theorem lt16 (t : Fin cfg0.N) : t.val < 16 := lt_of_lt_of_eq t.isLt (show cfg0.N = 16 from N_0)

theorem idx0 : ∀ t : Fin grid0.N, win0_0.index t = ![t.val / 8, t.val % 8] := by decide +kernel
theorem idx1 : ∀ t : Fin grid0.N, win0_1.index t = ![t.val / 8, 8 + t.val % 8] := by decide +kernel
theorem idx2 : ∀ t : Fin grid0.N, win0_2.index t = ![t.val / 8, 16 + t.val % 8] := by decide +kernel
theorem idx3 : ∀ t : Fin grid0.N, win0_3.index t = ![t.val / 8, t.val % 8] := by decide +kernel
theorem idx4 : ∀ t : Fin grid0.N, win0_4.index t = ![t.val / 8, t.val % 8] := by decide +kernel
theorem idx5 : ∀ t : Fin grid0.N, win0_5.index t = ![0, t.val / 8, t.val % 8] := by decide +kernel

variable {m : (ℓ : Loc nD τ sig) → Buf (Elt Ideal) ℓ} {c : Dev nD} {x : S4096x3072.Idx → ℝ} {y : S4096x1024.Idx → ℝ}

/-- The two heads of point `t`. -/
abbrev pair {R C : ℕ} (x : (⟨2, ![R, C]⟩ : Shape).Idx → ℝ) (s : ℕ) (t : Fin cfg0.N) : ℕ → ℕ → Fin 64 → ℝ := fun h => part x s (t.val / 8) (2 * (t.val % 8) + h)

theorem blk0 (hm : Holds m c x y) (t : Fin cfg0.N) : iblk m c 0 t = beside (pair x 0 t) := by
  funext i
  idx_vars i
  blk_simp [iblk, idx0 t]
  rw [V_main_arg0, hm.x]
  refine congrArg ((↑) : ℝ → EReal) (cell_eq x _ _ _ ?_ ?_)
  · blk_simp [idx0 t]; omega
  · blk_simp [idx0 t]; dsimp only; omega

theorem blk1 (hm : Holds m c x y) (t : Fin cfg0.N) : iblk m c 1 t = beside (pair x 1 t) := by
  funext i
  idx_vars i
  blk_simp [iblk, idx1 t]
  rw [V_main_arg0, hm.x]
  refine congrArg ((↑) : ℝ → EReal) (cell_eq x _ _ _ ?_ ?_)
  · blk_simp [idx1 t]; omega
  · blk_simp [idx1 t]; dsimp only; omega

theorem blk2 (hm : Holds m c x y) (t : Fin cfg0.N) : iblk m c 2 t = beside (pair x 2 t) := by
  funext i
  idx_vars i
  blk_simp [iblk, idx2 t]
  rw [V_main_arg0, hm.x]
  refine congrArg ((↑) : ℝ → EReal) (cell_eq x _ _ _ ?_ ?_)
  · blk_simp [idx2 t]; omega
  · blk_simp [idx2 t]; dsimp only; omega

theorem blk3 (hm : Holds m c x y) (t : Fin cfg0.N) : iblk m c 3 t = beside (pair y 0 t) := by
  funext i
  idx_vars i
  blk_simp [iblk, idx3 t]
  rw [V_main_arg1, hm.y]
  refine congrArg ((↑) : ℝ → EReal) (cell_eq y _ _ _ ?_ ?_)
  · blk_simp [idx3 t]; omega
  · blk_simp [idx3 t]; dsimp only; omega

theorem blk4 (hm : Holds m c x y) (t : Fin cfg0.N) : iblk m c 4 t = beside fun h i _ => N (pair x 0 t h) (pair x 1 t h) i := by
  have ht := lt16 t
  funext i
  idx_vars i
  blk_simp [iblk, idx4 t]
  rw [show ((View.whole main_v21).slice (win0_4.rect t)).emb (ix2 i0 i1) = ix2 ⟨t.val / 8 * 2048 + i0.val, by omega⟩ ⟨t.val % 8 * 128 + i1.val, by omega⟩ by blk_ext [idx4 t],
    total hm]
  unfold beside pair
  have e1 : (t.val / 8 * 2048 + i0.val) / 2048 = t.val / 8 := by omega
  have e2 : (t.val / 8 * 2048 + i0.val) % 2048 = i0.val := by omega
  have e3 : (t.val % 8 * 128 + i1.val) / 64 = 2 * (t.val % 8) + i1.val / 64 := by omega
  simp only [e1, e2, e3]
  rfl

/-- The three gradients at point `t`. -/
def out (x : S4096x3072.Idx → ℝ) (y : S4096x1024.Idx → ℝ) (t : Fin cfg0.N) : S3x2048x128.Idx → EReal :=
  Cert.SbTrip.grads (pair x 0 t) (pair x 1 t) (pair x 2 t) (pair y 0 t)

theorem works (hm : Holds m c x y) (t : Fin cfg0.N) : Cert.SbFrame.Works m c t fun X => X = out x y t :=
  Cert.SbWorks.works m c t (blk0 hm t) (blk1 hm t) (blk2 hm t) (blk3 hm t) (blk4 hm t)

/-- The three gradients, as one array. -/
def wanted (x : S4096x3072.Idx → ℝ) (y : S4096x1024.Idx → ℝ) : S3x4096x1024.Idx → EReal := fun i => (result x y (i 0) (i 1) (i 2) : EReal)

theorem out_eq (t : Fin cfg0.N) (i0 : Fin 3) (i1 : Fin 2048) (i2 : Fin 128) : out x y t (ix3 i0 i1 i2)
    = (result x y i0 (t.val / 8 * 2048 + i1) (t.val % 8 * 128 + i2) : EReal) := by
  have ht := lt16 t
  have e1 : (t.val / 8 * 2048 + i1.val) / 2048 = t.val / 8 := by omega
  have e2 : (t.val / 8 * 2048 + i1.val) % 2048 = i1.val := by omega
  have e3 : (t.val % 8 * 128 + i2.val) / 64 = 2 * (t.val % 8) + i2.val / 64 := by omega
  have e4 : (t.val % 8 * 128 + i2.val) % 64 = i2.val % 64 := by omega
  unfold out Cert.SbTrip.grads result
  simp only [e1, e2, e3, e4]
  show (if i0.val = 0 then _ else if i0.val = 1 then _ else _) = _
  split_ifs <;> rfl

theorem final (blocks : Cert.SbFrame.Blocks Ideal) (hb : ∀ t, blocks c t = out x y t) :
    (Cert.SbFrame.dats m blocks 0 c).arrAt 5 cfg0.N = wanted x y := by
  refine (Cert.SbFrame.dats m blocks 0 c).arrAt_eq_of_covers 5 _ (by decide +kernel) fun t hf y => ?_
  blk_simp
  rw [Cert.SbFrame.after5, hb]
  idx_vars y
  have ht := lt16 t
  rw [show ((View.whole main_v22).slice (win0_5.rect t)).emb (ix3 y0 y1 y2)
      = ix3 y0 ⟨t.val / 8 * 2048 + y1.val, by omega⟩ ⟨t.val % 8 * 128 + y2.val, by omega⟩ by blk_ext [idx5 t], out_eq]
  rfl

theorem reference : Cert.SbGradIdeal.Read.val_main_v59 (F := Ideal) (up x) (up y) = wanted x y := by
  funext i
  idx_vars i
  exact Cert.SbRef.v59 x y i0 i1 i2

end Cert.SbArray
end
end
-- ==== Proof.SbClaim.lean ====
module

public import proofs.«01_k».proof.Proof.SbFrames
public import proofs.«01_k».proof.Proof.SbArray
public import proofs.«01_k».proof.Proof.Finite
public import proofs.«01_k».proof.Proof.Gen.Pre_sb_finite

/-!
# The claim about the values of the stick-breaking attention's gradient
-/

@[expose] public section

noncomputable section

namespace Cert.SbClaim

open Idealize.ShloMosaic Idealize.ShloMosaic.TcCoe Idealize.SL.Sem Cert.Finite

/-- The precondition says that both arguments hold real numbers. -/
theorem holds_of_pre (m : (ℓ : Loc SbBwdIdeal.nD SbBwdIdeal.τ SbBwdIdeal.sig) → Buf (Elt Ideal) ℓ) (h : Pre_SbBwdIdeal_sb_finite m)
    (c : Dev SbBwdIdeal.nD) : ∃ x y, SbHost.Holds m c x y := by
  have hc := congrFun (h c) (Shape.Idx.first Pre_sb_finite.Gen.h_S_)
  dsimp only [Pre_sb_finite.fn] at hc
  obtain ⟨e0, e1⟩ := IntOp.andi_eq_one.1 hc
  exact ⟨_, _, eq_reals _ _ _ _ _ _ e0, eq_reals _ _ _ _ _ _ e1⟩

theorem equal : Cert.algebraic_SbBwdIdeal_SbGradIdeal_pre_sb_finite := by
  intro m ρ m' ρ' hpre hagree
  choose x y hm using holds_of_pre m hpre
  refine ⟨fun c => SbArray.wanted (x c) (y c), ?_, ?_⟩
  · refine (θ_run SbBwdIdeal.defs _ _).mono (fun r h c => ?_)
      (SbFrame.run m ρ (fun c t => SbArray.out (x c) (y c) t) fun c t => SbArray.works (hm c) t)
    refine ⟨((h.1 c).1 5).trans (SbArray.final _ fun _ => rfl), ?_, ?_⟩
    · exact ((h.1 c).1 2).trans (((SbFrame.dats m _ 0 c).arrAt_in 2 rfl _).trans ((SbFrame.A_eq m _ c 2).trans (SbBwdIdeal.Gen.V_main_arg0 m c)))
    · exact ((h.1 c).1 3).trans (((SbFrame.dats m _ 0 c).arrAt_in 3 rfl _).trans ((SbFrame.A_eq m _ c 3).trans (SbBwdIdeal.Gen.V_main_arg1 m c)))
  · refine (θ_run SbGradIdeal.defs _ _).mono (fun _ h c => ?_) (SbGradIdeal.Value.run (F := Ideal) m' ρ')
    obtain ⟨a0, a1⟩ := hagree c
    obtain ⟨h0, hk⟩ := h c
    refine ⟨h0.trans ?_, hk⟩
    rw [SbGradIdeal.Read.val_main_v59_eq]
    exact (congrArg₂ (SbGradIdeal.Read.val_main_v59 (F := Ideal)) (a0.trans (hm c).x) (a1.trans (hm c).y)).trans SbArray.reference

end Cert.SbClaim

end
end
-- ==== Proof.AaChain.lean ====
module

public import proofs.«01_k».proof.Proof.Gen.AaBwdIdeal.Value

/-!
# One block of queries against its window of keys

The kernel takes 256 queries of one head at a time, against a window of 256, 512 or 768 keys. The functions below are what
it computes of them, for any of the three widths.
-/

@[expose] public section

noncomputable section

namespace Cert.AaChain

open Idealize.ShloMosaic Idealize.ShloMosaic.TcCoe Cert.AaBwdIdeal Cert.AaBwdIdeal.Gen

variable {F : FTy → Type} [FloatOps F]

/-- The shapes of a window of `n` keys. -/
abbrev Scores (n : ℕ) : Shape := ⟨2, ![256, n]⟩
abbrev Scores1 (n : ℕ) : Shape := ⟨3, ![1, 256, n]⟩
abbrev Keys (n : ℕ) : Shape := ⟨2, ![n, 64]⟩
abbrev KeysT (n : ℕ) : Shape := ⟨2, ![64, n]⟩

/-- What the operations on a window of `n` keys need of the shapes. -/
structure Wide (n : ℕ) where
  nt : DotDims S256x64 (Keys n) (Scores n)
  nn : DotDims (Scores n) (Keys n) S256x64
  tn : DotDims S64x256 (Scores n) (KeysT n)
  red : (Scores n).Reduces [1] S256
  bc : S256x1.Broadcasts (Scores n)
  flat : (Scores1 n).ShapeCasts (Scores n)
  unflat : (Scores n).ShapeCasts (Scores1 n)
  same : (KeysT n).ShapeCasts (KeysT n)

def w256 : Wide 256 := ⟨dot_S256x64_S256x64_S256x256_1_1_0_0_n_n, dot_S256x256_S256x64_S256x64_1_0_0_1_n_n, dot_S64x256_S256x256_S64x256_1_0_0_1_n_n,
  reduces_S256x256_S256, broadcasts_S256x1_S256x256, shapeCasts_S1x256x256_S256x256, shapeCasts_S256x256_S1x256x256, shapeCasts_S64x256_S64x256⟩

def w512 : Wide 512 := ⟨dot_S256x64_S512x64_S256x512_1_1_0_0_n_n, dot_S256x512_S512x64_S256x64_1_0_0_1_n_n, dot_S64x256_S256x512_S64x512_1_0_0_1_n_n,
  reduces_S256x512_S256, broadcasts_S256x1_S256x512, shapeCasts_S1x256x512_S256x512, shapeCasts_S256x512_S1x256x512, shapeCasts_S64x512_S64x512⟩

def w768 : Wide 768 := ⟨dot_S256x64_S768x64_S256x768_1_1_0_0_n_n, dot_S256x768_S768x64_S256x64_1_0_0_1_n_n, dot_S64x256_S256x768_S64x768_1_0_0_1_n_n,
  reduces_S256x768_S256, broadcasts_S256x1_S256x768, shapeCasts_S1x256x768_S256x768, shapeCasts_S256x768_S1x256x768, shapeCasts_S64x768_S64x768⟩

variable {n : ℕ} (w : Wide n)

/-- A row's sum, in every column. -/
def sums (x : FVec F (Scores n) .f32) : FVec F (Scores n) .f32 :=
  broadcastTo (Scores n) (shapeCast S256x1 (multiReduction .add [1] S256 x 0x00000000#32 w.red (.inl rfl) rfl) shapeCasts_S256_S256x1) w.bc

/-- A row's largest entry, in every column. -/
def peaks (x : FVec F (Scores n) .f32) : FVec F (Scores n) .f32 :=
  broadcastTo (Scores n) (shapeCast S256x1 (multiReduction .maximumf [1] S256 x 0xFF800000#32 w.red (.inl rfl) rfl) shapeCasts_S256_S256x1) w.bc

/-- The products of queries with keys. -/
def dots (q : FVec F S256x64 .bf16) (k : FVec F (Keys n) .bf16) : FVec F (Scores n) .f32 :=
  matmul w.nt none q k (constant (Scores n) .f32 0x00000000#32)

/-- The queries with the scale. -/
def scaled (q : FVec F S256x64 .bf16) : FVec F S256x64 .bf16 := mulf q (broadcast S256x64 (Scalar.ofBits .bf16 0x3E00#16 : F .bf16))

/-- The scores, with the bias `b`. -/
def score (q : FVec F S256x64 .bf16) (k : FVec F (Keys n) .bf16) (b : FVec F (Scores n) .f32) : FVec F (Scores n) .f32 :=
  addf (dots w (scaled q) k) b

/-- The weights of the keys. -/
def weight (s : FVec F (Scores n) .f32) : FVec F (Scores n) .f32 :=
  divf (exp (subf s (peaks w s))) (sums w (exp (subf s (peaks w s))))

/-- The scores' gradient from the weights' one. -/
def dscore (p dp : FVec F (Scores n) .f32) : FVec F (Scores n) .f32 := mulf p (subf dp (sums w (mulf p dp)))

/-- The bias's accumulator with one block more. -/
def biasNext (ds : FVec F (Scores n) .f32) (old : FVec F (Scores1 n) .f32) : FVec F (Scores1 n) .f32 :=
  shapeCast (Scores1 n) (addf (shapeCast (Scores n) old w.flat) ds) w.unflat

/-- The queries' gradient. -/
def dquery (ds : FVec F (Scores n) .f32) (k : FVec F (Keys n) .bf16) : FVec F S1x256x64 .bf16 :=
  shapeCast S1x256x64 (truncf .bf16 (mulf (matmul w.nn none (truncf .bf16 ds bitsLt_bf16_f32) k (constant S256x64 .f32 0x00000000#32))
    (broadcast S256x64 (Scalar.ofBits .f32 0x3E000000#32 : F .f32))) bitsLt_bf16_f32) shapeCasts_S256x64_S1x256x64

/-- The keys' or the values' accumulator with one block more. -/
def keyNext (t : FVec F S64x256 .bf16) (x : FVec F (Scores n) .f32) (old : FVec F (KeysT n) .f32) : FVec F (KeysT n) .f32 :=
  shapeCast (KeysT n) (addf old (matmul w.tn none t (truncf .bf16 x bitsLt_bf16_f32) (constant (KeysT n) .f32 0x00000000#32))) w.same

end Cert.AaChain

end
-- ==== Proof.AaReads.lean ====
module

public import proofs.«01_k».proof.Proof.AaChain
public import proofs.«01_k».proof.Proof.Reals

/-!
# The operations on a window, entry by entry

The three widths have the same readings; what follows asks no more of a width than these.
-/

@[expose] public section

noncomputable section

namespace Cert.AaReads

open Idealize.ShloMosaic Idealize.ShloMosaic.TcCoe Cert.AaBwdIdeal Cert.AaBwdIdeal.Gen Cert.AaChain Cert.Reals

/-- What is used of the operations on a window of `n` keys. -/
structure Good {n : ℕ} (w : Wide n) : Prop where
  dots (q : FVec Ideal S256x64 .bf16) (k : FVec Ideal (Keys n) .bf16) (i : Fin 256) (j : Fin n) :
    dots w q k (ix2 i j) = ∑ e : Fin 64, q (ix2 i e) * k (ix2 j e)
  nn (x : FVec Ideal (Scores n) .bf16) (k : FVec Ideal (Keys n) .bf16) (i : Fin 256) (e : Fin 64) :
    matmul w.nn none x k (constant S256x64 .f32 0x00000000#32) (ix2 i e) = ∑ j : Fin n, x (ix2 i j) * k (ix2 j e)
  tn (t : FVec Ideal S64x256 .bf16) (x : FVec Ideal (Scores n) .bf16) (e : Fin 64) (j : Fin n) :
    matmul w.tn none t x (constant (KeysT n) .f32 0x00000000#32) (ix2 e j) = ∑ i : Fin 256, t (ix2 e i) * x (ix2 i j)
  sums (x : FVec Ideal (Scores n) .f32) (i : Fin 256) (j : Fin n) : sums w x (ix2 i j) = ∑ c : Fin n, x (ix2 i c)
  peaks (x : FVec Ideal (Scores n) .f32) (i : Fin 256) (j : Fin n) :
    peaks w x (ix2 i j) = (Finset.univ : Finset (Fin n)).fold max ⊥ fun c => x (ix2 i c)
  flat (x : FVec Ideal (Scores1 n) .f32) (i : Fin 256) (j : Fin n) : shapeCast (Scores n) x w.flat (ix2 i j) = x (ix3 0 i j)
  unflat (x : FVec Ideal (Scores n) .f32) (i : Fin 256) (j : Fin n) : shapeCast (Scores1 n) x w.unflat (ix3 0 i j) = x (ix2 i j)
  same (x : FVec Ideal (KeysT n) .f32) : shapeCast (KeysT n) x w.same = x

theorem word_bot : Ideal.ofBits .f32 0xFF800000#32 = ⊥ := by
  simp [Ideal.ofBits, Ideal.ieee]

theorem good768 : Good w768 where
  dots q k i j := by pointwise [dots, w768]
  nn x k i e := by pointwise [w768]
  tn t x e j := by pointwise [w768]
  sums x i j := by pointwise [sums, w768]
  peaks x i j := by pointwise [peaks, w768]; rw [word_bot]
  flat x i j := by pointwise [w768]
  unflat x i j := by pointwise [w768]
  same x := by funext j; pointwise [w768]

theorem good512 : Good w512 where
  dots q k i j := by pointwise [dots, w512]
  nn x k i e := by pointwise [w512]
  tn t x e j := by pointwise [w512]
  sums x i j := by pointwise [sums, w512]
  peaks x i j := by pointwise [peaks, w512]; rw [word_bot]
  flat x i j := by pointwise [w512]
  unflat x i j := by pointwise [w512]
  same x := by funext j; pointwise [w512]

theorem good256 : Good w256 where
  dots q k i j := by pointwise [dots, w256]
  nn x k i e := by pointwise [w256]
  tn t x e j := by pointwise [w256]
  sums x i j := by pointwise [sums, w256]
  peaks x i j := by pointwise [peaks, w256]; rw [word_bot]
  flat x i j := by pointwise [w256]
  unflat x i j := by pointwise [w256]
  same x := by funext j; pointwise [w256]

end Cert.AaReads

end
-- ==== Proof.AaReal.lean ====
module

public import proofs.«01_k».proof.Proof.AaReads

/-!
# Chunked attention's gradient over the reals

A query attends to the keys of its own chunk of 64 and of the eight chunks before it. The gradients are written over the
natural numbers: outside the chunks in reach the weights are zero, and a sum over all keys is a sum over any window that
holds the chunks in reach.
-/

@[expose] public section

noncomputable section

namespace Cert.AaReal

open Idealize.ShloMosaic

/-- The query `t` may look at the key `s`. -/
def Ok (t s : ℕ) : Prop := s / 64 ≤ t / 64 ∧ t / 64 ≤ s / 64 + 8

instance (t s : ℕ) : Decidable (Ok t s) := inferInstanceAs (Decidable (_ ∧ _))

variable (q k v d : ℕ → Fin 64 → ℝ) (r : ℕ → ℝ)

/-- The score: the product with the scale, and the bias of the distance. -/
def S (t s : ℕ) : ℝ := ∑ e, q t e * (1 / 8) * k s e + r (s + 767 - t)

/-- The exponential of the score, zero out of reach. -/
def W (t s : ℕ) : ℝ := if Ok t s then Real.exp (S q k r t s) else 0

/-- The weight of a key. -/
def P (t s : ℕ) : ℝ := W q k r t s / ∑ j ∈ Finset.range 2048, W q k r t j

/-- The weight's gradient. -/
def Dp (t s : ℕ) : ℝ := ∑ e, d t e * v s e

/-- The score's gradient. -/
def Z (t s : ℕ) : ℝ := P q k r t s * (Dp v d t s - ∑ j ∈ Finset.range 2048, P q k r t j * Dp v d t j)

/-- The gradients of the query, the key, the value, and of the bias of one distance. -/
def dq (t : ℕ) (e : Fin 64) : ℝ := (∑ s ∈ Finset.range 2048, Z q k v d r t s * k s e) * (1 / 8)
def dk (s : ℕ) (e : Fin 64) : ℝ := ∑ t ∈ Finset.range 2048, q t e * (1 / 8) * Z q k v d r t s
def dv (s : ℕ) (e : Fin 64) : ℝ := ∑ t ∈ Finset.range 2048, d t e * P q k r t s
def dr (n : ℕ) : ℝ := ∑ t ∈ Finset.range 2048, if 767 ≤ n + t then Z q k v d r t (n + t - 767) else 0

variable {q k v d r}

theorem W_out {t s : ℕ} (h : ¬ Ok t s) : W q k r t s = 0 := if_neg h
theorem P_out {t s : ℕ} (h : ¬ Ok t s) : P q k r t s = 0 := by rw [P, W_out h, zero_div]
theorem Z_out {t s : ℕ} (h : ¬ Ok t s) : Z q k v d r t s = 0 := by rw [Z, P_out h, zero_mul]

theorem W_nonneg (t s : ℕ) : 0 ≤ W q k r t s := by
  unfold W; split_ifs
  · exact (Real.exp_pos _).le
  · exact le_rfl

theorem ok_self (t : ℕ) : Ok t t := ⟨le_rfl, by omega⟩

theorem W_sum_pos {t : ℕ} (h : t < 2048) : 0 < ∑ j ∈ Finset.range 2048, W q k r t j :=
  Finset.sum_pos' (fun _ _ => W_nonneg _ _) ⟨t, Finset.mem_range.2 h, by rw [W, if_pos (ok_self t)]; exact Real.exp_pos _⟩

/-- A sum over the keys is one over a window that holds all that is not zero. -/
theorem window (f : ℕ → ℝ) {lo n : ℕ} (h : lo + n ≤ 2048) (hf : ∀ s, s < lo ∨ lo + n ≤ s → f s = 0) :
    ∑ c : Fin n, f (lo + c.val) = ∑ s ∈ Finset.range 2048, f s := by
  rw [show 2048 = lo + n + (2048 - (lo + n)) by omega, Finset.sum_range_add, Finset.sum_range_add,
    Finset.sum_eq_zero (s := Finset.range lo) fun s hs => hf s (.inl (Finset.mem_range.1 hs)),
    Finset.sum_eq_zero (s := Finset.range (2048 - (lo + n))) fun s _ => hf _ (.inr (by omega)), zero_add, add_zero,
    Finset.sum_range (fun x => f (lo + x))]

/-- The keys in reach of a block of queries lie in its window. -/
theorem out_of_window {n b t s : ℕ} (hn : n = 768 ∨ n = 256 * b + 256) (ht : t / 256 = b) (hs : s < 256 * b + 256 - n ∨ 256 * b + 256 ≤ s) :
    ¬ Ok t s := by
  rintro ⟨h1, h2⟩; omega

/-- A row whose entries out of reach are minus infinity: the exponentials of its distances from the largest are those of
the row in reach, up to one factor. -/
theorem soft {ι : Type} [Fintype ι] (x : ι → EReal) (ok : ι → Prop) [DecidablePred ok] (a : ι → ℝ)
    (hx : ∀ c, x c = if ok c then (a c : EReal) else ⊥) (c0 : ι) (h0 : ok c0) :
    ∃ M g : ℝ, 0 < g ∧ (Finset.univ : Finset ι).fold max ⊥ x = (M : EReal) ∧
      ∀ c, Ideal.exp (x c - (M : EReal)) = (((if ok c then Real.exp (a c) else 0) * g : ℝ) : EReal) := by
  obtain ⟨c1, -, h1⟩ := Finset.exists_mem_eq_sup (Finset.univ : Finset ι) ⟨c0, Finset.mem_univ _⟩ x
  have hs : (Finset.univ : Finset ι).fold max ⊥ x = Finset.univ.sup x := rfl
  have hle : x c0 ≤ x c1 := h1 ▸ Finset.le_sup (f := x) (Finset.mem_univ c0)
  have ok1 : ok c1 := by
    by_contra hn
    rw [hx c1, if_neg hn, hx c0, if_pos h0] at hle
    exact absurd (le_bot_iff.1 hle) (EReal.coe_ne_bot _)
  refine ⟨a c1, Real.exp (-a c1), Real.exp_pos _, by rw [hs, h1, hx c1, if_pos ok1], fun c => ?_⟩
  rw [hx c]
  split_ifs
  · rw [← EReal.coe_sub, Ideal.exp_coe, ← Real.exp_add, sub_eq_add_neg]
  · rw [EReal.bot_sub, zero_mul, EReal.coe_zero]
    exact Ideal.exp_bot

end Cert.AaReal

end
-- ==== Proof.AaTrace.lean ====
module

public import proofs.«01_k».proof.Proof.AaChain

/-!
# What the kernel stores at one grid point

Sixteen steps, one for each block of queries and each of two heads: the steps of a pair of blocks are taken together.
-/

@[expose] public section

noncomputable section

namespace Cert.AaTrace

open Idealize.ShloMosaic Idealize.ShloMosaic.TcCoe Cert.AaBwdIdeal Cert.AaBwdIdeal.Gen Cert.AaChain

/-- The buffers at one grid point and what the inputs among them hold. -/
structure Point (F : FTy → Type) where
  (m2 m3 m4 : Memref sig .tc .vmem S2048x128 .bf16) (m5 : Memref sig .tc .vmem S1x2x1024 .f32) (m6 : Memref sig .tc .vmem S2048x128 .bf16)
  (h2 : m2.IsWhole) (h3 : m3.IsWhole) (h4 : m4.IsWhole) (h5 : m5.IsWhole) (h6 : m6.IsWhole)
  (m9 m10 : Memref sig .tc .vmem S128x2048 .f32) (m11 : Memref sig .tc .vmem S2x256x1024 .f32)
  (x0 x1 x2 : Vec F S2048x128 .bf16) (x3 : Vec F S1x2x1024 .f32) (x4 : Vec F S2048x128 .bf16)

/-- A window of `n` keys that ends with block `b` of the queries. -/
structure Fits (n b h : ℕ) : Prop where
  hb : b < 8
  hh : h < 2
  hn : n ≤ 256 * b + 256
  hw : n ≤ 768

section Boxes

variable {n b h : ℕ} (f : Fits n b h)
include f

theorem box_q : ∀ a, (![256 * b, 64 * h] : Fin 2 → ℕ) a + S256x64.size a ≤ S2048x128.size a := fun a => by
  have := f.hb; have := f.hh
  match a with
  | 0 => show 256 * b + 256 ≤ 2048; omega
  | 1 => show 64 * h + 64 ≤ 128; omega

theorem box_wide : ∀ a, (![256 * b, 0] : Fin 2 → ℕ) a + S256x128.size a ≤ S2048x128.size a := fun a => by
  have := f.hb
  match a with
  | 0 => show 256 * b + 256 ≤ 2048; omega
  | 1 => show 0 + 128 ≤ 128; omega

theorem box_k : ∀ a, (![256 * b + 256 - n, 64 * h] : Fin 2 → ℕ) a + (Keys n).size a ≤ S2048x128.size a := fun a => by
  have := f.hb; have := f.hh; have := f.hn
  match a with
  | 0 => show 256 * b + 256 - n + n ≤ 2048; omega
  | 1 => show 64 * h + 64 ≤ 128; omega

theorem box_t : ∀ a, (![64 * h, 256 * b + 256 - n] : Fin 2 → ℕ) a + (KeysT n).size a ≤ S128x2048.size a := fun a => by
  have := f.hb; have := f.hh; have := f.hn
  match a with
  | 0 => show 64 * h + 64 ≤ 128; omega
  | 1 => show 256 * b + 256 - n + n ≤ 2048; omega

theorem box_r : ∀ a, (![h, 0, 768 - n] : Fin 3 → ℕ) a + (Scores1 n).size a ≤ S2x256x1024.size a := fun a => by
  have := f.hh; have := f.hw
  match a with
  | 0 => show h + 1 ≤ 2; omega
  | 1 => show 0 + 256 ≤ 256; omega
  | 2 => show 768 - n + n ≤ 1024; omega

theorem box_o : ∀ a, (![0, 256 * b, 64 * h] : Fin 3 → ℕ) a + S1x256x64.size a ≤ S3x2048x128.size a := fun a => by
  have := f.hb; have := f.hh
  match a with
  | 0 => show 0 + 1 ≤ 3; omega
  | 1 => show 256 * b + 256 ≤ 2048; omega
  | 2 => show 64 * h + 64 ≤ 128; omega

theorem box_v : ∀ a, (![0, h, 0] : Fin 3 → ℕ) a + S1x1x1024.size a ≤ S1x2x1024.size a := fun a => by
  have := f.hh
  match a with
  | 0 => show 0 + 1 ≤ 1; omega
  | 1 => show h + 1 ≤ 2; omega
  | 2 => show 0 + 1024 ≤ 1024; omega

theorem box_s : S128x256.Slices ![64 * h, 0] S64x256 := ⟨rfl, fun a => by
  have := f.hh
  match a with
  | 0 => show 64 * h + 64 ≤ 128; omega
  | 1 => show 0 + 256 ≤ 256; omega⟩

end Boxes

variable {F : FTy → Type} [FloatOps F] [Named F] (A : Point F)

/-- The rows of block `b` of head `h`, among the rows `x`. -/
def rows (m : Memref sig .tc .vmem S2048x128 .bf16) (hm : m.IsWhole) (x : Vec F S2048x128 .bf16) {n b h : ℕ} (f : Fits n b h) : FVec F S256x64 .bf16 :=
  View.readAt (Elt F) m.view (Rect.unit (s := S2048x128) ![256 * b, 64 * h] S256x64.size (box_q f)).toLoadRect (hm.unread x)

/-- The rows of the window's keys. -/
def keys (m : Memref sig .tc .vmem S2048x128 .bf16) (hm : m.IsWhole) (x : Vec F S2048x128 .bf16) {n b h : ℕ} (f : Fits n b h) : FVec F (Keys n) .bf16 :=
  View.readAt (Elt F) m.view (Rect.unit (s := S2048x128) ![256 * b + 256 - n, 64 * h] (Keys n).size (box_k f)).toLoadRect (hm.unread x)

/-- The rows of block `b`, both heads. -/
def both (m : Memref sig .tc .vmem S2048x128 .bf16) (hm : m.IsWhole) (x : Vec F S2048x128 .bf16) {n b h : ℕ} (f : Fits n b h) : FVec F S256x128 .bf16 :=
  View.readAt (Elt F) m.view (Rect.unit (s := S2048x128) ![256 * b, 0] S256x128.size (box_wide f)).toLoadRect (hm.unread x)

/-- The bias of head `h`, masked. -/
def bias {n b h : ℕ} (f : Fits n b h) : FVec F S256x768 .f32 :=
  k0_pay10 (k0_pay6 (View.readAt (Elt F) A.m5.view (Rect.unit (s := S1x2x1024) ![0, h, 0] S1x1x1024.size (box_v f)).toLoadRect (A.h5.unread A.x3)))
    (iota .tc S256x768 32 [0] iota_S256x768_d0_w32) k0_pay7 k0_pay8 k0_pay9

section Step

variable {n b h : ℕ} (w : Wide n) (f : Fits n b h) (cut : FVec F S256x768 .f32 → FVec F (Scores n) .f32)

def ps : FVec F (Scores n) .f32 := weight w (score w (rows A.m2 A.h2 A.x0 f) (keys A.m3 A.h3 A.x1 f) (cut (bias A f)))

def dss : FVec F (Scores n) .f32 := dscore w (ps A w f cut) (dots w (rows A.m6 A.h6 A.x4 f) (keys A.m4 A.h4 A.x2 f))

def qT : FVec F S64x256 .bf16 := extractStridedSlice S64x256 ![64 * h, 0] (k0_pay16 (both A.m2 A.h2 A.x0 f)) (box_s f)
def dT : FVec F S64x256 .bf16 := extractStridedSlice S64x256 ![64 * h, 0] (k0_pay17 (both A.m6 A.h6 A.x4 f)) (box_s f)

def biasStep (L : List (View.Piece (Elt F) S2x256x1024 .f32)) : List (View.Piece (Elt F) S2x256x1024 .f32) :=
  ⟨Rect.unit (s := S2x256x1024) ![h, 0, 768 - n] (Scores1 n).size (box_r f), biasNext w (dss A w f cut)
    (A.m11.view.readCov L (Rect.unit (s := S2x256x1024) ![h, 0, 768 - n] (Scores1 n).size (box_r f)).toLoadRect)⟩ :: L

def keyStep (L : List (View.Piece (Elt F) S128x2048 .f32)) : List (View.Piece (Elt F) S128x2048 .f32) :=
  ⟨Rect.unit (s := S128x2048) ![64 * h, 256 * b + 256 - n] (KeysT n).size (box_t f), keyNext w (qT A f) (dss A w f cut)
    (A.m9.view.readCov L (Rect.unit (s := S128x2048) ![64 * h, 256 * b + 256 - n] (KeysT n).size (box_t f)).toLoadRect)⟩ :: L

def valStep (L : List (View.Piece (Elt F) S128x2048 .f32)) : List (View.Piece (Elt F) S128x2048 .f32) :=
  ⟨Rect.unit (s := S128x2048) ![64 * h, 256 * b + 256 - n] (KeysT n).size (box_t f), keyNext w (dT A f) (ps A w f cut)
    (A.m10.view.readCov L (Rect.unit (s := S128x2048) ![64 * h, 256 * b + 256 - n] (KeysT n).size (box_t f)).toLoadRect)⟩ :: L

def outStep (L : List (View.Piece (Elt F) S3x2048x128 .bf16)) : List (View.Piece (Elt F) S3x2048x128 .bf16) :=
  ⟨Rect.unit (s := S3x2048x128) ![0, 256 * b, 64 * h] S1x256x64.size (box_o f), dquery w (dss A w f cut) (keys A.m3 A.h3 A.x1 f)⟩ :: L

end Step

/-- The block of the step `k`, and its head. -/
def blk (k : ℕ) : ℕ := 2 * (k % 16 / 4) + k % 4 / 2
def head (k : ℕ) : ℕ := k % 2

theorem blk_lt (k : ℕ) : blk k < 8 := by unfold blk; omega
theorem head_lt (k : ℕ) : head k < 2 := by unfold head; omega

/-- What is done at the step `k`, the width of its window given. -/
def withWidth {α : Type} (b h : ℕ) (hb : b < 8) (hh : h < 2)
    (g : ∀ n, Wide n → Fits n b h → (FVec F S256x768 .f32 → FVec F (Scores n) .f32) → α) : α :=
  match b, hb, g with
  | 0, hb, g => g 256 w256 ⟨hb, hh, by omega, by omega⟩ fun x => extractStridedSlice S256x256 ![0, 512] x slices_S256x768_o0_512_S256x256
  | 1, hb, g => g 512 w512 ⟨hb, hh, by omega, by omega⟩ fun x => extractStridedSlice S256x512 ![0, 256] x slices_S256x768_o0_256_S256x512
  | _ + 2, hb, g => g 768 w768 ⟨hb, hh, by omega, by omega⟩ fun x => x

def biases : ℕ → List (View.Piece (Elt F) S2x256x1024 .f32)
  | 0 => [⟨Rect.unit (s := S2x256x1024) ![0, 0, 0] S2x256x1024.size inb_S2x256x1024_S2x256x1024_0_0_0, k0_pay5⟩]
  | k + 1 => withWidth (F := F) (blk k) (head k) (blk_lt k) (head_lt k) fun n w f cut => biasStep A w f cut (biases k)

def keyss : ℕ → List (View.Piece (Elt F) S128x2048 .f32)
  | 0 => [⟨Rect.unit (s := S128x2048) ![0, 0] S128x2048.size inb_S128x2048_S128x2048_0_0, k0_pay3⟩]
  | k + 1 => withWidth (F := F) (blk k) (head k) (blk_lt k) (head_lt k) fun n w f cut => keyStep A w f cut (keyss k)

def vals : ℕ → List (View.Piece (Elt F) S128x2048 .f32)
  | 0 => [⟨Rect.unit (s := S128x2048) ![0, 0] S128x2048.size inb_S128x2048_S128x2048_0_0, k0_pay4⟩]
  | k + 1 => withWidth (F := F) (blk k) (head k) (blk_lt k) (head_lt k) fun n w f cut => valStep A w f cut (vals k)

def outs : ℕ → List (View.Piece (Elt F) S3x2048x128 .bf16)
  | 0 => []
  | k + 1 => withWidth (F := F) (blk k) (head k) (blk_lt k) (head_lt k) fun n w f cut => outStep A w f cut (outs k)

theorem more_biases {k : ℕ} {L' L : List (View.Piece (Elt F) S2x256x1024 .f32)}
    (h : L' = withWidth (F := F) (blk k) (head k) (blk_lt k) (head_lt k) fun n w f cut => biasStep A w f cut L) (e : L = biases A k) : L' = biases A (k + 1) :=
  h.trans (by rw [e]; rfl)

theorem more_keys {k : ℕ} {L' L : List (View.Piece (Elt F) S128x2048 .f32)}
    (h : L' = withWidth (F := F) (blk k) (head k) (blk_lt k) (head_lt k) fun n w f cut => keyStep A w f cut L) (e : L = keyss A k) : L' = keyss A (k + 1) :=
  h.trans (by rw [e]; rfl)

theorem more_vals {k : ℕ} {L' L : List (View.Piece (Elt F) S128x2048 .f32)}
    (h : L' = withWidth (F := F) (blk k) (head k) (blk_lt k) (head_lt k) fun n w f cut => valStep A w f cut L) (e : L = vals A k) : L' = vals A (k + 1) :=
  h.trans (by rw [e]; rfl)

theorem biases_is (c : Dev nD) :
    kernelRun0_A.sl.HS2_17 c A.m2 A.h2 A.m3 A.h3 A.m4 A.h4 A.m5 A.h5 A.m6 A.h6 A.m11 A.x0 A.x1 A.x2 A.x3 A.x4 = biases A 16 :=
  more_biases A (k := 15) rfl (more_biases A (k := 14) rfl (more_biases A (k := 13) rfl (more_biases A (k := 12) rfl (more_biases A (k := 11) rfl (more_biases A (k := 10) rfl (more_biases A (k := 9) rfl (more_biases A (k := 8) rfl (more_biases A (k := 7) rfl (more_biases A (k := 6) rfl (more_biases A (k := 5) rfl (more_biases A (k := 4) rfl (more_biases A (k := 3) rfl (more_biases A (k := 2) rfl (more_biases A (k := 1) rfl (more_biases A (k := 0) rfl rfl)))))))))))))))

theorem keys_is (c : Dev nD) :
    kernelRun0_A.sl.HS0_17 c A.m2 A.h2 A.m3 A.h3 A.m4 A.h4 A.m5 A.h5 A.m6 A.h6 A.m9 A.x0 A.x1 A.x2 A.x3 A.x4 = keyss A 16 :=
  more_keys A (k := 15) rfl (more_keys A (k := 14) rfl (more_keys A (k := 13) rfl (more_keys A (k := 12) rfl (more_keys A (k := 11) rfl (more_keys A (k := 10) rfl (more_keys A (k := 9) rfl (more_keys A (k := 8) rfl (more_keys A (k := 7) rfl (more_keys A (k := 6) rfl (more_keys A (k := 5) rfl (more_keys A (k := 4) rfl (more_keys A (k := 3) rfl (more_keys A (k := 2) rfl (more_keys A (k := 1) rfl (more_keys A (k := 0) rfl rfl)))))))))))))))

theorem vals_is (c : Dev nD) :
    kernelRun0_A.sl.HS1_17 c A.m2 A.h2 A.m3 A.h3 A.m5 A.h5 A.m6 A.h6 A.m10 A.x0 A.x1 A.x3 A.x4 = vals A 16 :=
  more_vals A (k := 15) rfl (more_vals A (k := 14) rfl (more_vals A (k := 13) rfl (more_vals A (k := 12) rfl (more_vals A (k := 11) rfl (more_vals A (k := 10) rfl (more_vals A (k := 9) rfl (more_vals A (k := 8) rfl (more_vals A (k := 7) rfl (more_vals A (k := 6) rfl (more_vals A (k := 5) rfl (more_vals A (k := 4) rfl (more_vals A (k := 3) rfl (more_vals A (k := 2) rfl (more_vals A (k := 1) rfl (more_vals A (k := 0) rfl rfl)))))))))))))))

/-! The sums along the diagonals of the gradient of the bias. -/

theorem box_g {h a : ℕ} (hh : h < 2) (ha : a < 32) : ∀ d, (![h, 8 * a, 0] : Fin 3 → ℕ) d + S1x8x1024.size d ≤ S2x256x1024.size d := fun d => by
  match d with
  | 0 => show h + 1 ≤ 2; omega
  | 1 => show 8 * a + 8 ≤ 256; omega
  | 2 => show 0 + 1024 ≤ 1024; omega

/-- Eight rows of the gradient, from row `8 * a` on. -/
def group (h : ℕ) (hh : h < 2) (a : ℕ) : FVec F S8x1024 .f32 :=
  shapeCast S8x1024 (A.m11.view.readCov (biases A 16)
    (Rect.unit (s := S2x256x1024) ![h, 8 * (a % 32), 0] S1x8x1024.size (box_g hh (Nat.mod_lt a (by decide)))).toLoadRect) shapeCasts_S1x8x1024_S8x1024

/-- `k + 1` groups, each moved until its diagonals are those of the last, summed. -/
def acc8 (h : ℕ) (hh : h < 2) : ℕ → FVec F S8x1024 .f32
  | 0 => dynamicRotate 1 (248#32) none (group A h hh 0) rotates_S8x1024_d1
  | k + 1 => addf (acc8 h hh k) (dynamicRotate 1 (BitVec.ofNat 32 (248 - 8 * (k + 1))) none (group A h hh (k + 1)) rotates_S8x1024_d1)

def all8 (h : ℕ) (hh : h < 2) : FVec F S8x1024 .f32 := addf (acc8 A h hh 30) (group A h hh 31)

def sub8 : IVec S8x1024 32 := iota .tc S8x1024 32 [0] iota_S8x1024_d0_w32

/-- The first `k` rows, each moved until its diagonals are those of the last. -/
def tots (h : ℕ) (hh : h < 2) : ℕ → FVec F S8x1024 .f32
  | 0 => broadcast S8x1024 (FloatOps.ofBits .f32 0#32)
  | k + 1 => addf (tots h hh k) (select (cmpi .eq sub8 (broadcast S8x1024 (BitVec.ofNat 32 k)))
      (dynamicRotate 1 (BitVec.ofNat 32 (7 - k)) none (all8 A h hh) rotates_S8x1024_d1) (broadcast S8x1024 (FloatOps.ofBits .f32 0#32)))

def diag (h : ℕ) (hh : h < 2) : FVec F S1x1x1x1024 .f32 :=
  k0_pay253 (all8 A h hh) (tots A h hh 7) (cmpi .eq sub8 (broadcast S8x1024 7#32)) (FloatOps.ofBits .f32 0#32)

theorem more_outs {k : ℕ} {L' L : List (View.Piece (Elt F) S3x2048x128 .bf16)}
    (h : L' = withWidth (F := F) (blk k) (head k) (blk_lt k) (head_lt k) fun n w f cut => outStep A w f cut L) (e : L = outs A k) : L' = outs A (k + 1) :=
  h.trans (by rw [e]; rfl)

variable (c : Dev nD) (i : grid0.Coords) (m7 : Memref sig .tc .vmem S3x2048x128 .bf16) (h7 : m7.IsWhole)
  (m8 : Memref sig .tc .vmem S1x1x2x1024 .f32) (h8 : m8.IsWhole) (h9 : A.m9.IsWhole) (h10 : A.m10.IsWhole) (h11 : A.m11.IsWhole)

theorem grads_are :
    (kernelRun0_A c i A.m2 A.h2 A.m3 A.h3 A.m4 A.h4 A.m5 A.h5 A.m6 A.h6 m7 h7 m8 h8 A.m9 h9 A.m10 h10 A.m11 h11 A.x0 A.x1 A.x2 A.x3 A.x4).1
      = ⟨Rect.unit (s := S3x2048x128) ![2, 0, 0] S1x2048x128.size inb_S3x2048x128_S1x2048x128_2_0_0, k0_pay2 (A.m10.view.readCov (vals A 16)
          (Rect.unit (s := S128x2048) ![0, 0] S128x2048.size inb_S128x2048_S128x2048_0_0).toLoadRect)⟩
        :: ⟨Rect.unit (s := S3x2048x128) ![1, 0, 0] S1x2048x128.size inb_S3x2048x128_S1x2048x128_1_0_0, k0_pay1 (k0_pay264 (A.m9.view.readCov (keyss A 16)
          (Rect.unit (s := S128x2048) ![0, 0] S128x2048.size inb_S128x2048_S128x2048_0_0).toLoadRect))⟩ :: outs A 16 := by
  rw [← vals_is A c, ← keys_is A c]
  exact congrArg (List.cons _) (congrArg (List.cons _) (more_outs A (k := 15) rfl (more_outs A (k := 14) rfl (more_outs A (k := 13) rfl (more_outs A (k := 12) rfl (more_outs A (k := 11) rfl (more_outs A (k := 10) rfl (more_outs A (k := 9) rfl (more_outs A (k := 8) rfl (more_outs A (k := 7) rfl (more_outs A (k := 6) rfl (more_outs A (k := 5) rfl (more_outs A (k := 4) rfl (more_outs A (k := 3) rfl (more_outs A (k := 2) rfl (more_outs A (k := 1) rfl (more_outs A (k := 0) rfl rfl)))))))))))))))))

theorem diags_are :
    (kernelRun0_A c i A.m2 A.h2 A.m3 A.h3 A.m4 A.h4 A.m5 A.h5 A.m6 A.h6 m7 h7 m8 h8 A.m9 h9 A.m10 h10 A.m11 h11 A.x0 A.x1 A.x2 A.x3 A.x4).2.1
      = [⟨Rect.unit (s := S1x1x2x1024) ![0, 0, 1, 0] S1x1x1x1024.size inb_S1x1x2x1024_S1x1x1x1024_0_0_1_0, diag A 1 (by decide)⟩,
        ⟨Rect.unit (s := S1x1x2x1024) ![0, 0, 0, 0] S1x1x1x1024.size inb_S1x1x2x1024_S1x1x1x1024_0_0_0_0, diag A 0 (by decide)⟩] := by
  unfold diag tots all8 acc8 group
  rw [← biases_is A c]
  rfl

end Cert.AaTrace

end
-- ==== Proof.AaBlock.lean ====
module

public import proofs.«01_k».proof.Proof.AaReal
public import proofs.«01_k».proof.Proof.AaTrace
public import proofs.«01_k».proof.Proof.SbAcc

/-!
# One block of queries against its window, over the reals

With finite arguments, what the kernel computes of a block and its window is the real gradient's own.
-/

@[expose] public section

noncomputable section

namespace Cert.AaBlock

open Idealize.ShloMosaic Idealize.ShloMosaic.TcCoe Cert.AaBwdIdeal Cert.AaBwdIdeal.Gen Cert.AaChain Cert.AaReads Cert.AaReal Cert.Reals
open Cert.SbAcc (word_eighth word_eighth32)

variable {n b : ℕ} {w : Wide n} (G : Good w) (hn : n = 768 ∨ n = 256 * b + 256) (hle : n ≤ 256 * b + 256) (hb : b < 8)
  {q k v d : ℕ → Fin 64 → ℝ} {r : ℕ → ℝ}
  {qv dv : FVec Ideal S256x64 .bf16} {kv vv : FVec Ideal (Keys n) .bf16} {bv : FVec Ideal (Scores n) .f32}
  (hq : ∀ (i : Fin 256) (e : Fin 64), qv (ix2 i e) = ((q (256 * b + i.val) e : ℝ) : EReal))
  (hd : ∀ (i : Fin 256) (e : Fin 64), dv (ix2 i e) = ((d (256 * b + i.val) e : ℝ) : EReal))
  (hk : ∀ (c : Fin n) (e : Fin 64), kv (ix2 c e) = ((k (256 * b + 256 - n + c.val) e : ℝ) : EReal))
  (hv : ∀ (c : Fin n) (e : Fin 64), vv (ix2 c e) = ((v (256 * b + 256 - n + c.val) e : ℝ) : EReal))
  (hbv : ∀ (i : Fin 256) (c : Fin n), bv (ix2 i c) = if Ok (256 * b + i.val) (256 * b + 256 - n + c.val)
    then ((r (256 * b + 256 - n + c.val + 767 - (256 * b + i.val)) : ℝ) : EReal) else ⊥)

include hn in
/-- Sums over a window of what is zero out of reach. -/
theorem window_sum (hle : n ≤ 256 * b + 256) (hb : b < 8) (i : Fin 256) (f : ℕ → ℝ) (hf : ∀ s, ¬ Ok (256 * b + i.val) s → f s = 0) :
    ∑ c : Fin n, f (256 * b + 256 - n + c.val) = ∑ s ∈ Finset.range 2048, f s :=
  window f (by omega) fun s hs => hf s (out_of_window hn (by have := i.isLt; omega) (hs.imp id fun h => by omega))

include G hq hk hbv in
theorem score_is (i : Fin 256) (c : Fin n) : score w qv kv bv (ix2 i c)
    = if Ok (256 * b + i.val) (256 * b + 256 - n + c.val) then ((S q k r (256 * b + i.val) (256 * b + 256 - n + c.val) : ℝ) : EReal) else ⊥ := by
  pointwise [score]
  rw [G.dots, hbv]
  pointwise [scaled]
  simp only [hq, hk, word_eighth, ← EReal.coe_mul, sum_coe]
  split_ifs
  · rw [← EReal.coe_add]; rfl
  · exact EReal.add_bot _

include G hn hle hb hq hk hbv in
theorem weight_is (i : Fin 256) (c : Fin n) :
    weight w (score w qv kv bv) (ix2 i c) = ((P q k r (256 * b + i.val) (256 * b + 256 - n + c.val) : ℝ) : EReal) := by
  have hi := i.isLt
  obtain ⟨M, g, hg, hM, he⟩ := soft (fun c : Fin n => score w qv kv bv (ix2 i c)) (fun c => Ok (256 * b + i.val) (256 * b + 256 - n + c.val))
    (fun c => S q k r (256 * b + i.val) (256 * b + 256 - n + c.val)) (score_is G hq hk hbv i)
    ⟨n - 256 + i.val, by omega⟩ (by
      have : 256 * b + 256 - n + (n - 256 + i.val) = 256 * b + i.val := by omega
      simp only [this]; exact ok_self _)
  have hE : ∀ c : Fin n, exp (subf (score w qv kv bv) (peaks w (score w qv kv bv))) (ix2 i c)
      = ((W q k r (256 * b + i.val) (256 * b + 256 - n + c.val) * g : ℝ) : EReal) := fun c => by
    pointwise
    rw [G.peaks, hM]
    exact he c
  pointwise [weight]
  rw [G.sums, G.peaks, hM, he c]
  simp only [hE]
  rw [sum_coe, ← Finset.sum_mul, window_sum hn hle hb i (fun s => W q k r (256 * b + i.val) s) fun s hs => W_out hs,
    div_coe_coe _ (mul_pos (W_sum_pos (by omega)) hg).ne']
  exact congrArg _ (mul_div_mul_right _ _ hg.ne')

include G hn hle hb hd hv in
theorem dscore_is {p : FVec Ideal (Scores n) .f32}
    (hp : ∀ (i : Fin 256) (c : Fin n), p (ix2 i c) = ((P q k r (256 * b + i.val) (256 * b + 256 - n + c.val) : ℝ) : EReal)) (i : Fin 256) (c : Fin n) :
    dscore w p (dots w dv vv) (ix2 i c) = ((Z q k v d r (256 * b + i.val) (256 * b + 256 - n + c.val) : ℝ) : EReal) := by
  have hdp : ∀ c : Fin n, dots w dv vv (ix2 i c) = ((Dp v d (256 * b + i.val) (256 * b + 256 - n + c.val) : ℝ) : EReal) := fun c => by
    rw [G.dots]
    simp only [hd, hv, ← EReal.coe_mul, sum_coe]
    rfl
  pointwise [dscore]
  rw [G.sums, hdp, hp]
  pointwise
  simp only [hp, hdp, ← EReal.coe_mul, sum_coe]
  rw [window_sum hn hle hb i (fun s => P q k r (256 * b + i.val) s * Dp v d (256 * b + i.val) s) fun s hs => by rw [P_out hs, zero_mul],
    ← EReal.coe_sub, ← EReal.coe_mul]
  rfl

end Cert.AaBlock

end
-- ==== Proof.AaPoint.lean ====
module

public import proofs.«01_k».proof.Proof.AaBlock

/-!
# What a grid point reads

Two heads' rows side by side, and the bias of every distance.
-/

@[expose] public section

noncomputable section

namespace Cert.AaPoint

open Idealize.ShloMosaic Idealize.ShloMosaic.TcCoe Cert.AaBwdIdeal Cert.AaBwdIdeal.Gen Cert.AaChain Cert.AaReads Cert.AaReal Cert.AaTrace Cert.Reals
open Cert.SbAcc (beside beside_at word_eighth word_eighth32)

variable {n b h : ℕ} (f : Fits n b h) {g : ℕ → ℕ → Fin 64 → ℝ}

theorem rows_is (m : Memref sig .tc .vmem S2048x128 .bf16) (hm : m.IsWhole) {x : Vec Ideal S2048x128 .bf16} (hx : x = beside g) (i : Fin 256) (e : Fin 64) :
    rows m hm x f (ix2 i e) = ((g h (256 * b + i.val) e : ℝ) : EReal) := by
  show m.view.read (Elt Ideal) (hm.unread x) _ = _
  rw [hm.read_unread, hx]
  exact beside_at _ _ _ _ _ (by show 256 * b + 1 * i.val = _; omega) (by show 64 * h + 1 * e.val = _; omega)

theorem keys_is (m : Memref sig .tc .vmem S2048x128 .bf16) (hm : m.IsWhole) {x : Vec Ideal S2048x128 .bf16} (hx : x = beside g) (c : Fin n) (e : Fin 64) :
    keys m hm x f (ix2 c e) = ((g h (256 * b + 256 - n + c.val) e : ℝ) : EReal) := by
  show m.view.read (Elt Ideal) (hm.unread x) _ = _
  rw [hm.read_unread, hx]
  exact beside_at _ _ _ _ _ (by show 256 * b + 256 - n + 1 * c.val = _; omega) (by show 64 * h + 1 * e.val = _; omega)

theorem both_is (m : Memref sig .tc .vmem S2048x128 .bf16) (hm : m.IsWhole) {x : Vec Ideal S2048x128 .bf16} (hx : x = beside g) (i : Fin 256) (e : Fin 64)
    (c : Fin 128) (hc : c.val = 64 * h + e.val) : both m hm x f (ix2 i c) = ((g h (256 * b + i.val) e : ℝ) : EReal) := by
  show m.view.read (Elt Ideal) (hm.unread x) _ = _
  rw [hm.read_unread, hx]
  exact beside_at _ _ _ _ _ (by show 256 * b + 1 * i.val = _; omega) (by show 0 + 1 * c.val = _; omega)

variable {A : Point Ideal}

theorem qT_is (hx : A.x0 = beside g) (e : Fin 64) (i : Fin 256) : qT A f (ix2 e i) = ((g h (256 * b + i.val) e * (1 / 8) : ℝ) : EReal) := by
  pointwise [qT, k0_pay16]
  rw [both_is f A.m2 A.h2 hx i e _ rfl, word_eighth, ← EReal.coe_mul]

theorem dT_is (hx : A.x4 = beside g) (e : Fin 64) (i : Fin 256) : dT A f (ix2 e i) = ((g h (256 * b + i.val) e : ℝ) : EReal) := by
  pointwise [dT, k0_pay17]
  exact both_is f A.m6 A.h6 hx i e _ rfl

/-- The bias of each distance, for two heads. -/
def biasRow (r : ℕ → ℕ → ℝ) : S1x2x1024.Idx → EReal := fun y => ((r (y 1).val (y 2).val : ℝ) : EReal)

variable {r : ℕ → ℕ → ℝ}

/-- A word's chunk: the division rounded down, as it is spelled for words of either sign. -/
def chunkWord (x : BitVec 32) : BitVec 32 :=
  Scalar.select (IntOp.andi (IntOp.cmpi .ne
      (IntOp.subi (BitVec.setWidth 32 (IntOp.cmpi .sgt x 0#32)) (BitVec.setWidth 32 (IntOp.cmpi .slt x 0#32)))
      (Scalar.subi (Scalar.extui (Scalar.cmpi .sgt 64#32 0#32)) (Scalar.extui (Scalar.cmpi .slt 64#32 0#32))))
    (IntOp.cmpi .ne (IntOp.remsi .vector x 64#32) 0#32)) (IntOp.subi (IntOp.divsi .vector x 64#32) 1#32) (IntOp.divsi .vector x 64#32)

theorem chunk : ∀ i : Fin 768, chunkWord (BitVec.ofNat 32 i.val) = BitVec.ofNat 32 (i.val / 64) := by decide +kernel

theorem reach : ∀ a : Fin 4, ∀ c : Fin 12, IntOp.andi (IntOp.cmpi .sge (BitVec.ofNat 32 c.val) (BitVec.ofNat 32 a.val))
    (IntOp.cmpi .sle (BitVec.ofNat 32 c.val) (IntOp.addi (BitVec.ofNat 32 a.val) 8#32)) = BitVec.ofBool (decide (a.val ≤ c.val ∧ c.val ≤ a.val + 8)) := by
  decide +kernel

theorem mask_word : (Named.named κ "mask" 0xF149F2CA#32 : Ideal .f32) = (⊥ : EReal) := rfl

theorem bias_is (hx : A.x3 = biasRow r) (i : Fin 256) (j : Fin 768) :
    bias A f (ix2 i j) = if i.val / 64 ≤ j.val / 64 ∧ j.val / 64 ≤ i.val / 64 + 8 then ((r h (j.val + 255 - i.val) : ℝ) : EReal) else ⊥ := by
  have hi := i.isLt
  have hj := j.isLt
  pointwise [bias, k0_pay10, k0_pay6, k0_pay7, k0_pay8, k0_pay9]
  show Scalar.select (IntOp.andi (IntOp.cmpi .sge (chunkWord (BitVec.ofNat 32 j.val)) (chunkWord (BitVec.ofNat 32 i.val)))
    (IntOp.cmpi .sle (chunkWord (BitVec.ofNat 32 j.val)) (IntOp.addi (chunkWord (BitVec.ofNat 32 i.val)) 8#32))) _ _ = _
  have ei := chunk ⟨i.val, by omega⟩
  simp only at ei
  rw [chunk j, ei, mask_word]
  have hr := reach ⟨i.val / 64, by omega⟩ ⟨j.val / 64, by omega⟩
  simp only at hr
  rw [hr]
  have hl : A.m5.view.read (Elt Ideal) (A.h5.unread A.x3) = biasRow r := by rw [A.h5.read_unread, hx]
  by_cases hc : i.val / 64 ≤ j.val / 64 ∧ j.val / 64 ≤ i.val / 64 + 8
  · rw [if_pos hc, decide_eq_true hc]
    show A.m5.view.read (Elt Ideal) (A.h5.unread A.x3) _ = _
    rw [hl]
    refine congrArg _ (congrArg₂ r ?_ ?_)
    · show h + 1 * 0 = h; omega
    · show 0 + 1 * ((j.val + 1024 - (769 + i.val) % 1024) % 1024) = _; omega
  · rw [if_neg hc, decide_eq_false hc]
    rfl

end Cert.AaPoint

end
-- ==== Proof.AaAcc.lean ====
module

public import proofs.«01_k».proof.Proof.AaPoint

/-!
# The three accumulators

Before the step `k` the head `h` has seen `seen k h` blocks of queries. The accumulators hold the real gradient's sums
over the queries of these blocks.
-/

@[expose] public section

noncomputable section

namespace Cert.AaAcc

open Idealize.ShloMosaic Idealize.ShloMosaic.TcCoe Cert.AaBwdIdeal Cert.AaBwdIdeal.Gen Cert.AaChain Cert.AaReads Cert.AaReal Cert.AaTrace Cert.AaPoint Cert.AaBlock Cert.Reals
open Cert.SbAcc (beside beside_at word_eighth word_eighth32)

/-- What the inputs at a grid point hold. -/
structure Holds (A : Point Ideal) (q k v d : ℕ → ℕ → Fin 64 → ℝ) (r : ℕ → ℕ → ℝ) : Prop where
  q : A.x0 = beside q
  k : A.x1 = beside k
  v : A.x2 = beside v
  r : A.x3 = biasRow r
  d : A.x4 = beside d

/-- What is used of a step's width. -/
structure Sized {n : ℕ} (b : ℕ) (w : Wide n) (cut : FVec Ideal S256x768 .f32 → FVec Ideal (Scores n) .f32) : Prop where
  good : Good w
  wide : n = 768 ∨ n = 256 * b + 256
  le : n ≤ 256 * b + 256
  cut : ∀ x (i : Fin 256) (c : Fin n) (j : Fin 768), j.val = 768 - n + c.val → cut x (ix2 i c) = x (ix2 i j)

theorem withWidth_all {α : Type} {p : α → Prop} {b h : ℕ} {hb : b < 8} {hh : h < 2}
    {g : ∀ n, Wide n → Fits n b h → (FVec Ideal S256x768 .f32 → FVec Ideal (Scores n) .f32) → α}
    (H : ∀ n w f cut, Sized b w cut → p (g n w f cut)) : p (withWidth b h hb hh g) := by
  match b with
  | 0 => exact H _ _ _ _ ⟨good256, .inr rfl, le_rfl, fun x i c j hj => by
      pointwise; exact congrArg x (by idx_ext)⟩
  | 1 => exact H _ _ _ _ ⟨good512, .inr rfl, le_rfl, fun x i c j hj => by
      pointwise; exact congrArg x (by idx_ext)⟩
  | b + 2 => exact H _ _ _ _ ⟨good768, .inl rfl, by omega, fun x i c j hj => congrArg x (congrArg _ (Fin.ext (by omega)))⟩

variable {A : Point Ideal} {q k v d : ℕ → ℕ → Fin 64 → ℝ} {r : ℕ → ℕ → ℝ} (H : Holds A q k v d r)

section Block

variable {n b h : ℕ} {w : Wide n} (f : Fits n b h) {cut : FVec Ideal S256x768 .f32 → FVec Ideal (Scores n) .f32} (z : Sized b w cut)
include H z

theorem ps_is (i : Fin 256) (c : Fin n) :
    ps A w f cut (ix2 i c) = ((P (q h) (k h) (r h) (256 * b + i.val) (256 * b + 256 - n + c.val) : ℝ) : EReal) :=
  weight_is z.good z.wide z.le f.hb (rows_is f _ _ H.q) (keys_is f _ _ H.k) (fun i c => by
    have := z.le; have := f.hw; have hi := i.isLt; have hc := c.isLt
    rw [z.cut _ i c ⟨768 - n + c.val, by omega⟩ rfl, bias_is f H.r]
    have e1 : (i.val / 64 ≤ (768 - n + c.val) / 64 ∧ (768 - n + c.val) / 64 ≤ i.val / 64 + 8)
      ↔ ((256 * b + 256 - n + c.val) / 64 ≤ (256 * b + i.val) / 64 ∧ (256 * b + i.val) / 64 ≤ (256 * b + 256 - n + c.val) / 64 + 8) := by
      have := z.wide; omega
    have e2 : 768 - n + c.val + 255 - i.val = 256 * b + 256 - n + c.val + 767 - (256 * b + i.val) := by omega
    exact if_congr e1 (by rw [e2]) rfl) i c

theorem dss_is (i : Fin 256) (c : Fin n) :
    dss A w f cut (ix2 i c) = ((Z (q h) (k h) (v h) (d h) (r h) (256 * b + i.val) (256 * b + 256 - n + c.val) : ℝ) : EReal) :=
  dscore_is z.good z.wide z.le f.hb (rows_is f _ _ H.d) (keys_is f _ _ H.v) (ps_is H f z) i c

end Block

/-- The blocks that the head `h` has seen before the step `k`. -/
def seen (k h : ℕ) : ℕ := (k + 1 - h) / 2

theorem seen_head (k : ℕ) (hk : k < 16) : seen k (head k) = blk k ∧ seen (k + 1) (head k) = blk k + 1 := by
  unfold seen head blk; omega

theorem seen_other (k h : ℕ) (hk : k < 16) (hh : h < 2) (hne : h ≠ head k) : seen (k + 1) h = seen k h := by
  unfold head at hne; unfold seen; omega

section Bias

variable (q k v d r)

/-- What the block `b` adds to the bias's gradient at row `i`, column `j`. -/
def zb (h b i j : ℕ) : ℝ := if j < 768 ∧ 512 ≤ 256 * b + j then Z (q h) (k h) (v h) (d h) (r h) (256 * b + i) (256 * b + j - 512) else 0

/-- The bias's accumulator before the step `s`. -/
def biasAcc (s : ℕ) : S2x256x1024.Idx → EReal := fun y =>
  ((∑ b ∈ Finset.range (seen s (y 0).val), zb q k v d r (y 0).val b (y 1).val (y 2).val : ℝ) : EReal)

variable {q k v d r}
include H

theorem biases_read : ∀ s, s ≤ 16 → A.m11.view.read (Elt Ideal) (A.m11.view.writes (Elt Ideal) A.m11.view.junk (biases A s)) = biasAcc q k v d r s
  | 0, _ => by
    refine (View.read_writes_full A.m11.view _ _ _ _).trans (funext fun y => ?_)
    have h0 : (y 0).val < 2 := (y 0).isLt
    pointwise [k0_pay5, biasAcc]
    rw [show seen 0 (y 0).val = 0 by unfold seen; omega, Finset.range_zero, Finset.sum_empty, EReal.coe_zero]
  | s + 1, hs => by
    have ih := biases_read s (by omega)
    refine withWidth_all (p := fun L => A.m11.view.read (Elt Ideal) (A.m11.view.writes (Elt Ideal) A.m11.view.junk L) = biasAcc q k v d r (s + 1))
      fun n w f cut z => ?_
    obtain ⟨h1, h2⟩ := seen_head s (by omega)
    have hw := f.hw; have hle := z.le; have hwide := z.wide
    unfold biasStep
    rw [View.read_writes_cons_put A.m11.view _ _ _ _ rfl, ih]
    funext y
    have hy0 : (y 0).val < 2 := (y 0).isLt
    have hy1 : (y 1).val < 256 := (y 1).isLt
    unfold VecWindow.put
    split
    next hi =>
      have a0 : head s ≤ (y 0).val ∧ (y 0).val < head s + 1 := hi 0
      have a2 : 768 - n ≤ (y 2).val ∧ (y 2).val < 768 - n + n := hi 2
      have e0 : (y 0).val = head s := by omega
      refine Eq.trans (congrArg (biasNext w _ _) (a₂ := ix3 0 ⟨(y 1).val, hy1⟩ ⟨(y 2).val - (768 - n), by omega⟩) ?_) ?_
      · refine funext fun a => Fin.ext ?_
        match a with
        | 0 => show (y 0).val - head s = 0; omega
        | 1 => rfl
        | 2 => rfl
      · unfold biasNext
        rw [z.good.unflat]
        show (shapeCast (Scores n) _ w.flat _ + dss A w f cut _ : EReal) = _
        rw [z.good.flat, dss_is H f z]
        have hold : A.m11.view.readCov (biases A s) (Rect.unit (s := S2x256x1024) ![head s, 0, 768 - n] (Scores1 n).size (box_r f)).toLoadRect
            (ix3 0 ⟨(y 1).val, hy1⟩ ⟨(y 2).val - (768 - n), by omega⟩)
            = ((∑ b ∈ Finset.range (blk s), zb q k v d r (head s) b (y 1).val (y 2).val : ℝ) : EReal) := by
          refine (congrFun ih _).trans ?_
          unfold biasAcc
          have c0 : head s + 1 * 0 = head s := by omega
          have c1 : 0 + 1 * (y 1).val = (y 1).val := by omega
          have c2 : 768 - n + 1 * ((y 2).val - (768 - n)) = (y 2).val := by omega
          show ((∑ b ∈ Finset.range (seen s (head s + 1 * 0)), zb q k v d r (head s + 1 * 0) b (0 + 1 * (y 1).val) (768 - n + 1 * ((y 2).val - (768 - n))) : ℝ) : EReal) = _
          rw [c0, c1, c2, h1]
        rw [hold, ← EReal.coe_add]
        unfold biasAcc
        rw [e0, h2, Finset.sum_range_succ _ (blk s)]
        refine congrArg _ (congrArg _ ?_)
        rw [zb, if_pos (by omega)]
        refine congrArg _ ?_
        simp only
        omega
    next hi =>
      unfold biasAcc
      refine congrArg _ ?_
      by_cases e0 : (y 0).val = head s
      · rw [e0, h1, h2, Finset.sum_range_succ _ (blk s), zb, if_neg, add_zero]
        rintro ⟨g1, g2⟩
        refine hi fun a => ?_
        match a with
        | 0 => show head s ≤ (y 0).val ∧ (y 0).val < head s + 1; omega
        | 1 => show 0 ≤ (y 1).val ∧ (y 1).val < 0 + 256; omega
        | 2 => show 768 - n ≤ (y 2).val ∧ (y 2).val < 768 - n + n; omega
      · rw [seen_other s _ (by omega) hy0 e0]

end Bias

section Keys

variable (T : ℕ → ℕ → Fin 64 → ℝ) (X : ℕ → ℕ → ℕ → ℝ)

/-- An accumulator of rows `T`, weighted by `X`, before the step `s`. -/
def keyAcc (s : ℕ) : S128x2048.Idx → EReal := fun y =>
  ((∑ t ∈ Finset.range (256 * seen s ((y 0).val / 64)),
    T ((y 0).val / 64) t ⟨(y 0).val % 64, Nat.mod_lt _ (by decide)⟩ * X ((y 0).val / 64) t (y 1).val : ℝ) : EReal)

variable {T X}

theorem keyAcc_at (s : ℕ) (y : S128x2048.Idx) (h : ℕ) (e : Fin 64) (c : ℕ) (h0 : (y 0).val = 64 * h + e.val) (h1 : (y 1).val = c) :
    keyAcc T X s y = ((∑ t ∈ Finset.range (256 * seen s h), T h t e * X h t c : ℝ) : EReal) := by
  have e1 : (y 0).val / 64 = h := by have := e.isLt; omega
  have e2 : (⟨(y 0).val % 64, Nat.mod_lt _ (by decide)⟩ : Fin 64) = e := Fin.ext (by have := e.isLt; simp only; omega)
  unfold keyAcc
  rw [e1, e2, h1]

theorem keyAcc_zero (y : S128x2048.Idx) : keyAcc T X 0 y = 0 := by
  have h0 : (y 0).val < 128 := (y 0).isLt
  unfold keyAcc
  rw [show seen 0 ((y 0).val / 64) = 0 by unfold seen; omega, Nat.mul_zero, Finset.range_zero, Finset.sum_empty, EReal.coe_zero]

variable (hX : ∀ h t s, ¬ Ok t s → X h t s = 0) {s n : ℕ} (hs : s < 16) {w : Wide n} (f : Fits n (blk s) (head s))
  {cut : FVec Ideal S256x768 .f32 → FVec Ideal (Scores n) .f32} (z : Sized (blk s) w cut)
  (m : Memref sig .tc .vmem S128x2048 .f32) (L : List (View.Piece (Elt Ideal) S128x2048 .f32))
  (hL : m.view.read (Elt Ideal) (m.view.writes (Elt Ideal) m.view.junk L) = keyAcc T X s)
  {t : FVec Ideal S64x256 .bf16} {x : FVec Ideal (Scores n) .f32}
  (ht : ∀ (e : Fin 64) (i : Fin 256), t (ix2 e i) = ((T (head s) (256 * blk s + i.val) e : ℝ) : EReal))
  (hx : ∀ (i : Fin 256) (c : Fin n), x (ix2 i c) = ((X (head s) (256 * blk s + i.val) (256 * blk s + 256 - n + c.val) : ℝ) : EReal))

include hX hs z hL ht hx in
theorem keyNext_is : m.view.read (Elt Ideal) (m.view.writes (Elt Ideal) m.view.junk
      (⟨Rect.unit (s := S128x2048) ![64 * head s, 256 * blk s + 256 - n] (KeysT n).size (box_t f), keyNext w t x
        (m.view.readCov L (Rect.unit (s := S128x2048) ![64 * head s, 256 * blk s + 256 - n] (KeysT n).size (box_t f)).toLoadRect)⟩ :: L))
    = keyAcc T X (s + 1) := by
  obtain ⟨h1, h2⟩ := seen_head s hs
  have hw := f.hw; have hle := z.le; have hb := f.hb
  rw [View.read_writes_cons_put m.view _ _ _ _ rfl, hL]
  funext y
  have hy0 : (y 0).val < 128 := (y 0).isLt
  have hy1 : (y 1).val < 2048 := (y 1).isLt
  unfold VecWindow.put
  split
  next hi =>
    have a0 : 64 * head s ≤ (y 0).val ∧ (y 0).val < 64 * head s + 64 := hi 0
    have a1 : 256 * blk s + 256 - n ≤ (y 1).val ∧ (y 1).val < 256 * blk s + 256 - n + n := hi 1
    rw [keyAcc_at (s + 1) y (head s) ⟨(y 0).val - 64 * head s, by omega⟩ (y 1).val (by simp only; omega) rfl, h2, Nat.mul_succ, Finset.sum_range_add,
      Finset.sum_range (fun i => T (head s) (256 * blk s + i) _ * X (head s) (256 * blk s + i) (y 1).val)]
    refine Eq.trans (congrArg (keyNext w _ _ _) (a₂ := ix2 ⟨(y 0).val - 64 * head s, by omega⟩ ⟨(y 1).val - (256 * blk s + 256 - n), by omega⟩) ?_) ?_
    · refine funext fun a => Fin.ext ?_
      match a with
      | 0 => rfl
      | 1 => rfl
    · unfold keyNext
      rw [z.good.same]
      show (m.view.readCov L _ _ + matmul w.tn none t _ _ _ : EReal) = _
      rw [z.good.tn, EReal.coe_add]
      refine congrArg₂ _ ((congrFun hL _).trans ((keyAcc_at s _ (head s) ⟨(y 0).val - 64 * head s, by omega⟩ (y 1).val
        (by show 64 * head s + 1 * ((y 0).val - 64 * head s) = 64 * head s + ((y 0).val - 64 * head s); omega)
        (by show 256 * blk s + 256 - n + 1 * ((y 1).val - (256 * blk s + 256 - n)) = _; omega)).trans (by rw [h1]))) ?_
      rw [← sum_coe]
      refine Finset.sum_congr rfl fun i _ => ?_
      rw [ht, EReal.coe_mul]
      refine congrArg _ ((hx i _).trans ?_)
      rw [show 256 * blk s + 256 - n + ((y 1).val - (256 * blk s + 256 - n)) = (y 1).val by omega]
  next hi =>
    unfold keyAcc
    refine congrArg _ ?_
    by_cases e0 : (y 0).val / 64 = head s
    · rw [e0, h1, h2, Nat.mul_succ, Finset.sum_range_add, Finset.sum_eq_zero (s := Finset.range 256) fun i h => ?_, add_zero]
      have h := Finset.mem_range.1 h
      refine mul_eq_zero_of_right _ (hX _ _ _ (out_of_window (n := n) (b := blk s) z.wide (by omega) ?_))
      by_contra hc
      refine hi fun a => ?_
      match a with
      | 0 => show 64 * head s ≤ (y 0).val ∧ (y 0).val < 64 * head s + 64; omega
      | 1 => show 256 * blk s + 256 - n ≤ (y 1).val ∧ (y 1).val < 256 * blk s + 256 - n + n; omega
    · rw [seen_other s _ hs (by omega) e0]

include H

theorem keys_read : ∀ s, s ≤ 16 → A.m9.view.read (Elt Ideal) (A.m9.view.writes (Elt Ideal) A.m9.view.junk (keyss A s))
    = keyAcc (fun h t e => q h t e * (1 / 8)) (fun h => Z (q h) (k h) (v h) (d h) (r h)) s
  | 0, _ => by
    refine (View.read_writes_full A.m9.view _ _ _ _).trans (funext fun y => ?_)
    rw [keyAcc_zero]
    pointwise [k0_pay3]
  | s + 1, hs => withWidth_all
      (p := fun L => A.m9.view.read (Elt Ideal) (A.m9.view.writes (Elt Ideal) A.m9.view.junk L) = keyAcc _ _ (s + 1))
      fun _ _ f _ z => keyNext_is (fun _ _ _ h => Z_out h) (by omega) f z A.m9 _ (keys_read s (by omega)) (qT_is f H.q) (dss_is H f z)

theorem vals_read : ∀ s, s ≤ 16 → A.m10.view.read (Elt Ideal) (A.m10.view.writes (Elt Ideal) A.m10.view.junk (vals A s))
    = keyAcc d (fun h => P (q h) (k h) (r h)) s
  | 0, _ => by
    refine (View.read_writes_full A.m10.view _ _ _ _).trans (funext fun y => ?_)
    rw [keyAcc_zero]
    pointwise [k0_pay4]
  | s + 1, hs => withWidth_all
      (p := fun L => A.m10.view.read (Elt Ideal) (A.m10.view.writes (Elt Ideal) A.m10.view.junk L) = keyAcc _ _ (s + 1))
      fun _ _ f _ z => keyNext_is (fun _ _ _ h => P_out h) (by omega) f z A.m10 _ (vals_read s (by omega)) (dT_is f H.d) (ps_is H f z)

end Keys

end Cert.AaAcc

end
-- ==== Proof.AaOut.lean ====
module

public import proofs.«01_k».proof.Proof.AaAcc

/-!
# What a grid point writes

The gradients of queries, keys and values of two heads, and the bias's gradient summed along the distances.
-/

@[expose] public section

noncomputable section

namespace Cert.AaOut

open Idealize.ShloMosaic Idealize.ShloMosaic.TcCoe Cert.AaBwdIdeal Cert.AaBwdIdeal.Gen Cert.AaChain Cert.AaReads Cert.AaReal Cert.AaTrace Cert.AaPoint Cert.AaBlock Cert.AaAcc Cert.Reals
open Cert.SbAcc (word_eighth word_eighth32)

variable (q k v d : ℕ → ℕ → Fin 64 → ℝ) (r : ℕ → ℕ → ℝ)

/-- The gradient of the query, the key or the value. -/
def grad (h : ℕ) : Fin 3 → ℕ → Fin 64 → ℝ
  | 0 => dq (q h) (k h) (v h) (d h) (r h)
  | 1 => dk (q h) (k h) (v h) (d h) (r h)
  | 2 => dv (q h) (k h) (d h) (r h)

/-- The three gradients of two heads side by side. -/
def gradBlock : S3x2048x128.Idx → EReal := fun y =>
  ((grad q k v d r ((y 2).val / 64) (y 0) (y 1).val ⟨(y 2).val % 64, Nat.mod_lt _ (by decide)⟩ : ℝ) : EReal)

variable {q k v d r}

theorem gradBlock_at (y : S3x2048x128.Idx) (h t : ℕ) (e : Fin 64) (s : Fin 3) (h0 : y 0 = s) (h1 : (y 1).val = t) (h2 : (y 2).val = 64 * h + e.val) :
    gradBlock q k v d r y = ((grad q k v d r h s t e : ℝ) : EReal) := by
  have e1 : (y 2).val / 64 = h := by have := e.isLt; omega
  have e2 : (⟨(y 2).val % 64, Nat.mod_lt _ (by decide)⟩ : Fin 64) = e := Fin.ext (by have := e.isLt; simp only; omega)
  unfold gradBlock
  rw [e1, e2, h0, h1]

variable {A : Point Ideal} (H : Holds A q k v d r)
include H

theorem dquery_is {n b h : ℕ} {w : Wide n} (f : Fits n b h) {cut : FVec Ideal S256x768 .f32 → FVec Ideal (Scores n) .f32} (z : Sized b w cut)
    (i : Fin 256) (e : Fin 64) :
    dquery w (dss A w f cut) (keys A.m3 A.h3 A.x1 f) (ix3 0 i e) = ((dq (q h) (k h) (v h) (d h) (r h) (256 * b + i.val) e : ℝ) : EReal) := by
  have hm : matmul w.nn none (truncf .bf16 (dss A w f cut) bitsLt_bf16_f32) (keys A.m3 A.h3 A.x1 f) (constant S256x64 .f32 0x00000000#32) (ix2 i e)
      = ((∑ s ∈ Finset.range 2048, Z (q h) (k h) (v h) (d h) (r h) (256 * b + i.val) s * k h s e : ℝ) : EReal) := by
    rw [z.good.nn, ← window_sum z.wide z.le f.hb i (fun s => Z (q h) (k h) (v h) (d h) (r h) (256 * b + i.val) s * k h s e)
      fun s hs => by rw [Z_out hs, zero_mul], ← sum_coe]
    refine Finset.sum_congr rfl fun c _ => ?_
    rw [keys_is f _ _ H.k, EReal.coe_mul]
    exact congrArg (· * _) (dss_is H f z i c)
  unfold dquery
  pointwise
  rw [word_eighth32]
  refine (congrArg (· * _) hm).trans ?_
  rw [← EReal.coe_mul]
  rfl

variable (V : View sig .tc .vmem S3x2048x128 .bf16)

theorem outs_read : ∀ s, s ≤ 16 → ∀ y : S3x2048x128.Idx, y 0 = (0 : Fin 3) → (y 1).val < 256 * seen s ((y 2).val / 64) →
    V.read (Elt Ideal) (V.writes (Elt Ideal) V.junk (outs A s)) y = gradBlock q k v d r y
  | 0, _, y, _, h1 => by
    have h2 : (y 2).val < 128 := (y 2).isLt
    unfold seen at h1; omega
  | s + 1, hs, y, h0, h1 => withWidth_all
      (p := fun L => V.read (Elt Ideal) (V.writes (Elt Ideal) V.junk L) y = gradBlock q k v d r y) fun n w f cut z => by
    obtain ⟨g1, g2⟩ := seen_head s (by omega)
    have h2 : (y 2).val < 128 := (y 2).isLt
    unfold outStep
    rw [View.read_writes_cons_put V _ _ _ _ rfl]
    unfold VecWindow.put
    split
    next hi =>
      have a1 : 256 * blk s ≤ (y 1).val ∧ (y 1).val < 256 * blk s + 256 := hi 1
      have a2 : 64 * head s ≤ (y 2).val ∧ (y 2).val < 64 * head s + 64 := hi 2
      rw [gradBlock_at y (head s) (256 * blk s + ((y 1).val - 256 * blk s)) ⟨(y 2).val - 64 * head s, by omega⟩ 0 h0 (by omega) (by simp only; omega)]
      refine Eq.trans (congrArg (dquery w _ _) (a₂ := ix3 0 ⟨(y 1).val - 256 * blk s, by omega⟩ ⟨(y 2).val - 64 * head s, by omega⟩) ?_) (dquery_is H f z _ _)
      refine funext fun a => Fin.ext ?_
      match a with
      | 0 => show (y 0).val - 0 = 0; rw [h0]; rfl
      | 1 => rfl
      | 2 => rfl
    next hi =>
      refine outs_read s (by omega) y h0 ?_
      by_cases e0 : (y 2).val / 64 = head s
      · rw [e0, g2] at h1
        rw [e0, g1]
        by_contra hc
        refine hi fun a => ?_
        match a with
        | 0 => show 0 ≤ (y 0).val ∧ (y 0).val < 0 + 1; rw [h0]; exact ⟨le_rfl, Nat.one_pos⟩
        | 1 => show 256 * blk s ≤ (y 1).val ∧ (y 1).val < 256 * blk s + 256; omega
        | 2 => show 64 * head s ≤ (y 2).val ∧ (y 2).val < 64 * head s + 64; omega
      · rwa [seen_other s _ (by omega) (by omega) e0] at h1

variable (c : Dev nD) (i : grid0.Coords) (m7 : Memref sig .tc .vmem S3x2048x128 .bf16) (h7 : m7.IsWhole)
  (m8 : Memref sig .tc .vmem S1x1x2x1024 .f32) (h8 : m8.IsWhole) (h9 : A.m9.IsWhole) (h10 : A.m10.IsWhole) (h11 : A.m11.IsWhole)

theorem grads_read : V.read (Elt Ideal) (V.writes (Elt Ideal) V.junk
      (kernelRun0_A c i A.m2 A.h2 A.m3 A.h3 A.m4 A.h4 A.m5 A.h5 A.m6 A.h6 m7 h7 m8 h8 A.m9 h9 A.m10 h10 A.m11 h11 A.x0 A.x1 A.x2 A.x3 A.x4).1)
    = gradBlock q k v d r := by
  have full : ∀ h, h < 2 → 256 * seen 16 h = 2048 := fun h hh => by unfold seen; omega
  rw [grads_are, View.read_writes_cons_put V _ _ _ _ rfl, View.read_writes_cons_put V _ _ _ _ rfl]
  funext y
  have y0 : (y 0).val < 3 := (y 0).isLt
  have y1 : (y 1).val < 2048 := (y 1).isLt
  have y2 : (y 2).val < 128 := (y 2).isLt
  unfold VecWindow.put
  split
  next hi =>
    have a0 : 2 ≤ (y 0).val ∧ (y 0).val < 2 + 1 := hi 0
    rw [gradBlock_at y ((y 2).val / 64) (y 1).val ⟨(y 2).val % 64, Nat.mod_lt _ (by decide)⟩ 2 (Fin.ext (by show (y 0).val = 2; omega)) rfl
      (by simp only; omega)]
    refine Eq.trans (congrArg (k0_pay2 _) (a₂ := ix3 0 ⟨(y 1).val, y1⟩ ⟨(y 2).val, y2⟩) ?_) ?_
    · refine funext fun a => Fin.ext ?_
      match a with
      | 0 => show (y 0).val - 2 = 0; omega
      | 1 => rfl
      | 2 => rfl
    · pointwise [k0_pay2]
      refine (congrFun (vals_read H 16 le_rfl) _).trans ((keyAcc_at 16 _ ((y 2).val / 64) ⟨(y 2).val % 64, Nat.mod_lt _ (by decide)⟩ (y 1).val
        (by show 0 + 1 * (y 2).val = 64 * ((y 2).val / 64) + (y 2).val % 64; omega) (by show 0 + 1 * (y 1).val = (y 1).val; omega)).trans ?_)
      rw [full _ (by omega)]
      rfl
  next _ =>
    split
    next hi =>
      have a0 : 1 ≤ (y 0).val ∧ (y 0).val < 1 + 1 := hi 0
      rw [gradBlock_at y ((y 2).val / 64) (y 1).val ⟨(y 2).val % 64, Nat.mod_lt _ (by decide)⟩ 1 (Fin.ext (by show (y 0).val = 1; omega)) rfl
        (by simp only; omega)]
      refine Eq.trans (congrArg (k0_pay1 _) (a₂ := ix3 0 ⟨(y 1).val, y1⟩ ⟨(y 2).val, y2⟩) ?_) ?_
      · refine funext fun a => Fin.ext ?_
        match a with
        | 0 => show (y 0).val - 1 = 0; omega
        | 1 => rfl
        | 2 => rfl
      · pointwise [k0_pay1, k0_pay264]
        refine (congrFun (keys_read H 16 le_rfl) _).trans ((keyAcc_at 16 _ ((y 2).val / 64) ⟨(y 2).val % 64, Nat.mod_lt _ (by decide)⟩ (y 1).val
          (by show 0 + 1 * (y 2).val = 64 * ((y 2).val / 64) + (y 2).val % 64; omega) (by show 0 + 1 * (y 1).val = (y 1).val; omega)).trans ?_)
        rw [full _ (by omega)]
        rfl
    next hi2 =>
      refine outs_read H V 16 le_rfl y (Fin.ext ?_) (by rw [full _ (by omega)]; exact y1)
      show (y 0).val = 0
      by_contra hc
      rename_i hi1
      by_cases h2 : (y 0).val = 2
      · refine hi1 fun a => ?_
        match a with
        | 0 => show 2 ≤ (y 0).val ∧ (y 0).val < 2 + 1; omega
        | 1 => show 0 ≤ (y 1).val ∧ (y 1).val < 0 + 2048; omega
        | 2 => show 0 ≤ (y 2).val ∧ (y 2).val < 0 + 128; omega
      · refine hi2 fun a => ?_
        match a with
        | 0 => show 1 ≤ (y 0).val ∧ (y 0).val < 1 + 1; omega
        | 1 => show 0 ≤ (y 1).val ∧ (y 1).val < 0 + 2048; omega
        | 2 => show 0 ≤ (y 2).val ∧ (y 2).val < 0 + 128; omega

omit H in
/-- What a diagonal meets of a block is what its distance meets there. -/
theorem zb_diag (h b i n : ℕ) (hi : i < 256) (hn : n < 1024) : zb q k v d r h b i ((n + 769 + i) % 1024)
    = if 767 ≤ n + (256 * b + i) then Z (q h) (k h) (v h) (d h) (r h) (256 * b + i) (n + (256 * b + i) - 767) else 0 := by
  unfold zb
  by_cases h1 : 255 ≤ n + i
  · have hj : (n + 769 + i) % 1024 = n + i - 255 := by omega
    rw [hj]
    by_cases h2 : n + i - 255 < 768 ∧ 512 ≤ 256 * b + (n + i - 255)
    · rw [if_pos h2, if_pos (by omega)]
      exact congrArg _ (by omega)
    · rw [if_neg h2]
      split_ifs with h3
      · exact (Z_out fun ⟨g1, _⟩ => by omega).symm
      · rfl
  · rw [if_neg (by omega)]
    split_ifs with h3
    · exact (Z_out fun ⟨_, g2⟩ => by omega).symm
    · rfl

omit H in
theorem range_mul (F : ℕ → ℝ) (n : ℕ) : ∀ m, ∑ t ∈ Finset.range (n * m), F t = ∑ a ∈ Finset.range m, ∑ p ∈ Finset.range n, F (n * a + p)
  | 0 => by simp
  | m + 1 => by rw [Nat.mul_succ, Finset.sum_range_add, range_mul F n m, Finset.sum_range_succ _ m]

omit H in
theorem diag_sum (h n : ℕ) (hn : n < 1024) :
    ∑ p : Fin 8, ∑ a ∈ Finset.range 32, ∑ b ∈ Finset.range 8, zb q k v d r h b (8 * a + p.val) (((n + 1017 + p.val) % 1024 + 776 + 8 * a) % 1024)
      = dr (q h) (k h) (v h) (d h) (r h) n := by
  unfold dr
  generalize hF : (fun t => if 767 ≤ n + t then Z (q h) (k h) (v h) (d h) (r h) t (n + t - 767) else 0) = F
  have e : ∀ t, (if 767 ≤ n + t then Z (q h) (k h) (v h) (d h) (r h) t (n + t - 767) else 0) = F t := fun t => congrFun hF t
  rw [show 2048 = 256 * 8 from rfl, range_mul F 256 8]
  have e2 : ∀ b, ∑ p ∈ Finset.range 256, F (256 * b + p) = ∑ a ∈ Finset.range 32, ∑ p ∈ Finset.range 8, F (256 * b + (8 * a + p)) :=
    fun b => range_mul (fun p => F (256 * b + p)) 8 32
  simp only [e2]
  rw [Finset.sum_comm, Finset.sum_comm (s := Finset.range 8)]
  refine Finset.sum_congr rfl fun a ha => ?_
  rw [Finset.sum_comm]
  refine Finset.sum_congr rfl fun b _ => ?_
  rw [← Finset.sum_range (fun p => zb q k v d r h b (8 * a + p) (((n + 1017 + p) % 1024 + 776 + 8 * a) % 1024))]
  refine Finset.sum_congr rfl fun p hp => ?_
  have ha := Finset.mem_range.1 ha
  have hp := Finset.mem_range.1 hp
  rw [show ((n + 1017 + p) % 1024 + 776 + 8 * a) % 1024 = (n + 769 + (8 * a + p)) % 1024 by omega, zb_diag h b (8 * a + p) n (by omega) hn, e]

omit H in
theorem group_cast (X : FVec Ideal S1x8x1024 .f32) (p : Fin 8) (c : Fin 1024) :
    shapeCast S8x1024 X shapeCasts_S1x8x1024_S8x1024 (ix2 p c) = X (ix3 0 p c) := by pointwise

theorem group_is (h : ℕ) (hh : h < 2) (a : ℕ) (ha : a < 32) (p : Fin 8) (c : Fin 1024) :
    group A h hh a (ix2 p c) = ((∑ b ∈ Finset.range 8, zb q k v d r h b (8 * a + p.val) c.val : ℝ) : EReal) := by
  unfold group
  rw [group_cast]
  refine (congrFun (biases_read H 16 le_rfl) _).trans ?_
  unfold biasAcc
  have c0 : h + 1 * 0 = h := by omega
  have c1 : 8 * (a % 32) + 1 * p.val = 8 * a + p.val := by omega
  have c2 : 0 + 1 * c.val = c.val := by omega
  have c3 : seen 16 h = 8 := by unfold seen; omega
  show ((∑ b ∈ Finset.range (seen 16 (h + 1 * 0)), zb q k v d r (h + 1 * 0) b (8 * (a % 32) + 1 * p.val) (0 + 1 * c.val) : ℝ) : EReal) = _
  rw [c0, c1, c2, c3]

/-- The sum of the groups, at row `p` and column `c`. -/
def part (q k v d : ℕ → ℕ → Fin 64 → ℝ) (r : ℕ → ℕ → ℝ) (h n p c : ℕ) : ℝ :=
  ∑ a ∈ Finset.range n, ∑ b ∈ Finset.range 8, zb q k v d r h b (8 * a + p) ((c + 776 + 8 * a) % 1024)

theorem acc8_is (h : ℕ) (hh : h < 2) (p : Fin 8) (c : Fin 1024) : ∀ n, n < 31 → acc8 A h hh n (ix2 p c)
    = ((part q k v d r h (n + 1) p.val c.val : ℝ) : EReal)
  | 0, _ => by
    pointwise [acc8]
    rw [group_is H h hh 0 (by decide)]
    unfold part
    rw [Finset.sum_range_one]
    refine congrArg _ (Finset.sum_congr rfl fun b _ => congrArg _ ?_)
    simp only
    omega
  | n + 1, hn => by
    pointwise [acc8]
    rw [acc8_is h hh p c n (by omega), group_is H h hh (n + 1) (by omega), ← EReal.coe_add]
    unfold part
    rw [Finset.sum_range_succ _ (n + 1)]
    refine congrArg _ (congrArg _ (Finset.sum_congr rfl fun b _ => congrArg _ ?_))
    have : (BitVec.ofNat 32 (248 - 8 * (n + 1))).toNat = 248 - 8 * (n + 1) := by rw [BitVec.toNat_ofNat]; omega
    simp only [this]
    have := c.isLt
    omega

theorem all8_is (h : ℕ) (hh : h < 2) (p : Fin 8) (c : Fin 1024) : all8 A h hh (ix2 p c) = ((part q k v d r h 32 p.val c.val : ℝ) : EReal) := by
  pointwise [all8]
  rw [acc8_is H h hh p c 30 (by decide), group_is H h hh 31 (by decide), ← EReal.coe_add]
  unfold part
  rw [Finset.sum_range_succ _ 31]
  refine congrArg _ (congrArg _ (Finset.sum_congr rfl fun b _ => congrArg _ ?_))
  have := c.isLt
  omega

omit H in
theorem row_word : ∀ p n : Fin 8, IntOp.cmpi .eq (BitVec.ofNat 32 p.val) (BitVec.ofNat 32 n.val) = BitVec.ofBool (decide (p.val = n.val)) := by decide

theorem tots_is (h : ℕ) (hh : h < 2) (p : Fin 8) (c : Fin 1024) : ∀ n, n < 8 → tots A h hh n (ix2 p c)
    = ((if p.val < n then part q k v d r h 32 p.val ((c.val + 1017 + p.val) % 1024) else 0 : ℝ) : EReal)
  | 0, _ => by
    pointwise [tots]
    rw [if_neg (Nat.not_lt_zero _), EReal.coe_zero]
  | n + 1, hn => by
    pointwise [tots, sub8]
    have hw := row_word p ⟨n, by omega⟩
    simp only at hw
    rw [tots_is h hh p c n (by omega), all8_is H, hw]
    have : (BitVec.ofNat 32 (7 - n)).toNat = 7 - n := by rw [BitVec.toNat_ofNat]; omega
    simp only [this]
    have hc := c.isLt
    by_cases hp : p.val = n
    · rw [decide_eq_true hp, if_neg (by omega), if_pos (by omega), EReal.coe_zero, zero_add]
      show ((part q k v d r h 32 p.val _ : ℝ) : EReal) = _
      rw [show (c.val + 1024 - (7 - n) % 1024) % 1024 = (c.val + 1017 + p.val) % 1024 by omega]
    · rw [decide_eq_false hp]
      show _ + (0 : EReal) = _
      rw [add_zero]
      exact congrArg _ (if_congr (by omega) rfl rfl)

theorem diag_is (h : ℕ) (hh : h < 2) (n : Fin 1024) : diag A h hh (ix4 0 0 0 n) = ((dr (q h) (k h) (v h) (d h) (r h) n.val : ℝ) : EReal) := by
  have hn := n.isLt
  pointwise [diag, k0_pay253, sub8]
  rw [← diag_sum h n.val n.isLt, ← sum_coe]
  refine Finset.sum_congr rfl fun p _ => ?_
  have hw := row_word p 7
  rw [tots_is H h hh p n 7 (by decide), all8_is H, show (7#32 : BitVec 32) = BitVec.ofNat 32 (7 : Fin 8).val from rfl, hw]
  have hp8 := p.isLt
  by_cases hp : p.val = 7
  · rw [decide_eq_true (show p.val = (7 : Fin 8).val from hp), if_neg (by omega), EReal.coe_zero, zero_add]
    show ((part q k v d r h 32 p.val n.val : ℝ) : EReal) = ((part q k v d r h 32 p.val ((n.val + 1017 + p.val) % 1024) : ℝ) : EReal)
    rw [show (n.val + 1017 + p.val) % 1024 = n.val by omega]
  · rw [decide_eq_false (show ¬ p.val = (7 : Fin 8).val from hp), if_pos (by omega)]
    exact add_zero _

variable (q k v d r) in
/-- The gradient of the bias of every distance, for two heads. -/
def diagBlock : S1x1x2x1024.Idx → EReal := fun y =>
  ((dr (q (y 2).val) (k (y 2).val) (v (y 2).val) (d (y 2).val) (r (y 2).val) (y 3).val : ℝ) : EReal)

omit H in
theorem diagBlock_at (y : S1x1x2x1024.Idx) (h : ℕ) (e : (y 2).val = h) :
    diagBlock q k v d r y = ((dr (q h) (k h) (v h) (d h) (r h) (y 3).val : ℝ) : EReal) := by subst e; rfl

theorem diags_read (V : View sig .tc .vmem S1x1x2x1024 .f32) : V.read (Elt Ideal) (V.writes (Elt Ideal) V.junk
      (kernelRun0_A c i A.m2 A.h2 A.m3 A.h3 A.m4 A.h4 A.m5 A.h5 A.m6 A.h6 m7 h7 m8 h8 A.m9 h9 A.m10 h10 A.m11 h11 A.x0 A.x1 A.x2 A.x3 A.x4).2.1)
    = diagBlock q k v d r := by
  rw [diags_are, View.read_writes_cons_put V _ _ _ _ rfl, View.read_writes_cons_put V _ _ _ _ rfl]
  funext y
  have y0 : (y 0).val < 1 := (y 0).isLt
  have y1 : (y 1).val < 1 := (y 1).isLt
  have y2 : (y 2).val < 2 := (y 2).isLt
  have y3 : (y 3).val < 1024 := (y 3).isLt
  unfold VecWindow.put
  split
  next hi =>
    have a2 : 1 ≤ (y 2).val ∧ (y 2).val < 1 + 1 := hi 2
    have e : (y 2).val = 1 := by omega
    rw [diagBlock_at y 1 e]
    refine Eq.trans (congrArg (diag A 1 _) (a₂ := ix4 0 0 0 ⟨(y 3).val, y3⟩) ?_) (diag_is H 1 _ ⟨(y 3).val, y3⟩)
    refine funext fun a => Fin.ext ?_
    match a with
    | 0 => show (y 0).val - 0 = 0; omega
    | 1 => show (y 1).val - 0 = 0; omega
    | 2 => show (y 2).val - 1 = 0; omega
    | 3 => rfl
  next hi1 =>
    have e : (y 2).val = 0 := by
      by_contra hc
      refine hi1 fun a => ?_
      match a with
      | 0 => show 0 ≤ (y 0).val ∧ (y 0).val < 0 + 1; omega
      | 1 => show 0 ≤ (y 1).val ∧ (y 1).val < 0 + 1; omega
      | 2 => show 1 ≤ (y 2).val ∧ (y 2).val < 1 + 1; omega
      | 3 => show 0 ≤ (y 3).val ∧ (y 3).val < 0 + 1024; omega
    rw [dif_pos fun a => by
      match a with
      | 0 => show 0 ≤ (y 0).val ∧ (y 0).val < 0 + 1; omega
      | 1 => show 0 ≤ (y 1).val ∧ (y 1).val < 0 + 1; omega
      | 2 => show 0 ≤ (y 2).val ∧ (y 2).val < 0 + 1; omega
      | 3 => show 0 ≤ (y 3).val ∧ (y 3).val < 0 + 1024; omega]
    rw [diagBlock_at y 0 e]
    refine Eq.trans (congrArg (diag A 0 _) (a₂ := ix4 0 0 0 ⟨(y 3).val, y3⟩) ?_) (diag_is H 0 _ ⟨(y 3).val, y3⟩)
    refine funext fun a => Fin.ext ?_
    match a with
    | 0 => show (y 0).val - 0 = 0; omega
    | 1 => show (y 1).val - 0 = 0; omega
    | 2 => show (y 2).val - 0 = 0; omega
    | 3 => rfl

end Cert.AaOut

end
-- ==== Proof.AaArray.lean ====
module

public import proofs.«01_k».proof.Proof.AaOut
public import proofs.«01_k».proof.Proof.SbData
public import proofs.«01_k».proof.Proof.NormRef
public import Idealize.ShloMosaic.Lib.Pipeline.ValueKit

/-!
# What the kernel of the chunked attention's gradient leaves in its results
-/

@[expose] public section

noncomputable section

namespace Cert.AaArray

open Idealize.ShloMosaic Idealize.ShloMosaic.TcCoe Idealize.SL.Sem Cert.Reals Cert.AaReal Cert.SbData Cert.AaBwdIdeal Cert.AaBwdIdeal.Gen
open Cert.AaTrace Cert.AaAcc Cert.AaOut Cert.AaPoint
open Cert.NormRef (up)
open Cert.SbAcc (beside)

/-- The bias of head `h` at the distance `n`, by numbers. -/
def bias (u : S8x2x1024.Idx → ℝ) (h n : ℕ) : ℝ := if a : h < 16 ∧ n < 1024 then u (ix3 ⟨h / 2, by omega⟩ ⟨h % 2, by omega⟩ ⟨n, a.2⟩) else 0

theorem bias_eq (u : S8x2x1024.Idx → ℝ) (i : S8x2x1024.Idx) (h n : ℕ) (h0 : (i 0).val * 2 + (i 1).val = h) (h1 : (i 2).val = n) : u i = bias u h n := by
  subst h0; subst h1
  have a0 : (i 0).val < 8 := (i 0).isLt
  have a1 : (i 1).val < 2 := (i 1).isLt
  have a2 : (i 2).val < 1024 := (i 2).isLt
  rw [bias, dif_pos ⟨by omega, a2⟩]
  refine congrArg u (funext fun a => Fin.ext ?_)
  match a with
  | 0 => show (i 0).val = ((i 0).val * 2 + (i 1).val) / 2; omega
  | 1 => show (i 1).val = ((i 0).val * 2 + (i 1).val) % 2; omega
  | 2 => rfl

variable (x : S4096x3072.Idx → ℝ) (u : S8x2x1024.Idx → ℝ) (y : S4096x1024.Idx → ℝ)

/-- The gradients of queries, keys and values. -/
def result (s : Fin 3) (r c : ℕ) : ℝ :=
  grad (part x 0 (r / 2048)) (part x 1 (r / 2048)) (part x 2 (r / 2048)) (part y 0 (r / 2048)) (bias u) (c / 64) s (r % 2048) ⟨c % 64, Nat.mod_lt _ (by decide)⟩

def wanted : S3x4096x1024.Idx → EReal := fun i => ((result x u y (i 0) (i 1).val (i 2).val : ℝ) : EReal)

/-- The gradient of the bias of head `h`. -/
def dbias (b h n : ℕ) : ℝ := dr (part x 0 b h) (part x 1 b h) (part x 2 b h) (part y 0 b h) (bias u h) n

def wantedBias : S2x8x2x1024.Idx → EReal := fun i => ((dbias x u y (i 0).val ((i 1).val * 2 + (i 2).val) (i 3).val : ℝ) : EReal)

theorem lt16 (t : Fin cfg0.N) : t.val < 16 := lt_of_lt_of_eq t.isLt (show cfg0.N = 16 from N_0)

theorem idx0 : ∀ t : Fin grid0.N, win0_0.index t = ![t.val / 8, t.val % 8] := by decide +kernel
theorem idx1 : ∀ t : Fin grid0.N, win0_1.index t = ![t.val / 8, 8 + t.val % 8] := by decide +kernel
theorem idx2 : ∀ t : Fin grid0.N, win0_2.index t = ![t.val / 8, 16 + t.val % 8] := by decide +kernel
theorem idx3 : ∀ t : Fin grid0.N, win0_3.index t = ![t.val % 8, 0, 0] := by decide +kernel
theorem idx4 : ∀ t : Fin grid0.N, win0_4.index t = ![t.val / 8, t.val % 8] := by decide +kernel
theorem idx5 : ∀ t : Fin grid0.N, win0_5.index t = ![0, t.val / 8, t.val % 8] := by decide +kernel
theorem idx6 : ∀ t : Fin grid0.N, win0_6.index t = ![t.val / 8, t.val % 8, 0, 0] := by decide +kernel

variable {x u y} (m : (ℓ : Loc nD τ sig) → Buf (Elt Ideal) ℓ) (c : Dev nD)

/-- The launch memory holds the three real arrays. -/
structure Launched (x : S4096x3072.Idx → ℝ) (u : S8x2x1024.Idx → ℝ) (y : S4096x1024.Idx → ℝ) : Prop where
  x : m ((c : Thread nD τ).loc main_arg0) = up x
  u : m ((c : Thread nD τ).loc main_arg1) = up u
  y : m ((c : Thread nD τ).loc main_arg2) = up y

/-- The two heads of point `t`. -/
abbrev pair {R C : ℕ} (x : (⟨2, ![R, C]⟩ : Shape).Idx → ℝ) (s : ℕ) (t : Fin cfg0.N) : ℕ → ℕ → Fin 64 → ℝ := fun h => part x s (t.val / 8) (2 * (t.val % 8) + h)
abbrev pairBias (u : S8x2x1024.Idx → ℝ) (t : Fin cfg0.N) : ℕ → ℕ → ℝ := fun h => bias u (2 * (t.val % 8) + h)

variable {m c} (hm : Launched m c x u y) (t : Fin cfg0.N)
include hm

theorem blk0 : iblk m c 0 t = beside (pair x 0 t) := by
  funext i
  idx_vars i
  blk_simp [iblk, idx0 t]
  rw [V_main_arg0, hm.x]
  refine congrArg ((↑) : ℝ → EReal) (cell_eq x _ _ _ ?_ ?_)
  · blk_simp [idx0 t]; omega
  · blk_simp [idx0 t]; dsimp only; omega

theorem blk1 : iblk m c 1 t = beside (pair x 1 t) := by
  funext i
  idx_vars i
  blk_simp [iblk, idx1 t]
  rw [V_main_arg0, hm.x]
  refine congrArg ((↑) : ℝ → EReal) (cell_eq x _ _ _ ?_ ?_)
  · blk_simp [idx1 t]; omega
  · blk_simp [idx1 t]; dsimp only; omega

theorem blk2 : iblk m c 2 t = beside (pair x 2 t) := by
  funext i
  idx_vars i
  blk_simp [iblk, idx2 t]
  rw [V_main_arg0, hm.x]
  refine congrArg ((↑) : ℝ → EReal) (cell_eq x _ _ _ ?_ ?_)
  · blk_simp [idx2 t]; omega
  · blk_simp [idx2 t]; dsimp only; omega

theorem blk3 : iblk m c 3 t = biasRow (pairBias u t) := by
  funext i
  idx_vars i
  blk_simp [iblk, idx3 t]
  rw [V_main_arg1, hm.u]
  refine congrArg ((↑) : ℝ → EReal) (bias_eq u _ _ _ ?_ ?_)
  · blk_simp [idx3 t]; omega
  · blk_simp [idx3 t]; try (dsimp only; omega)

theorem blk4 : iblk m c 4 t = beside (pair y 0 t) := by
  funext i
  idx_vars i
  blk_simp [iblk, idx4 t]
  rw [V_main_arg2, hm.y]
  refine congrArg ((↑) : ℝ → EReal) (cell_eq y _ _ _ ?_ ?_)
  · blk_simp [idx4 t]; omega
  · blk_simp [idx4 t]; dsimp only; omega

omit hm

variable (m c) in
/-- The buffers at point `t`. -/
def point : Point Ideal where
  m2 := ms0_0 t
  m3 := ms0_1 t
  m4 := ms0_2 t
  m5 := ms0_3 t
  m6 := ms0_4 t
  h2 := hs0_0 t
  h3 := hs0_1 t
  h4 := hs0_2 t
  h5 := hs0_3 t
  h6 := hs0_4 t
  m9 := scM0_0
  m10 := scM0_1
  m11 := scM0_2
  x0 := iblk m c 0 t
  x1 := iblk m c 1 t
  x2 := iblk m c 2 t
  x3 := iblk m c 3 t
  x4 := iblk m c 4 t

include hm

theorem holds : Holds (point m c t) (pair x 0 t) (pair x 1 t) (pair x 2 t) (pair y 0 t) (pairBias u t) :=
  ⟨blk0 hm t, blk1 hm t, blk2 hm t, blk3 hm t, blk4 hm t⟩

theorem out5 : (outsAt0 m c t).1 = gradBlock (pair x 0 t) (pair x 1 t) (pair x 2 t) (pair y 0 t) (pairBias u t) := by
  have h := grads_read (holds hm t) VO0_5 c (grid0.coords t) (ms0_5 t) (hs0_5 t) (ms0_6 t) (hs0_6 t) (Memref.isWhole_whole _) (Memref.isWhole_whole _) (Memref.isWhole_whole _)
  dsimp only [point] at h
  unfold outsAt0 out0_A_5
  dsimp only
  with_reducible exact h

theorem out6 : (outsAt0 m c t).2 = diagBlock (pair x 0 t) (pair x 1 t) (pair x 2 t) (pair y 0 t) (pairBias u t) := by
  have h := diags_read (holds hm t) c (grid0.coords t) (ms0_5 t) (hs0_5 t) (ms0_6 t) (hs0_6 t) (Memref.isWhole_whole _) (Memref.isWhole_whole _) (Memref.isWhole_whole _) VO0_6
  dsimp only [point] at h
  unfold outsAt0 out0_A_6
  dsimp only
  with_reducible exact h

theorem final5 : (dats m 0 c).arrAt 5 cfg0.N = wanted x u y := by
  refine (dats m 0 c).arrAt_eq_of_covers 5 _ (by decide +kernel) fun t hf z => ?_
  have ht := lt16 t
  blk_simp
  rw [after0_5, out5 hm]
  idx_vars z
  rw [show ((View.whole main_v0_0).slice (win0_5.rect t)).emb (ix3 z0 z1 z2)
      = ix3 z0 ⟨t.val / 8 * 2048 + z1.val, by omega⟩ ⟨t.val % 8 * 128 + z2.val, by omega⟩ by blk_ext [idx5 t]]
  have e1 : (t.val / 8 * 2048 + z1.val) / 2048 = t.val / 8 := by omega
  have e2 : (t.val / 8 * 2048 + z1.val) % 2048 = z1.val := by omega
  have e3 : (t.val % 8 * 128 + z2.val) / 64 = 2 * (t.val % 8) + z2.val / 64 := by omega
  have e4 : (t.val % 8 * 128 + z2.val) % 64 = z2.val % 64 := by omega
  show _ = ((result x u y z0 (t.val / 8 * 2048 + z1.val) (t.val % 8 * 128 + z2.val) : ℝ) : EReal)
  unfold result
  simp only [e1, e2, e3, e4]
  show ((grad (pair x 0 t) _ _ _ _ (z2.val / 64) z0 z1.val ⟨z2.val % 64, _⟩ : ℝ) : EReal) = _
  obtain ⟨_ | _ | _ | s, hs⟩ := z0
  · rfl
  · rfl
  · rfl
  · omega

theorem final6 : (dats m 0 c).arrAt 6 cfg0.N = wantedBias x u y := by
  refine (dats m 0 c).arrAt_eq_of_covers 6 _ (by decide +kernel) fun t hf z => ?_
  have ht := lt16 t
  blk_simp
  rw [after0_6, out6 hm]
  idx_vars z
  rw [show ((View.whole main_v0_1).slice (win0_6.rect t)).emb (ix4 z0 z1 z2 z3)
      = ix4 ⟨t.val / 8, by omega⟩ ⟨t.val % 8, by omega⟩ z2 z3 by blk_ext [idx6 t]]
  show _ = ((dbias x u y (t.val / 8) (t.val % 8 * 2 + z2.val) z3.val : ℝ) : EReal)
  rw [Nat.mul_comm (t.val % 8) 2]
  rfl

end Cert.AaArray

end
-- ==== Proof.AaRef.lean ====
module

public import proofs.«01_k».proof.Proof.AaArray
public import proofs.«01_k».proof.Proof.Gen.AaGradIdeal.Read

/-!
# What the chunked attention's reference gradient computes
-/

@[expose] public section

noncomputable section

namespace Cert.AaRef

open Idealize.ShloMosaic Cert.Reals Cert.AaReal Cert.SbData Cert.AaGradIdeal Cert.AaGradIdeal.Read
open Cert.NormRef (up)
open Cert.AaReads (word_bot)
open Cert.SbAcc (word_eighth32)
open Cert.AaArray (bias bias_eq result dbias)

theorem v12 (i : Fin 2048) : val_main_v12 (F := Ideal) (ix1 i) = BitVec.ofNat 32 (i.val / 64) := by
  rw [val_main_v12_apply]; rfl

/-- A key in reach: its chunk is not after the query's and at most eight before. -/
theorem v23 (i j : Fin 2048) : val_main_v23 (F := Ideal) (ix2 i j) = BitVec.ofBool (decide (Ok i.val j.val)) := by
  pointwise [val_main_v23, val_main_v22, val_main_v21, val_main_v20, val_main_v19, val_main_v18, val_main_c, val_main_v17, val_main_v16, val_main_v15, val_main_v14, val_main_v13]
  simp only [v12]
  have hi := i.isLt
  have hj := j.isLt
  rw [show IntOp.addi (BitVec.ofNat 32 (j.val / 64)) 8#32 = BitVec.ofNat 32 (j.val / 64 + 8) from (BitVec.ofNat_add _ _).symm,
    WordCmp.cmpi_sle_ofNat (by omega) (by omega), WordCmp.cmpi_sle_ofNat (by omega) (by omega)]
  show BitVec.ofBool _ &&& BitVec.ofBool _ = _
  by_cases h1 : j.val / 64 ≤ i.val / 64 <;> by_cases h2 : i.val / 64 ≤ j.val / 64 + 8 <;> simp [Ok, h1, h2]

theorem one_bit : FloatOps.uitofp (F := Ideal) .f32 1#1 = 1 := by
  simp [FloatOps.uitofp]

theorem zero_bit : FloatOps.uitofp (F := Ideal) .f32 0#1 = ((0 : ℝ) : EReal) := by
  simp [FloatOps.uitofp]

theorem v39 (i j : Fin 2048) (n : Fin 1024) : val_main_v39 (F := Ideal) (ix3 i j n) = (((if j.val + 767 = i.val + n.val then 1 else 0 : ℝ) : ℝ) : EReal) := by
  pointwise [val_main_v39, val_main_v38, val_main_v37, val_main_v36, val_main_v35, val_main_v34, val_main_v33, val_main_v32, val_main_v31, val_main_c_0, val_main_v30, val_main_v29, val_main_v28, val_main_v27, val_main_v26, val_main_v25, val_main_v24]
  have hi := i.isLt
  have hj := j.isLt
  have hn := n.isLt
  have e : IntOp.addi (IntOp.subi (BitVec.ofNat 32 j.val) (BitVec.ofNat 32 i.val)) 767#32 = BitVec.ofNat 32 n.val ↔ j.val + 767 = i.val + n.val := by
    show BitVec.ofNat 32 j.val - BitVec.ofNat 32 i.val + 767#32 = _ ↔ _
    rw [← BitVec.toNat_inj]
    simp only [BitVec.toNat_add, BitVec.toNat_sub, BitVec.toNat_ofNat]
    omega
  by_cases h : j.val + 767 = i.val + n.val
  · rw [if_pos h, e.2 h]
    simp [IntOp.cmpi]
    exact one_bit
  · rw [if_neg h, show IntOp.cmpi CmpIPredicate.eq (IntOp.addi (IntOp.subi (BitVec.ofNat 32 j.val) (BitVec.ofNat 32 i.val)) 767#32) (BitVec.ofNat 32 n.val) = 0#1 by
      show BitVec.ofBool (_ == _) = _; rw [beq_eq_false_iff_ne.2 (mt e.1 h)]; rfl]
    exact zero_bit

section Parts

variable (x : S4096x3072.Idx → ℝ) (u : S8x2x1024.Idx → ℝ) (y : S4096x1024.Idx → ℝ) (b : Fin 2) (i : Fin 2048) (h : Fin 16) (e : Fin 64)

theorem v2 : val_main_v2 (F := Ideal) (up x) (ix4 b i h e) = (part x 0 b h i e : EReal) := by
  rw [val_main_v2_apply, val_main_v1_apply, val_main_v0_apply]
  refine congrArg ((↑) : ℝ → EReal) (cell_eq x _ _ _ ?_ ?_)
  · show ((((b.val * 2048 + i.val) * 16 + h.val) * 64 + e.val) / 1024) = _; omega
  · show ((((b.val * 2048 + i.val) * 16 + h.val) * 64 + e.val) % 1024) = _; omega

theorem v5 : val_main_v5 (F := Ideal) (up x) (ix4 b i h e) = (part x 1 b h i e : EReal) := by
  rw [val_main_v5_apply, val_main_v4_apply, val_main_v3_apply]
  refine congrArg ((↑) : ℝ → EReal) (cell_eq x _ _ _ ?_ ?_)
  · show ((((b.val * 2048 + i.val) * 16 + h.val) * 64 + e.val) / 1024) = _; omega
  · show 1024 + ((((b.val * 2048 + i.val) * 16 + h.val) * 64 + e.val) % 1024) = _; omega

theorem v8 : val_main_v8 (F := Ideal) (up x) (ix4 b i h e) = (part x 2 b h i e : EReal) := by
  rw [val_main_v8_apply, val_main_v7_apply, val_main_v6_apply]
  refine congrArg ((↑) : ℝ → EReal) (cell_eq x _ _ _ ?_ ?_)
  · show ((((b.val * 2048 + i.val) * 16 + h.val) * 64 + e.val) / 1024) = _; omega
  · show 2048 + ((((b.val * 2048 + i.val) * 16 + h.val) * 64 + e.val) % 1024) = _; omega

theorem v78 : val_main_v78 (F := Ideal) (up y) (ix4 b h e i) = (part y 0 b h i e : EReal) := by
  rw [val_main_v78_apply, val_main_v77_apply, val_main_v76_apply]
  refine congrArg ((↑) : ℝ → EReal) (cell_eq y _ _ _ ?_ ?_)
  · show ((((b.val * 2048 + i.val) * 16 + h.val) * 64 + e.val) / 1024) = _; omega
  · show ((((b.val * 2048 + i.val) * 16 + h.val) * 64 + e.val) % 1024) = _; omega

theorem v9 (a : Fin 1) (n : Fin 1024) : val_main_v9 (F := Ideal) (up u) (ix3 a h n) = (bias u h n : EReal) := by
  rw [val_main_v9_apply]
  refine congrArg ((↑) : ℝ → EReal) (bias_eq u _ _ _ ?_ ?_)
  · show ((a.val * 16 + h.val) * 1024 + n.val) / 2048 * 2 + ((a.val * 16 + h.val) * 1024 + n.val) / 1024 % 2 = _; omega
  · show ((a.val * 16 + h.val) * 1024 + n.val) % 1024 = _; omega

end Parts

variable (x : S4096x3072.Idx → ℝ) (u : S8x2x1024.Idx → ℝ) (y : S4096x1024.Idx → ℝ) (b : Fin 2) (h : Fin 16) (i j : Fin 2048)

theorem v43 : val_main_v43 (F := Ideal) (up x) (ix4 b h i j) = ((∑ e, part x 0 b h i e * (1 / 8) * part x 1 b h j e : ℝ) : EReal) := by
  pointwise [val_main_v43, val_main_v42, val_main_cst, val_main_v41]
  simp only [v2, v5, ← EReal.coe_mul, sum_coe, word_eighth32]
  rw [Finset.sum_mul]
  simp only [mul_right_comm]

theorem v40 : val_main_v40 (F := Ideal) (up u) (ix4 b h i j) = ((∑ n : Fin 1024, bias u h n * (if j.val + 767 = i.val + n.val then 1 else 0) : ℝ) : EReal) := by
  pointwise [val_main_v40, val_main_v10]
  simp only [v9, v39, ← EReal.coe_mul, sum_coe]

/-- In reach, the one distance of a pair has its bias. -/
theorem hit (f : ℕ → ℝ) {i j : ℕ} (hi : i < 2048) (hj : j < 2048) (hok : Ok i j) : ∑ n : Fin 1024, f n * (if j + 767 = i + n.val then 1 else 0) = f (j + 767 - i) := by
  obtain ⟨h1, h2⟩ := hok
  rw [Finset.sum_eq_single (⟨j + 767 - i, by omega⟩ : Fin 1024)]
  · rw [if_pos (by show _ = i + (j + 767 - i); omega), mul_one]
  · intro n _ hn
    rw [if_neg, mul_zero]
    intro h; exact hn (Fin.ext (show n.val = j + 767 - i by omega))
  · intro h; exact absurd (Finset.mem_univ _) h

theorem select_ok {α : Type} (a c : α) : Scalar.select (BitVec.ofBool (decide (Ok i.val j.val))) a c = if Ok i.val j.val then a else c := by
  by_cases hj : Ok i.val j.val <;> simp [Scalar.select, hj]

theorem v45_0 : val_main_v45_0 (F := Ideal) (up x) (up u) (ix4 b h i j)
    = if Ok i.val j.val then (S (part x 0 b h) (part x 1 b h) (bias u h) i j : EReal) else ⊥ := by
  pointwise [val_main_v45_0, val_main_v45_1, val_main_v44, val_main_call0_v2, val_main_call0_v0, val_main_cst_1]
  rw [v23, select_ok]
  split_ifs with hok
  · rw [v43, v40, hit _ i.isLt j.isLt hok, ← EReal.coe_add, S]
  · exact word_bot

theorem v46 : val_main_v46 (F := Ideal) (up x) (up u) (ix3 b h i)
    = (Finset.univ : Finset (Fin 2048)).fold max ⊥ (fun j => val_main_v45_0 (F := Ideal) (up x) (up u) (ix4 b h i j)) := by
  pointwise [val_main_v46, val_main_cst_2]
  rw [word_bot]

theorem v53 : val_main_v53 (F := Ideal) (up x) (up u) (ix3 b h i) = max ⊥ (val_main_v46 (F := Ideal) (up x) (up u) (ix3 b h i)) := by
  rw [val_main_v53_apply, val_main_v52_apply]
  generalize val_main_v46 (F := Ideal) (up x) (up u) (ix3 b h i) = w
  exact congrArg (fun z => max z w) word_bot

/-- The exponentials of a row of scores, up to the row's one factor. -/
theorem exps : ∃ g : ℝ, 0 < g ∧ ∀ j : Fin 2048, val_main_v66 (F := Ideal) (up x) (up u) (ix4 b h i j)
    = ((W (part x 0 b h) (part x 1 b h) (bias u h) i j * g : ℝ) : EReal) := by
  obtain ⟨M, g, hg, hM, he⟩ := soft (fun j : Fin 2048 => val_main_v45_0 (F := Ideal) (up x) (up u) (ix4 b h i j)) (fun j => Ok i.val j.val)
    (fun j => S (part x 0 b h) (part x 1 b h) (bias u h) i j) (fun j => v45_0 x u b h i j) i (ok_self _)
  refine ⟨g, hg, fun j => ?_⟩
  pointwise [val_main_v66, val_main_v65, val_main_v64, val_main_v63]
  rw [v53, v46, hM, max_eq_right bot_le, he]
  rfl

theorem v70 : val_main_v70 (F := Ideal) (up x) (up u) (ix4 b h i j) = (P (part x 0 b h) (part x 1 b h) (bias u h) i j : EReal) := by
  obtain ⟨g, hg, he⟩ := exps x u b h i
  pointwise [val_main_v70, val_main_v69, val_main_v68, val_main_v67, val_main_cst_10]
  have hW := W_sum_pos (q := part x 0 b h) (k := part x 1 b h) (r := bias u h) i.isLt
  simp only [he, sum_coe]
  rw [← Finset.sum_mul, ← Finset.sum_range (fun j => W (part x 0 b h) (part x 1 b h) (bias u h) i j), div_coe_coe _ (mul_pos hW hg).ne', P,
    mul_div_mul_right _ _ hg.ne']

theorem v79 : val_main_v79 (F := Ideal) (up x) (up y) (ix4 b h i j) = (Dp (part x 2 b h) (part y 0 b h) i j : EReal) := by
  pointwise [val_main_v79]
  simp only [v78, v8, ← EReal.coe_mul, sum_coe]
  rfl

theorem v94 : val_main_v94 (F := Ideal) (up x) (up u) (up y) (ix4 b h i j)
    = (Z (part x 0 b h) (part x 1 b h) (part x 2 b h) (part y 0 b h) (bias u h) i j : EReal) := by
  obtain ⟨g, hg, he⟩ := exps x u b h i
  pointwise [val_main_v94, val_main_v45_1, val_main_call1_v0, val_main_call1_cst, val_main_v93, val_main_v92, val_main_v91, val_main_v90, val_main_cst_13, val_main_v89, val_main_v88, val_main_v87, val_main_v86, val_main_v85, val_main_cst_12, val_main_v84, val_main_v83, val_main_v82, val_main_v73, val_main_v72, val_main_cst_11, val_main_v71, val_main_v68, val_main_v67, val_main_cst_10]
  have hW := W_sum_pos (q := part x 0 b h) (k := part x 1 b h) (r := bias u h) i.isLt
  rw [v23, select_ok]
  split_ifs with hok
  · simp only [he, v79, sum_coe, ← EReal.coe_mul]
    rw [← Finset.sum_mul, ← Finset.sum_range (fun j => W (part x 0 b h) (part x 1 b h) (bias u h) i j), ← EReal.coe_one,
      div_coe_coe _ (mul_pos hW hg).ne', div_coe_coe _ (mul_pos (mul_pos hW hg) (mul_pos hW hg)).ne']
    simp only [Fin.sum_univ_one, sum_coe, ← EReal.coe_mul, ← EReal.coe_neg, ← EReal.coe_add]
    rw [Z, Finset.sum_range (n := 2048) (fun j => P _ _ _ _ j * _)]
    unfold P
    generalize (∑ j ∈ Finset.range 2048, W (part x 0 b h) (part x 1 b h) (bias u h) i j) = D at *
    refine congrArg ((↑) : ℝ → EReal) ?_
    rw [show (∑ l : Fin 2048, Dp (part x 2 b h) (part y 0 b h) i l * (1 / (D * g * (D * g))) * (W (part x 0 b h) (part x 1 b h) (bias u h) i l * g))
      = (∑ l : Fin 2048, W (part x 0 b h) (part x 1 b h) (bias u h) i l / D * Dp (part x 2 b h) (part y 0 b h) i l) * (1 / (D * g)) by
        rw [Finset.sum_mul]; exact Finset.sum_congr rfl fun l _ => by field_simp]
    field_simp
    ring
  · rw [Z_out hok]; rfl

variable (e : Fin 64) (n : Fin 1024)

theorem v100 : val_main_v100 (F := Ideal) (up x) (up u) (up y) (ix4 b i h e)
    = (dq (part x 0 b h) (part x 1 b h) (part x 2 b h) (part y 0 b h) (bias u h) i e : EReal) := by
  pointwise [val_main_v100, val_main_v99, val_main_v96, val_main_v95, val_main_cst_14]
  simp only [v94, v5, word_eighth32, ← EReal.coe_mul, sum_coe]
  rw [dq, Finset.sum_range, Finset.sum_mul]
  simp only [mul_right_comm]

theorem v98 : val_main_v98 (F := Ideal) (up x) (up u) (up y) (ix4 b j h e)
    = (dk (part x 0 b h) (part x 1 b h) (part x 2 b h) (part y 0 b h) (bias u h) j e : EReal) := by
  pointwise [val_main_v98, val_main_v97, val_main_v96, val_main_v95, val_main_cst_14]
  simp only [v94, v2, word_eighth32, ← EReal.coe_mul, sum_coe]
  rw [dk, Finset.sum_range]
  congr 1; exact Finset.sum_congr rfl fun _ _ => by ring

theorem v81 : val_main_v81 (F := Ideal) (up x) (up u) (up y) (ix4 b j h e)
    = (dv (part x 0 b h) (part x 1 b h) (part y 0 b h) (bias u h) j e : EReal) := by
  pointwise [val_main_v81, val_main_v80]
  simp only [v78, v70, ← EReal.coe_mul, sum_coe]
  rw [dv, Finset.sum_range]

/-- Over the keys, the one that stands at a query's distance. -/
theorem one_key (f : ℕ → ℝ) {i n : ℕ} (hf : ∀ s, 2048 ≤ s → f s = 0) :
    ∑ j : Fin 2048, f j * (if j.val + 767 = i + n then 1 else 0) = if 767 ≤ n + i then f (n + i - 767) else 0 := by
  by_cases h : 767 ≤ n + i
  · rw [if_pos h]
    by_cases h2 : n + i - 767 < 2048
    · rw [Finset.sum_eq_single (⟨n + i - 767, h2⟩ : Fin 2048)]
      · rw [if_pos (by show n + i - 767 + 767 = _; omega), mul_one]
      · intro j _ hj
        rw [if_neg, mul_zero]
        intro hh; exact hj (Fin.ext (show j.val = n + i - 767 by omega))
      · intro hh; exact absurd (Finset.mem_univ _) hh
    · rw [hf _ (not_lt.1 h2)]
      exact Finset.sum_eq_zero fun j _ => by rw [if_neg (by have := j.isLt; omega), mul_zero]
  · rw [if_neg h]
    exact Finset.sum_eq_zero fun j _ => by rw [if_neg (by omega), mul_zero]

theorem v101 : val_main_v101 (F := Ideal) (up x) (up u) (up y) (ix3 b h n) = (dbias x u y b h n : EReal) := by
  pointwise [val_main_v101]
  simp only [v94, v39, ← EReal.coe_mul, sum_coe]
  rw [dbias, dr, Finset.sum_range]
  refine congrArg ((↑) : ℝ → EReal) (Finset.sum_congr rfl fun i _ => one_key _ fun s hs => Z_out ?_)
  rintro ⟨h1, -⟩
  have := i.isLt
  omega

/-- Where an entry of a matrix of 4096 positions stands among the sequences, positions, heads and features. -/
theorem place (r : Fin 4096) (c : Fin 1024) : idx_main_v102 (ix2 r c)
    = ix4 ⟨r.val / 2048, by omega⟩ ⟨r.val % 2048, by omega⟩ ⟨c.val / 64, by omega⟩ ⟨c.val % 64, by omega⟩ := by
  funext a
  match a with
  | ⟨0, _⟩ => exact Fin.ext (show (r.val * 1024 + c.val) / 2097152 = r.val / 2048 by omega)
  | ⟨1, _⟩ => exact Fin.ext (show (r.val * 1024 + c.val) / 1024 % 2048 = r.val % 2048 by omega)
  | ⟨2, _⟩ => exact Fin.ext (show (r.val * 1024 + c.val) / 64 % 16 = c.val / 64 by omega)
  | ⟨3, _⟩ => exact Fin.ext (show (r.val * 1024 + c.val) % 64 = c.val % 64 by omega)

theorem v102 (r : Fin 4096) (c : Fin 1024) : val_main_v102 (F := Ideal) (up x) (up u) (up y) (ix2 r c) = (result x u y 0 r c : EReal) := by
  rw [val_main_v102_apply, place, v100]; rfl

theorem v103 (r : Fin 4096) (c : Fin 1024) : val_main_v103 (F := Ideal) (up x) (up u) (up y) (ix2 r c) = (result x u y 1 r c : EReal) := by
  rw [val_main_v103_apply, show idx_main_v103 (ix2 r c) = _ from place r c, v98]; rfl

theorem v104 (r : Fin 4096) (c : Fin 1024) : val_main_v104 (F := Ideal) (up x) (up u) (up y) (ix2 r c) = (result x u y 2 r c : EReal) := by
  rw [val_main_v104_apply, show idx_main_v104 (ix2 r c) = _ from place r c, v81]; rfl

theorem v109 (s : Fin 3) (r : Fin 4096) (c : Fin 1024) : val_main_v109 (F := Ideal) (up x) (up u) (up y) (ix3 s r c) = (result x u y s r c : EReal) := by
  pointwise [val_main_v109, val_main_v108, val_main_v105, val_main_v106, val_main_v107]
  simp only [v102, v103, v104]
  obtain ⟨_ | _ | _ | s, hs⟩ := s
  · simp
  · simp
  · simp
  · omega

theorem v110 (g : Fin 8) (w : Fin 2) : val_main_v110 (F := Ideal) (up x) (up u) (up y) (ix4 b g w n) = (dbias x u y b (g.val * 2 + w.val) n : EReal) := by
  rw [val_main_v110_apply, show idx_main_v110 (ix4 b g w n) = ix3 b ⟨g.val * 2 + w.val, by omega⟩ n from ?_, v101]
  funext a
  match a with
  | ⟨0, _⟩ => exact Fin.ext (show (((b.val * 8 + g.val) * 2 + w.val) * 1024 + n.val) / 16384 = b.val by omega)
  | ⟨1, _⟩ => exact Fin.ext (show (((b.val * 8 + g.val) * 2 + w.val) * 1024 + n.val) / 1024 % 16 = g.val * 2 + w.val by omega)
  | ⟨2, _⟩ => exact Fin.ext (show (((b.val * 8 + g.val) * 2 + w.val) * 1024 + n.val) % 1024 = n.val by omega)

end Cert.AaRef

end
-- ==== Proof.AaClaim.lean ====
module

public import proofs.«01_k».proof.Defs
public import proofs.«01_k».proof.Proof.AaRef
public import proofs.«01_k».proof.Proof.Finite
public import proofs.«01_k».proof.Proof.Gen.AaBwd.Frame
public import proofs.«01_k».proof.Proof.Gen.AaBwdIdeal.Value
public import proofs.«01_k».proof.Proof.Gen.AaGradIdeal.Run
public import proofs.«01_k».proof.Proof.Gen.Pre_aa_finite

/-!
# The claims about the chunked attention's gradient
-/

@[expose] public section

noncomputable section

namespace Cert.AaClaim

open Idealize.ShloMosaic Idealize.ShloMosaic.TcCoe Idealize.SL.Sem Cert.Finite
open Cert.NormRef (up)

/-- The precondition says that the three arguments hold real numbers. -/
theorem holds_of_pre (m : (ℓ : Loc AaBwdIdeal.nD AaBwdIdeal.τ AaBwdIdeal.sig) → Buf (Elt Ideal) ℓ) (h : Pre_AaBwdIdeal_aa_finite m)
    (c : Dev AaBwdIdeal.nD) : ∃ x u y, AaArray.Launched m c x u y := by
  have hc := congrFun (h c) (Shape.Idx.first Pre_aa_finite.Gen.h_S_)
  dsimp only [Pre_aa_finite.fn] at hc
  obtain ⟨hc, e2⟩ := IntOp.andi_eq_one.1 hc
  obtain ⟨e0, e1⟩ := IntOp.andi_eq_one.1 hc
  exact ⟨_, _, _, eq_reals _ _ _ _ _ _ e0, eq_reals _ _ _ _ _ _ e1, eq_reals _ _ _ _ _ _ e2⟩

theorem frame_reference : Cert.quiescent_AaGradIdeal := fun m ρ _ =>
  (θ_run AaGradIdeal.defs _ _).mono (fun r h => ⟨fun c => (h c).2.2, sem_eq_zero_of_no_sems (by decide) r.2⟩)
    (AaGradIdeal.Value.run (F := Ideal) m ρ)

/-- The constant that stands for minus infinity. -/
theorem mask : Cert.preserves_AaBwd_AaBwdIdeal := IdealRules.named_const.statement Cert.AaBwdIdeal.κ "mask" .f32 0xF149F2CA#32 ⊥ rfl

variable (x : AaGradIdeal.S4096x3072.Idx → ℝ) (u : AaGradIdeal.S8x2x1024.Idx → ℝ) (y : AaGradIdeal.S4096x1024.Idx → ℝ)

theorem reference : AaGradIdeal.Read.val_main_v109 (F := Ideal) (up x) (up u) (up y) = AaArray.wanted x u y := by
  funext i
  idx_vars i
  exact AaRef.v109 x u y _ _ _

theorem referenceBias : AaGradIdeal.Read.val_main_v110 (F := Ideal) (up x) (up u) (up y) = AaArray.wantedBias x u y := by
  funext i
  idx_vars i
  exact AaRef.v110 x u y _ _ _ _

theorem equal : Cert.algebraic_AaBwdIdeal_AaGradIdeal_pre_aa_finite := by
  intro m ρ m' ρ' hpre hagree
  refine ⟨fun c => (AaBwdIdeal.Gen.dats m 0 c).arrAt 5 AaBwdIdeal.cfg0.N, fun c => (AaBwdIdeal.Gen.dats m 0 c).arrAt 6 AaBwdIdeal.cfg0.N,
    AaBwdIdeal.Value.run_blocks m ρ, ?_⟩
  refine (θ_run AaGradIdeal.defs _ _).mono (fun _ h c => ?_) (AaGradIdeal.Value.run (F := Ideal) m' ρ')
  obtain ⟨x, u, y, hm⟩ := holds_of_pre m hpre c
  obtain ⟨a0, a1, a2⟩ := hagree c
  obtain ⟨h0, h1, hk⟩ := h c
  refine ⟨h0.trans ?_, h1.trans ?_, hk⟩
  · refine Eq.trans ?_ (AaArray.final5 hm).symm
    rw [AaGradIdeal.Read.val_main_v109_eq, a0, a1, a2, hm.x, hm.u, hm.y, reference]
  · refine Eq.trans ?_ (AaArray.final6 hm).symm
    rw [AaGradIdeal.Read.val_main_v110_eq, a0, a1, a2, hm.x, hm.u, hm.y, referenceBias]

end Cert.AaClaim

end
-- ==== Proof.BvKernel.lean ====
module

public import proofs.«01_k».proof.Proof.Reals
public import proofs.«01_k».proof.Proof.Gen.BvBwdIdeal.Value
public import proofs.«01_k».proof.Proof.Gen.BvGradIdeal.Read
public import Idealize.ShloMosaic.Lib.Pipeline.ValueKit

/-!
# The bias table's gradient

Every place of the row of biases reads one entry of the table; the gradient of an entry is the sum over its places.
-/

@[expose] public section

noncomputable section

namespace Cert.BvKernel

open Idealize.ShloMosaic Cert.Reals

variable (d : BvBwdIdeal.S4x16x1024.Idx → EReal)

/-- Which entry of the table a place of the row of biases reads, as the programs compute it. -/
def entry (n : Fin 1024) : BitVec 32 :=
  IntOp.addi (IntOp.minsi 128#32 (IntOp.maxsi 4294967168#32 (IntOp.subi 767#32 (BitVec.ofNat 32 n.val)))) 128#32

/-- A term times the word comparison as a number is the term where the words agree. -/
theorem mul_hit (x : EReal) (a b : BitVec 32) :
    x * FloatOps.sitofp (F := Ideal) .f32 (BitVec.setWidth 32 (IntOp.cmpi CmpIPredicate.eq a b))
      = Scalar.select (IntOp.cmpi CmpIPredicate.eq b a) x 0 := by
  by_cases h : a = b
  · subst h
    rw [show IntOp.cmpi CmpIPredicate.eq a a = 1#1 by show BitVec.ofBool (_ == _) = _; rw [beq_self_eq_true]; rfl]
    simp [Scalar.select, FloatOps.sitofp]
  · rw [show IntOp.cmpi CmpIPredicate.eq a b = 0#1 by show BitVec.ofBool (_ == _) = _; rw [beq_eq_false_iff_ne.2 h]; rfl,
      show IntOp.cmpi CmpIPredicate.eq b a = 0#1 by show BitVec.ofBool (_ == _) = _; rw [beq_eq_false_iff_ne.2 (Ne.symm h)]; rfl]
    simp [Scalar.select, FloatOps.sitofp]

/-- The kernel's product with the places of each entry. -/
theorem kernel_apply (v0 v2 v5 v8 : Vec Ideal BvBwdIdeal.S1x16x1024 .f32) (h : Fin 16) (r : Fin 384) :
    BvBwdIdeal.Gen.k0_pay1 v0 v2 v5 v8 (ix2 h r)
      = ∑ n, Scalar.select (IntOp.cmpi CmpIPredicate.eq (entry n) (BitVec.ofNat 32 r.val))
          (v0 (ix3 0 h n) + v2 (ix3 0 h n) + v5 (ix3 0 h n) + v8 (ix3 0 h n)) 0 := by
  pointwise [BvBwdIdeal.Gen.k0_pay1]
  simp only [mul_hit, entry]

open BvGradIdeal.Read in
/-- The reference's sum over the places that read each entry. -/
theorem reference_apply (h : Fin 16) (r : Fin 384) : val_main_v23 (F := Ideal) d (ix2 h r)
    = ∑ n, Scalar.select (IntOp.cmpi CmpIPredicate.eq (entry n) (BitVec.ofNat 32 r.val)) (∑ i : Fin 4, d (ix3 i h n)) 0 := by
  pointwise [val_main_v23, val_main_v22, val_main_call2_v2, val_main_call2_v1, val_main_call2_v0, val_main_v21, val_main_v20,
    val_main_v19, val_main_v18, val_main_cst_7, val_main_call2_cst_0, val_main_call2_cst, val_main_cst_6, val_main_cst_5,
    val_main_v14_1, val_main_v12, val_main_v11, val_main_v10, val_main_v9, val_main_v8, val_main_v7, val_main_v5, val_main_v4,
    val_main_c_2, val_main_v3, val_main_call0_v4, val_main_call0_v3, val_main_c_1, val_main_call0_v2, val_main_call0_v1,
    val_main_call0_v0, val_main_c_0, val_main_v2, val_main_v1, val_main_c, val_main_v0]
  simp only [Finset.univ_unique, Fin.default_eq_zero, Finset.sum_singleton]
  rfl

section Slices

open BvBwdIdeal.Gen

/-- The four rows of gradients, as the kernel loads them. -/
theorem ld0 (d : Vec Ideal BvBwdIdeal.S4x16x1024 .f32) (h : Fin 16) (n : Fin 1024) : View.ld d r0_0 (ix3 0 h n) = d (ix3 0 h n) :=
  View.ld_unit_apply_of _ _ _ _ _ _ fun | 0 => rfl | 1 | 2 => (Nat.zero_add _).symm
theorem ld1 (d : Vec Ideal BvBwdIdeal.S4x16x1024 .f32) (h : Fin 16) (n : Fin 1024) : View.ld d r0_1 (ix3 0 h n) = d (ix3 1 h n) :=
  View.ld_unit_apply_of _ _ _ _ _ _ fun | 0 => rfl | 1 | 2 => (Nat.zero_add _).symm
theorem ld2 (d : Vec Ideal BvBwdIdeal.S4x16x1024 .f32) (h : Fin 16) (n : Fin 1024) : View.ld d r0_2 (ix3 0 h n) = d (ix3 2 h n) :=
  View.ld_unit_apply_of _ _ _ _ _ _ fun | 0 => rfl | 1 | 2 => (Nat.zero_add _).symm
theorem ld3 (d : Vec Ideal BvBwdIdeal.S4x16x1024 .f32) (h : Fin 16) (n : Fin 1024) : View.ld d r0_3 (ix3 0 h n) = d (ix3 3 h n) :=
  View.ld_unit_apply_of _ _ _ _ _ _ fun | 0 => rfl | 1 | 2 => (Nat.zero_add _).symm

theorem equal_apply (d : Vec Ideal BvBwdIdeal.S4x16x1024 .f32) (h : Fin 16) (r : Fin 384) :
    BvGradIdeal.Read.val_main_v23 (F := Ideal) d (ix2 h r)
      = k0_pay1 (View.ld d r0_0) (View.ld d r0_1) (View.ld d r0_2) (View.ld d r0_3) (ix2 h r) := by
  rw [reference_apply, kernel_apply]
  refine Finset.sum_congr rfl fun n _ => ?_
  rw [Fin.sum_univ_four, ← ld0 d h n, ← ld1 d h n, ← ld2 d h n, ← ld3 d h n]

end Slices

/-- The gradient of the table. -/
theorem equal : BvGradIdeal.Read.val_main_v23 (F := Ideal) d = BvBwdIdeal.Value.G1 (F := Ideal) d := by
  funext i
  rw [show i = ix2 (i 0) (i 1) from funext fun a => match a with | ⟨0, _⟩ => rfl | ⟨1, _⟩ => rfl]
  exact equal_apply d _ _

end Cert.BvKernel

end
-- ==== Proof.BvClaim.lean ====
module

public import proofs.«01_k».proof.Defs
public import proofs.«01_k».proof.Proof.Gen.BvBwd.Frame
public import proofs.«01_k».proof.Proof.BvKernel
public import proofs.«01_k».proof.Proof.Gen.BvGradIdeal.Run
public import proofs.«01_k».proof.Proof.Gen.BvGradIdeal.Read

/-!
# The claims about the bias table's gradient
-/

@[expose] public section

noncomputable section

namespace Cert.BvClaim

open Idealize.ShloMosaic Idealize.ShloMosaic.TcCoe Idealize.SL.Sem

theorem frame_reference : Cert.quiescent_BvGradIdeal := fun m ρ _ =>
  (θ_run BvGradIdeal.defs _ _).mono (fun r h => ⟨fun c => (h c).2, sem_eq_zero_of_no_sems (by decide) r.2⟩)
    (BvGradIdeal.Value.run (F := Ideal) m ρ)

theorem equal : Cert.algebraic_BvBwdIdeal_BvGradIdeal := by
  intro m ρ m' ρ' _ hagree
  refine ⟨fun c => BvBwdIdeal.Value.G1 (m ((c : Thread BvBwdIdeal.nD BvBwdIdeal.τ).loc BvBwdIdeal.main_arg0)), BvBwdIdeal.Value.run m ρ, ?_⟩
  refine (θ_run BvGradIdeal.defs _ _).mono (fun _ h c => ?_) (BvGradIdeal.Value.run (F := Ideal) m' ρ')
  have a0 := hagree c
  obtain ⟨h0, hk⟩ := h c
  refine ⟨h0.trans ?_, hk⟩
  rw [BvGradIdeal.Read.val_main_v23_eq, a0]
  exact BvKernel.equal _

end Cert.BvClaim

end
-- ==== Proof.LhMath.lean ====
module

public import proofs.«01_k».proof.Proof.Reals

/-!
# Sums of squares over the extended reals

A square of an extended real is not negative, and a real factor moves through a sum of such numbers. With that the sum of
the rows' means of the squares is one sum over all entries, without any condition on the entries.
-/

@[expose] public section

noncomputable section

namespace Cert.LhMath

open Idealize.ShloMosaic Cert.Reals

theorem square_nonneg (e : EReal) : 0 ≤ e * e := by
  induction e with
  | bot => simp
  | top => simp
  | coe r => rw [← EReal.coe_mul]; exact EReal.coe_nonneg.2 (mul_self_nonneg r)

/-- A factor moves into a sum of terms that are not negative. -/
theorem mul_sum_nonneg {ι : Type*} (s : Finset ι) (f : ι → EReal) (hf : ∀ i, 0 ≤ f i) (c : EReal) :
    c * ∑ i ∈ s, f i = ∑ i ∈ s, c * f i := by
  classical
  induction s using Finset.induction_on with
  | empty => simp
  | insert a s ha ih =>
    rw [Finset.sum_insert ha, Finset.sum_insert ha, EReal.left_distrib_of_nonneg (hf a) (Finset.sum_nonneg fun i _ => hf i), ih]

/-- Half the sum of the rows' means is the sum down the columns, added up and scaled once. -/
theorem half_sum_mean (e : Fin 4096 → Fin 1024 → EReal) (he : ∀ r k, 0 ≤ e r k) :
    ((1 / 2 : ℝ) : EReal) * ∑ r, Ideal.div (∑ k, e r k) ((1024 : ℝ) : EReal) = ((1 / 2048 : ℝ) : EReal) * ∑ k, ∑ r, e r k := by
  simp only [Ideal.div_coe (by norm_num : (1024 : ℝ) ≠ 0), mul_comm _ ((1 / 1024 : ℝ) : EReal)]
  rw [← mul_sum_nonneg _ (fun r => ∑ k, e r k) (fun r => Finset.sum_nonneg fun k _ => he r k), ← mul_assoc, ← EReal.coe_mul, Finset.sum_comm]
  norm_num

theorem word_1_1024 : Ideal.ofBits .f32 0x3A800000#32 = ((1 / 1024 : ℝ) : EReal) := by
  simp [Ideal.ofBits, Ideal.ieee, -EReal.coe_mul] <;> norm_num
theorem word_1_2048 : Ideal.ofBits .f32 0x3A000000#32 = ((1 / 2048 : ℝ) : EReal) := by
  simp [Ideal.ofBits, Ideal.ieee, -EReal.coe_mul] <;> norm_num

end Cert.LhMath

end
-- ==== Proof.LhKernel.lean ====
module

public import proofs.«01_k».proof.Proof.LhMath
public import proofs.«01_k».proof.Proof.Gen.LhBwdIdeal.Value
public import Idealize.ShloMosaic.Lib.Pipeline.ValueKit

/-!
# What the kernel of the loss computes
-/

@[expose] public section

noncomputable section

namespace Cert.LhKernel

open Idealize.ShloMosaic Idealize.ShloMosaic.TcCoe Idealize.SL.Sem Cert.Reals Cert.LhMath Cert.LhBwdIdeal Cert.LhBwdIdeal.Gen

section AnyInstance

variable {F : FTy → Type} [FloatOps F]
variable (m : (ℓ : Loc nD τ sig) → Buf (Elt F) ℓ) (c : Dev nD)

theorem lt8 (t : Fin cfg0.N) : t.val < 8 := lt_of_lt_of_eq t.isLt (show cfg0.N = 8 from N_0)

/-- What every point leaves in the gradient's block. -/
theorem outs2 (t : Fin cfg0.N) : (outsAt0 m c t.val t.isLt).1 = k0_pay2 (iblk m c 0 t) (iblk m c 1 t) := by
  have := lt8 t
  by_cases h0 : t.val % 8 = 0
  · rw [outsAt0_A m c t h0 (by omega) (by omega)]; frame_out
  · by_cases h7 : t.val % 8 = 7
    · rw [outsAt0_C m c t h0 (by omega) h7]; frame_out
    · rw [outsAt0_B m c t h0 (by omega) h7]; frame_out

/-- The columns' sums the first point leaves, and what each later point adds to the ones before. -/
theorem outsS_first (t : Fin cfg0.N) (h0 : t.val % 8 = 0) :
    (outsAt0 m c t.val t.isLt).2.2 = k0_pay4 (iblk m c 0 t) (iblk m c 1 t) := by
  have := lt8 t
  rw [outsAt0_A m c t h0 (by omega) (by omega)]; frame_out

theorem outsS_next (t : Fin cfg0.N) (h0 : ¬t.val % 8 = 0) :
    (outsAt0 m c t.val t.isLt).2.2 = k0_pay5 (iblk m c 0 t) (iblk m c 1 t)
      (outsAt0 m c (t.val - 1) (Nat.lt_of_le_of_lt (Nat.sub_le _ _) t.isLt)).2.2 := by
  have := lt8 t
  by_cases h7 : t.val % 8 = 7
  · rw [outsAt0_C m c t h0 (by omega) h7]; frame_out; exact congrArg _ (Memref.IsWhole.read_unread _ _)
  · rw [outsAt0_B m c t h0 (by omega) h7]; frame_out; exact congrArg _ (Memref.IsWhole.read_unread _ _)

/-- The last point scales the sum of the columns' sums. -/
theorem outs3 (t : Fin cfg0.N) (h7 : t.val % 8 = 7) :
    (outsAt0 m c t.val t.isLt).2.1 = k0_pay6 (outsAt0 m c t.val t.isLt).2.2 := by
  have := lt8 t
  rw [outsS_next m c t (by omega), outsAt0_C m c t (by omega) (by omega) h7]; frame_out
  exact congrArg (fun v => k0_pay6 (k0_pay5 _ _ v)) (Memref.IsWhole.read_unread _ _)

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![0, 0] := by decide +kernel

end AnyInstance

variable (m : (ℓ : Loc nD τ sig) → Buf (Elt Ideal) ℓ) (c : Dev nD)

/-- The output and the target the launch memory holds. -/
abbrev out : S4096x1024.Idx → EReal := m ((c : Thread nD τ).loc main_arg0)
abbrev tgt : S4096x1024.Idx → EReal := m ((c : Thread nD τ).loc main_arg1)

/-- The error at row `r`, column `k`. -/
def err (r : Fin 4096) (k : Fin 1024) : EReal := out m c (ix2 r k) - tgt m c (ix2 r k)

theorem row (t : Fin cfg0.N) : 512 * t.val + 512 ≤ 4096 := by have := lt8 t; omega

theorem blk0 (t : Fin cfg0.N) (a : Fin 512) (k : Fin 1024) :
    iblk m c 0 t (ix2 a k) = out m c (ix2 ⟨512 * t.val + a, by have := row t; omega⟩ k) := by
  blk_simp [iblk, idx0 t]
  rw [V_main_arg0]
  refine congrArg (out m c) ?_
  blk_ext [idx0 t]

theorem blk1 (t : Fin cfg0.N) (a : Fin 512) (k : Fin 1024) :
    iblk m c 1 t (ix2 a k) = tgt m c (ix2 ⟨512 * t.val + a, by have := row t; omega⟩ k) := by
  blk_simp [iblk, idx1 t]
  rw [V_main_arg1]
  refine congrArg (tgt m c) ?_
  blk_ext [idx1 t]

/-- The gradient: every error over the width. -/
theorem final2 : (dats m 0 c).arrAt 2 cfg0.N = fun i : S4096x1024.Idx => err m c (i 0) (i 1) * ((1 / 1024 : ℝ) : EReal) := by
  refine (dats m 0 c).arrAt_eq_of_covers 2 _ (by decide +kernel) fun t hf y => ?_
  blk_simp
  rw [after0_2, outs2]
  idx_vars y
  pointwise [k0_pay2, k0_pay1]
  rw [blk0, blk1, word_1_1024, show ((View.whole main_v0_0).slice (win0_2.rect t)).emb (ix2 y0 y1) = ix2 ⟨512 * t.val + y0, by have := row t; omega⟩ y1 by blk_ext [idx2 t]]
  rfl

/-- One point's sums down its columns. -/
theorem pay3_apply (t : Fin cfg0.N) (k : Fin 1024) : k0_pay3 (iblk m c 0 t) (iblk m c 1 t) (ix2 0 k)
    = ∑ a : Fin 512, err m c ⟨512 * t.val + a, by have := row t; omega⟩ k * err m c ⟨512 * t.val + a, by have := row t; omega⟩ k := by
  pointwise [k0_pay3, k0_pay1]
  simp only [blk0, blk1, err]

theorem N_le : cfg0.N ≤ 8 := le_of_eq (show cfg0.N = 8 from N_0)

/-- The sum over all rows, block by block. -/
theorem sum_blocks (f : Fin 4096 → EReal) :
    ∑ t : Fin cfg0.N, ∑ a : Fin 512, f ⟨512 * t.val + a, by have := row t; omega⟩ = ∑ r, f r :=
  Fin.sum_mul_add_congr (fun s k hl => congrArg f (Fin.ext (by simp only []; omega))) (show 4096 = cfg0.N * 512 by rw [show cfg0.N = 8 from N_0])

theorem outsS_last (t : Fin cfg0.N) (ht : t.val + 1 = cfg0.N) (k : Fin 1024) :
    (outsAt0 m c t.val t.isLt).2.2 (ix2 0 k) = ∑ r, err m c r k * err m c r k := by
  refine (Pipeline.eq_sum_fin_of_reset_step_apply_last (fun n hn k => (outsAt0 m c n hn).2.2 (ix2 0 k)) 8 (fun _ => 0)
    (fun t k => k0_pay3 (iblk m c 0 t) (iblk m c 1 t) (ix2 0 k)) (fun t h0 k => ?_) (fun t h0 k => ?_) N_le t ht k).trans ?_
  · simp only [outsS_first m c t h0]
    pointwise [k0_pay4]
  · simp only [outsS_next m c t h0]
    pointwise [k0_pay5]
  · simp only [pay3_apply, zero_add]
    exact sum_blocks fun r => err m c r k * err m c r k

/-- The loss: the sum of all squares, scaled once. -/
theorem final3 : (dats m 0 c).arrAt 3 cfg0.N
    = fun _ : S1x1.Idx => ((1 / 2048 : ℝ) : EReal) * ∑ k, ∑ r, err m c r k * err m c r k := by
  refine (dats m 0 c).arrAt_eq_of_covers 3 _ (by decide +kernel) fun t hf y => ?_
  have := lt8 t
  have h7 := (flush0_3 t).mp hf
  have ht : t.val + 1 = cfg0.N := (show t.val + 1 = 8 by omega).trans (show cfg0.N = 8 from N_0).symm
  blk_simp
  rw [after0_3, outs3 m c t h7]
  idx_vars y
  obtain rfl := Subsingleton.elim y0 0
  obtain rfl := Subsingleton.elim y1 0
  pointwise [k0_pay6]
  simp only [outsS_last m c t ht, word_1_2048]

end Cert.LhKernel

end
-- ==== Proof.LhClaim.lean ====
module

public import proofs.«01_k».proof.Defs
public import proofs.«01_k».proof.Proof.Gen.LhBwd.Frame
public import proofs.«01_k».proof.Proof.LhKernel
public import proofs.«01_k».proof.Proof.Gen.LhGradIdeal.Run
public import proofs.«01_k».proof.Proof.Gen.LhGradIdeal.Read

/-!
# The claims about the loss and its gradient
-/

@[expose] public section

noncomputable section

namespace Cert.LhClaim

open Idealize.ShloMosaic Idealize.ShloMosaic.TcCoe Idealize.SL.Sem Cert.Reals Cert.LhMath Cert.LhGradIdeal

theorem frame_reference : Cert.quiescent_LhGradIdeal := fun m ρ _ =>
  (θ_run LhGradIdeal.defs _ _).mono (fun r h => ⟨fun c => (h c).2.2, sem_eq_zero_of_no_sems (by decide) r.2⟩)
    (LhGradIdeal.Value.run (F := Ideal) m ρ)

/-- The reference's gradient. -/
theorem grad_reference (y t : S4096x1024.Idx → EReal) (i : S4096x1024.Idx) :
    LhGradIdeal.Read.val_main_v14 (F := Ideal) y t i = (y i - t i) * ((1 / 1024 : ℝ) : EReal) := by
  idx_vars i
  pointwise [LhGradIdeal.Read.val_main_v14, LhGradIdeal.Read.val_main_v13, LhGradIdeal.Read.val_main_v12, LhGradIdeal.Read.val_main_v11,
    LhGradIdeal.Read.val_main_v10, LhGradIdeal.Read.val_main_v9, LhGradIdeal.Read.val_main_v3, LhGradIdeal.Read.val_main_v2,
    LhGradIdeal.Read.val_main_v0, LhGradIdeal.Read.val_main_cst, LhGradIdeal.Read.val_main_cst_4, LhGradIdeal.Read.val_main_cst_5,
    LhGradIdeal.Read.val_main_cst_6]
  rw [word_half, word_two, word_1024, div_coe_coe _ (by norm_num : (1024 : ℝ) ≠ 0), ← mul_assoc,
    ← EReal.coe_mul, mul_comm]
  norm_num

/-- The reference's loss. -/
theorem loss_reference (y t : S4096x1024.Idx → EReal) (i : S1x1.Idx) :
    LhGradIdeal.Read.val_main_v15 (F := Ideal) y t i
      = ((1 / 2 : ℝ) : EReal) * ∑ r : Fin 4096, Ideal.div (∑ k : Fin 1024, (y (ix2 r k) - t (ix2 r k)) * (y (ix2 r k) - t (ix2 r k))) ((1024 : ℝ) : EReal) := by
  idx_vars i
  pointwise [LhGradIdeal.Read.val_main_v15, LhGradIdeal.Read.val_main_v8, LhGradIdeal.Read.val_main_v7, LhGradIdeal.Read.val_main_v6,
    LhGradIdeal.Read.val_main_v5, LhGradIdeal.Read.val_main_v4, LhGradIdeal.Read.val_main_v1, LhGradIdeal.Read.val_main_v0,
    LhGradIdeal.Read.val_main_cst_0, LhGradIdeal.Read.val_main_cst_1, LhGradIdeal.Read.val_main_cst_2, LhGradIdeal.Read.val_main_cst_3]
  rw [word_half, word_1024]

theorem equal : Cert.algebraic_LhBwdIdeal_LhGradIdeal := by
  intro m ρ m' ρ' _ hagree
  refine ⟨fun c => (LhBwdIdeal.Gen.dats m 0 c).arrAt 2 LhBwdIdeal.cfg0.N, fun c => (LhBwdIdeal.Gen.dats m 0 c).arrAt 3 LhBwdIdeal.cfg0.N,
    LhBwdIdeal.Value.run_blocks m ρ, ?_⟩
  refine (θ_run LhGradIdeal.defs _ _).mono (fun _ h c => ?_) (LhGradIdeal.Value.run (F := Ideal) m' ρ')
  obtain ⟨a0, a1⟩ := hagree c
  obtain ⟨h0, h1, hk⟩ := h c
  refine ⟨h0.trans ?_, h1.trans ?_, hk⟩
  · refine Eq.trans ?_ (LhKernel.final2 m c).symm
    rw [LhGradIdeal.Read.val_main_v14_eq, a0, a1]
    funext i
    rw [grad_reference]
    idx_vars i
    rfl
  · refine Eq.trans ?_ (LhKernel.final3 m c).symm
    rw [LhGradIdeal.Read.val_main_v15_eq, a0, a1]
    funext i
    rw [loss_reference]
    exact half_sum_mean (fun r k => LhKernel.err m c r k * LhKernel.err m c r k) fun r k => square_nonneg _

end Cert.LhClaim

end
-- ==== Proof.FbRef.lean ====
module

public import proofs.«01_k».proof.Proof.NormRef
public import proofs.«01_k».proof.Proof.Gen.FbGradIdeal.Read
public import Idealize.ShloMosaic.Lib.Pipeline.ValueKit

/-!
# What the reference of the SwiGLU's gradient computes, over the reals

For each of four devices the block has a gate branch `g = x wgᵀ` and an up branch `u = x wuᵀ`, and its output is
`(silu g * u) wd`. The derivative takes the output's cotangent back to the two branches and to the three weights.
-/

@[expose] public section

noncomputable section

namespace Cert.FbRef

open Idealize.ShloMosaic Cert.Reals Cert.FbGradIdeal Cert.FbGradIdeal.Read
open Cert.NormRef (up)

/-- The logistic function. -/
def sig (z : ℝ) : ℝ := 1 / (1 + Real.exp (-z))

theorem one_add_exp_ne (z : ℝ) : 1 + Real.exp (-z) ≠ 0 := by positivity

variable (x dy : S4096x1024.Idx → ℝ) (w wg wu wd : S4x2x704x1024.Idx → ℝ)

/-- A branch at device `p`, row `r` and feature `f`; the cotangent of the branches' product. -/
def lin (p : Fin 4) (r : Fin 4096) (f : Fin 704) : ℝ := ∑ k, w (ix4 p 1 f k) * x (ix2 r k)

def silu (p : Fin 4) (r : Fin 4096) (f : Fin 704) : ℝ := lin x wg p r f * sig (lin x wg p r f)

def hid (p : Fin 4) (r : Fin 4096) (f : Fin 704) : ℝ := silu x wg p r f * lin x wu p r f

def dgate (p : Fin 4) (r : Fin 4096) (f : Fin 704) : ℝ :=
  lin dy wd p r f * lin x wu p r f * (sig (lin x wg p r f) * (1 + lin x wg p r f - silu x wg p r f))

def dup (p : Fin 4) (r : Fin 4096) (f : Fin 704) : ℝ := lin dy wd p r f * silu x wg p r f

theorem v12 (p : Fin 4) (r : Fin 4096) (f : Fin 704) : val_main_v12 (F := Ideal) (up x) (up wg) (ix3 p r f) = (lin x wg p r f : EReal) := by
  pointwise [val_main_v12, val_main_v11, val_main_v3, val_main_v2, val_main_v1, val_main_v0]
  simp only [up, ← EReal.coe_mul, sum_coe]
  rfl

theorem v14 (p : Fin 4) (r : Fin 4096) (f : Fin 704) : val_main_v14 (F := Ideal) (up x) (up wu) (ix3 p r f) = (lin x wu p r f : EReal) := by
  pointwise [val_main_v14, val_main_v13, val_main_v6, val_main_v5, val_main_v4, val_main_v0]
  simp only [up, ← EReal.coe_mul, sum_coe]
  rfl

theorem v21 (p : Fin 4) (r : Fin 4096) (f : Fin 704) : val_main_v21 (F := Ideal) (up wd) (up dy) (ix3 p r f) = (lin dy wd p r f : EReal) := by
  pointwise [val_main_v21, val_main_v20, val_main_v9, val_main_v8, val_main_v7, val_main_v10]
  simp only [up, ← EReal.coe_mul, sum_coe]
  exact congrArg _ (Finset.sum_congr rfl fun _ _ => mul_comm _ _)

theorem v15_2 (p : Fin 4) (r : Fin 4096) (f : Fin 704) :
    val_main_v15_2 (F := Ideal) (up x) (up wg) (ix3 p r f) = (sig (lin x wg p r f) : EReal) := by
  pointwise [val_main_v15_2, val_main_call0_v4, val_main_call0_v3, val_main_call0_v2, val_main_call0_v1, val_main_call0_v0,
    val_main_call0_cst, val_main_call0_cst_0]
  simp only [v12, ← EReal.coe_one, ← EReal.coe_neg, Ideal.exp_coe, ← EReal.coe_add, div_coe_coe _ (one_add_exp_ne _)]
  rfl

theorem v15_0 (p : Fin 4) (r : Fin 4096) (f : Fin 704) :
    val_main_v15_0 (F := Ideal) (up x) (up wg) (ix3 p r f) = (silu x wg p r f : EReal) := by
  pointwise [val_main_v15_0]
  simp only [v12, v15_2, ← EReal.coe_mul]
  rfl

theorem v16 (p : Fin 4) (r : Fin 4096) (f : Fin 704) :
    val_main_v16 (F := Ideal) (up x) (up wg) (up wu) (ix3 p r f) = (hid x wg wu p r f : EReal) := by
  pointwise [val_main_v16]
  simp only [v14, v15_0, ← EReal.coe_mul]
  rfl

theorem v22 (p : Fin 4) (r : Fin 4096) (f : Fin 704) :
    val_main_v22 (F := Ideal) (up x) (up wg) (up wd) (up dy) (ix3 p r f) = (dup x dy wg wd p r f : EReal) := by
  pointwise [val_main_v22]
  simp only [v21, v15_0, ← EReal.coe_mul]
  exact congrArg _ (mul_comm _ _)

theorem v24 (p : Fin 4) (r : Fin 4096) (f : Fin 704) :
    val_main_v24 (F := Ideal) (up x) (up wg) (up wu) (up wd) (up dy) (ix3 p r f) = (dgate x dy wg wu wd p r f : EReal) := by
  pointwise [val_main_v24, val_main_call1_v1, val_main_call1_v2, val_main_call1_v0, val_main_v23, val_main_v15_1, val_main_call0_v7,
    val_main_call0_v6, val_main_call0_cst_1]
  simp only [v12, v14, v21, v15_2, ← EReal.coe_one, ← EReal.coe_sub, ← EReal.coe_mul, ← EReal.coe_add]
  refine congrArg _ ?_
  unfold dgate silu
  ring

theorem v25 (p : Fin 4) (r : Fin 4096) (f : Fin 704) :
    val_main_v25 (F := Ideal) (up x) (up wg) (up wu) (up wd) (up dy) (ix3 p r f) = (dgate x dy wg wu wd p r f : EReal) := v24 ..

theorem v26 (p : Fin 4) (r : Fin 4096) (f : Fin 704) :
    val_main_v26 (F := Ideal) (up x) (up wg) (up wd) (up dy) (ix3 p r f) = (dup x dy wg wd p r f : EReal) := v22 ..

theorem v28 (p : Fin 4) (f : Fin 704) (k : Fin 1024) :
    val_main_v28 (F := Ideal) (up x) (up wg) (up wu) (up dy) (ix4 0 p f k) = ((∑ r, hid x wg wu p r f * dy (ix2 r k) : ℝ) : EReal) := by
  pointwise [val_main_v28, val_main_v27, val_main_v19, val_main_v18, val_main_v10]
  simp only [v16, up, ← EReal.coe_mul, sum_coe]
  exact congrArg _ (Finset.sum_congr rfl fun _ _ => mul_comm _ _)

theorem v33 (p : Fin 4) (f : Fin 704) (k : Fin 1024) : val_main_v33 (F := Ideal) (up x) (up wg) (up wu) (up wd) (up dy) (ix4 0 p f k)
    = ((∑ r, dgate x dy wg wu wd p r f * x (ix2 r k) : ℝ) : EReal) := by
  pointwise [val_main_v33, val_main_v32, val_main_v31, val_main_v30, val_main_v0]
  simp only [v24, up, ← EReal.coe_mul, sum_coe]

theorem v38 (p : Fin 4) (f : Fin 704) (k : Fin 1024) : val_main_v38 (F := Ideal) (up x) (up wg) (up wd) (up dy) (ix4 0 p f k)
    = ((∑ r, dup x dy wg wd p r f * x (ix2 r k) : ℝ) : EReal) := by
  pointwise [val_main_v38, val_main_v37, val_main_v36, val_main_v35, val_main_v0]
  simp only [v22, up, ← EReal.coe_mul, sum_coe]

theorem gdown_update (o : S2x4x704x1024.Idx → EReal) (x1 : S4096x1024.Idx → EReal) (x2 x3 : S4x2x704x1024.Idx → EReal)
    (x4 : S4096x1024.Idx → EReal) : val_main_v29 (F := Ideal) x1 x2 x3 x4 o
      = updateSlice o (val_main_v28 (F := Ideal) x1 x2 x3 x4) ![1, 0, 0, 0] (by decide) :=
  WordCmp.dynamicUpdateSlice_eq_update _ _ _ _ _ _ (by decide +kernel)

theorem ggate_update (o : S2x4x704x1024.Idx → EReal) (x1 : S4096x1024.Idx → EReal) (x2 x3 x5 : S4x2x704x1024.Idx → EReal)
    (x4 : S4096x1024.Idx → EReal) : val_main_v34 (F := Ideal) x1 x2 x3 x5 x4 o
      = updateSlice o (val_main_v33 (F := Ideal) x1 x2 x3 x5 x4) ![1, 0, 0, 0] (by decide) :=
  WordCmp.dynamicUpdateSlice_eq_update _ _ _ _ _ _ (by decide +kernel)

theorem gup_update (o : S2x4x704x1024.Idx → EReal) (x1 : S4096x1024.Idx → EReal) (x2 x3 : S4x2x704x1024.Idx → EReal)
    (x4 : S4096x1024.Idx → EReal) : val_main_v39 (F := Ideal) x1 x2 x3 x4 o
      = updateSlice o (val_main_v38 (F := Ideal) x1 x2 x3 x4) ![1, 0, 0, 0] (by decide) :=
  WordCmp.dynamicUpdateSlice_eq_update _ _ _ _ _ _ (by decide +kernel)

end Cert.FbRef

end
-- ==== Proof.FbKernel.lean ====
module

public import proofs.«01_k».proof.Proof.FbRef
public import proofs.«01_k».proof.Proof.Gen.FbBwdIdeal.Value
public import Idealize.ShloMosaic.Lib.Pipeline.ValueKit

/-!
# What the kernel of the SwiGLU's gradient computes

The grid goes over four devices and, for each, over four tiles of 1024 rows. Every point writes its rows of the two branches'
gradients; the gradients of a device's three weights are added up over its four points and written at the last of them.
-/

@[expose] public section

noncomputable section

namespace Cert.FbKernel

open Idealize.ShloMosaic Idealize.ShloMosaic.TcCoe Idealize.SL.Sem Cert.Reals Cert.FbBwdIdeal Cert.FbBwdIdeal.Gen

section AnyInstance

variable {F : FTy → Type} [FloatOps F]
variable (m : (ℓ : Loc nD τ sig) → Buf (Elt F) ℓ) (c : Dev nD)

theorem V_gdown : V m c main_v14_2 = m ((c : Thread nD τ).loc main_arg5) := by
  unfold V hostOps0
  after_results_simp
  rfl

theorem V_ggate : V m c main_v14_3 = m ((c : Thread nD τ).loc main_arg6) := by
  unfold V hostOps0
  after_results_simp
  rfl

theorem V_gup : V m c main_v14_4 = m ((c : Thread nD τ).loc main_arg7) := by
  unfold V hostOps0
  after_results_simp
  rfl

theorem lt16 (t : Fin cfg0.N) : t.val < 16 := lt_of_lt_of_eq t.isLt (show cfg0.N = 16 from N_0)

/-- The two branches' gradients of point `t`. -/
abbrev dg (t : Fin cfg0.N) : FVec F S1024x704 .bf16 := k0_pay15 (iblk m c 1 t) (iblk m c 2 t) (iblk m c 3 t) (iblk m c 4 t)
abbrev du (t : Fin cfg0.N) : FVec F S1024x704 .bf16 := k0_pay16 (iblk m c 1 t) (iblk m c 2 t) (iblk m c 3 t)

/-- What every point leaves in the blocks of the two branches' gradients. -/
theorem outs7 (t : Fin cfg0.N) : (outsAt0 m c t.val t.isLt).1 = k0_pay1 (dg m c t) := by
  by_cases h0 : t.val % 4 = 0
  · rw [outsAt0_A m c t h0 (by omega)]; frame_out; rfl
  · by_cases h3 : t.val % 4 = 3
    · rw [outsAt0_C m c t h0 h3]; frame_out; rfl
    · rw [outsAt0_B m c t h0 h3]; frame_out; rfl

theorem outs8 (t : Fin cfg0.N) : (outsAt0 m c t.val t.isLt).2.1 = k0_pay1 (du m c t) := by
  by_cases h0 : t.val % 4 = 0
  · rw [outsAt0_A m c t h0 (by omega)]; frame_out
  · by_cases h3 : t.val % 4 = 3
    · rw [outsAt0_C m c t h0 h3]; frame_out
    · rw [outsAt0_B m c t h0 h3]; frame_out

/-- The three accumulators: what a device's first point leaves in them, and what each later point adds. -/
theorem accd_first (t : Fin cfg0.N) (h0 : t.val % 4 = 0) :
    (outsAt0 m c t.val t.isLt).2.2.2.2.2.1 = k0_pay2 (iblk m c 1 t) k0_pay8 (iblk m c 5 t) := by
  rw [outsAt0_A m c t h0 (by omega)]; frame_out
  try exact congrArg (fun v => k0_pay2 _ v _) (Memref.IsWhole.read_unread _ _)

theorem accd_next (t : Fin cfg0.N) (h0 : ¬t.val % 4 = 0) :
    (outsAt0 m c t.val t.isLt).2.2.2.2.2.1 = k0_pay2 (iblk m c 1 t)
      (outsAt0 m c (t.val - 1) (Nat.lt_of_le_of_lt (Nat.sub_le _ _) t.isLt)).2.2.2.2.2.1 (iblk m c 5 t) := by
  by_cases h3 : t.val % 4 = 3
  · rw [outsAt0_C m c t h0 h3]; frame_out; try exact congrArg (fun v => k0_pay2 _ v _) (Memref.IsWhole.read_unread _ _)
  · rw [outsAt0_B m c t h0 h3]; frame_out; try exact congrArg (fun v => k0_pay2 _ v _) (Memref.IsWhole.read_unread _ _)

theorem accg_first (t : Fin cfg0.N) (h0 : t.val % 4 = 0) :
    (outsAt0 m c t.val t.isLt).2.2.2.2.2.2.1 = k0_pay3 (dg m c t) (iblk m c 0 t) k0_pay9 := by
  rw [outsAt0_A m c t h0 (by omega)]; frame_out
  try exact congrArg (k0_pay3 _ _) (Memref.IsWhole.read_unread _ _)

theorem accg_next (t : Fin cfg0.N) (h0 : ¬t.val % 4 = 0) :
    (outsAt0 m c t.val t.isLt).2.2.2.2.2.2.1 = k0_pay3 (dg m c t) (iblk m c 0 t)
      (outsAt0 m c (t.val - 1) (Nat.lt_of_le_of_lt (Nat.sub_le _ _) t.isLt)).2.2.2.2.2.2.1 := by
  by_cases h3 : t.val % 4 = 3
  · rw [outsAt0_C m c t h0 h3]; frame_out; try exact congrArg (k0_pay3 _ _) (Memref.IsWhole.read_unread _ _)
  · rw [outsAt0_B m c t h0 h3]; frame_out; try exact congrArg (k0_pay3 _ _) (Memref.IsWhole.read_unread _ _)

theorem accu_first (t : Fin cfg0.N) (h0 : t.val % 4 = 0) :
    (outsAt0 m c t.val t.isLt).2.2.2.2.2.2.2 = k0_pay4 (du m c t) (iblk m c 0 t) k0_pay10 := by
  rw [outsAt0_A m c t h0 (by omega)]; frame_out
  try exact congrArg (k0_pay4 _ _) (Memref.IsWhole.read_unread _ _)

theorem accu_next (t : Fin cfg0.N) (h0 : ¬t.val % 4 = 0) :
    (outsAt0 m c t.val t.isLt).2.2.2.2.2.2.2 = k0_pay4 (du m c t) (iblk m c 0 t)
      (outsAt0 m c (t.val - 1) (Nat.lt_of_le_of_lt (Nat.sub_le _ _) t.isLt)).2.2.2.2.2.2.2 := by
  by_cases h3 : t.val % 4 = 3
  · rw [outsAt0_C m c t h0 h3]; frame_out; try exact congrArg (k0_pay4 _ _) (Memref.IsWhole.read_unread _ _)
  · rw [outsAt0_B m c t h0 h3]; frame_out; try exact congrArg (k0_pay4 _ _) (Memref.IsWhole.read_unread _ _)

/-- A device's last point writes the accumulators out. -/
theorem outs9 (t : Fin cfg0.N) (h3 : t.val % 4 = 3) :
    (outsAt0 m c t.val t.isLt).2.2.1 = k0_pay5 (outsAt0 m c t.val t.isLt).2.2.2.2.2.1 := by
  rw [accd_next m c t (by omega), outsAt0_C m c t (by omega) h3]; frame_out
  try exact congrArg (fun v => k0_pay5 (k0_pay2 _ v _)) (Memref.IsWhole.read_unread _ _)

theorem outs10 (t : Fin cfg0.N) (h3 : t.val % 4 = 3) :
    (outsAt0 m c t.val t.isLt).2.2.2.1 = k0_pay6 (outsAt0 m c t.val t.isLt).2.2.2.2.2.2.1 := by
  rw [accg_next m c t (by omega), outsAt0_C m c t (by omega) h3]; frame_out
  try exact congrArg (fun v => k0_pay6 (k0_pay3 _ _ v)) (Memref.IsWhole.read_unread _ _)

theorem outs11 (t : Fin cfg0.N) (h3 : t.val % 4 = 3) :
    (outsAt0 m c t.val t.isLt).2.2.2.2.1 = k0_pay7 (outsAt0 m c t.val t.isLt).2.2.2.2.2.2.2 := by
  rw [accu_next m c t (by omega), outsAt0_C m c t (by omega) h3]; frame_out
  try exact congrArg (fun v => k0_pay7 (k0_pay4 _ _ v)) (Memref.IsWhole.read_unread _ _)

theorem idx0 : ∀ t : Fin grid0.N, win0_0.index t = ![t.val % 4, 0] := by decide +kernel
theorem idx1 : ∀ t : Fin grid0.N, win0_1.index t = ![t.val % 4, 0] := by decide +kernel
theorem idx2 : ∀ t : Fin grid0.N, win0_2.index t = ![t.val / 4, 1, 0, 0] := by decide +kernel
theorem idx3 : ∀ t : Fin grid0.N, win0_3.index t = ![t.val / 4, t.val % 4, 0] := by decide +kernel
theorem idx4 : ∀ t : Fin grid0.N, win0_4.index t = ![t.val / 4, t.val % 4, 0] := by decide +kernel
theorem idx5 : ∀ t : Fin grid0.N, win0_5.index t = ![t.val / 4, t.val % 4, 0] := by decide +kernel
theorem idx7 : ∀ t : Fin grid0.N, win0_7.index t = ![t.val / 4, t.val % 4, 0] := by decide +kernel
theorem idx8 : ∀ t : Fin grid0.N, win0_8.index t = ![t.val / 4, t.val % 4, 0] := by decide +kernel
theorem idx9 : ∀ t : Fin grid0.N, win0_9.index t = ![1, t.val / 4, 0, 0] := by decide +kernel
theorem idx10 : ∀ t : Fin grid0.N, win0_10.index t = ![1, t.val / 4, 0, 0] := by decide +kernel
theorem idx11 : ∀ t : Fin grid0.N, win0_11.index t = ![1, t.val / 4, 0, 0] := by decide +kernel

end AnyInstance

open Cert.NormRef (up)
open Cert.FbRef

variable (m : (ℓ : Loc nD τ sig) → Buf (Elt Ideal) ℓ) (c : Dev nD)

/-- The branches and their product, prepared before the call, are the reference's. -/
theorem V_gate : V m c main_v8 = Cert.FbGradIdeal.Read.val_main_v12 (F := Ideal)
    (m ((c : Thread nD τ).loc main_arg0)) (m ((c : Thread nD τ).loc main_arg1)) := by
  unfold V hostOps0
  after_results_simp
  rfl

theorem V_up : V m c main_v9 = Cert.FbGradIdeal.Read.val_main_v14 (F := Ideal)
    (m ((c : Thread nD τ).loc main_arg0)) (m ((c : Thread nD τ).loc main_arg2)) := by
  unfold V hostOps0
  after_results_simp
  rfl

theorem V_hid : V m c main_v12 = Cert.FbGradIdeal.Read.val_main_v16 (F := Ideal)
    (m ((c : Thread nD τ).loc main_arg0)) (m ((c : Thread nD τ).loc main_arg1)) (m ((c : Thread nD τ).loc main_arg2)) := by
  unfold V hostOps0
  after_results_simp
  rfl

/-- The two branches' gradients of one block, from the blocks of the operands. -/
theorem pay16_apply (D : Fin 1024 → Fin 1024 → ℝ) (W : Fin 704 → Fin 1024 → ℝ) (G : Fin 1024 → Fin 704 → ℝ)
    (x1 : Vec Ideal S1024x1024 .bf16) (x2 : Vec Ideal S1x1x704x1024 .bf16) (x3 : Vec Ideal S1x1024x704 .bf16)
    (e1 : ∀ a k, x1 (ix2 a k) = (D a k : EReal)) (e2 : ∀ f k, x2 (ix4 0 0 f k) = (W f k : EReal))
    (e3 : ∀ a f, x3 (ix3 0 a f) = (G a f : EReal)) (a : Fin 1024) (f : Fin 704) :
    k0_pay16 x1 x2 x3 (ix2 a f) = (((∑ k, W f k * D a k) * (G a f * sig (G a f)) : ℝ) : EReal) := by
  pointwise [k0_pay16, k0_pay11, k0_pay14, k0_pay13, k0_pay12]
  simp only [e1, e2, e3, zero_sub, ← EReal.coe_one, ← EReal.coe_neg, Ideal.exp_coe, ← EReal.coe_add, div_coe_coe _ (one_add_exp_ne _),
    ← EReal.coe_mul, sum_coe]
  refine congrArg _ (congrArg₂ _ (Finset.sum_congr rfl fun _ _ => mul_comm _ _) rfl)

theorem pay15_apply (D : Fin 1024 → Fin 1024 → ℝ) (W : Fin 704 → Fin 1024 → ℝ) (G U : Fin 1024 → Fin 704 → ℝ)
    (x1 : Vec Ideal S1024x1024 .bf16) (x2 : Vec Ideal S1x1x704x1024 .bf16) (x3 x4 : Vec Ideal S1x1024x704 .bf16)
    (e1 : ∀ a k, x1 (ix2 a k) = (D a k : EReal)) (e2 : ∀ f k, x2 (ix4 0 0 f k) = (W f k : EReal))
    (e3 : ∀ a f, x3 (ix3 0 a f) = (G a f : EReal)) (e4 : ∀ a f, x4 (ix3 0 a f) = (U a f : EReal)) (a : Fin 1024) (f : Fin 704) :
    k0_pay15 x1 x2 x3 x4 (ix2 a f)
      = (((∑ k, W f k * D a k) * U a f * (sig (G a f) * (1 + G a f - G a f * sig (G a f))) : ℝ) : EReal) := by
  pointwise [k0_pay15, k0_pay11, k0_pay14, k0_pay13, k0_pay12]
  simp only [e1, e2, e3, e4, zero_sub, ← EReal.coe_one, ← EReal.coe_neg, Ideal.exp_coe, ← EReal.coe_add, div_coe_coe _ (one_add_exp_ne _),
    ← EReal.coe_mul, sum_coe, ← EReal.coe_sub]
  refine congrArg _ (congrArg₂ _ (congrArg₂ _ (Finset.sum_congr rfl fun _ _ => mul_comm _ _) rfl) rfl)

variable (x dy : S4096x1024.Idx → ℝ) (wg wu wd : S4x2x704x1024.Idx → ℝ)

/-- The launch memory holds the five real arrays. -/
structure Holds : Prop where
  x : m ((c : Thread nD τ).loc main_arg0) = up x
  wg : m ((c : Thread nD τ).loc main_arg1) = up wg
  wu : m ((c : Thread nD τ).loc main_arg2) = up wu
  wd : m ((c : Thread nD τ).loc main_arg3) = up wd
  dy : m ((c : Thread nD τ).loc main_arg4) = up dy

/-- The device of a point, and the row of the whole array that a row of its tile is. -/
abbrev dev (t : Fin cfg0.N) : Fin 4 := ⟨t.val / 4, by have := lt16 t; omega⟩
abbrev row (t : Fin cfg0.N) (a : Fin 1024) : Fin 4096 := ⟨1024 * (t.val % 4) + a, by omega⟩

section Blocks

variable (hm : Holds m c x dy wg wu wd) (t : Fin cfg0.N)

include hm

theorem blk0 (a k : Fin 1024) : iblk m c 0 t (ix2 a k) = (x (ix2 (row t a) k) : EReal) := by
  blk_simp [iblk, idx0 t]
  rw [V_main_arg0, hm.x]
  refine congrArg (up x) ?_
  blk_ext [idx0 t]

theorem blk1 (a k : Fin 1024) : iblk m c 1 t (ix2 a k) = (dy (ix2 (row t a) k) : EReal) := by
  blk_simp [iblk, idx1 t]
  rw [V_main_arg4, hm.dy]
  refine congrArg (up dy) ?_
  blk_ext [idx1 t]

theorem blk2 (f : Fin 704) (k : Fin 1024) : iblk m c 2 t (ix4 0 0 f k) = (wd (ix4 (dev t) 1 f k) : EReal) := by
  blk_simp [iblk, idx2 t]
  rw [V_main_arg3, hm.wd]
  refine congrArg (up wd) ?_
  blk_ext [idx2 t]

theorem blk3 (a : Fin 1024) (f : Fin 704) : iblk m c 3 t (ix3 0 a f) = (lin x wg (dev t) (row t a) f : EReal) := by
  rw [← v12]
  blk_simp [iblk, idx3 t]
  rw [V_gate, hm.x, hm.wg]
  refine congrArg _ ?_
  blk_ext [idx3 t]

theorem blk4 (a : Fin 1024) (f : Fin 704) : iblk m c 4 t (ix3 0 a f) = (lin x wu (dev t) (row t a) f : EReal) := by
  rw [← v14]
  blk_simp [iblk, idx4 t]
  rw [V_up, hm.x, hm.wu]
  refine congrArg _ ?_
  blk_ext [idx4 t]

theorem blk5 (a : Fin 1024) (f : Fin 704) : iblk m c 5 t (ix3 0 a f) = (hid x wg wu (dev t) (row t a) f : EReal) := by
  rw [← v16]
  blk_simp [iblk, idx5 t]
  rw [V_hid, hm.x, hm.wg, hm.wu]
  refine congrArg _ ?_
  blk_ext [idx5 t]

theorem dg_apply (a : Fin 1024) (f : Fin 704) : dg m c t (ix2 a f) = (dgate x dy wg wu wd (dev t) (row t a) f : EReal) :=
  pay15_apply _ _ _ _ _ _ _ _ (blk1 m c x dy wg wu wd hm t) (blk2 m c x dy wg wu wd hm t) (blk3 m c x dy wg wu wd hm t)
    (blk4 m c x dy wg wu wd hm t) a f

theorem du_apply (a : Fin 1024) (f : Fin 704) : du m c t (ix2 a f) = (dup x dy wg wd (dev t) (row t a) f : EReal) :=
  pay16_apply _ _ _ _ _ _ (blk1 m c x dy wg wu wd hm t) (blk2 m c x dy wg wu wd hm t) (blk3 m c x dy wg wu wd hm t) a f

end Blocks

/-- Entries of the blocks a point reads and of what it computes. -/
abbrev xE (t : Fin cfg0.N) (a k : Fin 1024) : EReal := iblk m c 0 t (ix2 a k)
abbrev yE (t : Fin cfg0.N) (a k : Fin 1024) : EReal := iblk m c 1 t (ix2 a k)
abbrev hE (t : Fin cfg0.N) (a : Fin 1024) (f : Fin 704) : EReal := iblk m c 5 t (ix3 0 a f)
abbrev gE (t : Fin cfg0.N) (a : Fin 1024) (f : Fin 704) : EReal := dg m c t (ix2 a f)
abbrev uE (t : Fin cfg0.N) (a : Fin 1024) (f : Fin 704) : EReal := du m c t (ix2 a f)

/-- The sum over all rows, tile by tile of one device's points. -/
theorem sum_blocks (f : Fin 4096 → ℝ) (t : Fin cfg0.N) (h3 : t.val % 4 = 3) :
    ∑ s : Fin 4, ∑ a : Fin 1024, f (row ⟨4 * (t.val / 4) + s.val, by have := t.isLt; omega⟩ a) = ∑ r, f r :=
  Fin.sum_mul_add_congr (F := fun s a => f (row ⟨4 * (t.val / 4) + s.val, by have := t.isLt; omega⟩ a))
    (fun s k hl => congrArg f (Fin.ext (by simp only []; omega))) (show 4096 = 4 * 1024 by norm_num)

section Arrays

variable (hm : Holds m c x dy wg wu wd)

include hm

theorem accd_last (t : Fin cfg0.N) (h3 : t.val % 4 = 3) (f : Fin 704) (k : Fin 1024) : (outsAt0 m c t.val t.isLt).2.2.2.2.2.1 (ix2 f k)
    = ((∑ r, hid x wg wu (dev t) r f * dy (ix2 r k) : ℝ) : EReal) := by
  refine (Pipeline.eq_sum_fin_of_reset_step_apply_of_flush (fun n hn (k : Fin 704 × Fin 1024) => (outsAt0 m c n hn).2.2.2.2.2.1 (ix2 k.1 k.2)) 4
    (fun _ => 0) (fun t k => ∑ a : Fin 1024, hE m c t a k.1 * yE m c t a k.2) (fun t h0 k => ?_) (fun t h0 k => ?_)
    t h3 (f, k)).trans ?_
  · simp only [accd_first m c t h0]
    pointwise [k0_pay2, k0_pay8]
  · simp only [accd_next m c t h0]
    pointwise [k0_pay2]
  · have ea (t) (a k : Fin 1024) : yE m c t a k = _ := blk1 m c x dy wg wu wd hm t a k
    have eb (t) (a : Fin 1024) (f : Fin 704) : hE m c t a f = _ := blk5 m c x dy wg wu wd hm t a f
    simp only [ea, eb, ← EReal.coe_mul, sum_coe, zero_add]
    refine congrArg _ (Eq.trans ?_ (sum_blocks (fun r => hid x wg wu (dev t) r f * dy (ix2 r k)) t h3))
    refine Finset.sum_congr rfl fun s _ => Finset.sum_congr rfl fun a _ => ?_
    rw [show dev ⟨4 * (t.val / 4) + s.val, _⟩ = dev t from Fin.ext (by simp only []; omega)]

theorem accg_last (t : Fin cfg0.N) (h3 : t.val % 4 = 3) (f : Fin 704) (k : Fin 1024) : (outsAt0 m c t.val t.isLt).2.2.2.2.2.2.1 (ix2 f k)
    = ((∑ r, dgate x dy wg wu wd (dev t) r f * x (ix2 r k) : ℝ) : EReal) := by
  refine (Pipeline.eq_sum_fin_of_reset_step_apply_of_flush (fun n hn (k : Fin 704 × Fin 1024) => (outsAt0 m c n hn).2.2.2.2.2.2.1 (ix2 k.1 k.2)) 4
    (fun _ => 0) (fun t k => ∑ a : Fin 1024, gE m c t a k.1 * xE m c t a k.2) (fun t h0 k => ?_) (fun t h0 k => ?_)
    t h3 (f, k)).trans ?_
  · simp only [accg_first m c t h0, gE]
    generalize dg m c t = v
    pointwise [k0_pay3, k0_pay9]
  · simp only [accg_next m c t h0, gE]
    generalize dg m c t = v
    pointwise [k0_pay3]
  · have ea (t) (a k : Fin 1024) : xE m c t a k = _ := blk0 m c x dy wg wu wd hm t a k
    have eb (t) (a : Fin 1024) (f : Fin 704) : gE m c t a f = _ := dg_apply m c x dy wg wu wd hm t a f
    simp only [ea, eb, ← EReal.coe_mul, sum_coe, zero_add]
    refine congrArg _ (Eq.trans ?_ (sum_blocks (fun r => dgate x dy wg wu wd (dev t) r f * x (ix2 r k)) t h3))
    refine Finset.sum_congr rfl fun s _ => Finset.sum_congr rfl fun a _ => ?_
    rw [show dev ⟨4 * (t.val / 4) + s.val, _⟩ = dev t from Fin.ext (by simp only []; omega)]

theorem accu_last (t : Fin cfg0.N) (h3 : t.val % 4 = 3) (f : Fin 704) (k : Fin 1024) : (outsAt0 m c t.val t.isLt).2.2.2.2.2.2.2 (ix2 f k)
    = ((∑ r, dup x dy wg wd (dev t) r f * x (ix2 r k) : ℝ) : EReal) := by
  refine (Pipeline.eq_sum_fin_of_reset_step_apply_of_flush (fun n hn (k : Fin 704 × Fin 1024) => (outsAt0 m c n hn).2.2.2.2.2.2.2 (ix2 k.1 k.2)) 4
    (fun _ => 0) (fun t k => ∑ a : Fin 1024, uE m c t a k.1 * xE m c t a k.2) (fun t h0 k => ?_) (fun t h0 k => ?_)
    t h3 (f, k)).trans ?_
  · simp only [accu_first m c t h0, uE]
    generalize du m c t = v
    pointwise [k0_pay4, k0_pay10]
  · simp only [accu_next m c t h0, uE]
    generalize du m c t = v
    pointwise [k0_pay4]
  · have ea (t) (a k : Fin 1024) : xE m c t a k = _ := blk0 m c x dy wg wu wd hm t a k
    have eb (t) (a : Fin 1024) (f : Fin 704) : uE m c t a f = _ := du_apply m c x dy wg wu wd hm t a f
    simp only [ea, eb, ← EReal.coe_mul, sum_coe, zero_add]
    refine congrArg _ (Eq.trans ?_ (sum_blocks (fun r => dup x dy wg wd (dev t) r f * x (ix2 r k)) t h3))
    refine Finset.sum_congr rfl fun s _ => Finset.sum_congr rfl fun a _ => ?_
    rw [show dev ⟨4 * (t.val / 4) + s.val, _⟩ = dev t from Fin.ext (by simp only []; omega)]

open Cert.FbGradIdeal.Read

theorem final7 : (dats m 0 c).arrAt 7 cfg0.N = val_main_v25 (F := Ideal) (up x) (up wg) (up wu) (up wd) (up dy) := by
  refine (dats m 0 c).arrAt_eq_of_covers 7 _ (by decide +kernel) fun t hf y => ?_
  blk_simp
  rw [after0_7, outs7]
  idx_vars y
  obtain rfl := Subsingleton.elim y0 0
  have e := dg_apply m c x dy wg wu wd hm t y1 y2
  generalize dg m c t = v at e ⊢
  pointwise [k0_pay1]
  rw [e]
  refine (v25 x dy wg wu wd _ _ _).symm.trans (congrArg _ ?_)
  blk_ext [idx7 t]

theorem final8 : (dats m 0 c).arrAt 8 cfg0.N = val_main_v26 (F := Ideal) (up x) (up wg) (up wd) (up dy) := by
  refine (dats m 0 c).arrAt_eq_of_covers 8 _ (by decide +kernel) fun t hf y => ?_
  blk_simp
  rw [after0_8, outs8]
  idx_vars y
  obtain rfl := Subsingleton.elim y0 0
  have e := du_apply m c x dy wg wu wd hm t y1 y2
  generalize du m c t = v at e ⊢
  pointwise [k0_pay1]
  rw [e]
  refine (v26 x dy wg wd _ _ _).symm.trans (congrArg _ ?_)
  blk_ext [idx8 t]

theorem final9 : (dats m 0 c).arrAt 9 cfg0.N = updateSlice (s := S2x4x704x1024) (m ((c : Thread nD τ).loc main_arg5))
    (val_main_v28 (F := Ideal) (up x) (up wg) (up wu) (up dy)) ![1, 0, 0, 0] (by decide) := by
  refine (dats m 0 c).arrAt_eq_of_coversWhere_of_agree 9 _ (fun β => β (0 : Fin 4) = 1) (by decide +kernel) (fun t hf y => ?_) (fun j hj => ?_)
  · have h3 := (flush0_9 t).mp hf
    blk_simp
    rw [after0_9, outs9 m c t h3]
    idx_vars y
    obtain rfl := Subsingleton.elim y0 0
    obtain rfl := Subsingleton.elim y1 0
    have e := accd_last m c x dy wg wu wd hm t h3 y2 y3
    generalize (outsAt0 m c t.val t.isLt).2.2.2.2.2.1 = v at e ⊢
    rw [show (((View.whole main_v14_2).slice (win0_9.rect t)).emb (ix4 0 0 y2 y3)) = ix4 1 (dev t) y2 y3 by blk_ext [idx9 t]]
    pointwise [k0_pay5]
    rw [e]
    refine (v28 x dy wg wu _ _ _).symm.trans ?_
    pointwise
    rw [dif_pos (show t.val / 4 < 4 from (dev t).isLt)]
  · blk_simp [Pipeline.Window.cell_apply] at hj
    rw [A_eq]
    refine (congrFun (V_gdown m c) _).trans ?_
    rw [updateSlice_apply, dif_neg]
    · intro hin
      have h1 := (hin 0).1
      have h2 := (hin 0).2
      idx_vars j
      refine hj ?_
      simp at h1 h2 ⊢
      omega

theorem final10 : (dats m 0 c).arrAt 10 cfg0.N = updateSlice (s := S2x4x704x1024) (m ((c : Thread nD τ).loc main_arg6))
    (val_main_v33 (F := Ideal) (up x) (up wg) (up wu) (up wd) (up dy)) ![1, 0, 0, 0] (by decide) := by
  refine (dats m 0 c).arrAt_eq_of_coversWhere_of_agree 10 _ (fun β => β (0 : Fin 4) = 1) (by decide +kernel) (fun t hf y => ?_) (fun j hj => ?_)
  · have h3 := (flush0_10 t).mp hf
    blk_simp
    rw [after0_10, outs10 m c t h3]
    idx_vars y
    obtain rfl := Subsingleton.elim y0 0
    obtain rfl := Subsingleton.elim y1 0
    have e := accg_last m c x dy wg wu wd hm t h3 y2 y3
    generalize (outsAt0 m c t.val t.isLt).2.2.2.2.2.2.1 = v at e ⊢
    rw [show (((View.whole main_v14_3).slice (win0_10.rect t)).emb (ix4 0 0 y2 y3)) = ix4 1 (dev t) y2 y3 by blk_ext [idx10 t]]
    pointwise [k0_pay6]
    rw [e]
    refine (v33 x dy wg wu wd _ _ _).symm.trans ?_
    pointwise
    rw [dif_pos (show t.val / 4 < 4 from (dev t).isLt)]
  · blk_simp [Pipeline.Window.cell_apply] at hj
    rw [A_eq]
    refine (congrFun (V_ggate m c) _).trans ?_
    rw [updateSlice_apply, dif_neg]
    · intro hin
      have h1 := (hin 0).1
      have h2 := (hin 0).2
      idx_vars j
      refine hj ?_
      simp at h1 h2 ⊢
      omega

theorem final11 : (dats m 0 c).arrAt 11 cfg0.N = updateSlice (s := S2x4x704x1024) (m ((c : Thread nD τ).loc main_arg7))
    (val_main_v38 (F := Ideal) (up x) (up wg) (up wd) (up dy)) ![1, 0, 0, 0] (by decide) := by
  refine (dats m 0 c).arrAt_eq_of_coversWhere_of_agree 11 _ (fun β => β (0 : Fin 4) = 1) (by decide +kernel) (fun t hf y => ?_) (fun j hj => ?_)
  · have h3 := (flush0_11 t).mp hf
    blk_simp
    rw [after0_11, outs11 m c t h3]
    idx_vars y
    obtain rfl := Subsingleton.elim y0 0
    obtain rfl := Subsingleton.elim y1 0
    have e := accu_last m c x dy wg wu wd hm t h3 y2 y3
    generalize (outsAt0 m c t.val t.isLt).2.2.2.2.2.2.2 = v at e ⊢
    rw [show (((View.whole main_v14_4).slice (win0_11.rect t)).emb (ix4 0 0 y2 y3)) = ix4 1 (dev t) y2 y3 by blk_ext [idx11 t]]
    pointwise [k0_pay7]
    rw [e]
    refine (v38 x dy wg wd _ _ _).symm.trans ?_
    pointwise
    rw [dif_pos (show t.val / 4 < 4 from (dev t).isLt)]
  · blk_simp [Pipeline.Window.cell_apply] at hj
    rw [A_eq]
    refine (congrFun (V_gup m c) _).trans ?_
    rw [updateSlice_apply, dif_neg]
    · intro hin
      have h1 := (hin 0).1
      have h2 := (hin 0).2
      idx_vars j
      refine hj ?_
      simp at h1 h2 ⊢
      omega

end Arrays

end Cert.FbKernel

end
-- ==== Proof.FbClaim.lean ====
module

public import proofs.«01_k».proof.Defs
public import proofs.«01_k».proof.Proof.FbKernel
public import proofs.«01_k».proof.Proof.Finite
public import proofs.«01_k».proof.Proof.Gen.FbBwd.Frame
public import proofs.«01_k».proof.Proof.Gen.FbGradIdeal.Run
public import proofs.«01_k».proof.Proof.Gen.Pre_fb_finite

/-!
# The claims about the SwiGLU's gradient
-/

@[expose] public section

noncomputable section

namespace Cert.FbClaim

open Idealize.ShloMosaic Idealize.ShloMosaic.TcCoe Idealize.SL.Sem Cert.Finite

theorem frame_reference : Cert.quiescent_FbGradIdeal := fun m ρ _ =>
  (θ_run FbGradIdeal.defs _ _).mono (fun r h => ⟨fun c => (h c).2.2.2.2.2, sem_eq_zero_of_no_sems (by decide) r.2⟩)
    (FbGradIdeal.Value.run (F := Ideal) m ρ)

/-- The precondition says that the first five arguments hold real numbers. -/
theorem holds_of_pre (m : (ℓ : Loc FbBwdIdeal.nD FbBwdIdeal.τ FbBwdIdeal.sig) → Buf (Elt Ideal) ℓ) (h : Pre_FbBwdIdeal_fb_finite m)
    (c : Dev FbBwdIdeal.nD) : ∃ x dy wg wu wd, FbKernel.Holds m c x dy wg wu wd := by
  have hc := congrFun (h c) (Shape.Idx.first Pre_fb_finite.Gen.h_S_)
  dsimp only [Pre_fb_finite.fn, Pre_fb_finite.fn_part1] at hc
  obtain ⟨hc, e4⟩ := IntOp.andi_eq_one.1 hc
  obtain ⟨hc, e3⟩ := IntOp.andi_eq_one.1 hc
  obtain ⟨hc, e2⟩ := IntOp.andi_eq_one.1 hc
  obtain ⟨e0, e1⟩ := IntOp.andi_eq_one.1 hc
  exact ⟨_, _, _, _, _, eq_reals _ _ _ _ _ _ e0, eq_reals _ _ _ _ _ _ e1, eq_reals _ _ _ _ _ _ e2, eq_reals _ _ _ _ _ _ e3,
    eq_reals _ _ _ _ _ _ e4⟩

open FbGradIdeal.Read FbKernel FbRef

set_option maxHeartbeats 1000000 in
theorem equal : Cert.algebraic_FbBwdIdeal_FbGradIdeal_pre_fb_finite := by
  intro m ρ m' ρ' hpre hagree
  refine ⟨fun c => (FbBwdIdeal.Gen.dats m 0 c).arrAt 7 FbBwdIdeal.cfg0.N, fun c => (FbBwdIdeal.Gen.dats m 0 c).arrAt 8 FbBwdIdeal.cfg0.N,
    fun c => (FbBwdIdeal.Gen.dats m 0 c).arrAt 9 FbBwdIdeal.cfg0.N, fun c => (FbBwdIdeal.Gen.dats m 0 c).arrAt 10 FbBwdIdeal.cfg0.N,
    fun c => (FbBwdIdeal.Gen.dats m 0 c).arrAt 11 FbBwdIdeal.cfg0.N, FbBwdIdeal.Value.run_blocks m ρ, ?_⟩
  refine (θ_run FbGradIdeal.defs _ _).mono (fun _ h c => ?_) (FbGradIdeal.Value.run (F := Ideal) m' ρ')
  obtain ⟨x, dy, wg, wu, wd, hm⟩ := holds_of_pre m hpre c
  obtain ⟨a0, a1, a2, a3, a4, a5, a6, a7⟩ := hagree c
  obtain ⟨h0, h1, h2, h3, h4, hk⟩ := h c
  refine ⟨h0.trans ?_, h1.trans ?_, h2.trans ?_, h3.trans ?_, h4.trans ?_, hk⟩
  · refine Eq.trans ?_ (final7 m c x dy wg wu wd hm).symm
    rw [val_main_v25_eq, a0, a1, a2, a3, a4, hm.x, hm.wg, hm.wu, hm.wd, hm.dy]
  · refine Eq.trans ?_ (final8 m c x dy wg wu wd hm).symm
    rw [val_main_v26_eq, a0, a1, a3, a4, hm.x, hm.wg, hm.wd, hm.dy]
  · refine Eq.trans ?_ (final9 m c x dy wg wu wd hm).symm
    rw [a0, a1, a2, a4, a5, hm.x, hm.wg, hm.wu, hm.dy]
    exact gdown_update _ _ _ _ _
  · refine Eq.trans ?_ (final10 m c x dy wg wu wd hm).symm
    rw [val_main_v34_eq, a0, a1, a2, a3, a4, a6, hm.x, hm.wg, hm.wu, hm.wd, hm.dy]
    exact ggate_update _ _ _ _ _ _
  · refine Eq.trans ?_ (final11 m c x dy wg wu wd hm).symm
    rw [a0, a1, a3, a4, a7, hm.x, hm.wg, hm.wd, hm.dy]
    exact gup_update _ _ _ _ _

end Cert.FbClaim

end
-- ==== Proof.QxKernel.lean ====
module

public import proofs.«01_k».proof.Proof.NormRef
public import proofs.«01_k».proof.Proof.Gen.QxBwdIdeal.Value
public import proofs.«01_k».proof.Proof.Gen.QxGradIdeal.Read
public import Idealize.ShloMosaic.Lib.Pipeline.ValueKit

/-!
# What the kernel of the normalisation's gradient computes, fused with the projection's input gradient

Every point first adds up the cotangent of 512 rows: the residual's part and, 256 columns at a time, the products of the
projection's gradients with their weights. Then it goes through the normalisation as the plain kernel does.
-/

@[expose] public section

noncomputable section

namespace Cert.QxKernel

open Idealize.ShloMosaic Idealize.ShloMosaic.TcCoe Idealize.SL.Sem Cert.Reals Cert.NormMath Cert.QxBwdIdeal Cert.QxBwdIdeal.Gen

section AnyInstance

variable {F : FTy → Type} [FloatOps F]
variable (m : (ℓ : Loc nD τ sig) → Buf (Elt F) ℓ) (c : Dev nD)

/-- The kernel's normalised rows, prepared before the call, are the reference's. -/
theorem V_xhat : V m c main_v20 = Cert.LnGradIdeal.Read.val_main_v28 (F := F)
    (m ((c : Thread nD τ).loc main_arg0)) (m ((c : Thread nD τ).loc main_arg1)) := by
  unfold V hostOps0
  after_results_simp
  rfl

theorem V_rstd : V m c main_v18 = Cert.LnGradIdeal.Read.val_main_v23 (F := F)
    (m ((c : Thread nD τ).loc main_arg0)) (m ((c : Thread nD τ).loc main_arg1)) := by
  unfold V hostOps0
  after_results_simp
  rfl

theorem V_gam : V m c main_v21 = shapeCast _ (m ((c : Thread nD τ).loc main_arg2)) shapeCasts_S1024_S1x1024 := by
  unfold V hostOps0
  after_results_simp
  rfl

theorem V_dgam : V m c main_v22_2 = m ((c : Thread nD τ).loc main_arg6) := by
  unfold V hostOps0
  after_results_simp
  rfl

theorem V_dbet : V m c main_v22_3 = m ((c : Thread nD τ).loc main_arg7) := by
  unfold V hostOps0
  after_results_simp
  rfl

theorem lt8 (t : Fin cfg0.N) : t.val < 8 := lt_of_lt_of_eq t.isLt (show cfg0.N = 8 from N_0)

/-- The projection's gradients come by operand, the weights by device; the chunk `q` of 256 columns of either. -/
def gch (x : Vec F S3x512x1024 .bf16) (q : Fin 12) : Vec F S1x512x256 .bf16 :=
  View.ld x (Rect.unit (s := S3x512x1024) ![q / 4, 0, 256 * (q % 4)] ![1, 512, 256] (by revert q; decide))
def wch (x : Vec F S4x1x1024x768 .bf16) (q : Fin 12) : Vec F S1x1x1024x256 .bf16 :=
  View.ld x (Rect.unit (s := S4x1x1024x768) ![q / 3, 0, 0, 256 * (q % 3)] ![1, 1, 1024, 256] (by revert q; decide))

theorem gch_apply (x : Vec F S3x512x1024 .bf16) (q : Fin 12) (a : Fin 512) (f : Fin 256) :
    gch x q (ix3 0 a f) = x (ix3 ⟨q.val / 4, by omega⟩ a ⟨256 * (q.val % 4) + f.val, by omega⟩) :=
  View.ld_unit_apply_of _ _ _ _ _ _ fun | 0 => rfl | 1 => (Nat.zero_add _).symm | 2 => rfl
theorem wch_apply (x : Vec F S4x1x1024x768 .bf16) (q : Fin 12) (k : Fin 1024) (f : Fin 256) :
    wch x q (ix4 0 0 k f) = x (ix4 ⟨q.val / 3, by omega⟩ 0 k ⟨256 * (q.val % 3) + f.val, by omega⟩) :=
  View.ld_unit_apply_of _ _ _ _ _ _ fun | 0 => rfl | 1 => rfl | 2 => (Nat.zero_add _).symm | 3 => rfl

/-- The cotangent of a block of rows, from the blocks of the operands. -/
def acc (x0 : Vec F S3x512x1024 .bf16) (x1 : Vec F S4x1x1024x768 .bf16) (x2 : Vec F S512x1024 .f32) : FVec F S512x1024 .f32 :=
  k0_pay5
    (k0_pay4 (k0_pay1 x2 (gch x0 0) (wch x1 0) (gch x0 1) (wch x1 1) (gch x0 2) (wch x1 2))
      (k0_pay2 (gch x0 3)) (k0_pay3 (wch x1 3))
      (gch x0 4) (wch x1 4) (gch x0 5) (wch x1 5) (gch x0 6) (wch x1 6) (gch x0 7) (wch x1 7))
    (gch x0 8) (wch x1 8) (gch x0 9) (wch x1 9) (gch x0 10) (wch x1 10) (gch x0 11) (wch x1 11)

/-- The cotangent of point `t`'s rows. -/
abbrev cot (t : Fin cfg0.N) : FVec F S512x1024 .f32 := acc (iblk m c 0 t) (iblk m c 1 t) (iblk m c 2 t)

/-- What every point leaves in the first output's block. -/
theorem outs6 (t : Fin cfg0.N) :
    (outsAt0 m c t.val t.isLt).1 = k0_pay7 (cot m c t) (k0_pay6 (iblk m c 3 t)) (iblk m c 5 t) (iblk m c 4 t) := by
  have := lt8 t
  by_cases h0 : t.val % 8 = 0
  · rw [outsAt0_A m c t h0 (by omega)]; frame_out; rfl
  · rw [outsAt0_B m c t h0 (by omega)]; frame_out; rfl

/-- What every point leaves in the second output's block. -/
theorem outs7 (t : Fin cfg0.N) :
    (outsAt0 m c t.val t.isLt).2.1 = k0_pay8 (cot m c t) (k0_pay6 (iblk m c 3 t)) (iblk m c 5 t) (iblk m c 4 t) := by
  have := lt8 t
  by_cases h0 : t.val % 8 = 0
  · rw [outsAt0_A m c t h0 (by omega)]; frame_out; rfl
  · rw [outsAt0_B m c t h0 (by omega)]; frame_out; rfl

/-- The partial sums the first point leaves, and what each later point adds to the ones before. -/
theorem outs8_first (t : Fin cfg0.N) (h0 : t.val % 8 = 0) :
    (outsAt0 m c t.val t.isLt).2.2.1 = k0_pay11 (cot m c t) (k0_pay6 (iblk m c 3 t)) := by
  have := lt8 t
  rw [outsAt0_A m c t h0 (by omega)]; frame_out; rfl

theorem outs8_next (t : Fin cfg0.N) (h0 : ¬t.val % 8 = 0) :
    (outsAt0 m c t.val t.isLt).2.2.1 = k0_pay13 (cot m c t) (k0_pay6 (iblk m c 3 t))
      (outsAt0 m c (t.val - 1) (Nat.lt_of_le_of_lt (Nat.sub_le _ _) t.isLt)).2.2.1 := by
  have := lt8 t
  rw [outsAt0_B m c t h0 (by omega)]; frame_out; rfl

theorem outs9_first (t : Fin cfg0.N) (h0 : t.val % 8 = 0) :
    (outsAt0 m c t.val t.isLt).2.2.2 = k0_pay12 (cot m c t) := by
  have := lt8 t
  rw [outsAt0_A m c t h0 (by omega)]; frame_out; rfl

theorem outs9_next (t : Fin cfg0.N) (h0 : ¬t.val % 8 = 0) :
    (outsAt0 m c t.val t.isLt).2.2.2 = k0_pay14 (cot m c t)
      (outsAt0 m c (t.val - 1) (Nat.lt_of_le_of_lt (Nat.sub_le _ _) t.isLt)).2.2.2 := by
  have := lt8 t
  rw [outsAt0_B m c t h0 (by omega)]; frame_out; rfl

theorem idx0 : ∀ t : Fin grid0.N, win0_0.index t = ![0, t.val, 0] := by decide +kernel
theorem idx1 : ∀ t : Fin grid0.N, win0_1.index t = ![0, 0, 0, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![t.val, 0] := by decide +kernel
theorem idx5 : ∀ t : Fin grid0.N, win0_5.index t = ![0, 0] := by decide +kernel
theorem idx6 : ∀ t : Fin grid0.N, win0_6.index t = ![t.val, 0] := by decide +kernel
theorem idx7 : ∀ t : Fin grid0.N, win0_7.index t = ![t.val, 0] := by decide +kernel
theorem idx8 : ∀ t : Fin grid0.N, win0_8.index t = ![9, 0, 0] := by decide +kernel
theorem idx9 : ∀ t : Fin grid0.N, win0_9.index t = ![9, 0, 0] := by decide +kernel

end AnyInstance

open Cert.NormRef (up pre gam dro)

variable (m : (ℓ : Loc nD τ sig) → Buf (Elt Ideal) ℓ) (c : Dev nD)
  (x h : S4096x1024.Idx → ℝ) (g : S1024.Idx → ℝ) (w : S4x1x1024x768.Idx → ℝ) (dq : S3x4096x1024.Idx → ℝ) (dp : S4096x1024.Idx → ℝ)

/-- The launch memory holds the six real arrays. -/
structure Holds : Prop where
  x : m ((c : Thread nD τ).loc main_arg0) = up x
  h : m ((c : Thread nD τ).loc main_arg1) = up h
  g : m ((c : Thread nD τ).loc main_arg2) = up g
  w : m ((c : Thread nD τ).loc main_arg3) = up w
  dq : m ((c : Thread nD τ).loc main_arg4) = up dq
  dp : m ((c : Thread nD τ).loc main_arg5) = up dp

/-- One product of the projection's transpose, by the column of all its outputs side by side. -/
def term (r : Fin 4096) (k : Fin 1024) (j : Fin 3072) : ℝ :=
  dq (ix3 ⟨j.val / 1024, by omega⟩ r ⟨j.val % 1024, by omega⟩) * w (ix4 ⟨j.val / 768, by omega⟩ 0 k ⟨j.val % 768, by omega⟩)

/-- The cotangent of the normalisation: the residual's, and the projection's through its weights. -/
def dsum : S4096x1024.Idx → ℝ := fun i => alpha * dp (ix2 (i 0) (i 1)) + ∑ j, term w dq (i 0) (i 1) j

/-- One block of the cotangent, from the blocks of its operands. -/
theorem acc_apply (A : Fin 12 → Fin 512 → Fin 256 → ℝ) (B : Fin 12 → Fin 1024 → Fin 256 → ℝ) (E : Fin 512 → Fin 1024 → ℝ)
    (x0 : Vec Ideal S3x512x1024 .bf16) (x1 : Vec Ideal S4x1x1024x768 .bf16) (x2 : Vec Ideal S512x1024 .f32)
    (e0 : ∀ q a f, gch x0 q (ix3 0 a f) = (A q a f : EReal)) (e1 : ∀ q k f, wch x1 q (ix4 0 0 k f) = (B q k f : EReal))
    (e2 : ∀ a k, x2 (ix2 a k) = (E a k : EReal)) (a : Fin 512) (k : Fin 1024) :
    acc x0 x1 x2 (ix2 a k) = ((alpha * E a k + ∑ q, ∑ f, A q a f * B q k f : ℝ) : EReal) := by
  pointwise [acc, k0_pay5, k0_pay4, k0_pay3, k0_pay2, k0_pay1]
  simp only [e0, e1, e2, ← EReal.coe_mul, sum_coe, word_alpha, ← EReal.coe_add]
  refine congrArg _ ?_
  simp only [Fin.sum_univ_succ (n := 11), Fin.sum_univ_succ (n := 10), Fin.sum_univ_succ (n := 9), Fin.sum_univ_succ (n := 8), Fin.sum_univ_eight]
  simp only [← add_assoc]
  rfl

/-- One block of 512 rows of the gradient, from the cotangent's block and the blocks of the three operands. -/
theorem pay7_apply (r0 : ℕ) (hr : r0 + 512 ≤ 4096) (D H : Fin 4096 → Fin 1024 → ℝ) (G : Fin 1024 → ℝ) (R : Fin 4096 → ℝ)
    (v0 : FVec Ideal S512x1024 .f32) (v1 : FVec Ideal S512x1024 .f32) (v3 : Vec Ideal S1x1024 .f32) (v16 : Vec Ideal S512x1 .f32)
    (e0 : ∀ (a : Fin 512) k, v0 (ix2 a k) = (D ⟨r0 + a, by omega⟩ k : EReal))
    (e1 : ∀ (a : Fin 512) k, v1 (ix2 a k) = (H ⟨r0 + a, by omega⟩ k : EReal))
    (e3 : ∀ k, v3 (ix2 0 k) = (G k : EReal))
    (e16 : ∀ a : Fin 512, v16 (ix2 a 0) = (R ⟨r0 + a, by omega⟩ : EReal)) (a : Fin 512) (k : Fin 1024) :
    k0_pay7 v0 v1 v3 v16 (ix2 a k) = (gradOf G (D ⟨r0 + a, by omega⟩) (R ⟨r0 + a, by omega⟩) (H ⟨r0 + a, by omega⟩) k : EReal) := by
  pointwise [k0_pay7]
  simp only [e0, e1, e3, e16, ← EReal.coe_mul, sum_coe, word_1024, div_coe_coe _ (by norm_num : (1024 : ℝ) ≠ 0), ← EReal.coe_sub, gradOf]

open Cert.LnGradIdeal.Read

theorem row (t : Fin cfg0.N) : 512 * t.val + 512 ≤ 4096 := by have := lt8 t; omega

/-- The chunks' products are those of the whole rows. -/
theorem chunks (r : Fin 4096) (k : Fin 1024) :
    ∑ q : Fin 12, ∑ f : Fin 256, dq (ix3 ⟨q.val / 4, by omega⟩ r ⟨256 * (q.val % 4) + f.val, by omega⟩)
        * w (ix4 ⟨q.val / 3, by omega⟩ 0 k ⟨256 * (q.val % 3) + f.val, by omega⟩) = ∑ j, term w dq r k j := by
  refine Fin.sum_mul_add_congr (fun q f hl => ?_) (show 3072 = 12 * 256 by decide)
  simp only [term]
  congr 2
  · refine congrArg₂ (fun s j => ix3 s r j) (Fin.ext ?_) (Fin.ext ?_) <;> simp only [] <;> omega
  · refine congrArg₂ (fun s j => ix4 s 0 k j) (Fin.ext ?_) (Fin.ext ?_) <;> simp only [] <;> omega

section Blocks

variable (hm : Holds m c x h g w dq dp) (t : Fin cfg0.N)

include hm

theorem blk0 (s : Fin 3) (a : Fin 512) (j : Fin 1024) :
    iblk m c 0 t (ix3 s a j) = (dq (ix3 s ⟨512 * t.val + a, by have := row t; omega⟩ j) : EReal) := by
  blk_simp [iblk, idx0 t]
  rw [V_main_arg4, hm.dq]
  refine congrArg (up dq) ?_
  blk_ext [idx0 t]

theorem blk1 (p : Fin 4) (k : Fin 1024) (j : Fin 768) : iblk m c 1 t (ix4 p 0 k j) = (w (ix4 p 0 k j) : EReal) := by
  blk_simp [iblk, idx1 t]
  rw [V_main_arg3, hm.w]
  refine congrArg (up w) ?_
  blk_ext [idx1 t]

theorem blk2 (a : Fin 512) (k : Fin 1024) :
    iblk m c 2 t (ix2 a k) = (dp (ix2 ⟨512 * t.val + a, by have := row t; omega⟩ k) : EReal) := by
  blk_simp [iblk, idx2 t]
  rw [V_main_arg5, hm.dp]
  refine congrArg (up dp) ?_
  blk_ext [idx2 t]

theorem blk3 (a : Fin 512) (k : Fin 1024) :
    k0_pay6 (iblk m c 3 t) (ix2 a k) = (xhat (pre x h ⟨512 * t.val + a, by have := row t; omega⟩) k : EReal) := by
  rw [← Cert.NormRef.v28]
  pointwise [k0_pay6]
  blk_simp [iblk, idx3 t]
  rw [V_xhat, hm.x, hm.h]
  refine congrArg _ ?_
  blk_ext [idx3 t]

theorem blk4 (a : Fin 512) :
    iblk m c 4 t (ix2 a 0) = (rstd (pre x h ⟨512 * t.val + a, by have := row t; omega⟩) : EReal) := by
  rw [← Cert.NormRef.v23]
  blk_simp [iblk, idx4 t]
  rw [V_rstd, hm.x, hm.h]
  refine congrArg _ ?_
  blk_ext [idx4 t]

theorem blk5 (k : Fin 1024) : iblk m c 5 t (ix2 0 k) = (gam g k : EReal) := by
  blk_simp [iblk, idx5 t]
  rw [V_gam, hm.g, show (win0_5.blk t).view.emb (ix2 0 k) = ix2 0 k by blk_ext [idx5 t]]
  pointwise
  rfl

theorem cot_apply (a : Fin 512) (k : Fin 1024) :
    cot m c t (ix2 a k) = (dro (dsum w dq dp) ⟨512 * t.val + a, by have := row t; omega⟩ k : EReal) :=
  (acc_apply _ _ _ _ _ _ (fun q a f => (gch_apply ..).trans (blk0 m c x h g w dq dp hm t _ a _))
    (fun q k f => (wch_apply ..).trans (blk1 m c x h g w dq dp hm t _ k _))
    (blk2 m c x h g w dq dp hm t) a k).trans (congrArg (fun z : ℝ => ((alpha * dp _ + z : ℝ) : EReal)) (chunks w dq _ k))

theorem grad_apply (a : Fin 512) (k : Fin 1024) : k0_pay7 (cot m c t) (k0_pay6 (iblk m c 3 t)) (iblk m c 5 t) (iblk m c 4 t) (ix2 a k)
    = (grad (pre x h ⟨512 * t.val + a, by have := row t; omega⟩) (gam g)
        (dro (dsum w dq dp) ⟨512 * t.val + a, by have := row t; omega⟩) k : EReal) :=
  pay7_apply (512 * t.val) (row t) (dro (dsum w dq dp)) (fun r => xhat (pre x h r)) (gam g) (fun r => rstd (pre x h r)) _ _ _ _
    (cot_apply m c x h g w dq dp hm t) (blk3 m c x h g w dq dp hm t) (blk5 m c x h g w dq dp hm t)
    (blk4 m c x h g w dq dp hm t) a k

/-- The rows a point adds up for the scale's gradient, and for the offset's. -/
theorem pay9_apply (k : Fin 1024) : k0_pay9 (cot m c t) (k0_pay6 (iblk m c 3 t)) (ix2 0 k)
    = ((∑ a : Fin 512, xhat (pre x h ⟨512 * t.val + a, by have := row t; omega⟩) k
        * dro (dsum w dq dp) ⟨512 * t.val + a, by have := row t; omega⟩ k : ℝ) : EReal) := by
  have e0 := cot_apply m c x h g w dq dp hm t
  generalize cot m c t = v at e0 ⊢
  pointwise [k0_pay9]
  simp only [e0, blk3 m c x h g w dq dp hm t, ← EReal.coe_mul, sum_coe, mul_comm]

theorem pay10_apply (k : Fin 1024) : k0_pay10 (cot m c t) (ix2 0 k)
    = ((∑ a : Fin 512, dro (dsum w dq dp) ⟨512 * t.val + a, by have := row t; omega⟩ k : ℝ) : EReal) := by
  have e0 := cot_apply m c x h g w dq dp hm t
  generalize cot m c t = v at e0 ⊢
  pointwise [k0_pay10]
  simp only [e0, sum_coe]

end Blocks

theorem last8 {t : Fin cfg0.N} (hf : (cfg0.win 8).flush t = true) : t.val + 1 = cfg0.N := by
  have := lt8 t
  have := (flush0_8 t).mp hf
  exact (show t.val + 1 = 8 by omega).trans (show cfg0.N = 8 from N_0).symm

theorem last9 {t : Fin cfg0.N} (hf : (cfg0.win 9).flush t = true) : t.val + 1 = cfg0.N := by
  have := lt8 t
  have := (flush0_9 t).mp hf
  exact (show t.val + 1 = 8 by omega).trans (show cfg0.N = 8 from N_0).symm

theorem N_le : cfg0.N ≤ 8 := le_of_eq (show cfg0.N = 8 from N_0)

/-- The sum over all rows, block by block. -/
theorem sum_blocks (f : Fin 4096 → ℝ) :
    ∑ t : Fin cfg0.N, ∑ a : Fin 512, f ⟨512 * t.val + a, by have := row t; omega⟩ = ∑ r, f r :=
  Fin.sum_mul_add_congr (fun s k hl => congrArg f (Fin.ext (by simp only []; omega))) (show 4096 = cfg0.N * 512 by rw [show cfg0.N = 8 from N_0])

section Arrays

variable (hm : Holds m c x h g w dq dp)

include hm

theorem outs8_last (t : Fin cfg0.N) (ht : t.val + 1 = cfg0.N) (k : Fin 1024) :
    (outsAt0 m c t.val t.isLt).2.2.1 (ix3 0 0 k) = ((∑ r, xhat (pre x h r) k * dro (dsum w dq dp) r k : ℝ) : EReal) := by
  refine (Pipeline.eq_sum_fin_of_reset_step_apply_last (fun n hn k => (outsAt0 m c n hn).2.2.1 (ix3 0 0 k)) 8 (fun _ => 0)
    (fun t k => k0_pay9 (cot m c t) (k0_pay6 (iblk m c 3 t)) (ix2 0 k)) (fun t h0 k => ?_) (fun t h0 k => ?_) N_le t ht k).trans ?_
  · simp only [outs8_first m c t h0]
    generalize cot m c t = v
    pointwise [k0_pay11, k0_pay9]
  · simp only [outs8_next m c t h0]
    generalize cot m c t = v
    pointwise [k0_pay13, k0_pay9]
  · simp only [pay9_apply m c x h g w dq dp hm, sum_coe, zero_add]
    exact congrArg _ (sum_blocks fun r => xhat (pre x h r) k * dro (dsum w dq dp) r k)

theorem outs9_last (t : Fin cfg0.N) (ht : t.val + 1 = cfg0.N) (k : Fin 1024) :
    (outsAt0 m c t.val t.isLt).2.2.2 (ix3 0 0 k) = ((∑ r, dro (dsum w dq dp) r k : ℝ) : EReal) := by
  refine (Pipeline.eq_sum_fin_of_reset_step_apply_last (fun n hn k => (outsAt0 m c n hn).2.2.2 (ix3 0 0 k)) 8 (fun _ => 0)
    (fun t k => k0_pay10 (cot m c t) (ix2 0 k)) (fun t h0 k => ?_) (fun t h0 k => ?_) N_le t ht k).trans ?_
  · simp only [outs9_first m c t h0]
    generalize cot m c t = v
    pointwise [k0_pay12, k0_pay10]
  · simp only [outs9_next m c t h0]
    generalize cot m c t = v
    pointwise [k0_pay14, k0_pay10]
  · simp only [pay10_apply m c x h g w dq dp hm, sum_coe, zero_add]
    exact congrArg _ (sum_blocks fun r => dro (dsum w dq dp) r k)

theorem final6 : (dats m 0 c).arrAt 6 cfg0.N = val_main_v68 (F := Ideal) (up x) (up h) (up g) (up (dsum w dq dp)) := by
  refine (dats m 0 c).arrAt_eq_of_covers 6 _ (by decide +kernel) fun t hf y => ?_
  blk_simp
  rw [after0_6, outs6]
  idx_vars y
  rw [grad_apply m c x h g w dq dp hm t]
  refine (Cert.NormRef.v68 x h g _ _ _).symm.trans (congrArg _ ?_)
  blk_ext [idx6 t]

theorem final7 : (dats m 0 c).arrAt 7 cfg0.N = val_main_v71 (F := Ideal) (up x) (up h) (up g) (up (dsum w dq dp)) := by
  refine (dats m 0 c).arrAt_eq_of_covers 7 _ (by decide +kernel) fun t hf y => ?_
  blk_simp
  rw [after0_7, outs7]
  idx_vars y
  have e := grad_apply m c x h g w dq dp hm t y0 y1
  generalize cot m c t = v at e ⊢
  pointwise [k0_pay8]
  rw [e, word_half, ← EReal.coe_mul]
  refine (Cert.NormRef.v71 x h g _ _ _).symm.trans (congrArg _ ?_)
  blk_ext [idx7 t]

theorem final8 : (dats m 0 c).arrAt 8 cfg0.N = updateSlice (s := S12x1x1024) (m ((c : Thread nD τ).loc main_arg6))
    (val_main_v72 (F := Ideal) (up x) (up h) (up (dsum w dq dp))) ![9, 0, 0] (by decide) := by
  refine (dats m 0 c).arrAt_eq_of_coversWhere_of_agree 8 _ (fun β => β (0 : Fin 3) = 9) (by decide +kernel) (fun t hf y => ?_) (fun j hj => ?_)
  · blk_simp
    rw [after0_8]
    idx_vars y
    obtain rfl := Subsingleton.elim y0 0
    obtain rfl := Subsingleton.elim y1 0
    rw [outs8_last m c x h g w dq dp hm t (last8 hf), show (((View.whole main_v22_2).slice (win0_8.rect t)).emb (ix3 0 0 y2)) = ix3 9 0 y2 by blk_ext [idx8 t]]
    refine (Cert.NormRef.v72 x h _ _).symm.trans ?_
    pointwise
  · blk_simp [Pipeline.Window.cell_apply] at hj
    rw [A_eq]
    refine (congrFun (V_dgam m c) _).trans ?_
    rw [updateSlice_apply, dif_neg]
    · intro hin
      have h1 := (hin 0).1
      have h2 := (hin 0).2
      idx_vars j
      refine hj ?_
      simp at h1 h2 ⊢
      omega

theorem final9 : (dats m 0 c).arrAt 9 cfg0.N = updateSlice (s := S12x1x1024) (m ((c : Thread nD τ).loc main_arg7))
    (val_main_v74 (F := Ideal) (up (dsum w dq dp))) ![9, 0, 0] (by decide) := by
  refine (dats m 0 c).arrAt_eq_of_coversWhere_of_agree 9 _ (fun β => β (0 : Fin 3) = 9) (by decide +kernel) (fun t hf y => ?_) (fun j hj => ?_)
  · blk_simp
    rw [after0_9]
    idx_vars y
    obtain rfl := Subsingleton.elim y0 0
    obtain rfl := Subsingleton.elim y1 0
    rw [outs9_last m c x h g w dq dp hm t (last9 hf), show (((View.whole main_v22_3).slice (win0_9.rect t)).emb (ix3 0 0 y2)) = ix3 9 0 y2 by blk_ext [idx9 t]]
    refine (Cert.NormRef.v74 _ _).symm.trans ?_
    pointwise
  · blk_simp [Pipeline.Window.cell_apply] at hj
    rw [A_eq]
    refine (congrFun (V_dbet m c) _).trans ?_
    rw [updateSlice_apply, dif_neg]
    · intro hin
      have h1 := (hin 0).1
      have h2 := (hin 0).2
      idx_vars j
      refine hj ?_
      simp at h1 h2 ⊢
      omega

end Arrays

/-! ## What the reference computes -/

/-- The reference's rows of gradients and of weights, side by side. -/
theorem ref_v6 (r : Fin 4096) (j : Fin 3072) : Cert.QxGradIdeal.Read.val_main_v6 (F := Ideal) (up dq) (ix2 r j)
    = (dq (ix3 ⟨j.val / 1024, by omega⟩ r ⟨j.val % 1024, by omega⟩) : EReal) := by
  pointwise [Cert.QxGradIdeal.Read.val_main_v6, Cert.QxGradIdeal.Read.val_main_v5, Cert.QxGradIdeal.Read.val_main_v4]

theorem ref_v3 (k : Fin 1024) (j : Fin 3072) : Cert.QxGradIdeal.Read.val_main_v3 (F := Ideal) (up w) (ix2 k j)
    = (w (ix4 ⟨j.val / 768, by omega⟩ 0 k ⟨j.val % 768, by omega⟩) : EReal) := by
  pointwise [Cert.QxGradIdeal.Read.val_main_v3, Cert.QxGradIdeal.Read.val_main_v2, Cert.QxGradIdeal.Read.val_main_v1,
    Cert.QxGradIdeal.Read.val_main_v0]

/-- The reference's cotangent of the normalisation. -/
theorem ref_dsum : Cert.QxGradIdeal.Read.val_main_v48 (F := Ideal) (up w) (up dq) (up dp) = up (dsum w dq dp) := by
  funext i
  idx_vars i
  pointwise [Cert.QxGradIdeal.Read.val_main_v48, Cert.QxGradIdeal.Read.val_main_v45, Cert.QxGradIdeal.Read.val_main_v47,
    Cert.QxGradIdeal.Read.val_main_v46, Cert.QxGradIdeal.Read.val_main_cst_10]
  simp only [ref_v6, ref_v3, ← EReal.coe_mul, sum_coe, word_alpha, ← EReal.coe_add]
  exact congrArg _ (add_comm _ _)

end Cert.QxKernel

end
-- ==== Proof.QxClaim.lean ====
module

public import proofs.«01_k».proof.Defs
public import proofs.«01_k».proof.Proof.QxKernel
public import proofs.«01_k».proof.Proof.Finite
public import proofs.«01_k».proof.Proof.Gen.QxBwd.Frame
public import proofs.«01_k».proof.Proof.Gen.QxGradIdeal.Run
public import proofs.«01_k».proof.Proof.Gen.Pre_qx_finite

/-!
# The claims about the normalisation's gradient fused with the projection's
-/

@[expose] public section

noncomputable section

namespace Cert.QxClaim

open Idealize.ShloMosaic Idealize.ShloMosaic.TcCoe Idealize.SL.Sem Cert.Finite

theorem frame_reference : Cert.quiescent_QxGradIdeal := fun m ρ _ =>
  (θ_run QxGradIdeal.defs _ _).mono (fun r h => ⟨fun c => (h c).2.2.2.2, sem_eq_zero_of_no_sems (by decide) r.2⟩)
    (QxGradIdeal.Value.run (F := Ideal) m ρ)

/-- The precondition says that the first six arguments hold real numbers. -/
theorem holds_of_pre (m : (ℓ : Loc QxBwdIdeal.nD QxBwdIdeal.τ QxBwdIdeal.sig) → Buf (Elt Ideal) ℓ) (h : Pre_QxBwdIdeal_qx_finite m)
    (c : Dev QxBwdIdeal.nD) : ∃ x h g w dq dp, QxKernel.Holds m c x h g w dq dp := by
  have hc := congrFun (h c) (Shape.Idx.first Pre_qx_finite.Gen.h_S_)
  dsimp only [Pre_qx_finite.fn, Pre_qx_finite.fn_part1] at hc
  obtain ⟨hc, e4⟩ := IntOp.andi_eq_one.1 hc
  obtain ⟨hc, e3⟩ := IntOp.andi_eq_one.1 hc
  obtain ⟨hc, e5⟩ := IntOp.andi_eq_one.1 hc
  obtain ⟨hc, e2⟩ := IntOp.andi_eq_one.1 hc
  obtain ⟨e0, e1⟩ := IntOp.andi_eq_one.1 hc
  exact ⟨_, _, _, _, _, _, eq_reals _ _ _ _ _ _ e0, eq_reals _ _ _ _ _ _ e1, eq_reals _ _ _ _ _ _ e2, eq_reals _ _ _ _ _ _ e3,
    eq_reals _ _ _ _ _ _ e4, eq_reals _ _ _ _ _ _ e5⟩

open QxGradIdeal.Read QxKernel

section Reference

variable (x h : QxGradIdeal.S4096x1024.Idx → EReal) (g : QxGradIdeal.S1024.Idx → EReal) (w : QxGradIdeal.S4x1x1024x768.Idx → EReal)
  (dq : QxGradIdeal.S3x4096x1024.Idx → EReal) (dp : QxGradIdeal.S4096x1024.Idx → EReal) (o : QxGradIdeal.S12x1x1024.Idx → EReal)

theorem cotangent (d : QxGradIdeal.S4096x1024.Idx → EReal) : LnGradIdeal.Read.val_main_v35 (F := Ideal) d = d := by
  funext i
  idx_vars i
  pointwise [LnGradIdeal.Read.val_main_v35]

theorem c60 : val_main_v52 (F := Ideal) x h w dq dp
    = LnGradIdeal.Read.val_main_v39 (F := Ideal) x h (val_main_v48 (F := Ideal) w dq dp) := congrArg₂ mulf rfl (cotangent _).symm

theorem c64 : val_main_v56 (F := Ideal) g w dq dp
    = LnGradIdeal.Read.val_main_v43 (F := Ideal) g (val_main_v48 (F := Ideal) w dq dp) := congrArg₂ mulf (cotangent _).symm rfl

theorem c70 : val_main_v62 (F := Ideal) x h g w dq dp
    = LnGradIdeal.Read.val_main_v49 (F := Ideal) x h g (val_main_v48 (F := Ideal) w dq dp) := congrArg₂ mulf (c64 g w dq dp) rfl

theorem c66 : val_main_v58 (F := Ideal) x h g w dq dp
    = LnGradIdeal.Read.val_main_v45 (F := Ideal) x h g (val_main_v48 (F := Ideal) w dq dp) := congrArg₂ mulf rfl (c64 g w dq dp)

theorem c71 : val_main_v63 (F := Ideal) x h g w dq dp
    = LnGradIdeal.Read.val_main_v50 (F := Ideal) x h g (val_main_v48 (F := Ideal) w dq dp) := by
  simp only [val_main_v63, val_main_v60, val_main_v59, LnGradIdeal.Read.val_main_v50, LnGradIdeal.Read.val_main_v47, LnGradIdeal.Read.val_main_v46, c66 x h g w dq dp]
  rfl

theorem c79 : val_main_v71 (F := Ideal) x h g w dq dp
    = LnGradIdeal.Read.val_main_v58 (F := Ideal) x h g (val_main_v48 (F := Ideal) w dq dp) := by
  simp only [val_main_v71, val_main_v70, val_main_v69, val_main_v68, LnGradIdeal.Read.val_main_v58, LnGradIdeal.Read.val_main_v57, LnGradIdeal.Read.val_main_v56, LnGradIdeal.Read.val_main_v55, c71 x h g w dq dp]
  rfl

theorem c74 : val_main_v66 (F := Ideal) x h g w dq dp
    = LnGradIdeal.Read.val_main_v53 (F := Ideal) x h g (val_main_v48 (F := Ideal) w dq dp) := by
  simp only [val_main_v66, val_main_v65, val_main_v64, LnGradIdeal.Read.val_main_v53, LnGradIdeal.Read.val_main_v52, LnGradIdeal.Read.val_main_v51, c70 x h g w dq dp]
  rfl

theorem c82 : val_main_v74 (F := Ideal) x h g w dq dp
    = LnGradIdeal.Read.val_main_v61 (F := Ideal) x h g (val_main_v48 (F := Ideal) w dq dp) := by
  simp only [val_main_v74, val_main_v73, val_main_v72, LnGradIdeal.Read.val_main_v61, LnGradIdeal.Read.val_main_v60, LnGradIdeal.Read.val_main_v59, c79 x h g w dq dp]
  rfl

theorem c88 : val_main_v80 (F := Ideal) x h g w dq dp
    = LnGradIdeal.Read.val_main_v67 (F := Ideal) x h g (val_main_v48 (F := Ideal) w dq dp) := by
  simp only [val_main_v80, val_main_v79, val_main_v78, val_main_v76, LnGradIdeal.Read.val_main_v67, LnGradIdeal.Read.val_main_v66, LnGradIdeal.Read.val_main_v65, LnGradIdeal.Read.val_main_v63, c74 x h g w dq dp, c82 x h g w dq dp]
  rfl

/-- From its cotangent on, the reference is that of the plain normalisation. -/
theorem ref0 : val_main_v81 (F := Ideal) x h g w dq dp
    = LnGradIdeal.Read.val_main_v68 (F := Ideal) x h g (val_main_v48 (F := Ideal) w dq dp) := by
  simp only [val_main_v81, val_main_v75, LnGradIdeal.Read.val_main_v68, LnGradIdeal.Read.val_main_v62, c70 x h g w dq dp, c79 x h g w dq dp, c88 x h g w dq dp]

theorem ref1 : val_main_v84 (F := Ideal) x h g w dq dp
    = LnGradIdeal.Read.val_main_v71 (F := Ideal) x h g (val_main_v48 (F := Ideal) w dq dp) := by
  simp only [val_main_v84, val_main_v83, LnGradIdeal.Read.val_main_v71, LnGradIdeal.Read.val_main_v70, ref0]
  rfl

theorem ref2 : val_main_v85 (F := Ideal) x h w dq dp
    = LnGradIdeal.Read.val_main_v72 (F := Ideal) x h (val_main_v48 (F := Ideal) w dq dp) := by
  simp only [val_main_v85, val_main_v57, val_main_v54, val_main_v53, LnGradIdeal.Read.val_main_v72, LnGradIdeal.Read.val_main_v44, LnGradIdeal.Read.val_main_v41, LnGradIdeal.Read.val_main_v40, c60 x h w dq dp]
  rfl

theorem ref3 : val_main_v87 (F := Ideal) w dq dp
    = LnGradIdeal.Read.val_main_v74 (F := Ideal) (val_main_v48 (F := Ideal) w dq dp) := rfl

theorem ref2_update : val_main_v86 (F := Ideal) x h w dq dp o
    = updateSlice o (val_main_v85 (F := Ideal) x h w dq dp) ![9, 0, 0] (by decide) :=
  WordCmp.dynamicUpdateSlice_eq_update _ _ _ _ _ _ (by decide +kernel)

theorem ref3_update : val_main_v88 (F := Ideal) w dq dp o
    = updateSlice o (val_main_v87 (F := Ideal) w dq dp) ![9, 0, 0] (by decide) :=
  WordCmp.dynamicUpdateSlice_eq_update _ _ _ _ _ _ (by decide +kernel)

end Reference

set_option maxHeartbeats 1000000 in
theorem equal : Cert.algebraic_QxBwdIdeal_QxGradIdeal_pre_qx_finite := by
  intro m ρ m' ρ' hpre hagree
  refine ⟨fun c => (QxBwdIdeal.Gen.dats m 0 c).arrAt 6 QxBwdIdeal.cfg0.N, fun c => (QxBwdIdeal.Gen.dats m 0 c).arrAt 7 QxBwdIdeal.cfg0.N,
    fun c => (QxBwdIdeal.Gen.dats m 0 c).arrAt 8 QxBwdIdeal.cfg0.N, fun c => (QxBwdIdeal.Gen.dats m 0 c).arrAt 9 QxBwdIdeal.cfg0.N,
    QxBwdIdeal.Value.run_blocks m ρ, ?_⟩
  refine (θ_run QxGradIdeal.defs _ _).mono (fun _ h c => ?_) (QxGradIdeal.Value.run (F := Ideal) m' ρ')
  obtain ⟨x, y, g, w, dq, dp, hm⟩ := holds_of_pre m hpre c
  obtain ⟨a0, a1, a2, a3, a4, a5, a6, a7⟩ := hagree c
  obtain ⟨h0, h1, h2, h3, hk⟩ := h c
  refine ⟨h0.trans ?_, h1.trans ?_, h2.trans ?_, h3.trans ?_, hk⟩
  · refine Eq.trans ?_ (final6 m c x y g w dq dp hm).symm
    rw [val_main_v81_eq, a0, a1, a2, a3, a4, a5, hm.x, hm.h, hm.g, hm.w, hm.dq, hm.dp, ref0, ref_dsum]
  · refine Eq.trans ?_ (final7 m c x y g w dq dp hm).symm
    rw [val_main_v84_eq, a0, a1, a2, a3, a4, a5, hm.x, hm.h, hm.g, hm.w, hm.dq, hm.dp, ref1, ref_dsum]
  · refine Eq.trans ?_ (final8 m c x y g w dq dp hm).symm
    rw [val_main_v86_eq, a0, a1, a3, a4, a5, a6, hm.x, hm.h, hm.w, hm.dq, hm.dp]
    refine (ref2_update _ _ _ _ _ _).trans ?_
    rw [ref2, ref_dsum]
  · refine Eq.trans ?_ (final9 m c x y g w dq dp hm).symm
    rw [a3, a4, a5, a7, hm.w, hm.dq, hm.dp]
    refine (ref3_update _ _ _ _).trans ?_
    rw [ref3, ref_dsum]

end Cert.QxClaim

end
-- ==== Proof.FxKernel.lean ====
module

public import proofs.«01_k».proof.Proof.NormRef
public import proofs.«01_k».proof.Proof.Gen.FxBwdIdeal.Value
public import proofs.«01_k».proof.Proof.Gen.FxGradIdeal.Read
public import Idealize.ShloMosaic.Lib.Pipeline.ValueKit

/-!
# What the kernel of the normalisation's gradient computes, fused with the SwiGLU's input gradient

Every point first adds up the cotangent of 256 rows: the residual's part and, device by device, the products of the two
branches' gradients with their weights. Then it goes through the normalisation as the plain kernel does.
-/

@[expose] public section

noncomputable section

namespace Cert.FxKernel

open Idealize.ShloMosaic Idealize.ShloMosaic.TcCoe Idealize.SL.Sem Cert.Reals Cert.NormMath Cert.FxBwdIdeal Cert.FxBwdIdeal.Gen

section AnyInstance

variable {F : FTy → Type} [FloatOps F]
variable (m : (ℓ : Loc nD τ sig) → Buf (Elt F) ℓ) (c : Dev nD)

/-- The kernel's normalised rows, prepared before the call, are the reference's. -/
theorem V_xhat : V m c main_v20 = Cert.LnGradIdeal.Read.val_main_v28 (F := F)
    (m ((c : Thread nD τ).loc main_arg0)) (m ((c : Thread nD τ).loc main_arg1)) := by
  unfold V hostOps0
  after_results_simp
  rfl

theorem V_rstd : V m c main_v18 = Cert.LnGradIdeal.Read.val_main_v23 (F := F)
    (m ((c : Thread nD τ).loc main_arg0)) (m ((c : Thread nD τ).loc main_arg1)) := by
  unfold V hostOps0
  after_results_simp
  rfl

theorem V_gam : V m c main_v21 = shapeCast _ (m ((c : Thread nD τ).loc main_arg2)) shapeCasts_S1024_S1x1024 := by
  unfold V hostOps0
  after_results_simp
  rfl

theorem V_dgam : V m c main_v22_2 = m ((c : Thread nD τ).loc main_arg8) := by
  unfold V hostOps0
  after_results_simp
  rfl

theorem V_dbet : V m c main_v22_3 = m ((c : Thread nD τ).loc main_arg9) := by
  unfold V hostOps0
  after_results_simp
  rfl

theorem lt16 (t : Fin cfg0.N) : t.val < 16 := lt_of_lt_of_eq t.isLt (show cfg0.N = 16 from N_0)

/-- One device's rows of an operand's block, and one device's weights. -/
def rows (x : Vec F S4x256x704 .bf16) (p : Fin 4) : Vec F S1x256x704 .bf16 :=
  View.ld x (Rect.unit (s := S4x256x704) ![p, 0, 0] ![1, 256, 704] (by revert p; decide))
def mats (x : Vec F S4x1x704x1024 .bf16) (p : Fin 4) : Vec F S1x1x704x1024 .bf16 :=
  View.ld x (Rect.unit (s := S4x1x704x1024) ![p, 0, 0, 0] ![1, 1, 704, 1024] (by revert p; decide))

theorem rows_apply (x : Vec F S4x256x704 .bf16) (p : Fin 4) (a : Fin 256) (f : Fin 704) : rows x p (ix3 0 a f) = x (ix3 p a f) :=
  View.ld_unit_apply_of _ _ _ _ _ _ fun | 0 => rfl | 1 | 2 => (Nat.zero_add _).symm
theorem mats_apply (x : Vec F S4x1x704x1024 .bf16) (p : Fin 4) (f : Fin 704) (k : Fin 1024) : mats x p (ix4 0 0 f k) = x (ix4 p 0 f k) :=
  View.ld_unit_apply_of _ _ _ _ _ _ fun | 0 | 1 => rfl | 2 | 3 => (Nat.zero_add _).symm

/-- The cotangent of a block of rows, from the blocks of the operands. -/
def acc (x0 : Vec F S4x256x704 .bf16) (x1 : Vec F S4x1x704x1024 .bf16) (x2 : Vec F S4x256x704 .bf16) (x3 : Vec F S4x1x704x1024 .bf16)
    (x4 : Vec F S256x1024 .f32) : FVec F S256x1024 .f32 :=
  k0_pay6 (k0_pay3 x4 (rows x0 0) (mats x1 0) (rows x2 0) (mats x3 0) (rows x0 1) (mats x1 1)) (k0_pay4 (rows x2 1)) (k0_pay5 (mats x3 1))
    (rows x0 2) (mats x1 2) (rows x2 2) (mats x3 2) (rows x0 3) (mats x1 3) (rows x2 3) (mats x3 3)

/-- The cotangent of point `t`'s rows. -/
abbrev cot (t : Fin cfg0.N) : FVec F S256x1024 .f32 := acc (iblk m c 0 t) (iblk m c 1 t) (iblk m c 2 t) (iblk m c 3 t) (iblk m c 4 t)

/-- What every point leaves in the first output's block. -/
theorem outs8 (t : Fin cfg0.N) :
    (outsAt0 m c t.val t.isLt).1 = k0_pay8 (cot m c t) (iblk m c 5 t) (iblk m c 7 t) (iblk m c 6 t) := by
  have := lt16 t
  by_cases h0 : t.val % 16 = 0
  · rw [outsAt0_A m c t h0 (by omega)]; frame_out; rfl
  · rw [outsAt0_B m c t h0 (by omega)]; frame_out; rfl

/-- What every point leaves in the second output's block. -/
theorem outs9 (t : Fin cfg0.N) :
    (outsAt0 m c t.val t.isLt).2.1 = k0_pay9 (cot m c t) (iblk m c 5 t) (iblk m c 7 t) (iblk m c 6 t) := by
  have := lt16 t
  by_cases h0 : t.val % 16 = 0
  · rw [outsAt0_A m c t h0 (by omega)]; frame_out; rfl
  · rw [outsAt0_B m c t h0 (by omega)]; frame_out; rfl

/-- The partial sums the first point leaves, and what each later point adds to the ones before. -/
theorem outs10_first (t : Fin cfg0.N) (h0 : t.val % 16 = 0) :
    (outsAt0 m c t.val t.isLt).2.2.1 = k0_pay12 (cot m c t) (iblk m c 5 t) := by
  have := lt16 t
  rw [outsAt0_A m c t h0 (by omega)]; frame_out; rfl

theorem outs10_next (t : Fin cfg0.N) (h0 : ¬t.val % 16 = 0) :
    (outsAt0 m c t.val t.isLt).2.2.1 = k0_pay1 (k0_pay10 (cot m c t) (iblk m c 5 t))
      (outsAt0 m c (t.val - 1) (Nat.lt_of_le_of_lt (Nat.sub_le _ _) t.isLt)).2.2.1 := by
  have := lt16 t
  rw [outsAt0_B m c t h0 (by omega)]; frame_out; rfl

theorem outs11_first (t : Fin cfg0.N) (h0 : t.val % 16 = 0) :
    (outsAt0 m c t.val t.isLt).2.2.2 = k0_pay13 (cot m c t) := by
  have := lt16 t
  rw [outsAt0_A m c t h0 (by omega)]; frame_out; rfl

theorem outs11_next (t : Fin cfg0.N) (h0 : ¬t.val % 16 = 0) :
    (outsAt0 m c t.val t.isLt).2.2.2 = k0_pay2 (k0_pay11 (cot m c t))
      (outsAt0 m c (t.val - 1) (Nat.lt_of_le_of_lt (Nat.sub_le _ _) t.isLt)).2.2.2 := by
  have := lt16 t
  rw [outsAt0_B m c t h0 (by omega)]; frame_out; rfl

theorem idx0 : ∀ t : Fin grid0.N, win0_0.index t = ![0, t.val, 0] := by decide +kernel
theorem idx1 : ∀ t : Fin grid0.N, win0_1.index t = ![0, 0, 0, 0] := by decide +kernel
theorem idx2 : ∀ t : Fin grid0.N, win0_2.index t = ![0, t.val, 0] := by decide +kernel
theorem idx3 : ∀ t : Fin grid0.N, win0_3.index t = ![0, 0, 0, 0] := by decide +kernel
theorem idx4 : ∀ t : Fin grid0.N, win0_4.index t = ![t.val, 0] := by decide +kernel
theorem idx5 : ∀ t : Fin grid0.N, win0_5.index t = ![t.val, 0] := by decide +kernel
theorem idx6 : ∀ t : Fin grid0.N, win0_6.index t = ![t.val, 0] := by decide +kernel
theorem idx7 : ∀ t : Fin grid0.N, win0_7.index t = ![0, 0] := by decide +kernel
theorem idx8 : ∀ t : Fin grid0.N, win0_8.index t = ![t.val, 0] := by decide +kernel
theorem idx9 : ∀ t : Fin grid0.N, win0_9.index t = ![t.val, 0] := by decide +kernel
theorem idx10 : ∀ t : Fin grid0.N, win0_10.index t = ![8, 0, 0] := by decide +kernel
theorem idx11 : ∀ t : Fin grid0.N, win0_11.index t = ![8, 0, 0] := by decide +kernel

end AnyInstance

open Cert.NormRef (up pre gam dro)

variable (m : (ℓ : Loc nD τ sig) → Buf (Elt Ideal) ℓ) (c : Dev nD)
  (x h : S4096x1024.Idx → ℝ) (g : S1024.Idx → ℝ) (wg wu : S4x2x704x1024.Idx → ℝ) (dg du : S4x4096x704.Idx → ℝ) (dp : S4096x1024.Idx → ℝ)

/-- The launch memory holds the eight real arrays. -/
structure Holds : Prop where
  x : m ((c : Thread nD τ).loc main_arg0) = up x
  h : m ((c : Thread nD τ).loc main_arg1) = up h
  g : m ((c : Thread nD τ).loc main_arg2) = up g
  wg : m ((c : Thread nD τ).loc main_arg3) = up wg
  wu : m ((c : Thread nD τ).loc main_arg4) = up wu
  dg : m ((c : Thread nD τ).loc main_arg5) = up dg
  du : m ((c : Thread nD τ).loc main_arg6) = up du
  dp : m ((c : Thread nD τ).loc main_arg7) = up dp

/-- The cotangent of the normalisation: the residual's, and the two branches' through the weights of every device. -/
def dsum : S4096x1024.Idx → ℝ := fun i => alpha * dp (ix2 (i 0) (i 1))
  + ∑ p : Fin 4, (∑ f : Fin 704, dg (ix3 p (i 0) f) * wg (ix4 p 0 f (i 1)) + ∑ f : Fin 704, du (ix3 p (i 0) f) * wu (ix4 p 0 f (i 1)))

/-- One block of the cotangent, from the blocks of its operands. -/
theorem acc_apply (A C : Fin 4 → Fin 256 → Fin 704 → ℝ) (B D : Fin 4 → Fin 704 → Fin 1024 → ℝ) (E : Fin 256 → Fin 1024 → ℝ)
    (x0 x2 : Vec Ideal S4x256x704 .bf16) (x1 x3 : Vec Ideal S4x1x704x1024 .bf16) (x4 : Vec Ideal S256x1024 .f32)
    (e0 : ∀ p a f, x0 (ix3 p a f) = (A p a f : EReal)) (e1 : ∀ p f k, x1 (ix4 p 0 f k) = (B p f k : EReal))
    (e2 : ∀ p a f, x2 (ix3 p a f) = (C p a f : EReal)) (e3 : ∀ p f k, x3 (ix4 p 0 f k) = (D p f k : EReal))
    (e4 : ∀ a k, x4 (ix2 a k) = (E a k : EReal)) (a : Fin 256) (k : Fin 1024) :
    acc x0 x1 x2 x3 x4 (ix2 a k)
      = ((alpha * E a k + ∑ p, (∑ f, A p a f * B p f k + ∑ f, C p a f * D p f k) : ℝ) : EReal) := by
  have r0 (p a f) : rows x0 p (ix3 0 a f) = (A p a f : EReal) := (rows_apply ..).trans (e0 p a f)
  have r1 (p f k) : mats x1 p (ix4 0 0 f k) = (B p f k : EReal) := (mats_apply ..).trans (e1 p f k)
  have r2 (p a f) : rows x2 p (ix3 0 a f) = (C p a f : EReal) := (rows_apply ..).trans (e2 p a f)
  have r3 (p f k) : mats x3 p (ix4 0 0 f k) = (D p f k : EReal) := (mats_apply ..).trans (e3 p f k)
  pointwise [acc, k0_pay6, k0_pay3, k0_pay4, k0_pay5]
  simp only [r0, r1, r2, r3, e4, ← EReal.coe_mul, sum_coe, word_alpha, ← EReal.coe_add, Fin.sum_univ_four]
  refine congrArg _ ?_
  ring

/-- One block of 256 rows of the gradient, from the cotangent's block and the blocks of the three operands. -/
theorem pay8_apply (r0 : ℕ) (hr : r0 + 256 ≤ 4096) (D H : Fin 4096 → Fin 1024 → ℝ) (G : Fin 1024 → ℝ) (R : Fin 4096 → ℝ)
    (v0 : FVec Ideal S256x1024 .f32) (v1 : Vec Ideal S256x1024 .f32) (v3 : Vec Ideal S1x1024 .f32) (v16 : Vec Ideal S256x1 .f32)
    (e0 : ∀ (a : Fin 256) k, v0 (ix2 a k) = (D ⟨r0 + a, by omega⟩ k : EReal))
    (e1 : ∀ (a : Fin 256) k, v1 (ix2 a k) = (H ⟨r0 + a, by omega⟩ k : EReal))
    (e3 : ∀ k, v3 (ix2 0 k) = (G k : EReal))
    (e16 : ∀ a : Fin 256, v16 (ix2 a 0) = (R ⟨r0 + a, by omega⟩ : EReal)) (a : Fin 256) (k : Fin 1024) :
    k0_pay8 v0 v1 v3 v16 (ix2 a k) = (gradOf G (D ⟨r0 + a, by omega⟩) (R ⟨r0 + a, by omega⟩) (H ⟨r0 + a, by omega⟩) k : EReal) := by
  pointwise [k0_pay8, k0_pay7]
  simp only [e0, e1, e3, e16, ← EReal.coe_mul, sum_coe, word_1024, div_coe_coe _ (by norm_num : (1024 : ℝ) ≠ 0), ← EReal.coe_sub, gradOf]

open Cert.LnGradIdeal.Read

theorem row (t : Fin cfg0.N) : 256 * t.val + 256 ≤ 4096 := by have := lt16 t; omega

section Blocks

variable (hm : Holds m c x h g wg wu dg du dp) (t : Fin cfg0.N)

include hm

theorem blk0 (p : Fin 4) (a : Fin 256) (f : Fin 704) :
    iblk m c 0 t (ix3 p a f) = (dg (ix3 p ⟨256 * t.val + a, by have := row t; omega⟩ f) : EReal) := by
  blk_simp [iblk, idx0 t]
  rw [V_main_arg5, hm.dg]
  refine congrArg (up dg) ?_
  blk_ext [idx0 t]

theorem blk1 (p : Fin 4) (f : Fin 704) (k : Fin 1024) : iblk m c 1 t (ix4 p 0 f k) = (wg (ix4 p 0 f k) : EReal) := by
  blk_simp [iblk, idx1 t]
  rw [V_main_arg3, hm.wg]
  refine congrArg (up wg) ?_
  blk_ext [idx1 t]

theorem blk2 (p : Fin 4) (a : Fin 256) (f : Fin 704) :
    iblk m c 2 t (ix3 p a f) = (du (ix3 p ⟨256 * t.val + a, by have := row t; omega⟩ f) : EReal) := by
  blk_simp [iblk, idx2 t]
  rw [V_main_arg6, hm.du]
  refine congrArg (up du) ?_
  blk_ext [idx2 t]

theorem blk3 (p : Fin 4) (f : Fin 704) (k : Fin 1024) : iblk m c 3 t (ix4 p 0 f k) = (wu (ix4 p 0 f k) : EReal) := by
  blk_simp [iblk, idx3 t]
  rw [V_main_arg4, hm.wu]
  refine congrArg (up wu) ?_
  blk_ext [idx3 t]

theorem blk4 (a : Fin 256) (k : Fin 1024) :
    iblk m c 4 t (ix2 a k) = (dp (ix2 ⟨256 * t.val + a, by have := row t; omega⟩ k) : EReal) := by
  blk_simp [iblk, idx4 t]
  rw [V_main_arg7, hm.dp]
  refine congrArg (up dp) ?_
  blk_ext [idx4 t]

theorem blk5 (a : Fin 256) (k : Fin 1024) :
    iblk m c 5 t (ix2 a k) = (xhat (pre x h ⟨256 * t.val + a, by have := row t; omega⟩) k : EReal) := by
  rw [← Cert.NormRef.v28]
  blk_simp [iblk, idx5 t]
  rw [V_xhat, hm.x, hm.h]
  refine congrArg _ ?_
  blk_ext [idx5 t]

theorem blk6 (a : Fin 256) :
    iblk m c 6 t (ix2 a 0) = (rstd (pre x h ⟨256 * t.val + a, by have := row t; omega⟩) : EReal) := by
  rw [← Cert.NormRef.v23]
  blk_simp [iblk, idx6 t]
  rw [V_rstd, hm.x, hm.h]
  refine congrArg _ ?_
  blk_ext [idx6 t]

theorem blk7 (k : Fin 1024) : iblk m c 7 t (ix2 0 k) = (gam g k : EReal) := by
  blk_simp [iblk, idx7 t]
  rw [V_gam, hm.g, show (win0_7.blk t).view.emb (ix2 0 k) = ix2 0 k by blk_ext [idx7 t]]
  pointwise
  rfl

theorem cot_apply (a : Fin 256) (k : Fin 1024) :
    cot m c t (ix2 a k) = (dro (dsum wg wu dg du dp) ⟨256 * t.val + a, by have := row t; omega⟩ k : EReal) :=
  acc_apply _ _ _ _ _ _ _ _ _ _ (blk0 m c x h g wg wu dg du dp hm t) (blk1 m c x h g wg wu dg du dp hm t) (blk2 m c x h g wg wu dg du dp hm t)
    (blk3 m c x h g wg wu dg du dp hm t) (blk4 m c x h g wg wu dg du dp hm t) a k

theorem grad_apply (a : Fin 256) (k : Fin 1024) : k0_pay8 (cot m c t) (iblk m c 5 t) (iblk m c 7 t) (iblk m c 6 t) (ix2 a k)
    = (grad (pre x h ⟨256 * t.val + a, by have := row t; omega⟩) (gam g)
        (dro (dsum wg wu dg du dp) ⟨256 * t.val + a, by have := row t; omega⟩) k : EReal) :=
  pay8_apply (256 * t.val) (row t) (dro (dsum wg wu dg du dp)) (fun r => xhat (pre x h r)) (gam g) (fun r => rstd (pre x h r)) _ _ _ _
    (cot_apply m c x h g wg wu dg du dp hm t) (blk5 m c x h g wg wu dg du dp hm t) (blk7 m c x h g wg wu dg du dp hm t)
    (blk6 m c x h g wg wu dg du dp hm t) a k

/-- The rows a point adds up for the scale's gradient, and for the offset's. -/
theorem pay10_apply (k : Fin 1024) : k0_pay10 (cot m c t) (iblk m c 5 t) (ix2 0 k)
    = ((∑ a : Fin 256, xhat (pre x h ⟨256 * t.val + a, by have := row t; omega⟩) k
        * dro (dsum wg wu dg du dp) ⟨256 * t.val + a, by have := row t; omega⟩ k : ℝ) : EReal) := by
  have e0 := cot_apply m c x h g wg wu dg du dp hm t
  generalize cot m c t = v at e0 ⊢
  pointwise [k0_pay10, k0_pay7]
  simp only [e0, blk5 m c x h g wg wu dg du dp hm t, ← EReal.coe_mul, sum_coe, mul_comm]

theorem pay11_apply (k : Fin 1024) : k0_pay11 (cot m c t) (ix2 0 k)
    = ((∑ a : Fin 256, dro (dsum wg wu dg du dp) ⟨256 * t.val + a, by have := row t; omega⟩ k : ℝ) : EReal) := by
  have e0 := cot_apply m c x h g wg wu dg du dp hm t
  generalize cot m c t = v at e0 ⊢
  pointwise [k0_pay11]
  simp only [e0, sum_coe]

end Blocks

theorem last10 {t : Fin cfg0.N} (hf : (cfg0.win 10).flush t = true) : t.val + 1 = cfg0.N := by
  have := lt16 t
  have := (flush0_10 t).mp hf
  exact (show t.val + 1 = 16 by omega).trans (show cfg0.N = 16 from N_0).symm

theorem last11 {t : Fin cfg0.N} (hf : (cfg0.win 11).flush t = true) : t.val + 1 = cfg0.N := by
  have := lt16 t
  have := (flush0_11 t).mp hf
  exact (show t.val + 1 = 16 by omega).trans (show cfg0.N = 16 from N_0).symm

theorem N_le : cfg0.N ≤ 16 := le_of_eq (show cfg0.N = 16 from N_0)

/-- The sum over all rows, block by block. -/
theorem sum_blocks (f : Fin 4096 → ℝ) :
    ∑ t : Fin cfg0.N, ∑ a : Fin 256, f ⟨256 * t.val + a, by have := row t; omega⟩ = ∑ r, f r :=
  Fin.sum_mul_add_congr (fun s k hl => congrArg f (Fin.ext (by simp only []; omega))) (show 4096 = cfg0.N * 256 by rw [show cfg0.N = 16 from N_0])

section Arrays

variable (hm : Holds m c x h g wg wu dg du dp)

include hm

theorem outs10_last (t : Fin cfg0.N) (ht : t.val + 1 = cfg0.N) (k : Fin 1024) :
    (outsAt0 m c t.val t.isLt).2.2.1 (ix3 0 0 k) = ((∑ r, xhat (pre x h r) k * dro (dsum wg wu dg du dp) r k : ℝ) : EReal) := by
  refine (Pipeline.eq_sum_fin_of_reset_step_apply_last (fun n hn k => (outsAt0 m c n hn).2.2.1 (ix3 0 0 k)) 16 (fun _ => 0)
    (fun t k => k0_pay10 (cot m c t) (iblk m c 5 t) (ix2 0 k)) (fun t h0 k => ?_) (fun t h0 k => ?_) N_le t ht k).trans ?_
  · simp only [outs10_first m c t h0]
    generalize cot m c t = v
    pointwise [k0_pay12]
  · simp only [outs10_next m c t h0]
    generalize cot m c t = v
    pointwise [k0_pay1]
  · simp only [pay10_apply m c x h g wg wu dg du dp hm, sum_coe, zero_add]
    exact congrArg _ (sum_blocks fun r => xhat (pre x h r) k * dro (dsum wg wu dg du dp) r k)

theorem outs11_last (t : Fin cfg0.N) (ht : t.val + 1 = cfg0.N) (k : Fin 1024) :
    (outsAt0 m c t.val t.isLt).2.2.2 (ix3 0 0 k) = ((∑ r, dro (dsum wg wu dg du dp) r k : ℝ) : EReal) := by
  refine (Pipeline.eq_sum_fin_of_reset_step_apply_last (fun n hn k => (outsAt0 m c n hn).2.2.2 (ix3 0 0 k)) 16 (fun _ => 0)
    (fun t k => k0_pay11 (cot m c t) (ix2 0 k)) (fun t h0 k => ?_) (fun t h0 k => ?_) N_le t ht k).trans ?_
  · simp only [outs11_first m c t h0]
    generalize cot m c t = v
    pointwise [k0_pay13]
  · simp only [outs11_next m c t h0]
    generalize cot m c t = v
    pointwise [k0_pay2]
  · simp only [pay11_apply m c x h g wg wu dg du dp hm, sum_coe, zero_add]
    exact congrArg _ (sum_blocks fun r => dro (dsum wg wu dg du dp) r k)

theorem final8 : (dats m 0 c).arrAt 8 cfg0.N = val_main_v68 (F := Ideal) (up x) (up h) (up g) (up (dsum wg wu dg du dp)) := by
  refine (dats m 0 c).arrAt_eq_of_covers 8 _ (by decide +kernel) fun t hf y => ?_
  blk_simp
  rw [after0_8, outs8]
  idx_vars y
  rw [grad_apply m c x h g wg wu dg du dp hm t]
  refine (Cert.NormRef.v68 x h g _ _ _).symm.trans (congrArg _ ?_)
  blk_ext [idx8 t]

theorem final9 : (dats m 0 c).arrAt 9 cfg0.N = val_main_v71 (F := Ideal) (up x) (up h) (up g) (up (dsum wg wu dg du dp)) := by
  refine (dats m 0 c).arrAt_eq_of_covers 9 _ (by decide +kernel) fun t hf y => ?_
  blk_simp
  rw [after0_9, outs9]
  idx_vars y
  have e := grad_apply m c x h g wg wu dg du dp hm t y0 y1
  generalize cot m c t = v at e ⊢
  pointwise [k0_pay9]
  rw [e, word_half, ← EReal.coe_mul]
  refine (Cert.NormRef.v71 x h g _ _ _).symm.trans (congrArg _ ?_)
  blk_ext [idx9 t]

theorem final10 : (dats m 0 c).arrAt 10 cfg0.N = updateSlice (s := S12x1x1024) (m ((c : Thread nD τ).loc main_arg8))
    (val_main_v72 (F := Ideal) (up x) (up h) (up (dsum wg wu dg du dp))) ![8, 0, 0] (by decide) := by
  refine (dats m 0 c).arrAt_eq_of_coversWhere_of_agree 10 _ (fun β => β (0 : Fin 3) = 8) (by decide +kernel) (fun t hf y => ?_) (fun j hj => ?_)
  · blk_simp
    rw [after0_10]
    idx_vars y
    obtain rfl := Subsingleton.elim y0 0
    obtain rfl := Subsingleton.elim y1 0
    rw [outs10_last m c x h g wg wu dg du dp hm t (last10 hf), show (((View.whole main_v22_2).slice (win0_10.rect t)).emb (ix3 0 0 y2)) = ix3 8 0 y2 by blk_ext [idx10 t]]
    refine (Cert.NormRef.v72 x h _ _).symm.trans ?_
    pointwise
  · blk_simp [Pipeline.Window.cell_apply] at hj
    rw [A_eq]
    refine (congrFun (V_dgam m c) _).trans ?_
    rw [updateSlice_apply, dif_neg]
    · intro hin
      have h1 := (hin 0).1
      have h2 := (hin 0).2
      idx_vars j
      refine hj ?_
      simp at h1 h2 ⊢
      omega

theorem final11 : (dats m 0 c).arrAt 11 cfg0.N = updateSlice (s := S12x1x1024) (m ((c : Thread nD τ).loc main_arg9))
    (val_main_v74 (F := Ideal) (up (dsum wg wu dg du dp))) ![8, 0, 0] (by decide) := by
  refine (dats m 0 c).arrAt_eq_of_coversWhere_of_agree 11 _ (fun β => β (0 : Fin 3) = 8) (by decide +kernel) (fun t hf y => ?_) (fun j hj => ?_)
  · blk_simp
    rw [after0_11]
    idx_vars y
    obtain rfl := Subsingleton.elim y0 0
    obtain rfl := Subsingleton.elim y1 0
    rw [outs11_last m c x h g wg wu dg du dp hm t (last11 hf), show (((View.whole main_v22_3).slice (win0_11.rect t)).emb (ix3 0 0 y2)) = ix3 8 0 y2 by blk_ext [idx11 t]]
    refine (Cert.NormRef.v74 _ _).symm.trans ?_
    pointwise
  · blk_simp [Pipeline.Window.cell_apply] at hj
    rw [A_eq]
    refine (congrFun (V_dbet m c) _).trans ?_
    rw [updateSlice_apply, dif_neg]
    · intro hin
      have h1 := (hin 0).1
      have h2 := (hin 0).2
      idx_vars j
      refine hj ?_
      simp at h1 h2 ⊢
      omega

end Arrays

/-! ## What the reference computes -/

/-- The reference's cotangent of the normalisation. -/
theorem ref_dsum : Cert.FxGradIdeal.Read.val_main_v56 (F := Ideal) (up wg) (up wu) (up dg) (up du) (up dp) = up (dsum wg wu dg du dp) := by
  funext i
  idx_vars i
  pointwise [Cert.FxGradIdeal.Read.val_main_v56, Cert.FxGradIdeal.Read.val_main_v53, Cert.FxGradIdeal.Read.val_main_v50,
    Cert.FxGradIdeal.Read.val_main_v52, Cert.FxGradIdeal.Read.val_main_v51, Cert.FxGradIdeal.Read.val_main_v49,
    Cert.FxGradIdeal.Read.val_main_v47, Cert.FxGradIdeal.Read.val_main_v48, Cert.FxGradIdeal.Read.val_main_v2,
    Cert.FxGradIdeal.Read.val_main_v1, Cert.FxGradIdeal.Read.val_main_v0, Cert.FxGradIdeal.Read.val_main_v5,
    Cert.FxGradIdeal.Read.val_main_v4, Cert.FxGradIdeal.Read.val_main_v3, Cert.FxGradIdeal.Read.val_main_v54,
    Cert.FxGradIdeal.Read.val_main_cst_10, Cert.FxGradIdeal.Read.val_main_v55]
  simp only [← EReal.coe_mul, sum_coe, word_alpha, ← EReal.coe_add]
  refine congrArg _ ?_
  show _ = alpha * dp (ix2 i0 i1)
    + ∑ p : Fin 4, (∑ f : Fin 704, dg (ix3 p i0 f) * wg (ix4 p 0 f i1) + ∑ f : Fin 704, du (ix3 p i0 f) * wu (ix4 p 0 f i1))
  rw [Finset.sum_add_distrib]
  ring

end Cert.FxKernel

end
-- ==== Proof.FxClaim.lean ====
module

public import proofs.«01_k».proof.Defs
public import proofs.«01_k».proof.Proof.FxKernel
public import proofs.«01_k».proof.Proof.Finite
public import proofs.«01_k».proof.Proof.Gen.FxBwd.Frame
public import proofs.«01_k».proof.Proof.Gen.FxGradIdeal.Run
public import proofs.«01_k».proof.Proof.Gen.Pre_fx_finite

/-!
# The claims about the normalisation's gradient fused with the SwiGLU's
-/

@[expose] public section

noncomputable section

namespace Cert.FxClaim

open Idealize.ShloMosaic Idealize.ShloMosaic.TcCoe Idealize.SL.Sem Cert.Finite

theorem frame_reference : Cert.quiescent_FxGradIdeal := fun m ρ _ =>
  (θ_run FxGradIdeal.defs _ _).mono (fun r h => ⟨fun c => (h c).2.2.2.2, sem_eq_zero_of_no_sems (by decide) r.2⟩)
    (FxGradIdeal.Value.run (F := Ideal) m ρ)

/-- The precondition says that the first eight arguments hold real numbers. -/
theorem holds_of_pre (m : (ℓ : Loc FxBwdIdeal.nD FxBwdIdeal.τ FxBwdIdeal.sig) → Buf (Elt Ideal) ℓ) (h : Pre_FxBwdIdeal_fx_finite m)
    (c : Dev FxBwdIdeal.nD) : ∃ x h g wg wu dg du dp, FxKernel.Holds m c x h g wg wu dg du dp := by
  have hc := congrFun (h c) (Shape.Idx.first Pre_fx_finite.Gen.h_S_)
  dsimp only [Pre_fx_finite.fn, Pre_fx_finite.fn_part1, Pre_fx_finite.fn_part2] at hc
  obtain ⟨hc, e6⟩ := IntOp.andi_eq_one.1 hc
  obtain ⟨hc, e5⟩ := IntOp.andi_eq_one.1 hc
  obtain ⟨hc, e4⟩ := IntOp.andi_eq_one.1 hc
  obtain ⟨hc, e3⟩ := IntOp.andi_eq_one.1 hc
  obtain ⟨hc, e7⟩ := IntOp.andi_eq_one.1 hc
  obtain ⟨hc, e2⟩ := IntOp.andi_eq_one.1 hc
  obtain ⟨e0, e1⟩ := IntOp.andi_eq_one.1 hc
  exact ⟨_, _, _, _, _, _, _, _, eq_reals _ _ _ _ _ _ e0, eq_reals _ _ _ _ _ _ e1, eq_reals _ _ _ _ _ _ e2, eq_reals _ _ _ _ _ _ e3,
    eq_reals _ _ _ _ _ _ e4, eq_reals _ _ _ _ _ _ e5, eq_reals _ _ _ _ _ _ e6, eq_reals _ _ _ _ _ _ e7⟩

open FxGradIdeal.Read FxKernel

section Reference

variable (x h : FxGradIdeal.S4096x1024.Idx → EReal) (g : FxGradIdeal.S1024.Idx → EReal) (wg wu : FxGradIdeal.S4x2x704x1024.Idx → EReal)
  (dg du : FxGradIdeal.S4x4096x704.Idx → EReal) (dp : FxGradIdeal.S4096x1024.Idx → EReal) (o : FxGradIdeal.S12x1x1024.Idx → EReal)

theorem cotangent (d : FxGradIdeal.S4096x1024.Idx → EReal) : LnGradIdeal.Read.val_main_v35 (F := Ideal) d = d := by
  funext i
  idx_vars i
  pointwise [LnGradIdeal.Read.val_main_v35]

theorem c60 : val_main_v60 (F := Ideal) x h wg wu dg du dp
    = LnGradIdeal.Read.val_main_v39 (F := Ideal) x h (val_main_v56 (F := Ideal) wg wu dg du dp) := congrArg₂ mulf rfl (cotangent _).symm

theorem c64 : val_main_v64 (F := Ideal) g wg wu dg du dp
    = LnGradIdeal.Read.val_main_v43 (F := Ideal) g (val_main_v56 (F := Ideal) wg wu dg du dp) := congrArg₂ mulf (cotangent _).symm rfl

theorem c70 : val_main_v70 (F := Ideal) x h g wg wu dg du dp
    = LnGradIdeal.Read.val_main_v49 (F := Ideal) x h g (val_main_v56 (F := Ideal) wg wu dg du dp) := congrArg₂ mulf (c64 g wg wu dg du dp) rfl

theorem c66 : val_main_v66 (F := Ideal) x h g wg wu dg du dp
    = LnGradIdeal.Read.val_main_v45 (F := Ideal) x h g (val_main_v56 (F := Ideal) wg wu dg du dp) := congrArg₂ mulf rfl (c64 g wg wu dg du dp)

theorem c71 : val_main_v71 (F := Ideal) x h g wg wu dg du dp
    = LnGradIdeal.Read.val_main_v50 (F := Ideal) x h g (val_main_v56 (F := Ideal) wg wu dg du dp) := by
  simp only [val_main_v71, val_main_v68, val_main_v67, LnGradIdeal.Read.val_main_v50, LnGradIdeal.Read.val_main_v47, LnGradIdeal.Read.val_main_v46, c66 x h g wg wu dg du dp]
  rfl

theorem c79 : val_main_v79 (F := Ideal) x h g wg wu dg du dp
    = LnGradIdeal.Read.val_main_v58 (F := Ideal) x h g (val_main_v56 (F := Ideal) wg wu dg du dp) := by
  simp only [val_main_v79, val_main_v78, val_main_v77, val_main_v76, LnGradIdeal.Read.val_main_v58, LnGradIdeal.Read.val_main_v57, LnGradIdeal.Read.val_main_v56, LnGradIdeal.Read.val_main_v55, c71 x h g wg wu dg du dp]
  rfl

theorem c74 : val_main_v74 (F := Ideal) x h g wg wu dg du dp
    = LnGradIdeal.Read.val_main_v53 (F := Ideal) x h g (val_main_v56 (F := Ideal) wg wu dg du dp) := by
  simp only [val_main_v74, val_main_v73, val_main_v72, LnGradIdeal.Read.val_main_v53, LnGradIdeal.Read.val_main_v52, LnGradIdeal.Read.val_main_v51, c70 x h g wg wu dg du dp]
  rfl

theorem c82 : val_main_v82 (F := Ideal) x h g wg wu dg du dp
    = LnGradIdeal.Read.val_main_v61 (F := Ideal) x h g (val_main_v56 (F := Ideal) wg wu dg du dp) := by
  simp only [val_main_v82, val_main_v81, val_main_v80, LnGradIdeal.Read.val_main_v61, LnGradIdeal.Read.val_main_v60, LnGradIdeal.Read.val_main_v59, c79 x h g wg wu dg du dp]
  rfl

theorem c88 : val_main_v88 (F := Ideal) x h g wg wu dg du dp
    = LnGradIdeal.Read.val_main_v67 (F := Ideal) x h g (val_main_v56 (F := Ideal) wg wu dg du dp) := by
  simp only [val_main_v88, val_main_v87, val_main_v86, val_main_v84, LnGradIdeal.Read.val_main_v67, LnGradIdeal.Read.val_main_v66, LnGradIdeal.Read.val_main_v65, LnGradIdeal.Read.val_main_v63, c74 x h g wg wu dg du dp, c82 x h g wg wu dg du dp]
  rfl

/-- From its cotangent on, the reference is that of the plain normalisation. -/
theorem ref0 : val_main_v89 (F := Ideal) x h g wg wu dg du dp
    = LnGradIdeal.Read.val_main_v68 (F := Ideal) x h g (val_main_v56 (F := Ideal) wg wu dg du dp) := by
  simp only [val_main_v89, val_main_v83, LnGradIdeal.Read.val_main_v68, LnGradIdeal.Read.val_main_v62, c70 x h g wg wu dg du dp, c79 x h g wg wu dg du dp, c88 x h g wg wu dg du dp]

theorem ref1 : val_main_v92 (F := Ideal) x h g wg wu dg du dp
    = LnGradIdeal.Read.val_main_v71 (F := Ideal) x h g (val_main_v56 (F := Ideal) wg wu dg du dp) := by
  simp only [val_main_v92, val_main_v91, LnGradIdeal.Read.val_main_v71, LnGradIdeal.Read.val_main_v70, ref0]
  rfl

theorem ref2 : val_main_v93 (F := Ideal) x h wg wu dg du dp
    = LnGradIdeal.Read.val_main_v72 (F := Ideal) x h (val_main_v56 (F := Ideal) wg wu dg du dp) := by
  simp only [val_main_v93, val_main_v65, val_main_v62, val_main_v61, LnGradIdeal.Read.val_main_v72, LnGradIdeal.Read.val_main_v44, LnGradIdeal.Read.val_main_v41, LnGradIdeal.Read.val_main_v40, c60 x h wg wu dg du dp]
  rfl

theorem ref3 : val_main_v95 (F := Ideal) wg wu dg du dp
    = LnGradIdeal.Read.val_main_v74 (F := Ideal) (val_main_v56 (F := Ideal) wg wu dg du dp) := rfl

theorem ref2_update : val_main_v94 (F := Ideal) x h wg wu dg du dp o
    = updateSlice o (val_main_v93 (F := Ideal) x h wg wu dg du dp) ![8, 0, 0] (by decide) :=
  WordCmp.dynamicUpdateSlice_eq_update _ _ _ _ _ _ (by decide +kernel)

theorem ref3_update : val_main_v96 (F := Ideal) wg wu dg du dp o
    = updateSlice o (val_main_v95 (F := Ideal) wg wu dg du dp) ![8, 0, 0] (by decide) :=
  WordCmp.dynamicUpdateSlice_eq_update _ _ _ _ _ _ (by decide +kernel)

end Reference

theorem equal : Cert.algebraic_FxBwdIdeal_FxGradIdeal_pre_fx_finite := by
  intro m ρ m' ρ' hpre hagree
  refine ⟨fun c => (FxBwdIdeal.Gen.dats m 0 c).arrAt 8 FxBwdIdeal.cfg0.N, fun c => (FxBwdIdeal.Gen.dats m 0 c).arrAt 9 FxBwdIdeal.cfg0.N,
    fun c => (FxBwdIdeal.Gen.dats m 0 c).arrAt 10 FxBwdIdeal.cfg0.N, fun c => (FxBwdIdeal.Gen.dats m 0 c).arrAt 11 FxBwdIdeal.cfg0.N,
    FxBwdIdeal.Value.run_blocks m ρ, ?_⟩
  refine (θ_run FxGradIdeal.defs _ _).mono (fun _ h c => ?_) (FxGradIdeal.Value.run (F := Ideal) m' ρ')
  obtain ⟨x, y, g, wg, wu, dg, du, dp, hm⟩ := holds_of_pre m hpre c
  obtain ⟨a0, a1, a2, a3, a4, a5, a6, a7, a8, a9⟩ := hagree c
  obtain ⟨h0, h1, h2, h3, hk⟩ := h c
  refine ⟨h0.trans ?_, h1.trans ?_, h2.trans ?_, h3.trans ?_, hk⟩
  · refine Eq.trans ?_ (final8 m c x y g wg wu dg du dp hm).symm
    rw [val_main_v89_eq, a0, a1, a2, a3, a4, a5, a6, a7, hm.x, hm.h, hm.g, hm.wg, hm.wu, hm.dg, hm.du, hm.dp, ref0, ref_dsum]
  · refine Eq.trans ?_ (final9 m c x y g wg wu dg du dp hm).symm
    rw [val_main_v92_eq, a0, a1, a2, a3, a4, a5, a6, a7, hm.x, hm.h, hm.g, hm.wg, hm.wu, hm.dg, hm.du, hm.dp, ref1, ref_dsum]
  · refine Eq.trans ?_ (final10 m c x y g wg wu dg du dp hm).symm
    rw [val_main_v94_eq, a0, a1, a3, a4, a5, a6, a7, a8, hm.x, hm.h, hm.wg, hm.wu, hm.dg, hm.du, hm.dp]
    refine (ref2_update _ _ _ _ _ _ _ _).trans ?_
    rw [ref2, ref_dsum]
  · refine Eq.trans ?_ (final11 m c x y g wg wu dg du dp hm).symm
    rw [a3, a4, a5, a6, a7, a9, hm.wg, hm.wu, hm.dg, hm.du, hm.dp]
    refine (ref3_update _ _ _ _ _ _).trans ?_
    rw [ref3, ref_dsum]

end Cert.FxClaim

end
-- ==== Proof.SfBody.lean ====
module

public import proofs.«01_k».proof.Proof.Gen.SfFwdIdeal.Frame
public import proofs.«01_k».proof.Proof.Gen.SfFwdIdeal.Skeleton
public import proofs.«01_k».proof.Proof.Gen.SfFwdIdeal.Loops
public import Idealize.ShloMosaic.Lib.VecWindow

/-!
# The body of the stick-breaking attention's forward kernel

One trip of the loop over pairs of blocks of queries, and the whole body, with what they leave in the two blocks written.
-/

@[expose] public section

noncomputable section

namespace Cert.SfBody

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.SfFwdIdeal Cert.SfFwdIdeal.Gen

variable {F : FTy → Type} [FloatOps F]

variable (c : Dev nD) (i : grid0.Coords)
  (arg2 : Memref sig .tc .vmem S2048x128 .bf16) (harg2 : arg2.IsWhole)
  (arg3 : Memref sig .tc .vmem S2048x128 .bf16) (harg3 : arg3.IsWhole)
  (arg4 : Memref sig .tc .vmem S2048x128 .bf16) (harg4 : arg4.IsWhole)
  (arg5 : Memref sig .tc .vmem S2048x128 .bf16) (harg5 : arg5.IsWhole)
  (arg6 : Memref sig .tc .vmem S2048x128 .f32) (harg6 : arg6.IsWhole)
  (X2 : BufTy.Contents (Elt F) arg2.view.ty) (X3 : BufTy.Contents (Elt F) arg3.view.ty)
  (X4 : BufTy.Contents (Elt F) arg4.view.ty)

/-- What the body holds: the three blocks it reads and the two it writes. -/
abbrev Held (f5 : BufTy.Contents (Elt F) arg5.view.ty) (f6 : BufTy.Contents (Elt F) arg6.view.ty) : sProp (MT nD τ sig Unit (Elt F) ℕ (UR sig nD τ) ℕ) :=
  iprop((arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} f5)
    ∗ (arg6.view.loc (c : Thread nD τ) ↦[arg6.view.set]{fullShare} f6))

set_option maxHeartbeats 4000000 in
/-- One trip of the loop over pairs of query blocks. -/
@[irreducible] def trip (k : Fin k0_t1_loop.trips) :
    Σ' (C5 : BufTy.Contents (Elt F) arg5.view.ty → BufTy.Contents (Elt F) arg5.view.ty),
      { C6 : BufTy.Contents (Elt F) arg6.view.ty → BufTy.Contents (Elt F) arg6.view.ty //
        ∀ (E : Set ℕ) (u : Unit) (f5 : BufTy.Contents (Elt F) arg5.view.ty) (f6 : BufTy.Contents (Elt F) arg6.view.ty),
          Held c arg2 arg3 arg4 arg5 arg6 X2 X3 X4 f5 f6
          ⊢ wp frame (wpE (defs₀ (F := F)) Variants.none (c : Thread nD τ) none) E
              (k0_t1_body (F := F) i arg2 harg2 arg3 harg3 arg4 harg4 arg5 harg5 arg6 harg6 k u)
              (fun _ => Held c arg2 arg3 arg4 arg5 arg6 X2 X3 X4 (C5 f5) (C6 f6)) } := by
  refine ⟨?_, ?_, fun E u f5 f6 => ?run⟩
  case run =>
    unfold k0_t1_body
    iintro ⟨H2, H3, H4, H5, H6⟩
    sl_exec
    sl_step
    sl_close

/-- What is known before a trip of the loop over pairs: the blocks read, and a relation `I` of the written blocks to the
    number of trips done. -/
def before (I : ℕ → BufTy.Contents (Elt F) arg5.view.ty → BufTy.Contents (Elt F) arg6.view.ty → Prop)
    (k : ℕ) (_ : Unit) : sProp (MT nD τ sig Unit (Elt F) ℕ (UR sig nD τ) ℕ) :=
  iprop(∃ g5 g6, Held c arg2 arg3 arg4 arg5 arg6 X2 X3 X4 g5 g6 ∗ ⌜I k g5 g6⌝)

/-- A relation that holds at the start and that a trip preserves. -/
structure Kept (I : ℕ → BufTy.Contents (Elt F) arg5.view.ty → BufTy.Contents (Elt F) arg6.view.ty → Prop) : Prop where
  start : ∀ f5 f6, I 0 f5 f6
  next : ∀ (k : Fin k0_t1_loop.trips) f5 f6, I k.val f5 f6 →
    I (k.val + 1) ((trip c i arg2 harg2 arg3 harg3 arg4 harg4 arg5 harg5 arg6 harg6 X2 X3 X4 k).1 f5) ((trip c i arg2 harg2 arg3 harg3 arg4 harg4 arg5 harg5 arg6 harg6 X2 X3 X4 k).2.1 f6)

set_option maxHeartbeats 4000000 in
/-- The whole body: the blocks it writes end as the loop left them. -/
theorem body (I : ℕ → BufTy.Contents (Elt F) arg5.view.ty → BufTy.Contents (Elt F) arg6.view.ty → Prop)
    (hI : Kept c i arg2 harg2 arg3 harg3 arg4 harg4 arg5 harg5 arg6 harg6 X2 X3 X4 I) (E : Set ℕ) (f5 : BufTy.Contents (Elt F) arg5.view.ty) (f6 : BufTy.Contents (Elt F) arg6.view.ty) :
    Held c arg2 arg3 arg4 arg5 arg6 X2 X3 X4 f5 f6
    ⊢ wp frame (wpE (defs₀ (F := F)) Variants.none (c : Thread nD τ) none) E
        (cc0_attn_b_fwd (F := F) i arg2 harg2 arg3 harg3 arg4 harg4 arg5 harg5 arg6 harg6)
        (fun _ => iprop(∃ g5 g6, Held c arg2 arg3 arg4 arg5 arg6 X2 X3 X4 g5 g6 ∗ ⌜I k0_t1_loop.trips g5 g6⌝)) := by
  simp only [cc0_attn_b_fwd_eq_skeleton]
  unfold cc0_attn_b_fwd_skel
  iintro ⟨H2, H3, H4, H5, H6⟩
  sl_for (before c arg2 arg3 arg4 arg5 arg6 X2 X3 X4 I) $$ [H2 H3 H4 H5 H6]
  case region =>
    intro k acc
    unfold before
    iintro ⟨%g5, %g6, HH, %h⟩
    iapply (wp_wand_r frame (wpE (defs₀ (F := F)) Variants.none (c : Thread nD τ) none) E)
    isplitl [HH]
    · iapply ((trip c i arg2 harg2 arg3 harg3 arg4 harg4 arg5 harg5 arg6 harg6 X2 X3 X4 k).2.2 E acc)
      iexact HH
    · iintro %_ HH
      iexists _, _
      isplitl [HH]; · iexact HH
      ipureintro; exact hI.next k _ _ h
  · unfold before
    iexists _, _
    isplitl
    · sl_close
    ipureintro
    exact hI.start _ _
  iintro %acc HH
  unfold before
  icases HH with ⟨%g5, %g6, ⟨H2, H3, H4, H5, H6⟩, %h⟩
  sl_step
  iexists g5, g6
  sl_close

end Cert.SfBody

end
end
-- ==== Proof.SfFrame.lean ====
module

public import proofs.«01_k».proof.Proof.SfBody

/-!
# The stick-breaking attention's forward kernel runs

The launch over its sixteen points, from the body's triple; with the two results named by what the body is shown to
leave, or unnamed.
-/

@[expose] public section

noncomputable section

namespace Cert.SfFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.SfFwdIdeal Cert.SfFwdIdeal.Gen

variable {F : FTy → Type} [FloatOps F]

variable (m : (ℓ : Loc nD τ sig) → Buf (Elt F) ℓ) (ρ : Dev nD → PrngReg)

/-- What is written of the two results' blocks at each grid point of each core. -/
structure Blocks (F : FTy → Type) : Type where
  o : (c : Dev nD) → (t : Fin cfg0.N) → S2048x128.Idx → Elt F .bf16
  n : (c : Dev nD) → (t : Fin cfg0.N) → S2048x128.Idx → Elt F .f32

/-- The proof data: the arrays as the region finds them, each input's buffer at its block after the body, the results' at `out`. -/
def dats (out : Blocks F) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out.o c t
    | ⟨4, _⟩ => out.n c t
  Φ _ := Pipeline.ΦA spec0 c
  q w := Pipeline.shareOf spec0 w
  owed _ := 0

theorem A_eq (out : Blocks F) (c : Dev nD) (w : Fin cfg0.W) : (dats m out 0 c).A w = V m c (Pipeline.arrRef spec0 w) := by
  dsimp only [dats]

theorem after0 (out : Blocks F) (c : Dev nD) (t : Fin cfg0.N) : (dats m out 0 c).after 0 t = iblk m c 0 t := by dsimp only [dats]
theorem after1 (out : Blocks F) (c : Dev nD) (t : Fin cfg0.N) : (dats m out 0 c).after 1 t = iblk m c 1 t := by dsimp only [dats]
theorem after2 (out : Blocks F) (c : Dev nD) (t : Fin cfg0.N) : (dats m out 0 c).after 2 t = iblk m c 2 t := by dsimp only [dats]

theorem before0 (out : Blocks F) (c : Dev nD) (t : Fin cfg0.N) (d) : (dats m out 0 c).before 0 t d = iblk m c 0 t :=
  before0_0_of m (dats m out 0 c) (A_eq m out c 0) (after0 m out c) t d
theorem before1 (out : Blocks F) (c : Dev nD) (t : Fin cfg0.N) (d) : (dats m out 0 c).before 1 t d = iblk m c 1 t :=
  before0_1_of m (dats m out 0 c) (A_eq m out c 1) (after1 m out c) t d
theorem before2 (out : Blocks F) (c : Dev nD) (t : Fin cfg0.N) (d) : (dats m out 0 c).before 2 t d = iblk m c 2 t :=
  before0_2_of m (dats m out 0 c) (A_eq m out c 2) (after2 m out c) t d

/-- What the body keeps at a point: the scratch, whatever else is held (`Z`), the three input buffers at their blocks; and
    what is said of the results' buffers (`Y`). -/
def around (c : Dev nD) (t : Fin cfg0.N) (Z Y : sProp (MT nD τ sig Unit (Elt F) ℕ (UR sig nD τ) ℕ)) : sProp (MT nD τ sig Unit (Elt F) ℕ (UR sig nD τ) ℕ) :=
  iprop(Pipeline.ΦA spec0 c ∗ Z
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ Y)

/-- What the written buffers hold satisfies `W`. -/
def written (c : Dev nD) (t : Fin cfg0.N) (W : (S2048x128.Idx → Elt F .bf16) → (S2048x128.Idx → Elt F .f32) → Prop) : sProp (MT nD τ sig Unit (Elt F) ℕ (UR sig nD τ) ℕ) :=
  iprop(∃ X, ∃ Y, owns (c : Thread nD τ) (st0_3 t) fullShare X ∗ owns (c : Thread nD τ) (st0_4 t) fullShare Y ∗ ⌜W X Y⌝)

/-- Some relation is kept by the body at point `t`, and where it holds after the loop the written blocks satisfy `W`. -/
def Works (c : Dev nD) (t : Fin cfg0.N) (W : (S2048x128.Idx → Elt F .bf16) → (S2048x128.Idx → Elt F .f32) → Prop) : Prop :=
  ∀ X2 X3 X4, (st0_0 t).view.read (Elt F) X2 = iblk m c 0 t → (st0_1 t).view.read (Elt F) X3 = iblk m c 1 t →
    (st0_2 t).view.read (Elt F) X4 = iblk m c 2 t →
    ∃ I, Cert.SfBody.Kept c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) X2 X3 X4 I
      ∧ ∀ g5 g6, I k0_t1_loop.trips g5 g6 → W ((st0_3 t).view.read (Elt F) g5) ((st0_4 t).view.read (Elt F) g6)

set_option maxHeartbeats 1600000 in
/-- The body at any point. -/
theorem sound_body (c : Dev nD) (t : Fin cfg0.N) (W : (S2048x128.Idx → Elt F .bf16) → (S2048x128.Idx → Elt F .f32) → Prop) (hW : Works m c t W)
    (Z : sProp (MT nD τ sig Unit (Elt F) ℕ (UR sig nD τ) ℕ)) :
    around m c t Z (written c t fun _ _ => True)
      ⊢ wp frame (wpE (defs₀ (F := F)) Variants.none c none) Set.univ (bodyAt0 t)
        (fun _ => around m c t Z (written c t W)) := by
  unfold around written bodyAt0
  iintro ⟨HP, HZ, H0, H1, H2, ⟨%X, %Y, H3, H4, %_⟩⟩
  unfold owns
  icases H0 with ⟨%x2, %h2, H0⟩
  icases H1 with ⟨%x3, %h3, H1⟩
  icases H2 with ⟨%x4, %h4, H2⟩
  icases H3 with ⟨%f5, %h5, H3⟩
  icases H4 with ⟨%f6, %h6, H4⟩
  obtain ⟨I, hI, hO⟩ := hW x2 x3 x4 h2 h3 h4
  iapply (wp_wand_r frame (wpE (defs₀ (F := F)) Variants.none (c : Thread nD τ) none) Set.univ)
  isplitl [H0 H1 H2 H3 H4]
  · iapply (Cert.SfBody.body c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) x2 x3 x4 I hI Set.univ f5 f6)
    unfold Cert.SfBody.Held
    isplitl [H0]; · iexact H0
    isplitl [H1]; · iexact H1
    isplitl [H2]; · iexact H2
    isplitl [H3]; · iexact H3
    iexact H4
  · iintro %_ ⟨%g5, %g6, ⟨H0, H1, H2, H3, H4⟩, %h⟩
    isplitl [HP]; · iexact HP
    isplitl [HZ]; · iexact HZ
    isplitl [H0]; · iexists _; isplitr; swap; iexact H0; ipureintro; exact h2
    isplitl [H1]; · iexists _; isplitr; swap; iexact H1; ipureintro; exact h3
    isplitl [H2]; · iexists _; isplitr; swap; iexact H2; ipureintro; exact h4
    iexists _; iexists _
    isplitl [H3]
    · iexists _; isplitr; swap; iexact H3; ipureintro; rfl
    isplitl [H4]
    · iexists _; isplitr; swap; iexact H4; ipureintro; rfl
    ipureintro; exact hO g5 g6 h

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- Which windows' results are not named. -/
abbrev hide (w : Fin 5) : Bool := w == 3 || w == 4

set_option maxHeartbeats 1600000 in
/-- The body's obligation with the results unnamed. -/
theorem obligation_hidden (out : Blocks F) (c : Dev nD) (h : ∀ t, Works m c t fun _ _ => True) :
    BodyObligationLoose (dats (F := F) m out 0 c) (defs₀ (F := F)) Variants.none () Set.univ hide := fun t => by
  rw [bigSep_W0, bigSep_W0, defs₀_row]
  refine triple_restated (sound_body m c t _ (h t) ((dats m out 0 c).owesAt () t.castSucc)) rfl ?_ fun _ => ?_
  · unfold around written
    change iprop(Pipeline.ΦA spec0 c ∗ (dats m out 0 c).owesAt () t.castSucc
      ∗ (∃ d, owns (c : Thread nD τ) (st0_0 t) fullShare ((dats m out 0 c).before 0 t d))
      ∗ (∃ d, owns (c : Thread nD τ) (st0_1 t) fullShare ((dats m out 0 c).before 1 t d))
      ∗ (∃ d, owns (c : Thread nD τ) (st0_2 t) fullShare ((dats m out 0 c).before 2 t d))
      ∗ (∃ X, owns (c : Thread nD τ) (st0_3 t) fullShare X)
      ∗ (∃ X, owns (c : Thread nD τ) (st0_4 t) fullShare X)) ⊢ _
    simp only [before0, before1, before2]
    iintro ⟨HP, HZ, ⟨%d0, H0⟩, ⟨%d1, H1⟩, ⟨%d2, H2⟩, ⟨%d3, H3⟩, ⟨%d4, H4⟩⟩
    isplitl [HP]; · iexact HP
    isplitl [HZ]; · iexact HZ
    isplitl [H0]; · iexact H0
    isplitl [H1]; · iexact H1
    isplitl [H2]; · iexact H2
    iexists _; iexists _
    isplitl [H3]; · iexact H3
    isplitl [H4]; · iexact H4
    ipureintro; trivial
  · unfold around written
    change _ ⊢ iprop(Pipeline.ΦA spec0 c ∗ (dats m out 0 c).owesAt () t.castSucc
      ∗ owns (c : Thread nD τ) (st0_0 t) fullShare (iblk m c 0 t)
      ∗ owns (c : Thread nD τ) (st0_1 t) fullShare (iblk m c 1 t)
      ∗ owns (c : Thread nD τ) (st0_2 t) fullShare (iblk m c 2 t)
      ∗ (∃ X, owns (c : Thread nD τ) (st0_3 t) fullShare X)
      ∗ (∃ X, owns (c : Thread nD τ) (st0_4 t) fullShare X))
    iintro ⟨HP, HZ, H0, H1, H2, ⟨%X, %Y, H3, H4, %hX⟩⟩
    isplitl [HP]; · iexact HP
    isplitl [HZ]; · iexact HZ
    isplitl [H0]; · iexact H0
    isplitl [H1]; · iexact H1
    isplitl [H2]; · iexact H2
    isplitl [H3]; · iexists X; iexact H3
    iexists Y; iexact H4

set_option maxHeartbeats 1600000 in
/-- The body's obligation with the results named. -/
theorem obligation (out : Blocks F) (c : Dev nD) (h : ∀ t, Works m c t fun X Y => X = out.o c t ∧ Y = out.n c t) :
    BodyObligation (dats (F := F) m out 0 c) (defs₀ (F := F)) Variants.none () Set.univ := fun t => by
  rw [bigSep_W0, bigSep_W0, defs₀_row]
  refine triple_restated (sound_body m c t _ (h t) ((dats m out 0 c).owesAt () t.castSucc)) rfl ?_ fun _ => ?_
  · unfold around written
    change iprop(Pipeline.ΦA spec0 c ∗ (dats m out 0 c).owesAt () t.castSucc
      ∗ (∃ d, owns (c : Thread nD τ) (st0_0 t) fullShare ((dats m out 0 c).before 0 t d))
      ∗ (∃ d, owns (c : Thread nD τ) (st0_1 t) fullShare ((dats m out 0 c).before 1 t d))
      ∗ (∃ d, owns (c : Thread nD τ) (st0_2 t) fullShare ((dats m out 0 c).before 2 t d))
      ∗ (∃ d, owns (c : Thread nD τ) (st0_3 t) fullShare ((dats m out 0 c).before 3 t d))
      ∗ (∃ d, owns (c : Thread nD τ) (st0_4 t) fullShare ((dats m out 0 c).before 4 t d))) ⊢ _
    simp only [before0, before1, before2]
    iintro ⟨HP, HZ, ⟨%d0, H0⟩, ⟨%d1, H1⟩, ⟨%d2, H2⟩, ⟨%d3, H3⟩, ⟨%d4, H4⟩⟩
    isplitl [HP]; · iexact HP
    isplitl [HZ]; · iexact HZ
    isplitl [H0]; · iexact H0
    isplitl [H1]; · iexact H1
    isplitl [H2]; · iexact H2
    iexists _; iexists _
    isplitl [H3]; · iexact H3
    isplitl [H4]; · iexact H4
    ipureintro; trivial
  · unfold around written
    change _ ⊢ iprop(Pipeline.ΦA spec0 c ∗ (dats m out 0 c).owesAt () t.castSucc
      ∗ owns (c : Thread nD τ) (st0_0 t) fullShare (iblk m c 0 t)
      ∗ owns (c : Thread nD τ) (st0_1 t) fullShare (iblk m c 1 t)
      ∗ owns (c : Thread nD τ) (st0_2 t) fullShare (iblk m c 2 t)
      ∗ owns (c : Thread nD τ) (st0_3 t) fullShare (out.o c t)
      ∗ owns (c : Thread nD τ) (st0_4 t) fullShare (out.n c t))
    iintro ⟨HP, HZ, H0, H1, H2, ⟨%X, %Y, H3, H4, %hX⟩⟩
    obtain ⟨rfl, rfl⟩ := hX
    isplitl [HP]; · iexact HP
    isplitl [HZ]; · iexact HZ
    isplitl [H0]; · iexact H0
    isplitl [H1]; · iexact H1
    isplitl [H2]; · iexact H2
    isplitl [H3]; · iexact H3
    iexact H4

/-- Every point keeps the relation that says nothing. -/
theorem works (c : Dev nD) (t : Fin cfg0.N) : Works m c t fun _ _ => True := by
  intro X2 X3 X4 _ _ _
  exact ⟨fun _ _ _ => True, ⟨fun _ _ => trivial, fun _ _ _ _ => trivial⟩, fun _ _ _ => trivial⟩

set_option backward.isDefEq.respectTransparency.types false in
/-- The run with the results unnamed: every array may hold what its write-backs allow, and every counter ends at zero. -/
theorem run_hidden (out : Blocks F) : θ_run defs (onTc (τ := τ) (main (F := F))) (s₀ m ρ)
    (fun r => Pipeline.RDat.FramePost cfg0 (fun c => (dats m out 0 c).toRForget hide) (V m) r ∧ r.2.sem = fun _ => 0) :=
  Pipeline.θ_run_frame_forget_shared cfgs (dats m out) (0 : Fin 1) launch₀0 defs₀ Variants.none hide m ρ main
    (hbody := fun c => obligation_hidden m out c fun t => works m c t) (hq := fun _ _ _ => rfl)
    (howed := fun _ _ => rfl) (V := V m) (hmain := hmain m Variants.none) (hA := A_eq m out) (hΦ := fun _ _ => rfl)
    (Q' := fun r => Pipeline.RDat.FramePost cfg0 (fun c => (dats m out 0 c).toRForget hide) (V m) r ∧ r.2.sem = fun _ => 0)
    (hQ' := fun _ h => h)

set_option backward.isDefEq.respectTransparency.types false in
/-- The run with the results named. -/
theorem run (out : Blocks F) (h : ∀ c t, Works m c t fun X Y => X = out.o c t ∧ Y = out.n c t) : θ_run defs (onTc (τ := τ) (main (F := F))) (s₀ m ρ)
    (fun r => Pipeline.FramePost cfgs (dats m out) 0 (V m) r ∧ r.2.sem = fun _ => 0) :=
  Pipeline.θ_run_frame_shared (Q' := _) cfgs (dats m out) (0 : Fin 1) launch₀0 defs₀ Variants.none m ρ main
    (hbody := fun c => (obligation m out c (h c)).loose) (hq := fun _ _ _ => rfl)
    (howed := fun _ _ => rfl) (V := V m) (hmain := hmain m Variants.none) (hA := A_eq m out) (hΦ := fun _ _ => rfl)

/-- The program runs, leaves its argument as it was, and ends with every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) := by
  refine (θ_run defs _ _).mono (fun r h => ⟨fun c => ?_, h.2⟩)
    (run_hidden m ρ ⟨fun _ _ => constant S2048x128 .bf16 0x0000#16, fun _ _ => constant S2048x128 .f32 0x00000000#32⟩)
  exact (((dats m _ 0 c).toRForget_arrAt_iff (by decide : hide 2 = false) _ _).1 ((h.1 c).1 2)).trans
    (((dats m _ 0 c).arrAt_in 2 rfl _).trans ((A_eq m _ c 2).trans (V_main_arg0 m c)))

end Cert.SfFrame

end
end
-- ==== Proof.SfFrames.lean ====
module

public import proofs.«01_k».proof.Defs
public import proofs.«01_k».proof.Proof.SfFrame
public import proofs.«01_k».proof.Proof.Gen.SfFwd.Launch
public import proofs.«01_k».proof.Proof.Gen.SfFormIdeal.Run
public import proofs.«01_k».proof.Proof.Gen.SfFormIdeal.Read

@[expose] public section

noncomputable section

namespace Cert.SfFrames

open Idealize.ShloMosaic Idealize.ShloMosaic.TcCoe Idealize.ShloMosaic.Tactic
open Idealize.SL.Sem

/-- The frame's statement of the idealized program's text, over any values. -/
def Runs (F : FTy → Type) [FloatOps F] : Prop :=
  ∀ (m : (ℓ : Loc Cert.SfFwdIdeal.nD Cert.SfFwdIdeal.τ Cert.SfFwdIdeal.sig) → Buf (Elt F) ℓ) (g : Dev Cert.SfFwdIdeal.nD → PrngReg),
    θ_run (Cert.SfFwdIdeal.defs (F := F)) (onTc (τ := Cert.SfFwdIdeal.τ) (Cert.SfFwdIdeal.main (F := F))) ⟨m, fun _ => 0, g⟩ (fun r => (∀ c : Dev Cert.SfFwdIdeal.nD,
      r.2.mem ((c.tc : Thread Cert.SfFwdIdeal.nD Cert.SfFwdIdeal.τ).loc Cert.SfFwdIdeal.main_arg0) = m ((c.tc : Thread Cert.SfFwdIdeal.nD Cert.SfFwdIdeal.τ).loc Cert.SfFwdIdeal.main_arg0))
      ∧ r.2.sem = fun _ => 0)

/-- The same statement of the compiled program's text, over any values. -/
def Runs' (F : FTy → Type) [FloatOps F] : Prop :=
  ∀ (m : (ℓ : Loc Cert.SfFwd.nD Cert.SfFwd.τ Cert.SfFwd.sig) → Buf (Elt F) ℓ) (g : Dev Cert.SfFwd.nD → PrngReg),
    θ_run (Cert.SfFwd.defs (F := F)) (onTc (τ := Cert.SfFwd.τ) (Cert.SfFwd.main (F := F))) ⟨m, fun _ => 0, g⟩ (fun r => (∀ c : Dev Cert.SfFwd.nD,
      r.2.mem ((c.tc : Thread Cert.SfFwd.nD Cert.SfFwd.τ).loc Cert.SfFwd.main_arg0) = m ((c.tc : Thread Cert.SfFwd.nD Cert.SfFwd.τ).loc Cert.SfFwd.main_arg0))
      ∧ r.2.sem = fun _ => 0)

set_option maxHeartbeats 4000000 in
/-- The two programs have one and the same text, so the two statements are one. -/
theorem same (F : FTy → Type) [FloatOps F] : Runs F = Runs' F := by
  sl_kernel_rfl

theorem bits : Cert.quiescent_SfFwd (hSfFwd := Cert.SfFwd.Gen.facts) := fun m g _ =>
  (same Bits ▸ (fun m g => Cert.SfFrame.frame (F := Bits) m g : Runs Bits) : Runs' Bits) m g

theorem ideal : Cert.quiescent_SfFwdIdeal (hSfFwdIdeal := Cert.SfFwdIdeal.Gen.facts) := fun m g _ => Cert.SfFrame.frame (F := Ideal) m g

/-- The reference runs and leaves its arguments as they were. -/
theorem reference : Cert.quiescent_SfFormIdeal (hSfFormIdeal := Cert.SfFormIdeal.Gen.facts) := fun m ρ _ =>
  (θ_run Cert.SfFormIdeal.defs _ _).mono (fun r h => ⟨fun c => (h c).2.2, sem_eq_zero_of_no_sems (by decide) r.2⟩)
    (Cert.SfFormIdeal.Value.run (F := Ideal) m ρ)

end Cert.SfFrames

end
end
-- ==== Proof.SfStep.lean ====
module

public import proofs.«01_k».proof.Proof.SfBody
public import proofs.«01_k».proof.Proof.SbChain

/-!
# The forward kernel's loops as blocks of queries against blocks of keys

The stick-breaking attention's forward kernel: each trip of its loops named by the arithmetic of one block of queries
against one block of keys, for the two heads a program of the grid works on.
-/

@[expose] public section

noncomputable section

namespace Cert.SfStep

open Idealize.ShloMosaic Idealize.ShloMosaic.TcCoe Cert.SfBody.trip
open Cert.SfFwdIdeal Cert.SfFwdIdeal.Gen

variable {F : FTy → Type} [FloatOps F]

/-- A head's block of 256 rows. -/
abbrev tile (m : Memref sig .tc .vmem S2048x128 .bf16) (X : BufTy.Contents (Elt F) m.view.ty) {o : Fin 2 → Nat}
    (h : ∀ a, o a + S256x64.size a ≤ S2048x128.size a) : FVec F S256x64 .bf16 :=
  View.readAt (Elt F) m.view (Rect.unit (s := S2048x128) o S256x64.size h).toLoadRect X

/-- A head's running sums: of the logs, and of the weighted values. -/
abbrev State (F : FTy → Type) := FVec F S256x1 .f32 × FVec F S256x64 .f32

/-- The weights of a block of keys, `r` the logs' sum over the keys after it. -/
def weight (dg : Bool) (s x : FVec F S256x64 .bf16) (r : FVec F S256x1 .f32) : FVec F S256x256 .f32 :=
  SbChain.mask dg (exp (addf (addf (SbChain.logb s x) (SbChain.cum (SbChain.log1 dg s x) k0_pay1)) (broadcastTo S256x256 r broadcasts_S256x1_S256x256)))

/-- The running sums after one more block of keys `x` and values `w`. -/
def go (dg : Bool) (s x w : FVec F S256x64 .bf16) (st : State F) : State F :=
  (addf st.1 (SbChain.rowsum (SbChain.log1 dg s x)),
    addf st.2 (matmul dot_S256x256_S256x64_S256x64_1_0_0_1_n_n none (truncf .bf16 (weight dg s x st.1) bitsLt_bf16_f32) w (constant S256x64 .f32 0x00000000#32)))

/-- The running sums of two heads, as the loops carry them. -/
abbrev Carried (F : FTy → Type) := FVec F S256x1 .f32 × FVec F S256x64 .f32 × FVec F S256x1 .f32 × FVec F S256x64 .f32

abbrev fst (z : Carried F) : State F := (z.1, z.2.1)
abbrev snd (z : Carried F) : State F := (z.2.2.1, z.2.2.2)
abbrev both (a b : State F) : Carried F := (a.1, a.2, b.1, b.2)

/-- No keys seen yet. -/
abbrev none : State F := (k0_pay101, k0_pay102)

/-- The scaled queries. -/
abbrev scaled (x : FVec F S256x64 .bf16) : FVec F S256x64 .bf16 := k0_pay99 x

variable (c : Dev nD) (i : grid0.Coords)
  (b2 : Memref sig .tc .vmem S2048x128 .bf16) (w2 : b2.IsWhole)
  (b3 : Memref sig .tc .vmem S2048x128 .bf16) (w3 : b3.IsWhole)
  (b4 : Memref sig .tc .vmem S2048x128 .bf16) (w4 : b4.IsWhole)
  (b5 : Memref sig .tc .vmem S2048x128 .bf16) (w5 : b5.IsWhole)
  (b6 : Memref sig .tc .vmem S2048x128 .f32) (w6 : b6.IsWhole)
  (X2 : BufTy.Contents (Elt F) b2.view.ty) (X3 : BufTy.Contents (Elt F) b3.view.ty)
  (X4 : BufTy.Contents (Elt F) b4.view.ty) (k : Fin k0_t1_loop.trips)

/-- What is carried before the loop at an even block of queries: the block on the diagonal. -/
abbrev evenStart : Carried F :=
  (sl.r_6 b2 b3 X2 X3 k, k0_pay116 k0_pay102 (sl.r_5 b2 b3 X2 X3 k) (tile b4 X4 (k0_off1_inb k)),
    k0_pay115 k0_pay101 (sl.r_8 b2 b3 X2 X3 k), k0_pay117 k0_pay102 (sl.r_7 b2 b3 X2 X3 k) (tile b4 X4 (k0_off2_inb k)))

/-- What is carried before the loop at an odd block of queries: the block on the diagonal and the one before it. -/
abbrev oddStart : Carried F :=
  (sl.r_27 b2 b3 X2 X3 k, k0_pay157 k0_pay129 (sl.r_25 b2 b3 X2 X3 k) (sl.r_26 b2 b3 X2 X3 k) (tile b4 X4 (k0_off11_inb k)) (tile b4 X4 (k0_off13_inb k)),
    k0_pay156 k0_pay128 (sl.r_19 b2 b3 X2 X3 k) (sl.r_21 b2 b3 X2 X3 k),
    k0_pay158 k0_pay128 k0_pay129 (sl.r_19 b2 b3 X2 X3 k) (sl.r_20 b2 b3 X2 X3 k) (sl.r_24 b2 b3 X2 X3 k) (sl.r_28 b2 b3 X2 X3 k) (tile b4 X4 (k0_off12_inb k)) (tile b4 X4 (k0_off14_inb k)))

/-- The loop over pairs of whole blocks of keys, at an even block of queries, after `t` trips. -/
abbrev evenLoop (t : ℕ) : Carried F :=
  st_k0_t2 Variants.none c Option.none i b2 w2 b3 w3 b4 w4 b5 w5 b6 w6 k0_pay1 k (sl.arg7 k) (sl.v8 k) (sl.r b2 X2 k) (sl.r_1 b2 X2 k) k0_pay101 k0_pay102
    (sl.v20 k) (sl.v8 k) (sl.v8 k) (sl.r_5 b2 b3 X2 X3 k) (sl.r_6 b2 b3 X2 X3 k) (sl.r_7 b2 b3 X2 X3 k) (sl.r_8 b2 b3 X2 X3 k) X3 X4
    (evenStart b2 b3 b4 X2 X3 X4 k) t

/-- The loop over pairs of whole blocks of keys, at an odd block of queries, after `t` trips. -/
abbrev oddLoop (t : ℕ) : Carried F :=
  st_k0_t4 Variants.none c Option.none i b2 w2 b3 w3 b4 w4 b5 w5 b6 w6 k0_pay1 k (sl.arg7 k) (sl.v128 k) (sl.r_9 b2 X2 k) (sl.r_10 b2 X2 k) k0_pay128 k0_pay129
    (sl.v141 k) (sl.v128 k) (sl.v144 k) (sl.v128 k) (sl.v144 k) (sl.r_19 b2 b3 X2 X3 k) (sl.r_20 b2 b3 X2 X3 k) (sl.r_21 b2 b3 X2 X3 k) (sl.r_24 b2 b3 X2 X3 k) (sl.r_25 b2 b3 X2 X3 k) (sl.r_26 b2 b3 X2 X3 k) (sl.r_27 b2 b3 X2 X3 k) (sl.r_28 b2 b3 X2 X3 k) X3 X4
    (oddStart b2 b3 b4 X2 X3 X4 k) t

theorem even_zero : evenStart b2 b3 b4 X2 X3 X4 k =
    both (go true (scaled (tile b2 X2 (k0_off1_inb k))) (tile b3 X3 (k0_off1_inb k)) (tile b4 X4 (k0_off1_inb k)) none)
      (go true (scaled (tile b2 X2 (k0_off2_inb k))) (tile b3 X3 (k0_off2_inb k)) (tile b4 X4 (k0_off2_inb k)) none) := rfl

theorem odd_zero : oddStart b2 b3 b4 X2 X3 X4 k =
    both (go false (scaled (tile b2 X2 (k0_off11_inb k))) (tile b3 X3 (k0_off13_inb k)) (tile b4 X4 (k0_off13_inb k))
        (go true (scaled (tile b2 X2 (k0_off11_inb k))) (tile b3 X3 (k0_off11_inb k)) (tile b4 X4 (k0_off11_inb k)) none))
      (go false (scaled (tile b2 X2 (k0_off12_inb k))) (tile b3 X3 (k0_off14_inb k)) (tile b4 X4 (k0_off14_inb k))
        (go true (scaled (tile b2 X2 (k0_off12_inb k))) (tile b3 X3 (k0_off12_inb k)) (tile b4 X4 (k0_off12_inb k)) none)) := rfl

theorem even_succ (t : Fin (k0_t2_loop k).trips) :
    evenLoop c i b2 w2 b3 w3 b4 w4 b5 w5 b6 w6 X2 X3 X4 k (t + 1) =
      both (go false (scaled (tile b2 X2 (k0_off1_inb k))) (tile b3 X3 (k0_off4_inb k t)) (tile b4 X4 (k0_off4_inb k t))
          (go false (scaled (tile b2 X2 (k0_off1_inb k))) (tile b3 X3 (k0_off3_inb k t)) (tile b4 X4 (k0_off3_inb k t)) (fst (evenLoop c i b2 w2 b3 w3 b4 w4 b5 w5 b6 w6 X2 X3 X4 k t))))
        (go false (scaled (tile b2 X2 (k0_off2_inb k))) (tile b3 X3 (k0_off6_inb k t)) (tile b4 X4 (k0_off6_inb k t))
          (go false (scaled (tile b2 X2 (k0_off2_inb k))) (tile b3 X3 (k0_off5_inb k t)) (tile b4 X4 (k0_off5_inb k t)) (snd (evenLoop c i b2 w2 b3 w3 b4 w4 b5 w5 b6 w6 X2 X3 X4 k t)))) := by
  unfold evenLoop
  rw [st_k0_t2_succ]
  generalize st_k0_t2 Variants.none c Option.none i b2 w2 b3 w3 b4 w4 b5 w5 b6 w6 _ _ _ _ _ _ _ _ _ _ _ _ _ _ _ X3 X4 _ t.val = S
  unfold tripR_k0_t2 trip_k0_t2
  rfl

theorem odd_succ (t : Fin (k0_t4_loop k).trips) :
    oddLoop c i b2 w2 b3 w3 b4 w4 b5 w5 b6 w6 X2 X3 X4 k (t + 1) =
      both (go false (scaled (tile b2 X2 (k0_off11_inb k))) (tile b3 X3 (k0_off16_inb k t)) (tile b4 X4 (k0_off16_inb k t))
          (go false (scaled (tile b2 X2 (k0_off11_inb k))) (tile b3 X3 (k0_off15_inb k t)) (tile b4 X4 (k0_off15_inb k t)) (fst (oddLoop c i b2 w2 b3 w3 b4 w4 b5 w5 b6 w6 X2 X3 X4 k t))))
        (go false (scaled (tile b2 X2 (k0_off12_inb k))) (tile b3 X3 (k0_off18_inb k t)) (tile b4 X4 (k0_off18_inb k t))
          (go false (scaled (tile b2 X2 (k0_off12_inb k))) (tile b3 X3 (k0_off17_inb k t)) (tile b4 X4 (k0_off17_inb k t)) (snd (oddLoop c i b2 w2 b3 w3 b4 w4 b5 w5 b6 w6 X2 X3 X4 k t)))) := by
  unfold oddLoop
  rw [st_k0_t4_succ]
  generalize st_k0_t4 Variants.none c Option.none i b2 w2 b3 w3 b4 w4 b5 w5 b6 w6 _ _ _ _ _ _ _ _ _ _ _ _ _ _ _ _ _ _ _ _ _ X3 X4 _ t.val = S
  unfold tripR_k0_t4 trip_k0_t4
  rfl

end Cert.SfStep

end
-- ==== Proof.SfTrace.lean ====
module

public import proofs.«01_k».proof.Proof.SfStep

/-!
# A trip of the forward kernel over a pair of blocks of queries

What a trip of the kernel's outer loop stores, in terms of what its two inner loops leave.
-/

@[expose] public section

noncomputable section

namespace Cert.SfTrace

open Idealize.ShloMosaic Idealize.ShloMosaic.TcCoe Cert.SfBody.trip
open Cert.SfStep Cert.SfFwdIdeal Cert.SfFwdIdeal.Gen

variable {F : FTy → Type} [FloatOps F]

/-- The loop over what the pairs leave makes no trip. -/
theorem t3_any (𝒱 : Variants) (c : Dev nD) (bd : Option 𝒱.V) (i : grid0.Coords) (b2 : Memref sig .tc .vmem S2048x128 .bf16) (w2 : b2.IsWhole) (b3 : Memref sig .tc .vmem S2048x128 .bf16) (w3 : b3.IsWhole) (b4 : Memref sig .tc .vmem S2048x128 .bf16) (w4 : b4.IsWhole) (b5 : Memref sig .tc .vmem S2048x128 .bf16) (w5 : b5.IsWhole) (b6 : Memref sig .tc .vmem S2048x128 .f32) (w6 : b6.IsWhole) (v5 : FVec F S256x256 .bf16) (k0_t1 : Fin k0_t1_loop.trips) (b7 : BitVec 32) (v9 : BitVec 32) (v13 : FVec F S256x64 .bf16) (v17 : FVec F S256x64 .bf16) (v18 : FVec F S256x1 .f32) (v19 : FVec F S256x64 .f32) (v20 : BitVec 32) (v22 : BitVec 32) (v24 : BitVec 32) (v83 : FVec F S256x256 .bf16) (v86 : FVec F S256x1 .f32) (v93 : FVec F S256x256 .bf16) (v94 : FVec F S256 .f32) (v109 : BitVec 32) (X_arg3 : BufTy.Contents (Elt F) b3.view.ty) (X_arg4 : BufTy.Contents (Elt F) b4.view.ty) (init : FVec F S256x1 .f32 × FVec F S256x64 .f32 × FVec F S256x1 .f32 × FVec F S256x64 .f32) {n : ℕ} (hn : n = 0) :
    st_k0_t3 (F := F) 𝒱 c bd i b2 w2 b3 w3 b4 w4 b5 w5 b6 w6 v5 k0_t1 b7 v9 v13 v17 v18 v19 v20 v22 v24 v83 v86 v93 v94 v109 X_arg3 X_arg4 init n = init := by
  subst hn
  rfl

/-- The loop over what the pairs leave makes no trip. -/
theorem t5_any (𝒱 : Variants) (c : Dev nD) (bd : Option 𝒱.V) (i : grid0.Coords) (b2 : Memref sig .tc .vmem S2048x128 .bf16) (w2 : b2.IsWhole) (b3 : Memref sig .tc .vmem S2048x128 .bf16) (w3 : b3.IsWhole) (b4 : Memref sig .tc .vmem S2048x128 .bf16) (w4 : b4.IsWhole) (b5 : Memref sig .tc .vmem S2048x128 .bf16) (w5 : b5.IsWhole) (b6 : Memref sig .tc .vmem S2048x128 .f32) (w6 : b6.IsWhole) (v5 : FVec F S256x256 .bf16) (k0_t1 : Fin k0_t1_loop.trips) (b7 : BitVec 32) (v129 : BitVec 32) (v133 : FVec F S256x64 .bf16) (v137 : FVec F S256x64 .bf16) (v138 : FVec F S256x1 .f32) (v139 : FVec F S256x64 .f32) (v141 : BitVec 32) (v143 : BitVec 32) (v145 : BitVec 32) (v147 : BitVec 32) (v149 : BitVec 32) (v201 : FVec F S256x256 .f32) (v214 : FVec F S256x256 .f32) (v215 : FVec F S256x256 .f32) (v243 : FVec F S256x256 .f32) (v250 : FVec F S256x256 .bf16) (v258 : FVec F S256x256 .bf16) (v261 : FVec F S256x1 .f32) (v268 : FVec F S256x256 .bf16) (v300 : BitVec 32) (X_arg3 : BufTy.Contents (Elt F) b3.view.ty) (X_arg4 : BufTy.Contents (Elt F) b4.view.ty) (init : FVec F S256x1 .f32 × FVec F S256x64 .f32 × FVec F S256x1 .f32 × FVec F S256x64 .f32) {n : ℕ} (hn : n = 0) :
    st_k0_t5 (F := F) 𝒱 c bd i b2 w2 b3 w3 b4 w4 b5 w5 b6 w6 v5 k0_t1 b7 v129 v133 v137 v138 v139 v141 v143 v145 v147 v149 v201 v214 v215 v243 v250 v258 v261 v268 v300 X_arg3 X_arg4 init n = init := by
  subst hn
  rfl

variable (c : Dev nD) (i : grid0.Coords)
  (b2 : Memref sig .tc .vmem S2048x128 .bf16) (w2 : b2.IsWhole)
  (b3 : Memref sig .tc .vmem S2048x128 .bf16) (w3 : b3.IsWhole)
  (b4 : Memref sig .tc .vmem S2048x128 .bf16) (w4 : b4.IsWhole)
  (b5 : Memref sig .tc .vmem S2048x128 .bf16) (w5 : b5.IsWhole)
  (b6 : Memref sig .tc .vmem S2048x128 .f32) (w6 : b6.IsWhole)
  (X2 : BufTy.Contents (Elt F) b2.view.ty) (X3 : BufTy.Contents (Elt F) b3.view.ty)
  (X4 : BufTy.Contents (Elt F) b4.view.ty) (k : Fin k0_t1_loop.trips)

attribute [local irreducible] st_k0_t2 st_k0_t3 st_k0_t4 st_k0_t5 View.writes Scf.trips

/-- What an even block of queries ends with. -/
def evenEnd : Carried F := evenLoop c i b2 w2 b3 w3 b4 w4 b5 w5 b6 w6 X2 X3 X4 k (Scf.trips (k0_t2_loop k).lb (k0_t2_loop k).ub (k0_t2_loop k).st)

/-- What an odd block of queries ends with. -/
def oddEnd : Carried F := oddLoop c i b2 w2 b3 w3 b4 w4 b5 w5 b6 w6 X2 X3 X4 k (Scf.trips (k0_t4_loop k).lb (k0_t4_loop k).ub (k0_t4_loop k).st)

/-- The same after the loop over what the pairs leave. -/
def evenLeft : Carried F :=
  st_k0_t3 Variants.none c Option.none i b2 w2 b3 w3 b4 w4 b5 w5 b6 w6 k0_pay1 k (sl.arg7 k) (sl.v8 k) (sl.r b2 X2 k) (sl.r_1 b2 X2 k) k0_pay101 k0_pay102
    (sl.v20 k) (sl.v8 k) (sl.v8 k) (sl.r_5 b2 b3 X2 X3 k) (sl.r_6 b2 b3 X2 X3 k) (sl.r_7 b2 b3 X2 X3 k) (sl.r_8 b2 b3 X2 X3 k) (sl.v109 k) X3 X4
    (evenEnd c i b2 w2 b3 w3 b4 w4 b5 w5 b6 w6 X2 X3 X4 k) (Scf.trips (k0_t3_loop k).lb (k0_t3_loop k).ub (k0_t3_loop k).st)

/-- The same after the loop over what the pairs leave. -/
def oddLeft : Carried F :=
  st_k0_t5 Variants.none c Option.none i b2 w2 b3 w3 b4 w4 b5 w5 b6 w6 k0_pay1 k (sl.arg7 k) (sl.v128 k) (sl.r_9 b2 X2 k) (sl.r_10 b2 X2 k) k0_pay128 k0_pay129
    (sl.v141 k) (sl.v128 k) (sl.v144 k) (sl.v128 k) (sl.v144 k) (sl.r_19 b2 b3 X2 X3 k) (sl.r_20 b2 b3 X2 X3 k) (sl.r_21 b2 b3 X2 X3 k) (sl.r_24 b2 b3 X2 X3 k) (sl.r_25 b2 b3 X2 X3 k) (sl.r_26 b2 b3 X2 X3 k) (sl.r_27 b2 b3 X2 X3 k) (sl.r_28 b2 b3 X2 X3 k) (sl.v300 k) X3 X4
    (oddEnd c i b2 w2 b3 w3 b4 w4 b5 w5 b6 w6 X2 X3 X4 k) (Scf.trips (k0_t5_loop k).lb (k0_t5_loop k).ub (k0_t5_loop k).st)

theorem evenLeft_eq : evenLeft c i b2 w2 b3 w3 b4 w4 b5 w5 b6 w6 X2 X3 X4 k = evenEnd c i b2 w2 b3 w3 b4 w4 b5 w5 b6 w6 X2 X3 X4 k := t3_any (hn := Nat.le_zero.1 ((k0_t3_abs k).2.1)) ..
theorem oddLeft_eq : oddLeft c i b2 w2 b3 w3 b4 w4 b5 w5 b6 w6 X2 X3 X4 k = oddEnd c i b2 w2 b3 w3 b4 w4 b5 w5 b6 w6 X2 X3 X4 k := t5_any (hn := Nat.le_zero.1 ((k0_t5_abs k).2.1)) ..

/-- The stored sums of weighted values. -/
abbrev narrow (x : FVec F S256x64 .f32) : FVec F S256x64 .bf16 := truncf .bf16 x bitsLt_bf16_f32

/-- The stored sums of the logs, one column after the other. -/
abbrev spread (x : FVec F S256x1 .f32) : FVec F S256x64 .f32 := k0_pay2 x

theorem trip_fst (f5 : BufTy.Contents (Elt F) b5.view.ty) : (SfBody.trip c i b2 w2 b3 w3 b4 w4 b5 w5 b6 w6 X2 X3 X4 k).1 f5 = b5.view.writes (Elt F) f5
    [⟨Rect.unit (s := S2048x128) (k0_off12 k) S256x64.size (k0_off12_inb k), narrow (snd (oddEnd c i b2 w2 b3 w3 b4 w4 b5 w5 b6 w6 X2 X3 X4 k)).2⟩,
     ⟨Rect.unit (s := S2048x128) (k0_off11 k) S256x64.size (k0_off11_inb k), narrow (fst (oddEnd c i b2 w2 b3 w3 b4 w4 b5 w5 b6 w6 X2 X3 X4 k)).2⟩,
     ⟨Rect.unit (s := S2048x128) (k0_off2 k) S256x64.size (k0_off2_inb k), narrow (snd (evenEnd c i b2 w2 b3 w3 b4 w4 b5 w5 b6 w6 X2 X3 X4 k)).2⟩,
     ⟨Rect.unit (s := S2048x128) (k0_off1 k) S256x64.size (k0_off1_inb k), narrow (fst (evenEnd c i b2 w2 b3 w3 b4 w4 b5 w5 b6 w6 X2 X3 X4 k)).2⟩] := by
  rw [← evenLeft_eq, ← oddLeft_eq]
  unfold SfBody.trip sl.r_30 evenLeft oddLeft evenEnd oddEnd
  rfl

theorem trip_snd (f6 : BufTy.Contents (Elt F) b6.view.ty) : (SfBody.trip c i b2 w2 b3 w3 b4 w4 b5 w5 b6 w6 X2 X3 X4 k).2.1 f6 = b6.view.writes (Elt F) f6
    [⟨Rect.unit (s := S2048x128) (k0_off12 k) S256x64.size (k0_off12_inb k), spread (snd (oddEnd c i b2 w2 b3 w3 b4 w4 b5 w5 b6 w6 X2 X3 X4 k)).1⟩,
     ⟨Rect.unit (s := S2048x128) (k0_off11 k) S256x64.size (k0_off11_inb k), spread (fst (oddEnd c i b2 w2 b3 w3 b4 w4 b5 w5 b6 w6 X2 X3 X4 k)).1⟩,
     ⟨Rect.unit (s := S2048x128) (k0_off2 k) S256x64.size (k0_off2_inb k), spread (snd (evenEnd c i b2 w2 b3 w3 b4 w4 b5 w5 b6 w6 X2 X3 X4 k)).1⟩,
     ⟨Rect.unit (s := S2048x128) (k0_off1 k) S256x64.size (k0_off1_inb k), spread (fst (evenEnd c i b2 w2 b3 w3 b4 w4 b5 w5 b6 w6 X2 X3 X4 k)).1⟩] := by
  rw [← evenLeft_eq, ← oddLeft_eq]
  unfold SfBody.trip sl.r_29 evenLeft oddLeft evenEnd oddEnd
  rfl

end Cert.SfTrace

end
-- ==== Proof.SfBlock.lean ====
module

public import proofs.«01_k».proof.Proof.SfStep
public import proofs.«01_k».proof.Proof.SbBlock

/-!
# The forward kernel's running sums over the reals

With finite queries and keys, the logs' sums are images of the reference's own partial sums, and the weighted values are
the reference's sums over the keys seen. The values themselves may be infinite.
-/

@[expose] public section

noncomputable section

namespace Cert.SfBlock

open Idealize.ShloMosaic Cert.SfFwdIdeal Cert.SfFwdIdeal.Gen Cert.SfStep Cert.SbReal Cert.Reals
open Cert.SbBlock (Is2 Placed log1_is logb_is mask_is cum_is rowsum_is sitofp_one sitofp_zero word_zero)

theorem tri_after (j c : Fin 256) : k0_pay1 (F := Ideal) (ix2 j c) = (((if c.val < j.val then 1 else 0 : ℝ)) : EReal) := by
  pointwise [k0_pay1]
  rw [show IntOp.cmpi CmpIPredicate.sgt (BitVec.ofNat 32 j.val) (BitVec.ofNat 32 c.val) = IntOp.cmpi CmpIPredicate.slt (BitVec.ofNat 32 c.val) (BitVec.ofNat 32 j.val) from rfl,
    SbBlock.cmpi_slt_nat]
  by_cases h : c.val < j.val <;> simp [h, sitofp_one, sitofp_zero]

/-- A state's entries are the partial sums over the keys from `C` on, of the rows from `R` on. -/
structure Tail (q k : ℕ → Fin 64 → ℝ) (v : ℕ → Fin 64 → EReal) (R C : ℕ) (st : State Ideal) : Prop where
  logs : Is2 st.1 fun r _ => N q k (R + r.val) - ∑ l ∈ Finset.range C, L q k (R + r.val) l
  acc : ∀ (r : Fin 256) (e : Fin 64), st.2 (ix2 r e) = ∑ l ∈ Finset.Ico C (R + 256), ((A q k (R + r.val) l : ℝ) : EReal) * v l e

variable {q k : ℕ → Fin 64 → ℝ} {v : ℕ → Fin 64 → EReal} {R C : ℕ} {dg : Bool} {s x w : FVec Ideal S256x64 .bf16} {st : State Ideal}

theorem tail_none (hR : R + 256 ≤ 2048) : Tail q k v R (R + 256) none where
  logs := fun r c => by
    pointwise [k0_pay101]
    rw [N, range_of_zero (fun l => L q k (R + r.val) l) (R + 256) 2048 hR (fun j hj => L_of_le (by have := r.isLt; omega)), sub_self]
    simp
  acc := fun r e => by
    pointwise [k0_pay102]
    simp

variable (hp : Placed dg R C) (hs : Is2 s fun r e => q (R + r.val) e * (1 / 8)) (hx : Is2 x fun c e => k (C + c.val) e)
  (hw : ∀ (c : Fin 256) (e : Fin 64), w (ix2 c e) = v (C + c.val) e) (hst : Tail q k v R (C + 256) st)
include hp hs hx

theorem weight_is (hl : Is2 st.1 fun r _ => N q k (R + r.val) - ∑ l ∈ Finset.range (C + 256), L q k (R + r.val) l) :
    Is2 (weight dg s x st.1) fun r c => A q k (R + r.val) (C + c.val) := by
  refine mask_is (Y := fun r c => Real.exp (lb (z q k (R + r.val) (C + c.val)) +
    (N q k (R + r.val) - ∑ l ∈ Finset.range (C + c.val + 1), L q k (R + r.val) l))) (fun r c => ?_) fun r c => ?_
  · pointwise []
    rw [logb_is hs hx r c, hl r 0, cum_is (log1_is hp hs hx) tri_after r c, ← EReal.coe_add, ← EReal.coe_add,
      Ideal.exp_coe, add_assoc C, range_add_lt _ C 256 (c.val + 1) (by omega)]
    congr 2
    dsimp only
    rw [range_add]
    have : ∀ f : Fin 256 → ℝ, ∑ j, f j = ∑ j : Fin 256, (if j.val < c.val + 1 then f j else 0) + ∑ j, f j * (if c.val < j.val then 1 else 0) := fun f => by
      rw [← Finset.sum_add_distrib]
      refine Finset.sum_congr rfl fun j _ => ?_
      by_cases h : c.val < j.val
      · rw [if_neg (by omega), if_pos h]; ring
      · rw [if_pos (by omega), if_neg h]; ring
    rw [this (fun j => L q k (R + r.val) (C + j.val))]
    ring
  · rw [A]; have := hp.lt_iff r c
    by_cases h : dg = true ∧ r.val ≤ c.val
    · rw [if_neg fun hl => this.1 hl h, if_pos h]
    · rw [if_pos (this.2 h), if_neg h]

omit hp hs hx in
theorem sum_block (f : ℕ → EReal) (C : ℕ) : ∑ c : Fin 256, f (C + c.val) = ∑ l ∈ Finset.Ico C (C + 256), f l := by
  rw [Finset.sum_Ico_eq_sum_range, show C + 256 - C = 256 by omega, Finset.sum_range]

include hw hst in
theorem go_tail (hC : C + 256 ≤ R + 256) : Tail q k v R C (go dg s x w st) where
  logs := fun r c => by
    obtain rfl : c = 0 := Subsingleton.elim _ _
    pointwise [go]
    rw [rowsum_is (log1_is hp hs hx) r 0, hst.logs r 0, ← EReal.coe_add]
    congr 1
    dsimp only
    rw [range_add]
    ring
  acc := fun r e => by
    have ha := weight_is hp hs hx hst.logs
    pointwise [go]
    simp only [hst.acc r e, ha _ _, hw _ _]
    rw [sum_block fun l => ((A q k (R + r.val) l : ℝ) : EReal) * v l e, add_comm]
    exact Finset.sum_Ico_consecutive _ (by omega) hC

omit hp hs hx in
/-- With all keys seen, the sum runs over every key: the weights of those after the row are zero. -/
theorem tail_all (h : Tail q k v R 0 st) (hR : R + 256 ≤ 2048) (r : Fin 256) (e : Fin 64) :
    st.2 (ix2 r e) = ∑ l ∈ Finset.range 2048, ((A q k (R + r.val) l : ℝ) : EReal) * v l e := by
  rw [h.acc r e, Finset.range_eq_Ico]
  refine Finset.sum_subset (Finset.Ico_subset_Ico_right hR) fun l _ hl => ?_
  rw [A_of_le (by have := r.isLt; simp only [Finset.mem_Ico] at hl; omega), EReal.coe_zero, zero_mul]

omit hp hs hx in
theorem tail_logs (h : Tail q k v R 0 st) (r : Fin 256) : st.1 (ix2 r 0) = ((N q k (R + r.val) : ℝ) : EReal) := by
  rw [h.logs r 0]; simp

end Cert.SfBlock

end
-- ==== Proof.AfBlock.lean ====
module

public import proofs.«01_k».proof.Proof.AaPoint
public import proofs.«01_k».proof.Proof.Gen.AfFwdIdeal.Value

/-!
# Chunked attention: one block of queries against its window

The weights are real numbers, as in the gradient; the values may be any. A block's products with the values are divided
by the row's sum afterwards, which is the same as dividing the weights first.
-/

@[expose] public section

noncomputable section

namespace Cert.AfBlock

open Idealize.ShloMosaic Idealize.ShloMosaic.TcCoe Cert.AfFwdIdeal Cert.AfFwdIdeal.Gen Cert.AaChain Cert.AaReads Cert.AaReal Cert.Reals

/-- A positive factor may be taken into a sum of any numbers. -/
theorem sum_scale {ι : Type*} (s : Finset ι) (f : ι → EReal) {c : ℝ} (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, mul_comm, EReal.left_distrib_of_nonneg_of_ne_top (EReal.coe_nonneg.2 hc) (EReal.coe_ne_top _),
      mul_comm _ (f a), mul_comm _ (∑ i ∈ s, f i), ih]

/-- A sum over the keys is one over a window that holds all that is not zero. -/
theorem window_any (f : ℕ → EReal) {lo n : ℕ} (h : lo + n ≤ 2048) (hf : ∀ s, s < lo ∨ lo + n ≤ s → f s = 0) :
    ∑ c : Fin n, f (lo + c.val) = ∑ s ∈ Finset.range 2048, f s := by
  rw [show 2048 = lo + n + (2048 - (lo + n)) by omega, Finset.sum_range_add, Finset.sum_range_add,
    Finset.sum_eq_zero (s := Finset.range lo) fun s hs => hf s (.inl (Finset.mem_range.1 hs)),
    Finset.sum_eq_zero (s := Finset.range (2048 - (lo + n))) fun s _ => hf _ (.inr (by omega)), zero_add, add_zero,
    Finset.sum_range (fun x => f (lo + x))]

/-- The attention's result at query `t`: the values, weighted. -/
def out (q k : ℕ → Fin 64 → ℝ) (v : ℕ → Fin 64 → EReal) (r : ℕ → ℝ) (t : ℕ) (e : Fin 64) : EReal :=
  ∑ s ∈ Finset.range 2048, (P q k r t s : EReal) * v s e

section Chain

variable {F : FTy → Type} [FloatOps F] {n : ℕ} (w : Wide n)

/-- The exponentials of the scores' distances from the row's largest. -/
def exps (s : FVec F (Scores n) .f32) : FVec F (Scores n) .f32 := exp (subf s (peaks w s))

/-- What the kernel stores of a block: the values weighted by the exponentials, over the exponentials' sum. -/
def attend (s : FVec F (Scores n) .f32) (v : FVec F (Keys n) .bf16) : FVec F S256x64 .bf16 :=
  truncf .bf16 (divf (matmul w.nn none (truncf .bf16 (exps w s) bitsLt_bf16_f32) v (constant S256x64 .f32 0x00000000#32))
    (broadcastTo S256x64 (shapeCast S256x1 (multiReduction .add [1] S256 (exps w s) 0x00000000#32 w.red (.inl rfl) rfl) shapeCasts_S256_S256x1)
      broadcasts_S256x1_S256x64)) bitsLt_bf16_f32

end Chain

variable {n b : ℕ} {w : Wide n} (G : Good w) (hn : n = 768 ∨ n = 256 * b + 256) (hle : n ≤ 256 * b + 256) (hb : b < 8)
  {q k : ℕ → Fin 64 → ℝ} {v : ℕ → Fin 64 → EReal} {r : ℕ → ℝ}
  {qv : FVec Ideal S256x64 .bf16} {kv vv : FVec Ideal (Keys n) .bf16} {bv : FVec Ideal (Scores n) .f32}
  (hq : ∀ (i : Fin 256) (e : Fin 64), qv (ix2 i e) = ((q (256 * b + i.val) e : ℝ) : EReal))
  (hk : ∀ (c : Fin n) (e : Fin 64), kv (ix2 c e) = ((k (256 * b + 256 - n + c.val) e : ℝ) : EReal))
  (hv : ∀ (c : Fin n) (e : Fin 64), vv (ix2 c e) = v (256 * b + 256 - n + c.val) e)
  (hbv : ∀ (i : Fin 256) (c : Fin n), bv (ix2 i c) = if Ok (256 * b + i.val) (256 * b + 256 - n + c.val)
    then ((r (256 * b + 256 - n + c.val + 767 - (256 * b + i.val)) : ℝ) : EReal) else ⊥)

include G hn hle hb hq hk hv hbv in
theorem attend_is (i : Fin 256) (e : Fin 64) :
    attend w (score w qv kv bv) vv (ix2 i e) = out q k v r (256 * b + i.val) e := by
  have hi := i.isLt
  obtain ⟨M, g, hg, hM, he⟩ := soft (fun c : Fin n => score w qv kv bv (ix2 i c)) (fun c => Ok (256 * b + i.val) (256 * b + 256 - n + c.val))
    (fun c => S q k r (256 * b + i.val) (256 * b + 256 - n + c.val)) (AaBlock.score_is G hq hk hbv i)
    ⟨n - 256 + i.val, by omega⟩ (by
      have : 256 * b + 256 - n + (n - 256 + i.val) = 256 * b + i.val := by omega
      simp only [this]; exact ok_self _)
  have hE : ∀ c : Fin n, exps w (score w qv kv bv) (ix2 i c)
      = ((W q k r (256 * b + i.val) (256 * b + 256 - n + c.val) * g : ℝ) : EReal) := fun c => by
    pointwise [exps]
    rw [G.peaks, hM]
    exact he c
  have hD := W_sum_pos (q := q) (k := k) (r := r) (t := 256 * b + i.val) (by omega)
  pointwise [attend]
  show Ideal.div (matmul w.nn none (truncf .bf16 (exps w (score w qv kv bv)) bitsLt_bf16_f32) vv (constant S256x64 .f32 0x00000000#32) (ix2 i e)) _ = _
  rw [G.nn]
  pointwise
  simp only [hE, hv]
  rw [sum_coe, ← Finset.sum_mul, AaBlock.window_sum hn hle hb i (fun s => W q k r (256 * b + i.val) s) fun s hs => W_out hs,
    Ideal.div_coe (mul_pos hD hg).ne', sum_scale _ _ (one_div_nonneg.2 (mul_pos hD hg).le)]
  refine Eq.trans ?_ (window_any (fun s => (P q k r (256 * b + i.val) s : EReal) * v s e) (lo := 256 * b + 256 - n) (n := n) (by omega) fun s hs => ?_)
  · refine Finset.sum_congr rfl fun c _ => ?_
    rw [mul_right_comm, ← EReal.coe_mul, P]
    refine congrArg (fun z : ℝ => (z : EReal) * _) ?_
    field_simp
  · rw [P_out (out_of_window hn (by omega) (hs.imp id fun h => by omega)), EReal.coe_zero, zero_mul]

end Cert.AfBlock

end
-- ==== Proof.AfArray.lean ====
module

public import proofs.«01_k».proof.Proof.AfBlock
public import proofs.«01_k».proof.Proof.AaArray
public import Idealize.ShloMosaic.Lib.Pipeline.ValueKit

/-!
# Chunked attention: what the kernel leaves in its result
-/

@[expose] public section

noncomputable section

namespace Cert.AfArray

open Idealize.ShloMosaic Idealize.ShloMosaic.TcCoe Idealize.SL.Sem Cert.AfFwdIdeal Cert.AfFwdIdeal.Gen
open Cert.AaChain Cert.AaReads Cert.AaReal Cert.AfBlock Cert.SbData
open Cert.AaPoint (biasRow chunkWord chunk reach)
open Cert.AaArray (bias bias_eq)
open Cert.SbAcc (beside beside_at)
open Cert.NormRef (up)

/-- Two heads' rows side by side, of any numbers. -/
def besideAny (f : ℕ → ℕ → Fin 64 → EReal) : S2048x128.Idx → EReal := fun i =>
  f ((i 1).val / 64) (i 0).val ⟨(i 1).val % 64, Nat.mod_lt _ (by decide)⟩

theorem besideAny_at (f : ℕ → ℕ → Fin 64 → EReal) (i : S2048x128.Idx) (h r : ℕ) (e : Fin 64) (h0 : (i 0).val = r) (h1 : (i 1).val = 64 * h + e.val) :
    besideAny f i = f h r e := by
  have e1 : (i 1).val / 64 = h := by have := e.isLt; omega
  have e2 : (⟨(i 1).val % 64, Nat.mod_lt _ (by decide)⟩ : Fin 64) = e := Fin.ext (by have := e.isLt; simp only; omega)
  unfold besideAny
  rw [e1, e2, h0]

section Point

variable {q k : ℕ → ℕ → Fin 64 → ℝ} {v : ℕ → ℕ → Fin 64 → EReal} {r : ℕ → ℕ → ℝ}

/-- The result of two heads side by side. -/
def result2 (q k : ℕ → ℕ → Fin 64 → ℝ) (v : ℕ → ℕ → Fin 64 → EReal) (r : ℕ → ℕ → ℝ) : S2048x128.Idx → EReal :=
  besideAny fun h t e => out (q h) (k h) (v h) (r h) t e

variable {x0 x1 x2 : Vec Ideal S2048x128 .bf16} {x3 : Vec Ideal S1x2x1024 .f32}
  (hq : x0 = beside q) (hk : x1 = beside k) (hv : x2 = besideAny v) (hr : x3 = biasRow r)

/-- The bias of a row against the whole window of 768 keys. -/
def Masked (r : ℕ → ℝ) (b : FVec Ideal S256x768 .f32) : Prop :=
  ∀ (i : Fin 256) (j : Fin 768), b (ix2 i j) = if i.val / 64 ≤ j.val / 64 ∧ j.val / 64 ≤ i.val / 64 + 8 then ((r (j.val + 255 - i.val) : ℝ) : EReal) else ⊥

theorem masked_word (b : EReal) (i : Fin 256) (j : Fin 768) :
    Scalar.select (IntOp.andi (IntOp.cmpi .sge (chunkWord (BitVec.ofNat 32 j.val)) (chunkWord (BitVec.ofNat 32 i.val)))
      (IntOp.cmpi .sle (chunkWord (BitVec.ofNat 32 j.val)) (IntOp.addi (chunkWord (BitVec.ofNat 32 i.val)) 8#32))) b (Named.named κ "mask" 0xF149F2CA#32 : Ideal .f32)
      = if i.val / 64 ≤ j.val / 64 ∧ j.val / 64 ≤ i.val / 64 + 8 then b else (⊥ : EReal) := by
  have hi := i.isLt
  have hj := j.isLt
  have ei := chunk ⟨i.val, by omega⟩
  simp only at ei
  rw [chunk j, ei, show (Named.named κ "mask" 0xF149F2CA#32 : Ideal .f32) = (⊥ : EReal) from rfl]
  have hr := reach ⟨i.val / 64, by omega⟩ ⟨j.val / 64, by omega⟩
  simp only at hr
  rw [hr]
  by_cases hc : i.val / 64 ≤ j.val / 64 ∧ j.val / 64 ≤ i.val / 64 + 8
  · rw [if_pos hc, decide_eq_true hc]; rfl
  · rw [if_neg hc, decide_eq_false hc]; rfl

include hr in
theorem bias0 : Masked (r 0) (k0_pay64 x0 x1 x2 x3) := fun i j => by
  have hi := i.isLt
  have hj := j.isLt
  pointwise [k0_pay64, k0_pay6, k0_pay2, k0_pay3, k0_pay4, k0_pay5]
  refine (masked_word _ i j).trans ?_
  refine if_congr Iff.rfl ?_ rfl
  rw [hr]
  refine congrArg _ (congrArg₂ r ?_ ?_)
  · rfl
  · show (j.val + 1024 - (769 + i.val) % 1024) % 1024 = _; omega

include hr in
theorem bias1 : Masked (r 1) (k0_pay65 x0 x1 x2 x3) := fun i j => by
  have hi := i.isLt
  have hj := j.isLt
  pointwise [k0_pay65, k0_pay11, k0_pay7, k0_pay8, k0_pay9, k0_pay10]
  refine (masked_word _ i j).trans ?_
  refine if_congr Iff.rfl ?_ rfl
  rw [hr]
  refine congrArg _ (congrArg₂ r ?_ ?_)
  · rfl
  · show (j.val + 1024 - (769 + i.val) % 1024) % 1024 = _; omega

/-- The part of the bias that a window of `n` keys needs. -/
structure Cut {n : ℕ} (b : ℕ) (w : Wide n) (cut : FVec Ideal S256x768 .f32 → FVec Ideal (Scores n) .f32) : Prop where
  good : Good w
  wide : n = 768 ∨ n = 256 * b + 256
  le : n ≤ 256 * b + 256
  lt : b < 8
  most : n ≤ 768
  cut : ∀ x (i : Fin 256) (c : Fin n) (j : Fin 768), j.val = 768 - n + c.val → cut x (ix2 i c) = x (ix2 i j)

def cut256 (x : FVec Ideal S256x768 .f32) : FVec Ideal (Scores 256) .f32 := extractStridedSlice S256x256 ![0, 512] x slices_S256x768_o0_512_S256x256
def cut512 (x : FVec Ideal S256x768 .f32) : FVec Ideal (Scores 512) .f32 := extractStridedSlice S256x512 ![0, 256] x slices_S256x768_o0_256_S256x512

theorem at256 : Cut 0 w256 cut256 := ⟨good256, .inr rfl, le_rfl, by decide, by decide, fun x i c j hj => by
  pointwise [cut256]; exact congrArg x (by idx_ext)⟩
theorem at512 : Cut 1 w512 cut512 := ⟨good512, .inr rfl, le_rfl, by decide, by decide, fun x i c j hj => by
  pointwise [cut512]; exact congrArg x (by idx_ext)⟩
theorem at768 {b : ℕ} (hb : b < 8) (h2 : 2 ≤ b) : Cut b w768 (fun x => x) := ⟨good768, .inl rfl, by omega, hb, le_rfl, fun x i c j hj =>
  congrArg x (congrArg _ (Fin.ext (by omega)))⟩

include hq hk hv in
/-- One store: a block's result for one head. -/
theorem piece {n b : ℕ} (h : ℕ) {w : Wide n} {cut : FVec Ideal S256x768 .f32 → FVec Ideal (Scores n) .f32} (z : Cut b w cut)
    {bv : FVec Ideal S256x768 .f32} (hb : Masked (r h) bv)
    (i0 : ∀ a, (![256 * b, 64 * h] : Fin 2 → ℕ) a + S256x64.size a ≤ S2048x128.size a)
    (i1 : ∀ a, (![256 * b + 256 - n, 64 * h] : Fin 2 → ℕ) a + (Keys n).size a ≤ S2048x128.size a) (y : S256x64.Idx) :
    attend w (score w (View.ld x0 (Rect.unit (s := S2048x128) ![256 * b, 64 * h] S256x64.size i0))
        (View.ld x1 (Rect.unit (s := S2048x128) ![256 * b + 256 - n, 64 * h] (Keys n).size i1)) (cut bv))
      (View.ld x2 (Rect.unit (s := S2048x128) ![256 * b + 256 - n, 64 * h] (Keys n).size i1)) y
      = result2 q k v r ((Rect.unit (s := S2048x128) ![256 * b, 64 * h] S256x64.size i0).emb y) := by
  obtain ⟨i, e, rfl⟩ : ∃ (i : Fin 256) (e : Fin 64), y = ix2 i e := ⟨y 0, y 1, funext fun a => match a with | 0 => rfl | 1 => rfl⟩
  refine (attend_is (q := q h) (k := k h) (v := v h) (r := r h) z.good z.wide z.le z.lt (fun i e => ?_) (fun c e => ?_) (fun c e => ?_) (fun i c => ?_) _ _).trans
    (besideAny_at (fun h t e => out (q h) (k h) (v h) (r h) t e) ((Rect.unit (s := S2048x128) ![256 * b, 64 * h] S256x64.size i0).emb (ix2 i e))
      h (256 * b + i.val) e (by show 256 * b + 1 * i.val = _; omega) (by show 64 * h + 1 * e.val = _; omega)).symm
  · rw [hq]
    exact beside_at _ _ _ _ _ (by show 256 * b + 1 * i.val = _; omega) (by show 64 * h + 1 * e.val = _; omega)
  · rw [hk]
    exact beside_at _ _ _ _ _ (by show 256 * b + 256 - n + 1 * c.val = _; omega) (by show 64 * h + 1 * e.val = _; omega)
  · rw [hv]
    exact besideAny_at _ _ _ _ _ (by show 256 * b + 256 - n + 1 * c.val = _; omega) (by show 64 * h + 1 * e.val = _; omega)
  · have := z.le; have := z.most; have hi := i.isLt; have hc := c.isLt
    rw [z.cut _ i c ⟨768 - n + c.val, by omega⟩ rfl, hb]
    have e1 : (i.val / 64 ≤ (768 - n + c.val) / 64 ∧ (768 - n + c.val) / 64 ≤ i.val / 64 + 8)
      ↔ Ok (256 * b + i.val) (256 * b + 256 - n + c.val) := by
      have := z.wide; unfold Ok; omega
    have e2 : 768 - n + c.val + 255 - i.val = 256 * b + 256 - n + c.val + 767 - (256 * b + i.val) := by omega
    exact if_congr e1 (by rw [e2]) rfl

include hq hk hv hr in
theorem out_is : out0_4 x0 x1 x2 x3 = result2 q k v r := by
  funext y
  have b0 := bias0 (x0 := x0) (x1 := x1) (x2 := x2) hr
  have b1 := bias1 (x0 := x0) (x1 := x1) (x2 := x2) hr
  unfold out0_4
  refine View.canon_apply_of_pieces (Val := Elt Ideal) (S := S2048x128) (e := .bf16) (result2 q k v r) _ ?_ y (cover0_4 _ _ _ _ _ _ _ _ _ _ _ _ _ _ _ _ y)
  refine List.forall_mem_cons.2 ⟨piece hq hk hv 1 (at768 (b := 7) (by decide) (by decide)) b1 _ _, ?_⟩
  refine List.forall_mem_cons.2 ⟨piece hq hk hv 0 (at768 (b := 7) (by decide) (by decide)) b0 _ _, ?_⟩
  refine List.forall_mem_cons.2 ⟨piece hq hk hv 1 (at768 (b := 6) (by decide) (by decide)) b1 _ _, ?_⟩
  refine List.forall_mem_cons.2 ⟨piece hq hk hv 0 (at768 (b := 6) (by decide) (by decide)) b0 _ _, ?_⟩
  refine List.forall_mem_cons.2 ⟨piece hq hk hv 1 (at768 (b := 5) (by decide) (by decide)) b1 _ _, ?_⟩
  refine List.forall_mem_cons.2 ⟨piece hq hk hv 0 (at768 (b := 5) (by decide) (by decide)) b0 _ _, ?_⟩
  refine List.forall_mem_cons.2 ⟨piece hq hk hv 1 (at768 (b := 4) (by decide) (by decide)) b1 _ _, ?_⟩
  refine List.forall_mem_cons.2 ⟨piece hq hk hv 0 (at768 (b := 4) (by decide) (by decide)) b0 _ _, ?_⟩
  refine List.forall_mem_cons.2 ⟨piece hq hk hv 1 (at768 (b := 3) (by decide) (by decide)) b1 _ _, ?_⟩
  refine List.forall_mem_cons.2 ⟨piece hq hk hv 0 (at768 (b := 3) (by decide) (by decide)) b0 _ _, ?_⟩
  refine List.forall_mem_cons.2 ⟨piece hq hk hv 1 (at768 (b := 2) (by decide) (by decide)) b1 _ _, ?_⟩
  refine List.forall_mem_cons.2 ⟨piece hq hk hv 0 (at768 (b := 2) (by decide) (by decide)) b0 _ _, ?_⟩
  refine List.forall_mem_cons.2 ⟨piece hq hk hv 1 at512 b1 _ _, ?_⟩
  refine List.forall_mem_cons.2 ⟨piece hq hk hv 0 at512 b0 _ _, ?_⟩
  refine List.forall_mem_cons.2 ⟨piece hq hk hv 1 at256 b1 _ _, ?_⟩
  refine List.forall_mem_cons.2 ⟨piece hq hk hv 0 at256 b0 _ _, ?_⟩
  exact fun _ h => absurd h List.not_mem_nil

end Point

/-! ## The whole array -/

/-- An entry of a matrix of any numbers, by numbers. -/
def cellAny {R C : ℕ} (x : (⟨2, ![R, C]⟩ : Shape).Idx → EReal) (r c : ℕ) : EReal := if h : r < R ∧ c < C then x (ix2 ⟨r, h.1⟩ ⟨c, h.2⟩) else 0

theorem cellAny_eq {R C : ℕ} (x : (⟨2, ![R, C]⟩ : Shape).Idx → EReal) (i : (⟨2, ![R, C]⟩ : Shape).Idx) (r c : ℕ) (h0 : (i 0).val = r) (h1 : (i 1).val = c) :
    x i = cellAny x r c := by
  subst h0; subst h1
  rw [cellAny, dif_pos ⟨(i 0).isLt, (i 1).isLt⟩]
  congr 1
  funext a
  match a with
  | 0 => rfl
  | 1 => rfl

/-- Head `h` of sequence `b` of the array's part `s`. -/
def partAny {R C : ℕ} (x : (⟨2, ![R, C]⟩ : Shape).Idx → EReal) (s b h : ℕ) (i : ℕ) (e : Fin 64) : EReal := cellAny x (2048 * b + i) (1024 * s + 64 * h + e.val)

/-- The queries and keys as real numbers. -/
abbrev real (x : S4096x3072.Idx → EReal) : S4096x3072.Idx → ℝ := fun i => (x i).toReal

variable (x : S4096x3072.Idx → EReal) (u : S8x2x1024.Idx → ℝ)

/-- The queries and the keys are finite. -/
def Fine : Prop := ∀ i : S4096x3072.Idx, (i 1).val < 2048 → x i = ((real x i : ℝ) : EReal)

def result (r c : ℕ) : EReal :=
  out (part (real x) 0 (r / 2048) (c / 64)) (part (real x) 1 (r / 2048) (c / 64)) (partAny x 2 (r / 2048) (c / 64)) (bias u (c / 64)) (r % 2048) ⟨c % 64, Nat.mod_lt _ (by decide)⟩

def wanted : S4096x1024.Idx → EReal := fun i => result x u (i 0).val (i 1).val

theorem lt16 (t : Fin cfg0.N) : t.val < 16 := lt_of_lt_of_eq t.isLt (show cfg0.N = 16 from N_0)

theorem idx0 : ∀ t : Fin grid0.N, win0_0.index t = ![t.val / 8, t.val % 8] := by decide +kernel
theorem idx1 : ∀ t : Fin grid0.N, win0_1.index t = ![t.val / 8, 8 + t.val % 8] := by decide +kernel
theorem idx2 : ∀ t : Fin grid0.N, win0_2.index t = ![t.val / 8, 16 + t.val % 8] := by decide +kernel
theorem idx3 : ∀ t : Fin grid0.N, win0_3.index t = ![t.val % 8, 0, 0] := by decide +kernel
theorem idx4 : ∀ t : Fin grid0.N, win0_4.index t = ![t.val / 8, t.val % 8] := by decide +kernel

variable (m : (ℓ : Loc nD τ sig) → Buf (Elt Ideal) ℓ) (c : Dev nD)

/-- The launch memory holds the two arrays. -/
structure Launched (x : S4096x3072.Idx → EReal) (u : S8x2x1024.Idx → ℝ) : Prop where
  qkv : m ((c : Thread nD τ).loc main_arg0) = x
  bias : m ((c : Thread nD τ).loc main_arg1) = up u
  fine : Fine x

abbrev pair (x : S4096x3072.Idx → EReal) (s : ℕ) (t : Fin cfg0.N) : ℕ → ℕ → Fin 64 → ℝ := fun h => part (real x) s (t.val / 8) (2 * (t.val % 8) + h)
abbrev pairAny (x : S4096x3072.Idx → EReal) (t : Fin cfg0.N) : ℕ → ℕ → Fin 64 → EReal := fun h => partAny x 2 (t.val / 8) (2 * (t.val % 8) + h)
abbrev pairBias (u : S8x2x1024.Idx → ℝ) (t : Fin cfg0.N) : ℕ → ℕ → ℝ := fun h => bias u (2 * (t.val % 8) + h)

variable {m c x u} (hm : Launched m c x u) (t : Fin cfg0.N)
include hm

theorem blk0 : iblk m c 0 t = beside (pair x 0 t) := by
  funext i
  idx_vars i
  blk_simp [iblk, idx0 t]
  rw [V_main_arg0, hm.qkv, hm.fine _ (by blk_simp [idx0 t]; omega)]
  refine congrArg ((↑) : ℝ → EReal) (cell_eq (real x) _ _ _ ?_ ?_)
  · blk_simp [idx0 t]; omega
  · blk_simp [idx0 t]; dsimp only; omega

theorem blk1 : iblk m c 1 t = beside (pair x 1 t) := by
  funext i
  idx_vars i
  blk_simp [iblk, idx1 t]
  rw [V_main_arg0, hm.qkv, hm.fine _ (by blk_simp [idx1 t]; omega)]
  refine congrArg ((↑) : ℝ → EReal) (cell_eq (real x) _ _ _ ?_ ?_)
  · blk_simp [idx1 t]; omega
  · blk_simp [idx1 t]; dsimp only; omega

theorem blk2 : iblk m c 2 t = besideAny (pairAny x t) := by
  funext i
  idx_vars i
  blk_simp [iblk, idx2 t]
  rw [V_main_arg0, hm.qkv]
  refine cellAny_eq x _ _ _ ?_ ?_
  · blk_simp [idx2 t]; omega
  · blk_simp [idx2 t]; dsimp only; omega

theorem blk3 : iblk m c 3 t = biasRow (pairBias u t) := by
  funext i
  idx_vars i
  blk_simp [iblk, idx3 t]
  rw [V_main_arg1, hm.bias]
  refine congrArg ((↑) : ℝ → EReal) (bias_eq u _ _ _ ?_ ?_)
  · blk_simp [idx3 t]; omega
  · blk_simp [idx3 t]; try (dsimp only; omega)

theorem final4 : (dats m 0 c).arrAt 4 cfg0.N = wanted x u := by
  refine (dats m 0 c).arrAt_eq_of_covers 4 _ (by decide +kernel) fun t hf z => ?_
  have ht := lt16 t
  blk_simp
  rw [after0_4, out_is (blk0 hm t) (blk1 hm t) (blk2 hm t) (blk3 hm t)]
  idx_vars z
  rw [show ((View.whole main_v0).slice (win0_4.rect t)).emb (ix2 z0 z1)
      = ix2 ⟨t.val / 8 * 2048 + z0.val, by omega⟩ ⟨t.val % 8 * 128 + z1.val, by omega⟩ by blk_ext [idx4 t]]
  have e1 : (t.val / 8 * 2048 + z0.val) / 2048 = t.val / 8 := by omega
  have e2 : (t.val / 8 * 2048 + z0.val) % 2048 = z0.val := by omega
  have e3 : (t.val % 8 * 128 + z1.val) / 64 = 2 * (t.val % 8) + z1.val / 64 := by omega
  have e4 : (t.val % 8 * 128 + z1.val) % 64 = z1.val % 64 := by omega
  show _ = result x u (t.val / 8 * 2048 + z0.val) (t.val % 8 * 128 + z1.val)
  unfold result
  simp only [e1, e2, e3, e4]
  rfl

end Cert.AfArray

end
-- ==== Proof.SfTrip.lean ====
module

public import proofs.«01_k».proof.Proof.SfTrace
public import proofs.«01_k».proof.Proof.SfBlock
public import proofs.«01_k».proof.Proof.SfFrame
public import proofs.«01_k».proof.Proof.SbAcc
public import proofs.«01_k».proof.Proof.AfArray

/-!
# The forward kernel's outer loop over the reals

After some pairs of blocks of queries, the written blocks hold those queries' results.
-/

@[expose] public section

noncomputable section

namespace Cert.SfTrip

open Idealize.ShloMosaic Idealize.ShloMosaic.TcCoe Cert.SfFwdIdeal Cert.SfFwdIdeal.Gen
open Cert.SbReal Cert.SfBlock Cert.SfTrace
open Cert.SbBlock (Is2 Placed)
open Cert.SbAcc (beside beside_at word_eighth)
open Cert.AfArray (besideAny besideAny_at)
open Cert.SfStep hiding none

theorem vec2 {a a' b b' : ℕ} (h : a = a') (h' : b = b') : (![a, b] : Fin 2 → ℕ) = ![a', b'] := by rw [h, h']

theorem even_trips : ∀ k : Fin k0_t1_loop.trips, (k0_t2_loop k).trips = k.val := by decide +kernel
theorem odd_trips : ∀ k : Fin k0_t1_loop.trips, (k0_t4_loop k).trips = k.val := by decide +kernel

theorem off3 : ∀ (k : Fin k0_t1_loop.trips) (t : Fin (k0_t2_loop k).trips), k0_off3 k t = ![512 * (k.val - (t.val + 1)) + 256, 64 * 0] := by decide +kernel
theorem off4 : ∀ (k : Fin k0_t1_loop.trips) (t : Fin (k0_t2_loop k).trips), k0_off4 k t = ![512 * (k.val - (t.val + 1)), 64 * 0] := by decide +kernel
theorem off5 : ∀ (k : Fin k0_t1_loop.trips) (t : Fin (k0_t2_loop k).trips), k0_off5 k t = ![512 * (k.val - (t.val + 1)) + 256, 64 * 1] := by decide +kernel
theorem off6 : ∀ (k : Fin k0_t1_loop.trips) (t : Fin (k0_t2_loop k).trips), k0_off6 k t = ![512 * (k.val - (t.val + 1)), 64 * 1] := by decide +kernel
theorem off15 : ∀ (k : Fin k0_t1_loop.trips) (t : Fin (k0_t4_loop k).trips), k0_off15 k t = ![512 * (k.val - (t.val + 1)) + 256, 64 * 0] := by decide +kernel
theorem off16 : ∀ (k : Fin k0_t1_loop.trips) (t : Fin (k0_t4_loop k).trips), k0_off16 k t = ![512 * (k.val - (t.val + 1)), 64 * 0] := by decide +kernel
theorem off17 : ∀ (k : Fin k0_t1_loop.trips) (t : Fin (k0_t4_loop k).trips), k0_off17 k t = ![512 * (k.val - (t.val + 1)) + 256, 64 * 1] := by decide +kernel
theorem off18 : ∀ (k : Fin k0_t1_loop.trips) (t : Fin (k0_t4_loop k).trips), k0_off18 k t = ![512 * (k.val - (t.val + 1)), 64 * 1] := by decide +kernel

section

variable {f : ℕ → ℕ → Fin 64 → ℝ} {g : ℕ → ℕ → Fin 64 → EReal} {R h : ℕ}

theorem tile_is (m : Memref sig .tc .vmem S2048x128 .bf16) (X : BufTy.Contents (Elt Ideal) m.view.ty) (hX : m.view.read (Elt Ideal) X = beside f)
    {o : Fin 2 → Nat} (inb : ∀ a, o a + S256x64.size a ≤ S2048x128.size a) (ho : o = ![R, 64 * h]) :
    Is2 (tile m X inb) fun r e => f h (R + r.val) e := fun r e => by
  subst ho
  show m.view.read (Elt Ideal) X _ = _
  rw [hX]
  exact beside_at _ _ _ _ _ (by show R + 1 * r.val = _; omega) (by show 64 * h + 1 * e.val = _; omega)

theorem tile_any (m : Memref sig .tc .vmem S2048x128 .bf16) (X : BufTy.Contents (Elt Ideal) m.view.ty) (hX : m.view.read (Elt Ideal) X = besideAny g)
    {o : Fin 2 → Nat} (inb : ∀ a, o a + S256x64.size a ≤ S2048x128.size a) (ho : o = ![R, 64 * h]) (r : Fin 256) (e : Fin 64) :
    tile m X inb (ix2 r e) = g h (R + r.val) e := by
  subst ho
  show m.view.read (Elt Ideal) X _ = _
  rw [hX]
  exact besideAny_at _ _ _ _ _ (by show R + 1 * r.val = _; omega) (by show 64 * h + 1 * e.val = _; omega)

theorem scaled_is (m : Memref sig .tc .vmem S2048x128 .bf16) (X : BufTy.Contents (Elt Ideal) m.view.ty) (hX : m.view.read (Elt Ideal) X = beside f)
    {o : Fin 2 → Nat} (inb : ∀ a, o a + S256x64.size a ≤ S2048x128.size a) (ho : o = ![R, 64 * h]) :
    Is2 (scaled (tile m X inb)) fun r e => f h (R + r.val) e * (1 / 8) := fun r e => by
  pointwise [k0_pay99]
  rw [tile_is m X hX inb ho r e, word_eighth, ← EReal.coe_mul]

/-- A store of a head's 256 rows that agree with `g` keeps the agreement and adds the rows to it. -/
theorem agree_narrow (m : Memref sig .tc .vmem S2048x128 .bf16) (f : BufTy.Contents (Elt Ideal) m.view.ty) (L : List (View.Piece (Elt Ideal) S2048x128 .bf16))
    {D D' : S2048x128.Idx → Prop} (hL : ∀ y, D y → m.view.read (Elt Ideal) (m.view.writes (Elt Ideal) f L) y = besideAny g y)
    {o : Fin 2 → ℕ} (inb : ∀ a, o a + S256x64.size a ≤ S2048x128.size a) {n h : ℕ} (ho : o = ![256 * n, 64 * h]) (w : FVec Ideal S256x64 .bf16)
    (hw : ∀ (r : Fin 256) (e : Fin 64), w (ix2 r e) = g h (256 * n + r.val) e)
    (hD : ∀ y : S2048x128.Idx, D' y → D y ∨ (256 * n ≤ (y 0).val ∧ (y 0).val < 256 * n + 256 ∧ (y 1).val / 64 = h))
    (y : S2048x128.Idx) (hy : D' y) :
    m.view.read (Elt Ideal) (m.view.writes (Elt Ideal) f (⟨Rect.unit (s := S2048x128) o S256x64.size inb, w⟩ :: L)) y = besideAny g y := by
  rw [View.read_writes_cons_put m.view f inb w L ho]
  unfold VecWindow.put
  split
  next hi =>
    have h0 : 256 * n ≤ (y 0).val ∧ (y 0).val < 256 * n + 256 := hi 0
    have h1 : 64 * h ≤ (y 1).val ∧ (y 1).val < 64 * h + 64 := hi 1
    refine Eq.trans (congrArg w ?_) ((hw ⟨(y 0).val - 256 * n, by omega⟩ ⟨(y 1).val - 64 * h, by omega⟩).trans
      (besideAny_at g y h _ ⟨(y 1).val - 64 * h, by omega⟩ ?_ ?_).symm)
    · refine funext fun a => Fin.ext ?_
      match a with
      | 0 => rfl
      | 1 => rfl
    · show (y 0).val = 256 * n + ((y 0).val - 256 * n); omega
    · show (y 1).val = 64 * h + ((y 1).val - 64 * h); omega
  next hi =>
    refine hL y ((hD y hy).resolve_right fun ⟨a, b, e⟩ => hi fun x => ?_)
    match x with
    | 0 => exact ⟨a, b⟩
    | 1 => show 64 * h ≤ (y 1).val ∧ (y 1).val < 64 * h + 64; omega

/-- A store of a head's 256 rows that agree with `g` keeps the agreement and adds the rows to it. -/
theorem agree_spread (m : Memref sig .tc .vmem S2048x128 .f32) (f : BufTy.Contents (Elt Ideal) m.view.ty) (L : List (View.Piece (Elt Ideal) S2048x128 .f32))
    {D D' : S2048x128.Idx → Prop} (hL : ∀ y, D y → m.view.read (Elt Ideal) (m.view.writes (Elt Ideal) f L) y = besideAny g y)
    {o : Fin 2 → ℕ} (inb : ∀ a, o a + S256x64.size a ≤ S2048x128.size a) {n h : ℕ} (ho : o = ![256 * n, 64 * h]) (w : FVec Ideal S256x64 .f32)
    (hw : ∀ (r : Fin 256) (e : Fin 64), w (ix2 r e) = g h (256 * n + r.val) e)
    (hD : ∀ y : S2048x128.Idx, D' y → D y ∨ (256 * n ≤ (y 0).val ∧ (y 0).val < 256 * n + 256 ∧ (y 1).val / 64 = h))
    (y : S2048x128.Idx) (hy : D' y) :
    m.view.read (Elt Ideal) (m.view.writes (Elt Ideal) f (⟨Rect.unit (s := S2048x128) o S256x64.size inb, w⟩ :: L)) y = besideAny g y := by
  rw [View.read_writes_cons_put m.view f inb w L ho]
  unfold VecWindow.put
  split
  next hi =>
    have h0 : 256 * n ≤ (y 0).val ∧ (y 0).val < 256 * n + 256 := hi 0
    have h1 : 64 * h ≤ (y 1).val ∧ (y 1).val < 64 * h + 64 := hi 1
    refine Eq.trans (congrArg w ?_) ((hw ⟨(y 0).val - 256 * n, by omega⟩ ⟨(y 1).val - 64 * h, by omega⟩).trans
      (besideAny_at g y h _ ⟨(y 1).val - 64 * h, by omega⟩ ?_ ?_).symm)
    · refine funext fun a => Fin.ext ?_
      match a with
      | 0 => rfl
      | 1 => rfl
    · show (y 0).val = 256 * n + ((y 0).val - 256 * n); omega
    · show (y 1).val = 64 * h + ((y 1).val - 64 * h); omega
  next hi =>
    refine hL y ((hD y hy).resolve_right fun ⟨a, b, e⟩ => hi fun x => ?_)
    match x with
    | 0 => exact ⟨a, b⟩
    | 1 => show 64 * h ≤ (y 1).val ∧ (y 1).val < 64 * h + 64; omega

end

variable {q κ : ℕ → ℕ → Fin 64 → ℝ} {v : ℕ → ℕ → Fin 64 → EReal}

/-- The attention's result and the logs' sums, by head, row and feature. -/
def outs (q κ : ℕ → ℕ → Fin 64 → ℝ) (v : ℕ → ℕ → Fin 64 → EReal) (h i : ℕ) (e : Fin 64) : EReal :=
  ∑ l ∈ Finset.range 2048, ((A (q h) (κ h) i l : ℝ) : EReal) * v h l e
def sums (q κ : ℕ → ℕ → Fin 64 → ℝ) (_ : ℕ → ℕ → Fin 64 → EReal) (h i : ℕ) (_ : Fin 64) : EReal := ((N (q h) (κ h) i : ℝ) : EReal)

theorem outs_end {h R : ℕ} {st : State Ideal} (hz : Tail (q h) (κ h) (v h) R 0 st) (hR : R + 256 ≤ 2048) (r : Fin 256) (e : Fin 64) :
    narrow st.2 (ix2 r e) = outs q κ v h (R + r.val) e := by
  pointwise []
  exact tail_all hz hR r e

theorem sums_end {h R : ℕ} {st : State Ideal} (hz : Tail (q h) (κ h) (v h) R 0 st) (_ : R + 256 ≤ 2048) (r : Fin 256) (e : Fin 64) :
    spread st.1 (ix2 r e) = sums q κ v h (R + r.val) e := by
  pointwise [k0_pay2]
  exact tail_logs hz r

variable (c : Dev nD) (i : grid0.Coords)
  (b2 : Memref sig .tc .vmem S2048x128 .bf16) (w2 : b2.IsWhole)
  (b3 : Memref sig .tc .vmem S2048x128 .bf16) (w3 : b3.IsWhole)
  (b4 : Memref sig .tc .vmem S2048x128 .bf16) (w4 : b4.IsWhole)
  (b5 : Memref sig .tc .vmem S2048x128 .bf16) (w5 : b5.IsWhole)
  (b6 : Memref sig .tc .vmem S2048x128 .f32) (w6 : b6.IsWhole)
  (X2 : BufTy.Contents (Elt Ideal) b2.view.ty) (X3 : BufTy.Contents (Elt Ideal) b3.view.ty)
  (X4 : BufTy.Contents (Elt Ideal) b4.view.ty)
  (h2 : b2.view.read (Elt Ideal) X2 = beside q) (h3 : b3.view.read (Elt Ideal) X3 = beside κ)
  (h4 : b4.view.read (Elt Ideal) X4 = besideAny v)

section
include h3 h4

/-- A block of keys before the queries. -/
theorem one {h R C : ℕ} {dg : Bool} {s : FVec Ideal S256x64 .bf16} {z : State Ideal} (hz : Tail (q h) (κ h) (v h) R (C + 256) z)
    (hs : Is2 s fun r e => q h (R + r.val) e * (1 / 8)) (hp : Placed dg R C) (hC : C ≤ R)
    {o : Fin 2 → Nat} (inb : ∀ a, o a + S256x64.size a ≤ S2048x128.size a) (ho : o = ![C, 64 * h]) :
    Tail (q h) (κ h) (v h) R C (go dg s (tile b3 X3 inb) (tile b4 X4 inb) z) :=
  go_tail hp hs (tile_is b3 X3 h3 inb ho) (tile_any b4 X4 h4 inb ho) hz (by omega)

theorem pair {h R C : ℕ} {s : FVec Ideal S256x64 .bf16} {z : State Ideal} (hz : Tail (q h) (κ h) (v h) R (C + 512) z)
    (hs : Is2 s fun r e => q h (R + r.val) e * (1 / 8)) (hC : C + 512 ≤ R) {o o' : Fin 2 → Nat}
    (inb : ∀ a, o a + S256x64.size a ≤ S2048x128.size a) (inb' : ∀ a, o' a + S256x64.size a ≤ S2048x128.size a)
    (ho : o = ![C + 256, 64 * h]) (ho' : o' = ![C, 64 * h]) :
    Tail (q h) (κ h) (v h) R C (go false s (tile b3 X3 inb') (tile b4 X4 inb') (go false s (tile b3 X3 inb) (tile b4 X4 inb) z)) :=
  one b3 b4 X3 X4 h3 h4 (one b3 b4 X3 X4 h3 h4 (C := C + 256) hz hs (by unfold Placed; simp; omega) (by omega) inb ho) hs
    (by unfold Placed; simp; omega) (by omega) inb' ho'

end

variable (k : Fin k0_t1_loop.trips)

include h2 h3 h4

theorem even_start : Tail (q 0) (κ 0) (v 0) (512 * k.val) (512 * (k.val - 0)) (fst (evenStart b2 b3 b4 X2 X3 X4 k)) ∧
    Tail (q 1) (κ 1) (v 1) (512 * k.val) (512 * (k.val - 0)) (snd (evenStart b2 b3 b4 X2 X3 X4 k)) := by
  have hk : k.val < 4 := lt_of_lt_of_eq k.isLt (by decide)
  rw [even_zero]
  exact ⟨one (h := 0) b3 b4 X3 X4 h3 h4 (tail_none (by omega)) (scaled_is (h := 0) b2 X2 h2 (k0_off1_inb k) (k0_off1_eq k)) (by simp [Placed]) le_rfl (k0_off1_inb k) (k0_off1_eq k),
    one (h := 1) b3 b4 X3 X4 h3 h4 (tail_none (by omega)) (scaled_is (h := 1) b2 X2 h2 (k0_off2_inb k) (k0_off2_eq k)) (by simp [Placed]) le_rfl (k0_off2_inb k) (k0_off2_eq k)⟩

theorem odd_start : Tail (q 0) (κ 0) (v 0) (512 * k.val + 256) (512 * (k.val - 0)) (fst (oddStart b2 b3 b4 X2 X3 X4 k)) ∧
    Tail (q 1) (κ 1) (v 1) (512 * k.val + 256) (512 * (k.val - 0)) (snd (oddStart b2 b3 b4 X2 X3 X4 k)) := by
  have hk : k.val < 4 := lt_of_lt_of_eq k.isLt (by decide)
  have s0 := scaled_is (h := 0) b2 X2 h2 (k0_off11_inb k) (k0_off11_eq k)
  have s1 := scaled_is (h := 1) b2 X2 h2 (k0_off12_inb k) (k0_off12_eq k)
  rw [odd_zero]
  exact ⟨one (h := 0) b3 b4 X3 X4 h3 h4 (one (h := 0) b3 b4 X3 X4 h3 h4 (tail_none (by omega)) s0 (by simp [Placed]) le_rfl (k0_off11_inb k) (k0_off11_eq k))
      s0 (by simp [Placed]) (by omega) (k0_off13_inb k) (k0_off13_eq k),
    one (h := 1) b3 b4 X3 X4 h3 h4 (one (h := 1) b3 b4 X3 X4 h3 h4 (tail_none (by omega)) s1 (by simp [Placed]) le_rfl (k0_off12_inb k) (k0_off12_eq k))
      s1 (by simp [Placed]) (by omega) (k0_off14_inb k) (k0_off14_eq k)⟩

/-- The loop at an even block of queries. -/
theorem even_at (t : ℕ) (ht : t ≤ k.val) :
    Tail (q 0) (κ 0) (v 0) (512 * k.val) (512 * (k.val - t)) (fst (evenLoop c i b2 w2 b3 w3 b4 w4 b5 w5 b6 w6 X2 X3 X4 k t)) ∧ Tail (q 1) (κ 1) (v 1) (512 * k.val) (512 * (k.val - t)) (snd (evenLoop c i b2 w2 b3 w3 b4 w4 b5 w5 b6 w6 X2 X3 X4 k t)) := by
  have hk : k.val < 4 := lt_of_lt_of_eq k.isLt (by decide)
  have s0 := scaled_is (h := 0) b2 X2 h2 (k0_off1_inb k) (k0_off1_eq k)
  have s1 := scaled_is (h := 1) b2 X2 h2 (k0_off2_inb k) (k0_off2_eq k)
  induction t with
  | zero => exact even_start b2 b3 b4 X2 X3 X4 h2 h3 h4 k
  | succ t ih =>
    have ht' : t < (k0_t2_loop k).trips := by rw [even_trips]; omega
    have hs := even_succ c i b2 w2 b3 w3 b4 w4 b5 w5 b6 w6 X2 X3 X4 k ⟨t, ht'⟩
    dsimp only at hs
    rw [hs]
    obtain ⟨z0, z1⟩ := ih (by omega)
    have hC : 512 * (k.val - t) = 512 * (k.val - (t + 1)) + 512 := by omega
    rw [hC] at z0 z1
    exact ⟨pair (h := 0) b3 b4 X3 X4 h3 h4 z0 s0 (by omega) (k0_off3_inb k ⟨t, ht'⟩) (k0_off4_inb k ⟨t, ht'⟩)
        (off3 k ⟨t, ht'⟩) (off4 k ⟨t, ht'⟩),
      pair (h := 1) b3 b4 X3 X4 h3 h4 z1 s1 (by omega) (k0_off5_inb k ⟨t, ht'⟩) (k0_off6_inb k ⟨t, ht'⟩)
        (off5 k ⟨t, ht'⟩) (off6 k ⟨t, ht'⟩)⟩

/-- The loop at an odd block of queries. -/
theorem odd_at (t : ℕ) (ht : t ≤ k.val) :
    Tail (q 0) (κ 0) (v 0) (512 * k.val + 256) (512 * (k.val - t)) (fst (oddLoop c i b2 w2 b3 w3 b4 w4 b5 w5 b6 w6 X2 X3 X4 k t)) ∧ Tail (q 1) (κ 1) (v 1) (512 * k.val + 256) (512 * (k.val - t)) (snd (oddLoop c i b2 w2 b3 w3 b4 w4 b5 w5 b6 w6 X2 X3 X4 k t)) := by
  have hk : k.val < 4 := lt_of_lt_of_eq k.isLt (by decide)
  have s0 := scaled_is (h := 0) b2 X2 h2 (k0_off11_inb k) (k0_off11_eq k)
  have s1 := scaled_is (h := 1) b2 X2 h2 (k0_off12_inb k) (k0_off12_eq k)
  induction t with
  | zero => exact odd_start b2 b3 b4 X2 X3 X4 h2 h3 h4 k
  | succ t ih =>
    have ht' : t < (k0_t4_loop k).trips := by rw [odd_trips]; omega
    have hs := odd_succ c i b2 w2 b3 w3 b4 w4 b5 w5 b6 w6 X2 X3 X4 k ⟨t, ht'⟩
    dsimp only at hs
    rw [hs]
    obtain ⟨z0, z1⟩ := ih (by omega)
    have hC : 512 * (k.val - t) = 512 * (k.val - (t + 1)) + 512 := by omega
    rw [hC] at z0 z1
    exact ⟨pair (h := 0) b3 b4 X3 X4 h3 h4 z0 s0 (by omega) (k0_off15_inb k ⟨t, ht'⟩) (k0_off16_inb k ⟨t, ht'⟩)
        (off15 k ⟨t, ht'⟩) (off16 k ⟨t, ht'⟩),
      pair (h := 1) b3 b4 X3 X4 h3 h4 z1 s1 (by omega) (k0_off17_inb k ⟨t, ht'⟩) (k0_off18_inb k ⟨t, ht'⟩)
        (off17 k ⟨t, ht'⟩) (off18 k ⟨t, ht'⟩)⟩

theorem even_end : Tail (q 0) (κ 0) (v 0) (512 * k.val) 0 (fst (evenEnd c i b2 w2 b3 w3 b4 w4 b5 w5 b6 w6 X2 X3 X4 k)) ∧ Tail (q 1) (κ 1) (v 1) (512 * k.val) 0 (snd (evenEnd c i b2 w2 b3 w3 b4 w4 b5 w5 b6 w6 X2 X3 X4 k)) := by
  have := even_at c i b2 w2 b3 w3 b4 w4 b5 w5 b6 w6 X2 X3 X4 h2 h3 h4 k k.val le_rfl
  rw [Nat.sub_self, Nat.mul_zero] at this
  unfold evenEnd
  rwa [show Scf.trips (k0_t2_loop k).lb (k0_t2_loop k).ub (k0_t2_loop k).st = k.val from even_trips k]

theorem odd_end : Tail (q 0) (κ 0) (v 0) (512 * k.val + 256) 0 (fst (oddEnd c i b2 w2 b3 w3 b4 w4 b5 w5 b6 w6 X2 X3 X4 k)) ∧ Tail (q 1) (κ 1) (v 1) (512 * k.val + 256) 0 (snd (oddEnd c i b2 w2 b3 w3 b4 w4 b5 w5 b6 w6 X2 X3 X4 k)) := by
  have := odd_at c i b2 w2 b3 w3 b4 w4 b5 w5 b6 w6 X2 X3 X4 h2 h3 h4 k k.val le_rfl
  rw [Nat.sub_self, Nat.mul_zero] at this
  unfold oddEnd
  rwa [show Scf.trips (k0_t4_loop k).lb (k0_t4_loop k).ub (k0_t4_loop k).st = k.val from odd_trips k]

/-- A trip's stores: the weighted values. -/
theorem trip_outs (f : BufTy.Contents (Elt Ideal) b5.view.ty)
    (hf : ∀ y : S2048x128.Idx, (y 0).val < 512 * k.val → b5.view.read (Elt Ideal) f y = besideAny (outs q κ v) y)
    (y : S2048x128.Idx) (hy : (y 0).val < 512 * (k.val + 1)) :
    b5.view.read (Elt Ideal) ((SfBody.trip c i b2 w2 b3 w3 b4 w4 b5 w5 b6 w6 X2 X3 X4 k).1 f) y = besideAny (outs q κ v) y := by
  have hk : k.val < 4 := lt_of_lt_of_eq k.isLt (by decide)
  have hE := even_end c i b2 w2 b3 w3 b4 w4 b5 w5 b6 w6 X2 X3 X4 h2 h3 h4 k
  have hO := odd_end c i b2 w2 b3 w3 b4 w4 b5 w5 b6 w6 X2 X3 X4 h2 h3 h4 k
  rw [trip_fst]
  refine agree_narrow (g := outs q κ v) (n := 2 * k.val + 1) (h := 1) b5 f _ (D := fun y => (y 0).val < 512 * k.val + 256 ∨ ((y 0).val < 512 * k.val + 512 ∧ (y 1).val / 64 = 0)) (D' := fun y => (y 0).val < 512 * k.val + 512) ?_ (k0_off12_inb k)
    ((k0_off12_eq k).trans (vec2 (by omega) rfl)) _ (fun r e => (outs_end (hO.2) (by omega) r e).trans (congrArg (fun x => outs q κ v 1 x e) (by omega))) (fun y hy => ?_) y (by omega)
  swap
  · have : (y 1).val < 128 := (y 1).isLt
    omega
  refine agree_narrow (g := outs q κ v) (n := 2 * k.val + 1) (h := 0) b5 f _ (D := fun y => (y 0).val < 512 * k.val + 256) ?_ (k0_off11_inb k)
    ((k0_off11_eq k).trans (vec2 (by omega) rfl)) _ (fun r e => (outs_end (hO.1) (by omega) r e).trans (congrArg (fun x => outs q κ v 0 x e) (by omega))) (fun y hy => ?_)
  swap
  · have : (y 1).val < 128 := (y 1).isLt
    omega
  refine agree_narrow (g := outs q κ v) (n := 2 * k.val) (h := 1) b5 f _ (D := fun y => (y 0).val < 512 * k.val ∨ ((y 0).val < 512 * k.val + 256 ∧ (y 1).val / 64 = 0)) ?_ (k0_off2_inb k)
    ((k0_off2_eq k).trans (vec2 (by omega) rfl)) _ (fun r e => (outs_end (hE.2) (by omega) r e).trans (congrArg (fun x => outs q κ v 1 x e) (by omega))) (fun y hy => ?_)
  swap
  · have : (y 1).val < 128 := (y 1).isLt
    omega
  refine agree_narrow (g := outs q κ v) (n := 2 * k.val) (h := 0) b5 f _ (D := fun y => (y 0).val < 512 * k.val) ?_ (k0_off1_inb k)
    ((k0_off1_eq k).trans (vec2 (by omega) rfl)) _ (fun r e => (outs_end (hE.1) (by omega) r e).trans (congrArg (fun x => outs q κ v 0 x e) (by omega))) (fun y hy => ?_)
  swap
  · have : (y 1).val < 128 := (y 1).isLt
    omega
  exact hf

/-- A trip's stores: the logs' sums. -/
theorem trip_sums (f : BufTy.Contents (Elt Ideal) b6.view.ty)
    (hf : ∀ y : S2048x128.Idx, (y 0).val < 512 * k.val → b6.view.read (Elt Ideal) f y = besideAny (sums q κ v) y)
    (y : S2048x128.Idx) (hy : (y 0).val < 512 * (k.val + 1)) :
    b6.view.read (Elt Ideal) ((SfBody.trip c i b2 w2 b3 w3 b4 w4 b5 w5 b6 w6 X2 X3 X4 k).2.1 f) y = besideAny (sums q κ v) y := by
  have hk : k.val < 4 := lt_of_lt_of_eq k.isLt (by decide)
  have hE := even_end c i b2 w2 b3 w3 b4 w4 b5 w5 b6 w6 X2 X3 X4 h2 h3 h4 k
  have hO := odd_end c i b2 w2 b3 w3 b4 w4 b5 w5 b6 w6 X2 X3 X4 h2 h3 h4 k
  rw [trip_snd]
  refine agree_spread (g := sums q κ v) (n := 2 * k.val + 1) (h := 1) b6 f _ (D := fun y => (y 0).val < 512 * k.val + 256 ∨ ((y 0).val < 512 * k.val + 512 ∧ (y 1).val / 64 = 0)) (D' := fun y => (y 0).val < 512 * k.val + 512) ?_ (k0_off12_inb k)
    ((k0_off12_eq k).trans (vec2 (by omega) rfl)) _ (fun r e => (sums_end (hO.2) (by omega) r e).trans (congrArg (fun x => sums q κ v 1 x e) (by omega))) (fun y hy => ?_) y (by omega)
  swap
  · have : (y 1).val < 128 := (y 1).isLt
    omega
  refine agree_spread (g := sums q κ v) (n := 2 * k.val + 1) (h := 0) b6 f _ (D := fun y => (y 0).val < 512 * k.val + 256) ?_ (k0_off11_inb k)
    ((k0_off11_eq k).trans (vec2 (by omega) rfl)) _ (fun r e => (sums_end (hO.1) (by omega) r e).trans (congrArg (fun x => sums q κ v 0 x e) (by omega))) (fun y hy => ?_)
  swap
  · have : (y 1).val < 128 := (y 1).isLt
    omega
  refine agree_spread (g := sums q κ v) (n := 2 * k.val) (h := 1) b6 f _ (D := fun y => (y 0).val < 512 * k.val ∨ ((y 0).val < 512 * k.val + 256 ∧ (y 1).val / 64 = 0)) ?_ (k0_off2_inb k)
    ((k0_off2_eq k).trans (vec2 (by omega) rfl)) _ (fun r e => (sums_end (hE.2) (by omega) r e).trans (congrArg (fun x => sums q κ v 1 x e) (by omega))) (fun y hy => ?_)
  swap
  · have : (y 1).val < 128 := (y 1).isLt
    omega
  refine agree_spread (g := sums q κ v) (n := 2 * k.val) (h := 0) b6 f _ (D := fun y => (y 0).val < 512 * k.val) ?_ (k0_off1_inb k)
    ((k0_off1_eq k).trans (vec2 (by omega) rfl)) _ (fun r e => (sums_end (hE.1) (by omega) r e).trans (congrArg (fun x => sums q κ v 0 x e) (by omega))) (fun y hy => ?_)
  swap
  · have : (y 1).val < 128 := (y 1).isLt
    omega
  exact hf

omit h2 h3 h4 in
/-- What the loop keeps: the results of the queries done so far. -/
def Inv (q κ : ℕ → ℕ → Fin 64 → ℝ) (v : ℕ → ℕ → Fin 64 → EReal) (m5 : Memref sig .tc .vmem S2048x128 .bf16) (m6 : Memref sig .tc .vmem S2048x128 .f32) (T : ℕ)
    (g5 : BufTy.Contents (Elt Ideal) m5.view.ty) (g6 : BufTy.Contents (Elt Ideal) m6.view.ty) : Prop :=
  (∀ y : S2048x128.Idx, (y 0).val < 512 * T → m5.view.read (Elt Ideal) g5 y = besideAny (outs q κ v) y)
    ∧ ∀ y : S2048x128.Idx, (y 0).val < 512 * T → m6.view.read (Elt Ideal) g6 y = besideAny (sums q κ v) y

/-- The loop keeps it. -/
theorem kept : SfBody.Kept c i b2 w2 b3 w3 b4 w4 b5 w5 b6 w6 X2 X3 X4 (Inv q κ v b5 b6) where
  start f5 f6 := ⟨fun y hy => absurd hy (by omega), fun y hy => absurd hy (by omega)⟩
  next k f5 f6 h := ⟨trip_outs c i b2 w2 b3 w3 b4 w4 b5 w5 b6 w6 X2 X3 X4 h2 h3 h4 k f5 h.1, trip_sums c i b2 w2 b3 w3 b4 w4 b5 w5 b6 w6 X2 X3 X4 h2 h3 h4 k f6 h.2⟩

end Cert.SfTrip

namespace Cert.SfTrip

open Idealize.ShloMosaic Idealize.ShloMosaic.TcCoe Cert.SfFwdIdeal Cert.SfFwdIdeal.Gen
open Cert.SbAcc (beside)
open Cert.AfArray (besideAny)

/-- At a point whose blocks hold two heads' data, the body leaves their results. -/
theorem works (m : (ℓ : Loc nD τ sig) → Buf (Elt Ideal) ℓ) (c : Dev nD) (t : Fin cfg0.N) {q κ : ℕ → ℕ → Fin 64 → ℝ} {v : ℕ → ℕ → Fin 64 → EReal}
    (h0 : iblk m c 0 t = beside q) (h1 : iblk m c 1 t = beside κ) (h2 : iblk m c 2 t = besideAny v) :
    SfFrame.Works m c t fun X Y => X = besideAny (outs q κ v) ∧ Y = besideAny (sums q κ v) := by
  intro X2 X3 X4 e2 e3 e4
  refine ⟨_, kept _ _ _ _ _ _ _ _ _ _ _ _ X2 X3 X4 (e2.trans h0) (e3.trans h1) (e4.trans h2), fun g5 g6 h => ?_⟩
  rw [show k0_t1_loop.trips = 4 by decide] at h
  exact ⟨funext fun y => h.1 y (y 0).isLt, funext fun y => h.2 y (y 0).isLt⟩

end Cert.SfTrip

end
-- ==== Proof.SfRef.lean ====
module

public import proofs.«01_k».proof.Proof.AfArray
public import proofs.«01_k».proof.Proof.SbRef
public import proofs.«01_k».proof.Proof.Gen.SfFormIdeal.Read

/-!
# What the stick-breaking attention's reference computes
-/

@[expose] public section

noncomputable section

namespace Cert.SfRef

open Idealize.ShloMosaic Cert.Reals Cert.SbReal Cert.SbData Cert.SfFormIdeal Cert.SfFormIdeal.Read
open Cert.SbRef (sp soft sp_neg neg_sp select_mask word_bot)
open Cert.AfArray (cellAny cellAny_eq partAny real Fine)

theorem v18 (i j : Fin 2048) : val_main_v18 (F := Ideal) (ix2 i j) = BitVec.ofBool (decide (j.val < i.val)) := by
  pointwise [val_main_v18, val_main_v16, val_main_v17, val_main_v15, val_main_v14, val_main_v13, val_main_v12]
  exact Cert.SbRef.mask i j

section Parts

variable {x : S4096x3072.Idx → EReal} (hx : Fine x) (b : Fin 2) (i : Fin 2048) (h : Fin 16) (e : Fin 64)

include hx in
theorem v2 : val_main_v2 (F := Ideal) x (ix4 b i h e) = (part (real x) 0 b h i e : EReal) := by
  rw [val_main_v2_apply, val_main_v1_apply, val_main_v0_apply]
  refine (hx _ ?_).trans (congrArg ((↑) : ℝ → EReal) (cell_eq (real x) _ _ _ ?_ ?_))
  · show ((((b.val * 2048 + i.val) * 16 + h.val) * 64 + e.val) % 1024) < _; omega
  · show ((((b.val * 2048 + i.val) * 16 + h.val) * 64 + e.val) / 1024) = _; omega
  · show ((((b.val * 2048 + i.val) * 16 + h.val) * 64 + e.val) % 1024) = _; omega

include hx in
theorem v5 : val_main_v5 (F := Ideal) x (ix4 b i h e) = (part (real x) 1 b h i e : EReal) := by
  rw [val_main_v5_apply, val_main_v4_apply, val_main_v3_apply]
  refine (hx _ ?_).trans (congrArg ((↑) : ℝ → EReal) (cell_eq (real x) _ _ _ ?_ ?_))
  · show 1024 + ((((b.val * 2048 + i.val) * 16 + h.val) * 64 + e.val) % 1024) < _; omega
  · show ((((b.val * 2048 + i.val) * 16 + h.val) * 64 + e.val) / 1024) = _; omega
  · show 1024 + ((((b.val * 2048 + i.val) * 16 + h.val) * 64 + e.val) % 1024) = _; omega

theorem v8 : val_main_v8 (F := Ideal) x (ix4 b i h e) = partAny x 2 b h i e := by
  rw [val_main_v8_apply, val_main_v7_apply, val_main_v6_apply]
  refine cellAny_eq x _ _ _ ?_ ?_
  · show ((((b.val * 2048 + i.val) * 16 + h.val) * 64 + e.val) / 1024) = _; omega
  · show 2048 + ((((b.val * 2048 + i.val) * 16 + h.val) * 64 + e.val) % 1024) = _; omega

end Parts

variable {x : S4096x3072.Idx → EReal} (hx : Fine x) (b : Fin 2) (h : Fin 16) (i j : Fin 2048)

include hx

theorem v11 : val_main_v11 (F := Ideal) x (ix4 b h i j) = (z (part (real x) 0 b h) (part (real x) 1 b h) i j : EReal) := by
  pointwise [val_main_v11, val_main_v10, val_main_cst, val_main_v9]
  simp only [v2 hx, v5 hx, ← EReal.coe_mul, sum_coe, Cert.SbAcc.word_eighth32]
  rw [z, Finset.sum_mul]
  simp only [mul_right_comm]

theorem low : val_main_call0_v1 (F := Ideal) x (ix4 b h i j) = (sp (-z (part (real x) 0 b h) (part (real x) 1 b h) i j) : EReal) := by
  pointwise [val_main_call0_v1, val_main_call0_call0_v4, val_main_call0_call0_v6, val_main_call0_call0_v5, val_main_call0_call0_v3, val_main_call0_call0_v2, val_main_call0_call0_v1, val_main_call0_call0_v0, val_main_call0_call0_v7, val_main_call0_call0_v8, val_main_call0_call0_v9, val_main_call0_call0_v10, val_main_call0_call0_v11, val_main_call0_call0_cst, val_main_call0_v0]
  simp only [v11 hx, ← EReal.coe_neg, ne_eq, not_true_eq_false, if_false, soft]

theorem high : val_main_call2_v1 (F := Ideal) x (ix4 b h i j) = (sp (z (part (real x) 0 b h) (part (real x) 1 b h) i j) : EReal) := by
  pointwise [val_main_call2_v1, val_main_call2_call0_v4, val_main_call2_call0_v6, val_main_call2_call0_v5, val_main_call2_call0_v3, val_main_call2_call0_v2, val_main_call2_call0_v1, val_main_call2_call0_v0, val_main_call2_call0_v7, val_main_call2_call0_v8, val_main_call2_call0_v9, val_main_call2_call0_v10, val_main_call2_call0_v11, val_main_call2_call0_cst, val_main_call2_v0, val_main_v21]
  simp only [v11 hx, ← EReal.coe_neg, neg_neg, ne_eq, not_true_eq_false, if_false, soft]

theorem v19 : val_main_v19 (F := Ideal) x (ix4 b h i j) = (lb (z (part (real x) 0 b h) (part (real x) 1 b h) i j) : EReal) := by
  pointwise [val_main_v19]
  rw [low hx, ← EReal.coe_neg, sp_neg]

theorem v22 : val_main_v22 (F := Ideal) x (ix4 b h i j) = (l1 (z (part (real x) 0 b h) (part (real x) 1 b h) i j) : EReal) := by
  pointwise [val_main_v22]
  rw [high hx, ← EReal.coe_neg, neg_sp]

theorem v23 : val_main_v23 (F := Ideal) x (ix4 b h i j) = (L (part (real x) 0 b h) (part (real x) 1 b h) i j : EReal) := by
  pointwise [val_main_v23, val_main_call3_v1, val_main_call3_v2, val_main_call3_v0, val_main_cst_1]
  rw [v18, select_mask, v22 hx, L]
  split_ifs
  · rfl
  · exact Ideal.ofBits_zero .f32

theorem v20 : val_main_v20 (F := Ideal) x (ix4 b h i j) = if j.val < i.val then (lb (z (part (real x) 0 b h) (part (real x) 1 b h) i j) : EReal) else ⊥ := by
  pointwise [val_main_v20, val_main_call1_v1, val_main_call1_v2, val_main_call1_v0, val_main_cst_0]
  rw [v18, select_mask, v19 hx]
  refine congrArg (ite _ _) ?_
  exact word_bot

theorem v24 : val_main_v24 (F := Ideal) x (ix4 b h i j)
    = ((∑ l ∈ Finset.range 2048, L (part (real x) 0 b h) (part (real x) 1 b h) i l - ∑ l ∈ Finset.range j, L (part (real x) 0 b h) (part (real x) 1 b h) i l : ℝ) : EReal) := by
  rw [← Cert.SbWindow.sum_from _ j (by omega)]
  refine Cert.SbWindow.from_here _ _ _ ?_ b h i _ (fun l => v23 hx b h i l) _ j
  exact (val_main_call4_v0_apply _).trans (Ideal.ofBits_zero .f32)

theorem v27 : val_main_v27 (F := Ideal) x (ix4 b h i j) = (A (part (real x) 0 b h) (part (real x) 1 b h) i j : EReal) := by
  pointwise [val_main_v27, val_main_v26, val_main_v25]
  rw [v24 hx, v23 hx, v20 hx, A, N, Finset.sum_range_succ _ j.val, ← EReal.coe_sub]
  split_ifs
  · rw [← EReal.coe_add, Ideal.exp_coe, sub_sub]
  · rw [EReal.bot_add]; rfl

/-- The attention's result for one head. -/
theorem v29 (e : Fin 64) : val_main_v29 (F := Ideal) x (ix4 b i h e)
    = ∑ l ∈ Finset.range 2048, ((A (part (real x) 0 b h) (part (real x) 1 b h) i l : ℝ) : EReal) * partAny x 2 b h l e := by
  pointwise [val_main_v29, val_main_v28]
  simp only [v27 hx, v8]
  rw [Finset.sum_range]
  exact Finset.sum_congr rfl fun l _ => mul_comm _ _

/-- The sum of the logs, the same for every feature. -/
theorem v35 (e : Fin 64) : val_main_v35 (F := Ideal) x (ix4 b i h e) = ((N (part (real x) 0 b h) (part (real x) 1 b h) i : ℝ) : EReal) := by
  pointwise [val_main_v35, val_main_v32, val_main_v31, val_main_v30, val_main_cst_2]
  simp only [v23 hx, sum_coe]
  rw [N, Finset.sum_range]

omit hx in
/-- Where an entry of a matrix of 4096 positions stands among the sequences, positions, heads and features. -/
theorem place (r : Fin 4096) (c : Fin 1024) : idx_main_v33 (ix2 r c)
    = ix4 ⟨r.val / 2048, by omega⟩ ⟨r.val % 2048, by omega⟩ ⟨c.val / 64, by omega⟩ ⟨c.val % 64, by omega⟩ := by
  funext a
  match a with
  | ⟨0, _⟩ => exact Fin.ext (show (r.val * 1024 + c.val) / 2097152 = r.val / 2048 by omega)
  | ⟨1, _⟩ => exact Fin.ext (show (r.val * 1024 + c.val) / 1024 % 2048 = r.val % 2048 by omega)
  | ⟨2, _⟩ => exact Fin.ext (show (r.val * 1024 + c.val) / 64 % 16 = c.val / 64 by omega)
  | ⟨3, _⟩ => exact Fin.ext (show (r.val * 1024 + c.val) % 64 = c.val % 64 by omega)

omit hx in
/-- The two results, by row and column. -/
def outAt (x : S4096x3072.Idx → EReal) (r c : ℕ) : EReal :=
  ∑ l ∈ Finset.range 2048, ((A (part (real x) 0 (r / 2048) (c / 64)) (part (real x) 1 (r / 2048) (c / 64)) (r % 2048) l : ℝ) : EReal)
    * partAny x 2 (r / 2048) (c / 64) l ⟨c % 64, Nat.mod_lt _ (by decide)⟩

omit hx in
def sumAt (x : S4096x3072.Idx → EReal) (r c : ℕ) : EReal :=
  ((N (part (real x) 0 (r / 2048) (c / 64)) (part (real x) 1 (r / 2048) (c / 64)) (r % 2048) : ℝ) : EReal)

theorem v34 : val_main_v34 (F := Ideal) x = fun y => outAt x (y 0).val (y 1).val := by
  funext y
  obtain ⟨r, c, rfl⟩ : ∃ r c, y = ix2 r c := ⟨y 0, y 1, funext fun a => match a with | 0 => rfl | 1 => rfl⟩
  pointwise [val_main_v34]
  rw [val_main_v33_apply, place, v29 hx]
  rfl

theorem v36 : val_main_v36 (F := Ideal) x = fun y => sumAt x (y 0).val (y 1).val := by
  funext y
  obtain ⟨r, c, rfl⟩ : ∃ r c, y = ix2 r c := ⟨y 0, y 1, funext fun a => match a with | 0 => rfl | 1 => rfl⟩
  rw [val_main_v36_apply, show idx_main_v36 (ix2 r c) = _ from place r c, v35 hx]
  rfl

end Cert.SfRef

end
-- ==== Proof.SfArray.lean ====
module

public import proofs.«01_k».proof.Proof.SfTrip
public import proofs.«01_k».proof.Proof.SfRef

/-!
# The stick-breaking attention's two results as whole arrays
-/

@[expose] public section

noncomputable section

namespace Cert.SfArray

open Idealize.ShloMosaic Idealize.ShloMosaic.TcCoe Cert.SfFwdIdeal Cert.SfFwdIdeal.Gen
open Cert.SbReal Cert.SbData
open Cert.SbAcc (beside)
open Cert.AfArray (cellAny_eq partAny besideAny real Fine)
open Cert.SfRef (outAt sumAt)
open Cert.SfTrip (outs sums)

theorem lt16 (t : Fin cfg0.N) : t.val < 16 := lt_of_lt_of_eq t.isLt (show cfg0.N = 16 from N_0)

theorem idx0 : ∀ t : Fin grid0.N, win0_0.index t = ![t.val / 8, t.val % 8] := by decide +kernel
theorem idx1 : ∀ t : Fin grid0.N, win0_1.index t = ![t.val / 8, 8 + t.val % 8] := by decide +kernel
theorem idx2 : ∀ t : Fin grid0.N, win0_2.index t = ![t.val / 8, 16 + t.val % 8] := by decide +kernel
theorem idx3 : ∀ t : Fin grid0.N, win0_3.index t = ![t.val / 8, t.val % 8] := by decide +kernel
theorem idx4 : ∀ t : Fin grid0.N, win0_4.index t = ![t.val / 8, t.val % 8] := by decide +kernel

variable (m : (ℓ : Loc nD τ sig) → Buf (Elt Ideal) ℓ) (c : Dev nD)

/-- The launch memory holds the array, its queries and keys finite. -/
structure Launched (x : S4096x3072.Idx → EReal) : Prop where
  qkv : m ((c : Thread nD τ).loc main_arg0) = x
  fine : Fine x

abbrev pair (x : S4096x3072.Idx → EReal) (s : ℕ) (t : Fin cfg0.N) : ℕ → ℕ → Fin 64 → ℝ := fun h => part (real x) s (t.val / 8) (2 * (t.val % 8) + h)
abbrev pairAny (x : S4096x3072.Idx → EReal) (t : Fin cfg0.N) : ℕ → ℕ → Fin 64 → EReal := fun h => partAny x 2 (t.val / 8) (2 * (t.val % 8) + h)

/-- The two blocks at point `t`. -/
def outBlock (x : S4096x3072.Idx → EReal) (t : Fin cfg0.N) : S2048x128.Idx → EReal := besideAny (outs (pair x 0 t) (pair x 1 t) (pairAny x t))
def sumBlock (x : S4096x3072.Idx → EReal) (t : Fin cfg0.N) : S2048x128.Idx → EReal := besideAny (sums (pair x 0 t) (pair x 1 t) (pairAny x t))

/-- The two results, as arrays. -/
def outAll (x : S4096x3072.Idx → EReal) : S4096x1024.Idx → EReal := fun y => outAt x (y 0).val (y 1).val
def sumAll (x : S4096x3072.Idx → EReal) : S4096x1024.Idx → EReal := fun y => sumAt x (y 0).val (y 1).val

variable {m c} {x : S4096x3072.Idx → EReal} (hm : Launched m c x) (t : Fin cfg0.N)

section
include hm

theorem blk0 : iblk m c 0 t = beside (pair x 0 t) := by
  funext i
  idx_vars i
  blk_simp [iblk, idx0 t]
  rw [V_main_arg0, hm.qkv, hm.fine _ (by blk_simp [idx0 t]; omega)]
  refine congrArg ((↑) : ℝ → EReal) (cell_eq (real x) _ _ _ ?_ ?_)
  · blk_simp [idx0 t]; omega
  · blk_simp [idx0 t]; dsimp only; omega

theorem blk1 : iblk m c 1 t = beside (pair x 1 t) := by
  funext i
  idx_vars i
  blk_simp [iblk, idx1 t]
  rw [V_main_arg0, hm.qkv, hm.fine _ (by blk_simp [idx1 t]; omega)]
  refine congrArg ((↑) : ℝ → EReal) (cell_eq (real x) _ _ _ ?_ ?_)
  · blk_simp [idx1 t]; omega
  · blk_simp [idx1 t]; dsimp only; omega

theorem blk2 : iblk m c 2 t = besideAny (pairAny x t) := by
  funext i
  idx_vars i
  blk_simp [iblk, idx2 t]
  rw [V_main_arg0, hm.qkv]
  refine cellAny_eq x _ _ _ ?_ ?_
  · blk_simp [idx2 t]; omega
  · blk_simp [idx2 t]; dsimp only; omega

theorem works : Cert.SfFrame.Works m c t fun X Y => X = outBlock x t ∧ Y = sumBlock x t :=
  Cert.SfTrip.works m c t (blk0 hm t) (blk1 hm t) (blk2 hm t)

end

theorem final3 (blocks : Cert.SfFrame.Blocks Ideal) (hb : ∀ t, blocks.o c t = outBlock x t) :
    (Cert.SfFrame.dats m blocks 0 c).arrAt 3 cfg0.N = outAll x := by
  refine (Cert.SfFrame.dats m blocks 0 c).arrAt_eq_of_covers 3 _ (by decide +kernel) fun t hf y => ?_
  have ht := lt16 t
  blk_simp
  rw [show (Cert.SfFrame.dats m blocks 0 c).after 3 t = blocks.o c t by dsimp only [Cert.SfFrame.dats], hb]
  idx_vars y
  rw [show ((View.whole main_v0_0).slice (win0_3.rect t)).emb (ix2 y0 y1)
      = ix2 ⟨t.val / 8 * 2048 + y0.val, by omega⟩ ⟨t.val % 8 * 128 + y1.val, by omega⟩ by blk_ext [idx3 t]]
  have e1 : (t.val / 8 * 2048 + y0.val) / 2048 = t.val / 8 := by omega
  have e2 : (t.val / 8 * 2048 + y0.val) % 2048 = y0.val := by omega
  have e3 : (t.val % 8 * 128 + y1.val) / 64 = 2 * (t.val % 8) + y1.val / 64 := by omega
  have e4 : (t.val % 8 * 128 + y1.val) % 64 = y1.val % 64 := by omega
  show _ = outAt x (t.val / 8 * 2048 + y0.val) (t.val % 8 * 128 + y1.val)
  unfold outAt
  simp only [e1, e2, e3, e4]
  rfl

theorem final4 (blocks : Cert.SfFrame.Blocks Ideal) (hb : ∀ t, blocks.n c t = sumBlock x t) :
    (Cert.SfFrame.dats m blocks 0 c).arrAt 4 cfg0.N = sumAll x := by
  refine (Cert.SfFrame.dats m blocks 0 c).arrAt_eq_of_covers 4 _ (by decide +kernel) fun t hf y => ?_
  have ht := lt16 t
  blk_simp
  rw [show (Cert.SfFrame.dats m blocks 0 c).after 4 t = blocks.n c t by dsimp only [Cert.SfFrame.dats], hb]
  idx_vars y
  rw [show ((View.whole main_v0_1).slice (win0_4.rect t)).emb (ix2 y0 y1)
      = ix2 ⟨t.val / 8 * 2048 + y0.val, by omega⟩ ⟨t.val % 8 * 128 + y1.val, by omega⟩ by blk_ext [idx4 t]]
  have e1 : (t.val / 8 * 2048 + y0.val) / 2048 = t.val / 8 := by omega
  have e2 : (t.val / 8 * 2048 + y0.val) % 2048 = y0.val := by omega
  have e3 : (t.val % 8 * 128 + y1.val) / 64 = 2 * (t.val % 8) + y1.val / 64 := by omega
  have e4 : (t.val % 8 * 128 + y1.val) % 64 = y1.val % 64 := by omega
  show _ = sumAt x (t.val / 8 * 2048 + y0.val) (t.val % 8 * 128 + y1.val)
  unfold sumAt
  simp only [e1, e2, e3, e4]
  rfl

end Cert.SfArray

end
-- ==== Proof.SfClaim.lean ====
module

public import proofs.«01_k».proof.Proof.SfFrames
public import proofs.«01_k».proof.Proof.SfArray
public import proofs.«01_k».proof.Proof.Finite
public import proofs.«01_k».proof.Proof.Gen.Pre_sf_finite

/-!
# The claim about the values of the stick-breaking attention
-/

@[expose] public section

noncomputable section

namespace Cert.SfClaim

open Idealize.ShloMosaic Idealize.ShloMosaic.TcCoe Idealize.SL.Sem Cert.Finite

/-- The precondition says that the queries and the keys are real numbers. -/
theorem holds_of_pre (m : (ℓ : Loc SfFwdIdeal.nD SfFwdIdeal.τ SfFwdIdeal.sig) → Buf (Elt Ideal) ℓ) (h : Pre_SfFwdIdeal_sf_finite m)
    (c : Dev SfFwdIdeal.nD) : ∃ x, SfArray.Launched m c x := by
  have hc := congrFun (h c) (Shape.Idx.first Pre_sf_finite.Gen.h_S_)
  dsimp only [Pre_sf_finite.fn] at hc
  refine ⟨_, rfl, fun i hi => ?_⟩
  have e := congrFun (eq_reals _ _ _ _ _ _ hc) (ix2 ⟨(i 0).val, (i 0).isLt⟩ ⟨(i 1).val, hi⟩)
  unfold reals at e
  pointwise [] at e
  obtain ⟨r, d, rfl⟩ : ∃ (r : Fin 4096) (d : Fin 3072), i = ix2 r d := ⟨i 0, i 1, funext fun a => match a with | 0 => rfl | 1 => rfl⟩
  exact e

theorem equal : Cert.algebraic_SfFwdIdeal_SfFormIdeal_pre_sf_finite := by
  intro m ρ m' ρ' hpre hagree
  choose x hm using holds_of_pre m hpre
  refine ⟨fun c => SfArray.outAll (x c), fun c => SfArray.sumAll (x c), ?_, ?_⟩
  · refine (θ_run SfFwdIdeal.defs _ _).mono (fun r h c => ?_)
      (SfFrame.run m ρ ⟨fun c t => SfArray.outBlock (x c) t, fun c t => SfArray.sumBlock (x c) t⟩ fun c t => SfArray.works (hm c) t)
    refine ⟨((h.1 c).1 3).trans (SfArray.final3 _ fun _ => rfl), ((h.1 c).1 4).trans (SfArray.final4 _ fun _ => rfl), ?_⟩
    exact ((h.1 c).1 2).trans (((SfFrame.dats m _ 0 c).arrAt_in 2 rfl _).trans ((SfFrame.A_eq m _ c 2).trans (SfFwdIdeal.Gen.V_main_arg0 m c)))
  · refine (θ_run SfFormIdeal.defs _ _).mono (fun _ h c => ?_) (SfFormIdeal.Value.run (F := Ideal) m' ρ')
    have a0 := hagree c
    obtain ⟨h0, h1, hk⟩ := h c
    refine ⟨h0.trans ?_, h1.trans ?_, hk⟩
    · rw [SfFormIdeal.Read.val_main_v34_eq]
      exact (congrArg (SfFormIdeal.Read.val_main_v34 (F := Ideal)) (a0.trans (hm c).qkv)).trans (SfRef.v34 (hm c).fine)
    · rw [SfFormIdeal.Read.val_main_v36_eq]
      exact (congrArg (SfFormIdeal.Read.val_main_v36 (F := Ideal)) (a0.trans (hm c).qkv)).trans (SfRef.v36 (hm c).fine)

end Cert.SfClaim

end
end
-- ==== Proof.AfRef.lean ====
module

public import proofs.«01_k».proof.Proof.AfArray
public import proofs.«01_k».proof.Proof.AaRef
public import proofs.«01_k».proof.Proof.Gen.AfFormIdeal.Read

/-!
# What the chunked attention's reference computes
-/

@[expose] public section

noncomputable section

namespace Cert.AfRef

open Idealize.ShloMosaic Cert.Reals Cert.AaReal Cert.SbData Cert.AfFormIdeal Cert.AfFormIdeal.Read
open Cert.NormRef (up)
open Cert.AaReads (word_bot)
open Cert.AaRef (one_bit zero_bit hit select_ok)
open Cert.SbAcc (word_eighth32)
open Cert.AaArray (bias bias_eq)
open Cert.AfArray (cellAny cellAny_eq partAny real Fine result wanted)

theorem v12 (i : Fin 2048) : val_main_v12 (F := Ideal) (ix1 i) = BitVec.ofNat 32 (i.val / 64) := by
  rw [val_main_v12_apply]; rfl

/-- A key in reach: its chunk is not after the query's and at most eight before. -/
theorem v23 (i j : Fin 2048) : val_main_v23 (F := Ideal) (ix2 i j) = BitVec.ofBool (decide (Ok i.val j.val)) := by
  pointwise [val_main_v23, val_main_v22, val_main_v21, val_main_v20, val_main_v19, val_main_v18, val_main_c, val_main_v17, val_main_v16, val_main_v15, val_main_v14, val_main_v13]
  simp only [v12]
  have hi := i.isLt
  have hj := j.isLt
  rw [show IntOp.addi (BitVec.ofNat 32 (j.val / 64)) 8#32 = BitVec.ofNat 32 (j.val / 64 + 8) from (BitVec.ofNat_add _ _).symm,
    WordCmp.cmpi_sle_ofNat (by omega) (by omega), WordCmp.cmpi_sle_ofNat (by omega) (by omega)]
  show BitVec.ofBool _ &&& BitVec.ofBool _ = _
  by_cases h1 : j.val / 64 ≤ i.val / 64 <;> by_cases h2 : i.val / 64 ≤ j.val / 64 + 8 <;> simp [Ok, h1, h2]

theorem v39 (i j : Fin 2048) (n : Fin 1024) : val_main_v39 (F := Ideal) (ix3 i j n) = (((if j.val + 767 = i.val + n.val then 1 else 0 : ℝ) : ℝ) : EReal) := by
  pointwise [val_main_v39, val_main_v38, val_main_v37, val_main_v36, val_main_v35, val_main_v34, val_main_v33, val_main_v32, val_main_v31, val_main_c_0, val_main_v30, val_main_v29, val_main_v28, val_main_v27, val_main_v26, val_main_v25, val_main_v24]
  have hi := i.isLt
  have hj := j.isLt
  have hn := n.isLt
  have e : IntOp.addi (IntOp.subi (BitVec.ofNat 32 j.val) (BitVec.ofNat 32 i.val)) 767#32 = BitVec.ofNat 32 n.val ↔ j.val + 767 = i.val + n.val := by
    show BitVec.ofNat 32 j.val - BitVec.ofNat 32 i.val + 767#32 = _ ↔ _
    rw [← BitVec.toNat_inj]
    simp only [BitVec.toNat_add, BitVec.toNat_sub, BitVec.toNat_ofNat]
    omega
  by_cases h : j.val + 767 = i.val + n.val
  · rw [if_pos h, e.2 h]
    simp [IntOp.cmpi]
    exact one_bit
  · rw [if_neg h, show IntOp.cmpi CmpIPredicate.eq (IntOp.addi (IntOp.subi (BitVec.ofNat 32 j.val) (BitVec.ofNat 32 i.val)) 767#32) (BitVec.ofNat 32 n.val) = 0#1 by
      show BitVec.ofBool (_ == _) = _; rw [beq_eq_false_iff_ne.2 (mt e.1 h)]; rfl]
    exact zero_bit

section Parts

variable {x : S4096x3072.Idx → EReal} (hx : Fine x) (u : S8x2x1024.Idx → ℝ) (b : Fin 2) (i : Fin 2048) (h : Fin 16) (e : Fin 64)

include hx in
theorem v2 : val_main_v2 (F := Ideal) x (ix4 b i h e) = (part (real x) 0 b h i e : EReal) := by
  rw [val_main_v2_apply, val_main_v1_apply, val_main_v0_apply]
  refine (hx _ ?_).trans (congrArg ((↑) : ℝ → EReal) (cell_eq (real x) _ _ _ ?_ ?_))
  · show ((((b.val * 2048 + i.val) * 16 + h.val) * 64 + e.val) % 1024) < _; omega
  · show ((((b.val * 2048 + i.val) * 16 + h.val) * 64 + e.val) / 1024) = _; omega
  · show ((((b.val * 2048 + i.val) * 16 + h.val) * 64 + e.val) % 1024) = _; omega

include hx in
theorem v5 : val_main_v5 (F := Ideal) x (ix4 b i h e) = (part (real x) 1 b h i e : EReal) := by
  rw [val_main_v5_apply, val_main_v4_apply, val_main_v3_apply]
  refine (hx _ ?_).trans (congrArg ((↑) : ℝ → EReal) (cell_eq (real x) _ _ _ ?_ ?_))
  · show 1024 + ((((b.val * 2048 + i.val) * 16 + h.val) * 64 + e.val) % 1024) < _; omega
  · show ((((b.val * 2048 + i.val) * 16 + h.val) * 64 + e.val) / 1024) = _; omega
  · show 1024 + ((((b.val * 2048 + i.val) * 16 + h.val) * 64 + e.val) % 1024) = _; omega

theorem v8 : val_main_v8 (F := Ideal) x (ix4 b i h e) = partAny x 2 b h i e := by
  rw [val_main_v8_apply, val_main_v7_apply, val_main_v6_apply]
  refine cellAny_eq x _ _ _ ?_ ?_
  · show ((((b.val * 2048 + i.val) * 16 + h.val) * 64 + e.val) / 1024) = _; omega
  · show 2048 + ((((b.val * 2048 + i.val) * 16 + h.val) * 64 + e.val) % 1024) = _; omega

theorem v9 (a : Fin 1) (n : Fin 1024) : val_main_v9 (F := Ideal) (up u) (ix3 a h n) = (bias u h n : EReal) := by
  rw [val_main_v9_apply]
  refine congrArg ((↑) : ℝ → EReal) (bias_eq u _ _ _ ?_ ?_)
  · show ((a.val * 16 + h.val) * 1024 + n.val) / 2048 * 2 + ((a.val * 16 + h.val) * 1024 + n.val) / 1024 % 2 = _; omega
  · show ((a.val * 16 + h.val) * 1024 + n.val) % 1024 = _; omega

end Parts

variable {x : S4096x3072.Idx → EReal} (hx : Fine x) (u : S8x2x1024.Idx → ℝ) (b : Fin 2) (h : Fin 16) (i j : Fin 2048)

include hx in
theorem v43 : val_main_v43 (F := Ideal) x (ix4 b h i j) = ((∑ e, part (real x) 0 b h i e * (1 / 8) * part (real x) 1 b h j e : ℝ) : EReal) := by
  pointwise [val_main_v43, val_main_v42, val_main_cst, val_main_v41]
  simp only [v2 hx, v5 hx, ← EReal.coe_mul, sum_coe, word_eighth32]
  rw [Finset.sum_mul]
  simp only [mul_right_comm]

theorem v40 : val_main_v40 (F := Ideal) (up u) (ix4 b h i j) = ((∑ n : Fin 1024, bias u h n * (if j.val + 767 = i.val + n.val then 1 else 0) : ℝ) : EReal) := by
  pointwise [val_main_v40, val_main_v10]
  simp only [v9, v39, ← EReal.coe_mul, sum_coe]

include hx in
theorem v45 : val_main_v45 (F := Ideal) x (up u) (ix4 b h i j)
    = if Ok i.val j.val then (S (part (real x) 0 b h) (part (real x) 1 b h) (bias u h) i j : EReal) else ⊥ := by
  pointwise [val_main_v45, val_main_call0_v1, val_main_v44, val_main_call0_v2, val_main_call0_v0, val_main_cst_1]
  rw [v23, select_ok]
  split_ifs with hok
  · rw [v43 hx, v40, hit _ i.isLt j.isLt hok, ← EReal.coe_add, S]
  · exact word_bot

theorem v46 : val_main_v46 (F := Ideal) x (up u) (ix3 b h i)
    = (Finset.univ : Finset (Fin 2048)).fold max ⊥ (fun j => val_main_v45 (F := Ideal) x (up u) (ix4 b h i j)) := by
  pointwise [val_main_v46, val_main_cst_2]
  rw [word_bot]

theorem v48 : val_main_v48 (F := Ideal) x (up u) (ix3 b h i) = max ⊥ (val_main_v46 (F := Ideal) x (up u) (ix3 b h i)) := by
  rw [val_main_v48_apply, val_main_v47_apply]
  generalize val_main_v46 (F := Ideal) x (up u) (ix3 b h i) = w
  exact congrArg (fun z => max z w) word_bot

include hx in
/-- The exponentials of a row of scores, up to the row's one factor. -/
theorem exps : ∃ g : ℝ, 0 < g ∧ ∀ j : Fin 2048, val_main_v52 (F := Ideal) x (up u) (ix4 b h i j)
    = ((W (part (real x) 0 b h) (part (real x) 1 b h) (bias u h) i j * g : ℝ) : EReal) := by
  obtain ⟨M, g, hg, hM, he⟩ := soft (fun j : Fin 2048 => val_main_v45 (F := Ideal) x (up u) (ix4 b h i j)) (fun j => Ok i.val j.val)
    (fun j => S (part (real x) 0 b h) (part (real x) 1 b h) (bias u h) i j) (fun j => v45 hx u b h i j) i (ok_self _)
  refine ⟨g, hg, fun j => ?_⟩
  pointwise [val_main_v52, val_main_v51, val_main_v50, val_main_v49]
  rw [v48, v46, hM, max_eq_right bot_le, he]
  rfl

include hx in
theorem v56 : val_main_v56 (F := Ideal) x (up u) (ix4 b h i j) = (P (part (real x) 0 b h) (part (real x) 1 b h) (bias u h) i j : EReal) := by
  obtain ⟨g, hg, he⟩ := exps hx u b h i
  pointwise [val_main_v56, val_main_v55, val_main_v54, val_main_v53, val_main_cst_4]
  have hW := W_sum_pos (q := part (real x) 0 b h) (k := part (real x) 1 b h) (r := bias u h) i.isLt
  simp only [he, sum_coe]
  rw [← Finset.sum_mul, ← Finset.sum_range (fun j => W (part (real x) 0 b h) (part (real x) 1 b h) (bias u h) i j), div_coe_coe _ (mul_pos hW hg).ne', P,
    mul_div_mul_right _ _ hg.ne']

include hx in
theorem v58 (e : Fin 64) : val_main_v58 (F := Ideal) x (up u) (ix4 b i h e)
    = AfBlock.out (part (real x) 0 b h) (part (real x) 1 b h) (partAny x 2 b h) (bias u h) i e := by
  pointwise [val_main_v58, val_main_v57]
  simp only [v8, v56 hx, mul_comm (partAny x 2 _ _ _ _)]
  rw [AfBlock.out, Finset.sum_range]

/-- Where an entry of a matrix of 4096 positions stands among the sequences, positions, heads and features. -/
theorem place (r : Fin 4096) (c : Fin 1024) : idx_main_v59 (ix2 r c)
    = ix4 ⟨r.val / 2048, by omega⟩ ⟨r.val % 2048, by omega⟩ ⟨c.val / 64, by omega⟩ ⟨c.val % 64, by omega⟩ := by
  funext a
  match a with
  | ⟨0, _⟩ => exact Fin.ext (show (r.val * 1024 + c.val) / 2097152 = r.val / 2048 by omega)
  | ⟨1, _⟩ => exact Fin.ext (show (r.val * 1024 + c.val) / 1024 % 2048 = r.val % 2048 by omega)
  | ⟨2, _⟩ => exact Fin.ext (show (r.val * 1024 + c.val) / 64 % 16 = c.val / 64 by omega)
  | ⟨3, _⟩ => exact Fin.ext (show (r.val * 1024 + c.val) % 64 = c.val % 64 by omega)

include hx in
theorem v60 : val_main_v60 (F := Ideal) x (up u) = wanted x u := by
  funext i
  obtain ⟨r, c, rfl⟩ : ∃ (r : Fin 4096) (c : Fin 1024), i = ix2 r c := ⟨i 0, i 1, funext fun a => match a with | 0 => rfl | 1 => rfl⟩
  rw [val_main_v60_apply, val_main_v59_apply, place, v58 hx]; rfl

end Cert.AfRef

end
-- ==== Proof.AfClaim.lean ====
module

public import proofs.«01_k».proof.Defs
public import proofs.«01_k».proof.Proof.AfRef
public import proofs.«01_k».proof.Proof.Finite
public import proofs.«01_k».proof.Proof.Gen.AfFwd.Frame
public import proofs.«01_k».proof.Proof.Gen.AfFwdIdeal.Value
public import proofs.«01_k».proof.Proof.Gen.AfFormIdeal.Run
public import proofs.«01_k».proof.Proof.Gen.Pre_af_finite

/-!
# The claims about the chunked attention
-/

@[expose] public section

noncomputable section

namespace Cert.AfClaim

open Idealize.ShloMosaic Idealize.ShloMosaic.TcCoe Idealize.SL.Sem Cert.Finite
open Cert.NormRef (up)

/-- The precondition says that the queries, the keys and the biases are real numbers. -/
theorem holds_of_pre (m : (ℓ : Loc AfFwdIdeal.nD AfFwdIdeal.τ AfFwdIdeal.sig) → Buf (Elt Ideal) ℓ) (h : Pre_AfFwdIdeal_af_finite m)
    (c : Dev AfFwdIdeal.nD) : ∃ x u, AfArray.Launched m c x u := by
  have hc := congrFun (h c) (Shape.Idx.first Pre_af_finite.Gen.h_S_)
  dsimp only [Pre_af_finite.fn] at hc
  obtain ⟨e0, e1⟩ := IntOp.andi_eq_one.1 hc
  refine ⟨_, _, rfl, eq_reals _ _ _ _ _ _ e1, fun i hi => ?_⟩
  have e := congrFun (eq_reals _ _ _ _ _ _ e0) (ix2 ⟨(i 0).val, (i 0).isLt⟩ ⟨(i 1).val, hi⟩)
  unfold reals at e
  pointwise [] at e
  obtain ⟨r, d, rfl⟩ : ∃ (r : Fin 4096) (d : Fin 3072), i = ix2 r d := ⟨i 0, i 1, funext fun a => match a with | 0 => rfl | 1 => rfl⟩
  exact e

theorem frame_reference : Cert.quiescent_AfFormIdeal := fun m ρ _ =>
  (θ_run AfFormIdeal.defs _ _).mono (fun r h => ⟨fun c => (h c).2, sem_eq_zero_of_no_sems (by decide) r.2⟩)
    (AfFormIdeal.Value.run (F := Ideal) m ρ)

/-- The constant that stands for minus infinity. -/
theorem mask : Cert.preserves_AfFwd_AfFwdIdeal := IdealRules.named_const.statement Cert.AfFwdIdeal.κ "mask" .f32 0xF149F2CA#32 ⊥ rfl

theorem equal : Cert.algebraic_AfFwdIdeal_AfFormIdeal_pre_af_finite := by
  intro m ρ m' ρ' hpre hagree
  refine ⟨fun c => (AfFwdIdeal.Gen.dats m 0 c).arrAt 4 AfFwdIdeal.cfg0.N, AfFwdIdeal.Value.run_blocks m ρ, ?_⟩
  refine (θ_run AfFormIdeal.defs _ _).mono (fun _ h c => ?_) (AfFormIdeal.Value.run (F := Ideal) m' ρ')
  obtain ⟨x, u, hm⟩ := holds_of_pre m hpre c
  obtain ⟨a0, a1⟩ := hagree c
  obtain ⟨h0, hk⟩ := h c
  refine ⟨h0.trans ?_, hk⟩
  refine Eq.trans ?_ (AfArray.final4 hm).symm
  rw [AfFormIdeal.Read.val_main_v60_eq, a0, a1, hm.qkv, hm.bias, AfRef.v60 hm.fine]

end Cert.AfClaim

end
-- ==== Proof.MlKernel.lean ====
module

public import proofs.«01_k».proof.Proof.Reals
public import proofs.«01_k».proof.Proof.Gen.MlFwdIdeal.Value
public import Idealize.ShloMosaic.Lib.Pipeline.ValueKit

/-!
# The norm after the SwiGLU's last product

One point takes a block of 512 rows: the product over all devices' features, the residual, and the norm of the rows.
-/

@[expose] public section

noncomputable section

namespace Cert.MlKernel

open Idealize.ShloMosaic Idealize.ShloMosaic.TcCoe Idealize.SL.Sem Cert.MlFwdIdeal Cert.MlFwdIdeal.Gen

section Norm

/-- A row's residual sum, from the row, its product, and the two scales. -/
def pre (x y : Fin 1024 → EReal) (k : Fin 1024) : EReal :=
  Ideal.ofBits .f32 0x3FD744FD#32 * x k + Ideal.ofBits .f32 0x3F000000#32 * y k

/-- A row less its mean. -/
def centred (p : Fin 1024 → EReal) (k : Fin 1024) : EReal := p k - Ideal.div (∑ j, p j) (Ideal.ofBits .f32 0x44800000#32)

/-- The reciprocal deviation of a centred row. -/
def recip (q : Fin 1024 → EReal) : EReal :=
  Ideal.rsqrt (Ideal.div (∑ j, q j * q j) (Ideal.ofBits .f32 0x44800000#32) + Ideal.ofBits .f32 0x3727C5AC#32)

/-- The row's centred residual sum. -/
abbrev row (x y : Fin 1024 → EReal) : Fin 1024 → EReal := centred (pre x y)

end Norm

section AnyInstance

variable {F : FTy → Type} [FloatOps F]
variable (m : (ℓ : Loc nD τ sig) → Buf (Elt F) ℓ) (c : Dev nD)

theorem idx0 : ∀ t : Fin grid0.N, win0_0.index t = ![0, t.val, 0] := by decide +kernel
theorem idx1 : ∀ t : Fin grid0.N, win0_1.index t = ![0, 1, 0, 0] := by decide +kernel
theorem idx2 : ∀ t : Fin grid0.N, win0_2.index t = ![t.val, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![t.val, 0] := by decide +kernel
theorem idx6 : ∀ t : Fin grid0.N, win0_6.index t = ![t.val, 0] := by decide +kernel
theorem idx7 : ∀ t : Fin grid0.N, win0_7.index t = ![t.val, 0] := by decide +kernel
theorem idx8 : ∀ t : Fin grid0.N, win0_8.index t = ![t.val, 0] := by decide +kernel

theorem V_gam : V m c main_v0 = shapeCast _ (m ((c : Thread nD τ).loc main_arg3)) shapeCasts_S1024_S1x1024 := by
  unfold V hostOps0
  after_results_simp
  rfl

theorem V_bet : V m c main_v1 = shapeCast _ (m ((c : Thread nD τ).loc main_arg4)) shapeCasts_S1024_S1x1024 := by
  unfold V hostOps0
  after_results_simp
  rfl

end AnyInstance

theorem lt8 (t : Fin cfg0.N) : t.val < 8 := lt_of_lt_of_eq t.isLt (show cfg0.N = 8 from N_0)

variable (m : (ℓ : Loc nD τ sig) → Buf (Elt Ideal) ℓ) (c : Dev nD)

/-- What the launch memory holds. -/
abbrev gated : S4x4096x704.Idx → EReal := m ((c : Thread nD τ).loc main_arg0)
abbrev down : S4x2x704x1024.Idx → EReal := m ((c : Thread nD τ).loc main_arg1)
abbrev res : S4096x1024.Idx → EReal := m ((c : Thread nD τ).loc main_arg2)
abbrev gam : S1024.Idx → EReal := m ((c : Thread nD τ).loc main_arg3)
abbrev bet : S1024.Idx → EReal := m ((c : Thread nD τ).loc main_arg4)

/-- The product over all devices' features. -/
def prod (h : S4x4096x704.Idx → EReal) (w : S4x2x704x1024.Idx → EReal) (r : Fin 4096) (k : Fin 1024) : EReal :=
  ∑ p : Fin 4, ∑ f : Fin 704, h (ix3 p r f) * w (ix4 p 1 f k)

/-- The centred rows of a whole array. -/
def rows (h : S4x4096x704.Idx → EReal) (w : S4x2x704x1024.Idx → EReal) (x : S4096x1024.Idx → EReal) (r : Fin 4096) : Fin 1024 → EReal :=
  row (fun k => x (ix2 r k)) (prod h w r)

def at_ (t : Fin cfg0.N) (a : Fin 512) : Fin 4096 := ⟨512 * t.val + a, by have := lt8 t; omega⟩

theorem blk0 (t : Fin cfg0.N) (p : Fin 4) (a : Fin 512) (f : Fin 704) :
    iblk m c 0 t (ix3 p a f) = gated m c (ix3 p (at_ t a) f) := by
  blk_simp [iblk, idx0 t]
  rw [V_main_arg0]
  refine congrArg (gated m c) ?_
  blk_ext [idx0 t, at_]

theorem blk1 (t : Fin cfg0.N) (p : Fin 4) (f : Fin 704) (k : Fin 1024) :
    iblk m c 1 t (ix4 p 0 f k) = down m c (ix4 p 1 f k) := by
  blk_simp [iblk, idx1 t]
  rw [V_main_arg1]
  refine congrArg (down m c) ?_
  blk_ext [idx1 t]

theorem blk2 (t : Fin cfg0.N) (a : Fin 512) (k : Fin 1024) : iblk m c 2 t (ix2 a k) = res m c (ix2 (at_ t a) k) := by
  blk_simp [iblk, idx2 t]
  rw [V_main_arg2]
  refine congrArg (res m c) ?_
  blk_ext [idx2 t, at_]

theorem blk3 (t : Fin cfg0.N) (k : Fin 1024) : iblk m c 3 t (ix2 0 k) = gam m c (ix1 k) := by
  blk_simp [iblk, idx3 t]
  rw [V_gam]
  pointwise []
  refine congrArg (gam m c) ?_
  blk_ext [idx3 t]

theorem blk4 (t : Fin cfg0.N) (k : Fin 1024) : iblk m c 4 t (ix2 0 k) = bet m c (ix1 k) := by
  blk_simp [iblk, idx4 t]
  rw [V_bet]
  pointwise []
  refine congrArg (bet m c) ?_
  blk_ext [idx4 t]

section Loads

variable (u : Vec Ideal S4x512x704 .bf16) (v : Vec Ideal S4x1x704x1024 .bf16) (a : Fin 512) (f : Fin 704) (k : Fin 1024)

theorem ld0 : View.ld u r0_0 (ix3 0 a f) = u (ix3 0 a f) :=
  View.ld_unit_apply_of _ _ _ _ _ _ fun | 0 => rfl | 1 | 2 => (Nat.zero_add _).symm
theorem ld2 : View.ld u r0_2 (ix3 0 a f) = u (ix3 1 a f) :=
  View.ld_unit_apply_of _ _ _ _ _ _ fun | 0 => rfl | 1 | 2 => (Nat.zero_add _).symm
theorem ld4 : View.ld u r0_4 (ix3 0 a f) = u (ix3 2 a f) :=
  View.ld_unit_apply_of _ _ _ _ _ _ fun | 0 => rfl | 1 | 2 => (Nat.zero_add _).symm
theorem ld6 : View.ld u r0_6 (ix3 0 a f) = u (ix3 3 a f) :=
  View.ld_unit_apply_of _ _ _ _ _ _ fun | 0 => rfl | 1 | 2 => (Nat.zero_add _).symm
theorem ld1 : View.ld v r0_1 (ix4 0 0 f k) = v (ix4 0 0 f k) :=
  View.ld_unit_apply_of _ _ _ _ _ _ fun | 0 | 1 => rfl | 2 | 3 => (Nat.zero_add _).symm
theorem ld3 : View.ld v r0_3 (ix4 0 0 f k) = v (ix4 1 0 f k) :=
  View.ld_unit_apply_of _ _ _ _ _ _ fun | 0 | 1 => rfl | 2 | 3 => (Nat.zero_add _).symm
theorem ld5 : View.ld v r0_5 (ix4 0 0 f k) = v (ix4 2 0 f k) :=
  View.ld_unit_apply_of _ _ _ _ _ _ fun | 0 | 1 => rfl | 2 | 3 => (Nat.zero_add _).symm
theorem ld7 : View.ld v r0_7 (ix4 0 0 f k) = v (ix4 3 0 f k) :=
  View.ld_unit_apply_of _ _ _ _ _ _ fun | 0 | 1 => rfl | 2 | 3 => (Nat.zero_add _).symm

end Loads

/-- One block's product. -/
abbrev prodBlk (t : Fin cfg0.N) : Vec Ideal S512x1024 .f32 :=
  k0_pay7 (iblk m c 0 t) (iblk m c 1 t) (iblk m c 2 t) (iblk m c 3 t) (iblk m c 4 t)

theorem prod_apply (t : Fin cfg0.N) (a : Fin 512) (k : Fin 1024) :
    prodBlk m c t (ix2 a k) = prod (gated m c) (down m c) (at_ t a) k := by
  pointwise [prodBlk, k0_pay7, k0_pay6]
  simp only [ld0, ld1, ld2, ld3, ld4, ld5, ld6, ld7, blk0, blk1, zero_add, prod, Fin.sum_univ_four]

section Block

variable (y x : Vec Ideal S512x1024 .f32) (g b : Vec Ideal S1x1024 .f32)

/-- One block's rows. -/
abbrev rowBlk (a : Fin 512) : Fin 1024 → EReal := row (fun k => x (ix2 a k)) (fun k => y (ix2 a k))

theorem centred_apply (a : Fin 512) (k : Fin 1024) :
    k0_pay1 y x (Ideal.ofBits .f32 0x3FD744FD#32) (ix2 a k) = rowBlk y x a k := by
  pointwise [k0_pay1]
  rfl

theorem recip_apply (a : Fin 512) : k0_pay2 y x (Ideal.ofBits .f32 0x3FD744FD#32) (ix2 a 0) = recip (rowBlk y x a) := by
  pointwise [k0_pay2]
  simp only [centred_apply]
  rfl

theorem normed_apply (a : Fin 512) (k : Fin 1024) :
    k0_pay3 y x (Ideal.ofBits .f32 0x3FD744FD#32) (ix2 a k) = rowBlk y x a k * recip (rowBlk y x a) := by
  pointwise [k0_pay3]
  rw [centred_apply, recip_apply]

theorem scaled_apply (a : Fin 512) (k : Fin 1024) : k0_pay4 y x (Ideal.ofBits .f32 0x3FD744FD#32) g b (ix2 a k)
    = rowBlk y x a k * recip (rowBlk y x a) * g (ix2 0 k) + b (ix2 0 k) := by
  pointwise [k0_pay4]
  rw [normed_apply]

end Block

theorem rowBlk_eq (t : Fin cfg0.N) (a : Fin 512) :
    rowBlk (prodBlk m c t) (iblk m c 2 t) a = rows (gated m c) (down m c) (res m c) (at_ t a) := by
  unfold rows rowBlk
  refine congrArg₂ row (funext fun k => ?_) (funext fun k => ?_)
  · exact blk2 m c t a k
  · exact prod_apply m c t a k

theorem final5 : (dats m 0 c).arrAt 5 cfg0.N = fun i : S4096x1024.Idx => rows (gated m c) (down m c) (res m c) (i 0) (i 1)
    * recip (rows (gated m c) (down m c) (res m c) (i 0)) * gam m c (ix1 (i 1)) + bet m c (ix1 (i 1)) := by
  refine (dats m 0 c).arrAt_eq_of_covers 5 _ (by decide +kernel) fun t hf y => ?_
  blk_simp
  rw [after0_5]
  idx_vars y
  rw [show out0_5 (iblk m c 0 t) (iblk m c 1 t) (iblk m c 2 t) (iblk m c 3 t) (iblk m c 4 t)
      = k0_pay4 (prodBlk m c t) (iblk m c 2 t) (Ideal.ofBits .f32 0x3FD744FD#32) (iblk m c 3 t) (iblk m c 4 t) by unfold out0_5; frame_out; rfl]
  rw [scaled_apply, rowBlk_eq, blk3, blk4, show ((View.whole main_v2_0).slice (win0_5.rect t)).emb (ix2 y0 y1) = ix2 (at_ t y0) y1 by blk_ext [idx5 t, at_]]
  rfl

theorem final6 : (dats m 0 c).arrAt 6 cfg0.N = fun i : S4096x1024.Idx => rows (gated m c) (down m c) (res m c) (i 0) (i 1)
    * recip (rows (gated m c) (down m c) (res m c) (i 0)) * gam m c (ix1 (i 1)) + bet m c (ix1 (i 1)) := by
  refine (dats m 0 c).arrAt_eq_of_covers 6 _ (by decide +kernel) fun t hf y => ?_
  blk_simp
  rw [after0_6]
  idx_vars y
  rw [show out0_6 (iblk m c 0 t) (iblk m c 1 t) (iblk m c 2 t) (iblk m c 3 t) (iblk m c 4 t)
      = k0_pay5 (prodBlk m c t) (iblk m c 2 t) (Ideal.ofBits .f32 0x3FD744FD#32) (iblk m c 3 t) (iblk m c 4 t) by unfold out0_6; frame_out; rfl]
  pointwise [k0_pay5]
  rw [scaled_apply, rowBlk_eq, blk3, blk4, show ((View.whole main_v2_1).slice (win0_6.rect t)).emb (ix2 y0 y1) = ix2 (at_ t y0) y1 by blk_ext [idx6 t, at_]]
  rfl

theorem final7 : (dats m 0 c).arrAt 7 cfg0.N = fun i : S4096x1024.Idx => rows (gated m c) (down m c) (res m c) (i 0) (i 1)
    * recip (rows (gated m c) (down m c) (res m c) (i 0)) := by
  refine (dats m 0 c).arrAt_eq_of_covers 7 _ (by decide +kernel) fun t hf y => ?_
  blk_simp
  rw [after0_7]
  idx_vars y
  rw [show out0_7 (iblk m c 0 t) (iblk m c 1 t) (iblk m c 2 t) (iblk m c 3 t) (iblk m c 4 t)
      = k0_pay3 (prodBlk m c t) (iblk m c 2 t) (Ideal.ofBits .f32 0x3FD744FD#32) by unfold out0_7; frame_out; rfl]
  rw [normed_apply, rowBlk_eq, show ((View.whole main_v2_2).slice (win0_7.rect t)).emb (ix2 y0 y1) = ix2 (at_ t y0) y1 by blk_ext [idx7 t, at_]]
  rfl

theorem final8 : (dats m 0 c).arrAt 8 cfg0.N = fun i : S4096x1.Idx => recip (rows (gated m c) (down m c) (res m c) (i 0)) := by
  refine (dats m 0 c).arrAt_eq_of_covers 8 _ (by decide +kernel) fun t hf y => ?_
  blk_simp
  rw [after0_8]
  idx_vars y
  obtain rfl := Subsingleton.elim y1 0
  rw [show out0_8 (iblk m c 0 t) (iblk m c 1 t) (iblk m c 2 t) (iblk m c 3 t) (iblk m c 4 t)
      = k0_pay2 (prodBlk m c t) (iblk m c 2 t) (Ideal.ofBits .f32 0x3FD744FD#32) by unfold out0_8; frame_out; rfl]
  rw [recip_apply, rowBlk_eq, show ((View.whole main_v2_3).slice (win0_8.rect t)).emb (ix2 y0 0) = ix2 (at_ t y0) 0 by blk_ext [idx8 t, at_]]
  rfl

end Cert.MlKernel

end
-- ==== Proof.MlClaim.lean ====
module

public import proofs.«01_k».proof.Defs
public import proofs.«01_k».proof.Proof.Gen.MlFwd.Frame
public import proofs.«01_k».proof.Proof.MlKernel
public import proofs.«01_k».proof.Proof.Gen.MlFormIdeal.Run
public import proofs.«01_k».proof.Proof.Gen.MlFormIdeal.Read

/-!
# The claims about the norm after the SwiGLU's last product
-/

@[expose] public section

noncomputable section

namespace Cert.MlClaim

open Idealize.ShloMosaic Idealize.ShloMosaic.TcCoe Idealize.SL.Sem Cert.MlFormIdeal Cert.MlFormIdeal.Read Cert.MlKernel

theorem frame_reference : Cert.quiescent_MlFormIdeal := fun m ρ _ =>
  (θ_run MlFormIdeal.defs _ _).mono (fun r h => ⟨fun c => (h c).2.2.2.2, sem_eq_zero_of_no_sems (by decide) r.2⟩)
    (MlFormIdeal.Value.run (F := Ideal) m ρ)

variable (h : S4x4096x704.Idx → EReal) (w : S4x2x704x1024.Idx → EReal) (x : S4096x1024.Idx → EReal) (g b : S1024.Idx → EReal)

theorem prod_is (r : Fin 4096) (k : Fin 1024) : val_main_v4 (F := Ideal) h w (ix2 r k) = prod h w r k := by
  pointwise [val_main_v4, val_main_v3, val_main_v2, val_main_v1, val_main_v0]
  exact Finset.sum_comm

theorem pre_is (r : Fin 4096) (k : Fin 1024) :
    val_main_v9 (F := Ideal) h w x (ix2 r k) = pre (fun k => x (ix2 r k)) (prod h w r) k := by
  pointwise [val_main_v9, val_main_v8, val_main_v7, val_main_cst_0, val_main_v6, val_main_v5, val_main_cst]
  rw [prod_is]
  rfl

theorem mean_is (r : Fin 4096) : val_main_v13 (F := Ideal) h w x (ix2 r 0)
    = Ideal.div (∑ j, pre (fun k => x (ix2 r k)) (prod h w r) j) (Ideal.ofBits .f32 0x44800000#32) := by
  pointwise [val_main_v13, val_main_v12, val_main_cst_2, val_main_v11, val_main_v10, val_main_cst_1]
  simp only [pre_is]

theorem centred_is (r : Fin 4096) (k : Fin 1024) : val_main_v15 (F := Ideal) h w x (ix2 r k) = rows h w x r k := by
  pointwise [val_main_v15, val_main_v14]
  rw [pre_is, mean_is]
  rfl

theorem centred_too (r : Fin 4096) (k : Fin 1024) : val_main_v25 (F := Ideal) h w x (ix2 r k) = rows h w x r k := by
  pointwise [val_main_v25, val_main_v24]
  rw [pre_is, mean_is]
  rfl

theorem recip_is (r : Fin 4096) : val_main_v23 (F := Ideal) h w x (ix2 r 0) = recip (rows h w x r) := by
  pointwise [val_main_v23, val_main_v22, val_main_v21, val_main_cst_5, val_main_v20, val_main_v19, val_main_cst_4, val_main_v18,
    val_main_v17, val_main_cst_3, val_main_v16]
  simp only [centred_is]
  rfl

theorem normed_is (r : Fin 4096) (k : Fin 1024) : val_main_v27 (F := Ideal) h w x (ix2 r k) = rows h w x r k * recip (rows h w x r) := by
  pointwise [val_main_v27, val_main_v26]
  rw [centred_too, recip_is]

theorem out_is (r : Fin 4096) (k : Fin 1024) : val_main_v33 (F := Ideal) h w x g b (ix2 r k)
    = rows h w x r k * recip (rows h w x r) * g (ix1 k) + b (ix1 k) := by
  pointwise [val_main_v33, val_main_v32, val_main_v31, val_main_v30, val_main_v29, val_main_v28]
  rw [normed_is]

set_option maxHeartbeats 1000000 in
theorem equal : Cert.algebraic_MlFwdIdeal_MlFormIdeal := by
  intro m ρ m' ρ' _ hagree
  refine ⟨fun c => (MlFwdIdeal.Gen.dats m 0 c).arrAt 5 MlFwdIdeal.cfg0.N, fun c => (MlFwdIdeal.Gen.dats m 0 c).arrAt 6 MlFwdIdeal.cfg0.N,
    fun c => (MlFwdIdeal.Gen.dats m 0 c).arrAt 7 MlFwdIdeal.cfg0.N, fun c => (MlFwdIdeal.Gen.dats m 0 c).arrAt 8 MlFwdIdeal.cfg0.N,
    MlFwdIdeal.Value.run_blocks m ρ, ?_⟩
  refine (θ_run MlFormIdeal.defs _ _).mono (fun _ h c => ?_) (MlFormIdeal.Value.run (F := Ideal) m' ρ')
  obtain ⟨a0, a1, a2, a3, a4⟩ := hagree c
  obtain ⟨h0, h1, h2, h3, hk⟩ := h c
  refine ⟨h0.trans ?_, h1.trans ?_, h2.trans ?_, h3.trans ?_, hk⟩
  · refine Eq.trans ?_ (final5 m c).symm
    rw [val_main_v33_eq, a0, a1, a2, a3, a4]
    funext i
    idx_vars i
    exact out_is _ _ _ _ _ _ _
  · refine Eq.trans ?_ (final6 m c).symm
    rw [val_main_v34_eq, a0, a1, a2, a3, a4]
    funext i
    idx_vars i
    pointwise [val_main_v34]
    exact out_is _ _ _ _ _ _ _
  · refine Eq.trans ?_ (final7 m c).symm
    rw [val_main_v27_eq, a0, a1, a2]
    funext i
    idx_vars i
    exact normed_is _ _ _ _ _
  · refine Eq.trans ?_ (final8 m c).symm
    rw [a0, a1, a2]
    funext i
    idx_vars i
    obtain rfl := Subsingleton.elim i1 0
    exact recip_is _ _ _ _

end Cert.MlClaim

end
-- ==== Proof.FuKernel.lean ====
module

public import proofs.«01_k».proof.Proof.Reals
public import proofs.«01_k».proof.Proof.Gen.FuFwdIdeal.Value
public import Idealize.ShloMosaic.Lib.Pipeline.ValueKit

/-!
# The SwiGLU's two branches and their gated product

One point takes a block of 1024 rows and one device's 704 features.
-/

@[expose] public section

noncomputable section

namespace Cert.FuKernel

open Idealize.ShloMosaic Idealize.ShloMosaic.TcCoe Idealize.SL.Sem Cert.FuFwdIdeal Cert.FuFwdIdeal.Gen

section AnyInstance

variable {F : FTy → Type} [FloatOps F]

theorem idx0 : ∀ t : Fin grid0.N, win0_0.index t = ![t.val % 4, 0] := by decide +kernel
theorem idx1 : ∀ t : Fin grid0.N, win0_1.index t = ![t.val / 4, 1, 0, 0] := by decide +kernel
theorem idx2 : ∀ t : Fin grid0.N, win0_2.index t = ![t.val / 4, 1, 0, 0] := by decide +kernel
theorem idx3 : ∀ t : Fin grid0.N, win0_3.index t = ![t.val / 4, t.val % 4, 0] := by decide +kernel
theorem idx4 : ∀ t : Fin grid0.N, win0_4.index t = ![t.val / 4, t.val % 4, 0] := by decide +kernel
theorem idx5 : ∀ t : Fin grid0.N, win0_5.index t = ![t.val / 4, t.val % 4, 0] := by decide +kernel

end AnyInstance

theorem lt16 (t : Fin cfg0.N) : t.val < 16 := lt_of_lt_of_eq t.isLt (show cfg0.N = 16 from N_0)

variable (m : (ℓ : Loc nD τ sig) → Buf (Elt Ideal) ℓ) (c : Dev nD)

/-- The rows and the two branches' weights the launch memory holds. -/
abbrev rows : S4096x1024.Idx → EReal := m ((c : Thread nD τ).loc main_arg0)
abbrev gate : S4x2x704x1024.Idx → EReal := m ((c : Thread nD τ).loc main_arg1)
abbrev up : S4x2x704x1024.Idx → EReal := m ((c : Thread nD τ).loc main_arg2)

/-- A branch: the product of the rows with the weights of one device's features. -/
def branch (x : S4096x1024.Idx → EReal) (w : S4x2x704x1024.Idx → EReal) (p : Fin 4) (r : Fin 4096) (f : Fin 704) : EReal :=
  ∑ k : Fin 1024, x (ix2 r k) * w (ix4 p 1 f k)

/-- The gated product of two numbers. -/
def gated (g u : EReal) : EReal := g * Ideal.div 1 (1 + Ideal.exp (-g)) * u

def dev (t : Fin cfg0.N) : Fin 4 := ⟨t.val / 4, by have := lt16 t; omega⟩
def at_ (t : Fin cfg0.N) (a : Fin 1024) : Fin 4096 := ⟨1024 * (t.val % 4) + a, by omega⟩

theorem blk0 (t : Fin cfg0.N) (a k : Fin 1024) : iblk m c 0 t (ix2 a k) = rows m c (ix2 (at_ t a) k) := by
  blk_simp [iblk, idx0 t]
  rw [V_main_arg0]
  refine congrArg (rows m c) ?_
  blk_ext [idx0 t, at_]

theorem blk1 (t : Fin cfg0.N) (f : Fin 704) (k : Fin 1024) : iblk m c 1 t (ix4 0 0 f k) = gate m c (ix4 (dev t) 1 f k) := by
  blk_simp [iblk, idx1 t]
  rw [V_main_arg1]
  refine congrArg (gate m c) ?_
  blk_ext [idx1 t, dev]

theorem blk2 (t : Fin cfg0.N) (f : Fin 704) (k : Fin 1024) : iblk m c 2 t (ix4 0 0 f k) = up m c (ix4 (dev t) 1 f k) := by
  blk_simp [iblk, idx2 t]
  rw [V_main_arg2]
  refine congrArg (up m c) ?_
  blk_ext [idx2 t, dev]

/-- One block of each branch. -/
theorem gate_apply (t : Fin cfg0.N) (a : Fin 1024) (f : Fin 704) :
    k0_pay1 (iblk m c 0 t) (iblk m c 1 t) (ix2 a f) = branch (rows m c) (gate m c) (dev t) (at_ t a) f := by
  pointwise [k0_pay1]
  simp only [blk0, blk1, zero_add]
  rfl

theorem up_apply (t : Fin cfg0.N) (a : Fin 1024) (f : Fin 704) :
    k0_pay2 (iblk m c 0 t) (iblk m c 2 t) (ix2 a f) = branch (rows m c) (up m c) (dev t) (at_ t a) f := by
  pointwise [k0_pay2]
  simp only [blk0, blk2, zero_add]
  rfl

theorem final3 : (dats m 0 c).arrAt 3 cfg0.N = fun i : S4x4096x704.Idx => branch (rows m c) (gate m c) (i 0) (i 1) (i 2) := by
  refine (dats m 0 c).arrAt_eq_of_covers 3 _ (by decide +kernel) fun t hf y => ?_
  blk_simp
  rw [after0_3]
  idx_vars y
  obtain rfl := Subsingleton.elim y0 0
  rw [show out0_3 (iblk m c 0 t) (iblk m c 1 t) (iblk m c 2 t) = k0_pay3 (iblk m c 0 t) (iblk m c 1 t) by unfold out0_3; frame_out]
  pointwise [k0_pay3]
  rw [gate_apply, show ((View.whole main_v0_0).slice (win0_3.rect t)).emb (ix3 0 y1 y2) = ix3 (dev t) (at_ t y1) y2 by blk_ext [idx3 t, dev, at_]]
  rfl

theorem final4 : (dats m 0 c).arrAt 4 cfg0.N = fun i : S4x4096x704.Idx => branch (rows m c) (up m c) (i 0) (i 1) (i 2) := by
  refine (dats m 0 c).arrAt_eq_of_covers 4 _ (by decide +kernel) fun t hf y => ?_
  blk_simp
  rw [after0_4]
  idx_vars y
  obtain rfl := Subsingleton.elim y0 0
  rw [show out0_4 (iblk m c 0 t) (iblk m c 1 t) (iblk m c 2 t) = k0_pay4 (iblk m c 0 t) (iblk m c 2 t) by unfold out0_4; frame_out]
  pointwise [k0_pay4]
  rw [up_apply, show ((View.whole main_v0_1).slice (win0_4.rect t)).emb (ix3 0 y1 y2) = ix3 (dev t) (at_ t y1) y2 by blk_ext [idx4 t, dev, at_]]
  rfl

theorem final5 : (dats m 0 c).arrAt 5 cfg0.N = fun i : S4x4096x704.Idx =>
    gated (branch (rows m c) (gate m c) (i 0) (i 1) (i 2)) (branch (rows m c) (up m c) (i 0) (i 1) (i 2)) := by
  refine (dats m 0 c).arrAt_eq_of_covers 5 _ (by decide +kernel) fun t hf y => ?_
  blk_simp
  rw [after0_5]
  idx_vars y
  obtain rfl := Subsingleton.elim y0 0
  rw [show out0_5 (iblk m c 0 t) (iblk m c 1 t) (iblk m c 2 t) = k0_pay5 (iblk m c 0 t) (iblk m c 1 t) (iblk m c 2 t) by unfold out0_5; frame_out]
  pointwise [k0_pay5]
  rw [gate_apply, up_apply, show ((View.whole main_v0_2).slice (win0_5.rect t)).emb (ix3 0 y1 y2) = ix3 (dev t) (at_ t y1) y2 by blk_ext [idx5 t, dev, at_]]
  simp only [zero_sub]
  rfl

end Cert.FuKernel

end
-- ==== Proof.FuClaim.lean ====
module

public import proofs.«01_k».proof.Defs
public import proofs.«01_k».proof.Proof.Gen.FuFwd.Frame
public import proofs.«01_k».proof.Proof.FuKernel
public import proofs.«01_k».proof.Proof.Gen.FuFormIdeal.Run
public import proofs.«01_k».proof.Proof.Gen.FuFormIdeal.Read

/-!
# The claims about the SwiGLU's branches
-/

@[expose] public section

noncomputable section

namespace Cert.FuClaim

open Idealize.ShloMosaic Idealize.ShloMosaic.TcCoe Idealize.SL.Sem Cert.FuFormIdeal Cert.FuFormIdeal.Read Cert.FuKernel

theorem frame_reference : Cert.quiescent_FuFormIdeal := fun m ρ _ =>
  (θ_run FuFormIdeal.defs _ _).mono (fun r h => ⟨fun c => (h c).2.2.2, sem_eq_zero_of_no_sems (by decide) r.2⟩)
    (FuFormIdeal.Value.run (F := Ideal) m ρ)

variable (x : S4096x1024.Idx → EReal) (w v : S4x2x704x1024.Idx → EReal)

/-- The reference's branches. -/
theorem gate_is (p : Fin 4) (r : Fin 4096) (f : Fin 704) : val_main_v5 (F := Ideal) x w (ix3 p r f) = branch x w p r f := by
  pointwise [val_main_v5, val_main_v4, val_main_v3, val_main_v2, val_main_v1, val_main_v0]
  exact Finset.sum_congr rfl fun k _ => mul_comm _ _

theorem up_is (p : Fin 4) (r : Fin 4096) (f : Fin 704) : val_main_v11 (F := Ideal) x v (ix3 p r f) = branch x v p r f := by
  pointwise [val_main_v11, val_main_v10, val_main_v9, val_main_v8, val_main_v7, val_main_v6]
  exact Finset.sum_congr rfl fun k _ => mul_comm _ _

theorem out_gate : val_main_v12 (F := Ideal) x w = fun i => branch x w (i 0) (i 1) (i 2) := by
  funext i
  idx_vars i
  pointwise [val_main_v12]
  exact gate_is x w _ _ _

theorem out_up : val_main_v13 (F := Ideal) x v = fun i => branch x v (i 0) (i 1) (i 2) := by
  funext i
  idx_vars i
  pointwise [val_main_v13]
  exact up_is x v _ _ _

theorem out_gated : val_main_v16 (F := Ideal) x w v = fun i => gated (branch x w (i 0) (i 1) (i 2)) (branch x v (i 0) (i 1) (i 2)) := by
  funext i
  idx_vars i
  pointwise [val_main_v16, val_main_v15, val_main_v14, val_main_call0_v5, val_main_call0_v4, val_main_call0_cst_0, val_main_call0_v3,
    val_main_call0_v2, val_main_call0_cst, val_main_call0_v1, val_main_call0_v0]
  rw [gate_is, up_is]
  rfl

set_option maxHeartbeats 1000000 in
theorem equal : Cert.algebraic_FuFwdIdeal_FuFormIdeal := by
  intro m ρ m' ρ' _ hagree
  refine ⟨fun c => (FuFwdIdeal.Gen.dats m 0 c).arrAt 3 FuFwdIdeal.cfg0.N, fun c => (FuFwdIdeal.Gen.dats m 0 c).arrAt 4 FuFwdIdeal.cfg0.N,
    fun c => (FuFwdIdeal.Gen.dats m 0 c).arrAt 5 FuFwdIdeal.cfg0.N, FuFwdIdeal.Value.run_blocks m ρ, ?_⟩
  refine (θ_run FuFormIdeal.defs _ _).mono (fun _ h c => ?_) (FuFormIdeal.Value.run (F := Ideal) m' ρ')
  obtain ⟨a0, a1, a2⟩ := hagree c
  obtain ⟨h0, h1, h2, hk⟩ := h c
  refine ⟨h0.trans ?_, h1.trans ?_, h2.trans ?_, hk⟩
  · refine Eq.trans ?_ (final3 m c).symm
    rw [a0, a1]
    exact out_gate _ _
  · refine Eq.trans ?_ (final4 m c).symm
    rw [a0, a2]
    exact out_up _ _
  · refine Eq.trans ?_ (final5 m c).symm
    rw [a0, a1, a2]
    exact out_gated _ _ _

end Cert.FuClaim

end
-- ==== Proof.BwKernel.lean ====
module

public import proofs.«01_k».proof.Proof.BvKernel
public import proofs.«01_k».proof.Proof.Gen.BwFwdIdeal.Value
public import proofs.«01_k».proof.Proof.Gen.BwFormIdeal.Read
public import Idealize.ShloMosaic.Lib.Routing.Ops
public import Idealize.ShloMosaic.Lib.KernelVsHost
public import Idealize.ShloMosaic.Lib.Pipeline.ValueKit

/-!
# The row of biases

Every distance of a key from the end of a window reads one entry of the table.
-/

@[expose] public section

noncomputable section

namespace Cert.BwKernel

open Idealize.ShloMosaic Idealize.ShloMosaic.TcCoe Idealize.SL.Sem Cert.BvKernel Cert.BwFwdIdeal Cert.BwFwdIdeal.Gen

/-- The entry that place `n` reads, as a number. -/
def place (n : Fin 1024) : Fin 257 := ⟨min 256 (895 - n.val), by omega⟩

theorem entry_is : ∀ n : Fin 1024, entry n = BitVec.ofNat 32 (place n).val := by decide +kernel

theorem nonneg : ∀ n : Fin 1024, IntOp.cmpi CmpIPredicate.slt (entry n) 0#32 = 0#1 := by decide +kernel

/-- The bias of head `h` at place `n`. -/
def bias (x : S257x16.Idx → EReal) (h : Fin 16) (n : Fin 1024) : EReal := x (ix2 (place n) h)

section AnyInstance

variable {F : FTy → Type} [FloatOps F] (m : (ℓ : Loc nD τ sig) → Buf (Elt F) ℓ) (c : Dev nD)

theorem idx0 : ∀ t : Fin grid0.N, win0_0.index t = ![0, 0] := by decide +kernel
theorem idx1 : ∀ t : Fin grid0.N, win0_1.index t = ![0, 0] := by decide +kernel

/-- The table as the kernel is given it: entries along the columns, and zeros behind them. -/
theorem V_table : V m c main_v1 = pad S16x384 ![0, 0] ![0, 127] ![0, 0]
    (transpose S16x257 [1, 0] (m ((c : Thread nD τ).loc main_arg0)) transposes_S257x16_S16x257_1_0)
    (sitofp .f32 (constantI S_ 32 0#32)) pads_S16x257_S16x384_000_01270 h_S_ := by
  unfold V hostOps0; after_results_simp; rfl

end AnyInstance

variable (m : (ℓ : Loc nD τ sig) → Buf (Elt Ideal) ℓ) (c : Dev nD)

abbrev table : S257x16.Idx → EReal := m ((c : Thread nD τ).loc main_arg0)

theorem table_apply (h : Fin 16) (e : Fin 384) (r : Fin 257) (he : e.val = r.val) : V m c main_v1 (ix2 h e) = table m c (ix2 r h) := by
  rw [V_table, pad_apply_of_inside _ _ _ _ _ _ _ _ (ix2 h r) fun a => match a with
    | ⟨0, _⟩ => by show h.val = 0 + h.val * (0 + 1); omega
    | ⟨1, _⟩ => by show e.val = 0 + r.val * (0 + 1); omega]
  pointwise

theorem pay_apply (v : Vec Ideal S16x384 .f32) (h : Fin 16) (n : Fin 1024) :
    k0_pay1 v (ix2 h n) = v (ix2 h ⟨(place n).val, by omega⟩) := by
  pointwise [k0_pay1]
  simp only [mul_hit, zero_add]
  have hn : IntOp.addi (IntOp.minsi 128#32 (IntOp.maxsi 4294967168#32 (IntOp.subi 767#32 (BitVec.ofNat 32 n.val)))) 128#32
      = BitVec.ofNat 32 (place n).val := entry_is n
  rw [hn, Finset.sum_eq_single ⟨(place n).val, by omega⟩]
  · rw [show IntOp.cmpi CmpIPredicate.eq (BitVec.ofNat 32 (place n).val) (BitVec.ofNat 32 (place n).val) = 1#1 by
      show BitVec.ofBool (_ == _) = _; rw [beq_self_eq_true]; rfl]
    rfl
  · intro e _ he
    have hne : BitVec.ofNat 32 (place n).val ≠ BitVec.ofNat 32 e.val := fun h => he (Fin.ext (by
      have h' := congrArg BitVec.toNat h
      have := (place n).isLt
      have := e.isLt
      simp only [BitVec.toNat_ofNat] at h'
      show e.val = (place n).val
      omega))
    rw [show IntOp.cmpi CmpIPredicate.eq (BitVec.ofNat 32 (place n).val) (BitVec.ofNat 32 e.val) = 0#1 by
      show BitVec.ofBool (_ == _) = _; rw [beq_eq_false_iff_ne.2 hne]; rfl]
    rfl
  · intro h; exact absurd (Finset.mem_univ _) h

theorem final : (dats m 0 c).arrAt 1 cfg0.N = fun i : S16x1024.Idx => bias (table m c) (i 0) (i 1) := by
  refine (dats m 0 c).arrAt_eq_of_covers 1 _ (by decide +kernel) fun t hf y => ?_
  blk_simp
  rw [after0_1]
  idx_vars y
  rw [show out0_1 (iblk m c 0 t) = k0_pay1 (iblk m c 0 t) by unfold out0_1; frame_out]
  rw [pay_apply]
  blk_simp [iblk, idx0 t]
  rw [show ((View.whole main_v2).slice (win0_1.rect t)).emb (ix2 y0 y1) = ix2 y0 y1 by blk_ext [idx1 t]]
  rw [show (win0_0.blk t).view.emb (ix2 y0 ⟨(place y1).val, by omega⟩) = ix2 y0 ⟨(place y1).val, by omega⟩ by blk_ext [idx0 t]]
  exact table_apply m c _ _ _ rfl

open BwFormIdeal.Read in
theorem reference_apply (x : S257x16.Idx → EReal) (h : Fin 16) (n : Fin 1024) : val_main_v13 (F := Ideal) x (ix2 h n) = bias x h n := by
  pointwise [val_main_v13, val_main_v12]
  refine Routing.gather_row _ rfl rfl rfl rfl rfl x _ n h (place n) ?_ (by norm_num)
  pointwise [val_main_v11, val_main_v10, val_main_v9, val_main_v8, val_main_v7, val_main_v6, val_main_v5, val_main_v4,
    val_main_c_4, val_main_c_3, val_main_c_2, val_main_v3, val_main_call0_v4, val_main_call0_v3, val_main_c_1, val_main_call0_v2,
    val_main_call0_v1, val_main_call0_v0, val_main_c_0, val_main_v2, val_main_v1, val_main_c, val_main_v0]
  show Scalar.select (IntOp.cmpi CmpIPredicate.slt (entry n) 0#32) (IntOp.addi (entry n) 257#32) (entry n) = _
  rw [← entry_is, nonneg n]
  rfl

end Cert.BwKernel

end
-- ==== Proof.BwClaim.lean ====
module

public import proofs.«01_k».proof.Defs
public import proofs.«01_k».proof.Proof.Gen.BwFwd.Frame
public import proofs.«01_k».proof.Proof.BwKernel
public import proofs.«01_k».proof.Proof.Gen.BwFormIdeal.Run
public import proofs.«01_k».proof.Proof.Gen.BwFormIdeal.Read

/-!
# The claims about the row of biases
-/

@[expose] public section

noncomputable section

namespace Cert.BwClaim

open Idealize.ShloMosaic Idealize.ShloMosaic.TcCoe Idealize.SL.Sem

theorem frame_reference : Cert.quiescent_BwFormIdeal := fun m ρ _ =>
  (θ_run BwFormIdeal.defs _ _).mono (fun r h => ⟨fun c => (h c).2, sem_eq_zero_of_no_sems (by decide) r.2⟩)
    (BwFormIdeal.Value.run (F := Ideal) m ρ)

theorem equal : Cert.algebraic_BwFwdIdeal_BwFormIdeal := by
  intro m ρ m' ρ' _ hagree
  refine ⟨fun c => (BwFwdIdeal.Gen.dats m 0 c).arrAt 1 BwFwdIdeal.cfg0.N, BwFwdIdeal.Value.run_blocks m ρ, ?_⟩
  refine (θ_run BwFormIdeal.defs _ _).mono (fun _ h c => ?_) (BwFormIdeal.Value.run (F := Ideal) m' ρ')
  have a0 := hagree c
  obtain ⟨h0, hk⟩ := h c
  refine ⟨h0.trans ?_, hk⟩
  refine Eq.trans ?_ (BwKernel.final m c).symm
  rw [BwFormIdeal.Read.val_main_v13_eq, a0]
  funext i
  idx_vars i
  exact BwKernel.reference_apply _ _ _

end Cert.BwClaim

end
-- ==== Proof.PxKernel.lean ====
module

public import proofs.«01_k».proof.Defs
public import proofs.«01_k».proof.Proof.Gen.PxSwapIdeal
public import proofs.«01_k».proof.Proof.Gen.PxSwapIdeal.Skeleton
public import proofs.«01_k».proof.Proof.Gen.PxSwapIdeal.Launch
public import proofs.«01_k».proof.Proof.Gen.PxSwap
public import proofs.«01_k».proof.Proof.Gen.PxSwap.Skeleton
public import proofs.«01_k».proof.Proof.Gen.PxSwap.Launch
public import proofs.«01_k».proof.Proof.Gen.PxHalvesIdeal
public import proofs.«01_k».proof.Proof.Gen.PxHalvesIdeal.Run
public import proofs.«01_k».proof.Proof.Gen.PxHalvesIdeal.Read
public import Idealize.ShloMosaic.Lib.Pipeline.Launch
public import Idealize.ShloMosaic.Lib.Pipeline.Kit
public import Idealize.ShloMosaic.Lib.Tactic

@[expose] public section

/-! # The exchange of halves between the two cores of a pair

Each device writes, for each of three arrays, the half of its rows that belongs to the other core
of its pair into that core's result, and waits for both ends of every transfer. Every transfer has
a cell of its own at either end: nothing is signalled, so the results are handed to the writers
before any device starts. -/

noncomputable section

namespace Cert.PxProof

open Cert.PxSwapIdeal Cert.PxSwapIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UU : Type := UR sig nD τ × UR sig nD τ

local notation "𝕄" => MT nD τ sig Unit (Elt F) ℕ UU ℕ

abbrev EP : Emb (UR sig nD τ) (MT nD τ sig Unit (Elt F) ℕ UU ℕ) := embL
abbrev EX : Emb (UR sig nD τ) (MT nD τ sig Unit (Elt F) ℕ UU ℕ) := embR

variable (m : (ℓ : Loc nD τ sig) → Buf (Elt F) ℓ)

/-! ## The pair, the arrays, the cells -/

/-- The other core of a device's pair. -/
def mate (c : Dev nD) : Dev nD := ⟨k0_dev1 c, k0_dev1_lt c⟩
theorem mate_mate (c : Dev nD) : mate (mate c) = c := by revert c; decide +kernel
def cross : Dev nD ≃ Dev nD := ⟨mate, mate, mate_mate, mate_mate⟩

/-- The three arrays and their results. -/
abbrev aM : Fin 3 → Memref sig .tc .hbm S1x4x704x1024 .bf16 := fun
  | 0 => Memref.whole main_arg0
  | 1 => Memref.whole main_arg1
  | 2 => Memref.whole main_arg2
abbrev oM : Fin 3 → Memref sig .tc .hbm S1x4x352x1024 .bf16 := fun
  | 0 => Memref.whole main_v1_0
  | 1 => Memref.whole main_v1_1
  | 2 => Memref.whole main_v1_2
/-- The half of array k that device d gives away. -/
abbrev half (k : Fin 3) (d : Dev nD) : Memref sig .tc .hbm S1x4x352x1024 .bf16 :=
  (aM k).slice (Rect.unit (s := S1x4x704x1024) (k0_off1 d) S1x4x352x1024.size (k0_off1_inb d)) (fun _ => rfl)

theorem aM_whole : ∀ k, (aM k).IsWhole
  | 0 | 1 | 2 => Memref.isWhole_whole _
theorem oM_whole : ∀ k, (oM k).IsWhole
  | 0 | 1 | 2 => Memref.isWhole_whole _
theorem half_exact (k : Fin 3) (d : Dev nD) : (half k d).view.WordExact :=
  (aM_whole k).wordExact_slice rfl _ (k0_off1_wordsbf16 d)

/-- Array k's two cells: the giver's and the taker's. -/
abbrev gS : Fin 3 → DmaSem sig := fun
  | 0 => ((cc0_scratch0.slice (Rect.unit (s := S3) ![0] S1.size inb_S3_S1_0)).squeeze S_ squeezes_S1_S_).sem
  | 1 => ((cc0_scratch0.slice (Rect.unit (s := S3) ![1] S1.size inb_S3_S1_1)).squeeze S_ squeezes_S1_S_).sem
  | 2 => ((cc0_scratch0.slice (Rect.unit (s := S3) ![2] S1.size inb_S3_S1_2)).squeeze S_ squeezes_S1_S_).sem
abbrev tS : Fin 3 → DmaSem sig := fun
  | 0 => ((cc0_scratch1.slice (Rect.unit (s := S3) ![0] S1.size inb_S3_S1_0)).squeeze S_ squeezes_S1_S_).sem
  | 1 => ((cc0_scratch1.slice (Rect.unit (s := S3) ![1] S1.size inb_S3_S1_1)).squeeze S_ squeezes_S1_S_).sem
  | 2 => ((cc0_scratch1.slice (Rect.unit (s := S3) ![2] S1.size inb_S3_S1_2)).squeeze S_ squeezes_S1_S_).sem
theorem gS_val : ∀ k : Fin 3, (gS k).val = k.val := by decide
theorem tS_val : ∀ k : Fin 3, (tS k).val = 3 + k.val := by decide

/-- A device's cell s. -/
abbrev cell (c : Dev nD) (s : DmaSem sig) : GSem nD τ sig := ((c : Thread nD τ), .dma s)

theorem plain : ∀ k : Fin 3, (oM k).view.ref.isScScratch = false
  | 0 | 1 | 2 => rfl
theorem typed : ∀ (k : Fin 3) (d : Dev nD),
    DmaTarget.Typed (p := .tc) .hbm (.dma (tS k)) (.remote (Dev.tc (mate d) : Thread nD τ) (oM k) (.dma (gS k)) (plain k))
  | 0, _ | 1, _ | 2, _ => ⟨⟨rfl, Or.inl rfl⟩, trivial⟩

/-- The kernel's three kinds of step. -/
def put (k : Fin 3) (d : Dev nD) (K : Prog (TpuEff nD τ sig (Elt F) Λ₀ .tc) PUnit) : Prog (TpuEff nD τ sig (Elt F) Λ₀ .tc) PUnit :=
  .op (.enqueueDma (half k d) (.remote (Dev.tc (mate d) : Thread nD τ) (oM k) (.dma (gS k)) (plain k)) (.dma (tS k))
    (half_exact k d) (oM_whole k).wordExact (typed k d)) fun _ => K
def gone (k : Fin 3) (d : Dev nD) (K : Prog (TpuEff nD τ sig (Elt F) Λ₀ .tc) PUnit) : Prog (TpuEff nD τ sig (Elt F) Λ₀ .tc) PUnit :=
  .op (.waitDma2 (gS k) (oM k) (half k d) (oM_whole k).wordExact (half_exact k d)) fun _ => K
def came (k : Fin 3) (d : Dev nD) (K : Prog (TpuEff nD τ sig (Elt F) Λ₀ .tc) PUnit) : Prog (TpuEff nD τ sig (Elt F) Λ₀ .tc) PUnit :=
  .op (.waitDma2 (tS k) (half k d) (oM k) (half_exact k d) (oM_whole k).wordExact) fun _ => K

set_option maxHeartbeats 2000000 in
/-- The body: three transfers, then for each its two waits. -/
theorem body_eq : cc0_pair_exchange_0 (F := F) (aM 0) (Memref.isWhole_whole _) (aM 1) (Memref.isWhole_whole _) (aM 2) (Memref.isWhole_whole _)
      (oM 0) (Memref.isWhole_whole _) (oM 1) (Memref.isWhole_whole _) (oM 2) (Memref.isWhole_whole _) cc0_scratch0 cc0_scratch1
    = .op .deviceId fun d => put 0 d (put 1 d (put 2 d (gone 0 d (came 0 d (gone 1 d (came 1 d (gone 2 d (came 2 d (.ret ⟨⟩))))))))) := by
  rfl

/-! ## The schedule -/

/-- The elements one transfer carries, as its cells count them. -/
def N : ℕ := (oM 0).view.dmaCredit
theorem N_pos : 0 < N := by unfold N; exact View.dmaCredit_pos _ (by decide)
theorem N_take : ∀ k : Fin 3, (oM k).view.dmaCredit = N
  | 0 | 1 | 2 => rfl
theorem N_give : ∀ (k : Fin 3) (d : Dev nD), (half k d).view.dmaCredit = N
  | 0, _ | 1, _ | 2, _ => rfl
attribute [irreducible] N

/-- What device c gives of array k, and what it finds in result k. -/
def give (k : Fin 3) (c : Dev nD) : sProp 𝕄 :=
  (half k c).view.loc (c : Thread nD τ) ↦[(half k c).view.set]{fullShare} m ((half k c).view.loc (c : Thread nD τ))
def landed (k : Fin 3) (c : Dev nD) : Buf (Elt F) ((oM k).view.loc (c : Thread nD τ)) :=
  (oM k).view.write (Elt F) (m ((oM k).view.loc (c : Thread nD τ)))
    ((half k (mate c)).view.read (Elt F) (m ((half k (mate c)).view.loc (mate c : Thread nD τ)))) Finset.univ
def room (k : Fin 3) (c : Dev nD) (f : Buf (Elt F) ((oM k).view.loc (c : Thread nD τ))) : sProp 𝕄 :=
  (oM k).view.loc (c : Thread nD τ) ↦[(oM k).view.set]{fullShare} f

instance give_storable (k : Fin 3) (c : Dev nD) : BI.Storable (upEmb : UEmb _ 𝕄) (give m k c) := by unfold give; infer_instance
instance room_storable (k : Fin 3) (c : Dev nD) (f) : BI.Storable (upEmb : UEmb _ 𝕄) (room (F := F) k c f) := by unfold room; infer_instance

/-- What a cell's one round hands its owner. -/
def pay (c : Dev nD) : SemLoc sig → sProp 𝕄 := fun s =>
  if s = .dma (gS 0) then give m 0 c else if s = .dma (gS 1) then give m 1 c else if s = .dma (gS 2) then give m 2 c
  else if s = .dma (tS 0) then room 0 c (landed m 0 c) else if s = .dma (tS 1) then room 1 c (landed m 1 c)
  else if s = .dma (tS 2) then room 2 c (landed m 2 c) else iprop(emp)

def sched : Rounds.Schedule (GSem nD τ sig) Unit 𝕄 where
  duties g r := if r = 0 ∧ g.1.2 = .tc then {()} else ∅
  unitless _ := False
  amount _ _ _ := N
  payload g _ _ := pay m g.1.1 g.2
  amount_pos _ _ _ _ := N_pos

instance sched_storable (g : GSem nD τ sig) (r : ℕ) (d : Unit) : BI.Storable (upEmb : UEmb _ 𝕄) ((sched (F := F) m).payload g r d) := by
  show BI.Storable upEmb (pay m g.1.1 g.2)
  unfold pay
  (repeat' split) <;> infer_instance

theorem pay_give (c : Dev nD) : ∀ k, pay m c (.dma (gS k)) = give m k c
  | 0 => if_pos rfl
  | 1 => (if_neg (by decide)).trans (if_pos rfl)
  | 2 => (if_neg (by decide)).trans ((if_neg (by decide)).trans (if_pos rfl))
theorem pay_room (c : Dev nD) : ∀ k, pay m c (.dma (tS k)) = room k c (landed m k c)
  | 0 => (if_neg (by decide)).trans ((if_neg (by decide)).trans ((if_neg (by decide)).trans (if_pos rfl)))
  | 1 => (if_neg (by decide)).trans ((if_neg (by decide)).trans ((if_neg (by decide)).trans ((if_neg (by decide)).trans (if_pos rfl))))
  | 2 => (if_neg (by decide)).trans ((if_neg (by decide)).trans ((if_neg (by decide)).trans ((if_neg (by decide)).trans
      ((if_neg (by decide)).trans (if_pos rfl)))))

theorem duties_now (c : Dev nD) (s : DmaSem sig) : (sched (F := F) m).duties (cell c s) 0 = {()} := by dsimp only [sched]; exact if_pos ⟨rfl, rfl⟩
theorem duties_later (g : GSem nD τ sig) : ∀ r, 1 ≤ r → (sched (F := F) m).duties g r = ∅ :=
  fun r hr => by dsimp only [sched]; exact if_neg fun h => by omega
theorem amount_now (g : GSem nD τ sig) (r : ℕ) (u : Unit) : (sched (F := F) m).amount g r u = N := by dsimp only [sched]
theorem expect_one {G M : Type} [URA M] (R : Rounds.Schedule G Unit M) (g : G) (n : ℕ) (h : R.duties g 0 = {()}) (h' : R.amount g 0 () = n) :
    R.expect g 0 = n := by
  unfold Schedule.expect Schedule.amountOf; rw [h, Finset.sum_singleton, h']
theorem rest_one {G M : Type} [URA M] (R : Rounds.Schedule G Unit M) (g : G) (h : R.duties g 0 = {()}) :
    bigSep (R.duties g 0 \ ∅) (fun u => R.payload g 0 u) = R.payload g 0 () := by
  rw [h, Finset.sdiff_empty, bigSep_singleton]
theorem expect_now (c : Dev nD) (s : DmaSem sig) : (sched (F := F) m).expect (cell c s) 0 = N :=
  expect_one _ _ _ (duties_now m c s) (amount_now m _ _ _)
theorem payload_now (c : Dev nD) (s : DmaSem sig) : (sched (F := F) m).payload (cell c s) 0 () = pay m c (.dma s) := by dsimp only [sched]
theorem rest_now (c : Dev nD) (s : DmaSem sig) :
    bigSep ((sched (F := F) m).duties (cell c s) 0 \ ∅) (fun u => (sched (F := F) m).payload (cell c s) 0 u) = pay m c (.dma s) :=
  (rest_one _ _ (duties_now m c s)).trans (payload_now m c s)

/-- Every cell's invariant, and that every cell is at its first round. -/
def records (κ : Dev nD × DmaSem sig → ℕ) : sProp 𝕄 :=
  iprop((bigSep Finset.univ fun x : Dev nD × DmaSem sig => cellInv EX (sched m) (κ x) (cell x.1 x.2))
    ∗ bigSep Finset.univ fun x : Dev nD × DmaSem sig => reached EX (cell x.1 x.2) 0)
instance records_persistent (κ : Dev nD × DmaSem sig → ℕ) : BI.Persistent (records m κ) := by unfold records; infer_instance

theorem inv_of (κ : Dev nD × DmaSem sig → ℕ) (c : Dev nD) (s : DmaSem sig) : records m κ ⊢ cellInv EX (sched m) (κ (c, s)) (cell c s) := by
  unfold records
  exact sep_elim_left.trans (bigSep_elim (Φ := fun x : Dev nD × DmaSem sig => (cellInv EX (sched m) (κ x) (cell x.1 x.2) : sProp 𝕄)) (Finset.mem_univ (c, s)))
theorem reached_of (κ : Dev nD × DmaSem sig → ℕ) (c : Dev nD) (s : DmaSem sig) : records m κ ⊢ reached EX (cell c s) 0 := by
  unfold records
  exact sep_elim_right.trans (bigSep_elim (Φ := fun x : Dev nD × DmaSem sig => (reached EX (cell x.1 x.2) 0 : sProp 𝕄)) (Finset.mem_univ (c, s)))

/-- What device c starts array k's transfer with, what it waits with, and what it is left with. -/
def kit (c : Dev nD) (k : Fin 3) : sProp 𝕄 :=
  iprop((atPos EX (cell c (gS k)) 0 ∅ 0 ∗ atPos EX (cell c (tS k)) 0 ∅ 0)
    ∗ (dutyTok EX (cell c (gS k)) 0 () ∗ dutyTok EX (cell (mate c) (tS k)) 0 ())
    ∗ cred (tallyAt (cell c (tS k)) () N)
    ∗ give m k c ∗ room k (mate c) (m ((oM k).view.loc (mate c : Thread nD τ))))
def held (c : Dev nD) (k : Fin 3) : sProp 𝕄 :=
  iprop((atPos EX (cell c (gS k)) 0 ∅ 0 ∗ cred (tallyAt (cell c (gS k)) () N)) ∗ atPos EX (cell c (tS k)) 0 ∅ 0 ∗ cred (tallyAt (cell c (tS k)) () N))
def done (c : Dev nD) (k : Fin 3) : sProp 𝕄 :=
  iprop((semVal (cell c (gS k)) 0 ∗ semVal (cell c (tS k)) 0) ∗ give m k c ∗ room k c (landed m k c))

/-! ## The steps -/

abbrev 𝒱₀ : Variants := Variants.none
/-- Device c runs K to its end. -/
abbrev runs (c : Dev nD) (K : Prog (TpuEff nD τ sig (Elt F) Λ₀ .tc) PUnit) (Q : PUnit → sProp 𝕄) : sProp 𝕄 :=
  wp frame (wpE (defs₀ (F := F)) 𝒱₀ (c : Thread nD τ) none) Set.univ K Q

variable {K : Prog (TpuEff nD τ sig (Elt F) Λ₀ .tc) PUnit}

/-- A transfer: it takes the giver's half and the taker's room, and leaves the token of the giver's wait. -/
theorem wp_put (k : Fin 3) (c : Dev nD) (κ : Dev nD × DmaSem sig → ℕ) (O₁ O₂ : CellTallies nD τ sig Unit)
    (hO : O₁ = O₂ + tallyAt (cell (mate c) (tS k)) () N) (W : Waits sig Unit) {Q : PUnit → sProp 𝕄} :
    iprop(records m κ ∗ kit m c k ∗ owes (c : Thread nD τ) O₁ W)
      ⊢ iprop(((held c k ∗ owes (c : Thread nD τ) O₂ W) -∗ runs c K Q) -∗ runs c (put k c K) Q) := by
  unfold put kit held give room
  iintro ⟨#HR, ⟨⟨Ag, At⟩, ⟨Dg, Dt⟩, C, G, R⟩, HO⟩ Hk
  iapply (Rounds.wp_send_pointsTo 𝒱₀ EX (sched m) (c : Thread nD τ) none (κ₁ := κ (c, gS k)) (κ₂ := κ (mate c, tS k))
    (k := fun _ => K) (r₁ := 0) (r₂ := 0) (d₁ := ()) (d₂ := ()) (fd := m ((oM k).view.loc (mate c : Thread nD τ)))
    (by rw [duties_now m c (gS k)]; exact Finset.mem_singleton_self _) (by rw [duties_now m (mate c) (tS k)]; exact Finset.mem_singleton_self _)
    () () N ((View.amount_dma _ _).trans (N_take k)) (amount_now m _ _ _) (amount_now m _ _ _) O₂ hO (W := W)
    (by rw [show (sched (F := F) m).payload (cell c (gS k)) 0 () = give m k c from (payload_now m _ _).trans (pay_give m c k)]; exact BI.Entails.refl _)
    (by
      rw [show (sched (F := F) m).payload (cell (mate c) (tS k)) 0 () = room k (mate c) (landed m k (mate c)) from (payload_now m _ _).trans (pay_room m (mate c) k)]
      unfold room landed; rw [mate_mate])) $$ [HO Dg Dt G R]
  · isplitr; · iapply (inv_of m κ c (gS k)); iexact HR
    isplitr; · iapply (inv_of m κ (mate c) (tS k)); iexact HR
    isplitl [G]; · iexact G
    isplitl [R]; · iexact R
    isplitl [HO]; · iexact HO
    isplitl [Dg]; · iexact Dg
    isplitr; · iapply (reached_of m κ c (gS k)); iexact HR
    isplitl [Dt]; · iexact Dt
    iapply (reached_of m κ (mate c) (tS k)); iexact HR
  iintro ⟨S, HO⟩
  iapply Hk
  isplitr [HO]
  · isplitl [Ag S]; · isplitl [Ag] <;> iassumption
    isplitl [At] <;> iassumption
  · iexact HO

/-- A wait: it gives back what the cell's round hands out, and the cell is done with. -/
theorem wp_wait (c : Dev nD) (s : DmaSem sig) {S S' : Shape} {ms ms' : Space} (A : Memref sig .tc ms S .bf16) (B : Memref sig .tc ms' S' .bf16) (hA : A.view.WordExact)
    (hB : B.view.WordExact) (hN : B.view.dmaCredit = N) (P : sProp 𝕄) (hP : pay m c (.dma s) = P) (κ : Dev nD × DmaSem sig → ℕ) (W : Waits sig Unit) {Q : PUnit → sProp 𝕄} :
    iprop(records m κ ∗ (atPos EX (cell c s) 0 ∅ 0 ∗ cred (tallyAt (cell c s) () N)) ∗ owes (c : Thread nD τ) 0 W)
      ⊢ iprop(((owes (c : Thread nD τ) 0 (insert (SemLoc.dma s, ()) W) ∗ semVal (cell c s) 0 ∗ P) -∗ runs c K Q)
          -∗ runs c (.op (.waitDma2 s A B hA hB) fun _ => K) Q) := by
  iintro ⟨#HR, ⟨Hat, Hc⟩, HO⟩ Hk
  ihave #Hi := (inv_of m κ c s) $$ HR
  iapply (Rounds.wp_wait_rest_token 𝒱₀ EX (sched m) (c : Thread nD τ) none (κ := κ (c, s))
      (wpE_waitDma2_eq 𝒱₀ (c : Thread nD τ) none Set.univ) (Set.mem_univ _) () (O := 0) (W := W) (R := 0) (m := 0) (T := ∅)
      (by rw [Nat.zero_add, hN]; exact (expect_now m c s).symm)) $$ [Hc HO Hat]
  · isplitr; · iexact Hi
    isplitl [Hc]; · rw [hN]; iexact Hc
    isplitl [HO]; · iexact HO
    isplitr; · rw [MayWait_zero]; iempintro
    iexact Hat
  iintro ⟨HO, Hat, -, Hpay⟩
  ihave Hp := (Entails.of_eq ((rest_now m c s).trans hP)) $$ Hpay
  imod (Rounds.cell_close EX (sched m) (Set.mem_univ (κ (c, s))) (fun h => h) (R := 0 + 1) (duties_later m (cell c s))) $$ [Hat] with Hz
  · isplitr; · iexact Hi
    iexact Hat
  iapply Hk
  isplitl [HO]; · iexact HO
  isplitl [Hz] <;> iassumption

/-- Array k's two waits: the first gives the half back, the second the room filled. -/
theorem wp_get (k : Fin 3) (c : Dev nD) (κ : Dev nD × DmaSem sig → ℕ) (W : Waits sig Unit) {Q : PUnit → sProp 𝕄} :
    iprop(records m κ ∗ held c k ∗ owes (c : Thread nD τ) 0 W)
      ⊢ iprop((∀ W', (done m c k ∗ owes (c : Thread nD τ) 0 W') -∗ runs c K Q) -∗ runs c (gone k c (came k c K)) Q) := by
  unfold gone came held done
  iintro ⟨#HR, ⟨Hg, Ht⟩, HO⟩ Hk
  iapply (wp_wait m c (gS k) _ _ _ _ (N_give k c) _ (pay_give m c k) κ W) $$ [Hg HO]
  · isplitr; · iexact HR
    isplitl [Hg] <;> iassumption
  iintro ⟨HO, Zg, G⟩
  iapply (wp_wait m c (tS k) _ _ _ _ (N_take k) _ (pay_room m c k) κ _) $$ [Ht HO]
  · isplitr; · iexact HR
    isplitl [Ht] <;> iassumption
  iintro ⟨HO, Zt, R⟩
  iapply Hk
  isplitr [HO]
  · isplitl [Zg Zt]; · isplitl [Zg] <;> iassumption
    isplitl [G] <;> iassumption
  · iexact HO

/-! ## The body -/

/-- What a device owes at the start: the three takers' cells of its pair. -/
def dues (c : Dev nD) : CellTallies nD τ sig Unit :=
  tallyAt (cell (mate c) (tS 2)) () N + tallyAt (cell (mate c) (tS 1)) () N + tallyAt (cell (mate c) (tS 0)) () N

theorem wp_body (κ : Dev nD × DmaSem sig → ℕ) (c : Dev nD) (W : Waits sig Unit) (Q : PUnit → sProp 𝕄) :
    iprop(records m κ ∗ (kit m c 0 ∗ kit m c 1 ∗ kit m c 2) ∗ owes (c : Thread nD τ) (dues c) W
        ∗ ((done m c 0 ∗ done m c 1 ∗ done m c 2) -∗ (∃ W', owes (c : Thread nD τ) (0 : CellTallies nD τ sig Unit) W') -∗ Q ⟨⟩))
      ⊢ runs c (put 0 c (put 1 c (put 2 c (gone 0 c (came 0 c (gone 1 c (came 1 c (gone 2 c (came 2 c (.ret ⟨⟩)))))))))) Q := by
  iintro ⟨#HR, ⟨K0, K1, K2⟩, HO, Hk⟩
  iapply (wp_put m 0 c κ (dues c) _ rfl W) $$ [K0 HO]
  · isplitr; · iexact HR
    isplitl [K0] <;> iassumption
  iintro ⟨H0, HO⟩
  iapply (wp_put m 1 c κ _ _ rfl W) $$ [K1 HO]
  · isplitr; · iexact HR
    isplitl [K1] <;> iassumption
  iintro ⟨H1, HO⟩
  iapply (wp_put m 2 c κ _ 0 (zero_add _).symm W) $$ [K2 HO]
  · isplitr; · iexact HR
    isplitl [K2] <;> iassumption
  iintro ⟨H2, HO⟩
  iapply (wp_get m 0 c κ W) $$ [H0 HO]
  · isplitr; · iexact HR
    isplitl [H0] <;> iassumption
  iintro %W₁ ⟨D0, HO⟩
  iapply (wp_get m 1 c κ W₁) $$ [H1 HO]
  · isplitr; · iexact HR
    isplitl [H1] <;> iassumption
  iintro %W₂ ⟨D1, HO⟩
  iapply (wp_get m 2 c κ W₂) $$ [H2 HO]
  · isplitr; · iexact HR
    isplitl [H2] <;> iassumption
  iintro %W₃ ⟨D2, HO⟩
  unfold runs; rw [wp_ret]; imodintro
  iapply Hk $$ [D0 D1 D2]
  · isplitl [D0]; · iexact D0
    isplitl [D1] <;> iassumption
  iexists W₃; iexact HO

/-! ## The call's invariant -/

def start (c : Dev nD) : sProp 𝕄 := iprop((∃ κ, records m κ) ∗ kit m c 0 ∗ kit m c 1 ∗ kit m c 2)
def finish (c : Dev nD) : sProp 𝕄 := iprop(done m c 0 ∗ done m c 1 ∗ done m c 2)

def dats (_ : Fin 1) (c : Dev nD) : Dat τ (Elt F) Unit ℕ UU ℕ cfg0 c where
  A w := w.elim0
  after w _ := w.elim0
  Φ t := match t with
    | ⟨0, _⟩ => start m c
    | ⟨_ + 1, _⟩ => finish m c
  q _ := fullShare
  owed t := match t with
    | ⟨0, _⟩ => dues c
    | ⟨_ + 1, _⟩ => 0

theorem no_windows (Φ : Fin 0 → sProp 𝕄) : bigSep Finset.univ Φ = (BI.emp : sProp 𝕄) := by
  rw [Finset.univ_eq_empty, BI.bigSep_empty]

theorem body_obligation (c : Dev nD) : BodyObligation (dats (F := F) m 0 c) (defs₀ (F := F)) 𝒱₀ () Set.univ := fun t => by
  rw [fin_N0 t]
  refine (show _ ⊢ iprop(start m c ∗ (dats m 0 c).owesAt () t0_0.castSucc) from sep_mono_right sep_elim_left).trans ?_
  show _ ⊢ wp frame (wpE (defs₀ (F := F)) 𝒱₀ (c : Thread nD τ) none) Set.univ
    (cc0_pair_exchange_0 (F := F) (aM 0) (Memref.isWhole_whole _) (aM 1) (Memref.isWhole_whole _) (aM 2) (Memref.isWhole_whole _)
      (oM 0) (Memref.isWhole_whole _) (oM 1) (Memref.isWhole_whole _) (oM 2) (Memref.isWhole_whole _) cc0_scratch0 cc0_scratch1)
    (fun _ => iprop(finish m c ∗ (dats m 0 c).owesAt () t0_0.succ ∗ bigSep (Finset.univ : Finset (Fin 0)) _))
  rw [body_eq, no_windows, wp_deviceId]
  unfold start finish Dat.owesAt Pipeline.owesWithin
  rw [show (dats m 0 c).owed t0_0.castSucc = dues c from rfl, show (dats m 0 c).owed t0_0.succ = 0 from rfl]
  iintro ⟨⟨⟨%κ, HR⟩, HK⟩, ⟨%W, -, HO⟩⟩
  iapply (wp_body m κ c W)
  isplitl [HR]; · iexact HR
  isplitl [HK]; · iexact HK
  isplitl [HO]; · iexact HO
  iintro HD ⟨%W', HO⟩
  isplitl [HD]; · iexact HD
  isplitl [HO]
  · iexists W'
    isplitr; · ipureintro; exact fun _ _ => Or.inl trivial
    iexact HO
  iempintro

/-! ## What each device is dealt -/

theorem mate_iff {d c : Dev nD} : c = mate d ↔ d = mate c := ⟨fun h => by rw [h, mate_mate], fun h => by rw [h, mate_mate]⟩
theorem tS_inj : ∀ j k : Fin 3, tS j = tS k → j = k := by decide

theorem owed_by (d c : Dev nD) (j k : Fin 3) :
    (tallyAt (cell (mate d) (tS j)) () N : CellTallies nD τ sig Unit) (cell c (tS k)) () = if j = k then (if d = mate c then N else 0) else 0 := by
  by_cases h : j = k
  · subst h
    rw [if_pos rfl, tallyAt_apply]
    by_cases h : d = mate c
    · subst h; rw [mate_mate, if_pos ⟨rfl, rfl⟩, if_pos rfl]
    · rw [if_neg h, if_neg fun h' => h (mate_iff.mp (Fin.ext (congrArg (fun g : GSem nD τ sig => g.1.1.val) h'.1)))]
  · rw [if_neg h, tallyAt_ne_cell fun e => h (tS_inj _ _ (SemLoc.dma.inj (congrArg Prod.snd e)).symm), Finsupp.zero_apply]
theorem owed (d c : Dev nD) (k : Fin 3) : dues d (cell c (tS k)) () = if d = mate c then N else 0 := by
  unfold dues
  rw [Pi.add_apply, Pi.add_apply, Finsupp.add_apply, Finsupp.add_apply, owed_by, owed_by, owed_by]
  generalize (if d = mate c then N else 0) = n
  match k with
  | 0 | 1 | 2 => simp
theorem launch_take (c : Dev nD) (k : Fin 3) :
    tallyOn (cell c (tS k)) (launchCredit (Pipeline.owing dues) 0 (cell c (tS k))) = (tallyAt (cell c (tS k)) () N : CellTallies nD τ sig Unit) := by
  unfold tallyAt; refine congrArg _ (Finsupp.ext fun u => ?_); cases u
  rw [Pipeline.launchCredit_owing, Finsupp.single_eq_same, Finset.sum_congr rfl fun d _ => owed d c k,
    Finset.sum_ite_eq' Finset.univ (mate c) fun _ => N, if_pos (Finset.mem_univ _)]
theorem credits (c : Dev nD) : (Pipeline.launchCred dues c : sProp 𝕄)
    ⊢ iprop(cred (tallyAt (cell c (tS 0)) () N) ∗ cred (tallyAt (cell c (tS 1)) () N) ∗ cred (tallyAt (cell c (tS 2)) () N)) := by
  unfold Pipeline.launchCred
  rw [bigSep_univ_at _ (SemLoc.dma (tS 0)), launch_take]
  have h : ({SemLoc.dma (tS 1), SemLoc.dma (tS 2)} : Finset (SemLoc sig)) ⊆ Finset.univ.erase (SemLoc.dma (tS 0)) := by
    intro x hx
    rcases Finset.mem_insert.mp hx with rfl | hx
    · exact Finset.mem_erase.mpr ⟨by decide, Finset.mem_univ _⟩
    · rw [Finset.mem_singleton.mp hx]; exact Finset.mem_erase.mpr ⟨by decide, Finset.mem_univ _⟩
  refine sep_mono_right ((BI.bigSep_subset h).trans ?_)
  rw [bigSep_insert (by decide), bigSep_singleton, launch_take, launch_take]
  exact BI.Entails.refl _

/-- The part of array k that a device keeps. -/
def keep (c : Dev nD) (k : Fin 3) : sProp 𝕄 :=
  (aM k).view.loc (c : Thread nD τ) ↦[Finset.univ \ (half k c).view.set]{fullShare} m ((aM k).view.loc (c : Thread nD τ))

theorem array_split (c : Dev nD) : ∀ k : Fin 3,
    ((((aM k).view.loc (c : Thread nD τ)) ↦{fullShare} m ((aM k).view.loc (c : Thread nD τ)) : sProp 𝕄) ⊣⊢ iprop(give m k c ∗ keep m c k))
  | 0 | 1 | 2 => pointsTo_split_subset (Finset.subset_univ _)
theorem room_whole (c : Dev nD) : ∀ (k : Fin 3) (f), (room (F := F) k c f) = ((((oM k).view.loc (c : Thread nD τ)) ↦{fullShare} f : sProp 𝕄))
  | 0, f => by unfold room; rw [show (oM 0).view.set = Finset.univ from View.set_whole _]
  | 1, f => by unfold room; rw [show (oM 1).view.set = Finset.univ from View.set_whole _]
  | 2, f => by unfold room; rw [show (oM 2).view.set = Finset.univ from View.set_whole _]

/-- What a device keeps of its deal for array k, and what it hands its mate. -/
def mine (c : Dev nD) (k : Fin 3) : sProp 𝕄 :=
  iprop((atPos EX (cell c (gS k)) 0 ∅ 0 ∗ atPos EX (cell c (tS k)) 0 ∅ 0) ∗ dutyTok EX (cell c (gS k)) 0 ()
    ∗ cred (tallyAt (cell c (tS k)) () N) ∗ give m k c)
def others (c : Dev nD) (k : Fin 3) : sProp 𝕄 :=
  iprop(dutyTok EX (cell c (tS k)) 0 () ∗ room k c (m ((oM k).view.loc (c : Thread nD τ))))
def own3 (c : Dev nD) : sProp 𝕄 := iprop((mine m c 0 ∗ mine m c 1 ∗ mine m c 2) ∗ keep m c 0 ∗ keep m c 1 ∗ keep m c 2)
def others3 (c : Dev nD) : sProp 𝕄 := iprop(others m c 0 ∗ others m c 1 ∗ others m c 2)
def keeps (c : Dev nD) : sProp 𝕄 := iprop(keep m c 0 ∗ keep m c 1 ∗ keep m c 2)

theorem six (Φ : DmaSem sig → sProp 𝕄) :
    bigSep Finset.univ Φ = iprop(Φ (gS 0) ∗ Φ (gS 1) ∗ Φ (gS 2) ∗ Φ (tS 0) ∗ Φ (tS 1) ∗ Φ (tS 2)) :=
  bigSep_univ_eq_bigSepL [gS 0, gS 1, gS 2, tS 0, tS 1, tS 2] (by decide) (by decide) Φ

theorem buffers (c : Dev nD) : (unscopedBufs c (fun b => m ((c : Thread nD τ).loc b)) : sProp 𝕄)
    ⊢ iprop((give m 0 c ∗ give m 1 c ∗ give m 2 c) ∗ keeps m c
      ∗ room 0 c (m ((oM 0).view.loc (c : Thread nD τ))) ∗ room 1 c (m ((oM 1).view.loc (c : Thread nD τ))) ∗ room 2 c (m ((oM 2).view.loc (c : Thread nD τ)))) := by
  rw [Pipeline.unscopedBufs_split cfgs 0 winFacts0.arr_unscoped winFacts0.arr_inj c, unscopedRest0_eq]
  unfold keeps
  iintro ⟨-, A0, A1, A2, R0, R1, R2⟩
  ihave H0 := (array_split m c 0).1 $$ A0
  ihave H1 := (array_split m c 1).1 $$ A1
  ihave H2 := (array_split m c 2).1 $$ A2
  icases H0 with ⟨G0, K0⟩
  icases H1 with ⟨G1, K1⟩
  icases H2 with ⟨G2, K2⟩
  isplitl [G0 G1 G2]
  · isplitl [G0]; · iexact G0
    isplitl [G1] <;> iassumption
  isplitl [K0 K1 K2]
  · isplitl [K0]; · iexact K0
    isplitl [K1] <;> iassumption
  rw [room_whole, room_whole, room_whole]
  isplitl [R0]; · iexact R0
  isplitl [R1] <;> iassumption

theorem deal_one (c : Dev nD) :
    iprop((bigSep Finset.univ fun s : DmaSem sig => atPos EX (cell c s) 0 ∅ 0) ∗ (bigSep Finset.univ fun s : DmaSem sig => dutyTok EX (cell c s) 0 ())
        ∗ Pipeline.launchCred dues c ∗ unscopedBufs c (fun b => m ((c : Thread nD τ).loc b)))
      ⊢ iprop(own3 m c ∗ others3 m c) := by
  rw [six, six]
  refine (sep_mono_right (sep_mono_right (sep_mono (credits c) (buffers m c)))).trans ?_
  unfold own3 others3 mine others keeps
  iintro ⟨⟨Ag0, Ag1, Ag2, At0, At1, At2⟩, ⟨Dg0, Dg1, Dg2, Dt0, Dt1, Dt2⟩, ⟨C0, C1, C2⟩, ⟨G0, G1, G2⟩, HK, R0, R1, R2⟩
  isplitl [Ag0 Ag1 Ag2 At0 At1 At2 Dg0 Dg1 Dg2 C0 C1 C2 G0 G1 G2 HK]
  · isplitr [HK]
    · isplitl [Ag0 At0 Dg0 C0 G0]
      · isplitl [Ag0 At0]; · isplitl [Ag0] <;> iassumption
        isplitl [Dg0]; · iexact Dg0
        isplitl [C0] <;> iassumption
      isplitl [Ag1 At1 Dg1 C1 G1]
      · isplitl [Ag1 At1]; · isplitl [Ag1] <;> iassumption
        isplitl [Dg1]; · iexact Dg1
        isplitl [C1] <;> iassumption
      isplitl [Ag2 At2]; · isplitl [Ag2] <;> iassumption
      isplitl [Dg2]; · iexact Dg2
      isplitl [C2] <;> iassumption
    · iexact HK
  isplitl [Dt0 R0]; · isplitl [Dt0] <;> iassumption
  isplitl [Dt1 R1]; · isplitl [Dt1] <;> iassumption
  isplitl [Dt2] <;> iassumption

theorem kit_of (κ : Dev nD × DmaSem sig → ℕ) (c : Dev nD) :
    iprop(records m κ ∗ own3 m c ∗ others3 m (mate c)) ⊢ iprop(start m c ∗ keeps m c) := by
  unfold start own3 others3 mine others kit keeps
  iintro ⟨HR, ⟨⟨⟨A0, D0, C0, G0⟩, ⟨A1, D1, C1, G1⟩, ⟨A2, D2, C2, G2⟩⟩, HK⟩, ⟨T0, R0⟩, ⟨T1, R1⟩, ⟨T2, R2⟩⟩
  isplitr [HK]
  · isplitl [HR]; · iexists κ; iexact HR
    isplitl [A0 D0 C0 G0 T0 R0]
    · isplitl [A0]; · iexact A0
      isplitl [D0 T0]; · isplitl [D0] <;> iassumption
      isplitl [C0]; · iexact C0
      isplitl [G0] <;> iassumption
    isplitl [A1 D1 C1 G1 T1 R1]
    · isplitl [A1]; · iexact A1
      isplitl [D1 T1]; · isplitl [D1] <;> iassumption
      isplitl [C1]; · iexact C1
      isplitl [G1] <;> iassumption
    isplitl [A2]; · iexact A2
    isplitl [D2 T2]; · isplitl [D2] <;> iassumption
    isplitl [C2]; · iexact C2
    isplitl [G2] <;> iassumption
  · iexact HK

/-! ## The ghosts of the cells -/

abbrev osem (s : DmaSem sig) : SemLoc sig := .dma s
theorem ownSemFacts : Pipeline.OwnSemFacts cfg0.spec osem := by decide

theorem cell_inj : Function.Injective fun x : Dev nD × DmaSem sig => cell x.1 x.2 := by
  rintro ⟨c, s⟩ ⟨c', s'⟩ h
  have h1 : c = c' := Fin.ext (congrArg (fun g : GSem nD τ sig => g.1.1.val) h)
  have h2 : s = s' := SemLoc.dma.inj (congrArg Prod.snd h)
  rw [h1, h2]
def cells : Finset (GSem nD τ sig) := Finset.univ.map ⟨fun x : Dev nD × DmaSem sig => cell x.1 x.2, cell_inj⟩
def tokens : Finset (GSem nD τ sig × ℕ × Unit) :=
  Finset.univ.map ⟨fun x : Dev nD × DmaSem sig => (cell x.1 x.2, 0, ()), fun _ _ h => cell_inj (congrArg Prod.fst h)⟩
def u₀ : UU := (initOf ∅ ∅, initOf cells tokens)

theorem over_cells (Φ : GSem nD τ sig → sProp 𝕄) : bigSep cells Φ = bigSep Finset.univ fun x : Dev nD × DmaSem sig => Φ (cell x.1 x.2) := by
  unfold cells; rw [bigSep_map]; rfl
theorem over_tokens : bigSep tokens (fun x => (dutyTok EX x.1 x.2.1 x.2.2 : sProp 𝕄)) = bigSep Finset.univ fun x : Dev nD × DmaSem sig => dutyTok EX (cell x.1 x.2) 0 () := by
  unfold tokens; rw [bigSep_map]; rfl

theorem fund_cells :
    iprop((bigSep Finset.univ fun c : Dev nD => Pipeline.ownSems0 (Ix := Unit) (Name := ℕ) (U := UU) (Lvl := ℕ) (Val := Elt F) (τ := τ) osem c)
        ∗ BI.own (EX (initOf cells tokens)))
      ⊢ (|={Set.univ}=> iprop((∃ κ, records m κ)
          ∗ (bigSep Finset.univ fun c : Dev nD => bigSep Finset.univ fun s : DmaSem sig => atPos EX (cell c s) 0 ∅ 0)
          ∗ (bigSep Finset.univ fun c : Dev nD => bigSep Finset.univ fun s : DmaSem sig => dutyTok EX (cell c s) 0 ())) : sProp 𝕄) := by
  have hv : (bigSep Finset.univ fun c : Dev nD => Pipeline.ownSems0 (Ix := Unit) (Name := ℕ) (U := UU) (Lvl := ℕ) (Val := Elt F) (τ := τ) osem c)
      = (bigSep Finset.univ fun x : Dev nD × DmaSem sig => semVal (cell x.1 x.2) 0 : sProp 𝕄) := by
    rw [bigSep_univ_prod]; rfl
  rw [hv]
  iintro ⟨Hv, HX⟩
  imod (Rounds.fund EX (sched m) cells tokens) $$ HX with ⟨Hst, Hr, Hat, Htok⟩
  ihave Hst' := (Entails.of_eq (over_cells fun g => roundState EX (sched m) g 0)) $$ Hst
  ihave Hat' := (Entails.of_eq ((over_cells (F := F) fun g => atPos EX g 0 ∅ 0).trans (bigSep_univ_prod _))) $$ Hat
  ihave Hr' := (Entails.of_eq (over_cells (F := F) fun g => reached EX g 0)) $$ Hr
  ihave Htok' := (Entails.of_eq ((over_tokens (F := F)).trans (bigSep_univ_prod _))) $$ Htok
  ihave Hb := (show iprop((bigSep Finset.univ fun x : Dev nD × DmaSem sig => semVal (cell x.1 x.2) 0) ∗ bigSep Finset.univ fun x : Dev nD × DmaSem sig => roundState EX (sched m) (cell x.1 x.2) 0)
      ⊢ (bigSep Finset.univ fun x : Dev nD × DmaSem sig => body EX (sched m) (cell x.1 x.2) : sProp 𝕄) from by
        rw [← bigSep_sep']; exact bigSep_mono fun x _ => Rounds.body_intro EX (sched m) (cell x.1 x.2)) $$ [Hv Hst']
  · isplitl [Hv] <;> iassumption
  imod (inv_alloc_family Finset.univ (fun x : Dev nD × DmaSem sig => body EX (sched m) (cell x.1 x.2)) ∅) $$ Hb with ⟨%κ, -, HI⟩
  imodintro
  isplitl [HI Hr']
  · iexists κ; unfold records; isplitl [HI] <;> iassumption
  isplitl [Hat'] <;> iassumption

/-- The deal: every device starts with its own cells, its mate's rooms and the tokens that go with them. -/
theorem deal :
    iprop((bigSep Finset.univ fun c : Dev nD => Pipeline.ownSems0 (Ix := Unit) (Name := ℕ) (U := UU) (Lvl := ℕ) (Val := Elt F) (τ := τ) osem c)
        ∗ (bigSep Finset.univ fun c : Dev nD => Pipeline.launchCred dues c)
        ∗ (bigSep Finset.univ fun c : Dev nD => unscopedBufs c (fun b => m ((c : Thread nD τ).loc b)))
        ∗ BI.own (EX (initOf cells tokens)))
      ⊢ (|={Set.univ}=> bigSep Finset.univ fun c : Dev nD => iprop(start m c ∗ keeps m c) : sProp 𝕄) := by
  iintro ⟨Hv, Hc, Hb, HX⟩
  imod (fund_cells m) $$ [Hv HX] with ⟨⟨%κ, HR⟩, Hat, Htok⟩
  · isplitl [Hv] <;> iassumption
  imodintro
  ihave H := (show iprop((bigSep Finset.univ fun c : Dev nD => bigSep Finset.univ fun s : DmaSem sig => atPos EX (cell c s) 0 ∅ 0)
      ∗ (bigSep Finset.univ fun c : Dev nD => bigSep Finset.univ fun s : DmaSem sig => dutyTok EX (cell c s) 0 ())
      ∗ (bigSep Finset.univ fun c : Dev nD => Pipeline.launchCred dues c)
      ∗ (bigSep Finset.univ fun c : Dev nD => unscopedBufs c (fun b => m ((c : Thread nD τ).loc b))))
      ⊢ (bigSep Finset.univ fun c : Dev nD => iprop(own3 m c ∗ others3 m (mate c)) : sProp 𝕄) from by
    rw [← bigSep_sep', ← bigSep_sep', ← bigSep_sep']
    refine (bigSep_mono fun c _ => deal_one m c).trans ?_
    rw [bigSep_sep', bigSep_sep', bigSep_univ_equiv cross (fun c : Dev nD => others3 m c)]
    exact BI.Entails.refl _) $$ [Hat Htok Hc Hb]
  · isplitl [Hat]; · iexact Hat
    isplitl [Htok]; · iexact Htok
    isplitl [Hc] <;> iassumption
  iapply ((sep_mono_left (BI.bigSep_of_persistent Finset.univ (records m κ))).trans (show iprop((bigSep Finset.univ fun _ : Dev nD => records m κ)
      ∗ (bigSep Finset.univ fun c : Dev nD => iprop(own3 m c ∗ others3 m (mate c)))) ⊢ (bigSep Finset.univ fun c : Dev nD => iprop(start m c ∗ keeps m c) : sProp 𝕄) from by
    rw [← bigSep_sep']; exact bigSep_mono fun c _ => kit_of m κ c))
  isplitl [HR] <;> iassumption

/-! ## The launch -/

/-- What a device holds once the call is done. -/
def results (c : Dev nD) : sProp 𝕄 :=
  iprop((give m 0 c ∗ room 0 c (landed m 0 c)) ∗ (give m 1 c ∗ room 1 c (landed m 1 c)) ∗ give m 2 c ∗ room 2 c (landed m 2 c))
def idle (c : Dev nD) : sProp 𝕄 := Pipeline.idleSems0 cfgs cellOf_inj 0 ownSemFacts c
def left (c : Dev nD) : sProp 𝕄 := iprop((results m c ∗ keeps m c) ∗ scopedSems0 (c : Thread nD τ))
def from₀ (c : Dev nD) : sProp 𝕄 :=
  iprop(scopedBufs (c : Thread nD τ) ∗ idle c ∗ owes (c : Thread nD τ) (dues c) ∅ ∗ start m c ∗ keeps m c)

/-- What a core is to have at the end of its run. -/
def Reads (c : Dev nD) (s : MemSt nD τ sig (Elt F)) : Prop :=
  (∀ k, s.mem ((aM k).view.loc (c : Thread nD τ)) = m ((aM k).view.loc (c : Thread nD τ)))
    ∧ ∀ k, s.mem ((oM k).view.loc (c : Thread nD τ)) = landed m k c

theorem three (Φ : Fin 3 → sProp 𝕄) : bigSep Finset.univ Φ = iprop(Φ 0 ∗ Φ 1 ∗ Φ 2) :=
  bigSep_univ_eq_bigSepL [0, 1, 2] (by decide) (by decide) Φ

theorem read_results (c : Dev nD) (s' : Phys nD τ sig (Elt F)) :
    iprop((results m c ∗ keeps m c) ∗ SI s') ⊢ iprop(⌜Reads m c s'.mem⌝ ∗ SI s') := by
  have h1 : iprop(results m c ∗ keeps m c)
      ⊢ iprop((bigSep Finset.univ fun k : Fin 3 => (((aM k).view.loc (c : Thread nD τ)) ↦{fullShare} m ((aM k).view.loc (c : Thread nD τ)) : sProp 𝕄))
        ∗ bigSep Finset.univ fun k : Fin 3 => (((oM k).view.loc (c : Thread nD τ)) ↦{fullShare} landed m k c : sProp 𝕄)) := by
    rw [three, three]
    unfold results keeps
    rw [room_whole, room_whole, room_whole]
    iintro ⟨⟨⟨G0, R0⟩, ⟨G1, R1⟩, G2, R2⟩, K0, K1, K2⟩
    isplitr [R0 R1 R2]
    · isplitl [G0 K0]; · iapply (array_split m c 0).2; isplitl [G0] <;> iassumption
      isplitl [G1 K1]; · iapply (array_split m c 1).2; isplitl [G1] <;> iassumption
      iapply (array_split m c 2).2; isplitl [G2] <;> iassumption
    isplitl [R0]; · iexact R0
    isplitl [R1] <;> iassumption
  iintro ⟨H, HSI⟩
  ihave H' := h1 $$ H
  icases H' with ⟨HA, HO⟩
  ihave Ha := (pointsTo_read_all Finset.univ (fun k : Fin 3 => (aM k).view.loc (c : Thread nD τ)) (fun k => m ((aM k).view.loc (c : Thread nD τ))) s') $$ [HA HSI]
  · isplitl [HA] <;> iassumption
  icases Ha with ⟨%ha, HSI⟩
  ihave Ho := (pointsTo_read_all Finset.univ (fun k : Fin 3 => (oM k).view.loc (c : Thread nD τ)) (fun k => landed m k c) s') $$ [HO HSI]
  · isplitl [HO] <;> iassumption
  icases Ho with ⟨%ho, HSI⟩
  isplitr
  · ipureintro; exact ⟨fun k => ha k (Finset.mem_univ k), fun k => ho k (Finset.mem_univ k)⟩
  · iexact HSI

theorem no_cells (c : Dev nD) : (Pipeline.cellsSems0 cfgs 0 c : sProp 𝕄) = BI.emp := no_windows _

/-- At the end of the call a core has its results and every semaphore back at nought. -/
theorem call_out (c : Dev nD) :
    iprop(finish m c ∗ Pipeline.cellsSems0 cfgs 0 c ∗ Dat.staging cfg0 c ∗ idle c)
      ⊢ iprop(results m c ∗ scopedSems0 (c : Thread nD τ) ∗ scopedBufs (c : Thread nD τ)) := by
  rw [Pipeline.scopedSems0_split cfgs cellOf_inj 0 winFacts0.to₀ ownSemFacts c, Pipeline.scopedBufs_split cfgs 0 winFacts0.stage_scoped winFacts0.stage_inj stage_whole0 c,
    scopedRest0_eq, show (Pipeline.ownSems0 osem c : sProp 𝕄) = _ from six fun s => semVal ((c : Thread nD τ), osem s) 0]
  unfold finish done results idle
  iintro ⟨⟨⟨⟨A0, B0⟩, H0⟩, ⟨⟨A1, B1⟩, H1⟩, ⟨A2, B2⟩, H2⟩, HC, HS, HI⟩
  isplitl [H0 H1 H2]
  · isplitl [H0]; · iexact H0
    isplitl [H1] <;> iassumption
  isplitr [HS]
  · isplitr [HI]
    · isplitl [HC]; · iexact HC
      isplitl [A0]; · iexact A0
      isplitl [A1]; · iexact A1
      isplitl [A2]; · iexact A2
      isplitl [B0]; · iexact B0
      isplitl [B1] <;> iassumption
    · iexact HI
  isplitl [HS]; · iexact HS
  iempintro

/-- One core's launch holdings. -/
theorem core_holds (ρ : Dev nD → PrngReg) (c : Dev nD) :
    (coreInit (Pipeline.owing dues) 0 (⟨m, fun _ => 0, ρ⟩ : MemSt nD τ sig (Elt F)) (c : Thread nD τ) : sProp 𝕄)
      ⊢ iprop((scopedBufs (c : Thread nD τ) ∗ idle c ∗ owes (c : Thread nD τ) (dues c) ∅)
        ∗ Pipeline.ownSems0 osem c ∗ Pipeline.launchCred dues c ∗ unscopedBufs c (fun b => m ((c : Thread nD τ).loc b))) := by
  refine (Pipeline.coreInit_boundary_owing dues m ρ c).trans ?_
  unfold boundary idle
  rw [Pipeline.scopedSems0_split cfgs cellOf_inj 0 winFacts0.to₀ ownSemFacts c]
  iintro ⟨⟨HS, ⟨⟨-, HO⟩, HI⟩, -⟩, HB, -, HL, -, -, HC⟩
  isplitl [HS HI HL]
  · isplitl [HS]; · iexact HS
    isplitl [HI] <;> iassumption
  isplitl [HO]; · iexact HO
  isplitl [HC] <;> iassumption

theorem from_of (c : Dev nD) :
    iprop((scopedBufs (c : Thread nD τ) ∗ idle c ∗ owes (c : Thread nD τ) (dues c) ∅) ∗ start m c ∗ keeps m c) ⊢ from₀ m c := by
  unfold from₀
  iintro ⟨⟨A, B, C⟩, D⟩
  isplitl [A]; · iexact A
  isplitl [B]; · iexact B
  isplitl [C] <;> iassumption

theorem launched (ρ : Dev nD → PrngReg) :
    iprop((bigSep Finset.univ fun c : Dev nD => coreInit (Pipeline.owing dues) 0 (⟨m, fun _ => 0, ρ⟩ : MemSt nD τ sig (Elt F)) (c : Thread nD τ)) ∗ ownU u₀)
      ⊢ (|={Set.univ}=> ∃ _ : Unit, bigSep Finset.univ (from₀ m) ∗ emp : sProp 𝕄) := by
  iintro ⟨Hc, Hu⟩
  ihave H := (show (bigSep Finset.univ fun c : Dev nD => coreInit (Pipeline.owing dues) 0 (⟨m, fun _ => 0, ρ⟩ : MemSt nD τ sig (Elt F)) (c : Thread nD τ) : sProp 𝕄)
      ⊢ iprop((bigSep Finset.univ fun c : Dev nD => iprop(scopedBufs (c : Thread nD τ) ∗ idle c ∗ owes (c : Thread nD τ) (dues c) ∅))
        ∗ (bigSep Finset.univ fun c : Dev nD => Pipeline.ownSems0 osem c) ∗ (bigSep Finset.univ fun c : Dev nD => Pipeline.launchCred dues c)
        ∗ bigSep Finset.univ fun c : Dev nD => unscopedBufs c (fun b => m ((c : Thread nD τ).loc b))) from by
    rw [← bigSep_sep', ← bigSep_sep', ← bigSep_sep']
    exact bigSep_mono fun c _ => core_holds m ρ c) $$ Hc
  icases H with ⟨H1, HO, HC, HB⟩
  ihave Hu' := (show (ownU u₀ : sProp 𝕄) ⊢ iprop(BI.own (EP (initOf ∅ ∅)) ∗ BI.own (EX (initOf cells tokens))) from ownU_pair _ _) $$ Hu
  icases Hu' with ⟨-, HX⟩
  imod (deal m) $$ [HO HC HB HX] with H2
  · isplitl [HO]; · iexact HO
    isplitl [HC]; · iexact HC
    isplitl [HB] <;> iassumption
  imodintro
  iexists ()
  isplitl
  · iapply (show iprop((bigSep Finset.univ fun c : Dev nD => iprop(scopedBufs (c : Thread nD τ) ∗ idle c ∗ owes (c : Thread nD τ) (dues c) ∅))
        ∗ bigSep Finset.univ fun c : Dev nD => iprop(start m c ∗ keeps m c)) ⊢ (bigSep Finset.univ (from₀ m) : sProp 𝕄) from by
      rw [← bigSep_sep']
      exact bigSep_mono fun c _ => from_of m c)
    isplitl [H1] <;> iassumption
  · iempintro

theorem nothing {X : sProp 𝕄} (h : X = BI.emp) : (BI.emp : sProp 𝕄) ⊢ X := Entails.of_eq h.symm

/-- A core's run of the call. -/
theorem core_run (c : Dev nD) :
    from₀ m c ⊢ wp frame (wpE (Pipeline.defs (pcfgs (F := F)) defs₀) (Variants.lift 𝒱₀) (c : Thread nD τ) none) Set.univ (main (F := F) c)
      (fun _ => post (liftTc (left m) BI.emp) (c : Thread nD τ)) := by
  rw [show main (F := F) c = .op (.customCall (Pipeline.entry 0) ()) fun _ => .ret ⟨⟩ from rfl]
  unfold from₀
  iintro ⟨HS, HI, HL, HT, HK⟩
  have hin : iprop(start m c ∗ Pipeline.prefHeld (pcfgs (F := F) 0).pre c (fun _ => fullShare.right) ((cfgs 0).toPCfg_adm (Val := Elt F)).1 ∗ Pipeline.scopedRest cfg0.spec c)
      ⊢ (dats m 0 c).Φ 0 := sep_elim_left
  have hout : iprop((dats m 0 c).Φ (Fin.last cfg0.N) ∗ Pipeline.cellsSems0 cfgs 0 c ∗ Dat.staging cfg0 c ∗ idle c)
      ⊢ iprop(results m c ∗ scopedSems0 (c : Thread nD τ) ∗ scopedBufs (c : Thread nD τ)) := call_out m c
  have hcall := Pipeline.wp_customCall_entry_frame (pcfgs (F := F)) (fun p => (cfgs p).toPCfg_adm) (dats m) () EP (fun _ => 0) cellOf_inj 0 (defs₀ (F := F)) 𝒱₀
      (fun _ => fullShare.right) c Set.univ (fun _ _ => Set.mem_univ _) (body_obligation m c).loose block_pos0 none (fun u h => nomatch h)
      (X := start m c) (Y := results m c) (R := Pipeline.scopedRest cfg0.spec c) (I := idle c)
      (Entails.of_eq (Pipeline.scopedBufs_split cfgs 0 winFacts0.stage_scoped winFacts0.stage_inj stage_whole0 c))
      hin hout (α := PUnit) (k := fun _ => .ret PUnit.unit) (Q := fun _ => post (liftTc (left m) BI.emp) (c : Thread nD τ))
  iapply hcall $$ [HS HI HL HT]
  · isplitl [HL]
    · unfold Pipeline.EntryPre Pipeline.PerCore.EntryPre Dat.owesAt Pipeline.owesWithin
      isplitr; · iapply (nothing (X := (dats m 0 c).arrays fun w => (dats m 0 c).arrAt w 0) (no_windows _)); iempintro
      isplitl [HL]
      · iexists ∅; isplitr; · ipureintro; rw [Finset.coe_empty]; exact Set.empty_subset _
        iexact HL
      isplitr; · iapply (nothing (X := Pipeline.PerCore.cellsWaits (fun _ : Dev nD => Pipeline.pin (pcfgs (F := F)) fun p => (cfgs p).toPCfg_adm) (dats m) () 0 c) (no_windows _)); iempintro
      isplitr; · iapply (nothing (X := Pipeline.PerCore.cellsInit (fun _ : Dev nD => Pipeline.pin (pcfgs (F := F)) fun p => (cfgs p).toPCfg_adm) (dats m) EP (fun _ => 0) 0 c) (no_windows _)); iempintro
      iapply (nothing (X := Pipeline.PerCore.toksInit (fun _ : Dev nD => Pipeline.pin (pcfgs (F := F)) fun p => (cfgs p).toPCfg_adm) EP 0 c) (no_windows _)); iempintro
    isplitr; · iapply (nothing (X := Pipeline.prefHeld (pcfgs (F := F) 0).pre c (fun _ => fullShare.right) ((cfgs 0).toPCfg_adm (Val := Elt F)).1) (no_windows _)); iempintro
    isplitl [HT]; · iexact HT
    isplitl [HI] <;> iassumption
  iintro ⟨HP, HY, HZ, -⟩
  rw [wp_ret]; imodintro
  unfold post; simp only [liftTc_tc]
  unfold left Pipeline.EntryPost Pipeline.PerCore.EntryPost Dat.owesAt Pipeline.owesWithin
  icases HP with ⟨-, ⟨%W, -, HW⟩⟩
  isplitr [HW]
  · isplitl [HY HK]; · isplitl [HY] <;> iassumption
    iexact HZ
  · iexists W; iexact HW

/-- The whole program's run: the arrays are as they were, every result holds what its mate gave, and
every semaphore is back at nought. -/
theorem run_main (ρ : Dev nD → PrngReg) :
    θ_run (defs (F := F)) (onTc (main (F := F))) ⟨m, fun _ => 0, ρ⟩ (fun r => (∀ c, Reads m c r.2) ∧ r.2.sem = fun _ => 0) := by
  refine (θ_run (defs (F := F)) _ _).mono (Q := fun r => (∀ c : Dev nD, Reads m c r.2 ∧ ∀ sm : SemLoc sig, sm.isScoped .tc = true → r.2.sem ((c : Thread nD τ), sm) = 0)
      ∧ ∀ g' : GSem nD τ sig, g'.1.2 ≠ .tc → r.2.sem g' = 0)
    (fun r hr => ⟨fun c => (hr.1 c).1, sem_eq_zero_of_scoped (by decide) (sems_of_reads (fun c => (hr.1 c).2) hr.2)⟩)
    (adequate_tpu (defs (F := F)) _ _ _ (reflect_intro_fupd_tc_sems (X := Unit) (Variants.lift 𝒱₀) (Pipeline.owing dues) 0 (noBookings fun _ => le_rfl)
      (Pipeline.owing_of_ne dues) u₀ (fun _ => from₀ m) (fun _ => left m) (fun _ => iprop(emp)) Set.univ (launched m ρ) (fun _ c => core_run m c) fun _ => ?_))
  have hcore (c : Dev nD) (s' : Phys nD τ sig (Elt F)) : iprop(left m c ∗ SI s') ⊢ |={Set.univ}=>
      iprop(⌜Reads m c s'.mem ∧ ∀ sm : SemLoc sig, sm.isScoped .tc = true → s'.mem.sem ((c : Thread nD τ), sm) = 0⌝ ∗ SI s') := by
    unfold left
    iintro ⟨⟨HR, HZ⟩, HSI⟩
    ihave %hz := (tcScoped_read_pers c s') $$ [HZ HSI]
    · isplitl [HZ] <;> iassumption
    ihave H := (read_results m c s') $$ [HR HSI]
    · isplitl [HR] <;> iassumption
    icases H with ⟨%h, HSI⟩
    imodintro
    isplitr
    · ipureintro; exact ⟨h, hz⟩
    · iexact HSI
  iintro ⟨H, -, Hsc⟩ %s' HSI
  ihave %hsc := (scSems_read_zero m ρ s') $$ [Hsc HSI]
  · isplitl [Hsc] <;> iassumption
  imod (posts_fupd Finset.univ hcore s') $$ [H HSI] with %h
  · isplitl [H] <;> iassumption
  imodintro
  ipureintro
  exact ⟨fun c => h c (Finset.mem_univ c), hsc⟩

end Cert.PxProof
-- ==== Proof.PxClaim.lean ====
module

public import proofs.«01_k».proof.Defs
public import proofs.«01_k».proof.Proof.PxKernel
public import Idealize.ShloMosaic.Lib.Pointwise

/-!
# The claims about the exchange of halves
-/

@[expose] public section

noncomputable section

namespace Cert.PxClaim

open Idealize.ShloMosaic Idealize.ShloMosaic.TcCoe Idealize.ShloMosaic.Tactic Idealize.SL.Sem
open Cert.PxSwapIdeal Cert.PxHalvesIdeal.Read Cert.PxProof

/-! ## The frames -/

/-- The frame's statement of the idealized program's text, over any values. -/
def Runs (F : FTy → Type) [FloatOps F] : Prop :=
  ∀ (m : (ℓ : Loc nD τ sig) → Buf (Elt F) ℓ) (g : Dev nD → PrngReg),
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

/-- The same statement of the compiled program's text, over any values. -/
def Runs' (F : FTy → Type) [FloatOps F] : Prop :=
  ∀ (m : (ℓ : Loc PxSwap.nD PxSwap.τ PxSwap.sig) → Buf (Elt F) ℓ) (g : Dev PxSwap.nD → PrngReg),
    θ_run (PxSwap.defs (F := F)) (onTc (τ := PxSwap.τ) (PxSwap.main (F := F))) ⟨m, fun _ => 0, g⟩ (fun r => (∀ c : Dev PxSwap.nD,
      r.2.mem ((c.tc : Thread PxSwap.nD PxSwap.τ).loc PxSwap.main_arg0) = m ((c.tc : Thread PxSwap.nD PxSwap.τ).loc PxSwap.main_arg0)
      ∧ r.2.mem ((c.tc : Thread PxSwap.nD PxSwap.τ).loc PxSwap.main_arg1) = m ((c.tc : Thread PxSwap.nD PxSwap.τ).loc PxSwap.main_arg1)
      ∧ r.2.mem ((c.tc : Thread PxSwap.nD PxSwap.τ).loc PxSwap.main_arg2) = m ((c.tc : Thread PxSwap.nD PxSwap.τ).loc PxSwap.main_arg2))
      ∧ r.2.sem = fun _ => 0)

set_option maxHeartbeats 4000000 in
theorem same (F : FTy → Type) [FloatOps F] : Runs F = Runs' F := by
  sl_kernel_rfl

theorem runs (F : FTy → Type) [FloatOps F] : Runs F := fun m ρ =>
  (θ_run (defs (F := F)) _ _).mono (fun r h => ⟨fun c => ⟨(h.1 c).1 0, (h.1 c).1 1, (h.1 c).1 2⟩, h.2⟩) (run_main m ρ)

theorem bits : Cert.quiescent_PxSwap (hPxSwap := PxSwap.Gen.facts) := fun m g _ => (same Bits ▸ runs Bits : Runs' Bits) m g

theorem ideal : Cert.quiescent_PxSwapIdeal (hPxSwapIdeal := PxSwapIdeal.Gen.facts) := fun m g _ => runs Ideal m g

theorem reference : Cert.quiescent_PxHalvesIdeal (hPxHalvesIdeal := PxHalvesIdeal.Gen.facts) := fun m ρ _ =>
  (θ_run PxHalvesIdeal.defs _ _).mono (fun r h => ⟨fun c => (h c).2.2.2, sem_eq_zero_of_no_sems (by decide) r.2⟩)
    (PxHalvesIdeal.Value.run (F := Ideal) m ρ)

/-! ## The values -/

/-- What the reference holds for core c: the other core's half of the other core's rows. -/
theorem out_is (X : PxHalvesIdeal.S8x4x704x1024.Idx → EReal) (c : Fin 8) (e : Fin 4) (r : Fin 352) (j : Fin 1024) :
    val_main_v8 (F := Ideal) X (ix4 c e r j)
      = X (ix4 ⟨(4 * (c.val / 4) + 2 * ((c.val / 2) % 2) + 1) - (c.val % 2), by omega⟩ e ⟨352 * (c.val % 2) + r.val, by omega⟩ j) := by
  pointwise [val_main_v8, val_main_v7, val_main_v6, val_main_v5, val_main_v4, val_main_v3, val_main_v2, val_main_v1, val_main_v0]
  split <;> refine congrArg X ((ix4_inj _ _ _ _ _ _ _ _).mpr ⟨Fin.ext ?_, rfl, Fin.ext ?_, rfl⟩) <;> (dsimp only; omega)

/-- Core c's block of an array, and of the reference's result. -/
abbrev part (X : PxHalvesIdeal.S8x4x704x1024.Idx → EReal) (c : Dev nD) : S1x4x704x1024.Idx → EReal :=
  Layout.block ⟨4, ![1, 4, 704, 1024]⟩ ⟨4, ![8, 4, 704, 1024]⟩ 0 8 c X
abbrev halfPart (X : PxHalvesIdeal.S8x4x704x1024.Idx → EReal) (c : Dev nD) : S1x4x352x1024.Idx → EReal :=
  Layout.block ⟨4, ![1, 4, 352, 1024]⟩ ⟨4, ![8, 4, 352, 1024]⟩ 0 8 c (val_main_v8 (F := Ideal) X)

/-- What reaches core c from the array of its mate is the reference's block. -/
theorem moved_is (X : PxHalvesIdeal.S8x4x704x1024.Idx → EReal) (c : Dev nD) :
    (fun i : S1x4x352x1024.Idx => part X (mate c)
      ((Rect.unit (s := S1x4x704x1024) (k0_off1 (mate c)) S1x4x352x1024.size (PxSwapIdeal.Gen.k0_off1_inb (mate c))).emb i))
      = halfPart X c := by
  funext i
  have hc : c.val < 8 := c.isLt
  have hm : (mate c).val = (4 * (c.val / 4) + 2 * ((c.val / 2) % 2) + 1) - c.val % 2 := PxSwapIdeal.Gen.k0_dev1_eq c
  have ho := PxSwapIdeal.Gen.k0_off1_eq (mate c)
  idx_vars i
  obtain rfl := Subsingleton.elim i0 0
  simp only [Layout.block_apply]
  rw [show Layout.Tiles.idx (S := ⟨4, ![1, 4, 352, 1024]⟩) (T := ⟨4, ![8, 4, 352, 1024]⟩) (a := 0) (k := 8) (by decide) c (ix4 0 i1 i2 i3)
      = ix4 (⟨c.val, hc⟩ : Fin 8) i1 i2 i3 from by
    funext a
    match a with
    | ⟨0, _⟩ => exact Fin.ext (by show c.val * 1 + 0 = c.val; omega)
    | ⟨1, _⟩ => rfl
    | ⟨2, _⟩ => rfl
    | ⟨3, _⟩ => rfl, out_is]
  refine congrArg X (funext fun a => ?_)
  match a with
  | ⟨0, _⟩ => exact Fin.ext (by
      show (mate c).val * 1 + (k0_off1 (mate c) 0 + 1 * 0) = _
      rw [ho]; show (mate c).val * 1 + (0 + 1 * 0) = (4 * (c.val / 4) + 2 * ((c.val / 2) % 2) + 1) - c.val % 2; omega)
  | ⟨1, _⟩ => exact Fin.ext (by
      show k0_off1 (mate c) 1 + 1 * i1.val = i1.val
      rw [ho]; show 0 + 1 * i1.val = i1.val; omega)
  | ⟨2, _⟩ => exact Fin.ext (by
      show k0_off1 (mate c) 2 + 1 * i2.val = 352 * (c.val % 2) + i2.val
      rw [ho]; show 352 - 352 * ((mate c).val % 2) + 1 * i2.val = 352 * (c.val % 2) + i2.val; omega)
  | ⟨3, _⟩ => exact Fin.ext (by
      show k0_off1 (mate c) 3 + 1 * i3.val = i3.val
      rw [ho]; show 0 + 1 * i3.val = i3.val; omega)

variable (m : (ℓ : Loc nD τ sig) → Buf (Elt Ideal) ℓ)

theorem landed0 (X : PxHalvesIdeal.S8x4x704x1024.Idx → EReal) (c : Dev nD)
    (h : m ((mate c : Thread nD τ).loc main_arg0) = part X (mate c)) :
    landed m 0 c = halfPart X c :=
  (View.write_whole_univ main_v1_0 _ _).trans (Eq.trans (congrArg ((half 0 (mate c)).view.read (Elt Ideal)) h) (moved_is X c))
theorem landed1 (X : PxHalvesIdeal.S8x4x704x1024.Idx → EReal) (c : Dev nD)
    (h : m ((mate c : Thread nD τ).loc main_arg1) = part X (mate c)) :
    landed m 1 c = halfPart X c :=
  (View.write_whole_univ main_v1_1 _ _).trans (Eq.trans (congrArg ((half 1 (mate c)).view.read (Elt Ideal)) h) (moved_is X c))
theorem landed2 (X : PxHalvesIdeal.S8x4x704x1024.Idx → EReal) (c : Dev nD)
    (h : m ((mate c : Thread nD τ).loc main_arg2) = part X (mate c)) :
    landed m 2 c = halfPart X c :=
  (View.write_whole_univ main_v1_2 _ _).trans (Eq.trans (congrArg ((half 2 (mate c)).view.read (Elt Ideal)) h) (moved_is X c))

theorem equal : Cert.algebraic_PxSwapIdeal_PxHalvesIdeal (hPxSwapIdeal := PxSwapIdeal.Gen.facts) (hPxHalvesIdeal := PxHalvesIdeal.Gen.facts) := by
  intro m ρ m' ρ' _ hagree
  refine ⟨val_main_v8 (F := Ideal) (m' (((0 : Dev PxHalvesIdeal.nD).tc : Thread PxHalvesIdeal.nD PxHalvesIdeal.τ).loc PxHalvesIdeal.main_arg0)),
    val_main_v8 (F := Ideal) (m' (((0 : Dev PxHalvesIdeal.nD).tc : Thread PxHalvesIdeal.nD PxHalvesIdeal.τ).loc PxHalvesIdeal.main_arg1)),
    val_main_v8 (F := Ideal) (m' (((0 : Dev PxHalvesIdeal.nD).tc : Thread PxHalvesIdeal.nD PxHalvesIdeal.τ).loc PxHalvesIdeal.main_arg2)), ?_, ?_⟩
  · refine (θ_run (defs (F := Ideal)) _ _).mono (fun r h c => ?_) (run_main (F := Ideal) m ρ)
    obtain ⟨a, o⟩ := h.1 c
    obtain ⟨h0, h1, h2⟩ := hagree (mate c)
    exact ⟨(o 0).trans (landed0 m _ c h0), (o 1).trans (landed1 m _ c h1), (o 2).trans (landed2 m _ c h2), a 0, a 1, a 2⟩
  · exact (θ_run PxHalvesIdeal.defs _ _).mono (fun r h => ⟨(h 0).1, (h 0).2.1, (h 0).2.2.1, (h 0).2.2.2⟩) (PxHalvesIdeal.Value.run (F := Ideal) m' ρ')

end Cert.PxClaim

end
end
-- ==== Proof.lean ====
module

public import proofs.«01_k».proof.Defs
public import proofs.«01_k».proof.Proof.NormClaim
public import proofs.«01_k».proof.Proof.SbFrames
public import proofs.«01_k».proof.Proof.SbClaim
public import proofs.«01_k».proof.Proof.AaClaim
public import proofs.«01_k».proof.Proof.BvClaim
public import proofs.«01_k».proof.Proof.LhClaim
public import proofs.«01_k».proof.Proof.FbClaim
public import proofs.«01_k».proof.Proof.QxClaim
public import proofs.«01_k».proof.Proof.FxClaim
public import proofs.«01_k».proof.Proof.SfFrames
public import proofs.«01_k».proof.Proof.SfClaim
public import proofs.«01_k».proof.Proof.AfClaim
public import proofs.«01_k».proof.Proof.MlClaim
public import proofs.«01_k».proof.Proof.FuClaim
public import proofs.«01_k».proof.Proof.BwClaim
public import proofs.«01_k».proof.Proof.PxClaim

@[expose] public section

noncomputable section

namespace Cert.Proof

open Idealize.ShloMosaic Idealize.SL.Sem

theorem claim : Cert.Claim :=
  ⟨Cert.LnBwd.Gen.facts, Cert.LnBwdIdeal.Gen.facts, Cert.LnGradIdeal.Gen.facts,
    Cert.SbBwd.Gen.facts, Cert.SbBwdIdeal.Gen.facts, Cert.SbGradIdeal.Gen.facts,
    Cert.AaBwd.Gen.facts, Cert.AaBwdIdeal.Gen.facts, Cert.AaGradIdeal.Gen.facts,
    Cert.FxBwd.Gen.facts, Cert.FxBwdIdeal.Gen.facts, Cert.FxGradIdeal.Gen.facts,
    Cert.QxBwd.Gen.facts, Cert.QxBwdIdeal.Gen.facts, Cert.QxGradIdeal.Gen.facts,
    Cert.FbBwd.Gen.facts, Cert.FbBwdIdeal.Gen.facts, Cert.FbGradIdeal.Gen.facts,
    Cert.LhBwd.Gen.facts, Cert.LhBwdIdeal.Gen.facts, Cert.LhGradIdeal.Gen.facts,
    Cert.BvBwd.Gen.facts, Cert.BvBwdIdeal.Gen.facts, Cert.BvGradIdeal.Gen.facts,
    Cert.AfFwd.Gen.facts, Cert.AfFwdIdeal.Gen.facts, Cert.AfFormIdeal.Gen.facts,
    Cert.SfFwd.Gen.facts, Cert.SfFwdIdeal.Gen.facts, Cert.SfFormIdeal.Gen.facts,
    Cert.MlFwd.Gen.facts, Cert.MlFwdIdeal.Gen.facts, Cert.MlFormIdeal.Gen.facts,
    Cert.FuFwd.Gen.facts, Cert.FuFwdIdeal.Gen.facts, Cert.FuFormIdeal.Gen.facts,
    Cert.BwFwd.Gen.facts, Cert.BwFwdIdeal.Gen.facts, Cert.BwFormIdeal.Gen.facts,
    Cert.PxSwap.Gen.facts, Cert.PxSwapIdeal.Gen.facts, Cert.PxHalvesIdeal.Gen.facts,
    Cert.Pre_ln_finite.Gen.facts, Cert.Pre_sb_finite.Gen.facts, Cert.Pre_aa_finite.Gen.facts, Cert.Pre_fx_finite.Gen.facts, Cert.Pre_qx_finite.Gen.facts, Cert.Pre_fb_finite.Gen.facts, Cert.Pre_af_finite.Gen.facts, Cert.Pre_sf_finite.Gen.facts,
    fun m ρ _ => Cert.LnBwd.Gen.frame m ρ,
    fun m ρ _ => Cert.LnBwdIdeal.Gen.frame m ρ,
    fun m ρ _ => Cert.LnBwdIdeal.Gen.frame m ρ,
    Cert.NormClaim.frame_reference,
    fun m ρ _ => Cert.NormClaim.frame_reference m ρ trivial,
    Cert.SbFrames.bits, Cert.SbFrames.ideal, fun m ρ _ => Cert.SbFrames.ideal m ρ trivial,
    Cert.SbFrames.reference, fun m ρ _ => Cert.SbFrames.reference m ρ trivial,
    fun m ρ _ => Cert.AaBwd.Gen.frame m ρ,
    fun m ρ _ => Cert.AaBwdIdeal.Gen.frame m ρ,
    fun m ρ _ => Cert.AaBwdIdeal.Gen.frame m ρ,
    Cert.AaClaim.frame_reference,
    fun m ρ _ => Cert.AaClaim.frame_reference m ρ trivial,
    fun m ρ _ => Cert.FxBwd.Gen.frame m ρ,
    fun m ρ _ => Cert.FxBwdIdeal.Gen.frame m ρ,
    fun m ρ _ => Cert.FxBwdIdeal.Gen.frame m ρ,
    Cert.FxClaim.frame_reference,
    fun m ρ _ => Cert.FxClaim.frame_reference m ρ trivial,
    fun m ρ _ => Cert.QxBwd.Gen.frame m ρ,
    fun m ρ _ => Cert.QxBwdIdeal.Gen.frame m ρ,
    fun m ρ _ => Cert.QxBwdIdeal.Gen.frame m ρ,
    Cert.QxClaim.frame_reference,
    fun m ρ _ => Cert.QxClaim.frame_reference m ρ trivial,
    fun m ρ _ => Cert.FbBwd.Gen.frame m ρ,
    fun m ρ _ => Cert.FbBwdIdeal.Gen.frame m ρ,
    fun m ρ _ => Cert.FbBwdIdeal.Gen.frame m ρ,
    Cert.FbClaim.frame_reference,
    fun m ρ _ => Cert.FbClaim.frame_reference m ρ trivial,
    fun m ρ _ => Cert.LhBwd.Gen.frame m ρ,
    fun m ρ _ => Cert.LhBwdIdeal.Gen.frame m ρ,
    Cert.LhClaim.frame_reference,
    fun m ρ _ => Cert.BvBwd.Gen.frame m ρ,
    fun m ρ _ => Cert.BvBwdIdeal.Gen.frame m ρ,
    Cert.BvClaim.frame_reference,
    fun m ρ _ => Cert.AfFwd.Gen.frame m ρ,
    fun m ρ _ => Cert.AfFwdIdeal.Gen.frame m ρ,
    fun m ρ _ => Cert.AfFwdIdeal.Gen.frame m ρ,
    Cert.AfClaim.frame_reference,
    fun m ρ _ => Cert.AfClaim.frame_reference m ρ trivial,
    Cert.SfFrames.bits, Cert.SfFrames.ideal, fun m ρ _ => Cert.SfFrames.ideal m ρ trivial,
    Cert.SfFrames.reference, fun m ρ _ => Cert.SfFrames.reference m ρ trivial,
    fun m ρ _ => Cert.MlFwd.Gen.frame m ρ,
    fun m ρ _ => Cert.MlFwdIdeal.Gen.frame m ρ,
    Cert.MlClaim.frame_reference,
    fun m ρ _ => Cert.FuFwd.Gen.frame m ρ,
    fun m ρ _ => Cert.FuFwdIdeal.Gen.frame m ρ,
    Cert.FuClaim.frame_reference,
    fun m ρ _ => Cert.BwFwd.Gen.frame m ρ,
    fun m ρ _ => Cert.BwFwdIdeal.Gen.frame m ρ,
    Cert.BwClaim.frame_reference,
    Cert.PxClaim.bits, Cert.PxClaim.ideal, Cert.PxClaim.reference,
    trivial,
    Cert.NormClaim.equal,
    trivial,
    Cert.SbClaim.equal,
    Cert.AaClaim.mask,
    Cert.AaClaim.equal,
    trivial,
    Cert.FxClaim.equal,
    trivial,
    Cert.QxClaim.equal,
    trivial,
    Cert.FbClaim.equal,
    trivial,
    Cert.LhClaim.equal,
    trivial,
    Cert.BvClaim.equal,
    Cert.AfClaim.mask,
    Cert.AfClaim.equal,
    trivial,
    Cert.SfClaim.equal,
    trivial,
    Cert.MlClaim.equal,
    trivial,
    Cert.FuClaim.equal,
    trivial,
    Cert.BwClaim.equal,
    trivial,
    Cert.PxClaim.equal⟩

end Cert.Proof

end
